-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_finite_loss [hPre_finite_loss : Cert.Pre_finite_loss.Facts] (m : (ℓ : Loc Cert.LossKIdeal.nD Cert.LossKIdeal.τ Cert.LossKIdeal.sig) → Buf (Elt Ideal) ℓ) : Prop :=
  ∀ c : Dev Cert.LossKIdeal.nD,
    (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))) = (fun _ => 1#1)

def Pre_LossRIdeal (m : (ℓ : Loc Cert.LossRIdeal.nD Cert.LossRIdeal.τ Cert.LossRIdeal.sig) → Buf (Elt Ideal) ℓ) : Prop :=
  True

def Pre_LossRIdeal_finite_loss [hPre_finite_loss : Cert.Pre_finite_loss.Facts] (m : (ℓ : Loc Cert.LossRIdeal.nD Cert.LossRIdeal.τ Cert.LossRIdeal.sig) → Buf (Elt Ideal) ℓ) : Prop :=
  ∀ c : Dev Cert.LossRIdeal.nD,
    (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))) = (fun _ => 1#1)

def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnKIdeal_finite_ffn [hPre_finite_ffn : Cert.Pre_finite_ffn.Facts] (m : (ℓ : Loc Cert.FfnKIdeal.nD Cert.FfnKIdeal.τ Cert.FfnKIdeal.sig) → Buf (Elt Ideal) ℓ) : Prop :=
  ∀ c : Dev Cert.FfnKIdeal.nD,
    (Cert.Pre_finite_ffn.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4)) (m ((c.tc : Thread Cert.FfnKIdeal.nD Cert.FfnKIdeal.τ).loc Cert.FfnKIdeal.main_arg5))) = (fun _ => 1#1)

def Pre_FfnRIdeal (m : (ℓ : Loc Cert.FfnRIdeal.nD Cert.FfnRIdeal.τ Cert.FfnRIdeal.sig) → Buf (Elt Ideal) ℓ) : Prop :=
  True

def Pre_FfnRIdeal_finite_ffn [hPre_finite_ffn : Cert.Pre_finite_ffn.Facts] (m : (ℓ : Loc Cert.FfnRIdeal.nD Cert.FfnRIdeal.τ Cert.FfnRIdeal.sig) → Buf (Elt Ideal) ℓ) : Prop :=
  ∀ c : Dev Cert.FfnRIdeal.nD,
    (Cert.Pre_finite_ffn.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4)) (m ((c.tc : Thread Cert.FfnRIdeal.nD Cert.FfnRIdeal.τ).loc Cert.FfnRIdeal.main_arg5))) = (fun _ => 1#1)

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixKIdeal_finite_mixer [hPre_finite_mixer : Cert.Pre_finite_mixer.Facts] (m : (ℓ : Loc Cert.MixKIdeal.nD Cert.MixKIdeal.τ Cert.MixKIdeal.sig) → Buf (Elt Ideal) ℓ) : Prop :=
  ∀ c : Dev Cert.MixKIdeal.nD,
    (Cert.Pre_finite_mixer.fn (F := Ideal) (m ((c.tc : Thread Cert.MixKIdeal.nD Cert.MixKIdeal.τ).loc Cert.MixKIdeal.main_arg0)) (m ((c.tc : Thread Cert.MixKIdeal.nD Cert.MixKIdeal.τ).loc Cert.MixKIdeal.main_arg1)) (m ((c.tc : Thread Cert.MixKIdeal.nD Cert.MixKIdeal.τ).loc Cert.MixKIdeal.main_arg2)) (m ((c.tc : Thread Cert.MixKIdeal.nD Cert.MixKIdeal.τ).loc Cert.MixKIdeal.main_arg3)) (m ((c.tc : Thread Cert.MixKIdeal.nD Cert.MixKIdeal.τ).loc Cert.MixKIdeal.main_arg4)) (m ((c.tc : Thread Cert.MixKIdeal.nD Cert.MixKIdeal.τ).loc Cert.MixKIdeal.main_arg5)) (m ((c.tc : Thread Cert.MixKIdeal.nD Cert.MixKIdeal.τ).loc Cert.MixKIdeal.main_arg6)) (m ((c.tc : Thread Cert.MixKIdeal.nD Cert.MixKIdeal.τ).loc Cert.MixKIdeal.main_arg7))) = (fun _ => 1#1)

def Pre_MixRIdeal (m : (ℓ : Loc Cert.MixRIdeal.nD Cert.MixRIdeal.τ Cert.MixRIdeal.sig) → Buf (Elt Ideal) ℓ) : Prop :=
  True

def Pre_MixRIdeal_finite_mixer [hPre_finite_mixer : Cert.Pre_finite_mixer.Facts] (m : (ℓ : Loc Cert.MixRIdeal.nD Cert.MixRIdeal.τ Cert.MixRIdeal.sig) → Buf (Elt Ideal) ℓ) : Prop :=
  ∀ c : Dev Cert.MixRIdeal.nD,
    (Cert.Pre_finite_mixer.fn (F := Ideal) (m ((c.tc : Thread Cert.MixRIdeal.nD Cert.MixRIdeal.τ).loc Cert.MixRIdeal.main_arg0)) (m ((c.tc : Thread Cert.MixRIdeal.nD Cert.MixRIdeal.τ).loc Cert.MixRIdeal.main_arg1)) (m ((c.tc : Thread Cert.MixRIdeal.nD Cert.MixRIdeal.τ).loc Cert.MixRIdeal.main_arg2)) (m ((c.tc : Thread Cert.MixRIdeal.nD Cert.MixRIdeal.τ).loc Cert.MixRIdeal.main_arg3)) (m ((c.tc : Thread Cert.MixRIdeal.nD Cert.MixRIdeal.τ).loc Cert.MixRIdeal.main_arg4)) (m ((c.tc : Thread Cert.MixRIdeal.nD Cert.MixRIdeal.τ).loc Cert.MixRIdeal.main_arg5)) (m ((c.tc : Thread Cert.MixRIdeal.nD Cert.MixRIdeal.τ).loc Cert.MixRIdeal.main_arg6)) (m ((c.tc : Thread Cert.MixRIdeal.nD Cert.MixRIdeal.τ).loc Cert.MixRIdeal.main_arg7))) = (fun _ => 1#1)

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpKIdeal_finite_up [hPre_finite_up : Cert.Pre_finite_up.Facts] (m : (ℓ : Loc Cert.UpKIdeal.nD Cert.UpKIdeal.τ Cert.UpKIdeal.sig) → Buf (Elt Ideal) ℓ) : Prop :=
  ∀ c : Dev Cert.UpKIdeal.nD,
    (Cert.Pre_finite_up.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3))) = (fun _ => 1#1)

def Pre_UpRIdeal (m : (ℓ : Loc Cert.UpRIdeal.nD Cert.UpRIdeal.τ Cert.UpRIdeal.sig) → Buf (Elt Ideal) ℓ) : Prop :=
  True

def Pre_UpRIdeal_finite_up [hPre_finite_up : Cert.Pre_finite_up.Facts] (m : (ℓ : Loc Cert.UpRIdeal.nD Cert.UpRIdeal.τ Cert.UpRIdeal.sig) → Buf (Elt Ideal) ℓ) : Prop :=
  ∀ c : Dev Cert.UpRIdeal.nD,
    (Cert.Pre_finite_up.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3))) = (fun _ => 1#1)

def Pre_FwdK (m : (ℓ : Loc Cert.FwdK.nD Cert.FwdK.τ Cert.FwdK.sig) → Buf (Elt Bits) ℓ) : Prop :=
  True

def Pre_FwdKIdeal (m : (ℓ : Loc Cert.FwdKIdeal.nD Cert.FwdKIdeal.τ Cert.FwdKIdeal.sig) → Buf (Elt Ideal) ℓ) : Prop :=
  True

def Pre_FwdKIdeal_finite_mixed [hPre_finite_mixed : Cert.Pre_finite_mixed.Facts] (m : (ℓ : Loc Cert.FwdKIdeal.nD Cert.FwdKIdeal.τ Cert.FwdKIdeal.sig) → Buf (Elt Ideal) ℓ) : Prop :=
  ∀ c : Dev Cert.FwdKIdeal.nD,
    (Cert.Pre_finite_mixed.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2)) (m ((c.tc : Thread Cert.FwdKIdeal.nD Cert.FwdKIdeal.τ).loc Cert.FwdKIdeal.main_arg3)) (m ((c.tc : Thread Cert.FwdKIdeal.nD Cert.FwdKIdeal.τ).loc Cert.FwdKIdeal.main_arg4)) (m ((c.tc : Thread Cert.FwdKIdeal.nD Cert.FwdKIdeal.τ).loc Cert.FwdKIdeal.main_arg5)) (m ((c.tc : Thread Cert.FwdKIdeal.nD Cert.FwdKIdeal.τ).loc Cert.FwdKIdeal.main_arg6))) = (fun _ => 1#1)

def Pre_FwdRIdeal (m : (ℓ : Loc Cert.FwdRIdeal.nD Cert.FwdRIdeal.τ Cert.FwdRIdeal.sig) → Buf (Elt Ideal) ℓ) : Prop :=
  True

def Pre_FwdRIdeal_finite_mixed [hPre_finite_mixed : Cert.Pre_finite_mixed.Facts] (m : (ℓ : Loc Cert.FwdRIdeal.nD Cert.FwdRIdeal.τ Cert.FwdRIdeal.sig) → Buf (Elt Ideal) ℓ) : Prop :=
  ∀ c : Dev Cert.FwdRIdeal.nD,
    (Cert.Pre_finite_mixed.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2)) (m ((c.tc : Thread Cert.FwdRIdeal.nD Cert.FwdRIdeal.τ).loc Cert.FwdRIdeal.main_arg3)) (m ((c.tc : Thread Cert.FwdRIdeal.nD Cert.FwdRIdeal.τ).loc Cert.FwdRIdeal.main_arg4)) (m ((c.tc : Thread Cert.FwdRIdeal.nD Cert.FwdRIdeal.τ).loc Cert.FwdRIdeal.main_arg5)) (m ((c.tc : Thread Cert.FwdRIdeal.nD Cert.FwdRIdeal.τ).loc Cert.FwdRIdeal.main_arg6))) = (fun _ => 1#1)

def Pre_SwapK (m : (ℓ : Loc Cert.SwapK.nD Cert.SwapK.τ Cert.SwapK.sig) → Buf (Elt Bits) ℓ) : Prop :=
  True

def Pre_SwapR (m : (ℓ : Loc Cert.SwapR.nD Cert.SwapR.τ Cert.SwapR.sig) → Buf (Elt Bits) ℓ) : Prop :=
  True

def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def Pre_TurnedK (m : (ℓ : Loc Cert.TurnedK.nD Cert.TurnedK.τ Cert.TurnedK.sig) → Buf (Elt Bits) ℓ) : Prop :=
  True

def Pre_TurnedKIdeal (m : (ℓ : Loc Cert.TurnedKIdeal.nD Cert.TurnedKIdeal.τ Cert.TurnedKIdeal.sig) → Buf (Elt Ideal) ℓ) : Prop :=
  True

def Pre_TurnedRIdeal (m : (ℓ : Loc Cert.TurnedRIdeal.nD Cert.TurnedRIdeal.τ Cert.TurnedRIdeal.sig) → Buf (Elt Ideal) ℓ) : Prop :=
  True

def Pre_TotalK (m : (ℓ : Loc Cert.TotalK.nD Cert.TotalK.τ Cert.TotalK.sig) → Buf (Elt Bits) ℓ) : Prop :=
  True

def Pre_TotalKIdeal (m : (ℓ : Loc Cert.TotalKIdeal.nD Cert.TotalKIdeal.τ Cert.TotalKIdeal.sig) → Buf (Elt Ideal) ℓ) : Prop :=
  True

def Pre_TotalRIdeal (m : (ℓ : Loc Cert.TotalRIdeal.nD Cert.TotalRIdeal.τ Cert.TotalRIdeal.sig) → Buf (Elt Ideal) ℓ) : Prop :=
  True

def Pre_CastK (m : (ℓ : Loc Cert.CastK.nD Cert.CastK.τ Cert.CastK.sig) → Buf (Elt Bits) ℓ) : Prop :=
  True

def Pre_CastR (m : (ℓ : Loc Cert.CastR.nD Cert.CastR.τ Cert.CastR.sig) → Buf (Elt Bits) ℓ) : Prop :=
  True

def Pre_ChipsK (m : (ℓ : Loc Cert.ChipsK.nD Cert.ChipsK.τ Cert.ChipsK.sig) → Buf (Elt Bits) ℓ) : Prop :=
  True

def Pre_ChipsKIdeal (m : (ℓ : Loc Cert.ChipsKIdeal.nD Cert.ChipsKIdeal.τ Cert.ChipsKIdeal.sig) → Buf (Elt Ideal) ℓ) : Prop :=
  True

def Pre_ChipsRIdeal (m : (ℓ : Loc Cert.ChipsRIdeal.nD Cert.ChipsRIdeal.τ Cert.ChipsRIdeal.sig) → Buf (Elt Ideal) ℓ) : Prop :=
  True

def Pre_GradK (m : (ℓ : Loc Cert.GradK.nD Cert.GradK.τ Cert.GradK.sig) → Buf (Elt Bits) ℓ) : Prop :=
  True

def Pre_GradKIdeal (m : (ℓ : Loc Cert.GradKIdeal.nD Cert.GradKIdeal.τ Cert.GradKIdeal.sig) → Buf (Elt Ideal) ℓ) : Prop :=
  True

def Pre_GradRIdeal (m : (ℓ : Loc Cert.GradRIdeal.nD Cert.GradRIdeal.τ Cert.GradRIdeal.sig) → Buf (Elt Ideal) ℓ) : Prop :=
  True

def Pre_PackK (m : (ℓ : Loc Cert.PackK.nD Cert.PackK.τ Cert.PackK.sig) → Buf (Elt Bits) ℓ) : Prop :=
  True

def Pre_PackR (m : (ℓ : Loc Cert.PackR.nD Cert.PackR.τ Cert.PackR.sig) → Buf (Elt Bits) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4)
      ∧ r.2.mem ((c.tc : Thread Cert.LossK.nD Cert.LossK.τ).loc Cert.LossK.main_arg5) = m ((c.tc : Thread Cert.LossK.nD Cert.LossK.τ).loc Cert.LossK.main_arg5)
      ∧ r.2.mem ((c.tc : Thread Cert.LossK.nD Cert.LossK.τ).loc Cert.LossK.main_arg6) = m ((c.tc : Thread Cert.LossK.nD Cert.LossK.τ).loc Cert.LossK.main_arg6))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
      ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ r.2.sem = fun _ => 0)

def quiescent_LossKIdeal_pre_finite_loss [hLossKIdeal : Cert.LossKIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_finite_loss m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
      ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5)
      ∧ r.2.mem ((c.tc : Thread Cert.LossRIdeal.nD Cert.LossRIdeal.τ).loc Cert.LossRIdeal.main_arg6) = m ((c.tc : Thread Cert.LossRIdeal.nD Cert.LossRIdeal.τ).loc Cert.LossRIdeal.main_arg6))
      ∧ r.2.sem = fun _ => 0)

def quiescent_LossRIdeal_pre_finite_loss [hLossRIdeal : Cert.LossRIdeal.Facts] [hPre_finite_loss : Cert.Pre_finite_loss.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_finite_loss m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5)
      ∧ r.2.mem ((c.tc : Thread Cert.LossRIdeal.nD Cert.LossRIdeal.τ).loc Cert.LossRIdeal.main_arg6) = m ((c.tc : Thread Cert.LossRIdeal.nD Cert.LossRIdeal.τ).loc Cert.LossRIdeal.main_arg6))
      ∧ r.2.sem = fun _ => 0)

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3)
      ∧ r.2.mem ((c.tc : Thread Cert.FfnK.nD Cert.FfnK.τ).loc Cert.FfnK.main_arg4) = m ((c.tc : Thread Cert.FfnK.nD Cert.FfnK.τ).loc Cert.FfnK.main_arg4)
      ∧ r.2.mem ((c.tc : Thread Cert.FfnK.nD Cert.FfnK.τ).loc Cert.FfnK.main_arg5) = m ((c.tc : Thread Cert.FfnK.nD Cert.FfnK.τ).loc Cert.FfnK.main_arg5))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
      ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4)
      ∧ r.2.mem ((c.tc : Thread Cert.FfnKIdeal.nD Cert.FfnKIdeal.τ).loc Cert.FfnKIdeal.main_arg5) = m ((c.tc : Thread Cert.FfnKIdeal.nD Cert.FfnKIdeal.τ).loc Cert.FfnKIdeal.main_arg5))
      ∧ r.2.sem = fun _ => 0)

def quiescent_FfnKIdeal_pre_finite_ffn [hFfnKIdeal : Cert.FfnKIdeal.Facts] [hPre_finite_ffn : Cert.Pre_finite_ffn.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal_finite_ffn m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
      ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4)
      ∧ r.2.mem ((c.tc : Thread Cert.FfnKIdeal.nD Cert.FfnKIdeal.τ).loc Cert.FfnKIdeal.main_arg5) = m ((c.tc : Thread Cert.FfnKIdeal.nD Cert.FfnKIdeal.τ).loc Cert.FfnKIdeal.main_arg5))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4)
      ∧ r.2.mem ((c.tc : Thread Cert.FfnRIdeal.nD Cert.FfnRIdeal.τ).loc Cert.FfnRIdeal.main_arg5) = m ((c.tc : Thread Cert.FfnRIdeal.nD Cert.FfnRIdeal.τ).loc Cert.FfnRIdeal.main_arg5))
      ∧ r.2.sem = fun _ => 0)

def quiescent_FfnRIdeal_pre_finite_ffn [hFfnRIdeal : Cert.FfnRIdeal.Facts] [hPre_finite_ffn : Cert.Pre_finite_ffn.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal_finite_ffn m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4)
      ∧ r.2.mem ((c.tc : Thread Cert.FfnRIdeal.nD Cert.FfnRIdeal.τ).loc Cert.FfnRIdeal.main_arg5) = m ((c.tc : Thread Cert.FfnRIdeal.nD Cert.FfnRIdeal.τ).loc Cert.FfnRIdeal.main_arg5))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1)
      ∧ r.2.mem ((c.tc : Thread Cert.MixK.nD Cert.MixK.τ).loc Cert.MixK.main_arg2) = m ((c.tc : Thread Cert.MixK.nD Cert.MixK.τ).loc Cert.MixK.main_arg2)
      ∧ r.2.mem ((c.tc : Thread Cert.MixK.nD Cert.MixK.τ).loc Cert.MixK.main_arg3) = m ((c.tc : Thread Cert.MixK.nD Cert.MixK.τ).loc Cert.MixK.main_arg3)
      ∧ r.2.mem ((c.tc : Thread Cert.MixK.nD Cert.MixK.τ).loc Cert.MixK.main_arg4) = m ((c.tc : Thread Cert.MixK.nD Cert.MixK.τ).loc Cert.MixK.main_arg4)
      ∧ r.2.mem ((c.tc : Thread Cert.MixK.nD Cert.MixK.τ).loc Cert.MixK.main_arg5) = m ((c.tc : Thread Cert.MixK.nD Cert.MixK.τ).loc Cert.MixK.main_arg5)
      ∧ r.2.mem ((c.tc : Thread Cert.MixK.nD Cert.MixK.τ).loc Cert.MixK.main_arg6) = m ((c.tc : Thread Cert.MixK.nD Cert.MixK.τ).loc Cert.MixK.main_arg6)
      ∧ r.2.mem ((c.tc : Thread Cert.MixK.nD Cert.MixK.τ).loc Cert.MixK.main_arg7) = m ((c.tc : Thread Cert.MixK.nD Cert.MixK.τ).loc Cert.MixK.main_arg7))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ r.2.sem = fun _ => 0)

def quiescent_MixKIdeal_pre_finite_mixer [hMixKIdeal : Cert.MixKIdeal.Facts] [hPre_finite_mixer : Cert.Pre_finite_mixer.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal_finite_mixer m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ r.2.sem = fun _ => 0)

def quiescent_MixRIdeal [hMixRIdeal : Cert.MixRIdeal.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7))
      ∧ r.2.sem = fun _ => 0)

def quiescent_MixRIdeal_pre_finite_mixer [hMixRIdeal : Cert.MixRIdeal.Facts] [hPre_finite_mixer : Cert.Pre_finite_mixer.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal_finite_mixer m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1)
      ∧ r.2.mem ((c.tc : Thread Cert.UpK.nD Cert.UpK.τ).loc Cert.UpK.main_arg2) = m ((c.tc : Thread Cert.UpK.nD Cert.UpK.τ).loc Cert.UpK.main_arg2)
      ∧ r.2.mem ((c.tc : Thread Cert.UpK.nD Cert.UpK.τ).loc Cert.UpK.main_arg3) = m ((c.tc : Thread Cert.UpK.nD Cert.UpK.τ).loc Cert.UpK.main_arg3))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3))
      ∧ r.2.sem = fun _ => 0)

def quiescent_UpKIdeal_pre_finite_up [hUpKIdeal : Cert.UpKIdeal.Facts] [hPre_finite_up : Cert.Pre_finite_up.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal_finite_up m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3))
      ∧ r.2.sem = fun _ => 0)

def quiescent_UpRIdeal_pre_finite_up [hUpRIdeal : Cert.UpRIdeal.Facts] [hPre_finite_up : Cert.Pre_finite_up.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal_finite_up m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3))
      ∧ r.2.sem = fun _ => 0)

def quiescent_FwdK [hFwdK : Cert.FwdK.Facts] : Prop :=
  ∀ (m : (ℓ : Loc Cert.FwdK.nD Cert.FwdK.τ Cert.FwdK.sig) → Buf (Elt Bits) ℓ) (g : Dev Cert.FwdK.nD → PrngReg), Pre_FwdK m →
    θ_run (Cert.FwdK.defs (F := Bits)) (onTc (τ := Cert.FwdK.τ) (Cert.FwdK.main (F := Bits))) ⟨m, fun _ => 0, g⟩ (fun r => (∀ c : Dev Cert.FwdK.nD,
      r.2.mem ((c.tc : Thread Cert.FwdK.nD Cert.FwdK.τ).loc Cert.FwdK.main_arg0) = m ((c.tc : Thread Cert.FwdK.nD Cert.FwdK.τ).loc Cert.FwdK.main_arg0)
      ∧ r.2.mem ((c.tc : Thread Cert.FwdK.nD Cert.FwdK.τ).loc Cert.FwdK.main_arg1) = m ((c.tc : Thread Cert.FwdK.nD Cert.FwdK.τ).loc Cert.FwdK.main_arg1)
      ∧ r.2.mem ((c.tc : Thread Cert.FwdK.nD Cert.FwdK.τ).loc Cert.FwdK.main_arg2) = m ((c.tc : Thread Cert.FwdK.nD Cert.FwdK.τ).loc Cert.FwdK.main_arg2)
      ∧ r.2.mem ((c.tc : Thread Cert.FwdK.nD Cert.FwdK.τ).loc Cert.FwdK.main_arg3) = m ((c.tc : Thread Cert.FwdK.nD Cert.FwdK.τ).loc Cert.FwdK.main_arg3)
      ∧ r.2.mem ((c.tc : Thread Cert.FwdK.nD Cert.FwdK.τ).loc Cert.FwdK.main_arg4) = m ((c.tc : Thread Cert.FwdK.nD Cert.FwdK.τ).loc Cert.FwdK.main_arg4)
      ∧ r.2.mem ((c.tc : Thread Cert.FwdK.nD Cert.FwdK.τ).loc Cert.FwdK.main_arg5) = m ((c.tc : Thread Cert.FwdK.nD Cert.FwdK.τ).loc Cert.FwdK.main_arg5)
      ∧ r.2.mem ((c.tc : Thread Cert.FwdK.nD Cert.FwdK.τ).loc Cert.FwdK.main_arg6) = m ((c.tc : Thread Cert.FwdK.nD Cert.FwdK.τ).loc Cert.FwdK.main_arg6))
      ∧ r.2.sem = fun _ => 0)

def quiescent_FwdKIdeal [hFwdKIdeal : Cert.FwdKIdeal.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2)
      ∧ r.2.mem ((c.tc : Thread Cert.FwdKIdeal.nD Cert.FwdKIdeal.τ).loc Cert.FwdKIdeal.main_arg3) = m ((c.tc : Thread Cert.FwdKIdeal.nD Cert.FwdKIdeal.τ).loc Cert.FwdKIdeal.main_arg3)
      ∧ r.2.mem ((c.tc : Thread Cert.FwdKIdeal.nD Cert.FwdKIdeal.τ).loc Cert.FwdKIdeal.main_arg4) = m ((c.tc : Thread Cert.FwdKIdeal.nD Cert.FwdKIdeal.τ).loc Cert.FwdKIdeal.main_arg4)
      ∧ r.2.mem ((c.tc : Thread Cert.FwdKIdeal.nD Cert.FwdKIdeal.τ).loc Cert.FwdKIdeal.main_arg5) = m ((c.tc : Thread Cert.FwdKIdeal.nD Cert.FwdKIdeal.τ).loc Cert.FwdKIdeal.main_arg5)
      ∧ r.2.mem ((c.tc : Thread Cert.FwdKIdeal.nD Cert.FwdKIdeal.τ).loc Cert.FwdKIdeal.main_arg6) = m ((c.tc : Thread Cert.FwdKIdeal.nD Cert.FwdKIdeal.τ).loc Cert.FwdKIdeal.main_arg6))
      ∧ r.2.sem = fun _ => 0)

def quiescent_FwdKIdeal_pre_finite_mixed [hFwdKIdeal : Cert.FwdKIdeal.Facts] [hPre_finite_mixed : Cert.Pre_finite_mixed.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal_finite_mixed m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2)
      ∧ r.2.mem ((c.tc : Thread Cert.FwdKIdeal.nD Cert.FwdKIdeal.τ).loc Cert.FwdKIdeal.main_arg3) = m ((c.tc : Thread Cert.FwdKIdeal.nD Cert.FwdKIdeal.τ).loc Cert.FwdKIdeal.main_arg3)
      ∧ r.2.mem ((c.tc : Thread Cert.FwdKIdeal.nD Cert.FwdKIdeal.τ).loc Cert.FwdKIdeal.main_arg4) = m ((c.tc : Thread Cert.FwdKIdeal.nD Cert.FwdKIdeal.τ).loc Cert.FwdKIdeal.main_arg4)
      ∧ r.2.mem ((c.tc : Thread Cert.FwdKIdeal.nD Cert.FwdKIdeal.τ).loc Cert.FwdKIdeal.main_arg5) = m ((c.tc : Thread Cert.FwdKIdeal.nD Cert.FwdKIdeal.τ).loc Cert.FwdKIdeal.main_arg5)
      ∧ r.2.mem ((c.tc : Thread Cert.FwdKIdeal.nD Cert.FwdKIdeal.τ).loc Cert.FwdKIdeal.main_arg6) = m ((c.tc : Thread Cert.FwdKIdeal.nD Cert.FwdKIdeal.τ).loc Cert.FwdKIdeal.main_arg6))
      ∧ r.2.sem = fun _ => 0)

def quiescent_FwdRIdeal [hFwdRIdeal : Cert.FwdRIdeal.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2)
      ∧ r.2.mem ((c.tc : Thread Cert.FwdRIdeal.nD Cert.FwdRIdeal.τ).loc Cert.FwdRIdeal.main_arg3) = m ((c.tc : Thread Cert.FwdRIdeal.nD Cert.FwdRIdeal.τ).loc Cert.FwdRIdeal.main_arg3)
      ∧ r.2.mem ((c.tc : Thread Cert.FwdRIdeal.nD Cert.FwdRIdeal.τ).loc Cert.FwdRIdeal.main_arg4) = m ((c.tc : Thread Cert.FwdRIdeal.nD Cert.FwdRIdeal.τ).loc Cert.FwdRIdeal.main_arg4)
      ∧ r.2.mem ((c.tc : Thread Cert.FwdRIdeal.nD Cert.FwdRIdeal.τ).loc Cert.FwdRIdeal.main_arg5) = m ((c.tc : Thread Cert.FwdRIdeal.nD Cert.FwdRIdeal.τ).loc Cert.FwdRIdeal.main_arg5)
      ∧ r.2.mem ((c.tc : Thread Cert.FwdRIdeal.nD Cert.FwdRIdeal.τ).loc Cert.FwdRIdeal.main_arg6) = m ((c.tc : Thread Cert.FwdRIdeal.nD Cert.FwdRIdeal.τ).loc Cert.FwdRIdeal.main_arg6))
      ∧ r.2.sem = fun _ => 0)

def quiescent_FwdRIdeal_pre_finite_mixed [hFwdRIdeal : Cert.FwdRIdeal.Facts] [hPre_finite_mixed : Cert.Pre_finite_mixed.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal_finite_mixed m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2)
      ∧ r.2.mem ((c.tc : Thread Cert.FwdRIdeal.nD Cert.FwdRIdeal.τ).loc Cert.FwdRIdeal.main_arg3) = m ((c.tc : Thread Cert.FwdRIdeal.nD Cert.FwdRIdeal.τ).loc Cert.FwdRIdeal.main_arg3)
      ∧ r.2.mem ((c.tc : Thread Cert.FwdRIdeal.nD Cert.FwdRIdeal.τ).loc Cert.FwdRIdeal.main_arg4) = m ((c.tc : Thread Cert.FwdRIdeal.nD Cert.FwdRIdeal.τ).loc Cert.FwdRIdeal.main_arg4)
      ∧ r.2.mem ((c.tc : Thread Cert.FwdRIdeal.nD Cert.FwdRIdeal.τ).loc Cert.FwdRIdeal.main_arg5) = m ((c.tc : Thread Cert.FwdRIdeal.nD Cert.FwdRIdeal.τ).loc Cert.FwdRIdeal.main_arg5)
      ∧ r.2.mem ((c.tc : Thread Cert.FwdRIdeal.nD Cert.FwdRIdeal.τ).loc Cert.FwdRIdeal.main_arg6) = m ((c.tc : Thread Cert.FwdRIdeal.nD Cert.FwdRIdeal.τ).loc Cert.FwdRIdeal.main_arg6))
      ∧ r.2.sem = fun _ => 0)

def quiescent_SwapK [hSwapK : Cert.SwapK.Facts] : Prop :=
  ∀ (m : (ℓ : Loc Cert.SwapK.nD Cert.SwapK.τ Cert.SwapK.sig) → Buf (Elt Bits) ℓ) (g : Dev Cert.SwapK.nD → PrngReg), Pre_SwapK m →
    θ_run (Cert.SwapK.defs (F := Bits)) (onTc (τ := Cert.SwapK.τ) (Cert.SwapK.main (F := Bits))) ⟨m, fun _ => 0, g⟩ (fun r => (∀ c : Dev Cert.SwapK.nD,
      r.2.mem ((c.tc : Thread Cert.SwapK.nD Cert.SwapK.τ).loc Cert.SwapK.main_arg0) = m ((c.tc : Thread Cert.SwapK.nD Cert.SwapK.τ).loc Cert.SwapK.main_arg0))
      ∧ r.2.sem = fun _ => 0)

def quiescent_SwapR [hSwapR : Cert.SwapR.Facts] : Prop :=
  ∀ (m : (ℓ : Loc Cert.SwapR.nD Cert.SwapR.τ Cert.SwapR.sig) → Buf (Elt Bits) ℓ) (g : Dev Cert.SwapR.nD → PrngReg), Pre_SwapR m →
    θ_run (Cert.SwapR.defs (F := Bits)) (onTc (τ := Cert.SwapR.τ) (Cert.SwapR.main (F := Bits))) ⟨m, fun _ => 0, g⟩ (fun r => (∀ c : Dev Cert.SwapR.nD,
      r.2.mem ((c.tc : Thread Cert.SwapR.nD Cert.SwapR.τ).loc Cert.SwapR.main_arg0) = m ((c.tc : Thread Cert.SwapR.nD Cert.SwapR.τ).loc Cert.SwapR.main_arg0))
      ∧ r.2.sem = fun _ => 0)

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2)
      ∧ r.2.mem ((c.tc : Thread Cert.DownK.nD Cert.DownK.τ).loc Cert.DownK.main_arg3) = m ((c.tc : Thread Cert.DownK.nD Cert.DownK.τ).loc Cert.DownK.main_arg3)
      ∧ r.2.mem ((c.tc : Thread Cert.DownK.nD Cert.DownK.τ).loc Cert.DownK.main_arg4) = m ((c.tc : Thread Cert.DownK.nD Cert.DownK.τ).loc Cert.DownK.main_arg4))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
      ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3)
      ∧ r.2.mem ((c.tc : Thread Cert.DownKIdeal.nD Cert.DownKIdeal.τ).loc Cert.DownKIdeal.main_arg4) = m ((c.tc : Thread Cert.DownKIdeal.nD Cert.DownKIdeal.τ).loc Cert.DownKIdeal.main_arg4))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2)
      ∧ r.2.mem ((c.tc : Thread Cert.DownRIdeal.nD Cert.DownRIdeal.τ).loc Cert.DownRIdeal.main_arg3) = m ((c.tc : Thread Cert.DownRIdeal.nD Cert.DownRIdeal.τ).loc Cert.DownRIdeal.main_arg3)
      ∧ r.2.mem ((c.tc : Thread Cert.DownRIdeal.nD Cert.DownRIdeal.τ).loc Cert.DownRIdeal.main_arg4) = m ((c.tc : Thread Cert.DownRIdeal.nD Cert.DownRIdeal.τ).loc Cert.DownRIdeal.main_arg4))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def quiescent_TurnedK [hTurnedK : Cert.TurnedK.Facts] : Prop :=
  ∀ (m : (ℓ : Loc Cert.TurnedK.nD Cert.TurnedK.τ Cert.TurnedK.sig) → Buf (Elt Bits) ℓ) (g : Dev Cert.TurnedK.nD → PrngReg), Pre_TurnedK m →
    θ_run (Cert.TurnedK.defs (F := Bits)) (onTc (τ := Cert.TurnedK.τ) (Cert.TurnedK.main (F := Bits))) ⟨m, fun _ => 0, g⟩ (fun r => (∀ c : Dev Cert.TurnedK.nD,
      r.2.mem ((c.tc : Thread Cert.TurnedK.nD Cert.TurnedK.τ).loc Cert.TurnedK.main_arg0) = m ((c.tc : Thread Cert.TurnedK.nD Cert.TurnedK.τ).loc Cert.TurnedK.main_arg0)
      ∧ r.2.mem ((c.tc : Thread Cert.TurnedK.nD Cert.TurnedK.τ).loc Cert.TurnedK.main_arg1) = m ((c.tc : Thread Cert.TurnedK.nD Cert.TurnedK.τ).loc Cert.TurnedK.main_arg1)
      ∧ r.2.mem ((c.tc : Thread Cert.TurnedK.nD Cert.TurnedK.τ).loc Cert.TurnedK.main_arg2) = m ((c.tc : Thread Cert.TurnedK.nD Cert.TurnedK.τ).loc Cert.TurnedK.main_arg2)
      ∧ r.2.mem ((c.tc : Thread Cert.TurnedK.nD Cert.TurnedK.τ).loc Cert.TurnedK.main_arg3) = m ((c.tc : Thread Cert.TurnedK.nD Cert.TurnedK.τ).loc Cert.TurnedK.main_arg3))
      ∧ r.2.sem = fun _ => 0)

def quiescent_TurnedKIdeal [hTurnedKIdeal : Cert.TurnedKIdeal.Facts] : Prop :=
  ∀ (m : (ℓ : Loc Cert.TurnedKIdeal.nD Cert.TurnedKIdeal.τ Cert.TurnedKIdeal.sig) → Buf (Elt Ideal) ℓ) (g : Dev Cert.TurnedKIdeal.nD → PrngReg), Pre_TurnedKIdeal m →
    θ_run (Cert.TurnedKIdeal.defs (F := Ideal)) (onTc (τ := Cert.TurnedKIdeal.τ) (Cert.TurnedKIdeal.main (F := Ideal))) ⟨m, fun _ => 0, g⟩ (fun r => (∀ c : Dev Cert.TurnedKIdeal.nD,
      r.2.mem ((c.tc : Thread Cert.TurnedKIdeal.nD Cert.TurnedKIdeal.τ).loc Cert.TurnedKIdeal.main_arg0) = m ((c.tc : Thread Cert.TurnedKIdeal.nD Cert.TurnedKIdeal.τ).loc Cert.TurnedKIdeal.main_arg0)
      ∧ r.2.mem ((c.tc : Thread Cert.TurnedKIdeal.nD Cert.TurnedKIdeal.τ).loc Cert.TurnedKIdeal.main_arg1) = m ((c.tc : Thread Cert.TurnedKIdeal.nD Cert.TurnedKIdeal.τ).loc Cert.TurnedKIdeal.main_arg1)
      ∧ r.2.mem ((c.tc : Thread Cert.TurnedKIdeal.nD Cert.TurnedKIdeal.τ).loc Cert.TurnedKIdeal.main_arg2) = m ((c.tc : Thread Cert.TurnedKIdeal.nD Cert.TurnedKIdeal.τ).loc Cert.TurnedKIdeal.main_arg2)
      ∧ r.2.mem ((c.tc : Thread Cert.TurnedKIdeal.nD Cert.TurnedKIdeal.τ).loc Cert.TurnedKIdeal.main_arg3) = m ((c.tc : Thread Cert.TurnedKIdeal.nD Cert.TurnedKIdeal.τ).loc Cert.TurnedKIdeal.main_arg3))
      ∧ r.2.sem = fun _ => 0)

def quiescent_TurnedRIdeal [hTurnedRIdeal : Cert.TurnedRIdeal.Facts] : Prop :=
  ∀ (m : (ℓ : Loc Cert.TurnedRIdeal.nD Cert.TurnedRIdeal.τ Cert.TurnedRIdeal.sig) → Buf (Elt Ideal) ℓ) (g : Dev Cert.TurnedRIdeal.nD → PrngReg), Pre_TurnedRIdeal m →
    θ_run (Cert.TurnedRIdeal.defs (F := Ideal)) (onTc (τ := Cert.TurnedRIdeal.τ) (Cert.TurnedRIdeal.main (F := Ideal))) ⟨m, fun _ => 0, g⟩ (fun r => (∀ c : Dev Cert.TurnedRIdeal.nD,
      r.2.mem ((c.tc : Thread Cert.TurnedRIdeal.nD Cert.TurnedRIdeal.τ).loc Cert.TurnedRIdeal.main_arg0) = m ((c.tc : Thread Cert.TurnedRIdeal.nD Cert.TurnedRIdeal.τ).loc Cert.TurnedRIdeal.main_arg0)
      ∧ r.2.mem ((c.tc : Thread Cert.TurnedRIdeal.nD Cert.TurnedRIdeal.τ).loc Cert.TurnedRIdeal.main_arg1) = m ((c.tc : Thread Cert.TurnedRIdeal.nD Cert.TurnedRIdeal.τ).loc Cert.TurnedRIdeal.main_arg1)
      ∧ r.2.mem ((c.tc : Thread Cert.TurnedRIdeal.nD Cert.TurnedRIdeal.τ).loc Cert.TurnedRIdeal.main_arg2) = m ((c.tc : Thread Cert.TurnedRIdeal.nD Cert.TurnedRIdeal.τ).loc Cert.TurnedRIdeal.main_arg2)
      ∧ r.2.mem ((c.tc : Thread Cert.TurnedRIdeal.nD Cert.TurnedRIdeal.τ).loc Cert.TurnedRIdeal.main_arg3) = m ((c.tc : Thread Cert.TurnedRIdeal.nD Cert.TurnedRIdeal.τ).loc Cert.TurnedRIdeal.main_arg3))
      ∧ r.2.sem = fun _ => 0)

def quiescent_TotalK [hTotalK : Cert.TotalK.Facts] : Prop :=
  ∀ (m : (ℓ : Loc Cert.TotalK.nD Cert.TotalK.τ Cert.TotalK.sig) → Buf (Elt Bits) ℓ) (g : Dev Cert.TotalK.nD → PrngReg), Pre_TotalK m →
    θ_run (Cert.TotalK.defs (F := Bits)) (onTc (τ := Cert.TotalK.τ) (Cert.TotalK.main (F := Bits))) ⟨m, fun _ => 0, g⟩ (fun r => (∀ c : Dev Cert.TotalK.nD,
      r.2.mem ((c.tc : Thread Cert.TotalK.nD Cert.TotalK.τ).loc Cert.TotalK.main_arg0) = m ((c.tc : Thread Cert.TotalK.nD Cert.TotalK.τ).loc Cert.TotalK.main_arg0))
      ∧ r.2.sem = fun _ => 0)

def quiescent_TotalKIdeal [hTotalKIdeal : Cert.TotalKIdeal.Facts] : Prop :=
  ∀ (m : (ℓ : Loc Cert.TotalKIdeal.nD Cert.TotalKIdeal.τ Cert.TotalKIdeal.sig) → Buf (Elt Ideal) ℓ) (g : Dev Cert.TotalKIdeal.nD → PrngReg), Pre_TotalKIdeal m →
    θ_run (Cert.TotalKIdeal.defs (F := Ideal)) (onTc (τ := Cert.TotalKIdeal.τ) (Cert.TotalKIdeal.main (F := Ideal))) ⟨m, fun _ => 0, g⟩ (fun r => (∀ c : Dev Cert.TotalKIdeal.nD,
      r.2.mem ((c.tc : Thread Cert.TotalKIdeal.nD Cert.TotalKIdeal.τ).loc Cert.TotalKIdeal.main_arg0) = m ((c.tc : Thread Cert.TotalKIdeal.nD Cert.TotalKIdeal.τ).loc Cert.TotalKIdeal.main_arg0))
      ∧ r.2.sem = fun _ => 0)

def quiescent_TotalRIdeal [hTotalRIdeal : Cert.TotalRIdeal.Facts] : Prop :=
  ∀ (m : (ℓ : Loc Cert.TotalRIdeal.nD Cert.TotalRIdeal.τ Cert.TotalRIdeal.sig) → Buf (Elt Ideal) ℓ) (g : Dev Cert.TotalRIdeal.nD → PrngReg), Pre_TotalRIdeal m →
    θ_run (Cert.TotalRIdeal.defs (F := Ideal)) (onTc (τ := Cert.TotalRIdeal.τ) (Cert.TotalRIdeal.main (F := Ideal))) ⟨m, fun _ => 0, g⟩ (fun r => (∀ c : Dev Cert.TotalRIdeal.nD,
      r.2.mem ((c.tc : Thread Cert.TotalRIdeal.nD Cert.TotalRIdeal.τ).loc Cert.TotalRIdeal.main_arg0) = m ((c.tc : Thread Cert.TotalRIdeal.nD Cert.TotalRIdeal.τ).loc Cert.TotalRIdeal.main_arg0))
      ∧ r.2.sem = fun _ => 0)

def quiescent_CastK [hCastK : Cert.CastK.Facts] : Prop :=
  ∀ (m : (ℓ : Loc Cert.CastK.nD Cert.CastK.τ Cert.CastK.sig) → Buf (Elt Bits) ℓ) (g : Dev Cert.CastK.nD → PrngReg), Pre_CastK m →
    θ_run (Cert.CastK.defs (F := Bits)) (onTc (τ := Cert.CastK.τ) (Cert.CastK.main (F := Bits))) ⟨m, fun _ => 0, g⟩ (fun r => (∀ c : Dev Cert.CastK.nD,
      r.2.mem ((c.tc : Thread Cert.CastK.nD Cert.CastK.τ).loc Cert.CastK.main_arg0) = m ((c.tc : Thread Cert.CastK.nD Cert.CastK.τ).loc Cert.CastK.main_arg0)
      ∧ r.2.mem ((c.tc : Thread Cert.CastK.nD Cert.CastK.τ).loc Cert.CastK.main_arg1) = m ((c.tc : Thread Cert.CastK.nD Cert.CastK.τ).loc Cert.CastK.main_arg1)
      ∧ r.2.mem ((c.tc : Thread Cert.CastK.nD Cert.CastK.τ).loc Cert.CastK.main_arg2) = m ((c.tc : Thread Cert.CastK.nD Cert.CastK.τ).loc Cert.CastK.main_arg2)
      ∧ r.2.mem ((c.tc : Thread Cert.CastK.nD Cert.CastK.τ).loc Cert.CastK.main_arg3) = m ((c.tc : Thread Cert.CastK.nD Cert.CastK.τ).loc Cert.CastK.main_arg3))
      ∧ r.2.sem = fun _ => 0)

def quiescent_CastR [hCastR : Cert.CastR.Facts] : Prop :=
  ∀ (m : (ℓ : Loc Cert.CastR.nD Cert.CastR.τ Cert.CastR.sig) → Buf (Elt Bits) ℓ) (g : Dev Cert.CastR.nD → PrngReg), Pre_CastR m →
    θ_run (Cert.CastR.defs (F := Bits)) (onTc (τ := Cert.CastR.τ) (Cert.CastR.main (F := Bits))) ⟨m, fun _ => 0, g⟩ (fun r => (∀ c : Dev Cert.CastR.nD,
      r.2.mem ((c.tc : Thread Cert.CastR.nD Cert.CastR.τ).loc Cert.CastR.main_arg0) = m ((c.tc : Thread Cert.CastR.nD Cert.CastR.τ).loc Cert.CastR.main_arg0)
      ∧ r.2.mem ((c.tc : Thread Cert.CastR.nD Cert.CastR.τ).loc Cert.CastR.main_arg1) = m ((c.tc : Thread Cert.CastR.nD Cert.CastR.τ).loc Cert.CastR.main_arg1)
      ∧ r.2.mem ((c.tc : Thread Cert.CastR.nD Cert.CastR.τ).loc Cert.CastR.main_arg2) = m ((c.tc : Thread Cert.CastR.nD Cert.CastR.τ).loc Cert.CastR.main_arg2)
      ∧ r.2.mem ((c.tc : Thread Cert.CastR.nD Cert.CastR.τ).loc Cert.CastR.main_arg3) = m ((c.tc : Thread Cert.CastR.nD Cert.CastR.τ).loc Cert.CastR.main_arg3))
      ∧ r.2.sem = fun _ => 0)

def quiescent_ChipsK [hChipsK : Cert.ChipsK.Facts] : Prop :=
  ∀ (m : (ℓ : Loc Cert.ChipsK.nD Cert.ChipsK.τ Cert.ChipsK.sig) → Buf (Elt Bits) ℓ) (g : Dev Cert.ChipsK.nD → PrngReg), Pre_ChipsK m →
    θ_run (Cert.ChipsK.defs (F := Bits)) (onTc (τ := Cert.ChipsK.τ) (Cert.ChipsK.main (F := Bits))) ⟨m, fun _ => 0, g⟩ (fun r => (∀ c : Dev Cert.ChipsK.nD,
      r.2.mem ((c.tc : Thread Cert.ChipsK.nD Cert.ChipsK.τ).loc Cert.ChipsK.main_arg0) = m ((c.tc : Thread Cert.ChipsK.nD Cert.ChipsK.τ).loc Cert.ChipsK.main_arg0)
      ∧ r.2.mem ((c.tc : Thread Cert.ChipsK.nD Cert.ChipsK.τ).loc Cert.ChipsK.main_arg1) = m ((c.tc : Thread Cert.ChipsK.nD Cert.ChipsK.τ).loc Cert.ChipsK.main_arg1))
      ∧ r.2.sem = fun _ => 0)

def quiescent_ChipsKIdeal [hChipsKIdeal : Cert.ChipsKIdeal.Facts] : Prop :=
  ∀ (m : (ℓ : Loc Cert.ChipsKIdeal.nD Cert.ChipsKIdeal.τ Cert.ChipsKIdeal.sig) → Buf (Elt Ideal) ℓ) (g : Dev Cert.ChipsKIdeal.nD → PrngReg), Pre_ChipsKIdeal m →
    θ_run (Cert.ChipsKIdeal.defs (F := Ideal)) (onTc (τ := Cert.ChipsKIdeal.τ) (Cert.ChipsKIdeal.main (F := Ideal))) ⟨m, fun _ => 0, g⟩ (fun r => (∀ c : Dev Cert.ChipsKIdeal.nD,
      r.2.mem ((c.tc : Thread Cert.ChipsKIdeal.nD Cert.ChipsKIdeal.τ).loc Cert.ChipsKIdeal.main_arg0) = m ((c.tc : Thread Cert.ChipsKIdeal.nD Cert.ChipsKIdeal.τ).loc Cert.ChipsKIdeal.main_arg0)
      ∧ r.2.mem ((c.tc : Thread Cert.ChipsKIdeal.nD Cert.ChipsKIdeal.τ).loc Cert.ChipsKIdeal.main_arg1) = m ((c.tc : Thread Cert.ChipsKIdeal.nD Cert.ChipsKIdeal.τ).loc Cert.ChipsKIdeal.main_arg1))
      ∧ r.2.sem = fun _ => 0)

def quiescent_ChipsRIdeal [hChipsRIdeal : Cert.ChipsRIdeal.Facts] : Prop :=
  ∀ (m : (ℓ : Loc Cert.ChipsRIdeal.nD Cert.ChipsRIdeal.τ Cert.ChipsRIdeal.sig) → Buf (Elt Ideal) ℓ) (g : Dev Cert.ChipsRIdeal.nD → PrngReg), Pre_ChipsRIdeal m →
    θ_run (Cert.ChipsRIdeal.defs (F := Ideal)) (onTc (τ := Cert.ChipsRIdeal.τ) (Cert.ChipsRIdeal.main (F := Ideal))) ⟨m, fun _ => 0, g⟩ (fun r => (∀ c : Dev Cert.ChipsRIdeal.nD,
      r.2.mem ((c.tc : Thread Cert.ChipsRIdeal.nD Cert.ChipsRIdeal.τ).loc Cert.ChipsRIdeal.main_arg0) = m ((c.tc : Thread Cert.ChipsRIdeal.nD Cert.ChipsRIdeal.τ).loc Cert.ChipsRIdeal.main_arg0)
      ∧ r.2.mem ((c.tc : Thread Cert.ChipsRIdeal.nD Cert.ChipsRIdeal.τ).loc Cert.ChipsRIdeal.main_arg1) = m ((c.tc : Thread Cert.ChipsRIdeal.nD Cert.ChipsRIdeal.τ).loc Cert.ChipsRIdeal.main_arg1))
      ∧ r.2.sem = fun _ => 0)

def quiescent_GradK [hGradK : Cert.GradK.Facts] : Prop :=
  ∀ (m : (ℓ : Loc Cert.GradK.nD Cert.GradK.τ Cert.GradK.sig) → Buf (Elt Bits) ℓ) (g : Dev Cert.GradK.nD → PrngReg), Pre_GradK m →
    θ_run (Cert.GradK.defs (F := Bits)) (onTc (τ := Cert.GradK.τ) (Cert.GradK.main (F := Bits))) ⟨m, fun _ => 0, g⟩ (fun r => (∀ c : Dev Cert.GradK.nD,
      r.2.mem ((c.tc : Thread Cert.GradK.nD Cert.GradK.τ).loc Cert.GradK.main_arg0) = m ((c.tc : Thread Cert.GradK.nD Cert.GradK.τ).loc Cert.GradK.main_arg0)
      ∧ r.2.mem ((c.tc : Thread Cert.GradK.nD Cert.GradK.τ).loc Cert.GradK.main_arg1) = m ((c.tc : Thread Cert.GradK.nD Cert.GradK.τ).loc Cert.GradK.main_arg1)
      ∧ r.2.mem ((c.tc : Thread Cert.GradK.nD Cert.GradK.τ).loc Cert.GradK.main_arg2) = m ((c.tc : Thread Cert.GradK.nD Cert.GradK.τ).loc Cert.GradK.main_arg2)
      ∧ r.2.mem ((c.tc : Thread Cert.GradK.nD Cert.GradK.τ).loc Cert.GradK.main_arg3) = m ((c.tc : Thread Cert.GradK.nD Cert.GradK.τ).loc Cert.GradK.main_arg3)
      ∧ r.2.mem ((c.tc : Thread Cert.GradK.nD Cert.GradK.τ).loc Cert.GradK.main_arg4) = m ((c.tc : Thread Cert.GradK.nD Cert.GradK.τ).loc Cert.GradK.main_arg4)
      ∧ r.2.mem ((c.tc : Thread Cert.GradK.nD Cert.GradK.τ).loc Cert.GradK.main_arg5) = m ((c.tc : Thread Cert.GradK.nD Cert.GradK.τ).loc Cert.GradK.main_arg5))
      ∧ r.2.sem = fun _ => 0)

def quiescent_GradKIdeal [hGradKIdeal : Cert.GradKIdeal.Facts] : Prop :=
  ∀ (m : (ℓ : Loc Cert.GradKIdeal.nD Cert.GradKIdeal.τ Cert.GradKIdeal.sig) → Buf (Elt Ideal) ℓ) (g : Dev Cert.GradKIdeal.nD → PrngReg), Pre_GradKIdeal m →
    θ_run (Cert.GradKIdeal.defs (F := Ideal)) (onTc (τ := Cert.GradKIdeal.τ) (Cert.GradKIdeal.main (F := Ideal))) ⟨m, fun _ => 0, g⟩ (fun r => (∀ c : Dev Cert.GradKIdeal.nD,
      r.2.mem ((c.tc : Thread Cert.GradKIdeal.nD Cert.GradKIdeal.τ).loc Cert.GradKIdeal.main_arg0) = m ((c.tc : Thread Cert.GradKIdeal.nD Cert.GradKIdeal.τ).loc Cert.GradKIdeal.main_arg0)
      ∧ r.2.mem ((c.tc : Thread Cert.GradKIdeal.nD Cert.GradKIdeal.τ).loc Cert.GradKIdeal.main_arg1) = m ((c.tc : Thread Cert.GradKIdeal.nD Cert.GradKIdeal.τ).loc Cert.GradKIdeal.main_arg1)
      ∧ r.2.mem ((c.tc : Thread Cert.GradKIdeal.nD Cert.GradKIdeal.τ).loc Cert.GradKIdeal.main_arg2) = m ((c.tc : Thread Cert.GradKIdeal.nD Cert.GradKIdeal.τ).loc Cert.GradKIdeal.main_arg2)
      ∧ r.2.mem ((c.tc : Thread Cert.GradKIdeal.nD Cert.GradKIdeal.τ).loc Cert.GradKIdeal.main_arg3) = m ((c.tc : Thread Cert.GradKIdeal.nD Cert.GradKIdeal.τ).loc Cert.GradKIdeal.main_arg3)
      ∧ r.2.mem ((c.tc : Thread Cert.GradKIdeal.nD Cert.GradKIdeal.τ).loc Cert.GradKIdeal.main_arg4) = m ((c.tc : Thread Cert.GradKIdeal.nD Cert.GradKIdeal.τ).loc Cert.GradKIdeal.main_arg4)
      ∧ r.2.mem ((c.tc : Thread Cert.GradKIdeal.nD Cert.GradKIdeal.τ).loc Cert.GradKIdeal.main_arg5) = m ((c.tc : Thread Cert.GradKIdeal.nD Cert.GradKIdeal.τ).loc Cert.GradKIdeal.main_arg5))
      ∧ r.2.sem = fun _ => 0)

def quiescent_GradRIdeal [hGradRIdeal : Cert.GradRIdeal.Facts] : Prop :=
  ∀ (m : (ℓ : Loc Cert.GradRIdeal.nD Cert.GradRIdeal.τ Cert.GradRIdeal.sig) → Buf (Elt Ideal) ℓ) (g : Dev Cert.GradRIdeal.nD → PrngReg), Pre_GradRIdeal m →
    θ_run (Cert.GradRIdeal.defs (F := Ideal)) (onTc (τ := Cert.GradRIdeal.τ) (Cert.GradRIdeal.main (F := Ideal))) ⟨m, fun _ => 0, g⟩ (fun r => (∀ c : Dev Cert.GradRIdeal.nD,
      r.2.mem ((c.tc : Thread Cert.GradRIdeal.nD Cert.GradRIdeal.τ).loc Cert.GradRIdeal.main_arg0) = m ((c.tc : Thread Cert.GradRIdeal.nD Cert.GradRIdeal.τ).loc Cert.GradRIdeal.main_arg0)
      ∧ r.2.mem ((c.tc : Thread Cert.GradRIdeal.nD Cert.GradRIdeal.τ).loc Cert.GradRIdeal.main_arg1) = m ((c.tc : Thread Cert.GradRIdeal.nD Cert.GradRIdeal.τ).loc Cert.GradRIdeal.main_arg1)
      ∧ r.2.mem ((c.tc : Thread Cert.GradRIdeal.nD Cert.GradRIdeal.τ).loc Cert.GradRIdeal.main_arg2) = m ((c.tc : Thread Cert.GradRIdeal.nD Cert.GradRIdeal.τ).loc Cert.GradRIdeal.main_arg2)
      ∧ r.2.mem ((c.tc : Thread Cert.GradRIdeal.nD Cert.GradRIdeal.τ).loc Cert.GradRIdeal.main_arg3) = m ((c.tc : Thread Cert.GradRIdeal.nD Cert.GradRIdeal.τ).loc Cert.GradRIdeal.main_arg3)
      ∧ r.2.mem ((c.tc : Thread Cert.GradRIdeal.nD Cert.GradRIdeal.τ).loc Cert.GradRIdeal.main_arg4) = m ((c.tc : Thread Cert.GradRIdeal.nD Cert.GradRIdeal.τ).loc Cert.GradRIdeal.main_arg4)
      ∧ r.2.mem ((c.tc : Thread Cert.GradRIdeal.nD Cert.GradRIdeal.τ).loc Cert.GradRIdeal.main_arg5) = m ((c.tc : Thread Cert.GradRIdeal.nD Cert.GradRIdeal.τ).loc Cert.GradRIdeal.main_arg5))
      ∧ r.2.sem = fun _ => 0)

def quiescent_PackK [hPackK : Cert.PackK.Facts] : Prop :=
  ∀ (m : (ℓ : Loc Cert.PackK.nD Cert.PackK.τ Cert.PackK.sig) → Buf (Elt Bits) ℓ) (g : Dev Cert.PackK.nD → PrngReg), Pre_PackK m →
    θ_run (Cert.PackK.defs (F := Bits)) (onTc (τ := Cert.PackK.τ) (Cert.PackK.main (F := Bits))) ⟨m, fun _ => 0, g⟩ (fun r => (∀ c : Dev Cert.PackK.nD,
      r.2.mem ((c.tc : Thread Cert.PackK.nD Cert.PackK.τ).loc Cert.PackK.main_arg0) = m ((c.tc : Thread Cert.PackK.nD Cert.PackK.τ).loc Cert.PackK.main_arg0))
      ∧ r.2.sem = fun _ => 0)

def quiescent_PackR [hPackR : Cert.PackR.Facts] : Prop :=
  ∀ (m : (ℓ : Loc Cert.PackR.nD Cert.PackR.τ Cert.PackR.sig) → Buf (Elt Bits) ℓ) (g : Dev Cert.PackR.nD → PrngReg), Pre_PackR m →
    θ_run (Cert.PackR.defs (F := Bits)) (onTc (τ := Cert.PackR.τ) (Cert.PackR.main (F := Bits))) ⟨m, fun _ => 0, g⟩ (fun r => (∀ c : Dev Cert.PackR.nD,
      r.2.mem ((c.tc : Thread Cert.PackR.nD Cert.PackR.τ).loc Cert.PackR.main_arg0) = m ((c.tc : Thread Cert.PackR.nD Cert.PackR.τ).loc Cert.PackR.main_arg0))
      ∧ r.2.sem = fun _ => 0)

def preserves_LossK_LossKIdeal : Prop :=
  True

def algebraic_LossKIdeal_LossRIdeal_pre_finite_loss [hLossKIdeal : Cert.LossKIdeal.Facts] [hLossRIdeal : Cert.LossRIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_finite_loss m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)
      ∧ m' ((c.tc : Thread Cert.LossRIdeal.nD Cert.LossRIdeal.τ).loc Cert.LossRIdeal.main_arg5) = m ((c.tc : Thread Cert.LossKIdeal.nD Cert.LossKIdeal.τ).loc Cert.LossKIdeal.main_arg5)
      ∧ m' ((c.tc : Thread Cert.LossRIdeal.nD Cert.LossRIdeal.τ).loc Cert.LossRIdeal.main_arg6) = m ((c.tc : Thread Cert.LossKIdeal.nD Cert.LossKIdeal.τ).loc Cert.LossKIdeal.main_arg6)) →
    ∃ (v0 : (c : Dev Cert.LossKIdeal.nD) → Buf (Elt Ideal) ((c.tc : Thread Cert.LossKIdeal.nD Cert.LossKIdeal.τ).loc Cert.LossKIdeal.main_v21_0)) (v1 : (c : Dev Cert.LossKIdeal.nD) → Buf (Elt Ideal) ((c.tc : Thread Cert.LossKIdeal.nD Cert.LossKIdeal.τ).loc Cert.LossKIdeal.main_v21_1)) (v2 : (c : Dev Cert.LossKIdeal.nD) → Buf (Elt Ideal) ((c.tc : Thread Cert.LossKIdeal.nD Cert.LossKIdeal.τ).loc Cert.LossKIdeal.main_v21_2)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v21_0) = v0 c
          ∧ r.2.mem ((c.tc : Thread Cert.LossKIdeal.nD Cert.LossKIdeal.τ).loc Cert.LossKIdeal.main_v21_1) = v1 c
          ∧ r.2.mem ((c.tc : Thread Cert.LossKIdeal.nD Cert.LossKIdeal.τ).loc Cert.LossKIdeal.main_v21_2) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
          ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
          ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v73) = v0 c
          ∧ r.2.mem ((c.tc : Thread Cert.LossRIdeal.nD Cert.LossRIdeal.τ).loc Cert.LossRIdeal.main_v74) = v1 c
          ∧ r.2.mem ((c.tc : Thread Cert.LossRIdeal.nD Cert.LossRIdeal.τ).loc Cert.LossRIdeal.main_v75) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4)
          ∧ r.2.mem ((c.tc : Thread Cert.LossRIdeal.nD Cert.LossRIdeal.τ).loc Cert.LossRIdeal.main_arg5) = m' ((c.tc : Thread Cert.LossRIdeal.nD Cert.LossRIdeal.τ).loc Cert.LossRIdeal.main_arg5)
          ∧ r.2.mem ((c.tc : Thread Cert.LossRIdeal.nD Cert.LossRIdeal.τ).loc Cert.LossRIdeal.main_arg6) = m' ((c.tc : Thread Cert.LossRIdeal.nD Cert.LossRIdeal.τ).loc Cert.LossRIdeal.main_arg6))

def preserves_FfnK_FfnKIdeal : Prop :=
  True

def algebraic_FfnKIdeal_FfnRIdeal_pre_finite_ffn [hFfnKIdeal : Cert.FfnKIdeal.Facts] [hFfnRIdeal : Cert.FfnRIdeal.Facts] [hPre_finite_ffn : Cert.Pre_finite_ffn.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal_finite_ffn m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)
      ∧ m' ((c.tc : Thread Cert.FfnRIdeal.nD Cert.FfnRIdeal.τ).loc Cert.FfnRIdeal.main_arg4) = m ((c.tc : Thread Cert.FfnKIdeal.nD Cert.FfnKIdeal.τ).loc Cert.FfnKIdeal.main_arg4)
      ∧ m' ((c.tc : Thread Cert.FfnRIdeal.nD Cert.FfnRIdeal.τ).loc Cert.FfnRIdeal.main_arg5) = m ((c.tc : Thread Cert.FfnKIdeal.nD Cert.FfnKIdeal.τ).loc Cert.FfnKIdeal.main_arg5)) →
    ∃ (v0 : (c : Dev Cert.FfnKIdeal.nD) → Buf (Elt Ideal) ((c.tc : Thread Cert.FfnKIdeal.nD Cert.FfnKIdeal.τ).loc Cert.FfnKIdeal.main_v23_0)) (v1 : (c : Dev Cert.FfnKIdeal.nD) → Buf (Elt Ideal) ((c.tc : Thread Cert.FfnKIdeal.nD Cert.FfnKIdeal.τ).loc Cert.FfnKIdeal.main_v23_1)) (v2 : (c : Dev Cert.FfnKIdeal.nD) → Buf (Elt Ideal) ((c.tc : Thread Cert.FfnKIdeal.nD Cert.FfnKIdeal.τ).loc Cert.FfnKIdeal.main_v23_2)) (v3 : (c : Dev Cert.FfnKIdeal.nD) → Buf (Elt Ideal) ((c.tc : Thread Cert.FfnKIdeal.nD Cert.FfnKIdeal.τ).loc Cert.FfnKIdeal.main_v23_3)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v23_0) = v0 c
          ∧ r.2.mem ((c.tc : Thread Cert.FfnKIdeal.nD Cert.FfnKIdeal.τ).loc Cert.FfnKIdeal.main_v23_1) = v1 c
          ∧ r.2.mem ((c.tc : Thread Cert.FfnKIdeal.nD Cert.FfnKIdeal.τ).loc Cert.FfnKIdeal.main_v23_2) = v2 c
          ∧ r.2.mem ((c.tc : Thread Cert.FfnKIdeal.nD Cert.FfnKIdeal.τ).loc Cert.FfnKIdeal.main_v23_3) = v3 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
          ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4)
          ∧ r.2.mem ((c.tc : Thread Cert.FfnKIdeal.nD Cert.FfnKIdeal.τ).loc Cert.FfnKIdeal.main_arg5) = m ((c.tc : Thread Cert.FfnKIdeal.nD Cert.FfnKIdeal.τ).loc Cert.FfnKIdeal.main_arg5))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v58) = v0 c
          ∧ r.2.mem ((c.tc : Thread Cert.FfnRIdeal.nD Cert.FfnRIdeal.τ).loc Cert.FfnRIdeal.main_v61) = v1 c
          ∧ r.2.mem ((c.tc : Thread Cert.FfnRIdeal.nD Cert.FfnRIdeal.τ).loc Cert.FfnRIdeal.main_v65) = v2 c
          ∧ r.2.mem ((c.tc : Thread Cert.FfnRIdeal.nD Cert.FfnRIdeal.τ).loc Cert.FfnRIdeal.main_v59) = v3 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3)
          ∧ r.2.mem ((c.tc : Thread Cert.FfnRIdeal.nD Cert.FfnRIdeal.τ).loc Cert.FfnRIdeal.main_arg4) = m' ((c.tc : Thread Cert.FfnRIdeal.nD Cert.FfnRIdeal.τ).loc Cert.FfnRIdeal.main_arg4)
          ∧ r.2.mem ((c.tc : Thread Cert.FfnRIdeal.nD Cert.FfnRIdeal.τ).loc Cert.FfnRIdeal.main_arg5) = m' ((c.tc : Thread Cert.FfnRIdeal.nD Cert.FfnRIdeal.τ).loc Cert.FfnRIdeal.main_arg5))

def preserves_MixK_MixKIdeal : Prop :=
  True

def algebraic_MixKIdeal_MixRIdeal_pre_finite_mixer [hMixKIdeal : Cert.MixKIdeal.Facts] [hMixRIdeal : Cert.MixRIdeal.Facts] [hPre_finite_mixer : Cert.Pre_finite_mixer.Facts] : Prop :=
  ∀ (m : (ℓ : Loc Cert.MixKIdeal.nD Cert.MixKIdeal.τ Cert.MixKIdeal.sig) → Buf (Elt Ideal) ℓ) (g : Dev Cert.MixKIdeal.nD → PrngReg)
    (m' : (ℓ : Loc Cert.MixRIdeal.nD Cert.MixRIdeal.τ Cert.MixRIdeal.sig) → Buf (Elt Ideal) ℓ) (g' : Dev Cert.MixRIdeal.nD → PrngReg), Pre_MixKIdeal_finite_mixer m →
    (∀ c : Dev Cert.MixKIdeal.nD,
      m' ((c.tc : Thread Cert.MixRIdeal.nD Cert.MixRIdeal.τ).loc Cert.MixRIdeal.main_arg0) = m ((c.tc : Thread Cert.MixKIdeal.nD Cert.MixKIdeal.τ).loc Cert.MixKIdeal.main_arg0)
      ∧ m' ((c.tc : Thread Cert.MixRIdeal.nD Cert.MixRIdeal.τ).loc Cert.MixRIdeal.main_arg1) = m ((c.tc : Thread Cert.MixKIdeal.nD Cert.MixKIdeal.τ).loc Cert.MixKIdeal.main_arg1)
      ∧ m' ((c.tc : Thread Cert.MixRIdeal.nD Cert.MixRIdeal.τ).loc Cert.MixRIdeal.main_arg2) = m ((c.tc : Thread Cert.MixKIdeal.nD Cert.MixKIdeal.τ).loc Cert.MixKIdeal.main_arg2)
      ∧ m' ((c.tc : Thread Cert.MixRIdeal.nD Cert.MixRIdeal.τ).loc Cert.MixRIdeal.main_arg3) = m ((c.tc : Thread Cert.MixKIdeal.nD Cert.MixKIdeal.τ).loc Cert.MixKIdeal.main_arg3)
      ∧ m' ((c.tc : Thread Cert.MixRIdeal.nD Cert.MixRIdeal.τ).loc Cert.MixRIdeal.main_arg4) = m ((c.tc : Thread Cert.MixKIdeal.nD Cert.MixKIdeal.τ).loc Cert.MixKIdeal.main_arg4)
      ∧ m' ((c.tc : Thread Cert.MixRIdeal.nD Cert.MixRIdeal.τ).loc Cert.MixRIdeal.main_arg5) = m ((c.tc : Thread Cert.MixKIdeal.nD Cert.MixKIdeal.τ).loc Cert.MixKIdeal.main_arg5)
      ∧ m' ((c.tc : Thread Cert.MixRIdeal.nD Cert.MixRIdeal.τ).loc Cert.MixRIdeal.main_arg6) = m ((c.tc : Thread Cert.MixKIdeal.nD Cert.MixKIdeal.τ).loc Cert.MixKIdeal.main_arg6)
      ∧ m' ((c.tc : Thread Cert.MixRIdeal.nD Cert.MixRIdeal.τ).loc Cert.MixRIdeal.main_arg7) = m ((c.tc : Thread Cert.MixKIdeal.nD Cert.MixKIdeal.τ).loc Cert.MixKIdeal.main_arg7)) →
    ∃ (v0 : (c : Dev Cert.MixKIdeal.nD) → Buf (Elt Ideal) ((c.tc : Thread Cert.MixKIdeal.nD Cert.MixKIdeal.τ).loc Cert.MixKIdeal.main_v22_0)) (v1 : (c : Dev Cert.MixKIdeal.nD) → Buf (Elt Ideal) ((c.tc : Thread Cert.MixKIdeal.nD Cert.MixKIdeal.τ).loc Cert.MixKIdeal.main_v22_1)) (v2 : (c : Dev Cert.MixKIdeal.nD) → Buf (Elt Ideal) ((c.tc : Thread Cert.MixKIdeal.nD Cert.MixKIdeal.τ).loc Cert.MixKIdeal.main_v22_2)) (v3 : (c : Dev Cert.MixKIdeal.nD) → Buf (Elt Ideal) ((c.tc : Thread Cert.MixKIdeal.nD Cert.MixKIdeal.τ).loc Cert.MixKIdeal.main_v22_3)) (v4 : (c : Dev Cert.MixKIdeal.nD) → Buf (Elt Ideal) ((c.tc : Thread Cert.MixKIdeal.nD Cert.MixKIdeal.τ).loc Cert.MixKIdeal.main_v22_4)) (v5 : (c : Dev Cert.MixKIdeal.nD) → Buf (Elt Ideal) ((c.tc : Thread Cert.MixKIdeal.nD Cert.MixKIdeal.τ).loc Cert.MixKIdeal.main_v22_5)) (v6 : (c : Dev Cert.MixKIdeal.nD) → Buf (Elt Ideal) ((c.tc : Thread Cert.MixKIdeal.nD Cert.MixKIdeal.τ).loc Cert.MixKIdeal.main_v22_6)) (v7 : (c : Dev Cert.MixKIdeal.nD) → Buf (Elt Ideal) ((c.tc : Thread Cert.MixKIdeal.nD Cert.MixKIdeal.τ).loc Cert.MixKIdeal.main_v22_7)),
      θ_run (Cert.MixKIdeal.defs (F := Ideal)) (onTc (τ := Cert.MixKIdeal.τ) (Cert.MixKIdeal.main (F := Ideal))) ⟨m, fun _ => 0, g⟩ (fun r => ∀ c : Dev Cert.MixKIdeal.nD,
          r.2.mem ((c.tc : Thread Cert.MixKIdeal.nD Cert.MixKIdeal.τ).loc Cert.MixKIdeal.main_v22_0) = v0 c
          ∧ r.2.mem ((c.tc : Thread Cert.MixKIdeal.nD Cert.MixKIdeal.τ).loc Cert.MixKIdeal.main_v22_1) = v1 c
          ∧ r.2.mem ((c.tc : Thread Cert.MixKIdeal.nD Cert.MixKIdeal.τ).loc Cert.MixKIdeal.main_v22_2) = v2 c
          ∧ r.2.mem ((c.tc : Thread Cert.MixKIdeal.nD Cert.MixKIdeal.τ).loc Cert.MixKIdeal.main_v22_3) = v3 c
          ∧ r.2.mem ((c.tc : Thread Cert.MixKIdeal.nD Cert.MixKIdeal.τ).loc Cert.MixKIdeal.main_v22_4) = v4 c
          ∧ r.2.mem ((c.tc : Thread Cert.MixKIdeal.nD Cert.MixKIdeal.τ).loc Cert.MixKIdeal.main_v22_5) = v5 c
          ∧ r.2.mem ((c.tc : Thread Cert.MixKIdeal.nD Cert.MixKIdeal.τ).loc Cert.MixKIdeal.main_v22_6) = v6 c
          ∧ r.2.mem ((c.tc : Thread Cert.MixKIdeal.nD Cert.MixKIdeal.τ).loc Cert.MixKIdeal.main_v22_7) = v7 c
          ∧ r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
          ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
          ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
          ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
          ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
          ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
          ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
          ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7))
      ∧ θ_run (Cert.MixRIdeal.defs (F := Ideal)) (onTc (τ := Cert.MixRIdeal.τ) (Cert.MixRIdeal.main (F := Ideal))) ⟨m', fun _ => 0, g'⟩ (fun r => ∀ c : Dev Cert.MixRIdeal.nD,
          r.2.mem ((c.tc : Thread Cert.MixRIdeal.nD Cert.MixRIdeal.τ).loc Cert.MixRIdeal.main_v278) = v0 c
          ∧ r.2.mem ((c.tc : Thread Cert.MixRIdeal.nD Cert.MixRIdeal.τ).loc Cert.MixRIdeal.main_v280) = v1 c
          ∧ r.2.mem ((c.tc : Thread Cert.MixRIdeal.nD Cert.MixRIdeal.τ).loc Cert.MixRIdeal.main_v281) = v2 c
          ∧ r.2.mem ((c.tc : Thread Cert.MixRIdeal.nD Cert.MixRIdeal.τ).loc Cert.MixRIdeal.main_v282) = v3 c
          ∧ r.2.mem ((c.tc : Thread Cert.MixRIdeal.nD Cert.MixRIdeal.τ).loc Cert.MixRIdeal.main_v279) = v4 c
          ∧ r.2.mem ((c.tc : Thread Cert.MixRIdeal.nD Cert.MixRIdeal.τ).loc Cert.MixRIdeal.main_v245) = v5 c
          ∧ r.2.mem ((c.tc : Thread Cert.MixRIdeal.nD Cert.MixRIdeal.τ).loc Cert.MixRIdeal.main_v141) = v6 c
          ∧ r.2.mem ((c.tc : Thread Cert.MixRIdeal.nD Cert.MixRIdeal.τ).loc Cert.MixRIdeal.main_v147) = v7 c
          ∧ r.2.mem ((c.tc : Thread Cert.MixRIdeal.nD Cert.MixRIdeal.τ).loc Cert.MixRIdeal.main_arg0) = m' ((c.tc : Thread Cert.MixRIdeal.nD Cert.MixRIdeal.τ).loc Cert.MixRIdeal.main_arg0)
          ∧ r.2.mem ((c.tc : Thread Cert.MixRIdeal.nD Cert.MixRIdeal.τ).loc Cert.MixRIdeal.main_arg1) = m' ((c.tc : Thread Cert.MixRIdeal.nD Cert.MixRIdeal.τ).loc Cert.MixRIdeal.main_arg1)
          ∧ r.2.mem ((c.tc : Thread Cert.MixRIdeal.nD Cert.MixRIdeal.τ).loc Cert.MixRIdeal.main_arg2) = m' ((c.tc : Thread Cert.MixRIdeal.nD Cert.MixRIdeal.τ).loc Cert.MixRIdeal.main_arg2)
          ∧ r.2.mem ((c.tc : Thread Cert.MixRIdeal.nD Cert.MixRIdeal.τ).loc Cert.MixRIdeal.main_arg3) = m' ((c.tc : Thread Cert.MixRIdeal.nD Cert.MixRIdeal.τ).loc Cert.MixRIdeal.main_arg3)
          ∧ r.2.mem ((c.tc : Thread Cert.MixRIdeal.nD Cert.MixRIdeal.τ).loc Cert.MixRIdeal.main_arg4) = m' ((c.tc : Thread Cert.MixRIdeal.nD Cert.MixRIdeal.τ).loc Cert.MixRIdeal.main_arg4)
          ∧ r.2.mem ((c.tc : Thread Cert.MixRIdeal.nD Cert.MixRIdeal.τ).loc Cert.MixRIdeal.main_arg5) = m' ((c.tc : Thread Cert.MixRIdeal.nD Cert.MixRIdeal.τ).loc Cert.MixRIdeal.main_arg5)
          ∧ r.2.mem ((c.tc : Thread Cert.MixRIdeal.nD Cert.MixRIdeal.τ).loc Cert.MixRIdeal.main_arg6) = m' ((c.tc : Thread Cert.MixRIdeal.nD Cert.MixRIdeal.τ).loc Cert.MixRIdeal.main_arg6)
          ∧ r.2.mem ((c.tc : Thread Cert.MixRIdeal.nD Cert.MixRIdeal.τ).loc Cert.MixRIdeal.main_arg7) = m' ((c.tc : Thread Cert.MixRIdeal.nD Cert.MixRIdeal.τ).loc Cert.MixRIdeal.main_arg7))

def preserves_UpK_UpKIdeal : Prop :=
  True

def algebraic_UpKIdeal_UpRIdeal_pre_finite_up [hUpKIdeal : Cert.UpKIdeal.Facts] [hUpRIdeal : Cert.UpRIdeal.Facts] [hPre_finite_up : Cert.Pre_finite_up.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal_finite_up m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)
      ∧ m' ((c.tc : Thread Cert.UpRIdeal.nD Cert.UpRIdeal.τ).loc Cert.UpRIdeal.main_arg2) = m ((c.tc : Thread Cert.UpKIdeal.nD Cert.UpKIdeal.τ).loc Cert.UpKIdeal.main_arg2)
      ∧ m' ((c.tc : Thread Cert.UpRIdeal.nD Cert.UpRIdeal.τ).loc Cert.UpRIdeal.main_arg3) = m ((c.tc : Thread Cert.UpKIdeal.nD Cert.UpKIdeal.τ).loc Cert.UpKIdeal.main_arg3)) →
    ∃ (v0 : (c : Dev Cert.UpKIdeal.nD) → Buf (Elt Ideal) ((c.tc : Thread Cert.UpKIdeal.nD Cert.UpKIdeal.τ).loc Cert.UpKIdeal.main_v4_0)) (v1 : (c : Dev Cert.UpKIdeal.nD) → Buf (Elt Ideal) ((c.tc : Thread Cert.UpKIdeal.nD Cert.UpKIdeal.τ).loc Cert.UpKIdeal.main_v4_1)) (v2 : (c : Dev Cert.UpKIdeal.nD) → Buf (Elt Ideal) ((c.tc : Thread Cert.UpKIdeal.nD Cert.UpKIdeal.τ).loc Cert.UpKIdeal.main_v4_2)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v4_0) = v0 c
          ∧ r.2.mem ((c.tc : Thread Cert.UpKIdeal.nD Cert.UpKIdeal.τ).loc Cert.UpKIdeal.main_v4_1) = v1 c
          ∧ r.2.mem ((c.tc : Thread Cert.UpKIdeal.nD Cert.UpKIdeal.τ).loc Cert.UpKIdeal.main_v4_2) = v2 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
          ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
          ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v16) = v0 c
          ∧ r.2.mem ((c.tc : Thread Cert.UpRIdeal.nD Cert.UpRIdeal.τ).loc Cert.UpRIdeal.main_v17) = v1 c
          ∧ r.2.mem ((c.tc : Thread Cert.UpRIdeal.nD Cert.UpRIdeal.τ).loc Cert.UpRIdeal.main_v20) = v2 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1)
          ∧ r.2.mem ((c.tc : Thread Cert.UpRIdeal.nD Cert.UpRIdeal.τ).loc Cert.UpRIdeal.main_arg2) = m' ((c.tc : Thread Cert.UpRIdeal.nD Cert.UpRIdeal.τ).loc Cert.UpRIdeal.main_arg2)
          ∧ r.2.mem ((c.tc : Thread Cert.UpRIdeal.nD Cert.UpRIdeal.τ).loc Cert.UpRIdeal.main_arg3) = m' ((c.tc : Thread Cert.UpRIdeal.nD Cert.UpRIdeal.τ).loc Cert.UpRIdeal.main_arg3))

def preserves_FwdK_FwdKIdeal : Prop :=
  True

def algebraic_FwdKIdeal_FwdRIdeal_pre_finite_mixed [hFwdKIdeal : Cert.FwdKIdeal.Facts] [hFwdRIdeal : Cert.FwdRIdeal.Facts] [hPre_finite_mixed : Cert.Pre_finite_mixed.Facts] : Prop :=
  ∀ (m : (ℓ : Loc Cert.FwdKIdeal.nD Cert.FwdKIdeal.τ Cert.FwdKIdeal.sig) → Buf (Elt Ideal) ℓ) (g : Dev Cert.FwdKIdeal.nD → PrngReg)
    (m' : (ℓ : Loc Cert.FwdRIdeal.nD Cert.FwdRIdeal.τ Cert.FwdRIdeal.sig) → Buf (Elt Ideal) ℓ) (g' : Dev Cert.FwdRIdeal.nD → PrngReg), Pre_FwdKIdeal_finite_mixed m →
    (∀ c : Dev Cert.FwdKIdeal.nD,
      m' ((c.tc : Thread Cert.FwdRIdeal.nD Cert.FwdRIdeal.τ).loc Cert.FwdRIdeal.main_arg0) = m ((c.tc : Thread Cert.FwdKIdeal.nD Cert.FwdKIdeal.τ).loc Cert.FwdKIdeal.main_arg0)
      ∧ m' ((c.tc : Thread Cert.FwdRIdeal.nD Cert.FwdRIdeal.τ).loc Cert.FwdRIdeal.main_arg1) = m ((c.tc : Thread Cert.FwdKIdeal.nD Cert.FwdKIdeal.τ).loc Cert.FwdKIdeal.main_arg1)
      ∧ m' ((c.tc : Thread Cert.FwdRIdeal.nD Cert.FwdRIdeal.τ).loc Cert.FwdRIdeal.main_arg2) = m ((c.tc : Thread Cert.FwdKIdeal.nD Cert.FwdKIdeal.τ).loc Cert.FwdKIdeal.main_arg2)
      ∧ m' ((c.tc : Thread Cert.FwdRIdeal.nD Cert.FwdRIdeal.τ).loc Cert.FwdRIdeal.main_arg3) = m ((c.tc : Thread Cert.FwdKIdeal.nD Cert.FwdKIdeal.τ).loc Cert.FwdKIdeal.main_arg3)
      ∧ m' ((c.tc : Thread Cert.FwdRIdeal.nD Cert.FwdRIdeal.τ).loc Cert.FwdRIdeal.main_arg4) = m ((c.tc : Thread Cert.FwdKIdeal.nD Cert.FwdKIdeal.τ).loc Cert.FwdKIdeal.main_arg4)
      ∧ m' ((c.tc : Thread Cert.FwdRIdeal.nD Cert.FwdRIdeal.τ).loc Cert.FwdRIdeal.main_arg5) = m ((c.tc : Thread Cert.FwdKIdeal.nD Cert.FwdKIdeal.τ).loc Cert.FwdKIdeal.main_arg5)
      ∧ m' ((c.tc : Thread Cert.FwdRIdeal.nD Cert.FwdRIdeal.τ).loc Cert.FwdRIdeal.main_arg6) = m ((c.tc : Thread Cert.FwdKIdeal.nD Cert.FwdKIdeal.τ).loc Cert.FwdKIdeal.main_arg6)) →
    ∃ (v0 : (c : Dev Cert.FwdKIdeal.nD) → Buf (Elt Ideal) ((c.tc : Thread Cert.FwdKIdeal.nD Cert.FwdKIdeal.τ).loc Cert.FwdKIdeal.main_v6_0)) (v1 : (c : Dev Cert.FwdKIdeal.nD) → Buf (Elt Ideal) ((c.tc : Thread Cert.FwdKIdeal.nD Cert.FwdKIdeal.τ).loc Cert.FwdKIdeal.main_v6_1)) (v2 : (c : Dev Cert.FwdKIdeal.nD) → Buf (Elt Ideal) ((c.tc : Thread Cert.FwdKIdeal.nD Cert.FwdKIdeal.τ).loc Cert.FwdKIdeal.main_v6_2)),
      θ_run (Cert.FwdKIdeal.defs (F := Ideal)) (onTc (τ := Cert.FwdKIdeal.τ) (Cert.FwdKIdeal.main (F := Ideal))) ⟨m, fun _ => 0, g⟩ (fun r => ∀ c : Dev Cert.FwdKIdeal.nD,
          r.2.mem ((c.tc : Thread Cert.FwdKIdeal.nD Cert.FwdKIdeal.τ).loc Cert.FwdKIdeal.main_v6_0) = v0 c
          ∧ r.2.mem ((c.tc : Thread Cert.FwdKIdeal.nD Cert.FwdKIdeal.τ).loc Cert.FwdKIdeal.main_v6_1) = v1 c
          ∧ r.2.mem ((c.tc : Thread Cert.FwdKIdeal.nD Cert.FwdKIdeal.τ).loc Cert.FwdKIdeal.main_v6_2) = v2 c
          ∧ r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
          ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
          ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2)
          ∧ r.2.mem ((c.tc : Thread Cert.FwdKIdeal.nD Cert.FwdKIdeal.τ).loc Cert.FwdKIdeal.main_arg3) = m ((c.tc : Thread Cert.FwdKIdeal.nD Cert.FwdKIdeal.τ).loc Cert.FwdKIdeal.main_arg3)
          ∧ r.2.mem ((c.tc : Thread Cert.FwdKIdeal.nD Cert.FwdKIdeal.τ).loc Cert.FwdKIdeal.main_arg4) = m ((c.tc : Thread Cert.FwdKIdeal.nD Cert.FwdKIdeal.τ).loc Cert.FwdKIdeal.main_arg4)
          ∧ r.2.mem ((c.tc : Thread Cert.FwdKIdeal.nD Cert.FwdKIdeal.τ).loc Cert.FwdKIdeal.main_arg5) = m ((c.tc : Thread Cert.FwdKIdeal.nD Cert.FwdKIdeal.τ).loc Cert.FwdKIdeal.main_arg5)
          ∧ r.2.mem ((c.tc : Thread Cert.FwdKIdeal.nD Cert.FwdKIdeal.τ).loc Cert.FwdKIdeal.main_arg6) = m ((c.tc : Thread Cert.FwdKIdeal.nD Cert.FwdKIdeal.τ).loc Cert.FwdKIdeal.main_arg6))
      ∧ θ_run (Cert.FwdRIdeal.defs (F := Ideal)) (onTc (τ := Cert.FwdRIdeal.τ) (Cert.FwdRIdeal.main (F := Ideal))) ⟨m', fun _ => 0, g'⟩ (fun r => ∀ c : Dev Cert.FwdRIdeal.nD,
          r.2.mem ((c.tc : Thread Cert.FwdRIdeal.nD Cert.FwdRIdeal.τ).loc Cert.FwdRIdeal.main_v120) = v0 c
          ∧ r.2.mem ((c.tc : Thread Cert.FwdRIdeal.nD Cert.FwdRIdeal.τ).loc Cert.FwdRIdeal.main_v121) = v1 c
          ∧ r.2.mem ((c.tc : Thread Cert.FwdRIdeal.nD Cert.FwdRIdeal.τ).loc Cert.FwdRIdeal.main_v122) = v2 c
          ∧ r.2.mem ((c.tc : Thread Cert.FwdRIdeal.nD Cert.FwdRIdeal.τ).loc Cert.FwdRIdeal.main_arg0) = m' ((c.tc : Thread Cert.FwdRIdeal.nD Cert.FwdRIdeal.τ).loc Cert.FwdRIdeal.main_arg0)
          ∧ r.2.mem ((c.tc : Thread Cert.FwdRIdeal.nD Cert.FwdRIdeal.τ).loc Cert.FwdRIdeal.main_arg1) = m' ((c.tc : Thread Cert.FwdRIdeal.nD Cert.FwdRIdeal.τ).loc Cert.FwdRIdeal.main_arg1)
          ∧ r.2.mem ((c.tc : Thread Cert.FwdRIdeal.nD Cert.FwdRIdeal.τ).loc Cert.FwdRIdeal.main_arg2) = m' ((c.tc : Thread Cert.FwdRIdeal.nD Cert.FwdRIdeal.τ).loc Cert.FwdRIdeal.main_arg2)
          ∧ r.2.mem ((c.tc : Thread Cert.FwdRIdeal.nD Cert.FwdRIdeal.τ).loc Cert.FwdRIdeal.main_arg3) = m' ((c.tc : Thread Cert.FwdRIdeal.nD Cert.FwdRIdeal.τ).loc Cert.FwdRIdeal.main_arg3)
          ∧ r.2.mem ((c.tc : Thread Cert.FwdRIdeal.nD Cert.FwdRIdeal.τ).loc Cert.FwdRIdeal.main_arg4) = m' ((c.tc : Thread Cert.FwdRIdeal.nD Cert.FwdRIdeal.τ).loc Cert.FwdRIdeal.main_arg4)
          ∧ r.2.mem ((c.tc : Thread Cert.FwdRIdeal.nD Cert.FwdRIdeal.τ).loc Cert.FwdRIdeal.main_arg5) = m' ((c.tc : Thread Cert.FwdRIdeal.nD Cert.FwdRIdeal.τ).loc Cert.FwdRIdeal.main_arg5)
          ∧ r.2.mem ((c.tc : Thread Cert.FwdRIdeal.nD Cert.FwdRIdeal.τ).loc Cert.FwdRIdeal.main_arg6) = m' ((c.tc : Thread Cert.FwdRIdeal.nD Cert.FwdRIdeal.τ).loc Cert.FwdRIdeal.main_arg6))

def bitexact_SwapK_SwapR [hSwapK : Cert.SwapK.Facts] [hSwapR : Cert.SwapR.Facts] : Prop :=
  ∀ (m : (ℓ : Loc Cert.SwapK.nD Cert.SwapK.τ Cert.SwapK.sig) → Buf (Elt Bits) ℓ) (g : Dev Cert.SwapK.nD → PrngReg)
    (m' : (ℓ : Loc Cert.SwapR.nD Cert.SwapR.τ Cert.SwapR.sig) → Buf (Elt Bits) ℓ) (g' : Dev Cert.SwapR.nD → PrngReg), Pre_SwapK m →
    (∀ c : Dev Cert.SwapK.nD,
      m ((c.tc : Thread Cert.SwapK.nD Cert.SwapK.τ).loc Cert.SwapK.main_arg0) = Layout.block ⟨3, ![4, 128, 1024]⟩ ⟨3, ![16, 128, 1024]⟩ 0 4 c (m' (((0 : Dev Cert.SwapR.nD).tc : Thread Cert.SwapR.nD Cert.SwapR.τ).loc Cert.SwapR.main_arg0))) →
    ∃ (v0 : Buf (Elt Bits) (((0 : Dev Cert.SwapR.nD).tc : Thread Cert.SwapR.nD Cert.SwapR.τ).loc Cert.SwapR.main_v12)),
      θ_run (Cert.SwapK.defs (F := Bits)) (onTc (τ := Cert.SwapK.τ) (Cert.SwapK.main (F := Bits))) ⟨m, fun _ => 0, g⟩ (fun r => ∀ c : Dev Cert.SwapK.nD,
          r.2.mem ((c.tc : Thread Cert.SwapK.nD Cert.SwapK.τ).loc Cert.SwapK.main_v1) = Layout.block ⟨3, ![3, 128, 1024]⟩ ⟨3, ![12, 128, 1024]⟩ 0 4 c v0
          ∧ r.2.mem ((c.tc : Thread Cert.SwapK.nD Cert.SwapK.τ).loc Cert.SwapK.main_arg0) = m ((c.tc : Thread Cert.SwapK.nD Cert.SwapK.τ).loc Cert.SwapK.main_arg0))
      ∧ θ_run (Cert.SwapR.defs (F := Bits)) (onTc (τ := Cert.SwapR.τ) (Cert.SwapR.main (F := Bits))) ⟨m', fun _ => 0, g'⟩ (fun r =>
          r.2.mem (((0 : Dev Cert.SwapR.nD).tc : Thread Cert.SwapR.nD Cert.SwapR.τ).loc Cert.SwapR.main_v12) = v0
          ∧ r.2.mem (((0 : Dev Cert.SwapR.nD).tc : Thread Cert.SwapR.nD Cert.SwapR.τ).loc Cert.SwapR.main_arg0) = m' (((0 : Dev Cert.SwapR.nD).tc : Thread Cert.SwapR.nD Cert.SwapR.τ).loc Cert.SwapR.main_arg0))

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)
      ∧ m' ((c.tc : Thread Cert.DownRIdeal.nD Cert.DownRIdeal.τ).loc Cert.DownRIdeal.main_arg3) = m ((c.tc : Thread Cert.DownKIdeal.nD Cert.DownKIdeal.τ).loc Cert.DownKIdeal.main_arg3)
      ∧ m' ((c.tc : Thread Cert.DownRIdeal.nD Cert.DownRIdeal.τ).loc Cert.DownRIdeal.main_arg4) = m ((c.tc : Thread Cert.DownKIdeal.nD Cert.DownKIdeal.τ).loc Cert.DownKIdeal.main_arg4)) →
    ∃ (v0 : (c : Dev Cert.DownKIdeal.nD) → Buf (Elt Ideal) ((c.tc : Thread Cert.DownKIdeal.nD Cert.DownKIdeal.τ).loc Cert.DownKIdeal.main_v20)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v20) = v0 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
          ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3)
          ∧ r.2.mem ((c.tc : Thread Cert.DownKIdeal.nD Cert.DownKIdeal.τ).loc Cert.DownKIdeal.main_arg4) = m ((c.tc : Thread Cert.DownKIdeal.nD Cert.DownKIdeal.τ).loc Cert.DownKIdeal.main_arg4))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v21) = v0 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2)
          ∧ r.2.mem ((c.tc : Thread Cert.DownRIdeal.nD Cert.DownRIdeal.τ).loc Cert.DownRIdeal.main_arg3) = m' ((c.tc : Thread Cert.DownRIdeal.nD Cert.DownRIdeal.τ).loc Cert.DownRIdeal.main_arg3)
          ∧ r.2.mem ((c.tc : Thread Cert.DownRIdeal.nD Cert.DownRIdeal.τ).loc Cert.DownRIdeal.main_arg4) = m' ((c.tc : Thread Cert.DownRIdeal.nD Cert.DownRIdeal.τ).loc Cert.DownRIdeal.main_arg4))

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)) →
    ∃ (v0 : (c : Dev Cert.AdamKIdeal.nD) → Buf (Elt Ideal) ((c.tc : Thread Cert.AdamKIdeal.nD Cert.AdamKIdeal.τ).loc Cert.AdamKIdeal.main_v0_0)) (v1 : (c : Dev Cert.AdamKIdeal.nD) → Buf (Elt Ideal) ((c.tc : Thread Cert.AdamKIdeal.nD Cert.AdamKIdeal.τ).loc Cert.AdamKIdeal.main_v0_1)) (v2 : (c : Dev Cert.AdamKIdeal.nD) → Buf (Elt Ideal) ((c.tc : Thread Cert.AdamKIdeal.nD Cert.AdamKIdeal.τ).loc Cert.AdamKIdeal.main_v0_2)) (v3 : (c : Dev Cert.AdamKIdeal.nD) → Buf (Elt Ideal) ((c.tc : Thread Cert.AdamKIdeal.nD Cert.AdamKIdeal.τ).loc Cert.AdamKIdeal.main_v0_3)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v0_0) = v0 c
          ∧ r.2.mem ((c.tc : Thread Cert.AdamKIdeal.nD Cert.AdamKIdeal.τ).loc Cert.AdamKIdeal.main_v0_1) = v1 c
          ∧ r.2.mem ((c.tc : Thread Cert.AdamKIdeal.nD Cert.AdamKIdeal.τ).loc Cert.AdamKIdeal.main_v0_2) = v2 c
          ∧ r.2.mem ((c.tc : Thread Cert.AdamKIdeal.nD Cert.AdamKIdeal.τ).loc Cert.AdamKIdeal.main_v0_3) = v3 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_arg1) = v0 c
          ∧ r.2.mem ((c.tc : Thread Cert.AdamRIdeal.nD Cert.AdamRIdeal.τ).loc Cert.AdamRIdeal.main_v23) = v1 c
          ∧ r.2.mem ((c.tc : Thread Cert.AdamRIdeal.nD Cert.AdamRIdeal.τ).loc Cert.AdamRIdeal.main_v4) = v2 c
          ∧ r.2.mem ((c.tc : Thread Cert.AdamRIdeal.nD Cert.AdamRIdeal.τ).loc Cert.AdamRIdeal.main_v10) = v3 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3))

def preserves_TurnedK_TurnedKIdeal : Prop :=
  True

def algebraic_TurnedKIdeal_TurnedRIdeal [hTurnedKIdeal : Cert.TurnedKIdeal.Facts] [hTurnedRIdeal : Cert.TurnedRIdeal.Facts] : Prop :=
  ∀ (m : (ℓ : Loc Cert.TurnedKIdeal.nD Cert.TurnedKIdeal.τ Cert.TurnedKIdeal.sig) → Buf (Elt Ideal) ℓ) (g : Dev Cert.TurnedKIdeal.nD → PrngReg)
    (m' : (ℓ : Loc Cert.TurnedRIdeal.nD Cert.TurnedRIdeal.τ Cert.TurnedRIdeal.sig) → Buf (Elt Ideal) ℓ) (g' : Dev Cert.TurnedRIdeal.nD → PrngReg), Pre_TurnedKIdeal m →
    (∀ c : Dev Cert.TurnedKIdeal.nD,
      m' ((c.tc : Thread Cert.TurnedRIdeal.nD Cert.TurnedRIdeal.τ).loc Cert.TurnedRIdeal.main_arg0) = m ((c.tc : Thread Cert.TurnedKIdeal.nD Cert.TurnedKIdeal.τ).loc Cert.TurnedKIdeal.main_arg0)
      ∧ m' ((c.tc : Thread Cert.TurnedRIdeal.nD Cert.TurnedRIdeal.τ).loc Cert.TurnedRIdeal.main_arg1) = m ((c.tc : Thread Cert.TurnedKIdeal.nD Cert.TurnedKIdeal.τ).loc Cert.TurnedKIdeal.main_arg1)
      ∧ m' ((c.tc : Thread Cert.TurnedRIdeal.nD Cert.TurnedRIdeal.τ).loc Cert.TurnedRIdeal.main_arg2) = m ((c.tc : Thread Cert.TurnedKIdeal.nD Cert.TurnedKIdeal.τ).loc Cert.TurnedKIdeal.main_arg2)
      ∧ m' ((c.tc : Thread Cert.TurnedRIdeal.nD Cert.TurnedRIdeal.τ).loc Cert.TurnedRIdeal.main_arg3) = m ((c.tc : Thread Cert.TurnedKIdeal.nD Cert.TurnedKIdeal.τ).loc Cert.TurnedKIdeal.main_arg3)) →
    ∃ (v0 : (c : Dev Cert.TurnedKIdeal.nD) → Buf (Elt Ideal) ((c.tc : Thread Cert.TurnedKIdeal.nD Cert.TurnedKIdeal.τ).loc Cert.TurnedKIdeal.main_v0_0)) (v1 : (c : Dev Cert.TurnedKIdeal.nD) → Buf (Elt Ideal) ((c.tc : Thread Cert.TurnedKIdeal.nD Cert.TurnedKIdeal.τ).loc Cert.TurnedKIdeal.main_v0_1)) (v2 : (c : Dev Cert.TurnedKIdeal.nD) → Buf (Elt Ideal) ((c.tc : Thread Cert.TurnedKIdeal.nD Cert.TurnedKIdeal.τ).loc Cert.TurnedKIdeal.main_v0_2)) (v3 : (c : Dev Cert.TurnedKIdeal.nD) → Buf (Elt Ideal) ((c.tc : Thread Cert.TurnedKIdeal.nD Cert.TurnedKIdeal.τ).loc Cert.TurnedKIdeal.main_v0_3)),
      θ_run (Cert.TurnedKIdeal.defs (F := Ideal)) (onTc (τ := Cert.TurnedKIdeal.τ) (Cert.TurnedKIdeal.main (F := Ideal))) ⟨m, fun _ => 0, g⟩ (fun r => ∀ c : Dev Cert.TurnedKIdeal.nD,
          r.2.mem ((c.tc : Thread Cert.TurnedKIdeal.nD Cert.TurnedKIdeal.τ).loc Cert.TurnedKIdeal.main_v0_0) = v0 c
          ∧ r.2.mem ((c.tc : Thread Cert.TurnedKIdeal.nD Cert.TurnedKIdeal.τ).loc Cert.TurnedKIdeal.main_v0_1) = v1 c
          ∧ r.2.mem ((c.tc : Thread Cert.TurnedKIdeal.nD Cert.TurnedKIdeal.τ).loc Cert.TurnedKIdeal.main_v0_2) = v2 c
          ∧ r.2.mem ((c.tc : Thread Cert.TurnedKIdeal.nD Cert.TurnedKIdeal.τ).loc Cert.TurnedKIdeal.main_v0_3) = v3 c
          ∧ r.2.mem ((c.tc : Thread Cert.TurnedKIdeal.nD Cert.TurnedKIdeal.τ).loc Cert.TurnedKIdeal.main_arg0) = m ((c.tc : Thread Cert.TurnedKIdeal.nD Cert.TurnedKIdeal.τ).loc Cert.TurnedKIdeal.main_arg0)
          ∧ r.2.mem ((c.tc : Thread Cert.TurnedKIdeal.nD Cert.TurnedKIdeal.τ).loc Cert.TurnedKIdeal.main_arg1) = m ((c.tc : Thread Cert.TurnedKIdeal.nD Cert.TurnedKIdeal.τ).loc Cert.TurnedKIdeal.main_arg1)
          ∧ r.2.mem ((c.tc : Thread Cert.TurnedKIdeal.nD Cert.TurnedKIdeal.τ).loc Cert.TurnedKIdeal.main_arg2) = m ((c.tc : Thread Cert.TurnedKIdeal.nD Cert.TurnedKIdeal.τ).loc Cert.TurnedKIdeal.main_arg2)
          ∧ r.2.mem ((c.tc : Thread Cert.TurnedKIdeal.nD Cert.TurnedKIdeal.τ).loc Cert.TurnedKIdeal.main_arg3) = m ((c.tc : Thread Cert.TurnedKIdeal.nD Cert.TurnedKIdeal.τ).loc Cert.TurnedKIdeal.main_arg3))
      ∧ θ_run (Cert.TurnedRIdeal.defs (F := Ideal)) (onTc (τ := Cert.TurnedRIdeal.τ) (Cert.TurnedRIdeal.main (F := Ideal))) ⟨m', fun _ => 0, g'⟩ (fun r => ∀ c : Dev Cert.TurnedRIdeal.nD,
          r.2.mem ((c.tc : Thread Cert.TurnedRIdeal.nD Cert.TurnedRIdeal.τ).loc Cert.TurnedRIdeal.main_v1) = v0 c
          ∧ r.2.mem ((c.tc : Thread Cert.TurnedRIdeal.nD Cert.TurnedRIdeal.τ).loc Cert.TurnedRIdeal.main_v27) = v1 c
          ∧ r.2.mem ((c.tc : Thread Cert.TurnedRIdeal.nD Cert.TurnedRIdeal.τ).loc Cert.TurnedRIdeal.main_v8) = v2 c
          ∧ r.2.mem ((c.tc : Thread Cert.TurnedRIdeal.nD Cert.TurnedRIdeal.τ).loc Cert.TurnedRIdeal.main_v14) = v3 c
          ∧ r.2.mem ((c.tc : Thread Cert.TurnedRIdeal.nD Cert.TurnedRIdeal.τ).loc Cert.TurnedRIdeal.main_arg0) = m' ((c.tc : Thread Cert.TurnedRIdeal.nD Cert.TurnedRIdeal.τ).loc Cert.TurnedRIdeal.main_arg0)
          ∧ r.2.mem ((c.tc : Thread Cert.TurnedRIdeal.nD Cert.TurnedRIdeal.τ).loc Cert.TurnedRIdeal.main_arg1) = m' ((c.tc : Thread Cert.TurnedRIdeal.nD Cert.TurnedRIdeal.τ).loc Cert.TurnedRIdeal.main_arg1)
          ∧ r.2.mem ((c.tc : Thread Cert.TurnedRIdeal.nD Cert.TurnedRIdeal.τ).loc Cert.TurnedRIdeal.main_arg2) = m' ((c.tc : Thread Cert.TurnedRIdeal.nD Cert.TurnedRIdeal.τ).loc Cert.TurnedRIdeal.main_arg2)
          ∧ r.2.mem ((c.tc : Thread Cert.TurnedRIdeal.nD Cert.TurnedRIdeal.τ).loc Cert.TurnedRIdeal.main_arg3) = m' ((c.tc : Thread Cert.TurnedRIdeal.nD Cert.TurnedRIdeal.τ).loc Cert.TurnedRIdeal.main_arg3))

def preserves_TotalK_TotalKIdeal : Prop :=
  True

def algebraic_TotalKIdeal_TotalRIdeal [hTotalKIdeal : Cert.TotalKIdeal.Facts] [hTotalRIdeal : Cert.TotalRIdeal.Facts] : Prop :=
  ∀ (m : (ℓ : Loc Cert.TotalKIdeal.nD Cert.TotalKIdeal.τ Cert.TotalKIdeal.sig) → Buf (Elt Ideal) ℓ) (g : Dev Cert.TotalKIdeal.nD → PrngReg)
    (m' : (ℓ : Loc Cert.TotalRIdeal.nD Cert.TotalRIdeal.τ Cert.TotalRIdeal.sig) → Buf (Elt Ideal) ℓ) (g' : Dev Cert.TotalRIdeal.nD → PrngReg), Pre_TotalKIdeal m →
    (∀ c : Dev Cert.TotalKIdeal.nD,
      m' ((c.tc : Thread Cert.TotalRIdeal.nD Cert.TotalRIdeal.τ).loc Cert.TotalRIdeal.main_arg0) = m ((c.tc : Thread Cert.TotalKIdeal.nD Cert.TotalKIdeal.τ).loc Cert.TotalKIdeal.main_arg0)) →
    ∃ (v0 : (c : Dev Cert.TotalKIdeal.nD) → Buf (Elt Ideal) ((c.tc : Thread Cert.TotalKIdeal.nD Cert.TotalKIdeal.τ).loc Cert.TotalKIdeal.main_v0)),
      θ_run (Cert.TotalKIdeal.defs (F := Ideal)) (onTc (τ := Cert.TotalKIdeal.τ) (Cert.TotalKIdeal.main (F := Ideal))) ⟨m, fun _ => 0, g⟩ (fun r => ∀ c : Dev Cert.TotalKIdeal.nD,
          r.2.mem ((c.tc : Thread Cert.TotalKIdeal.nD Cert.TotalKIdeal.τ).loc Cert.TotalKIdeal.main_v0) = v0 c
          ∧ r.2.mem ((c.tc : Thread Cert.TotalKIdeal.nD Cert.TotalKIdeal.τ).loc Cert.TotalKIdeal.main_arg0) = m ((c.tc : Thread Cert.TotalKIdeal.nD Cert.TotalKIdeal.τ).loc Cert.TotalKIdeal.main_arg0))
      ∧ θ_run (Cert.TotalRIdeal.defs (F := Ideal)) (onTc (τ := Cert.TotalRIdeal.τ) (Cert.TotalRIdeal.main (F := Ideal))) ⟨m', fun _ => 0, g'⟩ (fun r => ∀ c : Dev Cert.TotalRIdeal.nD,
          r.2.mem ((c.tc : Thread Cert.TotalRIdeal.nD Cert.TotalRIdeal.τ).loc Cert.TotalRIdeal.main_v0) = v0 c
          ∧ r.2.mem ((c.tc : Thread Cert.TotalRIdeal.nD Cert.TotalRIdeal.τ).loc Cert.TotalRIdeal.main_arg0) = m' ((c.tc : Thread Cert.TotalRIdeal.nD Cert.TotalRIdeal.τ).loc Cert.TotalRIdeal.main_arg0))

def bitexact_CastK_CastR [hCastK : Cert.CastK.Facts] [hCastR : Cert.CastR.Facts] : Prop :=
  ∀ (m : (ℓ : Loc Cert.CastK.nD Cert.CastK.τ Cert.CastK.sig) → Buf (Elt Bits) ℓ) (g : Dev Cert.CastK.nD → PrngReg)
    (m' : (ℓ : Loc Cert.CastR.nD Cert.CastR.τ Cert.CastR.sig) → Buf (Elt Bits) ℓ) (g' : Dev Cert.CastR.nD → PrngReg), Pre_CastK m →
    (∀ c : Dev Cert.CastK.nD,
      m' ((c.tc : Thread Cert.CastR.nD Cert.CastR.τ).loc Cert.CastR.main_arg0) = m ((c.tc : Thread Cert.CastK.nD Cert.CastK.τ).loc Cert.CastK.main_arg0)
      ∧ m' ((c.tc : Thread Cert.CastR.nD Cert.CastR.τ).loc Cert.CastR.main_arg1) = m ((c.tc : Thread Cert.CastK.nD Cert.CastK.τ).loc Cert.CastK.main_arg1)
      ∧ m' ((c.tc : Thread Cert.CastR.nD Cert.CastR.τ).loc Cert.CastR.main_arg2) = m ((c.tc : Thread Cert.CastK.nD Cert.CastK.τ).loc Cert.CastK.main_arg2)
      ∧ m' ((c.tc : Thread Cert.CastR.nD Cert.CastR.τ).loc Cert.CastR.main_arg3) = m ((c.tc : Thread Cert.CastK.nD Cert.CastK.τ).loc Cert.CastK.main_arg3)) →
    ∃ (v0 : (c : Dev Cert.CastK.nD) → Buf (Elt Bits) ((c.tc : Thread Cert.CastK.nD Cert.CastK.τ).loc Cert.CastK.main_v0_0)) (v1 : (c : Dev Cert.CastK.nD) → Buf (Elt Bits) ((c.tc : Thread Cert.CastK.nD Cert.CastK.τ).loc Cert.CastK.main_v0_1)) (v2 : (c : Dev Cert.CastK.nD) → Buf (Elt Bits) ((c.tc : Thread Cert.CastK.nD Cert.CastK.τ).loc Cert.CastK.main_v0_2)) (v3 : (c : Dev Cert.CastK.nD) → Buf (Elt Bits) ((c.tc : Thread Cert.CastK.nD Cert.CastK.τ).loc Cert.CastK.main_v0_3)),
      θ_run (Cert.CastK.defs (F := Bits)) (onTc (τ := Cert.CastK.τ) (Cert.CastK.main (F := Bits))) ⟨m, fun _ => 0, g⟩ (fun r => ∀ c : Dev Cert.CastK.nD,
          r.2.mem ((c.tc : Thread Cert.CastK.nD Cert.CastK.τ).loc Cert.CastK.main_v0_0) = v0 c
          ∧ r.2.mem ((c.tc : Thread Cert.CastK.nD Cert.CastK.τ).loc Cert.CastK.main_v0_1) = v1 c
          ∧ r.2.mem ((c.tc : Thread Cert.CastK.nD Cert.CastK.τ).loc Cert.CastK.main_v0_2) = v2 c
          ∧ r.2.mem ((c.tc : Thread Cert.CastK.nD Cert.CastK.τ).loc Cert.CastK.main_v0_3) = v3 c
          ∧ r.2.mem ((c.tc : Thread Cert.CastK.nD Cert.CastK.τ).loc Cert.CastK.main_arg0) = m ((c.tc : Thread Cert.CastK.nD Cert.CastK.τ).loc Cert.CastK.main_arg0)
          ∧ r.2.mem ((c.tc : Thread Cert.CastK.nD Cert.CastK.τ).loc Cert.CastK.main_arg1) = m ((c.tc : Thread Cert.CastK.nD Cert.CastK.τ).loc Cert.CastK.main_arg1)
          ∧ r.2.mem ((c.tc : Thread Cert.CastK.nD Cert.CastK.τ).loc Cert.CastK.main_arg2) = m ((c.tc : Thread Cert.CastK.nD Cert.CastK.τ).loc Cert.CastK.main_arg2)
          ∧ r.2.mem ((c.tc : Thread Cert.CastK.nD Cert.CastK.τ).loc Cert.CastK.main_arg3) = m ((c.tc : Thread Cert.CastK.nD Cert.CastK.τ).loc Cert.CastK.main_arg3))
      ∧ θ_run (Cert.CastR.defs (F := Bits)) (onTc (τ := Cert.CastR.τ) (Cert.CastR.main (F := Bits))) ⟨m', fun _ => 0, g'⟩ (fun r => ∀ c : Dev Cert.CastR.nD,
          r.2.mem ((c.tc : Thread Cert.CastR.nD Cert.CastR.τ).loc Cert.CastR.main_v0) = v0 c
          ∧ r.2.mem ((c.tc : Thread Cert.CastR.nD Cert.CastR.τ).loc Cert.CastR.main_v1) = v1 c
          ∧ r.2.mem ((c.tc : Thread Cert.CastR.nD Cert.CastR.τ).loc Cert.CastR.main_v2) = v2 c
          ∧ r.2.mem ((c.tc : Thread Cert.CastR.nD Cert.CastR.τ).loc Cert.CastR.main_v3) = v3 c
          ∧ r.2.mem ((c.tc : Thread Cert.CastR.nD Cert.CastR.τ).loc Cert.CastR.main_arg0) = m' ((c.tc : Thread Cert.CastR.nD Cert.CastR.τ).loc Cert.CastR.main_arg0)
          ∧ r.2.mem ((c.tc : Thread Cert.CastR.nD Cert.CastR.τ).loc Cert.CastR.main_arg1) = m' ((c.tc : Thread Cert.CastR.nD Cert.CastR.τ).loc Cert.CastR.main_arg1)
          ∧ r.2.mem ((c.tc : Thread Cert.CastR.nD Cert.CastR.τ).loc Cert.CastR.main_arg2) = m' ((c.tc : Thread Cert.CastR.nD Cert.CastR.τ).loc Cert.CastR.main_arg2)
          ∧ r.2.mem ((c.tc : Thread Cert.CastR.nD Cert.CastR.τ).loc Cert.CastR.main_arg3) = m' ((c.tc : Thread Cert.CastR.nD Cert.CastR.τ).loc Cert.CastR.main_arg3))

def preserves_ChipsK_ChipsKIdeal : Prop :=
  True

def algebraic_ChipsKIdeal_ChipsRIdeal_on_own_half [hChipsKIdeal : Cert.ChipsKIdeal.Facts] [hChipsRIdeal : Cert.ChipsRIdeal.Facts] [hOn_own_half : Cert.On_own_half.Facts] : Prop :=
  ∀ (m : (ℓ : Loc Cert.ChipsKIdeal.nD Cert.ChipsKIdeal.τ Cert.ChipsKIdeal.sig) → Buf (Elt Ideal) ℓ) (g : Dev Cert.ChipsKIdeal.nD → PrngReg)
    (m' : (ℓ : Loc Cert.ChipsRIdeal.nD Cert.ChipsRIdeal.τ Cert.ChipsRIdeal.sig) → Buf (Elt Ideal) ℓ) (g' : Dev Cert.ChipsRIdeal.nD → PrngReg), Pre_ChipsKIdeal m →
    (∀ c : Dev Cert.ChipsKIdeal.nD,
      m' ((c.tc : Thread Cert.ChipsRIdeal.nD Cert.ChipsRIdeal.τ).loc Cert.ChipsRIdeal.main_arg0) = m ((c.tc : Thread Cert.ChipsKIdeal.nD Cert.ChipsKIdeal.τ).loc Cert.ChipsKIdeal.main_arg0)
      ∧ m' ((c.tc : Thread Cert.ChipsRIdeal.nD Cert.ChipsRIdeal.τ).loc Cert.ChipsRIdeal.main_arg1) = m ((c.tc : Thread Cert.ChipsKIdeal.nD Cert.ChipsKIdeal.τ).loc Cert.ChipsKIdeal.main_arg1)) →
    ∃ (v0 : (c : Dev Cert.ChipsKIdeal.nD) → Buf (Elt Ideal) ((c.tc : Thread Cert.ChipsKIdeal.nD Cert.ChipsKIdeal.τ).loc Cert.ChipsKIdeal.main_v0)),
      θ_run (Cert.ChipsKIdeal.defs (F := Ideal)) (onTc (τ := Cert.ChipsKIdeal.τ) (Cert.ChipsKIdeal.main (F := Ideal))) ⟨m, fun _ => 0, g⟩ (fun r => ∀ c : Dev Cert.ChipsKIdeal.nD,
          (∀ i : (⟨3, ![2, 352, 1024]⟩ : Shape).Idx, (Cert.On_own_half.fn (F := Ideal) (m ((c.tc : Thread Cert.ChipsKIdeal.nD Cert.ChipsKIdeal.τ).loc Cert.ChipsKIdeal.main_arg0)) (m ((c.tc : Thread Cert.ChipsKIdeal.nD Cert.ChipsKIdeal.τ).loc Cert.ChipsKIdeal.main_arg1))) i = 1#1 → r.2.mem ((c.tc : Thread Cert.ChipsKIdeal.nD Cert.ChipsKIdeal.τ).loc Cert.ChipsKIdeal.main_v0) i = v0 c i)
          ∧ r.2.mem ((c.tc : Thread Cert.ChipsKIdeal.nD Cert.ChipsKIdeal.τ).loc Cert.ChipsKIdeal.main_arg0) = m ((c.tc : Thread Cert.ChipsKIdeal.nD Cert.ChipsKIdeal.τ).loc Cert.ChipsKIdeal.main_arg0)
          ∧ r.2.mem ((c.tc : Thread Cert.ChipsKIdeal.nD Cert.ChipsKIdeal.τ).loc Cert.ChipsKIdeal.main_arg1) = m ((c.tc : Thread Cert.ChipsKIdeal.nD Cert.ChipsKIdeal.τ).loc Cert.ChipsKIdeal.main_arg1))
      ∧ θ_run (Cert.ChipsRIdeal.defs (F := Ideal)) (onTc (τ := Cert.ChipsRIdeal.τ) (Cert.ChipsRIdeal.main (F := Ideal))) ⟨m', fun _ => 0, g'⟩ (fun r => ∀ c : Dev Cert.ChipsRIdeal.nD,
          (∀ i : (⟨3, ![2, 352, 1024]⟩ : Shape).Idx, (Cert.On_own_half.fn (F := Ideal) (m ((c.tc : Thread Cert.ChipsKIdeal.nD Cert.ChipsKIdeal.τ).loc Cert.ChipsKIdeal.main_arg0)) (m ((c.tc : Thread Cert.ChipsKIdeal.nD Cert.ChipsKIdeal.τ).loc Cert.ChipsKIdeal.main_arg1))) i = 1#1 → r.2.mem ((c.tc : Thread Cert.ChipsRIdeal.nD Cert.ChipsRIdeal.τ).loc Cert.ChipsRIdeal.main_v6) i = v0 c i)
          ∧ r.2.mem ((c.tc : Thread Cert.ChipsRIdeal.nD Cert.ChipsRIdeal.τ).loc Cert.ChipsRIdeal.main_arg0) = m' ((c.tc : Thread Cert.ChipsRIdeal.nD Cert.ChipsRIdeal.τ).loc Cert.ChipsRIdeal.main_arg0)
          ∧ r.2.mem ((c.tc : Thread Cert.ChipsRIdeal.nD Cert.ChipsRIdeal.τ).loc Cert.ChipsRIdeal.main_arg1) = m' ((c.tc : Thread Cert.ChipsRIdeal.nD Cert.ChipsRIdeal.τ).loc Cert.ChipsRIdeal.main_arg1))

def preserves_GradK_GradKIdeal : Prop :=
  True

def algebraic_GradKIdeal_GradRIdeal [hGradKIdeal : Cert.GradKIdeal.Facts] [hGradRIdeal : Cert.GradRIdeal.Facts] : Prop :=
  ∀ (m : (ℓ : Loc Cert.GradKIdeal.nD Cert.GradKIdeal.τ Cert.GradKIdeal.sig) → Buf (Elt Ideal) ℓ) (g : Dev Cert.GradKIdeal.nD → PrngReg)
    (m' : (ℓ : Loc Cert.GradRIdeal.nD Cert.GradRIdeal.τ Cert.GradRIdeal.sig) → Buf (Elt Ideal) ℓ) (g' : Dev Cert.GradRIdeal.nD → PrngReg), Pre_GradKIdeal m →
    (∀ c : Dev Cert.GradKIdeal.nD,
      m' ((c.tc : Thread Cert.GradRIdeal.nD Cert.GradRIdeal.τ).loc Cert.GradRIdeal.main_arg0) = m ((c.tc : Thread Cert.GradKIdeal.nD Cert.GradKIdeal.τ).loc Cert.GradKIdeal.main_arg0)
      ∧ m' ((c.tc : Thread Cert.GradRIdeal.nD Cert.GradRIdeal.τ).loc Cert.GradRIdeal.main_arg1) = m ((c.tc : Thread Cert.GradKIdeal.nD Cert.GradKIdeal.τ).loc Cert.GradKIdeal.main_arg1)
      ∧ m' ((c.tc : Thread Cert.GradRIdeal.nD Cert.GradRIdeal.τ).loc Cert.GradRIdeal.main_arg2) = m ((c.tc : Thread Cert.GradKIdeal.nD Cert.GradKIdeal.τ).loc Cert.GradKIdeal.main_arg2)
      ∧ m' ((c.tc : Thread Cert.GradRIdeal.nD Cert.GradRIdeal.τ).loc Cert.GradRIdeal.main_arg3) = m ((c.tc : Thread Cert.GradKIdeal.nD Cert.GradKIdeal.τ).loc Cert.GradKIdeal.main_arg3)
      ∧ m' ((c.tc : Thread Cert.GradRIdeal.nD Cert.GradRIdeal.τ).loc Cert.GradRIdeal.main_arg4) = m ((c.tc : Thread Cert.GradKIdeal.nD Cert.GradKIdeal.τ).loc Cert.GradKIdeal.main_arg4)
      ∧ m' ((c.tc : Thread Cert.GradRIdeal.nD Cert.GradRIdeal.τ).loc Cert.GradRIdeal.main_arg5) = m ((c.tc : Thread Cert.GradKIdeal.nD Cert.GradKIdeal.τ).loc Cert.GradKIdeal.main_arg5)) →
    ∃ (v0 : (c : Dev Cert.GradKIdeal.nD) → Buf (Elt Ideal) ((c.tc : Thread Cert.GradKIdeal.nD Cert.GradKIdeal.τ).loc Cert.GradKIdeal.main_v23_0)) (v1 : (c : Dev Cert.GradKIdeal.nD) → Buf (Elt Ideal) ((c.tc : Thread Cert.GradKIdeal.nD Cert.GradKIdeal.τ).loc Cert.GradKIdeal.main_v23_1)),
      θ_run (Cert.GradKIdeal.defs (F := Ideal)) (onTc (τ := Cert.GradKIdeal.τ) (Cert.GradKIdeal.main (F := Ideal))) ⟨m, fun _ => 0, g⟩ (fun r => ∀ c : Dev Cert.GradKIdeal.nD,
          r.2.mem ((c.tc : Thread Cert.GradKIdeal.nD Cert.GradKIdeal.τ).loc Cert.GradKIdeal.main_v23_0) = v0 c
          ∧ r.2.mem ((c.tc : Thread Cert.GradKIdeal.nD Cert.GradKIdeal.τ).loc Cert.GradKIdeal.main_v23_1) = v1 c
          ∧ r.2.mem ((c.tc : Thread Cert.GradKIdeal.nD Cert.GradKIdeal.τ).loc Cert.GradKIdeal.main_arg0) = m ((c.tc : Thread Cert.GradKIdeal.nD Cert.GradKIdeal.τ).loc Cert.GradKIdeal.main_arg0)
          ∧ r.2.mem ((c.tc : Thread Cert.GradKIdeal.nD Cert.GradKIdeal.τ).loc Cert.GradKIdeal.main_arg1) = m ((c.tc : Thread Cert.GradKIdeal.nD Cert.GradKIdeal.τ).loc Cert.GradKIdeal.main_arg1)
          ∧ r.2.mem ((c.tc : Thread Cert.GradKIdeal.nD Cert.GradKIdeal.τ).loc Cert.GradKIdeal.main_arg2) = m ((c.tc : Thread Cert.GradKIdeal.nD Cert.GradKIdeal.τ).loc Cert.GradKIdeal.main_arg2)
          ∧ r.2.mem ((c.tc : Thread Cert.GradKIdeal.nD Cert.GradKIdeal.τ).loc Cert.GradKIdeal.main_arg3) = m ((c.tc : Thread Cert.GradKIdeal.nD Cert.GradKIdeal.τ).loc Cert.GradKIdeal.main_arg3)
          ∧ r.2.mem ((c.tc : Thread Cert.GradKIdeal.nD Cert.GradKIdeal.τ).loc Cert.GradKIdeal.main_arg4) = m ((c.tc : Thread Cert.GradKIdeal.nD Cert.GradKIdeal.τ).loc Cert.GradKIdeal.main_arg4)
          ∧ r.2.mem ((c.tc : Thread Cert.GradKIdeal.nD Cert.GradKIdeal.τ).loc Cert.GradKIdeal.main_arg5) = m ((c.tc : Thread Cert.GradKIdeal.nD Cert.GradKIdeal.τ).loc Cert.GradKIdeal.main_arg5))
      ∧ θ_run (Cert.GradRIdeal.defs (F := Ideal)) (onTc (τ := Cert.GradRIdeal.τ) (Cert.GradRIdeal.main (F := Ideal))) ⟨m', fun _ => 0, g'⟩ (fun r => ∀ c : Dev Cert.GradRIdeal.nD,
          r.2.mem ((c.tc : Thread Cert.GradRIdeal.nD Cert.GradRIdeal.τ).loc Cert.GradRIdeal.main_v32) = v0 c
          ∧ r.2.mem ((c.tc : Thread Cert.GradRIdeal.nD Cert.GradRIdeal.τ).loc Cert.GradRIdeal.main_v35) = v1 c
          ∧ r.2.mem ((c.tc : Thread Cert.GradRIdeal.nD Cert.GradRIdeal.τ).loc Cert.GradRIdeal.main_arg0) = m' ((c.tc : Thread Cert.GradRIdeal.nD Cert.GradRIdeal.τ).loc Cert.GradRIdeal.main_arg0)
          ∧ r.2.mem ((c.tc : Thread Cert.GradRIdeal.nD Cert.GradRIdeal.τ).loc Cert.GradRIdeal.main_arg1) = m' ((c.tc : Thread Cert.GradRIdeal.nD Cert.GradRIdeal.τ).loc Cert.GradRIdeal.main_arg1)
          ∧ r.2.mem ((c.tc : Thread Cert.GradRIdeal.nD Cert.GradRIdeal.τ).loc Cert.GradRIdeal.main_arg2) = m' ((c.tc : Thread Cert.GradRIdeal.nD Cert.GradRIdeal.τ).loc Cert.GradRIdeal.main_arg2)
          ∧ r.2.mem ((c.tc : Thread Cert.GradRIdeal.nD Cert.GradRIdeal.τ).loc Cert.GradRIdeal.main_arg3) = m' ((c.tc : Thread Cert.GradRIdeal.nD Cert.GradRIdeal.τ).loc Cert.GradRIdeal.main_arg3)
          ∧ r.2.mem ((c.tc : Thread Cert.GradRIdeal.nD Cert.GradRIdeal.τ).loc Cert.GradRIdeal.main_arg4) = m' ((c.tc : Thread Cert.GradRIdeal.nD Cert.GradRIdeal.τ).loc Cert.GradRIdeal.main_arg4)
          ∧ r.2.mem ((c.tc : Thread Cert.GradRIdeal.nD Cert.GradRIdeal.τ).loc Cert.GradRIdeal.main_arg5) = m' ((c.tc : Thread Cert.GradRIdeal.nD Cert.GradRIdeal.τ).loc Cert.GradRIdeal.main_arg5))

def bitexact_PackK_PackR [hPackK : Cert.PackK.Facts] [hPackR : Cert.PackR.Facts] : Prop :=
  ∀ (m : (ℓ : Loc Cert.PackK.nD Cert.PackK.τ Cert.PackK.sig) → Buf (Elt Bits) ℓ) (g : Dev Cert.PackK.nD → PrngReg)
    (m' : (ℓ : Loc Cert.PackR.nD Cert.PackR.τ Cert.PackR.sig) → Buf (Elt Bits) ℓ) (g' : Dev Cert.PackR.nD → PrngReg), Pre_PackK m →
    (∀ c : Dev Cert.PackK.nD,
      m ((c.tc : Thread Cert.PackK.nD Cert.PackK.τ).loc Cert.PackK.main_arg0) = Layout.block ⟨2, ![80, 1024]⟩ ⟨2, ![640, 1024]⟩ 0 8 c (m' (((0 : Dev Cert.PackR.nD).tc : Thread Cert.PackR.nD Cert.PackR.τ).loc Cert.PackR.main_arg0))) →
    ∃ (v0 : Buf (Elt Bits) (((0 : Dev Cert.PackR.nD).tc : Thread Cert.PackR.nD Cert.PackR.τ).loc Cert.PackR.main_v0)),
      θ_run (Cert.PackK.defs (F := Bits)) (onTc (τ := Cert.PackK.τ) (Cert.PackK.main (F := Bits))) ⟨m, fun _ => 0, g⟩ (fun r => ∀ c : Dev Cert.PackK.nD,
          r.2.mem ((c.tc : Thread Cert.PackK.nD Cert.PackK.τ).loc Cert.PackK.main_v1) = v0
          ∧ r.2.mem ((c.tc : Thread Cert.PackK.nD Cert.PackK.τ).loc Cert.PackK.main_arg0) = m ((c.tc : Thread Cert.PackK.nD Cert.PackK.τ).loc Cert.PackK.main_arg0))
      ∧ θ_run (Cert.PackR.defs (F := Bits)) (onTc (τ := Cert.PackR.τ) (Cert.PackR.main (F := Bits))) ⟨m', fun _ => 0, g'⟩ (fun r =>
          r.2.mem (((0 : Dev Cert.PackR.nD).tc : Thread Cert.PackR.nD Cert.PackR.τ).loc Cert.PackR.main_v0) = v0
          ∧ r.2.mem (((0 : Dev Cert.PackR.nD).tc : Thread Cert.PackR.nD Cert.PackR.τ).loc Cert.PackR.main_arg0) = m' (((0 : Dev Cert.PackR.nD).tc : Thread Cert.PackR.nD Cert.PackR.τ).loc Cert.PackR.main_arg0))

def Claim : Prop :=
  ∃ (hLossK : Cert.LossK.Facts) (hLossKIdeal : Cert.LossKIdeal.Facts) (hLossRIdeal : Cert.LossRIdeal.Facts) (hFfnK : Cert.FfnK.Facts) (hFfnKIdeal : Cert.FfnKIdeal.Facts) (hFfnRIdeal : Cert.FfnRIdeal.Facts) (hMixK : Cert.MixK.Facts) (hMixKIdeal : Cert.MixKIdeal.Facts) (hMixRIdeal : Cert.MixRIdeal.Facts) (hUpK : Cert.UpK.Facts) (hUpKIdeal : Cert.UpKIdeal.Facts) (hUpRIdeal : Cert.UpRIdeal.Facts) (hFwdK : Cert.FwdK.Facts) (hFwdKIdeal : Cert.FwdKIdeal.Facts) (hFwdRIdeal : Cert.FwdRIdeal.Facts) (hSwapK : Cert.SwapK.Facts) (hSwapR : Cert.SwapR.Facts) (hDownK : Cert.DownK.Facts) (hDownKIdeal : Cert.DownKIdeal.Facts) (hDownRIdeal : Cert.DownRIdeal.Facts) (hAdamK : Cert.AdamK.Facts) (hAdamKIdeal : Cert.AdamKIdeal.Facts) (hAdamRIdeal : Cert.AdamRIdeal.Facts) (hTurnedK : Cert.TurnedK.Facts) (hTurnedKIdeal : Cert.TurnedKIdeal.Facts) (hTurnedRIdeal : Cert.TurnedRIdeal.Facts) (hTotalK : Cert.TotalK.Facts) (hTotalKIdeal : Cert.TotalKIdeal.Facts) (hTotalRIdeal : Cert.TotalRIdeal.Facts) (hCastK : Cert.CastK.Facts) (hCastR : Cert.CastR.Facts) (hChipsK : Cert.ChipsK.Facts) (hChipsKIdeal : Cert.ChipsKIdeal.Facts) (hChipsRIdeal : Cert.ChipsRIdeal.Facts) (hGradK : Cert.GradK.Facts) (hGradKIdeal : Cert.GradKIdeal.Facts) (hGradRIdeal : Cert.GradRIdeal.Facts) (hPackK : Cert.PackK.Facts) (hPackR : Cert.PackR.Facts) (hPre_finite_loss : Cert.Pre_finite_loss.Facts) (hPre_finite_ffn : Cert.Pre_finite_ffn.Facts) (hPre_finite_mixer : Cert.Pre_finite_mixer.Facts) (hPre_finite_up : Cert.Pre_finite_up.Facts) (hPre_finite_mixed : Cert.Pre_finite_mixed.Facts) (hOn_own_half : Cert.On_own_half.Facts),
    quiescent_LossK (hLossK := hLossK)
    ∧ quiescent_LossKIdeal (hLossKIdeal := hLossKIdeal)
    ∧ quiescent_LossKIdeal_pre_finite_loss (hLossKIdeal := hLossKIdeal) (hPre_finite_loss := hPre_finite_loss)
    ∧ quiescent_LossRIdeal (hLossRIdeal := hLossRIdeal)
    ∧ quiescent_LossRIdeal_pre_finite_loss (hLossRIdeal := hLossRIdeal) (hPre_finite_loss := hPre_finite_loss)
    ∧ quiescent_FfnK (hFfnK := hFfnK)
    ∧ quiescent_FfnKIdeal (hFfnKIdeal := hFfnKIdeal)
    ∧ quiescent_FfnKIdeal_pre_finite_ffn (hFfnKIdeal := hFfnKIdeal) (hPre_finite_ffn := hPre_finite_ffn)
    ∧ quiescent_FfnRIdeal (hFfnRIdeal := hFfnRIdeal)
    ∧ quiescent_FfnRIdeal_pre_finite_ffn (hFfnRIdeal := hFfnRIdeal) (hPre_finite_ffn := hPre_finite_ffn)
    ∧ quiescent_MixK (hMixK := hMixK)
    ∧ quiescent_MixKIdeal (hMixKIdeal := hMixKIdeal)
    ∧ quiescent_MixKIdeal_pre_finite_mixer (hMixKIdeal := hMixKIdeal) (hPre_finite_mixer := hPre_finite_mixer)
    ∧ quiescent_MixRIdeal (hMixRIdeal := hMixRIdeal)
    ∧ quiescent_MixRIdeal_pre_finite_mixer (hMixRIdeal := hMixRIdeal) (hPre_finite_mixer := hPre_finite_mixer)
    ∧ quiescent_UpK (hUpK := hUpK)
    ∧ quiescent_UpKIdeal (hUpKIdeal := hUpKIdeal)
    ∧ quiescent_UpKIdeal_pre_finite_up (hUpKIdeal := hUpKIdeal) (hPre_finite_up := hPre_finite_up)
    ∧ quiescent_UpRIdeal (hUpRIdeal := hUpRIdeal)
    ∧ quiescent_UpRIdeal_pre_finite_up (hUpRIdeal := hUpRIdeal) (hPre_finite_up := hPre_finite_up)
    ∧ quiescent_FwdK (hFwdK := hFwdK)
    ∧ quiescent_FwdKIdeal (hFwdKIdeal := hFwdKIdeal)
    ∧ quiescent_FwdKIdeal_pre_finite_mixed (hFwdKIdeal := hFwdKIdeal) (hPre_finite_mixed := hPre_finite_mixed)
    ∧ quiescent_FwdRIdeal (hFwdRIdeal := hFwdRIdeal)
    ∧ quiescent_FwdRIdeal_pre_finite_mixed (hFwdRIdeal := hFwdRIdeal) (hPre_finite_mixed := hPre_finite_mixed)
    ∧ quiescent_SwapK (hSwapK := hSwapK)
    ∧ quiescent_SwapR (hSwapR := hSwapR)
    ∧ quiescent_DownK (hDownK := hDownK)
    ∧ quiescent_DownKIdeal (hDownKIdeal := hDownKIdeal)
    ∧ quiescent_DownRIdeal (hDownRIdeal := hDownRIdeal)
    ∧ quiescent_AdamK (hAdamK := hAdamK)
    ∧ quiescent_AdamKIdeal (hAdamKIdeal := hAdamKIdeal)
    ∧ quiescent_AdamRIdeal (hAdamRIdeal := hAdamRIdeal)
    ∧ quiescent_TurnedK (hTurnedK := hTurnedK)
    ∧ quiescent_TurnedKIdeal (hTurnedKIdeal := hTurnedKIdeal)
    ∧ quiescent_TurnedRIdeal (hTurnedRIdeal := hTurnedRIdeal)
    ∧ quiescent_TotalK (hTotalK := hTotalK)
    ∧ quiescent_TotalKIdeal (hTotalKIdeal := hTotalKIdeal)
    ∧ quiescent_TotalRIdeal (hTotalRIdeal := hTotalRIdeal)
    ∧ quiescent_CastK (hCastK := hCastK)
    ∧ quiescent_CastR (hCastR := hCastR)
    ∧ quiescent_ChipsK (hChipsK := hChipsK)
    ∧ quiescent_ChipsKIdeal (hChipsKIdeal := hChipsKIdeal)
    ∧ quiescent_ChipsRIdeal (hChipsRIdeal := hChipsRIdeal)
    ∧ quiescent_GradK (hGradK := hGradK)
    ∧ quiescent_GradKIdeal (hGradKIdeal := hGradKIdeal)
    ∧ quiescent_GradRIdeal (hGradRIdeal := hGradRIdeal)
    ∧ quiescent_PackK (hPackK := hPackK)
    ∧ quiescent_PackR (hPackR := hPackR)
    ∧ preserves_LossK_LossKIdeal
    ∧ algebraic_LossKIdeal_LossRIdeal_pre_finite_loss (hLossKIdeal := hLossKIdeal) (hLossRIdeal := hLossRIdeal) (hPre_finite_loss := hPre_finite_loss)
    ∧ preserves_FfnK_FfnKIdeal
    ∧ algebraic_FfnKIdeal_FfnRIdeal_pre_finite_ffn (hFfnKIdeal := hFfnKIdeal) (hFfnRIdeal := hFfnRIdeal) (hPre_finite_ffn := hPre_finite_ffn)
    ∧ preserves_MixK_MixKIdeal
    ∧ algebraic_MixKIdeal_MixRIdeal_pre_finite_mixer (hMixKIdeal := hMixKIdeal) (hMixRIdeal := hMixRIdeal) (hPre_finite_mixer := hPre_finite_mixer)
    ∧ preserves_UpK_UpKIdeal
    ∧ algebraic_UpKIdeal_UpRIdeal_pre_finite_up (hUpKIdeal := hUpKIdeal) (hUpRIdeal := hUpRIdeal) (hPre_finite_up := hPre_finite_up)
    ∧ preserves_FwdK_FwdKIdeal
    ∧ algebraic_FwdKIdeal_FwdRIdeal_pre_finite_mixed (hFwdKIdeal := hFwdKIdeal) (hFwdRIdeal := hFwdRIdeal) (hPre_finite_mixed := hPre_finite_mixed)
    ∧ bitexact_SwapK_SwapR (hSwapK := hSwapK) (hSwapR := hSwapR)
    ∧ preserves_DownK_DownKIdeal
    ∧ algebraic_DownKIdeal_DownRIdeal (hDownKIdeal := hDownKIdeal) (hDownRIdeal := hDownRIdeal)
    ∧ preserves_AdamK_AdamKIdeal
    ∧ algebraic_AdamKIdeal_AdamRIdeal (hAdamKIdeal := hAdamKIdeal) (hAdamRIdeal := hAdamRIdeal)
    ∧ preserves_TurnedK_TurnedKIdeal
    ∧ algebraic_TurnedKIdeal_TurnedRIdeal (hTurnedKIdeal := hTurnedKIdeal) (hTurnedRIdeal := hTurnedRIdeal)
    ∧ preserves_TotalK_TotalKIdeal
    ∧ algebraic_TotalKIdeal_TotalRIdeal (hTotalKIdeal := hTotalKIdeal) (hTotalRIdeal := hTotalRIdeal)
    ∧ bitexact_CastK_CastR (hCastK := hCastK) (hCastR := hCastR)
    ∧ preserves_ChipsK_ChipsKIdeal
    ∧ algebraic_ChipsKIdeal_ChipsRIdeal_on_own_half (hChipsKIdeal := hChipsKIdeal) (hChipsRIdeal := hChipsRIdeal) (hOn_own_half := hOn_own_half)
    ∧ preserves_GradK_GradKIdeal
    ∧ algebraic_GradKIdeal_GradRIdeal (hGradKIdeal := hGradKIdeal) (hGradRIdeal := hGradRIdeal)
    ∧ bitexact_PackK_PackR (hPackK := hPackK) (hPackR := hPackR)
-- ==== On_own_half.lean ====
abbrev S4x352x1024 : Shape := ⟨3, ![4, 352, 1024]⟩
abbrev S3x352x1024 : Shape := ⟨3, ![3, 352, 1024]⟩
abbrev S2x352x1024 : Shape := ⟨3, ![2, 352, 1024]⟩
abbrev S_ : Shape := ⟨0, ![]⟩

class Facts : Prop where
  bcast_S_S2x352x1024 : S_.BroadcastsInDim S2x352x1024 (![] : Fin 0 → Fin S2x352x1024.rank)

variable [Facts]

def fn {F : FTy → Type} [FloatOps F] (main_arg0 : FVec F S4x352x1024 .bf16) (main_arg1 : FVec F S3x352x1024 .bf16) : IVec S2x352x1024 1 :=
  let main_v0 : IVec S2x352x1024 32 := iotaInDim S2x352x1024 32 0
  let main_c : IVec S_ 32 := constantI S_ 32 1#32
  let main_v1 : IVec S2x352x1024 32 := broadcastInDim S2x352x1024 ![] bcast_S_S2x352x1024 main_c
  let main_v2 : IVec S2x352x1024 1 := cmpi .slt main_v0 main_v1
  main_v2
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_loss.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2816x1024 .f32) (main_arg5 : FVec F S1024 .f32) (main_arg6 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_mixed.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4x128x128 .f32) (main_arg5 : FVec F S1x512 .f32) (main_arg6 : FVec F S1024x1024 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2048 .f32) (main_arg3 : FVec F S3x512 .f32) (main_arg4 : FVec F S4x128x128 .f32) (main_arg5 : FVec F S1x512 .f32) (main_arg6 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_v13 main_v16
-- ==== Pre_finite_mixer.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S4x128x128 .f32) (main_arg5 : FVec F S1x512 .f32) (main_arg6 : FVec F S1024x1024 .f32) (main_arg7 : FVec F S4096x1024 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1x1024 .f32) (main_arg2 : FVec F S1024x2048 .f32) (main_arg3 : FVec F S3x512 .f32) (main_arg4 : FVec F S4x128x128 .f32) (main_arg5 : FVec F S1x512 .f32) (main_arg6 : FVec F S1024x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_v13 main_v16
-- ==== Pre_finite_up.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x2816 .f32) (main_arg3 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_v13 main_v16
-- ==== LossK.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S1 : Shape := ⟨1, ![1]⟩
abbrev S512 : Shape := ⟨1, ![512]⟩
abbrev S512x1 : Shape := ⟨2, ![512, 1]⟩

abbrev nBuf : Space → Nat
  | .hbm => 42
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .bf16⟩
  | .hbm, ⟨37, _⟩ => ⟨S2816x1024, .bf16⟩
  | .hbm, ⟨38, _⟩ => ⟨S1x1024, .f32⟩
  | .hbm, ⟨39, _⟩ => ⟨S4096x1024, .f32⟩
  | .hbm, ⟨40, _⟩ => ⟨S1x1024, .f32⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x1024, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S1x1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_cst_13 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_cst_15 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== FfnK.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x5632 : Shape := ⟨2, ![4096, 5632]⟩
abbrev S4096x2048 : Shape := ⟨2, ![4096, 2048]⟩
abbrev S256x1024 : Shape := ⟨2, ![256, 1024]⟩
abbrev S256x2816 : Shape := ⟨2, ![256, 2816]⟩
abbrev S256x5632 : Shape := ⟨2, ![256, 5632]⟩
abbrev S256x2048 : Shape := ⟨2, ![256, 2048]⟩
abbrev S3 : Shape := ⟨1, ![3]⟩
abbrev S1 : Shape := ⟨1, ![1]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩

abbrev nBuf : Space → Nat
  | .hbm => 36
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S4096x1024, .f32⟩
  | .hbm, ⟨33, _⟩ => ⟨S4096x5632, .bf16⟩
  | .hbm, ⟨34, _⟩ => ⟨S4096x2048, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x2048, .bf16⟩
  | .local _ .vmem, ⟨14, _⟩ => ⟨S256x2048, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S4096x5632 : Shape := ⟨2, ![4096, 5632]⟩
abbrev S4096x2048 : Shape := ⟨2, ![4096, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S1x1024, .f32⟩
  | .hbm, ⟨93, _⟩ => ⟨S4096x5632, .f32⟩
  | .hbm, ⟨94, _⟩ => ⟨S4096x5632, .bf16⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S4096x2048, .f32⟩
  | .hbm, ⟨99, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== MixK.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S2048x1024 : Shape := ⟨2, ![2048, 1024]⟩
abbrev S4x256x1024 : Shape := ⟨3, ![4, 256, 1024]⟩
abbrev S_ : Shape := ⟨0, ![]⟩
abbrev S4x288x1024 : Shape := ⟨3, ![4, 288, 1024]⟩
abbrev S1152x1024 : Shape := ⟨2, ![1152, 1024]⟩
abbrev S1024 : Shape := ⟨1, ![1024]⟩
abbrev S4096 : Shape := ⟨1, ![4096]⟩
abbrev S4096x1 : Shape := ⟨2, ![4096, 1]⟩
abbrev S4096x2048 : Shape := ⟨2, ![4096, 2048]⟩
abbrev S512x1024 : Shape := ⟨2, ![512, 1024]⟩
abbrev S512x2048 : Shape := ⟨2, ![512, 2048]⟩
abbrev S32x2048 : Shape := ⟨2, ![32, 2048]⟩
abbrev S544x512 : Shape := ⟨2, ![544, 512]⟩
abbrev S520x512 : Shape := ⟨2, ![520, 512]⟩
abbrev S3x544x128 : Shape := ⟨3, ![3, 544, 128]⟩
abbrev S5 : Shape := ⟨1, ![5]⟩
abbrev S1 : Shape := ⟨1, ![1]⟩
abbrev S256x1024 : Shape := ⟨2, ![256, 1024]⟩
abbrev S8x512 : Shape := ⟨2, ![8, 512]⟩
abbrev S32x512 : Shape := ⟨2, ![32, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S536x128 : Shape := ⟨2, ![536, 128]⟩
abbrev S1x536x128 : Shape := ⟨3, ![1, 536, 128]⟩
abbrev S1x512x128 : Shape := ⟨3, ![1, 512, 128]⟩
abbrev S1x528x128 : Shape := ⟨3, ![1, 528, 128]⟩
abbrev S528x128 : Shape := ⟨2, ![528, 128]⟩
abbrev S1x520x128 : Shape := ⟨3, ![1, 520, 128]⟩
abbrev S520x128 : Shape := ⟨2, ![520, 128]⟩

abbrev nBuf : Space → Nat
  | .hbm => 43
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S1x512, .f32⟩
  | .hbm, ⟨6, _⟩ => ⟨S1024x1024, .f32⟩
  | .hbm, ⟨7, _⟩ => ⟨S4096x1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S4x256x1024, .bf16⟩
  | .hbm, ⟨12, _⟩ => ⟨S_, .i32⟩
  | .hbm, ⟨13, _⟩ => ⟨S_, .bf16⟩
  | .hbm, ⟨14, _⟩ => ⟨S4x288x1024, .bf16⟩
  | .hbm, ⟨15, _⟩ => ⟨S1152x1024, .bf16⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x2048, .bf16⟩
  | .hbm, ⟨35, _⟩ => ⟨S4096x1024, .f32⟩
  | .hbm, ⟨36, _⟩ => ⟨S4096x2048, .bf16⟩
  | .hbm, ⟨37, _⟩ => ⟨S4096x1024, .bf16⟩
  | .hbm, ⟨38, _⟩ => ⟨S4096x1024, .bf16⟩
  | .hbm, ⟨39, _⟩ => ⟨S1x1024, .f32⟩
  | .hbm, ⟨40, _⟩ => ⟨S3x512, .f32⟩
  | .hbm, ⟨41, _⟩ => ⟨S1x512, .f32⟩
  | .hbm, ⟨42, _⟩ => ⟨S4x128x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S32x2048, .bf16⟩
  | .local _ .vmem, ⟨8, _⟩ => ⟨S32x2048, .bf16⟩
  | .local _ .vmem, ⟨9, _⟩ => ⟨S3x512, .f32⟩
  | .local _ .vmem, ⟨10, _⟩ => ⟨S4x128x128, .f32⟩
  | .local _ .vmem, ⟨11, _⟩ => ⟨S1x512, .f32⟩
  | .local _ .vmem, ⟨12, _⟩ => ⟨S512x1024, .f32⟩
  | .local _ .vmem, ⟨13, _⟩ => ⟨S512x1024, .f32⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S3x512, .f32⟩
  | .local _ .vmem, ⟨22, _⟩ => ⟨S1x512, .f32⟩
  | .local _ .vmem, ⟨23, _⟩ => ⟨S4x128x128, .f32⟩
  | .local _ .vmem, ⟨24, _⟩ => ⟨S2048x1024, .bf16⟩
  | .local _ .vmem, ⟨25, _⟩ => ⟨S1024x1024, .bf16⟩
  | .local _ .vmem, ⟨26, _⟩ => ⟨S544x512, .f32⟩
  | .local _ .vmem, ⟨27, _⟩ => ⟨S544x512, .f32⟩
  | .local _ .vmem, ⟨28, _⟩ => ⟨S520x512, .f32⟩
  | .local _ .vmem, ⟨29, _⟩ => ⟨S544x512, .f32⟩
  | .local _ .vmem, ⟨30, _⟩ => ⟨S3x544x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_v22_5 : Ref sig .tc := ⟨.hbm, 40, rfl⟩
abbrev main_v22_6 : Ref sig .tc := ⟨.hbm, 41, rfl⟩
abbrev main_v22_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRIdeal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096x2048 : Shape := ⟨2, ![4096, 2048]⟩
abbrev S1024 : Shape := ⟨1, ![1024]⟩
abbrev S4096 : Shape := ⟨1, ![4096]⟩
abbrev S4096x1 : Shape := ⟨2, ![4096, 1]⟩
abbrev S4096x512 : Shape := ⟨2, ![4096, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩
abbrev S4x4096x128 : Shape := ⟨3, ![4, 4096, 128]⟩

abbrev nBuf : Space → Nat
  | .hbm => 351
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S4096x1024, .f32⟩
  | 8 => ⟨S_, .f32⟩
  | 9 => ⟨S4096x2048, .f32⟩
  | 10 => ⟨S1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x2048, .f32⟩
  | 32 => ⟨S4096x2048, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S_, .f32⟩
  | 39 => ⟨S2x512, .f32⟩
  | 40 => ⟨S4098x512, .f32⟩
  | 41 => ⟨S_, .f32⟩
  | 42 => ⟨S2x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S1x512, .f32⟩
  | 53 => ⟨S512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S4096x512, .f32⟩
  | 67 => ⟨S4096x4x128, .f32⟩
  | 68 => ⟨S_, .f32⟩
  | 69 => ⟨S_, .f32⟩
  | 70 => ⟨S4096x4x128, .f32⟩
  | 71 => ⟨S4096, .f32⟩
  | 72 => ⟨S_, .f32⟩
  | 73 => ⟨S4096, .f32⟩
  | 74 => ⟨S4096, .f32⟩
  | 75 => ⟨S4096x1x128, .f32⟩
  | 76 => ⟨S4096x128, .f32⟩
  | 77 => ⟨S_, .f32⟩
  | 78 => ⟨S2x128, .f32⟩
  | 79 => ⟨S4094x128, .f32⟩
  | 80 => ⟨S4096x128, .f32⟩
  | 81 => ⟨S_, .f32⟩
  | 82 => ⟨S2x128, .f32⟩
  | 83 => ⟨S_, .f32⟩
  | 84 => ⟨S4096, .f32⟩
  | 85 => ⟨S4096, .f32⟩
  | 86 => ⟨S4096x1, .f32⟩
  | 87 => ⟨S4096x128, .f32⟩
  | 88 => ⟨S4096x128, .f32⟩
  | 89 => ⟨S4096x128, .f32⟩
  | 90 => ⟨S4096x1x128, .f32⟩
  | 91 => ⟨S4096x128, .f32⟩
  | 92 => ⟨S4096x128, .f32⟩
  | 93 => ⟨S4096x1x128, .f32⟩
  | 94 => ⟨S4096x128, .f32⟩
  | 95 => ⟨S_, .f32⟩
  | 96 => ⟨S4x128, .f32⟩
  | 97 => ⟨S4092x128, .f32⟩
  | 98 => ⟨S4096x128, .f32⟩
  | 99 => ⟨S_, .f32⟩
  | 100 => ⟨S4x128, .f32⟩
  | 101 => ⟨S_, .f32⟩
  | 102 => ⟨S4096, .f32⟩
  | 103 => ⟨S4096, .f32⟩
  | 104 => ⟨S4096x1, .f32⟩
  | 105 => ⟨S4096x128, .f32⟩
  | 106 => ⟨S4096x128, .f32⟩
  | 107 => ⟨S4096x128, .f32⟩
  | 108 => ⟨S4096x1x128, .f32⟩
  | 109 => ⟨S4096x128, .f32⟩
  | 110 => ⟨S4096x128, .f32⟩
  | 111 => ⟨S4096x1x128, .f32⟩
  | 112 => ⟨S4096x128, .f32⟩
  | 113 => ⟨S_, .f32⟩
  | 114 => ⟨S8x128, .f32⟩
  | 115 => ⟨S4088x128, .f32⟩
  | 116 => ⟨S4096x128, .f32⟩
  | 117 => ⟨S_, .f32⟩
  | 118 => ⟨S8x128, .f32⟩
  | 119 => ⟨S_, .f32⟩
  | 120 => ⟨S4096, .f32⟩
  | 121 => ⟨S4096, .f32⟩
  | 122 => ⟨S4096x1, .f32⟩
  | 123 => ⟨S4096x128, .f32⟩
  | 124 => ⟨S4096x128, .f32⟩
  | 125 => ⟨S4096x128, .f32⟩
  | 126 => ⟨S4096x1x128, .f32⟩
  | 127 => ⟨S4096x128, .f32⟩
  | _ => ⟨S4096x1024, .f32⟩

abbrev hbmTy0_1 (i : Nat) : BufTy := match i % 128 with
  | 0 => ⟨S4096x128, .f32⟩
  | 1 => ⟨S4096x1x128, .f32⟩
  | 2 => ⟨S4096x128, .f32⟩
  | 3 => ⟨S_, .f32⟩
  | 4 => ⟨S16x128, .f32⟩
  | 5 => ⟨S4080x128, .f32⟩
  | 6 => ⟨S4096x128, .f32⟩
  | 7 => ⟨S_, .f32⟩
  | 8 => ⟨S16x128, .f32⟩
  | 9 => ⟨S_, .f32⟩
  | 10 => ⟨S4096, .f32⟩
  | 11 => ⟨S4096, .f32⟩
  | 12 => ⟨S4096x1, .f32⟩
  | 13 => ⟨S4096x128, .f32⟩
  | 14 => ⟨S4096x128, .f32⟩
  | 15 => ⟨S4096x128, .f32⟩
  | 16 => ⟨S4096x1x128, .f32⟩
  | 17 => ⟨S4096x128, .f32⟩
  | 18 => ⟨S4096x128, .f32⟩
  | 19 => ⟨S4096x1x128, .f32⟩
  | 20 => ⟨S4096x1x128, .f32⟩
  | 21 => ⟨S4096x1x128, .f32⟩
  | 22 => ⟨S4096x1x128, .f32⟩
  | 23 => ⟨S4096x4x128, .f32⟩
  | 24 => ⟨S4x128x4096, .f32⟩
  | 25 => ⟨S4096x4x128, .f32⟩
  | 26 => ⟨S4096x512, .f32⟩
  | 27 => ⟨S512, .f32⟩
  | 28 => ⟨S1x512, .f32⟩
  | 29 => ⟨S4096x512, .f32⟩
  | 30 => ⟨S4096x512, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x512, .f32⟩
  | 37 => ⟨S4096x512, .f32⟩
  | 38 => ⟨S4096x512, .f32⟩
  | 39 => ⟨S_, .f32⟩
  | 40 => ⟨S512, .f32⟩
  | 41 => ⟨S1x512, .f32⟩
  | 42 => ⟨S4096x512, .f32⟩
  | 43 => ⟨S4096x512, .f32⟩
  | 44 => ⟨S_, .f32⟩
  | 45 => ⟨S512, .f32⟩
  | 46 => ⟨S1x512, .f32⟩
  | 47 => ⟨S4096x4x128, .f32⟩
  | 48 => ⟨S4x128x4096, .f32⟩
  | 49 => ⟨S4x4096x128, .f32⟩
  | 50 => ⟨S4096x4x128, .f32⟩
  | 51 => ⟨S4x128x128, .f32⟩
  | 52 => ⟨S4x128x128, .f32⟩
  | 53 => ⟨S4096x1x128, .f32⟩
  | 54 => ⟨S4096x128, .f32⟩
  | 55 => ⟨S4096x1x128, .f32⟩
  | 56 => ⟨S4096x128, .f32⟩
  | 57 => ⟨S4096x1x128, .f32⟩
  | 58 => ⟨S4096x128, .f32⟩
  | 59 => ⟨S4096x1x128, .f32⟩
  | 60 => ⟨S4096x128, .f32⟩
  | 61 => ⟨S4096x128, .f32⟩
  | 62 => ⟨S4096x1x128, .f32⟩
  | 63 => ⟨S_, .f32⟩
  | 64 => ⟨S4096x4x128, .f32⟩
  | 65 => ⟨S4096x128, .f32⟩
  | 66 => ⟨S4096x128, .f32⟩
  | 67 => ⟨S4096x128, .f32⟩
  | 68 => ⟨S16x128, .f32⟩
  | 69 => ⟨S4080x128, .f32⟩
  | 70 => ⟨S_, .f32⟩
  | 71 => ⟨S4096x128, .f32⟩
  | 72 => ⟨S4096x128, .f32⟩
  | 73 => ⟨S4096x1x128, .f32⟩
  | 74 => ⟨S_, .f32⟩
  | 75 => ⟨S4096x4x128, .f32⟩
  | 76 => ⟨S4096x128, .f32⟩
  | 77 => ⟨S4096x1x128, .f32⟩
  | 78 => ⟨S_, .f32⟩
  | 79 => ⟨S4096x4x128, .f32⟩
  | 80 => ⟨S4096x4x128, .f32⟩
  | 81 => ⟨S4096x128, .f32⟩
  | 82 => ⟨S4096x128, .f32⟩
  | 83 => ⟨S4096x128, .f32⟩
  | 84 => ⟨S8x128, .f32⟩
  | 85 => ⟨S4088x128, .f32⟩
  | 86 => ⟨S_, .f32⟩
  | 87 => ⟨S4096x128, .f32⟩
  | 88 => ⟨S4096x128, .f32⟩
  | 89 => ⟨S4096x1x128, .f32⟩
  | 90 => ⟨S_, .f32⟩
  | 91 => ⟨S4096x4x128, .f32⟩
  | 92 => ⟨S4096x4x128, .f32⟩
  | 93 => ⟨S4096x128, .f32⟩
  | 94 => ⟨S4096x1x128, .f32⟩
  | 95 => ⟨S_, .f32⟩
  | 96 => ⟨S4096x4x128, .f32⟩
  | 97 => ⟨S4096x4x128, .f32⟩
  | 98 => ⟨S4096x128, .f32⟩
  | 99 => ⟨S4096x128, .f32⟩
  | 100 => ⟨S4096x128, .f32⟩
  | 101 => ⟨S4x128, .f32⟩
  | 102 => ⟨S4092x128, .f32⟩
  | 103 => ⟨S_, .f32⟩
  | 104 => ⟨S4096x128, .f32⟩
  | 105 => ⟨S4096x128, .f32⟩
  | 106 => ⟨S4096x1x128, .f32⟩
  | 107 => ⟨S_, .f32⟩
  | 108 => ⟨S4096x4x128, .f32⟩
  | 109 => ⟨S4096x4x128, .f32⟩
  | 110 => ⟨S4096x128, .f32⟩
  | 111 => ⟨S4096x1x128, .f32⟩
  | 112 => ⟨S_, .f32⟩
  | 113 => ⟨S4096x4x128, .f32⟩
  | 114 => ⟨S4096x4x128, .f32⟩
  | 115 => ⟨S4096x128, .f32⟩
  | 116 => ⟨S4096x128, .f32⟩
  | 117 => ⟨S4096x128, .f32⟩
  | 118 => ⟨S2x128, .f32⟩
  | 119 => ⟨S4094x128, .f32⟩
  | 120 => ⟨S_, .f32⟩
  | 121 => ⟨S4096x128, .f32⟩
  | 122 => ⟨S4096x128, .f32⟩
  | 123 => ⟨S4096x1x128, .f32⟩
  | 124 => ⟨S_, .f32⟩
  | 125 => ⟨S4096x4x128, .f32⟩
  | 126 => ⟨S4096x4x128, .f32⟩
  | 127 => ⟨S_, .f32⟩
  | _ => ⟨S4096x1024, .f32⟩

abbrev hbmTy0_2 (i : Nat) : BufTy := match i % 128 with
  | 0 => ⟨S_, .f32⟩
  | 1 => ⟨S4096x4x128, .f32⟩
  | 2 => ⟨S4096x4x128, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S512, .f32⟩
  | 11 => ⟨S1x512, .f32⟩
  | 12 => ⟨S_, .f32⟩
  | 13 => ⟨S512, .f32⟩
  | 14 => ⟨S_, .f32⟩
  | 15 => ⟨S4098x512, .f32⟩
  | 16 => ⟨S1x512, .f32⟩
  | 17 => ⟨S_, .f32⟩
  | 18 => ⟨S3x512, .f32⟩
  | 19 => ⟨S4096x512, .f32⟩
  | 20 => ⟨S4096x512, .f32⟩
  | 21 => ⟨S4096x512, .f32⟩
  | 22 => ⟨S_, .f32⟩
  | 23 => ⟨S512, .f32⟩
  | 24 => ⟨S1x512, .f32⟩
  | 25 => ⟨S_, .f32⟩
  | 26 => ⟨S512, .f32⟩
  | 27 => ⟨S_, .f32⟩
  | 28 => ⟨S4098x512, .f32⟩
  | 29 => ⟨S4098x512, .f32⟩
  | 30 => ⟨S1x512, .f32⟩
  | 31 => ⟨S_, .f32⟩
  | 32 => ⟨S3x512, .f32⟩
  | 33 => ⟨S3x512, .f32⟩
  | 34 => ⟨S4096x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S_, .f32⟩
  | 41 => ⟨S512, .f32⟩
  | 42 => ⟨S_, .f32⟩
  | 43 => ⟨S4098x512, .f32⟩
  | 44 => ⟨S4098x512, .f32⟩
  | 45 => ⟨S1x512, .f32⟩
  | 46 => ⟨S_, .f32⟩
  | 47 => ⟨S3x512, .f32⟩
  | 48 => ⟨S3x512, .f32⟩
  | 49 => ⟨S2x512, .f32⟩
  | 50 => ⟨S4096x512, .f32⟩
  | 51 => ⟨S4096x512, .f32⟩
  | 52 => ⟨S4096x512, .f32⟩
  | 53 => ⟨S_, .f32⟩
  | 54 => ⟨S4096x2048, .f32⟩
  | 55 => ⟨S_, .f32⟩
  | 56 => ⟨S4096x2048, .f32⟩
  | 57 => ⟨S4096x2048, .f32⟩
  | 58 => ⟨S_, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S4096x1024, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S1x1024, .f32⟩
  | 92 => ⟨S4096x2048, .bf16⟩
  | 93 => ⟨S4096x1024, .bf16⟩
  | 94 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_call0_cst : Ref sig .tc := ⟨.hbm, 68, rfl⟩
abbrev main_call0_call0_v0 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_18 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_20 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_22 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_23 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_24 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_25 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_26 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_27 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_28 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_cst_29 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_cst_30 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_cst_31 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_32 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_cst_33 : Ref sig .tc := ⟨.hbm, 252, rfl⟩
abbrev main_v208 : Ref sig .tc := ⟨.hbm, 253, rfl⟩
abbrev main_v209 : Ref sig .tc := ⟨.hbm, 254, rfl⟩
abbrev main_call1_call0_cst : Ref sig .tc := ⟨.hbm, 255, rfl⟩
abbrev main_call1_call0_v0 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_cst_34 : Ref sig .tc := ⟨.hbm, 265, rfl⟩
abbrev main_v218 : Ref sig .tc := ⟨.hbm, 266, rfl⟩
abbrev main_v219 : Ref sig .tc := ⟨.hbm, 267, rfl⟩
abbrev main_cst_35 : Ref sig .tc := ⟨.hbm, 268, rfl⟩
abbrev main_v220 : Ref sig .tc := ⟨.hbm, 269, rfl⟩
abbrev main_cst_36 : Ref sig .tc := ⟨.hbm, 270, rfl⟩
abbrev main_v221 : Ref sig .tc := ⟨.hbm, 271, rfl⟩
abbrev main_v222 : Ref sig .tc := ⟨.hbm, 272, rfl⟩
abbrev main_cst_37 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_cst_38 : Ref sig .tc := ⟨.hbm, 278, rfl⟩
abbrev main_v227 : Ref sig .tc := ⟨.hbm, 279, rfl⟩
abbrev main_v228 : Ref sig .tc := ⟨.hbm, 280, rfl⟩
abbrev main_cst_39 : Ref sig .tc := ⟨.hbm, 281, rfl⟩
abbrev main_v229 : Ref sig .tc := ⟨.hbm, 282, rfl⟩
abbrev main_cst_40 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_cst_41 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_cst_42 : Ref sig .tc := ⟨.hbm, 293, rfl⟩
abbrev main_v238 : Ref sig .tc := ⟨.hbm, 294, rfl⟩
abbrev main_v239 : Ref sig .tc := ⟨.hbm, 295, rfl⟩
abbrev main_cst_43 : Ref sig .tc := ⟨.hbm, 296, rfl⟩
abbrev main_v240 : Ref sig .tc := ⟨.hbm, 297, rfl⟩
abbrev main_cst_44 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_cst_45 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_cst_46 : Ref sig .tc := ⟨.hbm, 309, rfl⟩
abbrev main_v250 : Ref sig .tc := ⟨.hbm, 310, rfl⟩
abbrev main_cst_47 : Ref sig .tc := ⟨.hbm, 311, rfl⟩
abbrev main_v251 : Ref sig .tc := ⟨.hbm, 312, rfl⟩
abbrev main_v252 : Ref sig .tc := ⟨.hbm, 313, rfl⟩
abbrev main_cst_48 : Ref sig .tc := ⟨.hbm, 314, rfl⟩
abbrev main_v253 : Ref sig .tc := ⟨.hbm, 315, rfl⟩
abbrev main_v254 : Ref sig .tc := ⟨.hbm, 316, rfl⟩
abbrev main_cst_49 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_cst_50 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_cst_51 : Ref sig .tc := ⟨.hbm, 327, rfl⟩
abbrev main_v263 : Ref sig .tc := ⟨.hbm, 328, rfl⟩
abbrev main_v264 : Ref sig .tc := ⟨.hbm, 329, rfl⟩
abbrev main_cst_52 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_cst_53 : Ref sig .tc := ⟨.hbm, 337, rfl⟩
abbrev main_v271 : Ref sig .tc := ⟨.hbm, 338, rfl⟩
abbrev main_v272 : Ref sig .tc := ⟨.hbm, 339, rfl⟩
abbrev main_cst_54 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩

abbrev nD : Nat := 1
abbrev τ : Topo := Topo.v7x

variable {F : FTy → Type} [FloatOps F]
-- ==== UpK.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRIdeal.lean ====
abbrev S4096x1024 : Shape := ⟨2, ![4096, 1024]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .bf16⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== FwdK.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S2048x1024 : Shape := ⟨2, ![2048, 1024]⟩
abbrev S4x256x1024 : Shape := ⟨3, ![4, 256, 1024]⟩
abbrev S_ : Shape := ⟨0, ![]⟩
abbrev S4x288x1024 : Shape := ⟨3, ![4, 288, 1024]⟩
abbrev S1152x1024 : Shape := ⟨2, ![1152, 1024]⟩
abbrev S4096x2048 : Shape := ⟨2, ![4096, 2048]⟩
abbrev S512x1024 : Shape := ⟨2, ![512, 1024]⟩
abbrev S512x2048 : Shape := ⟨2, ![512, 2048]⟩
abbrev S520x512 : Shape := ⟨2, ![520, 512]⟩
abbrev S544x512 : Shape := ⟨2, ![544, 512]⟩
abbrev S3x544x128 : Shape := ⟨3, ![3, 544, 128]⟩
abbrev S5 : Shape := ⟨1, ![5]⟩
abbrev S1 : Shape := ⟨1, ![1]⟩
abbrev S256x1024 : Shape := ⟨2, ![256, 1024]⟩
abbrev S8x512 : Shape := ⟨2, ![8, 512]⟩
abbrev S32x512 : Shape := ⟨2, ![32, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S536x128 : Shape := ⟨2, ![536, 128]⟩
abbrev S1x536x128 : Shape := ⟨3, ![1, 536, 128]⟩
abbrev S1x512x128 : Shape := ⟨3, ![1, 512, 128]⟩
abbrev S1x528x128 : Shape := ⟨3, ![1, 528, 128]⟩
abbrev S528x128 : Shape := ⟨2, ![528, 128]⟩
abbrev S1x520x128 : Shape := ⟨3, ![1, 520, 128]⟩
abbrev S520x128 : Shape := ⟨2, ![520, 128]⟩

abbrev nBuf : Space → Nat
  | .hbm => 18
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S1x512, .f32⟩
  | .hbm, ⟨6, _⟩ => ⟨S1024x1024, .f32⟩
  | .hbm, ⟨7, _⟩ => ⟨S2048x1024, .f32⟩
  | .hbm, ⟨8, _⟩ => ⟨S2048x1024, .bf16⟩
  | .hbm, ⟨9, _⟩ => ⟨S1024x1024, .bf16⟩
  | .hbm, ⟨10, _⟩ => ⟨S4x256x1024, .bf16⟩
  | .hbm, ⟨11, _⟩ => ⟨S_, .i32⟩
  | .hbm, ⟨12, _⟩ => ⟨S_, .bf16⟩
  | .hbm, ⟨13, _⟩ => ⟨S4x288x1024, .bf16⟩
  | .hbm, ⟨14, _⟩ => ⟨S1152x1024, .bf16⟩
  | .hbm, ⟨15, _⟩ => ⟨S4096x1024, .f32⟩
  | .hbm, ⟨16, _⟩ => ⟨S4096x2048, .bf16⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512, .f32⟩
  | .local _ .vmem, ⟨4, _⟩ => ⟨S4x128x128, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S1024x1024, .bf16⟩
  | .local _ .vmem, ⟨14, _⟩ => ⟨S520x512, .f32⟩
  | .local _ .vmem, ⟨15, _⟩ => ⟨S544x512, .f32⟩
  | .local _ .vmem, ⟨16, _⟩ => ⟨S3x544x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdRIdeal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S2x512, .f32⟩
  | 32 => ⟨S4098x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S4096x512, .f32⟩
  | 57 => ⟨S4096x4x128, .f32⟩
  | 58 => ⟨S_, .f32⟩
  | 59 => ⟨S_, .f32⟩
  | 60 => ⟨S4096x4x128, .f32⟩
  | 61 => ⟨S4096, .f32⟩
  | 62 => ⟨S_, .f32⟩
  | 63 => ⟨S4096, .f32⟩
  | 64 => ⟨S4096, .f32⟩
  | 65 => ⟨S4096x1x128, .f32⟩
  | 66 => ⟨S4096x128, .f32⟩
  | 67 => ⟨S_, .f32⟩
  | 68 => ⟨S2x128, .f32⟩
  | 69 => ⟨S4094x128, .f32⟩
  | 70 => ⟨S4096x128, .f32⟩
  | 71 => ⟨S_, .f32⟩
  | 72 => ⟨S4096, .f32⟩
  | 73 => ⟨S4096, .f32⟩
  | 74 => ⟨S4096x1, .f32⟩
  | 75 => ⟨S4096x128, .f32⟩
  | 76 => ⟨S4096x128, .f32⟩
  | 77 => ⟨S4096x128, .f32⟩
  | 78 => ⟨S4096x1x128, .f32⟩
  | 79 => ⟨S4096x128, .f32⟩
  | 80 => ⟨S4096x128, .f32⟩
  | 81 => ⟨S4096x1x128, .f32⟩
  | 82 => ⟨S4096x128, .f32⟩
  | 83 => ⟨S_, .f32⟩
  | 84 => ⟨S4x128, .f32⟩
  | 85 => ⟨S4092x128, .f32⟩
  | 86 => ⟨S4096x128, .f32⟩
  | 87 => ⟨S_, .f32⟩
  | 88 => ⟨S4096, .f32⟩
  | 89 => ⟨S4096, .f32⟩
  | 90 => ⟨S4096x1, .f32⟩
  | 91 => ⟨S4096x128, .f32⟩
  | 92 => ⟨S4096x128, .f32⟩
  | 93 => ⟨S4096x128, .f32⟩
  | 94 => ⟨S4096x1x128, .f32⟩
  | 95 => ⟨S4096x128, .f32⟩
  | 96 => ⟨S4096x128, .f32⟩
  | 97 => ⟨S4096x1x128, .f32⟩
  | 98 => ⟨S4096x128, .f32⟩
  | 99 => ⟨S_, .f32⟩
  | 100 => ⟨S8x128, .f32⟩
  | 101 => ⟨S4088x128, .f32⟩
  | 102 => ⟨S4096x128, .f32⟩
  | 103 => ⟨S_, .f32⟩
  | 104 => ⟨S4096, .f32⟩
  | 105 => ⟨S4096, .f32⟩
  | 106 => ⟨S4096x1, .f32⟩
  | 107 => ⟨S4096x128, .f32⟩
  | 108 => ⟨S4096x128, .f32⟩
  | 109 => ⟨S4096x128, .f32⟩
  | 110 => ⟨S4096x1x128, .f32⟩
  | 111 => ⟨S4096x128, .f32⟩
  | 112 => ⟨S4096x128, .f32⟩
  | 113 => ⟨S4096x1x128, .f32⟩
  | 114 => ⟨S4096x128, .f32⟩
  | 115 => ⟨S_, .f32⟩
  | 116 => ⟨S16x128, .f32⟩
  | 117 => ⟨S4080x128, .f32⟩
  | 118 => ⟨S4096x128, .f32⟩
  | 119 => ⟨S_, .f32⟩
  | 120 => ⟨S4096, .f32⟩
  | 121 => ⟨S4096, .f32⟩
  | 122 => ⟨S4096x1, .f32⟩
  | 123 => ⟨S4096x128, .f32⟩
  | 124 => ⟨S4096x128, .f32⟩
  | 125 => ⟨S4096x128, .f32⟩
  | 126 => ⟨S4096x1x128, .f32⟩
  | 127 => ⟨S4096x128, .f32⟩
  | _ => ⟨S4096x1024, .f32⟩

abbrev hbmTy0_1 (i : Nat) : BufTy := match i % 128 with
  | 0 => ⟨S4096x128, .f32⟩
  | 1 => ⟨S4096x1x128, .f32⟩
  | 2 => ⟨S4096x1x128, .f32⟩
  | 3 => ⟨S4096x1x128, .f32⟩
  | 4 => ⟨S4096x1x128, .f32⟩
  | 5 => ⟨S4096x4x128, .f32⟩
  | 6 => ⟨S4x128x4096, .f32⟩
  | 7 => ⟨S4096x4x128, .f32⟩
  | 8 => ⟨S4096x512, .f32⟩
  | 9 => ⟨S512, .f32⟩
  | 10 => ⟨S1x512, .f32⟩
  | 11 => ⟨S4096x512, .f32⟩
  | 12 => ⟨S4096x512, .f32⟩
  | 13 => ⟨S4096x1024, .f32⟩
  | 14 => ⟨S4096x1024, .f32⟩
  | 15 => ⟨S4096x1024, .f32⟩
  | 16 => ⟨S4096x2048, .bf16⟩
  | 17 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_call0_cst : Ref sig .tc := ⟨.hbm, 58, rfl⟩
abbrev main_call0_call0_v0 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_10 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩

abbrev nD : Nat := 1
abbrev τ : Topo := Topo.v7x

variable {F : FTy → Type} [FloatOps F]
-- ==== SwapK.lean ====
abbrev S4x128x1024 : Shape := ⟨3, ![4, 128, 1024]⟩
abbrev S3x128x1024 : Shape := ⟨3, ![3, 128, 1024]⟩
abbrev S3 : Shape := ⟨1, ![3]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 4
abbrev τ : Topo := Topo.v7x

variable {F : FTy → Type} [FloatOps F]

abbrev grid0 : Pipeline.Grid := .none

def k0_off1 (d0 : Dev nD) : Fin 3 → Nat :=
  let c2_i32_8 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let v13 : BitVec 32 := Scalar.muli c2_i32_8 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v14 : BitVec 32 := Scalar.addi v13 v5
  let c0_i32_19 : BitVec 32 := 0#32
  let c0_i32_20 : BitVec 32 := 0#32
  ![v14.toNat, 0, 0]
def k0_dev1 (d0 : Dev nD) : Nat :=
  let c0_i32_14 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_13 : BitVec 32 := 2#32
  let v19 : BitVec 32 := Scalar.muli v9 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  let v6 : BitVec 32 := Dev.word d0
  let c1_i32_3 : BitVec 32 := 1#32
  let v7 : BitVec 32 := Scalar.divsi v6 c1_i32_3
  let c1_i32_2 : BitVec 32 := 1#32
  let v8 : BitVec 32 := Scalar.remsi v7 c1_i32_2
  let c1_i32_16 : BitVec 32 := 1#32
  let v23 : BitVec 32 := Scalar.muli v8 c1_i32_16
  let v24 : BitVec 32 := Scalar.addi v22 v23
  v24.toNat
def k0_off2 (d0 : Dev nD) : Fin 3 → Nat :=
  let c2_i32_9 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v15 : BitVec 32 := Scalar.muli c2_i32_9 v2
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v16 : BitVec 32 := Scalar.addi v15 v10
  let c0_i32_30 : BitVec 32 := 0#32
  let c0_i32_31 : BitVec 32 := 0#32
  ![v16.toNat, 0, 0]
def k0_dev2 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v33 : BitVec 32 := Scalar.muli v2 c2_i32_24
  let v34 : BitVec 32 := Scalar.addi c0_i32_25 v33
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let c1_i32_26 : BitVec 32 := 1#32
  let v35 : BitVec 32 := Scalar.muli v10 c1_i32_26
  let v36 : BitVec 32 := Scalar.addi v34 v35
  let v6 : BitVec 32 := Dev.word d0
  let c1_i32_3 : BitVec 32 := 1#32
  let v7 : BitVec 32 := Scalar.divsi v6 c1_i32_3
  let c1_i32_2 : BitVec 32 := 1#32
  let v8 : BitVec 32 := Scalar.remsi v7 c1_i32_2
  let c1_i32_27 : BitVec 32 := 1#32
  let v37 : BitVec 32 := Scalar.muli v8 c1_i32_27
  let v38 : BitVec 32 := Scalar.addi v36 v37
  v38.toNat
def k0_off3 (d0 : Dev nD) : Fin 3 → Nat :=
  let c2_i32_10 : BitVec 32 := 2#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_6 v2
  let v17 : BitVec 32 := Scalar.muli c2_i32_10 v11
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_7 v5
  let v18 : BitVec 32 := Scalar.addi v17 v12
  let c0_i32_41 : BitVec 32 := 0#32
  let c0_i32_42 : BitVec 32 := 0#32
  ![v18.toNat, 0, 0]
def k0_dev3 (d0 : Dev nD) : Nat :=
  let c0_i32_36 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_6 v2
  let c2_i32_35 : BitVec 32 := 2#32
  let v47 : BitVec 32 := Scalar.muli v11 c2_i32_35
  let v48 : BitVec 32 := Scalar.addi c0_i32_36 v47
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_7 v5
  let c1_i32_37 : BitVec 32 := 1#32
  let v49 : BitVec 32 := Scalar.muli v12 c1_i32_37
  let v50 : BitVec 32 := Scalar.addi v48 v49
  let v6 : BitVec 32 := Dev.word d0
  let c1_i32_3 : BitVec 32 := 1#32
  let v7 : BitVec 32 := Scalar.divsi v6 c1_i32_3
  let c1_i32_2 : BitVec 32 := 1#32
  let v8 : BitVec 32 := Scalar.remsi v7 c1_i32_2
  let c1_i32_38 : BitVec 32 := 1#32
  let v51 : BitVec 32 := Scalar.muli v8 c1_i32_38
  let v52 : BitVec 32 := Scalar.addi v50 v51
  v52.toNat
-- ==== SwapR.lean ====
abbrev S16x128x1024 : Shape := ⟨3, ![16, 128, 1024]⟩
abbrev S1x128x1024 : Shape := ⟨3, ![1, 128, 1024]⟩
abbrev S12x128x1024 : Shape := ⟨3, ![12, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16x128x1024, .bf16⟩
  | .hbm, ⟨1, _⟩ => ⟨S1x128x1024, .bf16⟩
  | .hbm, ⟨2, _⟩ => ⟨S1x128x1024, .bf16⟩
  | .hbm, ⟨3, _⟩ => ⟨S1x128x1024, .bf16⟩
  | .hbm, ⟨4, _⟩ => ⟨S1x128x1024, .bf16⟩
  | .hbm, ⟨5, _⟩ => ⟨S1x128x1024, .bf16⟩
  | .hbm, ⟨6, _⟩ => ⟨S1x128x1024, .bf16⟩
  | .hbm, ⟨7, _⟩ => ⟨S1x128x1024, .bf16⟩
  | .hbm, ⟨8, _⟩ => ⟨S1x128x1024, .bf16⟩
  | .hbm, ⟨9, _⟩ => ⟨S1x128x1024, .bf16⟩
  | .hbm, ⟨10, _⟩ => ⟨S1x128x1024, .bf16⟩
  | .hbm, ⟨11, _⟩ => ⟨S1x128x1024, .bf16⟩
  | .hbm, ⟨12, _⟩ => ⟨S1x128x1024, .bf16⟩
  | .hbm, ⟨13, _⟩ => ⟨S12x128x1024, .bf16⟩
  | _, _ => ⟨S16x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩

abbrev nD : Nat := 1
abbrev τ : Topo := Topo.v7x

variable {F : FTy → Type} [FloatOps F]
-- ==== DownK.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S1 : Shape := ⟨1, ![1]⟩

abbrev nBuf : Space → Nat
  | .hbm => 37
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S2816x1024, .bf16⟩
  | .hbm, ⟨36, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== AdamK.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== TurnedK.lean ====
abbrev S1x1024x512 : Shape := ⟨3, ![1, 1024, 512]⟩
abbrev S512x1024 : Shape := ⟨2, ![512, 1024]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S512x1024, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S512x256, .f32⟩
  | .local _ .vmem, ⟨3, _⟩ => ⟨S512x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TurnedRIdeal.lean ====
abbrev S1x1024x512 : Shape := ⟨3, ![1, 1024, 512]⟩
abbrev S512x1024 : Shape := ⟨2, ![512, 1024]⟩
abbrev S1024x512 : Shape := ⟨2, ![1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S512x1024, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1x1024x512, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== TotalK.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TotalRIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CastK.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .bf16⟩
  | .hbm, ⟨5, _⟩ => ⟨S704x1024, .bf16⟩
  | .hbm, ⟨6, _⟩ => ⟨S704x1024, .bf16⟩
  | .hbm, ⟨7, _⟩ => ⟨S704x1024, .bf16⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .bf16⟩
  | .local _ .vmem, ⟨9, _⟩ => ⟨S176x1024, .bf16⟩
  | .local _ .vmem, ⟨10, _⟩ => ⟨S176x1024, .bf16⟩
  | .local _ .vmem, ⟨11, _⟩ => ⟨S176x1024, .bf16⟩
  | .local _ .vmem, ⟨12, _⟩ => ⟨S176x1024, .bf16⟩
  | .local _ .vmem, ⟨13, _⟩ => ⟨S176x1024, .bf16⟩
  | .local _ .vmem, ⟨14, _⟩ => ⟨S176x1024, .bf16⟩
  | .local _ .vmem, ⟨15, _⟩ => ⟨S176x1024, .bf16⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CastR.lean ====
abbrev S704x1024 : Shape := ⟨2, ![704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .bf16⟩
  | .hbm, ⟨5, _⟩ => ⟨S704x1024, .bf16⟩
  | .hbm, ⟨6, _⟩ => ⟨S704x1024, .bf16⟩
  | .hbm, ⟨7, _⟩ => ⟨S704x1024, .bf16⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ChipsK.lean ====
abbrev S4x352x1024 : Shape := ⟨3, ![4, 352, 1024]⟩
abbrev S3x352x1024 : Shape := ⟨3, ![3, 352, 1024]⟩
abbrev S2x352x1024 : Shape := ⟨3, ![2, 352, 1024]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S2x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsRIdeal.lean ====
abbrev S4x352x1024 : Shape := ⟨3, ![4, 352, 1024]⟩
abbrev S3x352x1024 : Shape := ⟨3, ![3, 352, 1024]⟩
abbrev S1x352x1024 : Shape := ⟨3, ![1, 352, 1024]⟩
abbrev S352x1024 : Shape := ⟨2, ![352, 1024]⟩
abbrev S_ : Shape := ⟨0, ![]⟩
abbrev S2x352x1024 : Shape := ⟨3, ![2, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S1x352x1024, .bf16⟩
  | .hbm, ⟨3, _⟩ => ⟨S352x1024, .bf16⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S2x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradK.lean ====
abbrev S4096x1024 : Shape := ⟨2, ![4096, 1024]⟩
abbrev S1x1024 : Shape := ⟨2, ![1, 1024]⟩
abbrev S1024x2816 : Shape := ⟨2, ![1024, 2816]⟩
abbrev S4x352x1024 : Shape := ⟨3, ![4, 352, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x2048 : Shape := ⟨2, ![4096, 2048]⟩
abbrev S512x2816 : Shape := ⟨2, ![512, 2816]⟩
abbrev S512x1024 : Shape := ⟨2, ![512, 1024]⟩
abbrev S2816x1024 : Shape := ⟨2, ![2816, 1024]⟩
abbrev S352x1024 : Shape := ⟨2, ![352, 1024]⟩
abbrev S1x352x1024 : Shape := ⟨3, ![1, 352, 1024]⟩

abbrev nBuf : Space → Nat
  | .hbm => 43
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4x352x1024, .bf16⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x2048, .f32⟩
  | .hbm, ⟨40, _⟩ => ⟨S4096x2048, .bf16⟩
  | .hbm, ⟨41, _⟩ => ⟨S4x352x1024, .bf16⟩
  | .hbm, ⟨42, _⟩ => ⟨S4x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GradRIdeal.lean ====
abbrev S4096x1024 : Shape := ⟨2, ![4096, 1024]⟩
abbrev S1x1024 : Shape := ⟨2, ![1, 1024]⟩
abbrev S1024x2816 : Shape := ⟨2, ![1024, 2816]⟩
abbrev S4x352x1024 : Shape := ⟨3, ![4, 352, 1024]⟩
abbrev S_ : Shape := ⟨0, ![]⟩
abbrev S2816x1024 : Shape := ⟨2, ![2816, 1024]⟩
abbrev S1024 : Shape := ⟨1, ![1024]⟩
abbrev S4096 : Shape := ⟨1, ![4096]⟩
abbrev S4096x1 : Shape := ⟨2, ![4096, 1]⟩
abbrev S4096x2816 : Shape := ⟨2, ![4096, 2816]⟩
abbrev S4x2x352x1024 : Shape := ⟨4, ![4, 2, 352, 1024]⟩
abbrev S4x1x352x1024 : Shape := ⟨4, ![4, 1, 352, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4x352x1024, .bf16⟩
  | .hbm, ⟨6, _⟩ => ⟨S_, .f32⟩
  | .hbm, ⟨7, _⟩ => ⟨S2816x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S1024x2816, .f32⟩
  | .hbm, ⟨46, _⟩ => ⟨S2816x1024, .f32⟩
  | .hbm, ⟨47, _⟩ => ⟨S4x2x352x1024, .f32⟩
  | .hbm, ⟨48, _⟩ => ⟨S4x1x352x1024, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S4x352x1024, .bf16⟩
  | .hbm, ⟨53, _⟩ => ⟨S4x1x352x1024, .f32⟩
  | .hbm, ⟨54, _⟩ => ⟨S4x352x1024, .f32⟩
  | .hbm, ⟨55, _⟩ => ⟨S4x352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== PackK.lean ====
abbrev S80x1024 : Shape := ⟨2, ![80, 1024]⟩
abbrev S8x80x1024 : Shape := ⟨3, ![8, 80, 1024]⟩
abbrev S8 : Shape := ⟨1, ![8]⟩
abbrev S1 : Shape := ⟨1, ![1]⟩
abbrev S_ : Shape := ⟨0, ![]⟩
abbrev S1x80x1024 : Shape := ⟨3, ![1, 80, 1024]⟩

abbrev nBuf : Space → Nat
  | .hbm => 2
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S8x80x1024, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_17 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v29 : BitVec 32 := Scalar.muli v2 c4_i32_20
  let v30 : BitVec 32 := Scalar.addi c0_i32_21 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v31 : BitVec 32 := Scalar.muli v5 c2_i32_22
  let v32 : BitVec 32 := Scalar.addi v30 v31
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_23 : BitVec 32 := 1#32
  let v33 : BitVec 32 := Scalar.muli v13 c1_i32_23
  let v34 : BitVec 32 := Scalar.addi v32 v33
  v34.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v41 : BitVec 32 := Scalar.muli v2 c4_i32_28
  let v42 : BitVec 32 := Scalar.addi c0_i32_29 v41
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_30 : BitVec 32 := 2#32
  let v43 : BitVec 32 := Scalar.muli v14 c2_i32_30
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v45 : BitVec 32 := Scalar.muli v8 c1_i32_31
  let v46 : BitVec 32 := Scalar.addi v44 v45
  v46.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v53 : BitVec 32 := Scalar.muli v2 c4_i32_36
  let v54 : BitVec 32 := Scalar.addi c0_i32_37 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_38 : BitVec 32 := 2#32
  let v55 : BitVec 32 := Scalar.muli v15 c2_i32_38
  let v56 : BitVec 32 := Scalar.addi v54 v55
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_39 : BitVec 32 := 1#32
  let v57 : BitVec 32 := Scalar.muli v16 c1_i32_39
  let v58 : BitVec 32 := Scalar.addi v56 v57
  v58.toNat
def k0_dev4 (d0 : Dev nD) : Nat :=
  let c0_i32_44 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_43 : BitVec 32 := 4#32
  let v65 : BitVec 32 := Scalar.muli v17 c4_i32_43
  let v66 : BitVec 32 := Scalar.addi c0_i32_44 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v67 : BitVec 32 := Scalar.muli v5 c2_i32_45
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v69 : BitVec 32 := Scalar.muli v8 c1_i32_46
  let v70 : BitVec 32 := Scalar.addi v68 v69
  v70.toNat
def k0_dev5 (d0 : Dev nD) : Nat :=
  let c0_i32_52 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_51 : BitVec 32 := 4#32
  let v77 : BitVec 32 := Scalar.muli v18 c4_i32_51
  let v78 : BitVec 32 := Scalar.addi c0_i32_52 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v79 : BitVec 32 := Scalar.muli v5 c2_i32_53
  let v80 : BitVec 32 := Scalar.addi v78 v79
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_54 : BitVec 32 := 1#32
  let v81 : BitVec 32 := Scalar.muli v19 c1_i32_54
  let v82 : BitVec 32 := Scalar.addi v80 v81
  v82.toNat
def k0_dev6 (d0 : Dev nD) : Nat :=
  let c0_i32_59 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_58 : BitVec 32 := 4#32
  let v89 : BitVec 32 := Scalar.muli v20 c4_i32_58
  let v90 : BitVec 32 := Scalar.addi c0_i32_59 v89
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_60 : BitVec 32 := 2#32
  let v91 : BitVec 32 := Scalar.muli v21 c2_i32_60
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v93 : BitVec 32 := Scalar.muli v8 c1_i32_61
  let v94 : BitVec 32 := Scalar.addi v92 v93
  v94.toNat
def k0_dev7 (d0 : Dev nD) : Nat :=
  let c0_i32_66 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_65 : BitVec 32 := 4#32
  let v101 : BitVec 32 := Scalar.muli v22 c4_i32_65
  let v102 : BitVec 32 := Scalar.addi c0_i32_66 v101
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_67 : BitVec 32 := 2#32
  let v103 : BitVec 32 := Scalar.muli v23 c2_i32_67
  let v104 : BitVec 32 := Scalar.addi v102 v103
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_68 : BitVec 32 := 1#32
  let v105 : BitVec 32 := Scalar.muli v24 c1_i32_68
  let v106 : BitVec 32 := Scalar.addi v104 v105
  v106.toNat
-- ==== PackR.lean ====
abbrev S640x1024 : Shape := ⟨2, ![640, 1024]⟩
abbrev S8x80x1024 : Shape := ⟨3, ![8, 80, 1024]⟩

abbrev nBuf : Space → Nat
  | .hbm => 2
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S8x80x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Arr.lean ====
module

public import Idealize.ShloMosaic.Lib.Pointwise
public import Idealize.ShloMosaic.Lib.IdealHost
public import Idealize.ShloMosaic.Lib.MatmulPlain
public import Idealize.ShloMosaic.Lib.StackMember
public import Mathlib.Data.EReal.Operations
public import Mathlib.Analysis.SpecialFunctions.Exp

@[expose] public section

set_option maxRecDepth 16384

noncomputable section

namespace Step

open Idealize Idealize.ShloMosaic

/-- The array of a real matrix, in any format: over the extended reals every format holds every real. -/
def M {m n : Nat} {φ : FTy} (A : Fin m → Fin n → ℝ) : FVec Ideal ⟨2, ![m, n]⟩ φ := fun i => ((A (i 0) (i 1) : ℝ) : EReal)
/-- The array of a real matrix in 32 bits. -/
abbrev M32 {m n : Nat} (A : Fin m → Fin n → ℝ) : FVec Ideal ⟨2, ![m, n]⟩ .f32 := M A
/-- The array of a real matrix in 16 bits. -/
abbrev M16 {m n : Nat} (A : Fin m → Fin n → ℝ) : FVec Ideal ⟨2, ![m, n]⟩ .bf16 := M A
/-- The array of a real vector. -/
def R {n : Nat} {φ : FTy} (a : Fin n → ℝ) : FVec Ideal ⟨1, ![n]⟩ φ := fun i => ((a (i 0) : ℝ) : EReal)
/-- The array of one real number. -/
def K {φ : FTy} (x : ℝ) : FVec Ideal ⟨0, ![]⟩ φ := fun _ => ((x : ℝ) : EReal)
/-- A vector as every column of a matrix. -/
def colv {m n : Nat} (a : Fin m → ℝ) : Fin m → Fin n → ℝ := fun i _ => a i
/-- A vector as every row of a matrix. -/
def rowv {m n : Nat} (a : Fin n → ℝ) : Fin m → Fin n → ℝ := fun _ j => a j
/-- The sums of the rows. -/
def sumR {m n : Nat} (A : Fin m → Fin n → ℝ) : Fin m → ℝ := fun i => ∑ j, A i j
/-- The sums of the columns. -/
def sumC {m n : Nat} (A : Fin m → Fin n → ℝ) : Fin n → ℝ := fun j => ∑ i, A i j
/-- The product of two matrices. -/
def mm {m k n : Nat} (A : Fin m → Fin k → ℝ) (B : Fin k → Fin n → ℝ) : Fin m → Fin n → ℝ := fun i j => ∑ p, A i p * B p j
/-- The product of a matrix and a transposed matrix. -/
def mt {m k n : Nat} (A : Fin m → Fin k → ℝ) (B : Fin n → Fin k → ℝ) : Fin m → Fin n → ℝ := fun i j => ∑ p, A i p * B j p
/-- The product of a transposed matrix and a matrix. -/
def tm {m k n : Nat} (A : Fin k → Fin m → ℝ) (B : Fin k → Fin n → ℝ) : Fin m → Fin n → ℝ := fun i j => ∑ p, A p i * B p j

variable {m n k : Nat} {φ : FTy}

theorem at2 (j : (⟨2, ![m, n]⟩ : Shape).Idx) : ∃ a b, j = ix2 a b := ⟨_, _, eq_ix2 j⟩
theorem at1 (j : (⟨1, ![n]⟩ : Shape).Idx) : ∃ a, j = ix1 a := ⟨_, eq_ix1 j⟩

theorem R_val (a : Fin n → ℝ) (k : (⟨1, ![n]⟩ : Shape).Idx) (c : Fin n) (h : (k 0).val = c.val) : R (φ := φ) a k = ((a c : ℝ) : EReal) :=
  congrArg (fun x : Fin n => ((a x : ℝ) : EReal)) (Fin.ext h)
theorem M_val (A : Fin m → Fin n → ℝ) (k : (⟨2, ![m, n]⟩ : Shape).Idx) (r : Fin m) (l : Fin n) (h : (k 0).val = r.val) (h' : (k 1).val = l.val) :
    M (φ := φ) A k = ((A r l : ℝ) : EReal) :=
  (congrArg (fun x : Fin m => ((A x (k 1) : ℝ) : EReal)) (Fin.ext h)).trans (congrArg (fun x : Fin n => ((A r x : ℝ) : EReal)) (Fin.ext h'))
/-- A coordinate kept by a broadcast: along an axis of extent one it is the only one there is. -/
theorem kept {p : Prop} {dp : Decidable p} {n c : Nat} (hp : p → n = 1) (hc : c < n) (f : p → Fin n) (g : ¬p → Fin n) (hg : ∀ q, (g q).val = c) :
    (if h : p then f h else g h).val = c := by
  split
  · rename_i q; have := hp q; have := (f q).isLt; omega
  · exact hg _

theorem addf_M (A B : Fin m → Fin n → ℝ) : addf (M (φ := φ) A) (M B) = M (A + B) := funext fun _ => (EReal.coe_add _ _).symm
theorem mulf_M (A B : Fin m → Fin n → ℝ) : mulf (M (φ := φ) A) (M B) = M (A * B) := funext fun _ => (EReal.coe_mul _ _).symm
theorem subf_M (A B : Fin m → Fin n → ℝ) : subf (M (φ := φ) A) (M B) = M (A - B) := funext fun _ => (EReal.coe_sub _ _).symm
theorem addf_R (a b : Fin n → ℝ) : addf (R (φ := φ) a) (R b) = R (a + b) := funext fun _ => (EReal.coe_add _ _).symm
theorem mulf_R (a b : Fin n → ℝ) : mulf (R (φ := φ) a) (R b) = R (a * b) := funext fun _ => (EReal.coe_mul _ _).symm
theorem mulf_K (a b : ℝ) : mulf (K (φ := φ) a) (K b) = K (a * b) := funext fun _ => (EReal.coe_mul _ _).symm
theorem truncf_M (A : Fin m → Fin n → ℝ) (ψ : FTy) (h) : truncf ψ (M (φ := φ) A) h = M A := rfl
theorem extf_M (A : Fin m → Fin n → ℝ) (ψ : FTy) (h) : extf ψ (M (φ := φ) A) h = M A := rfl
theorem hneg_M (A : Fin m → Fin n → ℝ) : Host.negf (M (φ := φ) A) = M (-A) := funext fun _ => (EReal.coe_neg _).symm
theorem hexp_M (A : Fin m → Fin n → ℝ) : Host.exp (M (φ := φ) A) = M (fun i j => Real.exp (A i j)) := rfl
theorem exp_M (A : Fin m → Fin n → ℝ) : exp (M (φ := φ) A) = M (fun i j => Real.exp (A i j)) := rfl

theorem divf_M (A B : Fin m → Fin n → ℝ) (h : ∀ i j, B i j ≠ 0) : divf (M (φ := φ) A) (M B) = M (A / B) := funext fun i =>
  (Ideal.div_coe (h _ _) _).trans ((EReal.coe_mul _ _).symm.trans (congrArg Real.toEReal (mul_one_div _ _)))
theorem hdivf_M (A B : Fin m → Fin n → ℝ) (h : ∀ i j, B i j ≠ 0) : Host.divf (M (φ := φ) A) (M B) = M (A / B) := divf_M A B h
theorem hdivf_R (a b : Fin n → ℝ) (h : ∀ i, b i ≠ 0) : Host.divf (R (φ := φ) a) (R b) = R (a / b) := funext fun i =>
  (Ideal.div_coe (h _) _).trans ((EReal.coe_mul _ _).symm.trans (congrArg Real.toEReal (mul_one_div _ _)))
theorem rsqrt_M (A : Fin m → Fin n → ℝ) (h : ∀ i j, 0 < A i j) : rsqrt (M (φ := φ) A) = M (fun i j => (√(A i j))⁻¹) := funext fun i => by
  have e : ∀ x : ℝ, 0 < x → Ideal.rsqrt (x : EReal) = (((√x)⁻¹ : ℝ) : EReal) := fun x hx => by
    rw [Ideal.rsqrt_coe, if_neg hx.le.not_gt, if_neg hx.ne']
  exact e _ (h _ _)
theorem hrsqrt_M (A : Fin m → Fin n → ℝ) (h : ∀ i j, 0 < A i j) : Host.rsqrt (M (φ := φ) A) = M (fun i j => (√(A i j))⁻¹) := rsqrt_M A h

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A constant array whose word denotes the real number `r`. -/
theorem const_M (b : BitVec φ.bits) {r : ℝ} (h : Ideal.ofBits φ b = ((r : ℝ) : EReal)) :
    constant (F := Ideal) ⟨2, ![m, n]⟩ φ b = M (fun _ _ => r) := funext fun _ => h
theorem const_K (b : BitVec φ.bits) {r : ℝ} (h : Ideal.ofBits φ b = ((r : ℝ) : EReal)) :
    constant (F := Ideal) ⟨0, ![]⟩ φ b = K r := funext fun _ => h
theorem splat_M (b : BitVec φ.bits) {r : ℝ} (h : Ideal.ofBits φ b = ((r : ℝ) : EReal)) :
    broadcast ⟨2, ![m, n]⟩ (Scalar.ofBits (F := Ideal) φ b) = M (φ := φ) (fun _ _ => r) := funext fun _ => h

theorem w_zero : Ideal.ofBits .f32 0x00000000#32 = ((0 : ℝ) : EReal) := by simp [Ideal.ofBits, Ideal.ieee]
theorem w_one : Ideal.ofBits .f32 0x3F800000#32 = ((1 : ℝ) : EReal) := by simp [Ideal.ofBits, Ideal.ieee, -EReal.coe_mul]; norm_num
theorem w_half : Ideal.ofBits .f32 0x3F000000#32 = ((1 / 2 : ℝ) : EReal) := by simp [Ideal.ofBits, Ideal.ieee, -EReal.coe_mul]; norm_num
theorem w_mhalf : Ideal.ofBits .f32 0xBF000000#32 = ((-1 / 2 : ℝ) : EReal) := by
  have e : (-1 / 2 : ℝ) = -(8388608 * 2 ^ (-24 : ℤ)) := by norm_num
  rw [e]; simp [Ideal.ofBits, Ideal.ieee, -EReal.coe_mul]
theorem w_two : Ideal.ofBits .f32 0x40000000#32 = ((2 : ℝ) : EReal) := by
  have e : (2 : ℝ) = 8388608 * 2 ^ (-22 : ℤ) := by norm_num
  rw [e]; simp [Ideal.ofBits, Ideal.ieee, -EReal.coe_mul]
theorem w_four : Ideal.ofBits .f32 0x40800000#32 = ((4 : ℝ) : EReal) := by simp [Ideal.ofBits, Ideal.ieee, -EReal.coe_mul]; norm_num
theorem w_eight : Ideal.ofBits .f32 0x41000000#32 = ((8 : ℝ) : EReal) := by simp [Ideal.ofBits, Ideal.ieee, -EReal.coe_mul]; norm_num
theorem w_sixteen : Ideal.ofBits .f32 0x41800000#32 = ((16 : ℝ) : EReal) := by simp [Ideal.ofBits, Ideal.ieee, -EReal.coe_mul]; norm_num
theorem w_1024 : Ideal.ofBits .f32 0x44800000#32 = ((1024 : ℝ) : EReal) := by simp [Ideal.ofBits, Ideal.ieee, -EReal.coe_mul]; norm_num
theorem w_r1024 : Ideal.ofBits .f32 0x3A800000#32 = ((1 / 1024 : ℝ) : EReal) := by simp [Ideal.ofBits, Ideal.ieee, -EReal.coe_mul]; norm_num
/-- The small number added under the square root. -/
def eps : ℝ := 8796093 * 2 ^ (-43 : ℤ)
theorem eps_pos : 0 < eps := by unfold eps; positivity
theorem w_eps : Ideal.ofBits .f32 0x358637BD#32 = ((eps : ℝ) : EReal) := by
  unfold eps; simp [Ideal.ofBits, Ideal.ieee, -EReal.coe_mul]

/-! ### Layout operations -/

theorem bid_KM (d) (h) (x : ℝ) : broadcastInDim ⟨2, ![m, n]⟩ d h (K (φ := φ) x) = M (φ := φ) (fun _ _ => x) := rfl
theorem bid_KR (d) (h) (x : ℝ) : broadcastInDim ⟨1, ![n]⟩ d h (K (φ := φ) x) = R (φ := φ) (fun _ => x) := rfl
theorem bid_KK (d) (h) (x : ℝ) : broadcastInDim ⟨0, ![]⟩ d h (K (φ := φ) x) = K (φ := φ) x := rfl
theorem bid_col (a : Fin m → ℝ) (h : (⟨1, ![m]⟩ : Shape).BroadcastsInDim ⟨2, ![m, n]⟩ ![0]) :
    broadcastInDim ⟨2, ![m, n]⟩ (no_index ![0]) h (R (φ := φ) a) = M (φ := φ) (colv a) := by
  funext j; exact R_val _ _ (j 0) (kept (n := m) id (j 0).isLt _ _ fun _ => rfl)
theorem bid_row (a : Fin n → ℝ) (h : (⟨1, ![n]⟩ : Shape).BroadcastsInDim ⟨2, ![m, n]⟩ ![1]) :
    broadcastInDim ⟨2, ![m, n]⟩ (no_index ![1]) h (R (φ := φ) a) = M (φ := φ) (rowv a) := by
  funext j; exact R_val _ _ (j 1) (kept (n := n) id (j 1).isLt _ _ fun _ => rfl)
theorem bid_M1 (A : Fin m → Fin 1 → ℝ) (h : (⟨2, ![m, 1]⟩ : Shape).BroadcastsInDim ⟨2, ![m, n]⟩ ![0, 1]) :
    broadcastInDim ⟨2, ![m, n]⟩ (no_index ![0, 1]) h (M (φ := φ) A) = M (φ := φ) (fun i _ => A i 0) := by
  funext j; exact M_val _ _ (j 0) 0 (kept (n := m) id (j 0).isLt _ _ fun _ => rfl) rfl
theorem bid_1M (A : Fin 1 → Fin n → ℝ) (h : (⟨2, ![1, n]⟩ : Shape).BroadcastsInDim ⟨2, ![m, n]⟩ ![0, 1]) :
    broadcastInDim ⟨2, ![m, n]⟩ (no_index ![0, 1]) h (M (φ := φ) A) = M (φ := φ) (fun _ j => A 0 j) := by
  funext j; exact M_val _ _ 0 (j 1) rfl (kept (n := n) id (j 1).isLt _ _ fun _ => rfl)
theorem bto_M1 (A : Fin m → Fin 1 → ℝ) (h : (⟨2, ![m, 1]⟩ : Shape).Broadcasts ⟨2, ![m, n]⟩) :
    broadcastTo ⟨2, ![m, n]⟩ (M (φ := φ) A) h = M (φ := φ) (fun i _ => A i 0) := by
  funext j; exact M_val _ _ (j 0) 0 (kept (n := m) id (j 0).isLt _ _ fun _ => rfl) rfl
theorem bto_1M (A : Fin 1 → Fin n → ℝ) (h : (⟨2, ![1, n]⟩ : Shape).Broadcasts ⟨2, ![m, n]⟩) :
    broadcastTo ⟨2, ![m, n]⟩ (M (φ := φ) A) h = M (φ := φ) (fun _ j => A 0 j) := by
  funext j; exact M_val _ _ 0 (j 1) rfl (kept (n := n) id (j 1).isLt _ _ fun _ => rfl)
theorem cast_col (a : Fin m → ℝ) (h : (⟨1, ![m]⟩ : Shape).ShapeCasts ⟨2, ![m, 1]⟩) :
    shapeCast ⟨2, ![m, 1]⟩ (R (φ := φ) a) h = M (φ := φ) (colv a) := by
  funext j; obtain ⟨r, l, rfl⟩ := at2 j
  exact congrArg (R a) (Shape.reshapeEquiv_eq_of_vals _ (ix2 r l) (ix1 r) _ _ (rowMajor_val1 _) (rowMajor_val2 _ _ rfl) (by
    show r.val = r.val * _ + l.val
    have := l.isLt; simp))
theorem cast_row (a : Fin n → ℝ) (h : (⟨1, ![n]⟩ : Shape).ShapeCasts ⟨2, ![1, n]⟩) :
    shapeCast ⟨2, ![1, n]⟩ (R (φ := φ) a) h = M (φ := φ) (rowv a) := by
  funext j; obtain ⟨r, l, rfl⟩ := at2 j
  exact congrArg (R a) (Shape.reshapeEquiv_eq_of_vals _ (ix2 r l) (ix1 l) _ _ (rowMajor_val1 _) (rowMajor_val2 _ _ rfl) (by
    show l.val = r.val * _ + l.val
    have := r.isLt; simp))
theorem cast_unrow (A : Fin 1 → Fin n → ℝ) (h : (⟨2, ![1, n]⟩ : Shape).ShapeCasts ⟨1, ![n]⟩) :
    shapeCast ⟨1, ![n]⟩ (M (φ := φ) A) h = R (φ := φ) (A 0) := by
  funext j; obtain ⟨r, rfl⟩ := at1 j
  exact congrArg (M A) (Shape.reshapeEquiv_eq_of_vals _ (ix1 r) (ix2 0 r) _ _ (rowMajor_val2 _ _ rfl) (rowMajor_val1 _) (by
    show 0 * _ + r.val = r.val
    simp))
theorem red_R (A : Fin m → Fin n → ℝ) (h : (⟨2, ![m, n]⟩ : Shape).Reduces [1] ⟨1, ![m]⟩) (h1 h2) :
    multiReduction .add [1] ⟨1, ![m]⟩ (M (φ := .f32) A) 0x00000000#32 h h1 h2 = R (sumR A) := by
  funext j; obtain ⟨r, rfl⟩ := at1 j; pointwise; exact coe_sum _ _
theorem red_C (A : Fin m → Fin n → ℝ) (h : (⟨2, ![m, n]⟩ : Shape).Reduces [0] ⟨1, ![n]⟩) (h1 h2) :
    multiReduction .add [0] ⟨1, ![n]⟩ (M (φ := .f32) A) 0x00000000#32 h h1 h2 = R (sumC A) := by
  funext j; obtain ⟨r, rfl⟩ := at1 j; pointwise; exact coe_sum _ _
theorem hred_R (A : Fin m → Fin n → ℝ) (z : ℝ) (h : (⟨2, ![m, n]⟩ : Shape).ReducesTo [1] ⟨1, ![m]⟩) (h1) :
    Host.reduceAdd (M (φ := φ) A) (K (φ := φ) z) h h1 = R (fun i => z + sumR A i) := by
  funext j; obtain ⟨r, rfl⟩ := at1 j; pointwise
  exact (congrArg ((z : EReal) + ·) (coe_sum _ _)).trans (EReal.coe_add _ _).symm
theorem hred_C (A : Fin m → Fin n → ℝ) (z : ℝ) (h : (⟨2, ![m, n]⟩ : Shape).ReducesTo [0] ⟨1, ![n]⟩) (h1) :
    Host.reduceAdd (M (φ := φ) A) (K (φ := φ) z) h h1 = R (fun j => z + sumC A j) := by
  funext j; obtain ⟨r, rfl⟩ := at1 j; pointwise
  exact (congrArg ((z : EReal) + ·) (coe_sum _ _)).trans (EReal.coe_add _ _).symm
/-! ### Products -/

variable {φ₁ φ₂ : FTy}

theorem ereal_mul_sum {k : Nat} (f g : Fin k → ℝ) : (∑ p, (f p : EReal) * (g p : EReal)) = ((∑ p, f p * g p : ℝ) : EReal) :=
  (Finset.sum_congr rfl fun _ _ => (EReal.coe_mul _ _).symm).trans (coe_sum _ _)
theorem prod_mm (p) (A : Fin m → Fin k → ℝ) (B : Fin k → Fin n → ℝ) (Z : Fin m → Fin n → ℝ) :
    matmul (DotDims.plain m k n) p (M (φ := φ₁) A) (M (φ := φ₂) B) (M Z) = M (Z + mm A B) := by
  funext j; obtain ⟨r, l, rfl⟩ := at2 j
  exact (Ideal.matmul_plain_apply p _ _ _ r l).trans ((congrArg ((Z r l : EReal) + ·) (ereal_mul_sum _ _)).trans (EReal.coe_add _ _).symm)
theorem prod_mt (p) (A : Fin m → Fin k → ℝ) (B : Fin n → Fin k → ℝ) (Z : Fin m → Fin n → ℝ) :
    matmul (DotDims.transposedRhs m k n) p (M (φ := φ₁) A) (M (φ := φ₂) B) (M Z) = M (Z + mt A B) := by
  funext j; obtain ⟨r, l, rfl⟩ := at2 j
  exact (Ideal.matmul_transposedRhs_apply p _ _ _ r l).trans ((congrArg ((Z r l : EReal) + ·) (ereal_mul_sum _ _)).trans (EReal.coe_add _ _).symm)
theorem dot_mm (p) (A : Fin m → Fin k → ℝ) (B : Fin k → Fin n → ℝ) :
    Host.dotGeneral (DotDims.plain m k n) p (M (φ := φ₁) A) (M (φ := φ₂) B) = M (mm A B) := by
  funext j; obtain ⟨r, l, rfl⟩ := at2 j
  exact (StackMember.dotGeneral_plain_apply p _ _ r l).trans (ereal_mul_sum _ _)

end Step
-- ==== Proof.Finite.lean ====
module

public import proofs.«01_k».proof.Proof.Arr
public import Idealize.ShloMosaic.Lib.ReduceAll

@[expose] public section

namespace Step

open Idealize Idealize.ShloMosaic

/-- An extended real whose absolute value is below the infinite word is a real number. -/
theorem real_of_lt (a : EReal) (h : FloatOps.cmpf (F := Ideal) (φ := .f32) CmpFPredicate.olt (FloatOps.absf (F := Ideal) (φ := .f32) a) (Ideal.ofBits .f32 0x7F800000#32) = 1#1) : ∃ r : ℝ, a = (r : EReal) := by
  have hi : Ideal.ofBits .f32 0x7F800000#32 = ⊤ := by simp [Ideal.ofBits, Ideal.ieee]
  rw [hi] at h
  have h' : Ideal.cmp CmpFPredicate.olt (max a (-a)) ⊤ = 1#1 := h
  induction a using EReal.rec with
  | bot => simp [Ideal.cmp] at h'
  | coe r => exact ⟨r, rfl⟩
  | top => simp [Ideal.cmp] at h'

/-- An array whose entries all stay below the infinite word in absolute value is the array of a real matrix. -/
theorem finite_M {m n : Nat} (A : FVec Ideal ⟨2, ![m, n]⟩ .f32) (hb) (hr : (⟨2, ![m, n]⟩ : Shape).ReducesTo [0, 1] ⟨0, ![]⟩) (hu) (j)
    (h : Host.reduce IntOp.andi (cmpf .olt (Host.absf A) (broadcastInDim ⟨2, ![m, n]⟩ ![] hb (constant (F := Ideal) ⟨0, ![]⟩ .f32 0x7F800000#32))) (constantI ⟨0, ![]⟩ 1 1#1) hr hu j = 1#1) :
    ∃ X : Fin m → Fin n → ℝ, A = M32 X := by
  have e := Host.reduce_andi_all _ _ _ _ j h
  have e' : ∀ i, ∃ r : ℝ, A i = (r : EReal) := fun i => real_of_lt (A i) (e i)
  choose f hf using e'
  exact ⟨fun a b => f (ix2 a b), funext fun i => (hf i).trans (by rw [eq_ix2 i]; rfl)⟩

/-- The same for one axis. -/
theorem finite_R {n : Nat} (A : FVec Ideal ⟨1, ![n]⟩ .f32) (hb) (hr : (⟨1, ![n]⟩ : Shape).ReducesTo [0] ⟨0, ![]⟩) (hu) (j)
    (h : Host.reduce IntOp.andi (cmpf .olt (Host.absf A) (broadcastInDim ⟨1, ![n]⟩ ![] hb (constant (F := Ideal) ⟨0, ![]⟩ .f32 0x7F800000#32))) (constantI ⟨0, ![]⟩ 1 1#1) hr hu j = 1#1) :
    ∃ a : Fin n → ℝ, A = R a := by
  have e : ∀ i, ∃ r : ℝ, A i = (r : EReal) := fun i => real_of_lt (A i) (Host.reduce_andi_all _ _ _ _ j h i)
  choose f hf using e
  exact ⟨fun a => f (ix1 a), funext fun i => (hf i).trans (by rw [eq_ix1 i]; rfl)⟩

end Step
-- ==== Proof.Norm.lean ====
module

public import proofs.«01_k».proof.Proof.Arr

@[expose] public section

noncomputable section

namespace Step

open Idealize Idealize.ShloMosaic

variable {n : Nat}

/-- The mean square of each row, plus the small number. -/
def vv (X : Fin n → Fin 1024 → ℝ) (i : Fin n) : ℝ := (∑ l, X i l * X i l) / 1024 + eps
/-- The reciprocal of each row's root mean square. -/
def rr (X : Fin n → Fin 1024 → ℝ) (i : Fin n) : ℝ := (√(vv X i))⁻¹
/-- The rows over their root mean squares. -/
def xh (X : Fin n → Fin 1024 → ℝ) (i : Fin n) (j : Fin 1024) : ℝ := X i j * rr X i
/-- The gradient of the normalised rows, given the gradient of what they are scaled to. -/
def nb (X D : Fin n → Fin 1024 → ℝ) (i : Fin n) (j : Fin 1024) : ℝ := rr X i * (D i j - xh X i j * ((∑ l, D i l * xh X i l) / 1024))

theorem vv_pos (X : Fin n → Fin 1024 → ℝ) (i : Fin n) : 0 < vv X i :=
  add_pos_of_nonneg_of_pos (div_nonneg (Finset.sum_nonneg fun l _ => mul_self_nonneg (X i l)) (by norm_num)) eps_pos

theorem rr_sq (X : Fin n → Fin 1024 → ℝ) (i : Fin n) : rr X i * rr X i = (vv X i)⁻¹ := by
  unfold rr; rw [← mul_inv, Real.mul_self_sqrt (vv_pos X i).le]

/-- The gradient through the mean square and the square root, taken step by step, is the gradient in closed form. -/
theorem nb_eq (X D : Fin n → Fin 1024 → ℝ) (i : Fin n) (j : Fin 1024) :
    D i j * rr X i + (X i j * ((∑ l, X i l * D i l) * (-1 / 2 * (rr X i / vv X i)) / 1024) + ((∑ l, X i l * D i l) * (-1 / 2 * (rr X i / vv X i)) / 1024) * X i j) = nb X D i j := by
  have h : ∑ l, D i l * xh X i l = rr X i * ∑ l, X i l * D i l := by
    rw [Finset.mul_sum]; exact Finset.sum_congr rfl fun l _ => by unfold xh; ring
  unfold nb; rw [h, xh, div_eq_mul_inv (rr X i), ← rr_sq]; ring

end Step
-- ==== Proof.Host.lean ====
module

public import proofs.«01_k».proof.Proof.Norm

@[expose] public section

set_option maxRecDepth 16384

noncomputable section

namespace Step

open Idealize Idealize.ShloMosaic

/-- The logistic function of every entry. -/
def sg {m n : Nat} (A : Fin m → Fin n → ℝ) : Fin m → Fin n → ℝ := fun i j => 1 / (1 + Real.exp (-A i j))
/-- The rows normalised and scaled. -/
def hn {n : Nat} (X : Fin n → Fin 1024 → ℝ) (g : Fin 1024 → ℝ) : Fin n → Fin 1024 → ℝ := fun i j => xh X i j * g j
/-- The gated activations. -/
def sw {m n : Nat} (A B : Fin m → Fin n → ℝ) : Fin m → Fin n → ℝ := fun i j => A i j * sg A i j * B i j

theorem kk_zero : constant (F := Ideal) ⟨0, ![]⟩ .f32 0x00000000#32 = K 0 := const_K _ w_zero
theorem kk_one : constant (F := Ideal) ⟨0, ![]⟩ .f32 0x3F800000#32 = K 1 := const_K _ w_one
theorem kk_half : constant (F := Ideal) ⟨0, ![]⟩ .f32 0x3F000000#32 = K (1 / 2) := const_K _ w_half
theorem kk_mhalf : constant (F := Ideal) ⟨0, ![]⟩ .f32 0xBF000000#32 = K (-1 / 2) := const_K _ w_mhalf
theorem kk_two : constant (F := Ideal) ⟨0, ![]⟩ .f32 0x40000000#32 = K 2 := const_K _ w_two
theorem kk_1024 : constant (F := Ideal) ⟨0, ![]⟩ .f32 0x44800000#32 = K 1024 := const_K _ w_1024
theorem kk_eps : constant (F := Ideal) ⟨0, ![]⟩ .f32 0x358637BD#32 = K eps := const_K _ w_eps

variable {m n : Nat} {φ : FTy}

/-- The root mean squares' reciprocals, as the host writes them. -/
theorem host_rr (X : Fin n → Fin 1024 → ℝ) :
    Host.rsqrt (M (φ := φ) ((colv (n := 1) (fun i => 0 + sumR (X * X) i) / fun _ _ => 1024) + fun _ _ => eps)) = M (fun i _ => rr X i) := by
  refine (hrsqrt_M _ fun i j => ?_).trans ?_
  · have := vv_pos X i
    simpa [colv, sumR, vv] using this
  · congr 1; funext i j; simp [colv, sumR, rr, vv]

/-- The derivative of the reciprocal root, over the mean squares, as the host writes it. -/
theorem host_vq (X : Fin n → Fin 1024 → ℝ) :
    Host.divf (M (φ := φ) (fun i (_ : Fin 1) => rr X i)) (M ((colv (fun i => 0 + sumR (X * X) i) / fun _ _ => 1024) + fun _ _ => eps)) = M (fun i _ => rr X i / vv X i) := by
  refine (hdivf_M _ _ fun i j => ?_).trans ?_
  · have := vv_pos X i
    simpa [colv, sumR, vv] using this.ne'
  · congr 1; funext i j; simp [colv, sumR, vv]

/-- The factor of the rows in the gradient through the mean square, as the host writes it. -/
abbrev hq (X D : Fin n → Fin 1024 → ℝ) : Fin n → Fin 1024 → ℝ :=
  colv fun i => 0 + sumR ((colv (n := 1) fun i => 0 + sumR (X * D) i) * ((fun _ _ => -1 / 2) * fun i _ => rr X i / vv X i) / fun _ _ => 1024) i

/-- The gradient through the normalisation, as the host writes it. -/
theorem host_nb (X D : Fin n → Fin 1024 → ℝ) : D * (fun i _ => rr X i) + X * hq X D + hq X D * X = nb X D := by
  funext i j
  refine Eq.trans ?_ (nb_eq X D i j)
  simp only [hq, Pi.add_apply, Pi.mul_apply, Pi.div_apply, colv, sumR, zero_add, Finset.univ_unique, Finset.sum_singleton]
  ring

/-- The logistic function, as the host writes it. -/
theorem host_sg (A : Fin m → Fin n → ℝ) :
    Host.divf (M (φ := φ) fun _ _ => 1) (M ((fun _ _ => 1) + fun i j => Real.exp ((-A) i j))) = M (sg A) := by
  refine (hdivf_M _ _ fun i j => ?_).trans rfl
  have := Real.exp_pos (-A i j)
  show (1 + Real.exp (-A i j)) ≠ 0
  positivity

/-- A quotient by the row length. -/
theorem host_mean (A : Fin m → Fin n → ℝ) : Host.divf (M (φ := φ) A) (M fun _ _ => 1024) = M (A / fun _ _ => 1024) := hdivf_M _ _ fun _ _ => by norm_num
theorem host_meanR (a : Fin n → ℝ) : Host.divf (R (φ := φ) a) (R fun _ => 1024) = R (a / fun _ => 1024) := hdivf_R _ _ fun _ => by norm_num

end Step
-- ==== Proof.Rows.lean ====
module

public import proofs.«01_k».proof.Proof.Arr

@[expose] public section

noncomputable section

namespace Step

variable {m : Nat}

/-- The `t`-th block of `k` rows. -/
def rows (k : Nat) {n : Nat} [NeZero n] (t : Nat) (A : Fin n → Fin m → ℝ) : Fin k → Fin m → ℝ := fun r => A (Fin.ofNat n (k * t + r.val))

/-- A sum over all rows, block after block. -/
theorem sum_rows (N k : Nat) [NeZero (N * k)] (f : Fin (N * k) → ℝ) :
    ∑ t ∈ Finset.range N, ∑ r : Fin k, f (Fin.ofNat (N * k) (k * t + r.val)) = ∑ i, f i := by
  rw [Finset.sum_range, ← Fintype.sum_prod_type' (f := fun (t : Fin N) (r : Fin k) => f (Fin.ofNat (N * k) (k * t.val + r.val))),
    ← Equiv.sum_comp finProdFinEquiv f]
  refine Finset.sum_congr rfl fun x _ => congrArg f (Fin.ext ?_)
  have h := (finProdFinEquiv x).isLt
  have e : (finProdFinEquiv x).val = x.2.val + k * x.1.val := rfl
  show (k * x.1.val + x.2.val) % (N * k) = _
  rw [Nat.mod_eq_of_lt (by omega)]; omega

end Step
-- ==== Proof.Back.lean ====
module

public import proofs.«01_k».proof.Proof.Arr
public import Idealize.ShloMosaic.Lib.Pipeline.Value

@[expose] public section

namespace Step

open Idealize Idealize.ShloMosaic

variable {S : Shape} {e : EltTy} {Val : EltTy → Type} [∀ e, Nonempty (Val e)]

theorem hz : (![0, 0] : Fin 2 → Nat) = fun _ => 0 := funext fun a => by fin_cases a <;> rfl
theorem hz3 : (![0, 0, 0] : Fin 3 → Nat) = fun _ => 0 := funext fun a => by fin_cases a <;> rfl

/-- A whole array written last is what stands there. -/
theorem canon_whole (w : S.Idx → Val e) (L : List (View.Piece Val S e)) : View.canon ((⟨Rect.whole S, w⟩ : View.Piece Val S e) :: L) = w :=
  funext fun y => (congrArg _ (Rect.emb_whole_apply S y).symm).trans (View.canon_cons_emb (Rect.whole S) w L y)

/-- A load of everything, after a whole array was written, gives that array. -/
theorem readCov_whole {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.whole S, w⟩ : View.Piece Val S e) :: L) (Rect.unit off S.size inb).toLoadRect = w :=
  (View.readCov_eq_canon' v _ _).trans ((congrArg (fun f : S.Idx → Val e => View.ld f (Rect.unit off S.size inb)) (canon_whole w L)).trans (View.ld_unit_zero h inb w))

/-- A load of everything, after a store of everything. -/
theorem readCov_full {sig : RefSig} {κ : Kind} {sp : Space} (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off' S.size inb', w⟩ : View.Piece Val S e) :: L) (Rect.unit off S.size inb).toLoadRect = w :=
  (View.readCov_eq_canon' v _ _).trans ((congrArg (fun f : S.Idx → Val e => View.ld f (Rect.unit off S.size inb)) (View.canon_cons_unit_zero h' inb' w L)).trans (View.ld_unit_zero h inb w))

/-- A load of a part, after a whole array was written, gives that part of it. -/
theorem readCov_part {sig : RefSig} {κ : Kind} {sp : Space} (v : View sig κ sp S e) (r : Rect S) (w : S.Idx → Val e) (L : List (View.Piece Val S e)) :
    v.readCov ((⟨Rect.whole S, w⟩ : View.Piece Val S e) :: L) r.toLoadRect = View.ld w r :=
  (View.readCov_eq_canon' v _ _).trans (congrArg (fun f : S.Idx → Val e => View.ld f r) (canon_whole w L))

end Step
-- ==== Proof.LossRead.lean ====
module

public import proofs.«01_k».proof.Proof.Back
public import proofs.«01_k».proof.Proof.Gen.LossKIdeal.Value

@[expose] public section

set_option maxRecDepth 16384

noncomputable section

namespace Step.Loss

open Idealize Idealize.ShloMosaic Idealize.ShloMosaic.TcCoe
open Cert.LossKIdeal Cert.LossKIdeal.Gen

variable (x : Vec Ideal S512x1024 .f32) (s : Vec Ideal S512x2816 .bf16) (g : Vec Ideal S1x1024 .f32) (y : Vec Ideal S512x1024 .f32) (w : Vec Ideal S2816x1024 .bf16)

/-- The gradient of one block of rows. -/
def oX : Vec Ideal S512x1024 .f32 := k0_pay1 (k0_pay8 x s w) (k0_pay12 x s w g y) (k0_pay13 x s w g y)
/-- The column sums of squares, after one block more. -/
def oS (acc : Vec Ideal S1x1024 .f32) : Vec Ideal S1x1024 .f32 := k0_pay2 (k0_pay10 x s w g y) acc
/-- The gain's gradient, after one block more. -/
def oG (acc : Vec Ideal S1x1024 .f32) : Vec Ideal S1x1024 .f32 := k0_pay3 (k0_pay9 x s w) (k0_pay11 x s w g y) acc

variable (m : (ℓ : Loc nD τ sig) → Buf (Elt Ideal) ℓ) (c : Dev nD)

theorem at_A (t : Fin cfg0.N) (h0 : t.val % 8 = 0) : outsAt0 m c t.val t.isLt =
    (oX (iblk m c 0 t) (iblk m c 1 t) (iblk m c 2 t) (iblk m c 3 t) (V m c main_v19),
     oS (iblk m c 0 t) (iblk m c 1 t) (iblk m c 2 t) (iblk m c 3 t) (V m c main_v19) (k0_pay4 (F := Ideal)),
     oG (iblk m c 0 t) (iblk m c 1 t) (iblk m c 2 t) (iblk m c 3 t) (V m c main_v19) (k0_pay5 (F := Ideal)), V m c main_v19) := by
  refine (outsAt0_A m c t h0).trans (Prod.ext ?_ (Prod.ext ?_ (Prod.ext ?_ ?_))) <;> dsimp only
  · unfold out0_A_4
    rw [View.read_writes_eq_canon _ _ _ (cover0_A_4 _ _ _ _ _ _ _ _ _ _ _ _ _ _ _ _ _ _ _ _ _ _ _ _)]
    unfold kernelRun0_A; dsimp only; sl_unfold_words
    rw [View.canon_unit_zero hz]; unfold oX
    simp only [View.readAt_eq_ld, (hs0_0 t).read_unread, (hs0_1 t).read_unread, (hs0_2 t).read_unread, (hs0_3 t).read_unread, View.ld_unit_zero (S := S512x1024) hz, View.ld_unit_zero (S := S512x2816) hz, View.ld_unit_zero (S := S1x1024) hz, readCov_whole (S := S2816x1024) _ hz]
    rfl
  · unfold out0_A_5
    rw [View.read_writes_eq_canon _ _ _ (cover0_A_5 _ _ _ _ _ _ _ _ _ _ _ _ _ _ _ _ _ _ _ _ _ _ _ _)]
    unfold kernelRun0_A; dsimp only; sl_unfold_words
    rw [View.canon_cons_unit_zero (S := S1x1024) hz]; unfold oS
    simp only [View.readAt_eq_ld, (hs0_0 t).read_unread, (hs0_1 t).read_unread, (hs0_2 t).read_unread, (hs0_3 t).read_unread, View.ld_unit_zero (S := S512x1024) hz, View.ld_unit_zero (S := S512x2816) hz, View.ld_unit_zero (S := S1x1024) hz, readCov_whole (S := S2816x1024) _ hz, readCov_full (S := S1x1024) _ hz hz]
    rfl
  · unfold out0_A_6
    rw [View.read_writes_eq_canon _ _ _ (cover0_A_6 _ _ _ _ _ _ _ _ _ _ _ _ _ _ _ _ _ _ _ _ _ _ _ _)]
    unfold kernelRun0_A; dsimp only; sl_unfold_words
    rw [View.canon_cons_unit_zero (S := S1x1024) hz]; unfold oG
    simp only [View.readAt_eq_ld, (hs0_0 t).read_unread, (hs0_1 t).read_unread, (hs0_2 t).read_unread, (hs0_3 t).read_unread, View.ld_unit_zero (S := S512x1024) hz, View.ld_unit_zero (S := S512x2816) hz, View.ld_unit_zero (S := S1x1024) hz, readCov_whole (S := S2816x1024) _ hz, readCov_full (S := S1x1024) _ hz hz]
    rfl
  · unfold sout0_A_0
    unfold kernelRun0_A; dsimp only; sl_unfold_words
    rw [View.read_writes_junk_eq_canon, canon_whole]
    rfl

theorem at_B (t : Fin cfg0.N) (h0 : ¬t.val % 8 = 0) (p : Vec Ideal S512x1024 .f32 × Vec Ideal S1x1024 .f32 × Vec Ideal S1x1024 .f32 × Vec Ideal S2816x1024 .bf16)
    (hp : outsAt0 m c (t.val - 1) (Nat.lt_of_le_of_lt (Nat.sub_le _ _) t.isLt) = p) : outsAt0 m c t.val t.isLt =
    (oX (iblk m c 0 t) (iblk m c 1 t) (iblk m c 2 t) (iblk m c 3 t) p.2.2.2,
     oS (iblk m c 0 t) (iblk m c 1 t) (iblk m c 2 t) (iblk m c 3 t) p.2.2.2 p.2.1,
     oG (iblk m c 0 t) (iblk m c 1 t) (iblk m c 2 t) (iblk m c 3 t) p.2.2.2 p.2.2.1, p.2.2.2) := by
  refine (outsAt0_B m c t h0).trans ?_
  rw [hp]
  have hw : scM0_0.IsWhole := Memref.isWhole_whole _
  refine Prod.ext ?_ (Prod.ext ?_ (Prod.ext ?_ ?_)) <;> dsimp only
  · unfold out0_B_4
    rw [View.read_writes_eq_canon _ _ _ (cover0_B_4 _ _ _ _ _ _ _ _ _ _ _ _ _ _ _ _ _ _ _ _ _ _ _ _ _ _ _)]
    unfold kernelRun0_B; dsimp only; sl_unfold_words
    rw [View.canon_unit_zero hz]; unfold oX
    simp only [View.readAt_eq_ld, (hs0_0 t).read_unread, (hs0_1 t).read_unread, (hs0_2 t).read_unread, (hs0_3 t).read_unread, hw.read_unread, View.ld_unit_zero (S := S512x1024) hz, View.ld_unit_zero (S := S512x2816) hz, View.ld_unit_zero (S := S1x1024) hz, View.ld_unit_zero (S := S2816x1024) hz]
  · unfold out0_B_5
    rw [View.read_writes_eq_canon _ _ _ (cover0_B_5 _ _ _ _ _ _ _ _ _ _ _ _ _ _ _ _ _ _ _ _ _ _ _ _ _ _ _)]
    unfold kernelRun0_B; dsimp only; sl_unfold_words
    rw [View.canon_cons_unit_zero (S := S1x1024) hz]; unfold oS
    simp only [View.readAt_eq_ld, (hs0_0 t).read_unread, (hs0_1 t).read_unread, (hs0_2 t).read_unread, (hs0_3 t).read_unread, (hs0_5 t).read_unread, hw.read_unread, View.ld_unit_zero (S := S512x1024) hz, View.ld_unit_zero (S := S512x2816) hz, View.ld_unit_zero (S := S1x1024) hz, View.ld_unit_zero (S := S2816x1024) hz]
  · unfold out0_B_6
    rw [View.read_writes_eq_canon _ _ _ (cover0_B_6 _ _ _ _ _ _ _ _ _ _ _ _ _ _ _ _ _ _ _ _ _ _ _ _ _ _ _)]
    unfold kernelRun0_B; dsimp only; sl_unfold_words
    rw [View.canon_cons_unit_zero (S := S1x1024) hz]; unfold oG
    simp only [View.readAt_eq_ld, (hs0_0 t).read_unread, (hs0_1 t).read_unread, (hs0_2 t).read_unread, (hs0_3 t).read_unread, (hs0_6 t).read_unread, hw.read_unread, View.ld_unit_zero (S := S512x1024) hz, View.ld_unit_zero (S := S512x2816) hz, View.ld_unit_zero (S := S1x1024) hz, View.ld_unit_zero (S := S2816x1024) hz]
  · rfl

end Step.Loss
-- ==== Proof.LossPay.lean ====
module

public import proofs.«01_k».proof.Proof.Norm
public import proofs.«01_k».proof.Proof.LossRead

@[expose] public section

set_option maxRecDepth 16384

noncomputable section

namespace Step.Loss

open Idealize Idealize.ShloMosaic
open Cert.LossKIdeal Cert.LossKIdeal.Gen

variable {n : Nat} (X Y : Fin n → Fin 1024 → ℝ) (S : Fin n → Fin 2816 → ℝ) (W : Fin 2816 → Fin 1024 → ℝ) (g : Fin 1024 → ℝ)

/-- The rows after the second half step. -/
def res : Fin n → Fin 1024 → ℝ := fun i j => X i j + 1 / 2 * ∑ p, S i p * W p j
/-- The error of the normalised, scaled rows. -/
def er : Fin n → Fin 1024 → ℝ := fun i j => xh X i j * g j - Y i j
/-- The loss's gradient with respect to the rows. -/
def lx : Fin n → Fin 1024 → ℝ := nb X fun i j => er X Y g i j * (1 / 1024) * g j
/-- The column sums of the squared errors. -/
def ls : Fin 1024 → ℝ := fun j => ∑ i, er X Y g i j * er X Y g i j
/-- The loss's gradient with respect to the gain. -/
def lg : Fin 1024 → ℝ := fun j => ∑ i, er X Y g i j * (1 / 1024) * xh X i j

theorem cast_self {m n : Nat} {φ : FTy} (A : FVec Ideal ⟨2, ![m, n]⟩ φ) (h) : shapeCast ⟨2, ![m, n]⟩ A h = A := by
  funext j; exact congrArg A (Shape.reshapeEquiv_eq_of_vals _ j j _ _ rfl rfl rfl)

variable (x y : Fin 512 → Fin 1024 → ℝ) (s : Fin 512 → Fin 2816 → ℝ) (G : Fin 1 → Fin 1024 → ℝ)

theorem dots : dot_S512x2816_S2816x1024_S512x1024_1_0_0_1_n_n = DotDims.plain 512 2816 1024 := rfl

theorem pay6 : k0_pay6 (F := Ideal) (M32 x) (M16 s) (M16 W) = M (res x s W) := by
  unfold k0_pay6; dsimp only
  rw [dots, cast_self]
  rw [const_M _ w_zero, splat_M _ w_half, prod_mm, mulf_M, addf_M]
  congr 1; funext i j; simp [res, mm]

theorem pay8 : k0_pay8 (F := Ideal) (M32 x) (M16 s) (M16 W) = M (fun i _ => rr (res x s W) i) := by
  unfold k0_pay8; dsimp only
  rw [pay6, splat_M _ w_1024, splat_M _ w_eps, mulf_M,]; erw [red_R]; rw [cast_col, divf_M _ _ (fun _ _ => by norm_num), addf_M]
  exact rsqrt_M _ (fun i _ => vv_pos (res x s W) i)

theorem pay9 : k0_pay9 (F := Ideal) (M32 x) (M16 s) (M16 W) = M (xh (res x s W)) := by
  unfold k0_pay9; dsimp only
  rw [pay8, pay6, bto_M1, mulf_M]; rfl

theorem pay10 : k0_pay10 (F := Ideal) (M32 x) (M16 s) (M16 W) (M32 G) (M32 y) = M (er (res x s W) y (G 0)) := by
  unfold k0_pay10 k0_pay7; dsimp only
  rw [pay9, cast_self, bto_1M, mulf_M, subf_M]; rfl

theorem pay11 : k0_pay11 (F := Ideal) (M32 x) (M16 s) (M16 W) (M32 G) (M32 y) = M (fun i j => er (res x s W) y (G 0) i j * (1 / 1024)) := by
  unfold k0_pay11; dsimp only
  rw [pay10, splat_M _ w_r1024, mulf_M]; rfl

theorem pay12 : k0_pay12 (F := Ideal) (M32 x) (M16 s) (M16 W) (M32 G) (M32 y) = M (fun i j => er (res x s W) y (G 0) i j * (1 / 1024) * G 0 j) := by
  unfold k0_pay12 k0_pay7; dsimp only
  rw [pay11, cast_self, bto_1M, mulf_M]; rfl

/-- One block of rows of the gradient. -/
theorem oX_M : oX (M32 x) (M16 s) (M32 G) (M32 y) (M16 W) = M32 (lx (res x s W) y (G 0)) := by
  unfold oX k0_pay1 k0_pay13; dsimp only
  rw [pay12, pay9, pay8, splat_M _ w_1024, mulf_M,]; erw [red_R]; rw [cast_col, divf_M _ _ (fun _ _ => by norm_num), bto_M1, bto_M1, mulf_M, subf_M, mulf_M]; rfl

/-- One block more of the column sums. -/
theorem oS_M (A : Fin 1024 → ℝ) : oS (M32 x) (M16 s) (M32 G) (M32 y) (M16 W) (M32 (rowv A)) = M32 (rowv (A + ls (res x s W) y (G 0))) := by
  unfold oS k0_pay2; dsimp only
  rw [pay10, cast_self, mulf_M,]; erw [red_C]; rw [cast_row, addf_M]; rfl

/-- One block more of the gain's gradient. -/
theorem oG_M (A : Fin 1024 → ℝ) : oG (M32 x) (M16 s) (M32 G) (M32 y) (M16 W) (M32 (rowv A)) = M32 (rowv (A + lg (res x s W) y (G 0))) := by
  unfold oG k0_pay3; dsimp only
  rw [pay11, pay9, cast_self, mulf_M,]; erw [red_C]; rw [cast_row, addf_M]; rfl

end Step.Loss
-- ==== Proof.LossArr.lean ====
module

public import proofs.«01_k».proof.Proof.Rows
public import proofs.«01_k».proof.Proof.LossPay

@[expose] public section

set_option maxRecDepth 16384

noncomputable section

namespace Step.Loss

open Idealize Idealize.ShloMosaic Idealize.ShloMosaic.TcCoe Idealize.SL.Sem
open Cert.LossKIdeal Cert.LossKIdeal.Gen Cert.LossKIdeal.Value

variable (m : (ℓ : Loc nD τ sig) → Buf (Elt Ideal) ℓ) (c : Dev nD)
variable (X Y : Fin 4096 → Fin 1024 → ℝ) (S : Fin 4096 → Fin 2816 → ℝ) (W : Fin 2816 → Fin 1024 → ℝ) (g : Fin 1024 → ℝ)

theorem idx (t : Fin cfg0.N) : win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0) t

theorem lt8 (t : Fin cfg0.N) : t.val < 8 := by have h : cfg0.N = 8 := N_0; have := t.isLt; omega

theorem blk0 (t : Fin cfg0.N) (h : V m c main_arg0 = M32 X) : (iblk m c 0 t : Vec Ideal S512x1024 .f32) = M32 (rows 512 t.val X) := by
  funext j; unfold iblk; rw [View.read_apply]
  show V m c main_arg0 _ = _
  rw [h]
  refine M_val _ _ _ _ ?_ ?_
  · show win0_0.index t 0 * 512 + 1 * (j 0).val = (512 * t.val + (j 0).val) % 4096
    have := lt8 t; have h : (j 0 : Nat) < 512 := (j 0).isLt; rw [(idx t).1]; omega
  · show win0_0.index t 1 * 1024 + 1 * (j 1).val = (j 1).val
    rw [(idx t).2.1]; omega

theorem blk1 (t : Fin cfg0.N) (h : V m c main_v18 = M16 S) : (iblk m c 1 t : Vec Ideal S512x2816 .bf16) = M16 (rows 512 t.val S) := by
  funext j; unfold iblk; rw [View.read_apply]
  show V m c main_v18 _ = _
  rw [h]
  refine M_val _ _ _ _ ?_ ?_
  · show win0_1.index t 0 * 512 + 1 * (j 0).val = (512 * t.val + (j 0).val) % 4096
    have := lt8 t; have h : (j 0 : Nat) < 512 := (j 0).isLt; rw [(idx t).2.2.1]; omega
  · show win0_1.index t 1 * 2816 + 1 * (j 1).val = (j 1).val
    rw [(idx t).2.2.2.1]; omega

theorem blk2 (t : Fin cfg0.N) (h : V m c main_v20 = M32 (rowv g)) : (iblk m c 2 t : Vec Ideal S1x1024 .f32) = M32 (rowv g) := by
  funext j; unfold iblk; rw [View.read_apply]
  show V m c main_v20 _ = _
  rw [h]
  refine M_val _ _ _ _ ?_ ?_
  · show win0_2.index t 0 * 1 + 1 * (j 0).val = (j 0).val
    rw [(idx t).2.2.2.2.1]; omega
  · show win0_2.index t 1 * 1024 + 1 * (j 1).val = (j 1).val
    rw [(idx t).2.2.2.2.2.1]; omega

theorem blk3 (t : Fin cfg0.N) (h : V m c main_arg6 = M32 Y) : (iblk m c 3 t : Vec Ideal S512x1024 .f32) = M32 (rows 512 t.val Y) := by
  funext j; unfold iblk; rw [View.read_apply]
  show V m c main_arg6 _ = _
  rw [h]
  refine M_val _ _ _ _ ?_ ?_
  · show win0_3.index t 0 * 512 + 1 * (j 0).val = (512 * t.val + (j 0).val) % 4096
    have := lt8 t; have h : (j 0 : Nat) < 512 := (j 0).isLt; rw [(idx t).2.2.2.2.2.2.1]; omega
  · show win0_3.index t 1 * 1024 + 1 * (j 1).val = (j 1).val
    rw [(idx t).2.2.2.2.2.2.2]; omega

variable (hx : V m c main_arg0 = M32 X) (hs : V m c main_v18 = M16 S) (hg : V m c main_v20 = M32 (rowv g)) (hy : V m c main_arg6 = M32 Y)
  (hw : V m c main_v19 = M16 W)

/-- The rows after the second half step, of one block. -/
abbrev rb (t : Nat) := res (rows 512 t X) (rows 512 t S) W

include hx hs hg hy hw in
/-- What the kernel holds after each point: the block's gradient, the sums so far, the weight. -/
theorem outs_eq : ∀ (n : Nat) (h : n < cfg0.N), outsAt0 m c n h =
    (M32 (lx (rb X S W n) (rows 512 n Y) g), M32 (rowv (∑ t ∈ Finset.range (n + 1), ls (rb X S W t) (rows 512 t Y) g)),
     M32 (rowv (∑ t ∈ Finset.range (n + 1), lg (rb X S W t) (rows 512 t Y) g)), M16 W)
  | 0, h => by
    refine (at_A m c ⟨0, h⟩ rfl).trans ?_
    have e4 : k0_pay4 (F := Ideal) = M32 (rowv fun _ => 0) := splat_M _ w_zero
    have e5 : k0_pay5 (F := Ideal) = M32 (rowv fun _ => 0) := splat_M _ w_zero
    rw [blk0 m c X _ hx, blk1 m c S _ hs, blk2 m c g _ hg, blk3 m c Y _ hy, hw, e4, e5, oX_M, oS_M, oG_M, Finset.sum_range_one, Finset.sum_range_one]
    rw [show (fun _ => (0 : ℝ) : Fin 1024 → ℝ) = 0 from rfl, zero_add, zero_add]; rfl
  | n + 1, h => by
    have hB : ¬(⟨n + 1, h⟩ : Fin cfg0.N).val % 8 = 0 := by have := lt8 ⟨n + 1, h⟩; dsimp only at this ⊢; omega
    refine (at_B m c ⟨n + 1, h⟩ hB _ (outs_eq n (Nat.lt_of_succ_lt h))).trans ?_
    dsimp only
    rw [blk0 m c X _ hx, blk1 m c S _ hs, blk2 m c g _ hg, blk3 m c Y _ hy, oX_M, oS_M, oG_M, Finset.sum_range_succ _ (n + 1), Finset.sum_range_succ _ (n + 1)]
    rfl

theorem ls_all : ∑ t ∈ Finset.range 8, ls (rb X S W t) (rows 512 t Y) g = ls (res X S W) Y g := by
  funext j; rw [Finset.sum_apply]; exact sum_rows 8 512 fun i => er (res X S W) Y g i j * er (res X S W) Y g i j
theorem lg_all : ∑ t ∈ Finset.range 8, lg (rb X S W t) (rows 512 t Y) g = lg (res X S W) Y g := by
  funext j; rw [Finset.sum_apply]; exact sum_rows 8 512 fun i => er (res X S W) Y g i j * (1 / 1024) * xh (res X S W) i j

theorem idx' (t : Fin cfg0.N) : win0_4.index t 0 = t.val ∧ win0_4.index t 1 = 0 ∧ win0_5.index t 0 = 0 ∧ win0_5.index t 1 = 0
    ∧ win0_6.index t 0 = 0 ∧ win0_6.index t 1 = 0 :=
  (by decide +kernel : ∀ t : Fin grid0.N, win0_4.index t 0 = t.val ∧ win0_4.index t 1 = 0 ∧ win0_5.index t 0 = 0 ∧ win0_5.index t 1 = 0
    ∧ win0_6.index t 0 = 0 ∧ win0_6.index t 1 = 0) t

include hx hs hg hy hw in
/-- The gradient of every row. -/
theorem final4 : (dats m 0 c).arrAt 4 cfg0.N = M32 (lx (res X S W) Y g) :=
  (dats m 0 c).arrAt_eq_of_cover 4 (M32 (lx (res X S W) Y g)) (fun t _ => by
    rw [flushed4, outs_eq m c X Y S W g hx hs hg hy hw]
    dsimp only
    funext j
    show M32 _ _ = M32 _ _
    symm
    refine (M_val _ _ (Fin.ofNat 4096 (512 * t.val + (j 0).val)) (j 1) ?_ ?_).trans ?_
    · show win0_4.index t 0 * 512 + 1 * (j 0).val = (512 * t.val + (j 0).val) % 4096
      have := lt8 t; have h : (j 0 : Nat) < 512 := (j 0).isLt; rw [(idx' t).1]; omega
    · show win0_4.index t 1 * 1024 + 1 * (j 1).val = (j 1).val
      rw [(idx' t).2.1]; omega
    · rfl) fun i => by
    have h0 : (i 0 : Nat) < 4096 := (i 0).isLt
    have h1 : (i 1 : Nat) < 1024 := (i 1).isLt
    have hN : cfg0.N = 8 := N_0
    have hc : (i 0).val / 512 < cfg0.N := by omega
    refine ⟨⟨(i 0).val / 512, hc⟩, flush0_4 _, ?_⟩
    show i ∈ ((View.whole main_v21_0).slice (win0_4.rect ⟨(i 0).val / 512, hc⟩)).set
    rw [View.set_slice_whole, Rect.mem_set_unit]
    intro a
    match a with
    | ⟨0, _⟩ =>
      show win0_4.index ⟨(i 0).val / 512, hc⟩ 0 * 512 ≤ (i 0 : Nat) ∧ (i 0 : Nat) < win0_4.index ⟨(i 0).val / 512, hc⟩ 0 * 512 + 512
      rw [(idx' _).1]; dsimp only; omega
    | ⟨1, _⟩ =>
      show win0_4.index ⟨(i 0).val / 512, hc⟩ 1 * 1024 ≤ (i 1 : Nat) ∧ (i 1 : Nat) < win0_4.index ⟨(i 0).val / 512, hc⟩ 1 * 1024 + 1024
      rw [(idx' _).2.1]; omega

include hx hs hg hy hw in
/-- The column sums of the squared errors. -/
theorem final5 : (dats m 0 c).arrAt 5 cfg0.N = M32 (rowv (ls (res X S W) Y g)) :=
  (dats m 0 c).arrAt_eq_of_cover 5 (M32 (rowv (ls (res X S W) Y g))) (fun t hf => by
    have h7 : t.val = 7 := by have := (flush0_5 t).mp hf; have := lt8 t; omega
    rw [flushed5, outs_eq m c X Y S W g hx hs hg hy hw]
    dsimp only
    rw [h7, ls_all]
    funext j
    show M32 _ _ = M32 _ _
    symm
    refine (M_val _ _ 0 (j 1) ?_ ?_).trans ?_
    · show win0_5.index t 0 * 1 + 1 * (j 0).val = 0
      have h : (j 0 : Nat) < 1 := (j 0).isLt; rw [(idx' t).2.2.1]; omega
    · show win0_5.index t 1 * 1024 + 1 * (j 1).val = (j 1).val
      rw [(idx' t).2.2.2.1]; omega
    · rfl) fun i => by
    have h0 : (i 0 : Nat) < 1 := (i 0).isLt
    have h1 : (i 1 : Nat) < 1024 := (i 1).isLt
    have hN : cfg0.N = 8 := N_0
    have hc : 7 < cfg0.N := by omega
    refine ⟨⟨7, hc⟩, (flush0_5 _).mpr rfl, ?_⟩
    show i ∈ ((View.whole main_v21_1).slice (win0_5.rect ⟨7, hc⟩)).set
    rw [View.set_slice_whole, Rect.mem_set_unit]
    intro a
    match a with
    | ⟨0, _⟩ =>
      show win0_5.index ⟨7, hc⟩ 0 * 1 ≤ (i 0 : Nat) ∧ (i 0 : Nat) < win0_5.index ⟨7, hc⟩ 0 * 1 + 1
      rw [(idx' _).2.2.1]; omega
    | ⟨1, _⟩ =>
      show win0_5.index ⟨7, hc⟩ 1 * 1024 ≤ (i 1 : Nat) ∧ (i 1 : Nat) < win0_5.index ⟨7, hc⟩ 1 * 1024 + 1024
      rw [(idx' _).2.2.2.1]; omega

include hx hs hg hy hw in
/-- The gain's gradient. -/
theorem final6 : (dats m 0 c).arrAt 6 cfg0.N = M32 (rowv (lg (res X S W) Y g)) :=
  (dats m 0 c).arrAt_eq_of_cover 6 (M32 (rowv (lg (res X S W) Y g))) (fun t hf => by
    have h7 : t.val = 7 := by have := (flush0_6 t).mp hf; have := lt8 t; omega
    rw [flushed6, outs_eq m c X Y S W g hx hs hg hy hw]
    dsimp only
    rw [h7, lg_all]
    funext j
    show M32 _ _ = M32 _ _
    symm
    refine (M_val _ _ 0 (j 1) ?_ ?_).trans ?_
    · show win0_6.index t 0 * 1 + 1 * (j 0).val = 0
      have h : (j 0 : Nat) < 1 := (j 0).isLt; rw [(idx' t).2.2.2.2.1]; omega
    · show win0_6.index t 1 * 1024 + 1 * (j 1).val = (j 1).val
      rw [(idx' t).2.2.2.2.2]; omega
    · rfl) fun i => by
    have h0 : (i 0 : Nat) < 1 := (i 0).isLt
    have h1 : (i 1 : Nat) < 1024 := (i 1).isLt
    have hN : cfg0.N = 8 := N_0
    have hc : 7 < cfg0.N := by omega
    refine ⟨⟨7, hc⟩, (flush0_6 _).mpr rfl, ?_⟩
    show i ∈ ((View.whole main_v21_2).slice (win0_6.rect ⟨7, hc⟩)).set
    rw [View.set_slice_whole, Rect.mem_set_unit]
    intro a
    match a with
    | ⟨0, _⟩ =>
      show win0_6.index ⟨7, hc⟩ 0 * 1 ≤ (i 0 : Nat) ∧ (i 0 : Nat) < win0_6.index ⟨7, hc⟩ 0 * 1 + 1
      rw [(idx' _).2.2.2.2.1]; omega
    | ⟨1, _⟩ =>
      show win0_6.index ⟨7, hc⟩ 1 * 1024 ≤ (i 1 : Nat) ∧ (i 1 : Nat) < win0_6.index ⟨7, hc⟩ 1 * 1024 + 1024
      rw [(idx' _).2.2.2.2.2]; omega

end Step.Loss
-- ==== Proof.LossIn.lean ====
module

public import proofs.«01_k».proof.Proof.LossArr
public import proofs.«01_k».proof.Proof.Host

@[expose] public section

set_option maxRecDepth 16384

noncomputable section

namespace Step.Loss

open Idealize Idealize.ShloMosaic Idealize.ShloMosaic.TcCoe Idealize.SL.Sem
open Cert.LossKIdeal Cert.LossKIdeal.Gen

variable (m : (ℓ : Loc nD τ sig) → Buf (Elt Ideal) ℓ) (c : Dev nD)
variable (X Y : Fin 4096 → Fin 1024 → ℝ) (N : Fin 1 → Fin 1024 → ℝ) (P Q : Fin 1024 → Fin 2816 → ℝ) (W : Fin 2816 → Fin 1024 → ℝ) (g : Fin 1024 → ℝ)

theorem dot1 : dot_S4096x1024_S1024x2816_S4096x2816_1_0_0_1_n_n = DotDims.plain 4096 1024 2816 := rfl

/-- The saved hidden activations. -/
abbrev act : Fin 4096 → Fin 2816 → ℝ := sw (mm (hn X (N 0)) P) (mm (hn X (N 0)) Q)

theorem in18 (h0 : m (c, Proc.tc.devRef main_arg0) = M32 X) (h1 : m (c, Proc.tc.devRef main_arg1) = M32 N) (h2 : m (c, Proc.tc.devRef main_arg2) = M32 P)
    (h3 : m (c, Proc.tc.devRef main_arg3) = M32 Q) : V m c main_v18 = M16 (act X N P Q) := by
  simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
  after_results_simp
  have e : (fun i => shapeCast main_v0.ty.shape (m (c, Proc.tc.devRef main_arg1)) shapeCasts_S1x1024_S1024 i) = R (φ := .f32) (N 0) := by
    rw [h1]; exact cast_unrow _ _
  rw [e, h0, h2, h3, dot1]
  simp only [kk_zero, kk_one, kk_1024, kk_eps, bid_KM, bid_row, bid_col, bid_1M, bid_M1, mulf_M, hred_R, host_mean, addf_M, host_rr, dot_mm, hneg_M, hexp_M, host_sg, truncf_M]
  rfl

theorem in19 (h : m (c, Proc.tc.devRef main_arg4) = M32 W) : V m c main_v19 = M16 W := by
  simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
  after_results_simp
  rw [h]; rfl

theorem in20 (h : m (c, Proc.tc.devRef main_arg5) = R (φ := .f32) g) : V m c main_v20 = M32 (rowv g) := by
  simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
  after_results_simp
  rw [h]; exact cast_row _ _

end Step.Loss
-- ==== Proof.LossRef.lean ====
module

public import proofs.«01_k».proof.Proof.Host
public import proofs.«01_k».proof.Proof.LossIn
public import proofs.«01_k».proof.Proof.Gen.LossRIdeal.Run

@[expose] public section

set_option maxRecDepth 16384

noncomputable section

namespace Step.Loss

open Idealize Idealize.ShloMosaic Idealize.ShloMosaic.TcCoe Idealize.SL.Sem
open Cert.LossRIdeal Cert.LossRIdeal.Value

variable (m : (ℓ : Loc nD τ sig) → Buf (Elt Ideal) ℓ) (c : Dev nD)
variable (X Y : Fin 4096 → Fin 1024 → ℝ) (N : Fin 1 → Fin 1024 → ℝ) (P Q : Fin 1024 → Fin 2816 → ℝ) (W : Fin 2816 → Fin 1024 → ℝ) (g : Fin 1024 → ℝ)

theorem rdot1 : dot_S4096x1024_S1024x2816_S4096x2816_1_0_0_1_n_n = DotDims.plain 4096 1024 2816 := rfl
theorem rdot2 : dot_S4096x2816_S2816x1024_S4096x1024_1_0_0_1_n_n = DotDims.plain 4096 2816 1024 := rfl

theorem ref1 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = R (φ := .f32) g)
    (h6 : m ((c.tc : Thread nD τ).loc main_arg6) = M32 Y) : res_main_v74 m c = M32 (rowv (ls (res X (act X N P Q) W) Y g)) := by
  unfold res_main_v74
  rw [h0, h1, h2, h3, h4, h5, h6, rdot1, rdot2]
  simp only [cast_unrow, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, host_rr, host_vq, dot_mm, hneg_M, hexp_M, host_sg, truncf_M, cast_row, cast_col]
  refine (bid_row _ _).trans (congrArg M32 ?_)
  funext i j; exact zero_add _

theorem ref0 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = R (φ := .f32) g)
    (h6 : m ((c.tc : Thread nD τ).loc main_arg6) = M32 Y) : res_main_v73 m c = M32 (lx (res X (act X N P Q) W) Y g) := by
  unfold res_main_v73
  rw [h0, h1, h2, h3, h4, h5, h6, rdot1, rdot2]
  simp only [cast_unrow, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, host_rr, host_vq, dot_mm, hneg_M, hexp_M, host_sg, truncf_M, cast_row, cast_col]
  refine congrArg M32 ((host_nb _ _).trans ?_)
  refine congrArg (nb (res X (act X N P Q) W)) ?_
  funext i j
  simp only [Pi.mul_apply, Pi.div_apply, colv]
  show 1 / 2 * 1 / 1024 * (2 * er (res X (act X N P Q) W) Y g i j) * g j = _
  ring

theorem ref2 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = R (φ := .f32) g)
    (h6 : m ((c.tc : Thread nD τ).loc main_arg6) = M32 Y) : res_main_v75 m c = M32 (rowv (lg (res X (act X N P Q) W) Y g)) := by
  unfold res_main_v75
  rw [h0, h1, h2, h3, h4, h5, h6, rdot1, rdot2]
  simp only [cast_unrow, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, host_rr, host_vq, dot_mm, hneg_M, hexp_M, host_sg, truncf_M, cast_row, cast_col]
  refine (bid_row _ _).trans (congrArg M32 ?_)
  funext i j
  simp only [rowv, sumC, zero_add, Finset.univ_unique, Finset.sum_singleton]
  refine Finset.sum_congr rfl fun l _ => ?_
  show xh (res X (act X N P Q) W) l j * (1 / 2 * 1 / 1024 * (2 * er (res X (act X N P Q) W) Y g l j)) = er (res X (act X N P Q) W) Y g l j * (1 / 1024) * xh (res X (act X N P Q) W) l j
  ring

end Step.Loss
-- ==== Proof.LossClaim.lean ====
module

public import proofs.«01_k».proof.Proof.Finite
public import proofs.«01_k».proof.Proof.LossRef
public import proofs.«01_k».proof.Proof.Gen.LossKIdeal.Value
public import proofs.«01_k».proof.Proof.Gen.Pre_finite_loss
public import proofs.«01_k».proof.Defs

@[expose] public section

set_option maxRecDepth 16384

noncomputable section

namespace Step.Loss

open Idealize Idealize.ShloMosaic Idealize.ShloMosaic.TcCoe Idealize.SL.Sem

/-- The precondition gives real matrices for the seven arguments. -/
theorem reals (a0 : FVec Ideal ⟨2, ![4096, 1024]⟩ .f32) (a1 : FVec Ideal ⟨2, ![1, 1024]⟩ .f32) (a2 a3 : FVec Ideal ⟨2, ![1024, 2816]⟩ .f32)
    (a4 : FVec Ideal ⟨2, ![2816, 1024]⟩ .f32) (a5 : FVec Ideal ⟨1, ![1024]⟩ .f32) (a6 : FVec Ideal ⟨2, ![4096, 1024]⟩ .f32)
    (h : Cert.Pre_finite_loss.fn (F := Ideal) a0 a1 a2 a3 a4 a5 a6 = fun _ => 1#1) :
    ∃ X N P Q W g Y, a0 = M32 X ∧ a1 = M32 N ∧ a2 = M32 P ∧ a3 = M32 Q ∧ a4 = M32 W ∧ a5 = R (φ := .f32) g ∧ a6 = M32 Y := by
  have e := congrFun h ix0
  unfold Cert.Pre_finite_loss.fn Cert.Pre_finite_loss.fn_part1 at e
  dsimp only [andi] at e
  simp only [IntOp.andi_eq_one] at e
  obtain ⟨⟨⟨⟨⟨⟨h0, h1⟩, h2⟩, h3⟩, h4⟩, h5⟩, h6⟩ := e
  obtain ⟨X, hX⟩ := finite_M a0 _ _ _ _ h0
  obtain ⟨N, hN⟩ := finite_M a1 _ _ _ _ h1
  obtain ⟨P, hP⟩ := finite_M a2 _ _ _ _ h2
  obtain ⟨Q, hQ⟩ := finite_M a3 _ _ _ _ h3
  obtain ⟨W, hW⟩ := finite_M a4 _ _ _ _ h4
  obtain ⟨g, hg⟩ := finite_R a5 _ _ _ _ h5
  obtain ⟨Y, hY⟩ := finite_M a6 _ _ _ _ h6
  exact ⟨X, N, P, Q, W, g, Y, hX, hN, hP, hQ, hW, hg, hY⟩

/-- The reference ends with its arguments unchanged; it has no semaphores. -/
theorem reference : Cert.quiescent_LossRIdeal := fun m ρ _ =>
  (θ_run _ _ _).mono (fun r h => ⟨fun c => (h c).2.2.2, sem_eq_zero_of_no_sems (by decide) r.2⟩) (Cert.LossRIdeal.Value.run m ρ)

/-- On finite arguments the loss head's kernel and the reference's backward pass end with the same gradient of the rows,
the same column sums of the squared errors and the same gradient of the gain. -/
theorem value : Cert.algebraic_LossKIdeal_LossRIdeal_pre_finite_loss := by
  intro m ρ m' ρ' hp ha
  choose X N P Q W g Y h0 h1 h2 h3 h4 h5 h6 using fun c => reals _ _ _ _ _ _ _ (hp c)
  refine ⟨fun c => M32 (lx (res (X c) (act (X c) (N c) (P c) (Q c)) (W c)) (Y c) (g c)),
    fun c => M32 (rowv (ls (res (X c) (act (X c) (N c) (P c) (Q c)) (W c)) (Y c) (g c))),
    fun c => M32 (rowv (lg (res (X c) (act (X c) (N c) (P c) (Q c)) (W c)) (Y c) (g c))), ?_, ?_⟩
  · refine (θ_run _ _ _).mono (fun r h c => ?_) (Cert.LossKIdeal.Value.run_blocks m ρ)
    obtain ⟨r0, r1, r2, k⟩ := h c
    have q := fun (T : Prop) (f : _ → _ → _ → _ → _ → T) => f ((Cert.LossKIdeal.Gen.V_main_arg0 m c).trans (h0 c)) (in18 m c _ _ _ _ (h0 c) (h1 c) (h2 c) (h3 c))
      (in20 m c _ (h5 c)) ((Cert.LossKIdeal.Gen.V_main_arg6 m c).trans (h6 c)) (in19 m c _ (h4 c))
    exact ⟨r0.trans (q _ (final4 m c _ _ _ _ _)), r1.trans (q _ (final5 m c _ _ _ _ _)), r2.trans (q _ (final6 m c _ _ _ _ _)), k⟩
  · refine (θ_run _ _ _).mono (fun r h c => ?_) (Cert.LossRIdeal.Value.run m' ρ')
    obtain ⟨r0, r1, r2, k⟩ := h c
    obtain ⟨a0, a1, a2, a3, a4, a5, a6⟩ := ha c
    have q := fun (T : Prop) (f : _ → _ → _ → _ → _ → _ → _ → T) => f (a0.trans (h0 c)) (a1.trans (h1 c)) (a2.trans (h2 c)) (a3.trans (h3 c)) (a4.trans (h4 c)) (a5.trans (h5 c)) (a6.trans (h6 c))
    exact ⟨r0.trans (q _ (ref0 m' c _ _ _ _ _ _ _)), r1.trans (q _ (ref1 m' c _ _ _ _ _ _ _)), r2.trans (q _ (ref2 m' c _ _ _ _ _ _ _)), k⟩

end Step.Loss
-- ==== Proof.FfnRead.lean ====
module

public import proofs.«01_k».proof.Proof.Back
public import proofs.«01_k».proof.Proof.Gen.FfnKIdeal.Value

@[expose] public section

set_option maxRecDepth 16384

noncomputable section

namespace Step.Ffn

open Idealize Idealize.ShloMosaic Idealize.ShloMosaic.TcCoe
open Cert.FfnKIdeal Cert.FfnKIdeal.Gen

/-- The first 1536 features of a weight. -/
abbrev top (W : Vec Ideal S2816x1024 .bf16) : Vec Ideal S1536x1024 .bf16 := View.ld W (Rect.unit ![0, 0] ![1536, 1024] inb_S2816x1024_S1536x1024_0_0)
/-- The other 1280 features of a weight. -/
abbrev low (W : Vec Ideal S2816x1024 .bf16) : Vec Ideal S1280x1024 .bf16 := View.ld W (Rect.unit ![1536, 0] ![1280, 1024] inb_S2816x1024_S1280x1024_1536_0)
/-- The first 1536 features of the activations. -/
abbrev lft (a : Vec Ideal S256x2816 .bf16) : Vec Ideal S256x1536 .bf16 := View.ld a (Rect.unit ![0, 0] ![256, 1536] inb_S256x2816_S256x1536_0_0)
/-- The other 1280 features of the activations. -/
abbrev rgt (a : Vec Ideal S256x2816 .bf16) : Vec Ideal S256x1280 .bf16 := View.ld a (Rect.unit ![0, 1536] ![256, 1280] inb_S256x2816_S256x1280_0_1536)

variable (d x : Vec Ideal S256x1024 .f32) (g : Vec Ideal S1x1024 .f32) (a b : Vec Ideal S256x2816 .bf16) (G U D : Vec Ideal S2816x1024 .bf16)

/-- The gradient of the normalised rows, after the first features. -/
abbrev dh1 : FVec Ideal S256x1024 .f32 := k0_pay14 (k0_pay7 (F := Ideal)) (k0_pay8 d (top D)) (k0_pay9 (lft a)) (k0_pay10 (lft b)) (top G) (top U)
/-- The hidden activations' gradient, for the other features. -/
abbrev ds2 : FVec Ideal S256x1280 .f32 := k0_pay15 (k0_pay6 d) (low D)
/-- The gradient of one block of rows. -/
def oX : Vec Ideal S256x1024 .f32 := k0_pay1 (k0_pay3 x) (k0_pay4 x) d (k0_pay23 g (dh1 d a b G U D) (ds2 d D) (k0_pay16 (rgt a)) (k0_pay17 (rgt b)) (low G) (low U))
  (k0_pay24 g (k0_pay4 x) (dh1 d a b G U D) (ds2 d D) (k0_pay16 (rgt a)) (k0_pay17 (rgt b)) (low G) (low U))
/-- The two activations' gradients side by side, of one block of rows. -/
def oP : Vec Ideal S256x5632 .bf16 := View.canon [⟨Rect.unit ![0, 4352] ![256, 1280] inb_S256x5632_S256x1280_0_4352, k0_pay20 (ds2 d D) (k0_pay16 (rgt a))⟩,
  ⟨Rect.unit ![0, 1536] ![256, 1280] inb_S256x5632_S256x1280_0_1536, k0_pay19 (ds2 d D) (k0_pay16 (rgt a)) (k0_pay17 (rgt b))⟩,
  ⟨Rect.unit ![0, 2816] ![256, 1536] inb_S256x5632_S256x1536_0_2816, k0_pay13 (k0_pay8 d (top D)) (k0_pay9 (lft a))⟩,
  ⟨Rect.unit ![0, 0] ![256, 1536] inb_S256x5632_S256x1536_0_0, k0_pay12 (k0_pay8 d (top D)) (k0_pay9 (lft a)) (k0_pay10 (lft b))⟩]
/-- The normalised rows and half the incoming gradient side by side, of one block of rows. -/
def oH : Vec Ideal S256x2048 .bf16 := View.canon [⟨Rect.unit ![0, 1024] ![256, 1024] inb_S256x2048_S256x1024_0_1024, k0_pay6 d⟩,
  ⟨Rect.unit ![0, 0] ![256, 1024] inb_S256x2048_S256x1024_0_0, k0_pay5 x g⟩]
/-- The gain's gradient, after one block more. -/
def oG (acc : Vec Ideal S1x1024 .f32) : Vec Ideal S1x1024 .f32 := k0_pay22 (k0_pay4 x) (dh1 d a b G U D) (ds2 d D) (k0_pay16 (rgt a)) (k0_pay17 (rgt b)) (low G) (low U) acc

variable (m : (ℓ : Loc nD τ sig) → Buf (Elt Ideal) ℓ) (c : Dev nD)

theorem at_A (t : Fin cfg0.N) (h0 : t.val % 16 = 0) : outsAt0 m c t.val t.isLt =
    (oX (iblk m c 0 t) (iblk m c 1 t) (iblk m c 2 t) (iblk m c 3 t) (iblk m c 4 t) (V m c main_v1) (V m c main_v3) (V m c main_v4),
     oP (iblk m c 0 t) (iblk m c 3 t) (iblk m c 4 t) (V m c main_v4),
     oH (iblk m c 0 t) (iblk m c 1 t) (iblk m c 2 t),
     oG (iblk m c 0 t) (iblk m c 1 t) (iblk m c 3 t) (iblk m c 4 t) (V m c main_v1) (V m c main_v3) (V m c main_v4) (k0_pay2 (F := Ideal)), (V m c main_v1), (V m c main_v3), (V m c main_v4)) := by
  refine (outsAt0_A m c t h0).trans (Prod.ext ?_ (Prod.ext ?_ (Prod.ext ?_ (Prod.ext ?_ (Prod.ext ?_ (Prod.ext ?_ ?_)))))) <;> dsimp only
  · unfold out0_A_5
    rw [View.read_writes_eq_canon _ _ _ (cover0_A_5 _ _ _ _ _ _ _ _ _ _ _ _ _ _ _ _ _ _ _ _ _ _ _ _ _ _ _ _ _ _ _ _ _ _ _)]
    unfold kernelRun0_A; dsimp only; sl_unfold_words
    rw [View.canon_unit_zero hz]
    unfold oX
    simp only [View.readAt_eq_ld, (hs0_0 t).read_unread, (hs0_1 t).read_unread, (hs0_2 t).read_unread, (hs0_3 t).read_unread, (hs0_4 t).read_unread, readCov_part (S := S2816x1024), View.ld_unit_zero (S := S256x1024) hz, View.ld_unit_zero (S := S1x1024) hz]
    rfl
  · unfold out0_A_6
    rw [View.read_writes_eq_canon _ _ _ (cover0_A_6 _ _ _ _ _ _ _ _ _ _ _ _ _ _ _ _ _ _ _ _ _ _ _ _ _ _ _ _ _ _ _ _ _ _ _)]
    unfold kernelRun0_A; dsimp only; sl_unfold_words
    unfold oP
    simp only [View.readAt_eq_ld, (hs0_0 t).read_unread, (hs0_1 t).read_unread, (hs0_2 t).read_unread, (hs0_3 t).read_unread, (hs0_4 t).read_unread, readCov_part (S := S2816x1024), View.ld_unit_zero (S := S256x1024) hz, View.ld_unit_zero (S := S1x1024) hz]
    rfl
  · unfold out0_A_7
    rw [View.read_writes_eq_canon _ _ _ (cover0_A_7 _ _ _ _ _ _ _ _ _ _ _ _ _ _ _ _ _ _ _ _ _ _ _ _ _ _ _ _ _ _ _ _ _ _ _)]
    unfold kernelRun0_A; dsimp only; sl_unfold_words
    unfold oH
    simp only [View.readAt_eq_ld, (hs0_0 t).read_unread, (hs0_1 t).read_unread, (hs0_2 t).read_unread, (hs0_3 t).read_unread, (hs0_4 t).read_unread, View.ld_unit_zero (S := S256x1024) hz, View.ld_unit_zero (S := S1x1024) hz]
  · unfold out0_A_8
    rw [View.read_writes_eq_canon _ _ _ (cover0_A_8 _ _ _ _ _ _ _ _ _ _ _ _ _ _ _ _ _ _ _ _ _ _ _ _ _ _ _ _ _ _ _ _ _ _ _)]
    unfold kernelRun0_A; dsimp only; sl_unfold_words
    rw [View.canon_cons_unit_zero (S := S1x1024) hz]
    unfold oG
    simp only [View.readAt_eq_ld, (hs0_0 t).read_unread, (hs0_1 t).read_unread, (hs0_2 t).read_unread, (hs0_3 t).read_unread, (hs0_4 t).read_unread, readCov_part (S := S2816x1024), readCov_full (S := S1x1024) _ hz hz, View.ld_unit_zero (S := S256x1024) hz, View.ld_unit_zero (S := S1x1024) hz]
    rfl
  · unfold sout0_A_0
    unfold kernelRun0_A; dsimp only; sl_unfold_words
    rw [View.read_writes_junk_eq_canon, canon_whole]
    rfl
  · unfold sout0_A_1
    unfold kernelRun0_A; dsimp only; sl_unfold_words
    rw [View.read_writes_junk_eq_canon, canon_whole]
    rfl
  · unfold sout0_A_2
    unfold kernelRun0_A; dsimp only; sl_unfold_words
    rw [View.read_writes_junk_eq_canon, canon_whole]
    rfl

theorem at_B (t : Fin cfg0.N) (h0 : ¬t.val % 16 = 0)
    (p : Vec Ideal S256x1024 .f32 × Vec Ideal S256x5632 .bf16 × Vec Ideal S256x2048 .bf16 × Vec Ideal S1x1024 .f32 × Vec Ideal S2816x1024 .bf16 × Vec Ideal S2816x1024 .bf16 × Vec Ideal S2816x1024 .bf16)
    (hp : outsAt0 m c (t.val - 1) (Nat.lt_of_le_of_lt (Nat.sub_le _ _) t.isLt) = p) : outsAt0 m c t.val t.isLt =
    (oX (iblk m c 0 t) (iblk m c 1 t) (iblk m c 2 t) (iblk m c 3 t) (iblk m c 4 t) p.2.2.2.2.1 p.2.2.2.2.2.1 p.2.2.2.2.2.2,
     oP (iblk m c 0 t) (iblk m c 3 t) (iblk m c 4 t) p.2.2.2.2.2.2,
     oH (iblk m c 0 t) (iblk m c 1 t) (iblk m c 2 t),
     oG (iblk m c 0 t) (iblk m c 1 t) (iblk m c 3 t) (iblk m c 4 t) p.2.2.2.2.1 p.2.2.2.2.2.1 p.2.2.2.2.2.2 p.2.2.2.1, p.2.2.2.2.1, p.2.2.2.2.2.1, p.2.2.2.2.2.2) := by
  refine (outsAt0_B m c t h0).trans ?_
  rw [hp]
  have w0 : scM0_0.IsWhole := Memref.isWhole_whole _
  have w1 : scM0_1.IsWhole := Memref.isWhole_whole _
  have w2 : scM0_2.IsWhole := Memref.isWhole_whole _
  refine Prod.ext ?_ (Prod.ext ?_ (Prod.ext ?_ (Prod.ext ?_ (Prod.ext ?_ (Prod.ext ?_ ?_))))) <;> dsimp only
  · unfold out0_B_5
    rw [View.read_writes_eq_canon _ _ _ (cover0_B_5 _ _ _ _ _ _ _ _ _ _ _ _ _ _ _ _ _ _ _ _ _ _ _ _ _ _ _ _ _ _ _ _ _ _ _ _ _ _ _)]
    unfold kernelRun0_B; dsimp only; sl_unfold_words
    rw [View.canon_unit_zero hz]
    unfold oX
    simp only [View.readAt_eq_ld, (hs0_0 t).read_unread, (hs0_1 t).read_unread, (hs0_2 t).read_unread, (hs0_3 t).read_unread, (hs0_4 t).read_unread, w0.read_unread, w1.read_unread, w2.read_unread, View.ld_unit_zero (S := S256x1024) hz, View.ld_unit_zero (S := S1x1024) hz]
  · unfold out0_B_6
    rw [View.read_writes_eq_canon _ _ _ (cover0_B_6 _ _ _ _ _ _ _ _ _ _ _ _ _ _ _ _ _ _ _ _ _ _ _ _ _ _ _ _ _ _ _ _ _ _ _ _ _ _ _)]
    unfold kernelRun0_B; dsimp only; sl_unfold_words
    unfold oP
    simp only [View.readAt_eq_ld, (hs0_0 t).read_unread, (hs0_1 t).read_unread, (hs0_2 t).read_unread, (hs0_3 t).read_unread, (hs0_4 t).read_unread, w0.read_unread, w1.read_unread, w2.read_unread, View.ld_unit_zero (S := S256x1024) hz, View.ld_unit_zero (S := S1x1024) hz]
  · unfold out0_B_7
    rw [View.read_writes_eq_canon _ _ _ (cover0_B_7 _ _ _ _ _ _ _ _ _ _ _ _ _ _ _ _ _ _ _ _ _ _ _ _ _ _ _ _ _ _ _ _ _ _ _ _ _ _ _)]
    unfold kernelRun0_B; dsimp only; sl_unfold_words
    unfold oH
    simp only [View.readAt_eq_ld, (hs0_0 t).read_unread, (hs0_1 t).read_unread, (hs0_2 t).read_unread, (hs0_3 t).read_unread, (hs0_4 t).read_unread, View.ld_unit_zero (S := S256x1024) hz, View.ld_unit_zero (S := S1x1024) hz]
  · unfold out0_B_8
    rw [View.read_writes_eq_canon _ _ _ (cover0_B_8 _ _ _ _ _ _ _ _ _ _ _ _ _ _ _ _ _ _ _ _ _ _ _ _ _ _ _ _ _ _ _ _ _ _ _ _ _ _ _)]
    unfold kernelRun0_B; dsimp only; sl_unfold_words
    rw [View.canon_cons_unit_zero (S := S1x1024) hz]
    unfold oG
    simp only [View.readAt_eq_ld, (hs0_0 t).read_unread, (hs0_1 t).read_unread, (hs0_2 t).read_unread, (hs0_3 t).read_unread, (hs0_4 t).read_unread, w0.read_unread, w1.read_unread, w2.read_unread, (hs0_8 t).read_unread, View.ld_unit_zero (S := S256x1024) hz, View.ld_unit_zero (S := S1x1024) hz]
  · rfl
  · rfl
  · rfl

end Step.Ffn
-- ==== Proof.FfnPay.lean ====
module

public import proofs.«01_k».proof.Proof.Host
public import proofs.«01_k».proof.Proof.FfnRead
public import Idealize.ShloMosaic.Lib.Pipeline.ValueKit.Tiles

@[expose] public section

set_option maxRecDepth 16384

noncomputable section

namespace Step

open Idealize Idealize.ShloMosaic

/-- Two matrices side by side. -/
def cat {n p q : Nat} (A : Fin n → Fin p → ℝ) (B : Fin n → Fin q → ℝ) : Fin n → Fin (p + q) → ℝ := fun i => Fin.append (A i) (B i)

end Step

namespace Step.Ffn

open Idealize Idealize.ShloMosaic
open Cert.FfnKIdeal Cert.FfnKIdeal.Gen

variable {n k : Nat}

/-- Half of the incoming gradient. -/
def hf (d : Fin n → Fin 1024 → ℝ) : Fin n → Fin 1024 → ℝ := fun i j => 1 / 2 * d i j
/-- The gate's gradient, from the gradient of the gated activations. -/
def da (s a b : Fin n → Fin k → ℝ) : Fin n → Fin k → ℝ := fun i p => s i p * b i p * (sg a i p * (1 + a i p * (1 - sg a i p)))
/-- The other factor's gradient. -/
def db (s a : Fin n → Fin k → ℝ) : Fin n → Fin k → ℝ := fun i p => s i p * (a i p * sg a i p)
/-- The gradient of the normalised, scaled rows. -/
def dh (s a b : Fin n → Fin k → ℝ) (G U : Fin k → Fin 1024 → ℝ) : Fin n → Fin 1024 → ℝ := fun i j => mm (da s a b) G i j + mm (db s a) U i j
/-- The gradient of the rows, from the gradient of the normalised, scaled rows. -/
def bx (d x e : Fin n → Fin 1024 → ℝ) (g : Fin 1024 → ℝ) : Fin n → Fin 1024 → ℝ := fun i j => d i j + nb x (fun i j => e i j * g j) i j
/-- The gradient of the gain. -/
def bg (x e : Fin n → Fin 1024 → ℝ) : Fin 1024 → ℝ := fun j => ∑ i, e i j * xh x i j

variable (d x : Fin 256 → Fin 1024 → ℝ) (g : Fin 1 → Fin 1024 → ℝ)

theorem dotA : dot_S256x1024_S1536x1024_S256x1536_1_1_0_0_n_n = DotDims.transposedRhs 256 1024 1536 := rfl
theorem dotB : dot_S256x1024_S1280x1024_S256x1280_1_1_0_0_n_n = DotDims.transposedRhs 256 1024 1280 := rfl
theorem dotC : dot_S256x1536_S1536x1024_S256x1024_1_0_0_1_n_n = DotDims.plain 256 1536 1024 := rfl
theorem dotD : dot_S256x1280_S1280x1024_S256x1024_1_0_0_1_n_n = DotDims.plain 256 1280 1024 := rfl

theorem zadd {m n : Nat} (A : Fin m → Fin n → ℝ) : (fun _ _ => (0 : ℝ)) + A = A := zero_add A

theorem cast_self {m n : Nat} {φ : FTy} (A : FVec Ideal ⟨2, ![m, n]⟩ φ) (h) : shapeCast ⟨2, ![m, n]⟩ A h = A := by
  funext j; exact congrArg A (Shape.reshapeEquiv_eq_of_vals _ j j _ _ rfl rfl rfl)

theorem pay3 : k0_pay3 (F := Ideal) (M32 x) = M (fun i _ => rr x i) := by
  unfold k0_pay3; dsimp only
  rw [splat_M _ w_1024, splat_M _ w_eps, mulf_M]; erw [red_R]; rw [cast_col, divf_M _ _ (fun _ _ => by norm_num), addf_M]
  exact rsqrt_M _ (fun i _ => vv_pos x i)
theorem pay4 : k0_pay4 (F := Ideal) (M32 x) = M (xh x) := by
  unfold k0_pay4; dsimp only
  rw [pay3, bto_M1, mulf_M]; rfl
theorem pay5 : k0_pay5 (F := Ideal) (M32 x) (M32 g) = M (hn x (g 0)) := by
  unfold k0_pay5; dsimp only
  rw [pay4, bto_1M, mulf_M, truncf_M]; rfl
theorem pay6 : k0_pay6 (F := Ideal) (M32 d) = M (hf d) := by
  unfold k0_pay6; dsimp only
  rw [splat_M _ w_half, mulf_M, truncf_M]; rfl

section first
variable (s a b : Fin 256 → Fin 1536 → ℝ) (Z : Fin 256 → Fin 1024 → ℝ) (D G U : Fin 1536 → Fin 1024 → ℝ)

theorem pay8 : k0_pay8 (F := Ideal) (M32 d) (M16 D) = M (mt (hf d) D) := by
  unfold k0_pay8; dsimp only
  rw [pay6, dotA, const_M _ w_zero, prod_mt, zadd]
theorem pay9 : k0_pay9 (F := Ideal) (M16 a) = M a := by
  unfold k0_pay9; dsimp only
  rw [cast_self]; rfl
theorem pay10 : k0_pay10 (F := Ideal) (M16 b) = M b := by
  unfold k0_pay10; dsimp only
  rw [cast_self]
theorem pay11 : k0_pay11 (F := Ideal) (M32 a) = M (sg a) := by
  unfold k0_pay11; dsimp only
  rw [splat_M _ w_zero, splat_M _ w_one, subf_M, exp_M, addf_M]
  refine (divf_M _ _ fun i j => ?_).trans (congrArg M ?_)
  · have := Real.exp_pos (((fun _ _ => (0 : ℝ)) - a : Fin 256 → Fin 1536 → ℝ) i j)
    show (1 : ℝ) + _ ≠ 0
    positivity
  · funext i j; show (1 : ℝ) / (1 + Real.exp (0 - a i j)) = _; rw [zero_sub]; rfl
theorem pay12 : k0_pay12 (F := Ideal) (M32 s) (M32 a) (M16 b) = M (da s a b) := by
  unfold k0_pay12; dsimp only
  rw [pay11, splat_M _ w_one, extf_M, subf_M]
  simp only [mulf_M, addf_M]; rfl
theorem pay13 : k0_pay13 (F := Ideal) (M32 s) (M32 a) = M (db s a) := by
  unfold k0_pay13; dsimp only
  rw [pay11]
  simp only [mulf_M]; rfl
theorem pay14 : k0_pay14 (F := Ideal) (M32 Z) (M32 s) (M32 a) (M16 b) (M16 G) (M16 U) = M (Z + mm (da s a b) G + mm (db s a) U) := by
  unfold k0_pay14; dsimp only
  rw [pay12, pay13, dotC, const_M _ w_zero, prod_mm, prod_mm, addf_M, addf_M, zadd, zadd]
end first

section second
variable (s a b : Fin 256 → Fin 1280 → ℝ) (Z : Fin 256 → Fin 1024 → ℝ) (D G U : Fin 1280 → Fin 1024 → ℝ)

theorem pay15 : k0_pay15 (F := Ideal) (M16 (hf d)) (M16 D) = M (mt (hf d) D) := by
  unfold k0_pay15; dsimp only
  rw [dotB, const_M _ w_zero, prod_mt, zadd]
theorem pay16 : k0_pay16 (F := Ideal) (M16 a) = M a := by
  unfold k0_pay16; dsimp only
  rw [cast_self]; rfl
theorem pay17 : k0_pay17 (F := Ideal) (M16 b) = M b := by
  unfold k0_pay17; dsimp only
  rw [cast_self]; rfl
theorem pay18 : k0_pay18 (F := Ideal) (M32 a) = M (sg a) := by
  unfold k0_pay18; dsimp only
  rw [splat_M _ w_zero, splat_M _ w_one, subf_M, exp_M, addf_M]
  refine (divf_M _ _ fun i j => ?_).trans (congrArg M ?_)
  · have := Real.exp_pos (((fun _ _ => (0 : ℝ)) - a : Fin 256 → Fin 1280 → ℝ) i j)
    show (1 : ℝ) + _ ≠ 0
    positivity
  · funext i j; show (1 : ℝ) / (1 + Real.exp (0 - a i j)) = _; rw [zero_sub]; rfl
theorem pay19 : k0_pay19 (F := Ideal) (M32 s) (M32 a) (M32 b) = M (da s a b) := by
  unfold k0_pay19; dsimp only
  rw [pay18, splat_M _ w_one, subf_M]
  simp only [mulf_M, addf_M]; rfl
theorem pay20 : k0_pay20 (F := Ideal) (M32 s) (M32 a) = M (db s a) := by
  unfold k0_pay20; dsimp only
  rw [pay18]
  simp only [mulf_M]; rfl
theorem pay21 : k0_pay21 (F := Ideal) (M32 Z) (M32 s) (M32 a) (M32 b) (M16 G) (M16 U) = M (Z + mm (da s a b) G + mm (db s a) U) := by
  unfold k0_pay21; dsimp only
  rw [pay19, pay20, dotD, const_M _ w_zero, prod_mm, prod_mm, addf_M, addf_M, zadd, zadd]
end second

/-! ### A weight and the activations in two parts -/

/-- The first 1536 rows. -/
abbrev t1 (W : Fin 2816 → Fin 1024 → ℝ) : Fin 1536 → Fin 1024 → ℝ := fun i => W (Fin.castAdd 1280 i)
/-- The other 1280 rows. -/
abbrev t2 (W : Fin 2816 → Fin 1024 → ℝ) : Fin 1280 → Fin 1024 → ℝ := fun i => W (Fin.natAdd 1536 i)
/-- The first 1536 columns. -/
abbrev c1 (A : Fin n → Fin 2816 → ℝ) : Fin n → Fin 1536 → ℝ := fun i j => A i (Fin.castAdd 1280 j)
/-- The other 1280 columns. -/
abbrev c2 (A : Fin n → Fin 2816 → ℝ) : Fin n → Fin 1280 → ℝ := fun i j => A i (Fin.natAdd 1536 j)

theorem top_M (W : Fin 2816 → Fin 1024 → ℝ) : top (M16 W) = M16 (t1 W) := funext fun j =>
  M_val W _ _ _ (by show 0 + 1 * (j 0).val = (j 0).val; omega) (by show 0 + 1 * (j 1).val = (j 1).val; omega)
theorem low_M (W : Fin 2816 → Fin 1024 → ℝ) : low (M16 W) = M16 (t2 W) := funext fun j =>
  M_val W _ _ _ (by show 1536 + 1 * (j 0).val = 1536 + (j 0).val; omega) (by show 0 + 1 * (j 1).val = (j 1).val; omega)
theorem lft_M (A : Fin 256 → Fin 2816 → ℝ) : lft (M16 A) = M16 (c1 A) := funext fun j =>
  M_val A _ _ _ (by show 0 + 1 * (j 0).val = (j 0).val; omega) (by show 0 + 1 * (j 1).val = (j 1).val; omega)
theorem rgt_M (A : Fin 256 → Fin 2816 → ℝ) : rgt (M16 A) = M16 (c2 A) := funext fun j =>
  M_val A _ _ _ (by show 0 + 1 * (j 0).val = (j 0).val; omega) (by show 1536 + 1 * (j 1).val = 1536 + (j 1).val; omega)

/-- A product is the sum of the products of its parts. -/
theorem mm_parts (A : Fin n → Fin 2816 → ℝ) (W : Fin 2816 → Fin 1024 → ℝ) : mm (c1 A) (t1 W) + mm (c2 A) (t2 W) = mm A W := by
  funext i j; exact (Fin.sum_univ_add (a := 1536) (b := 1280) fun p => A i p * W p j).symm

variable (a b : Fin 256 → Fin 2816 → ℝ) (G U D : Fin 2816 → Fin 1024 → ℝ)

theorem dh1_M : dh1 (M32 d) (M16 a) (M16 b) (M16 G) (M16 U) (M16 D) = M32 (mm (c1 (da (mt (hf d) D) a b)) (t1 G) + mm (c1 (db (mt (hf d) D) a)) (t1 U)) := by
  unfold dh1
  have e7 : k0_pay7 (F := Ideal) = M32 fun _ _ => 0 := splat_M _ w_zero
  rw [e7, top_M, top_M, top_M, lft_M, lft_M, pay8, pay9, pay10, pay14, zadd]; rfl
theorem ds2_M : ds2 (M32 d) (M16 D) = M32 (c2 (mt (hf d) D)) := by
  unfold ds2; rw [pay6, low_M, pay15]; rfl
theorem pay21' : k0_pay21 (F := Ideal) (dh1 (M32 d) (M16 a) (M16 b) (M16 G) (M16 U) (M16 D)) (ds2 (M32 d) (M16 D)) (k0_pay16 (rgt (M16 a))) (k0_pay17 (rgt (M16 b))) (low (M16 G)) (low (M16 U))
    = M (dh (mt (hf d) D) a b G U) := by
  rw [dh1_M, ds2_M, rgt_M, rgt_M, pay16, pay17, low_M, low_M, pay21]
  refine congrArg M ?_
  show _ = mm (da (mt (hf d) D) a b) G + mm (db (mt (hf d) D) a) U
  rw [← mm_parts (da (mt (hf d) D) a b) G, ← mm_parts (db (mt (hf d) D) a) U]
  exact (add_assoc _ _ _).trans (add_add_add_comm _ _ _ _)

/-- One block of rows of the gradient. -/
theorem oX_M : oX (M32 d) (M32 x) (M32 g) (M16 a) (M16 b) (M16 G) (M16 U) (M16 D) = M32 (bx d x (dh (mt (hf d) D) a b G U) (g 0)) := by
  unfold oX k0_pay1 k0_pay24 k0_pay23; dsimp only
  rw [pay21', pay3, pay4, splat_M _ w_1024, bto_1M, mulf_M, mulf_M]; erw [red_R]; rw [cast_col, divf_M _ _ (fun _ _ => by norm_num), bto_M1, bto_M1, mulf_M, subf_M, mulf_M, addf_M]; rfl

/-- One block more of the gain's gradient. -/
theorem oG_M (A : Fin 1024 → ℝ) : oG (M32 d) (M32 x) (M16 a) (M16 b) (M16 G) (M16 U) (M16 D) (M32 (rowv A)) = M32 (rowv (A + bg x (dh (mt (hf d) D) a b G U))) := by
  unfold oG k0_pay22; dsimp only
  rw [pay21', pay4, cast_self, mulf_M]; erw [red_C]; rw [cast_row, addf_M]; rfl

/-- One block of rows of the two activations' gradients. -/
theorem oP_M : oP (M32 d) (M16 a) (M16 b) (M16 D) = M16 (cat (da (mt (hf d) D) a b) (db (mt (hf d) D) a)) := by
  unfold oP
  rw [ds2_M, top_M, lft_M, lft_M, rgt_M, rgt_M, pay8, pay9, pay10, pay16, pay17, pay19, pay20, pay12, pay13]
  funext y
  have h0 : (y 0 : Nat) < 256 := (y 0).isLt
  have h1 : (y 1 : Nat) < 5632 := (y 1).isLt
  refine View.canon_eq_of_allAt _ _ _ ?_ ?_
  · simp only [List.mem_cons, List.not_mem_nil, or_false, exists_eq_or_imp, exists_eq_left, Rect.mem_set_unit, Fin.forall_fin_two]
    simp only [Matrix.cons_val_zero, Matrix.cons_val_one]
    omega
  · refine View.allAt_cons_unit _ _ _ _ _ ?_ (View.allAt_cons_unit _ _ _ _ _ ?_ (View.allAt_cons_unit _ _ _ _ _ ?_ (View.allAt_cons_unit _ _ _ _ _ ?_ (View.allAt_nil _ _))))
    · intro z hz
      refine Eq.trans ?_ (M_val _ y (z 0) (Fin.natAdd 2816 (Fin.natAdd 1536 (z 1))) ?_ ?_).symm
      · exact congrArg Real.toEReal (Fin.append_right (da (mt (hf d) D) a b (z 0)) (db (mt (hf d) D) a (z 0)) _).symm
      · have := hz 0; simpa using this
      · have := hz 1
        have e : (y 1 : Nat) = 4352 + (z 1 : Nat) := this
        show (y 1 : Nat) = 2816 + (1536 + (z 1 : Nat)); omega
    · intro z hz
      refine Eq.trans ?_ (M_val _ y (z 0) (Fin.castAdd 2816 (Fin.natAdd 1536 (z 1))) ?_ ?_).symm
      · exact congrArg Real.toEReal (Fin.append_left (da (mt (hf d) D) a b (z 0)) (db (mt (hf d) D) a (z 0)) _).symm
      · have := hz 0; simpa using this
      · exact hz 1
    · intro z hz
      refine Eq.trans ?_ (M_val _ y (z 0) (Fin.natAdd 2816 (Fin.castAdd 1280 (z 1))) ?_ ?_).symm
      · exact congrArg Real.toEReal (Fin.append_right (da (mt (hf d) D) a b (z 0)) (db (mt (hf d) D) a (z 0)) _).symm
      · have := hz 0; simpa using this
      · exact hz 1
    · intro z hz
      refine Eq.trans ?_ (M_val _ y (z 0) (Fin.castAdd 2816 (Fin.castAdd 1280 (z 1))) ?_ ?_).symm
      · exact congrArg Real.toEReal (Fin.append_left (da (mt (hf d) D) a b (z 0)) (db (mt (hf d) D) a (z 0)) _).symm
      · have := hz 0; simpa using this
      · exact (by have := hz 1; simpa using this : (y 1 : Nat) = (z 1 : Nat))

/-- One block of rows of the normalised rows and half the incoming gradient. -/
theorem oH_M : oH (M32 d) (M32 x) (M32 g) = M16 (cat (hn x (g 0)) (hf d)) := by
  unfold oH
  rw [pay6, pay5]
  funext y
  have h0 : (y 0 : Nat) < 256 := (y 0).isLt
  have h1 : (y 1 : Nat) < 2048 := (y 1).isLt
  refine View.canon_eq_of_allAt _ _ _ ?_ ?_
  · simp only [List.mem_cons, List.not_mem_nil, or_false, exists_eq_or_imp, exists_eq_left, Rect.mem_set_unit, Fin.forall_fin_two]
    simp only [Matrix.cons_val_zero, Matrix.cons_val_one]
    omega
  · refine View.allAt_cons_unit _ _ _ _ _ ?_ (View.allAt_cons_unit _ _ _ _ _ ?_ (View.allAt_nil _ _))
    · intro z hz
      refine Eq.trans ?_ (M_val _ y (z 0) (Fin.natAdd 1024 (z 1)) ?_ ?_).symm
      · exact congrArg Real.toEReal (Fin.append_right (hn x (g 0) (z 0)) (hf d (z 0)) _).symm
      · have := hz 0; simpa using this
      · exact hz 1
    · intro z hz
      refine Eq.trans ?_ (M_val _ y (z 0) (Fin.castAdd 1024 (z 1)) ?_ ?_).symm
      · exact congrArg Real.toEReal (Fin.append_left (hn x (g 0) (z 0)) (hf d (z 0)) _).symm
      · have := hz 0; simpa using this
      · exact (by have := hz 1; simpa using this : (y 1 : Nat) = (z 1 : Nat))

end Step.Ffn
-- ==== Proof.FfnArr.lean ====
module

public import proofs.«01_k».proof.Proof.Rows
public import proofs.«01_k».proof.Proof.FfnPay

@[expose] public section

set_option maxRecDepth 16384

noncomputable section

namespace Step.Ffn

open Idealize Idealize.ShloMosaic Idealize.ShloMosaic.TcCoe Idealize.SL.Sem
open Cert.FfnKIdeal Cert.FfnKIdeal.Gen Cert.FfnKIdeal.Value

variable (m : (ℓ : Loc nD τ sig) → Buf (Elt Ideal) ℓ) (c : Dev nD)
variable (d x : Fin 4096 → Fin 1024 → ℝ) (g : Fin 1 → Fin 1024 → ℝ) (a b : Fin 4096 → Fin 2816 → ℝ) (G U D : Fin 2816 → Fin 1024 → ℝ)

theorem idx (t : Fin cfg0.N) : win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0) t

theorem idx' (t : Fin cfg0.N) : win0_5.index t 0 = t.val ∧ win0_5.index t 1 = 0 ∧ win0_6.index t 0 = t.val ∧ win0_6.index t 1 = 0 ∧ win0_7.index t 0 = t.val ∧ win0_7.index t 1 = 0 ∧ win0_8.index t 0 = 0 ∧ win0_8.index t 1 = 0 :=
  (by decide +kernel : ∀ t : Fin grid0.N, win0_5.index t 0 = t.val ∧ win0_5.index t 1 = 0 ∧ win0_6.index t 0 = t.val ∧ win0_6.index t 1 = 0 ∧ win0_7.index t 0 = t.val ∧ win0_7.index t 1 = 0 ∧ win0_8.index t 0 = 0 ∧ win0_8.index t 1 = 0) t

theorem lt16 (t : Fin cfg0.N) : t.val < 16 := by have h : cfg0.N = 16 := N_0; have := t.isLt; omega

theorem blk0 (t : Fin cfg0.N) (h : V m c main_arg5 = M32 d) : (iblk m c 0 t : Vec Ideal S256x1024 .f32) = M32 (rows 256 t.val d) := by
  funext j; unfold iblk; rw [View.read_apply]
  show V m c main_arg5 _ = _
  rw [h]
  refine M_val _ _ _ _ ?_ ?_
  · show win0_0.index t 0 * 256 + 1 * (j 0).val = (256 * t.val + (j 0).val) % 4096
    have := lt16 t; have h : (j 0 : Nat) < 256 := (j 0).isLt; rw [(idx t).1]; omega
  · show win0_0.index t 1 * 1024 + 1 * (j 1).val = (j 1).val
    rw [(idx t).2.1]; omega

theorem blk1 (t : Fin cfg0.N) (h : V m c main_arg0 = M32 x) : (iblk m c 1 t : Vec Ideal S256x1024 .f32) = M32 (rows 256 t.val x) := by
  funext j; unfold iblk; rw [View.read_apply]
  show V m c main_arg0 _ = _
  rw [h]
  refine M_val _ _ _ _ ?_ ?_
  · show win0_1.index t 0 * 256 + 1 * (j 0).val = (256 * t.val + (j 0).val) % 4096
    have := lt16 t; have h : (j 0 : Nat) < 256 := (j 0).isLt; rw [(idx t).2.2.1]; omega
  · show win0_1.index t 1 * 1024 + 1 * (j 1).val = (j 1).val
    rw [(idx t).2.2.2.1]; omega

theorem blk2 (t : Fin cfg0.N) (h : V m c main_arg1 = M32 g) : (iblk m c 2 t : Vec Ideal S1x1024 .f32) = M32 g := by
  funext j; unfold iblk; rw [View.read_apply]
  show V m c main_arg1 _ = _
  rw [h]
  refine M_val _ _ _ _ ?_ ?_
  · show win0_2.index t 0 * 1 + 1 * (j 0).val = (j 0).val
    rw [(idx t).2.2.2.2.1]; omega
  · show win0_2.index t 1 * 1024 + 1 * (j 1).val = (j 1).val
    rw [(idx t).2.2.2.2.2.1]; omega

theorem blk3 (t : Fin cfg0.N) (h : V m c main_v20 = M16 a) : (iblk m c 3 t : Vec Ideal S256x2816 .bf16) = M16 (rows 256 t.val a) := by
  funext j; unfold iblk; rw [View.read_apply]
  show V m c main_v20 _ = _
  rw [h]
  refine M_val _ _ _ _ ?_ ?_
  · show win0_3.index t 0 * 256 + 1 * (j 0).val = (256 * t.val + (j 0).val) % 4096
    have := lt16 t; have h : (j 0 : Nat) < 256 := (j 0).isLt; rw [(idx t).2.2.2.2.2.2.1]; omega
  · show win0_3.index t 1 * 2816 + 1 * (j 1).val = (j 1).val
    rw [(idx t).2.2.2.2.2.2.2.1]; omega

theorem blk4 (t : Fin cfg0.N) (h : V m c main_v22 = M16 b) : (iblk m c 4 t : Vec Ideal S256x2816 .bf16) = M16 (rows 256 t.val b) := by
  funext j; unfold iblk; rw [View.read_apply]
  show V m c main_v22 _ = _
  rw [h]
  refine M_val _ _ _ _ ?_ ?_
  · show win0_4.index t 0 * 256 + 1 * (j 0).val = (256 * t.val + (j 0).val) % 4096
    have := lt16 t; have h : (j 0 : Nat) < 256 := (j 0).isLt; rw [(idx t).2.2.2.2.2.2.2.2.1]; omega
  · show win0_4.index t 1 * 2816 + 1 * (j 1).val = (j 1).val
    rw [(idx t).2.2.2.2.2.2.2.2.2]; omega

variable (hd : V m c main_arg5 = M32 d) (hx : V m c main_arg0 = M32 x) (hg : V m c main_arg1 = M32 g) (ha : V m c main_v20 = M16 a) (hb : V m c main_v22 = M16 b)
  (hG : V m c main_v1 = M16 G) (hU : V m c main_v3 = M16 U) (hD : V m c main_v4 = M16 D)

/-- The gradient of the normalised, scaled rows, of one block. -/
abbrev eb (t : Nat) : Fin 256 → Fin 1024 → ℝ := dh (mt (hf (rows 256 t d)) D) (rows 256 t a) (rows 256 t b) G U

include hd hx hg ha hb hG hU hD in
/-- What the kernel holds after each point: the block's gradients, the gain's gradient so far, the weights. -/
theorem outs_eq : ∀ (n : Nat) (h : n < cfg0.N), outsAt0 m c n h =
    (M32 (bx (rows 256 n d) (rows 256 n x) (eb d a b G U D n) (g 0)),
     M16 (cat (da (mt (hf (rows 256 n d)) D) (rows 256 n a) (rows 256 n b)) (db (mt (hf (rows 256 n d)) D) (rows 256 n a))),
     M16 (cat (hn (rows 256 n x) (g 0)) (hf (rows 256 n d))),
     M32 (rowv (∑ t ∈ Finset.range (n + 1), bg (rows 256 t x) (eb d a b G U D t))), M16 G, M16 U, M16 D)
  | 0, h => by
    refine (at_A m c ⟨0, h⟩ rfl).trans ?_
    have e2 : k0_pay2 (F := Ideal) = M32 (rowv fun _ => 0) := splat_M _ w_zero
    rw [blk0 m c d _ hd, blk1 m c x _ hx, blk2 m c g _ hg, blk3 m c a _ ha, blk4 m c b _ hb, hG, hU, hD, e2, oX_M, oP_M, oH_M, oG_M, Finset.sum_range_one]
    rw [show (fun _ => (0 : ℝ) : Fin 1024 → ℝ) = 0 from rfl, zero_add]
  | n + 1, h => by
    have hB : ¬(⟨n + 1, h⟩ : Fin cfg0.N).val % 16 = 0 := by have := lt16 ⟨n + 1, h⟩; dsimp only at this ⊢; omega
    refine (at_B m c ⟨n + 1, h⟩ hB _ (outs_eq n (Nat.lt_of_succ_lt h))).trans ?_
    dsimp only
    rw [blk0 m c d _ hd, blk1 m c x _ hx, blk2 m c g _ hg, blk3 m c a _ ha, blk4 m c b _ hb, oX_M, oP_M, oH_M, oG_M, Finset.sum_range_succ _ (n + 1)]

theorem bg_all : ∑ t ∈ Finset.range 16, bg (rows 256 t x) (eb d a b G U D t) = bg x (dh (mt (hf d) D) a b G U) := by
  funext j; rw [Finset.sum_apply]; exact sum_rows 16 256 fun i => dh (mt (hf d) D) a b G U i j * xh x i j

include hd hx hg ha hb hG hU hD in
/-- The gradient of every row. -/
theorem final5 : (dats m 0 c).arrAt 5 cfg0.N = M32 (bx d x (dh (mt (hf d) D) a b G U) (g 0)) :=
  (dats m 0 c).arrAt_eq_of_cover 5 (M32 (bx d x (dh (mt (hf d) D) a b G U) (g 0))) (fun t _ => by
    rw [flushed5, outs_eq m c d x g a b G U D hd hx hg ha hb hG hU hD]
    dsimp only
    funext j
    show M _ _ = M _ _
    symm
    refine (M_val _ _ (Fin.ofNat 4096 (256 * t.val + (j 0).val)) (j 1) ?_ ?_).trans ?_
    · show win0_5.index t 0 * 256 + 1 * (j 0).val = (256 * t.val + (j 0).val) % 4096
      have := lt16 t; have h : (j 0 : Nat) < 256 := (j 0).isLt; rw [(idx' t).1]; omega
    · show win0_5.index t 1 * 1024 + 1 * (j 1).val = (j 1).val
      rw [(idx' t).2.1]; omega
    · rfl) fun i => by
    have h0 : (i 0 : Nat) < 4096 := (i 0).isLt
    have h1 : (i 1 : Nat) < 1024 := (i 1).isLt
    have hN : cfg0.N = 16 := N_0
    have hc : (i 0).val / 256 < cfg0.N := by omega
    refine ⟨⟨(i 0).val / 256, hc⟩, flush0_5 _, ?_⟩
    show i ∈ ((View.whole main_v23_0).slice (win0_5.rect ⟨(i 0).val / 256, hc⟩)).set
    rw [View.set_slice_whole, Rect.mem_set_unit]
    intro a
    match a with
    | ⟨0, _⟩ =>
      show win0_5.index ⟨(i 0).val / 256, hc⟩ 0 * 256 ≤ (i 0 : Nat) ∧ (i 0 : Nat) < win0_5.index ⟨(i 0).val / 256, hc⟩ 0 * 256 + 256
      rw [(idx' _).1]; dsimp only; omega
    | ⟨1, _⟩ =>
      show win0_5.index ⟨(i 0).val / 256, hc⟩ 1 * 1024 ≤ (i 1 : Nat) ∧ (i 1 : Nat) < win0_5.index ⟨(i 0).val / 256, hc⟩ 1 * 1024 + 1024
      rw [(idx' _).2.1]; omega

include hd hx hg ha hb hG hU hD in
/-- The two activations' gradients. -/
theorem final6 : (dats m 0 c).arrAt 6 cfg0.N = M16 (cat (da (mt (hf d) D) a b) (db (mt (hf d) D) a)) :=
  (dats m 0 c).arrAt_eq_of_cover 6 (M16 (cat (da (mt (hf d) D) a b) (db (mt (hf d) D) a))) (fun t _ => by
    rw [flushed6, outs_eq m c d x g a b G U D hd hx hg ha hb hG hU hD]
    dsimp only
    funext j
    show M _ _ = M _ _
    symm
    refine (M_val _ _ (Fin.ofNat 4096 (256 * t.val + (j 0).val)) (j 1) ?_ ?_).trans ?_
    · show win0_6.index t 0 * 256 + 1 * (j 0).val = (256 * t.val + (j 0).val) % 4096
      have := lt16 t; have h : (j 0 : Nat) < 256 := (j 0).isLt; rw [(idx' t).2.2.1]; omega
    · show win0_6.index t 1 * 5632 + 1 * (j 1).val = (j 1).val
      rw [(idx' t).2.2.2.1]; omega
    · rfl) fun i => by
    have h0 : (i 0 : Nat) < 4096 := (i 0).isLt
    have h1 : (i 1 : Nat) < 5632 := (i 1).isLt
    have hN : cfg0.N = 16 := N_0
    have hc : (i 0).val / 256 < cfg0.N := by omega
    refine ⟨⟨(i 0).val / 256, hc⟩, flush0_6 _, ?_⟩
    show i ∈ ((View.whole main_v23_1).slice (win0_6.rect ⟨(i 0).val / 256, hc⟩)).set
    rw [View.set_slice_whole, Rect.mem_set_unit]
    intro a
    match a with
    | ⟨0, _⟩ =>
      show win0_6.index ⟨(i 0).val / 256, hc⟩ 0 * 256 ≤ (i 0 : Nat) ∧ (i 0 : Nat) < win0_6.index ⟨(i 0).val / 256, hc⟩ 0 * 256 + 256
      rw [(idx' _).2.2.1]; dsimp only; omega
    | ⟨1, _⟩ =>
      show win0_6.index ⟨(i 0).val / 256, hc⟩ 1 * 5632 ≤ (i 1 : Nat) ∧ (i 1 : Nat) < win0_6.index ⟨(i 0).val / 256, hc⟩ 1 * 5632 + 5632
      rw [(idx' _).2.2.2.1]; omega

include hd hx hg ha hb hG hU hD in
/-- The normalised rows and half the incoming gradient. -/
theorem final7 : (dats m 0 c).arrAt 7 cfg0.N = M16 (cat (hn x (g 0)) (hf d)) :=
  (dats m 0 c).arrAt_eq_of_cover 7 (M16 (cat (hn x (g 0)) (hf d))) (fun t _ => by
    rw [flushed7, outs_eq m c d x g a b G U D hd hx hg ha hb hG hU hD]
    dsimp only
    funext j
    show M _ _ = M _ _
    symm
    refine (M_val _ _ (Fin.ofNat 4096 (256 * t.val + (j 0).val)) (j 1) ?_ ?_).trans ?_
    · show win0_7.index t 0 * 256 + 1 * (j 0).val = (256 * t.val + (j 0).val) % 4096
      have := lt16 t; have h : (j 0 : Nat) < 256 := (j 0).isLt; rw [(idx' t).2.2.2.2.1]; omega
    · show win0_7.index t 1 * 2048 + 1 * (j 1).val = (j 1).val
      rw [(idx' t).2.2.2.2.2.1]; omega
    · rfl) fun i => by
    have h0 : (i 0 : Nat) < 4096 := (i 0).isLt
    have h1 : (i 1 : Nat) < 2048 := (i 1).isLt
    have hN : cfg0.N = 16 := N_0
    have hc : (i 0).val / 256 < cfg0.N := by omega
    refine ⟨⟨(i 0).val / 256, hc⟩, flush0_7 _, ?_⟩
    show i ∈ ((View.whole main_v23_2).slice (win0_7.rect ⟨(i 0).val / 256, hc⟩)).set
    rw [View.set_slice_whole, Rect.mem_set_unit]
    intro a
    match a with
    | ⟨0, _⟩ =>
      show win0_7.index ⟨(i 0).val / 256, hc⟩ 0 * 256 ≤ (i 0 : Nat) ∧ (i 0 : Nat) < win0_7.index ⟨(i 0).val / 256, hc⟩ 0 * 256 + 256
      rw [(idx' _).2.2.2.2.1]; dsimp only; omega
    | ⟨1, _⟩ =>
      show win0_7.index ⟨(i 0).val / 256, hc⟩ 1 * 2048 ≤ (i 1 : Nat) ∧ (i 1 : Nat) < win0_7.index ⟨(i 0).val / 256, hc⟩ 1 * 2048 + 2048
      rw [(idx' _).2.2.2.2.2.1]; omega

include hd hx hg ha hb hG hU hD in
/-- The gain's gradient. -/
theorem final8 : (dats m 0 c).arrAt 8 cfg0.N = M32 (rowv (bg x (dh (mt (hf d) D) a b G U))) :=
  (dats m 0 c).arrAt_eq_of_cover 8 (M32 (rowv (bg x (dh (mt (hf d) D) a b G U)))) (fun t hf => by
    have h7 : t.val = 15 := by have := (flush0_8 t).mp hf; have := lt16 t; omega
    rw [flushed8, outs_eq m c d x g a b G U D hd hx hg ha hb hG hU hD]
    dsimp only
    rw [h7, bg_all]
    funext j
    show M32 _ _ = M32 _ _
    symm
    refine (M_val _ _ 0 (j 1) ?_ ?_).trans ?_
    · show win0_8.index t 0 * 1 + 1 * (j 0).val = 0
      have h : (j 0 : Nat) < 1 := (j 0).isLt; rw [(idx' t).2.2.2.2.2.2.1]; omega
    · show win0_8.index t 1 * 1024 + 1 * (j 1).val = (j 1).val
      rw [(idx' t).2.2.2.2.2.2.2]; omega
    · rfl) fun i => by
    have h0 : (i 0 : Nat) < 1 := (i 0).isLt
    have h1 : (i 1 : Nat) < 1024 := (i 1).isLt
    have hN : cfg0.N = 16 := N_0
    have hc : 15 < cfg0.N := by omega
    refine ⟨⟨15, hc⟩, (flush0_8 _).mpr rfl, ?_⟩
    show i ∈ ((View.whole main_v23_3).slice (win0_8.rect ⟨15, hc⟩)).set
    rw [View.set_slice_whole, Rect.mem_set_unit]
    intro a
    match a with
    | ⟨0, _⟩ =>
      show win0_8.index ⟨15, hc⟩ 0 * 1 ≤ (i 0 : Nat) ∧ (i 0 : Nat) < win0_8.index ⟨15, hc⟩ 0 * 1 + 1
      rw [(idx' _).2.2.2.2.2.2.1]; omega
    | ⟨1, _⟩ =>
      show win0_8.index ⟨15, hc⟩ 1 * 1024 ≤ (i 1 : Nat) ∧ (i 1 : Nat) < win0_8.index ⟨15, hc⟩ 1 * 1024 + 1024
      rw [(idx' _).2.2.2.2.2.2.2]; omega

end Step.Ffn
-- ==== Proof.FfnIn.lean ====
module

public import proofs.«01_k».proof.Proof.FfnArr

@[expose] public section

set_option maxRecDepth 16384

noncomputable section

namespace Step

open Idealize Idealize.ShloMosaic

/-- The transposed array of a matrix. -/
theorem tr_M {m n : Nat} {φ : FTy} (A : Fin m → Fin n → ℝ) (h : (⟨2, ![m, n]⟩ : Shape).Transposes [1, 0] ⟨2, ![n, m]⟩) :
    transpose ⟨2, ![n, m]⟩ [1, 0] (M (φ := φ) A) h = M (φ := φ) (fun j i => A i j) := by
  funext j; obtain ⟨r, l, rfl⟩ := at2 j; pointwise; rfl

/-- The array of two matrices side by side. -/
theorem cat_M {n p q : Nat} {φ : FTy} (A : Fin n → Fin p → ℝ) (B : Fin n → Fin q → ℝ) (h : Shape.Concatenates [⟨2, ![n, p]⟩, ⟨2, ![n, q]⟩] ⟨2, ![n, p + q]⟩ 1) :
    concatenate ⟨2, ![n, p + q]⟩ 1 [⟨⟨2, ![n, p]⟩, M (φ := φ) A⟩, ⟨⟨2, ![n, q]⟩, M (φ := φ) B⟩] h = M (φ := φ) (cat A B) := by
  funext j; obtain ⟨r, l, rfl⟩ := at2 j
  induction l using Fin.addCases with
  | left l =>
    refine (concatenate_pair_apply_left (t := ⟨2, ![n, p + q]⟩) (s₁ := ⟨2, ![n, p]⟩) (s₂ := ⟨2, ![n, q]⟩) (1 : Fin 2) _ _ h _ rfl (ix2 r l) (Fin.forall_fin_two.mpr ⟨rfl, rfl⟩)).trans ?_
    exact congrArg Real.toEReal (Fin.append_left (A r) (B r) l).symm
  | right l =>
    refine (concatenate_pair_apply_right (t := ⟨2, ![n, p + q]⟩) (s₁ := ⟨2, ![n, p]⟩) (s₂ := ⟨2, ![n, q]⟩) (1 : Fin 2) _ _ h (ix2 r (Fin.natAdd p l)) rfl rfl (ix2 r l) (Fin.forall_fin_two.mpr ⟨fun _ => rfl, fun e => absurd rfl e⟩) (by show l.val + p = p + l.val; omega)).trans ?_
    exact congrArg Real.toEReal (Fin.append_right (A r) (B r) l).symm

/-- The same of two arrays known to be those of two matrices, narrowed. -/
theorem cat_of {n p q : Nat} {φ ψ : FTy} {x : FVec Ideal ⟨2, ![n, p]⟩ φ} {y : FVec Ideal ⟨2, ![n, q]⟩ φ} {A : Fin n → Fin p → ℝ} {B : Fin n → Fin q → ℝ} (hx : x = M A) (hy : y = M B)
    (h : Shape.Concatenates [⟨2, ![n, p]⟩, ⟨2, ![n, q]⟩] ⟨2, ![n, p + q]⟩ 1) (hb) :
    truncf ψ (concatenate ⟨2, ![n, p + q]⟩ 1 [⟨⟨2, ![n, p]⟩, x⟩, ⟨⟨2, ![n, q]⟩, y⟩] h) hb = M (cat A B) := by
  subst hx hy; exact congrArg (truncf ψ · hb) (cat_M A B h)

/-- A host product with a transposed matrix. -/
theorem dot_mt {m k n : Nat} {φ₁ φ₂ : FTy} (p) (A : Fin m → Fin k → ℝ) (B : Fin n → Fin k → ℝ) :
    Host.dotGeneral (DotDims.transposedRhs m k n) p (M (φ := φ₁) A) (M (φ := φ₂) B) = M (mt A B) := by
  have e := prod_mt (φ₁ := φ₁) (φ₂ := φ₂) p A B (fun _ _ => 0)
  rw [show (fun _ _ => (0 : ℝ)) + mt A B = mt A B from zero_add _] at e
  rw [← e]; funext j
  show FloatOps.dotGeneral _ p _ _ _ j = _
  rw [Ideal.dotGeneral_apply]
  refine Eq.trans ?_ (Ideal.matmul_apply (DotDims.transposedRhs m k n) p (M (φ := φ₁) A) (M (φ := φ₂) B) (M fun _ _ => 0) j).symm
  exact ((congrArg (· + _) EReal.coe_zero).trans (zero_add _)).symm

end Step

namespace Step.Ffn

open Idealize Idealize.ShloMosaic Idealize.ShloMosaic.TcCoe Idealize.SL.Sem
open Cert.FfnKIdeal Cert.FfnKIdeal.Gen

variable (m : (ℓ : Loc nD τ sig) → Buf (Elt Ideal) ℓ) (c : Dev nD)
variable (X : Fin 4096 → Fin 1024 → ℝ) (N : Fin 1 → Fin 1024 → ℝ) (P : Fin 1024 → Fin 2816 → ℝ) (W : Fin 2816 → Fin 1024 → ℝ)

theorem dot1 : dot_S4096x1024_S1024x2816_S4096x2816_1_0_0_1_n_n = DotDims.plain 4096 1024 2816 := rfl

theorem in1 (h : m (c, Proc.tc.devRef main_arg2) = M32 P) : V m c main_v1 = M16 (fun j i => P i j) := by
  simp only [V, hostOps0, StableHlo.TRef.binary, StableHlo.TRef.nullary, StableHlo.TRef.unary, StableHlo.TRef.toBuf, StableHlo.TRef.ofBuf, cast_eq]
  after_results_simp
  rw [h, tr_M]; rfl
theorem in3 (h : m (c, Proc.tc.devRef main_arg3) = M32 P) : V m c main_v3 = M16 (fun j i => P i j) := by
  simp only [V, hostOps0, StableHlo.TRef.binary, StableHlo.TRef.nullary, StableHlo.TRef.unary, StableHlo.TRef.toBuf, StableHlo.TRef.ofBuf, cast_eq]
  after_results_simp
  rw [h, tr_M]; rfl
theorem in4 (h : m (c, Proc.tc.devRef main_arg4) = M32 W) : V m c main_v4 = M16 W := by
  simp only [V, hostOps0, StableHlo.TRef.binary, StableHlo.TRef.nullary, StableHlo.TRef.unary, StableHlo.TRef.toBuf, StableHlo.TRef.ofBuf, cast_eq]
  after_results_simp
  rw [h]; rfl
theorem in20 (h0 : m (c, Proc.tc.devRef main_arg0) = M32 X) (h1 : m (c, Proc.tc.devRef main_arg1) = M32 N) (h2 : m (c, Proc.tc.devRef main_arg2) = M32 P) :
    V m c main_v20 = M16 (mm (hn X (N 0)) P) := by
  simp only [V, hostOps0, StableHlo.TRef.binary, StableHlo.TRef.nullary, StableHlo.TRef.unary, StableHlo.TRef.toBuf, StableHlo.TRef.ofBuf, cast_eq]
  after_results_simp
  have e : (fun i => shapeCast main_v5.ty.shape (m (c, Proc.tc.devRef main_arg1)) shapeCasts_S1x1024_S1024 i) = R (φ := .f32) (N 0) := by
    rw [h1]; exact cast_unrow _ _
  rw [e, h0, h2, dot1]
  simp only [kk_zero, kk_one, kk_1024, kk_eps, bid_KM, bid_row, bid_col, bid_1M, bid_M1, mulf_M, hred_R, host_mean, addf_M, host_rr, dot_mm, truncf_M]
  rfl
theorem in22 (h0 : m (c, Proc.tc.devRef main_arg0) = M32 X) (h1 : m (c, Proc.tc.devRef main_arg1) = M32 N) (h3 : m (c, Proc.tc.devRef main_arg3) = M32 P) :
    V m c main_v22 = M16 (mm (hn X (N 0)) P) := by
  simp only [V, hostOps0, StableHlo.TRef.binary, StableHlo.TRef.nullary, StableHlo.TRef.unary, StableHlo.TRef.toBuf, StableHlo.TRef.ofBuf, cast_eq]
  after_results_simp
  have e : (fun i => shapeCast main_v5.ty.shape (m (c, Proc.tc.devRef main_arg1)) shapeCasts_S1x1024_S1024 i) = R (φ := .f32) (N 0) := by
    rw [h1]; exact cast_unrow _ _
  rw [e, h0, h3, dot1]
  simp only [kk_zero, kk_one, kk_1024, kk_eps, bid_KM, bid_row, bid_col, bid_1M, bid_M1, mulf_M, hred_R, host_mean, addf_M, host_rr, dot_mm, truncf_M]
  rfl

end Step.Ffn
-- ==== Proof.FfnRef.lean ====
module

public import proofs.«01_k».proof.Proof.FfnIn
public import proofs.«01_k».proof.Proof.Gen.FfnRIdeal.Run

@[expose] public section

set_option maxRecDepth 16384

noncomputable section

namespace Step.Ffn

open Idealize Idealize.ShloMosaic Idealize.ShloMosaic.TcCoe Idealize.SL.Sem
open Cert.FfnRIdeal Cert.FfnRIdeal.Value

variable (m : (ℓ : Loc nD τ sig) → Buf (Elt Ideal) ℓ) (c : Dev nD)
variable (d X : Fin 4096 → Fin 1024 → ℝ) (N : Fin 1 → Fin 1024 → ℝ) (P Q : Fin 1024 → Fin 2816 → ℝ) (W : Fin 2816 → Fin 1024 → ℝ)

theorem rdot1 : dot_S4096x1024_S1024x2816_S4096x2816_1_0_0_1_n_n = DotDims.plain 4096 1024 2816 := rfl
theorem rdot2 : dot_S4096x1024_S2816x1024_S4096x2816_1_1_0_0_n_n = DotDims.transposedRhs 4096 1024 2816 := rfl
theorem rdot3 : dot_S4096x2816_S1024x2816_S4096x1024_1_1_0_0_n_n = DotDims.transposedRhs 4096 2816 1024 := rfl

theorem addz {m n : Nat} (A : Fin m → Fin n → ℝ) : A + (fun _ _ => (0 : ℝ)) = A := add_zero A

/-- The gate's gradient, as the host writes it. -/
theorem host_da {n k : Nat} (s a b : Fin n → Fin k → ℝ) : s * b * sg a + a * (s * b) * (sg a * ((fun _ _ => 1) - sg a)) = da s a b := by
  funext i p
  show s i p * b i p * sg a i p + a i p * (s i p * b i p) * (sg a i p * (1 - sg a i p)) = s i p * b i p * (sg a i p * (1 + a i p * (1 - sg a i p)))
  ring
/-- The other factor's gradient, as the host writes it. -/
theorem host_db {n k : Nat} (s a : Fin n → Fin k → ℝ) : a * sg a * s = db s a := by
  funext i p; exact mul_comm _ _
/-- The gradient of the normalised, scaled rows, as the host writes it. -/
theorem host_dh {n k : Nat} (s a b : Fin n → Fin k → ℝ) (P Q : Fin 1024 → Fin k → ℝ) :
    mt (a * sg a * s) Q + mt (s * b * sg a + a * (s * b) * (sg a * ((fun _ _ => 1) - sg a))) P = dh s a b (fun j i => P i j) (fun j i => Q i j) := by
  rw [host_da, host_db]; exact add_comm _ _

theorem ref1 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = M32 d) :
    res_main_v61 m c = M16 (cat (da (mt (hf d) W) (mm (hn X (N 0)) P) (mm (hn X (N 0)) Q)) (db (mt (hf d) W) (mm (hn X (N 0)) P))) := by
  unfold res_main_v61
  rw [h0, h1, h2, h3, h4, h5, rdot1, rdot2]
  refine cat_of (n := 4096) (p := 2816) (q := 2816) (φ := .f32) (ψ := .bf16) ?_ ?_ Cert.FfnRIdeal.Gen.concatenates_S4096x2816_S4096x2816_S4096x5632_d1 Cert.FfnRIdeal.Gen.bitsLt_bf16_f32
  · simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
    exact congrArg M (host_da _ _ _)
  · simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
    exact congrArg M (host_db _ _)

theorem ref0 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = M32 d) :
    res_main_v58 m c = M32 (bx d X (dh (mt (hf d) W) (mm (hn X (N 0)) P) (mm (hn X (N 0)) Q) (fun j i => P i j) (fun j i => Q i j)) (N 0)) := by
  unfold res_main_v58
  rw [h0, h1, h2, h3, h4, h5, rdot1, rdot2, rdot3]
  simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
  refine congrArg M32 ?_
  rw [add_assoc d, add_assoc d]
  refine congrArg (d + ·) ((host_nb X _).trans (congrArg (nb X) ?_))
  funext i j
  exact congrArg (· * N 0 j) (congrFun (congrFun (host_dh (mt (hf d) W) (mm (hn X (N 0)) P) (mm (hn X (N 0)) Q) P Q) i) j)

theorem ref3 (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 Q) (h4 : m ((c.tc : Thread nD τ).loc main_arg4) = M32 W) (h5 : m ((c.tc : Thread nD τ).loc main_arg5) = M32 d) :
    res_main_v59 m c = M32 (rowv (bg X (dh (mt (hf d) W) (mm (hn X (N 0)) P) (mm (hn X (N 0)) Q) (fun j i => P i j) (fun j i => Q i j)))) := by
  unfold res_main_v59
  rw [h0, h1, h2, h3, h4, h5, rdot1, rdot2, rdot3]
  simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
  refine (bid_row _ _).trans (congrArg M32 ?_)
  funext i j
  simp only [rowv, sumC, zero_add, Finset.univ_unique, Finset.sum_singleton]
  refine Finset.sum_congr rfl fun l _ => (mul_comm _ _).trans ?_
  exact congrArg (· * xh X l j) (congrFun (congrFun (host_dh (mt (hf d) W) (mm (hn X (N 0)) P) (mm (hn X (N 0)) Q) P Q) l) j)

end Step.Ffn
-- ==== Proof.FfnClaim.lean ====
module

public import proofs.«01_k».proof.Proof.Finite
public import proofs.«01_k».proof.Proof.FfnRef
public import proofs.«01_k».proof.Proof.Gen.FfnKIdeal.Value
public import proofs.«01_k».proof.Proof.Gen.Pre_finite_ffn
public import proofs.«01_k».proof.Defs

@[expose] public section

set_option maxRecDepth 16384

noncomputable section

namespace Step.Ffn

open Idealize Idealize.ShloMosaic Idealize.ShloMosaic.TcCoe Idealize.SL.Sem

/-- The precondition gives real matrices for the six arguments. -/
theorem reals (a0 : FVec Ideal ⟨2, ![4096, 1024]⟩ .f32) (a1 : FVec Ideal ⟨2, ![1, 1024]⟩ .f32) (a2 a3 : FVec Ideal ⟨2, ![1024, 2816]⟩ .f32)
    (a4 : FVec Ideal ⟨2, ![2816, 1024]⟩ .f32) (a5 : FVec Ideal ⟨2, ![4096, 1024]⟩ .f32)
    (h : Cert.Pre_finite_ffn.fn (F := Ideal) a0 a1 a2 a3 a4 a5 = fun _ => 1#1) :
    ∃ X N P Q W d, a0 = M32 X ∧ a1 = M32 N ∧ a2 = M32 P ∧ a3 = M32 Q ∧ a4 = M32 W ∧ a5 = M32 d := by
  have e := congrFun h ix0
  unfold Cert.Pre_finite_ffn.fn Cert.Pre_finite_ffn.fn_part1 at e
  dsimp only [andi] at e
  simp only [IntOp.andi_eq_one] at e
  obtain ⟨⟨⟨⟨⟨h0, h1⟩, h2⟩, h3⟩, h4⟩, h5⟩ := e
  obtain ⟨X, hX⟩ := finite_M a0 _ _ _ _ h0
  obtain ⟨N, hN⟩ := finite_M a1 _ _ _ _ h1
  obtain ⟨P, hP⟩ := finite_M a2 _ _ _ _ h2
  obtain ⟨Q, hQ⟩ := finite_M a3 _ _ _ _ h3
  obtain ⟨W, hW⟩ := finite_M a4 _ _ _ _ h4
  obtain ⟨d, hd⟩ := finite_M a5 _ _ _ _ h5
  exact ⟨X, N, P, Q, W, d, hX, hN, hP, hQ, hW, hd⟩

/-- The reference ends with its arguments unchanged; it has no semaphores. -/
theorem reference : Cert.quiescent_FfnRIdeal := fun m ρ _ =>
  (θ_run _ _ _).mono (fun r h => ⟨fun c => (h c).2.2.2.2, sem_eq_zero_of_no_sems (by decide) r.2⟩) (Cert.FfnRIdeal.Value.run m ρ)

/-- On finite arguments the kernel of the half step's backward pass and the reference's backward pass end with the same gradient
of the rows, the same gradients of the two activations, the same normalised rows and half gradient, and the same gradient of the gain. -/
theorem value : Cert.algebraic_FfnKIdeal_FfnRIdeal_pre_finite_ffn := by
  intro m ρ m' ρ' hp ha
  choose X N P Q W d h0 h1 h2 h3 h4 h5 using fun c => reals _ _ _ _ _ _ (hp c)
  refine ⟨fun c => M32 (bx (d c) (X c) (dh (mt (hf (d c)) (W c)) (mm (hn (X c) (N c 0)) (P c)) (mm (hn (X c) (N c 0)) (Q c)) (fun j i => P c i j) (fun j i => Q c i j)) (N c 0)),
    fun c => M16 (cat (da (mt (hf (d c)) (W c)) (mm (hn (X c) (N c 0)) (P c)) (mm (hn (X c) (N c 0)) (Q c))) (db (mt (hf (d c)) (W c)) (mm (hn (X c) (N c 0)) (P c)))),
    fun c => M16 (cat (hn (X c) (N c 0)) (hf (d c))),
    fun c => M32 (rowv (bg (X c) (dh (mt (hf (d c)) (W c)) (mm (hn (X c) (N c 0)) (P c)) (mm (hn (X c) (N c 0)) (Q c)) (fun j i => P c i j) (fun j i => Q c i j)))), ?_, ?_⟩
  · refine (θ_run _ _ _).mono (fun r h c => ?_) (Cert.FfnKIdeal.Value.run_blocks m ρ)
    obtain ⟨r0, r1, r2, r3, k⟩ := h c
    have q := fun (T : Prop) (f : _ → _ → _ → _ → _ → _ → _ → _ → T) => f ((Cert.FfnKIdeal.Gen.V_main_arg5 m c).trans (h5 c)) ((Cert.FfnKIdeal.Gen.V_main_arg0 m c).trans (h0 c))
      ((Cert.FfnKIdeal.Gen.V_main_arg1 m c).trans (h1 c)) (in20 m c _ _ _ (h0 c) (h1 c) (h2 c)) (in22 m c _ _ _ (h0 c) (h1 c) (h3 c)) (in1 m c _ (h2 c)) (in3 m c _ (h3 c)) (in4 m c _ (h4 c))
    exact ⟨r0.trans (q _ (final5 m c _ _ _ _ _ _ _ _)), r1.trans (q _ (final6 m c _ _ _ _ _ _ _ _)), r2.trans (q _ (final7 m c _ _ _ _ _ _ _ _)), r3.trans (q _ (final8 m c _ _ _ _ _ _ _ _)), k⟩
  · refine (θ_run _ _ _).mono (fun r h c => ?_) (Cert.FfnRIdeal.Value.run m' ρ')
    obtain ⟨r0, r1, r2, r3, k⟩ := h c
    obtain ⟨a0, a1, a2, a3, a4, a5⟩ := ha c
    have q := fun (T : Prop) (f : _ → _ → _ → _ → _ → _ → T) => f (a0.trans (h0 c)) (a1.trans (h1 c)) (a2.trans (h2 c)) (a3.trans (h3 c)) (a4.trans (h4 c)) (a5.trans (h5 c))
    refine ⟨r0.trans (q _ (ref0 m' c _ _ _ _ _ _)), r1.trans (q _ (ref1 m' c _ _ _ _ _ _)), r2.trans ?_, r3.trans (q _ (ref3 m' c _ _ _ _ _ _)), k⟩
    refine cat_of (n := 4096) (p := 1024) (q := 1024) (φ := .f32) (ψ := .bf16) ?_ ?_ Cert.FfnRIdeal.Gen.concatenates_S4096x1024_S4096x1024_S4096x2048_d1 Cert.FfnRIdeal.Gen.bitsLt_bf16_f32
    · rw [a0.trans (h0 c), a1.trans (h1 c)]
      simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
      rfl
    · rw [a5.trans (h5 c)]
      simp only [cast_unrow, cast_self, kk_zero, kk_one, kk_1024, kk_eps, kk_half, kk_mhalf, kk_two, bid_KM, bid_KR, bid_KK, bid_row, bid_col, bid_1M, bid_M1, mulf_M, mulf_K, mulf_R, addf_R, subf_M, hred_R, hred_C, host_mean, host_meanR, addf_M, addz, host_rr, host_vq, dot_mm, dot_mt, hneg_M, hexp_M, host_sg, truncf_M, cast_row, cast_col]
      rfl

end Step.Ffn
-- ==== Proof.MixKit.lean ====
module

public import proofs.«01_k».proof.Proof.FfnPay
public import proofs.«01_k».proof.Proof.Back

@[expose] public section

set_option maxRecDepth 16384

noncomputable section

namespace Step.Mix

open Idealize Idealize.ShloMosaic

variable {m n m' n' : Nat} {φ : FTy}

/-- A matrix cut out of an array that goes on without end, from row `a` and column `b` on. -/
def tile (A : ℕ → ℕ → ℝ) (a b : ℕ) : Fin m → Fin n → ℝ := fun r c => A (r.val + a) (c.val + b)
/-- A stack of one matrix. -/
def L1 (A : Fin m → Fin n → ℝ) : FVec Ideal ⟨3, ![1, m, n]⟩ .f32 := fun i => ((A (i 1) (i 2) : ℝ) : EReal)
/-- A stack of matrices. -/
def T3 {p : Nat} (A : Fin p → Fin m → Fin n → ℝ) : FVec Ideal ⟨3, ![p, m, n]⟩ .f32 := fun i => ((A (i 0) (i 1) (i 2) : ℝ) : EReal)
/-- Sums over the `2 ^ k` rows that end at a row. -/
def ts (A : ℕ → ℕ → ℝ) : ℕ → ℕ → ℕ → ℝ
  | 0 => A
  | k + 1 => fun r c => ts A k r c + ts A k (r - 2 ^ k) c
/-- Sums over the `2 ^ k` rows that start at a row. -/
def fs (A : ℕ → ℕ → ℝ) : ℕ → ℕ → ℕ → ℝ
  | 0 => A
  | k + 1 => fun r c => fs A k r c + fs A k (r + 2 ^ k) c

theorem ts_tile (A : ℕ → ℕ → ℝ) (k a b : ℕ) : (tile (ts A k) (a + 2 ^ k) b + tile (ts A k) a b : Fin m → Fin n → ℝ) = tile (ts A (k + 1)) (a + 2 ^ k) b := by
  funext r c
  show ts A k (r.val + (a + 2 ^ k)) _ + ts A k (r.val + a) _ = ts A k (r.val + (a + 2 ^ k)) _ + ts A k (r.val + (a + 2 ^ k) - 2 ^ k) _
  rw [← Nat.add_assoc, Nat.add_sub_cancel]
theorem fs_tile (A : ℕ → ℕ → ℝ) (k a b : ℕ) : (tile (fs A k) a b + tile (fs A k) (a + 2 ^ k) b : Fin m → Fin n → ℝ) = tile (fs A (k + 1)) a b := by
  funext r c
  show fs A k _ _ + fs A k (r.val + (a + 2 ^ k)) _ = fs A k _ _ + fs A k (r.val + a + 2 ^ k) _
  rw [← Nat.add_assoc]
/-- Columns in groups of 128: one group. -/
theorem tile_grp (f : ℕ → ℕ → ℕ → ℝ) (a s : ℕ) : (tile (fun r j => f (j / 128) r (j % 128)) a (128 * s) : Fin m → Fin 128 → ℝ) = tile (f s) a 0 := by
  funext r c
  have := c.isLt
  show f ((c.val + 128 * s) / 128) _ ((c.val + 128 * s) % 128) = f s _ (c.val + 0)
  rw [show (c.val + 128 * s) / 128 = s by omega, show (c.val + 128 * s) % 128 = c.val + 0 by omega]

theorem cast_down (A : Fin m → Fin n → ℝ) (h : (⟨3, ![1, m, n]⟩ : Shape).ShapeCasts ⟨2, ![m, n]⟩) : shapeCast ⟨2, ![m, n]⟩ (L1 A) h = M (φ := .f32) A := by
  funext j; obtain ⟨r, l, rfl⟩ := at2 j
  exact congrArg (L1 A) (Shape.reshapeEquiv_eq_of_vals _ (ix2 r l) (ix3 0 r l) _ _ (rowMajor_val3 _ _ _ rfl rfl) (rowMajor_val2 _ _ rfl) (by
    show 0 * _ + r.val * n + l.val = r.val * n + l.val; simp))
theorem cast_up (A : Fin m → Fin n → ℝ) (h : (⟨2, ![m, n]⟩ : Shape).ShapeCasts ⟨3, ![1, m, n]⟩) : shapeCast ⟨3, ![1, m, n]⟩ (M (φ := .f32) A) h = L1 A := by
  funext j
  have h0 : (j 0).val = 0 := Nat.lt_one_iff.mp (j 0).isLt
  exact congrArg (M A) (Shape.reshapeEquiv_eq_of_vals _ j (ix2 (j 1) (j 2)) _ _ (rowMajor_val2 _ _ rfl) (rowMajor_val3 _ _ _ rfl rfl) (by
    show (j 1).val * n + (j 2).val = (j 0).val * _ + (j 1).val * n + (j 2).val; rw [h0]; simp))
theorem ess_tile (A : ℕ → ℕ → ℝ) (r c a b : ℕ) (h : (⟨2, ![m, n]⟩ : Shape).Slices ![a, b] ⟨2, ![m', n']⟩) :
    extractStridedSlice ⟨2, ![m', n']⟩ ![a, b] (M (φ := φ) (tile A r c : Fin m → Fin n → ℝ)) h = M (φ := φ) (tile A (r + a) (c + b)) := by
  funext j
  refine congrArg Real.toEReal ?_
  show A (a + (j 0).val + r) (b + (j 1).val + c) = A ((j 0).val + (r + a)) ((j 1).val + (c + b))
  rw [show a + (j 0).val + r = (j 0).val + (r + a) by omega, show b + (j 1).val + c = (j 1).val + (c + b) by omega]

/-! ### Loads and stores of parts -/

/-- A real number in the format of an array's elements. -/
def inj : (e : EltTy) → ℝ → Elt Ideal e
  | .f32 => fun x => (x : EReal)
  | .bf16 => fun x => (x : EReal)
  | _ => fun _ => Classical.arbitrary _
/-- The array of a real matrix, its format named as an array's elements are. -/
def N (e : EltTy) (A : Fin m → Fin n → ℝ) : (⟨2, ![m, n]⟩ : Shape).Idx → Elt Ideal e := fun i => inj e (A (i 0) (i 1))

section parts
variable {sig : RefSig} {κ : Kind} {sp : Space} {e : EltTy} {A : ℕ → ℕ → ℝ} {r c : ℕ}

/-- Every piece written is the part of one matrix that belongs where it is written. -/
def Ag (A : ℕ → ℕ → ℝ) (r c : ℕ) (L : List (View.Piece (Elt Ideal) ⟨2, ![m, n]⟩ e)) : Prop := ∀ p ∈ L, ∀ x : p.1.shape.Idx, p.2 x = N e (tile A r c) (p.1.emb x)
/-- The pieces written cover the places a condition names. -/
def Cv (P : ℕ → ℕ → Prop) (L : List (View.Piece (Elt Ideal) ⟨2, ![m, n]⟩ e)) : Prop := ∀ y : (⟨2, ![m, n]⟩ : Shape).Idx, P (y 0) (y 1) → ∃ p ∈ L, y ∈ p.1.set

theorem N_at {o k : ℕ} (inb) (x : (⟨2, ![m', n']⟩ : Shape).Idx) :
    N e (tile A (r + o) (c + k) : Fin m' → Fin n' → ℝ) x = N e (tile A r c : Fin m → Fin n → ℝ) ((Rect.unit (s := ⟨2, ![m, n]⟩) ![o, k] ![m', n'] inb).emb x) := by
  refine congrArg (inj e) ?_
  show A ((x 0).val + (r + o)) ((x 1).val + (c + k)) = A (o + 1 * (x 0).val + r) (k + 1 * (x 1).val + c)
  rw [show o + 1 * (x 0).val + r = (x 0).val + (r + o) by omega, show k + 1 * (x 1).val + c = (x 1).val + (c + k) by omega]

theorem Ag.nil : Ag (m := m) (n := n) (e := e) A r c [] := fun _ h => absurd h List.not_mem_nil
theorem Ag.cons {o k : ℕ} {inb} {w : (⟨2, ![m', n']⟩ : Shape).Idx → Elt Ideal e} {L : List (View.Piece (Elt Ideal) ⟨2, ![m, n]⟩ e)}
    (hw : w = N e (tile A (r + o) (c + k))) (h : Ag A r c L) : Ag A r c (⟨Rect.unit ![o, k] ![m', n'] inb, w⟩ :: L) := by
  intro p hp
  rcases List.mem_cons.mp hp with rfl | hp
  · intro x; subst hw; exact N_at inb x
  · exact h p hp
theorem Cv.nil {P : ℕ → ℕ → Prop} (h : ∀ i j, i < m → j < n → ¬ P i j) : Cv (m := m) (n := n) (e := e) P [] := fun y hy => absurd hy (h _ _ (y 0).isLt (y 1).isLt)
theorem Cv.cons {o k : ℕ} {inb} {w : (⟨2, ![m', n']⟩ : Shape).Idx → Elt Ideal e} {P Q : ℕ → ℕ → Prop} {L : List (View.Piece (Elt Ideal) ⟨2, ![m, n]⟩ e)}
    (hL : Cv Q L) (h : ∀ i j, i < m → j < n → P i j → (o ≤ i ∧ i < o + m' ∧ k ≤ j ∧ j < k + n') ∨ Q i j) : Cv P (⟨Rect.unit ![o, k] ![m', n'] inb, w⟩ :: L) := by
  intro y hy
  rcases h _ _ (y 0).isLt (y 1).isLt hy with h | h
  · refine ⟨_, List.mem_cons_self, ?_⟩
    simp only [Rect.mem_set_unit, Fin.forall_fin_two, Matrix.cons_val_zero, Matrix.cons_val_one]
    omega
  · obtain ⟨p, hp, hy⟩ := hL y h
    exact ⟨p, List.mem_cons_of_mem _ hp, hy⟩
/-- What a list of pieces leaves everywhere. -/
theorem canon_ag {P : ℕ → ℕ → Prop} {L : List (View.Piece (Elt Ideal) ⟨2, ![m, n]⟩ e)} (h : Ag A r c L) (hc : Cv P L) (hP : ∀ i j, i < m → j < n → P i j) :
    View.canon L = N e (tile A r c) := funext fun y => View.canon_apply_of_pieces _ L h y (hc y (hP _ _ (y 0).isLt (y 1).isLt))
/-- What a load reads back of the pieces written before it. -/
theorem rc_ag (v : View sig κ sp ⟨2, ![m, n]⟩ e) {o k : ℕ} {inb} {P : ℕ → ℕ → Prop} {L : List (View.Piece (Elt Ideal) ⟨2, ![m, n]⟩ e)} (h : Ag A r c L) (hc : Cv P L)
    (hP : ∀ i j, i < m' → j < n' → P (o + i) (k + j)) : v.readCov L (Rect.unit ![o, k] ![m', n'] inb).toLoadRect = N e (tile A (r + o) (c + k)) := by
  refine (View.readCov_eq_canon' v _ _).trans (funext fun (j : (⟨2, ![m', n']⟩ : Shape).Idx) => ?_)
  refine (View.canon_apply_of_pieces _ L h _ (hc _ ?_)).trans (N_at inb j).symm
  have := hP _ _ (j 0).isLt (j 1).isLt
  show P (o + 1 * (j 0).val) (k + 1 * (j 1).val)
  rwa [Nat.one_mul, Nat.one_mul]
/-- What a load reads of a buffer, some of it written anew. -/
theorem ld_ag (a : Memref sig κ sp ⟨2, ![m, n]⟩ e) (ha : a.IsWhole) {o k : ℕ} {inb} {P B : ℕ → ℕ → Prop} {L : List (View.Piece (Elt Ideal) ⟨2, ![m, n]⟩ e)} {X : (⟨2, ![m, n]⟩ : Shape).Idx → Elt Ideal e}
    (h : Ag A r c L) (hc : Cv P L) (hX : ∀ y : (⟨2, ![m, n]⟩ : Shape).Idx, B (y 0) (y 1) → X y = N e (tile A r c) y) (hP : ∀ i j, i < m' → j < n' → P (o + i) (k + j) ∨ B (o + i) (k + j)) :
    View.readAt (Elt Ideal) a.view (Rect.unit ![o, k] ![m', n'] inb).toLoadRect (a.view.writes (Elt Ideal) (ha.unread X) L) = N e (tile A (r + o) (c + k)) := by
  funext (j : (⟨2, ![m', n']⟩ : Shape).Idx)
  rw [View.readAt_apply]
  refine Eq.trans ?_ (N_at inb j).symm
  show _ = N e (tile A r c) ((Rect.unit (s := ⟨2, ![m, n]⟩) ![o, k] ![m', n'] inb).emb j)
  by_cases hy : ∃ p ∈ L, (Rect.unit (s := ⟨2, ![m, n]⟩) ![o, k] ![m', n'] inb).emb j ∈ p.1.set
  · exact View.read_writes_apply_of_pieces _ _ _ L h _ hy
  · refine (View.read_writes_apply_of_forall_not_mem _ _ _ L fun p hp hm => hy ⟨p, hp, hm⟩).trans ?_
    rw [Memref.IsWhole.read_unread]
    refine hX _ ?_
    have := hP _ _ (j 0).isLt (j 1).isLt
    rw [← Nat.one_mul (j 0).val, ← Nat.one_mul (j 1).val] at this
    exact this.resolve_left fun q => hy (hc _ q)
/-- What a load reads of a buffer as it was. -/
theorem ld_N (a : Memref sig κ sp ⟨2, ![m, n]⟩ e) (ha : a.IsWhole) {o k : ℕ} {inb} {X : (⟨2, ![m, n]⟩ : Shape).Idx → Elt Ideal e} (hX : X = N e (tile A r c)) :
    View.readAt (Elt Ideal) a.view (Rect.unit ![o, k] ![m', n'] inb).toLoadRect (ha.unread X) = N e (tile A (r + o) (c + k)) :=
  ld_ag a ha (P := fun _ _ => False) (B := fun _ _ => True) Ag.nil (Cv.nil fun _ _ _ _ h => h) (fun y _ => congrFun hX y) fun _ _ _ _ => Or.inr trivial
/-- What a load reads back of the layer written last. -/
theorem rc_top (v : View sig κ sp ⟨3, ![3, 544, 128]⟩ .f32) {l o δ : ℕ} {inb inb'} {w : (⟨3, ![1, m, 128]⟩ : Shape).Idx → Elt Ideal .f32} {L : List (View.Piece (Elt Ideal) ⟨3, ![3, 544, 128]⟩ .f32)}
    (hw : w = L1 (tile A r c)) (h : δ + m' ≤ m) :
    v.readCov (⟨Rect.unit ![l, o, 0] ![1, m, 128] inb, w⟩ :: L) (Rect.unit ![l, o + δ, 0] ![1, m', 128] inb').toLoadRect = L1 (tile A (r + δ) c) := by
  refine (View.readCov_eq_canon' v _ _).trans (funext fun (j : (⟨3, ![1, m', 128]⟩ : Shape).Idx) => ?_)
  subst hw
  have h0 : (j 0).val < 1 := (j 0).isLt
  have h1 : (j 1).val < m' := (j 1).isLt
  have e : (Rect.unit (s := ⟨3, ![3, 544, 128]⟩) ![l, o + δ, 0] ![1, m', 128] inb').emb j
      = (Rect.unit (s := ⟨3, ![3, 544, 128]⟩) ![l, o, 0] ![1, m, 128] inb).emb (ix3 (j 0) ⟨(j 1).val + δ, by omega⟩ (j 2)) := by
    funext a; apply Fin.ext
    match a with
    | ⟨0, _⟩ => rfl
    | ⟨1, _⟩ => show o + δ + 1 * (j 1).val = o + 1 * ((j 1).val + δ); omega
    | ⟨2, _⟩ => rfl
  refine (congrArg (View.canon _) e).trans ((View.canon_cons_emb _ _ _ _).trans ?_)
  refine congrArg Real.toEReal ?_
  show A ((j 1).val + δ + r) _ = A ((j 1).val + (r + δ)) _
  rw [show (j 1).val + δ + r = (j 1).val + (r + δ) by omega]; rfl
/-- The layer written last holds a matrix's rows from one on. -/
def Tp (A : ℕ → ℕ → ℝ) (r c l o m : ℕ) (L : List (View.Piece (Elt Ideal) ⟨3, ![3, 544, 128]⟩ .f32)) : Prop :=
  ∃ inb, ∃ w : (⟨3, ![1, m, 128]⟩ : Shape).Idx → Elt Ideal .f32, ∃ L', L = ⟨Rect.unit ![l, o, 0] ![1, m, 128] inb, w⟩ :: L' ∧ w = L1 (tile A r c)
theorem Tp.rc {l o : ℕ} {L : List (View.Piece (Elt Ideal) ⟨3, ![3, 544, 128]⟩ .f32)} (h : Tp A r c l o m L) (δ : ℕ) {inb'} (v : View sig κ sp ⟨3, ![3, 544, 128]⟩ .f32) (hδ : δ + m' ≤ m) :
    v.readCov L (Rect.unit ![l, o + δ, 0] ![1, m', 128] inb').toLoadRect = L1 (tile A (r + δ) c) := by
  obtain ⟨inb, w, L', rfl, hw⟩ := h
  exact rc_top v hw hδ
/-- One matrix of a stack. -/
theorem ld_T3 {p : ℕ} (a : Memref sig κ sp ⟨3, ![p, m, n]⟩ .f32) (ha : a.IsWhole) {o : ℕ} {inb} {W : ℕ → ℕ → ℕ → ℝ} {X : (⟨3, ![p, m, n]⟩ : Shape).Idx → Elt Ideal .f32}
    (hX : X = T3 (fun s => tile (W s) 0 0)) :
    View.readAt (Elt Ideal) a.view (Rect.unit ![o, 0, 0] ![1, m, n] inb).toLoadRect (ha.unread X) = L1 (tile (W o) 0 0) := by
  subst hX
  funext (j : (⟨3, ![1, m, n]⟩ : Shape).Idx)
  have h0 : (j 0).val < 1 := (j 0).isLt
  rw [View.readAt_apply, Memref.IsWhole.read_unread]
  refine congrArg Real.toEReal ?_
  show W (o + 1 * (j 0).val) (0 + 1 * (j 1).val + 0) (0 + 1 * (j 2).val + 0) = W o ((j 1).val + 0) ((j 2).val + 0)
  rw [show o + 1 * (j 0).val = o by omega, show 0 + 1 * (j 1).val + 0 = (j 1).val + 0 by omega, show 0 + 1 * (j 2).val + 0 = (j 2).val + 0 by omega]

/-- A list of pieces leaves a matrix at the places a condition names, whatever it leaves elsewhere. -/
def Rd (A : ℕ → ℕ → ℝ) (r c : ℕ) (P : ℕ → ℕ → Prop) (L : List (View.Piece (Elt Ideal) ⟨2, ![m, n]⟩ e)) : Prop := ∀ y : (⟨2, ![m, n]⟩ : Shape).Idx, P (y 0) (y 1) → View.canon L y = N e (tile A r c) y
theorem Rd.nil {P : ℕ → ℕ → Prop} (h : ∀ i j, i < m → j < n → ¬ P i j) : Rd (m := m) (n := n) (e := e) A r c P [] := fun y hy => absurd hy (h _ _ (y 0).isLt (y 1).isLt)
theorem Rd.cons {o k : ℕ} {inb} {w : (⟨2, ![m', n']⟩ : Shape).Idx → Elt Ideal e} {P Q : ℕ → ℕ → Prop} {L : List (View.Piece (Elt Ideal) ⟨2, ![m, n]⟩ e)}
    (hw : w = N e (tile A (r + o) (c + k))) (hL : Rd A r c Q L) (h : ∀ i j, i < m → j < n → P i j → (o ≤ i ∧ i < o + m' ∧ k ≤ j ∧ j < k + n') ∨ Q i j) : Rd A r c P (⟨Rect.unit ![o, k] ![m', n'] inb, w⟩ :: L) := by
  intro y hy
  by_cases hm : y ∈ (Rect.unit (s := ⟨2, ![m, n]⟩) ![o, k] ![m', n'] inb).set
  · obtain ⟨x, hx⟩ := (Rect.unit _ _ inb).toLoadRect.exists_idx_of_mem hm
    subst hx
    exact (View.canon_cons_emb (Rect.unit (s := ⟨2, ![m, n]⟩) ![o, k] ![m', n'] inb) w L x).trans ((congrFun hw x).trans (N_at inb x))
  · refine (View.canon_cons_of_not_mem ⟨Rect.unit (s := ⟨2, ![m, n]⟩) ![o, k] ![m', n'] inb, w⟩ L hm).trans ?_
    refine hL y ((h _ _ (y 0).isLt (y 1).isLt hy).resolve_left fun q => hm ?_)
    simp only [Rect.mem_set_unit, Fin.forall_fin_two, Matrix.cons_val_zero, Matrix.cons_val_one]
    omega
theorem Rd.skip {o k : ℕ} {inb} {w : (⟨2, ![m', n']⟩ : Shape).Idx → Elt Ideal e} {P : ℕ → ℕ → Prop} {L : List (View.Piece (Elt Ideal) ⟨2, ![m, n]⟩ e)}
    (hL : Rd A r c P L) (h : ∀ i j, i < m → j < n → P i j → ¬ (o ≤ i ∧ i < o + m' ∧ k ≤ j ∧ j < k + n')) : Rd A r c P (⟨Rect.unit ![o, k] ![m', n'] inb, w⟩ :: L) := by
  intro y hy
  rw [View.canon_cons_of_not_mem]
  · exact hL y hy
  · intro hm
    simp only [Rect.mem_set_unit, Fin.forall_fin_two, Matrix.cons_val_zero, Matrix.cons_val_one] at hm
    exact h _ _ (y 0).isLt (y 1).isLt hy (by omega)
theorem Rd.canon {P : ℕ → ℕ → Prop} {L : List (View.Piece (Elt Ideal) ⟨2, ![m, n]⟩ e)} (h : Rd A r c P L) (hP : ∀ i j, i < m → j < n → P i j) : View.canon L = N e (tile A r c) :=
  funext fun y => h y (hP _ _ (y 0).isLt (y 1).isLt)
theorem Rd.rc {P : ℕ → ℕ → Prop} {L : List (View.Piece (Elt Ideal) ⟨2, ![m, n]⟩ e)} (h : Rd A r c P L) (v : View sig κ sp ⟨2, ![m, n]⟩ e) {o k : ℕ} {inb}
    (hP : ∀ i j, i < m' → j < n' → P (o + i) (k + j)) : v.readCov L (Rect.unit ![o, k] ![m', n'] inb).toLoadRect = N e (tile A (r + o) (c + k)) := by
  refine (View.readCov_eq_canon' v _ _).trans (funext fun (j : (⟨2, ![m', n']⟩ : Shape).Idx) => ?_)
  refine (h _ ?_).trans (N_at inb j).symm
  have := hP _ _ (j 0).isLt (j 1).isLt
  show P (o + 1 * (j 0).val) (k + 1 * (j 1).val)
  rwa [Nat.one_mul, Nat.one_mul]

/-- A list of pieces leaves a stack's matrices in the layers a condition names, whatever it leaves elsewhere. -/
def R3 {p : ℕ} (W : ℕ → ℕ → ℕ → ℝ) (P : ℕ → Prop) (L : List (View.Piece (Elt Ideal) ⟨3, ![p, m, n]⟩ .f32)) : Prop := ∀ y : (⟨3, ![p, m, n]⟩ : Shape).Idx, P (y 0) → View.canon L y = T3 (fun s => tile (W s) 0 0) y
theorem R3.nil {p : ℕ} {W : ℕ → ℕ → ℕ → ℝ} : R3 (m := m) (n := n) (p := p) W (fun _ => False) [] := fun _ h => h.elim
theorem layer {p o : ℕ} {inb} {y : (⟨3, ![p, m, n]⟩ : Shape).Idx} : y ∈ (Rect.unit (s := ⟨3, ![p, m, n]⟩) ![o, 0, 0] ![1, m, n] inb).set ↔ (y 0).val = o := by
  have h1 : (y 1).val < m := (y 1).isLt
  have h2 : (y 2).val < n := (y 2).isLt
  rw [Rect.mem_set_unit]
  constructor
  · intro h; have : o ≤ (y 0).val ∧ (y 0).val < o + 1 := h 0; omega
  · intro h a
    match a with
    | ⟨0, _⟩ => show o ≤ (y 0).val ∧ (y 0).val < o + 1; omega
    | ⟨1, _⟩ => show 0 ≤ (y 1).val ∧ (y 1).val < 0 + m; omega
    | ⟨2, _⟩ => show 0 ≤ (y 2).val ∧ (y 2).val < 0 + n; omega
theorem R3.cons {p o : ℕ} {inb} {W : ℕ → ℕ → ℕ → ℝ} {w : (⟨3, ![1, m, n]⟩ : Shape).Idx → Elt Ideal .f32} {P Q : ℕ → Prop} {L : List (View.Piece (Elt Ideal) ⟨3, ![p, m, n]⟩ .f32)}
    (hw : w = L1 (tile (W o) 0 0)) (hL : R3 W Q L) (h : ∀ i, i < p → P i → i = o ∨ Q i) : R3 W P (⟨Rect.unit ![o, 0, 0] ![1, m, n] inb, w⟩ :: L) := by
  intro y hy
  by_cases hm : y ∈ (Rect.unit (s := ⟨3, ![p, m, n]⟩) ![o, 0, 0] ![1, m, n] inb).set
  · obtain ⟨(x : (⟨3, ![1, m, n]⟩ : Shape).Idx), hx⟩ := (Rect.unit _ _ inb).toLoadRect.exists_idx_of_mem hm
    subst hx
    refine (View.canon_cons_emb (Rect.unit (s := ⟨3, ![p, m, n]⟩) ![o, 0, 0] ![1, m, n] inb) w L x).trans ((congrFun hw x).trans (congrArg Real.toEReal ?_))
    have h0 : (x 0).val < 1 := (x 0).isLt
    show W o ((x 1).val + 0) ((x 2).val + 0) = W (o + 1 * (x 0).val) (0 + 1 * (x 1).val + 0) (0 + 1 * (x 2).val + 0)
    rw [show o + 1 * (x 0).val = o by omega, show 0 + 1 * (x 1).val + 0 = (x 1).val + 0 by omega, show 0 + 1 * (x 2).val + 0 = (x 2).val + 0 by omega]
  · refine (View.canon_cons_of_not_mem ⟨Rect.unit (s := ⟨3, ![p, m, n]⟩) ![o, 0, 0] ![1, m, n] inb, w⟩ L hm).trans ?_
    exact hL y ((h _ (y 0).isLt hy).resolve_left fun q => hm (layer.mpr q))
theorem R3.skip {p o : ℕ} {inb} {W : ℕ → ℕ → ℕ → ℝ} {w : (⟨3, ![1, m, n]⟩ : Shape).Idx → Elt Ideal .f32} {P : ℕ → Prop} {L : List (View.Piece (Elt Ideal) ⟨3, ![p, m, n]⟩ .f32)}
    (hL : R3 W P L) (h : ¬ P o) : R3 W P (⟨Rect.unit ![o, 0, 0] ![1, m, n] inb, w⟩ :: L) := by
  intro y hy
  rw [View.canon_cons_of_not_mem]
  · exact hL y hy
  · intro hm
    have h0 : (y 0).val = o := (layer (inb := inb)).mp hm
    exact h (h0 ▸ hy)
theorem R3.base {p : ℕ} {inb} {W : ℕ → ℕ → ℕ → ℝ} {w : (⟨3, ![p, m, n]⟩ : Shape).Idx → Elt Ideal .f32} {P : ℕ → Prop}
    (hw : w = T3 (fun s => tile (W s) 0 0)) : R3 (m := m) (n := n) (p := p) W P [⟨Rect.unit (s := ⟨3, ![p, m, n]⟩) ![0, 0, 0] ![p, m, n] inb, w⟩] :=
  fun y _ => (congrFun (View.canon_cons_unit_zero hz3 inb w []) y).trans (congrFun hw y)
theorem R3.canon {p : ℕ} {W : ℕ → ℕ → ℕ → ℝ} {P : ℕ → Prop} {L : List (View.Piece (Elt Ideal) ⟨3, ![p, m, n]⟩ .f32)} (h : R3 W P L) (hP : ∀ i, i < p → P i) : View.canon L = T3 (fun s => tile (W s) 0 0) :=
  funext fun y => h y (hP _ (y 0).isLt)
theorem R3.rc {p o : ℕ} {inb} {W : ℕ → ℕ → ℕ → ℝ} {P : ℕ → Prop} {L : List (View.Piece (Elt Ideal) ⟨3, ![p, m, n]⟩ .f32)} (h : R3 W P L) (v : View sig κ sp ⟨3, ![p, m, n]⟩ .f32) (hP : P o) :
    v.readCov L (Rect.unit ![o, 0, 0] ![1, m, n] inb).toLoadRect = L1 (tile (W o) 0 0) := by
  refine (View.readCov_eq_canon' v _ _).trans (funext fun (j : (⟨3, ![1, m, n]⟩ : Shape).Idx) => ?_)
  have h0 : (j 0).val < 1 := (j 0).isLt
  refine (h _ ?_).trans (congrArg Real.toEReal ?_)
  · show P (o + 1 * (j 0).val)
    rwa [show o + 1 * (j 0).val = o by omega]
  · show W (o + 1 * (j 0).val) (0 + 1 * (j 1).val + 0) (0 + 1 * (j 2).val + 0) = W o ((j 1).val + 0) ((j 2).val + 0)
    rw [show o + 1 * (j 0).val = o by omega, show 0 + 1 * (j 1).val + 0 = (j 1).val + 0 by omega, show 0 + 1 * (j 2).val + 0 = (j 2).val + 0 by omega]
end parts

end Step.Mix
-- ==== Proof.MixRun.lean ====
module

public import proofs.«01_k».proof.Proof.Gen.MixKIdeal.Frame.Runs

@[expose] public section

set_option maxRecDepth 16384

noncomputable section

namespace Step.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixKIdeal Cert.MixKIdeal.Gen

variable {F : FTy → Type} [FloatOps F]

local notation "𝕄" => MT nD τ sig Unit (Elt F) ℕ (Pipeline.UD sig nD τ) ℕ

/-- What one grid step is given: the incoming gradient, the rows, the gain, the saved projection and the rows of it before the
tile, the convolution's taps, the pooling groups' weights and their scale. -/
structure In (F : FTy → Type) where
  d : Vec F S512x1024 .f32
  x : Vec F S512x1024 .f32
  g : Vec F S1x1024 .f32
  p : Vec F S512x2048 .bf16
  e : Vec F S32x2048 .bf16
  k : Vec F S3x512 .f32
  w : Vec F S4x128x128 .f32
  s : Vec F S1x512 .f32

/-- What one grid step leaves for the next one or for the results: the gradient of the rows, of the projection, the normalised
rows, the rounded gradient, the gradients of gain, taps, scale and weights so far, the two weights in scratch, and the rows of
the convolution's and of the pooling's gradient that the tile before needs. -/
structure Out (F : FTy → Type) where
  dx : Vec F S512x1024 .f32
  dp : Vec F S512x2048 .bf16
  h : Vec F S512x1024 .bf16
  db : Vec F S512x1024 .bf16
  dg : Vec F S1x1024 .f32
  dk : Vec F S3x512 .f32
  ds : Vec F S1x512 .f32
  dw : Vec F S4x128x128 .f32
  win : Vec F S2048x1024 .bf16
  wout : Vec F S1024x1024 .bf16
  c : Vec F S520x512 .f32
  q : Vec F S544x512 .f32

/-- The stores of one grid step, buffer by buffer, the last first. -/
structure Stores (F : FTy → Type) where
  dx : List (View.Piece (Elt F) S512x1024 .f32)
  dp : List (View.Piece (Elt F) S512x2048 .bf16)
  h : List (View.Piece (Elt F) S512x1024 .bf16)
  db : List (View.Piece (Elt F) S512x1024 .bf16)
  dg : List (View.Piece (Elt F) S1x1024 .f32)
  dk : List (View.Piece (Elt F) S3x512 .f32)
  ds : List (View.Piece (Elt F) S1x512 .f32)
  dw : List (View.Piece (Elt F) S4x128x128 .f32)
  win : List (View.Piece (Elt F) S2048x1024 .bf16)
  wout : List (View.Piece (Elt F) S1024x1024 .bf16)
  z : List (View.Piece (Elt F) S544x512 .f32)
  u : List (View.Piece (Elt F) S544x512 .f32)
  c : List (View.Piece (Elt F) S520x512 .f32)
  q : List (View.Piece (Elt F) S544x512 .f32)
  l : List (View.Piece (Elt F) S3x544x128 .f32)

/-- The buffers after the stores, where the stores cover them. -/
def Stores.out [FloatOps F] (L : Stores F) : Out F := ⟨View.canon L.dx, View.canon L.dp, View.canon L.h, View.canon L.db, View.canon L.dg, View.canon L.dk, View.canon L.ds, View.canon L.dw, View.canon L.win, View.canon L.wout, View.canon L.c, View.canon L.q⟩

section
variable (c : Dev nD)

/-- A buffer held with anything in it. -/
def any {sp : Space} {S : Shape} {e : EltTy} (M : Memref sig .tc sp S e) : sProp 𝕄 := iprop(∃ d, owns (c : Thread nD τ) M fullShare d)

/-- A buffer after a list of stores over something. -/
def stored {sp : Space} {S : Shape} {e : EltTy} (M : Memref sig .tc sp S e) (L : List (View.Piece (Elt F) S e)) : sProp 𝕄 :=
  iprop(∃ f, M.view.loc (c : Thread nD τ) ↦[M.view.set]{fullShare} M.view.writes (Elt F) f L)

/-- Stores that cover a buffer say what it holds. -/
theorem stored_owns {sp : Space} {S : Shape} {e : EltTy} (M : Memref sig .tc sp S e) (L : List (View.Piece (Elt F) S e))
    (h : ∀ y, ∃ p ∈ L, y ∈ p.1.set) : stored (F := F) c M L ⊢ owns (c : Thread nD τ) M fullShare (View.canon L) := by
  unfold stored owns
  iintro ⟨%f, H⟩
  iexists _; isplitr
  swap; · iexact H
  ipureintro; exact View.read_writes_eq_canon _ _ _ h

/-- Stores leave something. -/
theorem stored_any {sp : Space} {S : Shape} {e : EltTy} (M : Memref sig .tc sp S e) (L : List (View.Piece (Elt F) S e)) :
    stored (F := F) c M L ⊢ any (F := F) c M := by
  unfold stored any owns
  iintro ⟨%f, H⟩
  iexists _; iexists _; isplitr
  swap; · iexact H
  ipureintro; rfl

/-- The copies' five counters at zero and the two arrays they read. -/
def lent (f0 : HbBuf0 (F := F) c hbM0_0) (f1 : HbBuf0 (F := F) c hbM0_1) : sProp 𝕄 :=
  iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 f0 ∗ hbPt0 c hbM0_1 f1)

end

section
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S512x2048 .bf16) (h4 : a4.IsWhole)
  (a5 : Memref sig .tc .vmem S32x2048 .bf16) (h5 : a5.IsWhole)
  (a8 : Memref sig .tc .vmem S3x512 .f32) (h8 : a8.IsWhole)
  (a9 : Memref sig .tc .vmem S4x128x128 .f32) (h9 : a9.IsWhole)
  (a10 : Memref sig .tc .vmem S1x512 .f32) (h10 : a10.IsWhole)
  (a11 : Memref sig .tc .vmem S512x1024 .f32) (h11 : a11.IsWhole)
  (a12 : Memref sig .tc .vmem S512x2048 .bf16) (h12 : a12.IsWhole)
  (a13 : Memref sig .tc .vmem S512x1024 .bf16) (h13 : a13.IsWhole)
  (a14 : Memref sig .tc .vmem S512x1024 .bf16) (h14 : a14.IsWhole)
  (a15 : Memref sig .tc .vmem S1x1024 .f32) (h15 : a15.IsWhole)
  (a16 : Memref sig .tc .vmem S3x512 .f32) (h16 : a16.IsWhole)
  (a17 : Memref sig .tc .vmem S1x512 .f32) (h17 : a17.IsWhole)
  (a18 : Memref sig .tc .vmem S4x128x128 .f32) (h18 : a18.IsWhole)
  (a19 : Memref sig .tc .vmem S2048x1024 .bf16) (h19 : a19.IsWhole)
  (a20 : Memref sig .tc .vmem S1024x1024 .bf16) (h20 : a20.IsWhole)
  (a21 : Memref sig .tc .vmem S544x512 .f32) (h21 : a21.IsWhole)
  (a22 : Memref sig .tc .vmem S544x512 .f32) (h22 : a22.IsWhole)
  (a23 : Memref sig .tc .vmem S520x512 .f32) (h23 : a23.IsWhole)
  (a24 : Memref sig .tc .vmem S544x512 .f32) (h24 : a24.IsWhole)
  (a25 : Memref sig .tc .vmem S3x544x128 .f32) (h25 : a25.IsWhole)

/-- The operands that a step only reads. -/
def reads (v : In F) : sProp 𝕄 :=
  iprop(owns (c : Thread nD τ) a1 fullShare v.d ∗ owns (c : Thread nD τ) a2 fullShare v.x ∗ owns (c : Thread nD τ) a3 fullShare v.g ∗ owns (c : Thread nD τ) a4 fullShare v.p ∗ owns (c : Thread nD τ) a5 fullShare v.e ∗ owns (c : Thread nD τ) a8 fullShare v.k ∗ owns (c : Thread nD τ) a9 fullShare v.w ∗ owns (c : Thread nD τ) a10 fullShare v.s)

/-- Every other buffer, after the stores of the step. -/
def wrote (L : Stores F) : sProp 𝕄 :=
  iprop(stored c a11 L.dx ∗ stored c a12 L.dp ∗ stored c a13 L.h ∗ stored c a14 L.db ∗ stored c a15 L.dg ∗ stored c a16 L.dk ∗ stored c a17 L.ds ∗ stored c a18 L.dw ∗ stored c a19 L.win ∗ stored c a20 L.wout ∗ stored c a21 L.z ∗ stored c a22 L.u ∗ stored c a23 L.c ∗ stored c a24 L.q ∗ stored c a25 L.l)

/-- The same where the two weights are in scratch already and stay there. -/
def wrote' (o : Out F) (L : Stores F) : sProp 𝕄 :=
  iprop(stored c a11 L.dx ∗ stored c a12 L.dp ∗ stored c a13 L.h ∗ stored c a14 L.db ∗ stored c a15 L.dg ∗ stored c a16 L.dk ∗ stored c a17 L.ds ∗ stored c a18 L.dw ∗ owns (c : Thread nD τ) a19 fullShare o.win ∗ owns (c : Thread nD τ) a20 fullShare o.wout ∗ stored c a21 L.z ∗ stored c a22 L.u ∗ stored c a23 L.c ∗ stored c a24 L.q ∗ stored c a25 L.l)

/-- Every other buffer, with anything in it. -/
def free : sProp 𝕄 :=
  iprop(any c a11 ∗ any c a12 ∗ any c a13 ∗ any c a14 ∗ any c a15 ∗ any c a16 ∗ any c a17 ∗ any c a18 ∗ any c a19 ∗ any c a20 ∗ any c a21 ∗ any c a22 ∗ any c a23 ∗ any c a24 ∗ any c a25)

/-- Every other buffer, where the step before left its sums, its weights and its rows. -/
def left (o : Out F) : sProp 𝕄 :=
  iprop(any c a11 ∗ any c a12 ∗ any c a13 ∗ any c a14 ∗ owns (c : Thread nD τ) a15 fullShare o.dg ∗ owns (c : Thread nD τ) a16 fullShare o.dk ∗ owns (c : Thread nD τ) a17 fullShare o.ds ∗ owns (c : Thread nD τ) a18 fullShare o.dw ∗ owns (c : Thread nD τ) a19 fullShare o.win ∗ owns (c : Thread nD τ) a20 fullShare o.wout ∗ any c a21 ∗ any c a22 ∗ owns (c : Thread nD τ) a23 fullShare o.c ∗ owns (c : Thread nD τ) a24 fullShare o.q ∗ any c a25)

set_option sl_exec.dmaWindow true in
set_option sl_exec.dmaWindowSet true in
set_option maxHeartbeats 1600000 in
/-- The first step of the grid: its stores, and the run that ends with them. It copies the weights into scratch and clears the sums. -/
def runA (hc : cond0_0 i) (v : In F) (f0 : HbBuf0 (F := F) c hbM0_0) (f1 : HbBuf0 (F := F) c hbM0_1) :
    { L : Stores F // ∀ (W : Waits sig Unit) (K : PUnit → sProp 𝕄),
      iprop(reads c a1 a2 a3 a4 a5 a8 a9 a10 v ∗ free c a11 a12 a13 a14 a15 a16 a17 a18 a19 a20 a21 a22 a23 a24 a25 ∗ lent c f0 f1 ∗ owes (c : Thread nD τ) 0 W
        ∗ (iprop(reads c a1 a2 a3 a4 a5 a8 a9 a10 v ∗ wrote c a11 a12 a13 a14 a15 a16 a17 a18 a19 a20 a21 a22 a23 a24 a25 L ∗ lent c f0 f1 ∗ (∃ W', owes (c : Thread nD τ) 0 W')) -∗ K ⟨⟩))
        ⊢ wp frame (wpE (defs₀ (F := F)) Variants.none c none) Set.univ (cc0_mixer_backward i a1 h1 a2 h2 a3 h3 a4 h4 a5 h5 (Memref.whole main_v1) (Memref.isWhole_whole _) (Memref.whole main_v5) (Memref.isWhole_whole _) a8 h8 a9 h9 a10 h10 a11 h11 a12 h12 a13 h13 a14 h14 a15 h15 a16 h16 a17 h17 a18 h18 a19 h19 a20 h20 a21 h21 a22 h22 a23 h23 a24 h24 a25 h25 cc0_scratch7) K } := by
  refine ⟨⟨?_, ?_, ?_, ?_, ?_, ?_, ?_, ?_, ?_, ?_, ?_, ?_, ?_, ?_, ?_⟩, fun W K => ?run⟩
  case run =>
    simp only [cc0_mixer_backward_eq_skeleton]; unfold cc0_mixer_backward_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold reads free wrote lent any stored owns; dsimp only
    iintro ⟨⟨⟨%f1, %e1, H1⟩, ⟨%f2, %e2, H2⟩, ⟨%f3, %e3, H3⟩, ⟨%f4, %e4, H4⟩, ⟨%f5, %e5, H5⟩, ⟨%f8, %e8, H8⟩, ⟨%f9, %e9, H9⟩, ⟨%f10, %e10, H10⟩⟩, ⟨⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩, ⟨Hq0, Hq1, Hq2, Hq3, Hq4, Hh0, Hh1⟩, HW, Hk⟩
    obtain rfl := h1.eq_unread e1; obtain rfl := h2.eq_unread e2; obtain rfl := h3.eq_unread e3; obtain rfl := h4.eq_unread e4; obtain rfl := h5.eq_unread e5; obtain rfl := h8.eq_unread e8; obtain rfl := h9.eq_unread e9; obtain rfl := h10.eq_unread e10
    sl_exec (disch := first | sl_exact hc)
    sl_step
    iapply Hk
    isplitl [H1 H2 H3 H4 H5 H8 H9 H10]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H11 H12 H13 H14 H15 H16 H17 H18 H19 H20 H21 H22 H23 H24 H25]
    · isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iexists _; iexact H25
    isplitl [Hq0 Hq1 Hq2 Hq3 Hq4 Hh0 Hh1]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    iexists _; iexact HW

set_option maxHeartbeats 1600000 in
/-- The later steps of the grid: its stores, and the run that ends with them. It adds to the sums and reads the rows that the step before left. -/
def runB (hc : ¬ cond0_0 i) (v : In F) (o : Out F) (f0 : HbBuf0 (F := F) c hbM0_0) (f1 : HbBuf0 (F := F) c hbM0_1) :
    { L : Stores F // ∀ (W : Waits sig Unit) (K : PUnit → sProp 𝕄),
      iprop(reads c a1 a2 a3 a4 a5 a8 a9 a10 v ∗ left c a11 a12 a13 a14 a15 a16 a17 a18 a19 a20 a21 a22 a23 a24 a25 o ∗ lent c f0 f1 ∗ owes (c : Thread nD τ) 0 W
        ∗ (iprop(reads c a1 a2 a3 a4 a5 a8 a9 a10 v ∗ wrote' c a11 a12 a13 a14 a15 a16 a17 a18 a19 a20 a21 a22 a23 a24 a25 o L ∗ lent c f0 f1 ∗ (∃ W', owes (c : Thread nD τ) 0 W')) -∗ K ⟨⟩))
        ⊢ wp frame (wpE (defs₀ (F := F)) Variants.none c none) Set.univ (cc0_mixer_backward i a1 h1 a2 h2 a3 h3 a4 h4 a5 h5 (Memref.whole main_v1) (Memref.isWhole_whole _) (Memref.whole main_v5) (Memref.isWhole_whole _) a8 h8 a9 h9 a10 h10 a11 h11 a12 h12 a13 h13 a14 h14 a15 h15 a16 h16 a17 h17 a18 h18 a19 h19 a20 h20 a21 h21 a22 h22 a23 h23 a24 h24 a25 h25 cc0_scratch7) K } := by
  refine ⟨⟨?_, ?_, ?_, ?_, ?_, ?_, ?_, ?_, [], [], ?_, ?_, ?_, ?_, ?_⟩, fun W K => ?run⟩
  case run =>
    simp only [cc0_mixer_backward_eq_skeleton]; unfold cc0_mixer_backward_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold reads left wrote' lent any stored owns; dsimp only
    iintro ⟨⟨⟨%f1, %e1, H1⟩, ⟨%f2, %e2, H2⟩, ⟨%f3, %e3, H3⟩, ⟨%f4, %e4, H4⟩, ⟨%f5, %e5, H5⟩, ⟨%f8, %e8, H8⟩, ⟨%f9, %e9, H9⟩, ⟨%f10, %e10, H10⟩⟩, ⟨⟨%d11, %f11, -, H11⟩, ⟨%d12, %f12, -, H12⟩, ⟨%d13, %f13, -, H13⟩, ⟨%d14, %f14, -, H14⟩, ⟨%f15, %e15, H15⟩, ⟨%f16, %e16, H16⟩, ⟨%f17, %e17, H17⟩, ⟨%f18, %e18, H18⟩, ⟨%f19, %e19, H19⟩, ⟨%f20, %e20, H20⟩, ⟨%d21, %f21, -, H21⟩, ⟨%d22, %f22, -, H22⟩, ⟨%f23, %e23, H23⟩, ⟨%f24, %e24, H24⟩, ⟨%d25, %f25, -, H25⟩⟩, ⟨Hq0, Hq1, Hq2, Hq3, Hq4, Hh0, Hh1⟩, HW, Hk⟩
    obtain rfl := h1.eq_unread e1; obtain rfl := h2.eq_unread e2; obtain rfl := h3.eq_unread e3; obtain rfl := h4.eq_unread e4; obtain rfl := h5.eq_unread e5; obtain rfl := h8.eq_unread e8; obtain rfl := h9.eq_unread e9; obtain rfl := h10.eq_unread e10; obtain rfl := h15.eq_unread e15; obtain rfl := h16.eq_unread e16; obtain rfl := h17.eq_unread e17; obtain rfl := h18.eq_unread e18; obtain rfl := h19.eq_unread e19; obtain rfl := h20.eq_unread e20; obtain rfl := h23.eq_unread e23; obtain rfl := h24.eq_unread e24
    sl_exec (disch := first | sl_exact hc)
    sl_step
    iapply Hk
    isplitl [H1 H2 H3 H4 H5 H8 H9 H10]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H11 H12 H13 H14 H15 H16 H17 H18 H19 H20 H21 H22 H23 H24 H25]
    · isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]
      · iexists _; isplitr; · ipureintro; exact h19.read_unread _
        iexact H19
      isplitl [H20]
      · iexists _; isplitr; · ipureintro; exact h20.read_unread _
        iexact H20
      isplitl [H21]; · iexists _; iexact H21
      isplitl [H22]; · iexists _; iexact H22
      isplitl [H23]; · iexists _; iexact H23
      isplitl [H24]; · iexists _; iexact H24
      iexists _; iexact H25
    isplitl [Hq0 Hq1 Hq2 Hq3 Hq4 Hh0 Hh1]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    iexists _; iexact HW

end

end Step.Mix
-- ==== Proof.MixStep.lean ====
module

public import proofs.«01_k».proof.Proof.MixRun

@[expose] public section

set_option maxRecDepth 16384

noncomputable section

namespace Step.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixKIdeal Cert.MixKIdeal.Gen

variable {F : FTy → Type} [FloatOps F]

local notation "𝕄" => MT nD τ sig Unit (Elt F) ℕ (Pipeline.UD sig nD τ) ℕ

/-- A list of stores fills the buffer. -/
abbrev Fills {S : Shape} {e : EltTy} (L : List (View.Piece (Elt F) S e)) : Prop := ∀ y, ∃ p ∈ L, y ∈ p.1.set

/-- The stores of a step fill every buffer that is looked at afterwards, the two weights' apart. -/
structure Stores.Full (L : Stores F) : Prop where
  dx : Fills L.dx
  dp : Fills L.dp
  h : Fills L.h
  db : Fills L.db
  dg : Fills L.dg
  dk : Fills L.dk
  ds : Fills L.ds
  dw : Fills L.dw
  c : Fills L.c
  q : Fills L.q

variable (m : (ℓ : Loc nD τ sig) → Buf (Elt F) ℓ) (ρ : Dev nD → PrngReg) (c : Dev nD) (t : Fin cfg0.N)

/-- The operands of the step at a grid point. -/
def inAt : In F := ⟨iblk m c 0 t, iblk m c 1 t, iblk m c 2 t, iblk m c 3 t, iblk m c 4 t, iblk m c 5 t, iblk m c 6 t, iblk m c 7 t⟩

/-- The run of the grid's first step, on the buffers of its point. -/
def atA (hc : cond0_0 (grid0.coords t)) := runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc (inAt m c t) (V m c main_v1) (V m c main_v5)

/-- The run of a later step. -/
def atB (hc : ¬ cond0_0 (grid0.coords t)) (o : Out F) := runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc (inAt m c t) o (V m c main_v1) (V m c main_v5)

theorem fullA (hc : cond0_0 (grid0.coords t)) : (atA m c t hc).1.Full where
  dx := View.cover_of_tiledL _ ![512, 1024] (by sl_kernel_rfl)
  dp := View.cover_of_tiledBy _ ![512, 128] (by sl_kernel_rfl)
  h := View.cover_of_tiledL _ ![512, 1024] (by sl_kernel_rfl)
  db := View.cover_of_tiledL _ ![512, 1024] (by sl_kernel_rfl)
  dg := View.cover_of_tiledL _ ![1, 1024] (by sl_kernel_rfl)
  dk := View.cover_of_tiledBy _ ![1, 512] (by sl_kernel_rfl)
  ds := View.cover_of_tiledBy _ ![1, 128] (by sl_kernel_rfl)
  dw := View.cover_of_tiledBy _ ![1, 128, 128] (by sl_kernel_rfl)
  c := View.cover_of_tiledBy _ ![8, 512] (by sl_kernel_rfl)
  q := View.cover_of_tiledBy _ ![32, 128] (by sl_kernel_rfl)

theorem fullA_win (hc : cond0_0 (grid0.coords t)) : Fills (atA m c t hc).1.win := View.cover_of_tiledL _ ![2048, 1024] (by sl_kernel_rfl)

theorem fullA_wout (hc : cond0_0 (grid0.coords t)) : Fills (atA m c t hc).1.wout := View.cover_of_tiledL _ ![256, 1024] (by sl_kernel_rfl)

theorem fullB (hc : ¬ cond0_0 (grid0.coords t)) (o : Out F) : (atB m c t hc o).1.Full where
  dx := View.cover_of_tiledL _ ![512, 1024] (by sl_kernel_rfl)
  dp := View.cover_of_tiledBy _ ![512, 128] (by sl_kernel_rfl)
  h := View.cover_of_tiledL _ ![512, 1024] (by sl_kernel_rfl)
  db := View.cover_of_tiledL _ ![512, 1024] (by sl_kernel_rfl)
  dg := View.cover_of_tiledL _ ![1, 1024] (by sl_kernel_rfl)
  dk := View.cover_of_tiledL _ ![1, 512] (by sl_kernel_rfl)
  ds := View.cover_of_tiledL _ ![1, 128] (by sl_kernel_rfl)
  dw := View.cover_of_tiledL _ ![1, 128, 128] (by sl_kernel_rfl)
  c := View.cover_of_tiledBy _ ![8, 512] (by sl_kernel_rfl)
  q := View.cover_of_tiledBy _ ![32, 128] (by sl_kernel_rfl)

/-- What a later step leaves: its stores, and the weights as they were. -/
def next (hc : ¬ cond0_0 (grid0.coords t)) (o : Out F) : Out F := { (atB m c t hc o).1.out with win := o.win, wout := o.wout }

theorem first_cond (n : ℕ) (h : n < cfg0.N) (hz : n = 0) : cond0_0 (grid0.coords ⟨n, h⟩) := (hcond0_0 _).mpr (by simp [hz])

theorem later_cond (n : ℕ) (h : n < cfg0.N) (hz : n ≠ 0) : ¬ cond0_0 (grid0.coords ⟨n, h⟩) := fun hh => by
  have := (hcond0_0 _).mp hh
  have hN : n < 8 := lt_of_lt_of_eq h N_0
  simp only at this; omega

/-- What the step at point `n` leaves. -/
def outAt : (n : ℕ) → n < cfg0.N → Out F
  | 0, h => (atA m c ⟨0, h⟩ (first_cond 0 h rfl)).1.out
  | n + 1, h => next m c ⟨n + 1, h⟩ (later_cond _ h (Nat.succ_ne_zero n)) (outAt n (Nat.lt_of_succ_lt h))

theorem outAt_first (h : t.val = 0) : outAt m c t.val t.isLt = (atA m c t (first_cond _ t.isLt h)).1.out := by
  obtain ⟨n, hn⟩ := t
  obtain rfl : n = 0 := h
  rfl

theorem outAt_later (h : t.val ≠ 0) :
    outAt m c t.val t.isLt = next m c t (later_cond _ t.isLt h) (outAt m c (t.val - 1) (Nat.lt_of_le_of_lt (Nat.sub_le _ _) t.isLt)) := by
  obtain ⟨n, hn⟩ := t
  cases n with
  | zero => exact absurd rfl h
  | succ n => rfl

/-- The results' buffers and the scratch after a step. -/
def keeps (o : Out F) : sProp 𝕄 :=
  iprop(owns (c : Thread nD τ) (ms0_8 t) fullShare o.dx ∗ owns (c : Thread nD τ) (ms0_9 t) fullShare o.dp ∗ owns (c : Thread nD τ) (ms0_10 t) fullShare o.h ∗ owns (c : Thread nD τ) (ms0_11 t) fullShare o.db ∗ owns (c : Thread nD τ) (ms0_12 t) fullShare o.dg ∗ owns (c : Thread nD τ) (ms0_13 t) fullShare o.dk ∗ owns (c : Thread nD τ) (ms0_14 t) fullShare o.ds ∗ owns (c : Thread nD τ) (ms0_15 t) fullShare o.dw ∗ owns (c : Thread nD τ) scM0_0 fullShare o.win ∗ owns (c : Thread nD τ) scM0_1 fullShare o.wout ∗ any c scM0_2 ∗ any c scM0_3 ∗ owns (c : Thread nD τ) scM0_4 fullShare o.c ∗ owns (c : Thread nD τ) scM0_5 fullShare o.q ∗ any c scM0_6)

theorem keeps_of_wrote (L : Stores F) (hL : L.Full) (hi : Fills L.win) (ho : Fills L.wout) :
    wrote c (ms0_8 t) (ms0_9 t) (ms0_10 t) (ms0_11 t) (ms0_12 t) (ms0_13 t) (ms0_14 t) (ms0_15 t) scM0_0 scM0_1 scM0_2 scM0_3 scM0_4 scM0_5 scM0_6 L ⊢ keeps c t L.out := by
  unfold wrote keeps Stores.out; dsimp only
  iintro ⟨H11, H12, H13, H14, H15, H16, H17, H18, H19, H20, H21, H22, H23, H24, H25⟩
  isplitl [H11]; · iapply (stored_owns _ _ _ hL.dx); iexact H11
  isplitl [H12]; · iapply (stored_owns _ _ _ hL.dp); iexact H12
  isplitl [H13]; · iapply (stored_owns _ _ _ hL.h); iexact H13
  isplitl [H14]; · iapply (stored_owns _ _ _ hL.db); iexact H14
  isplitl [H15]; · iapply (stored_owns _ _ _ hL.dg); iexact H15
  isplitl [H16]; · iapply (stored_owns _ _ _ hL.dk); iexact H16
  isplitl [H17]; · iapply (stored_owns _ _ _ hL.ds); iexact H17
  isplitl [H18]; · iapply (stored_owns _ _ _ hL.dw); iexact H18
  isplitl [H19]; · iapply (stored_owns _ _ _ hi); iexact H19
  isplitl [H20]; · iapply (stored_owns _ _ _ ho); iexact H20
  isplitl [H21]; · iapply (stored_any _ _ _); iexact H21
  isplitl [H22]; · iapply (stored_any _ _ _); iexact H22
  isplitl [H23]; · iapply (stored_owns _ _ _ hL.c); iexact H23
  isplitl [H24]; · iapply (stored_owns _ _ _ hL.q); iexact H24
  iapply (stored_any _ _ _); iexact H25

theorem keeps_of_wrote' (o : Out F) (L : Stores F) (hL : L.Full) :
    wrote' c (ms0_8 t) (ms0_9 t) (ms0_10 t) (ms0_11 t) (ms0_12 t) (ms0_13 t) (ms0_14 t) (ms0_15 t) scM0_0 scM0_1 scM0_2 scM0_3 scM0_4 scM0_5 scM0_6 o L ⊢ keeps c t { L.out with win := o.win, wout := o.wout } := by
  unfold wrote' keeps Stores.out; dsimp only
  iintro ⟨H11, H12, H13, H14, H15, H16, H17, H18, H19, H20, H21, H22, H23, H24, H25⟩
  isplitl [H11]; · iapply (stored_owns _ _ _ hL.dx); iexact H11
  isplitl [H12]; · iapply (stored_owns _ _ _ hL.dp); iexact H12
  isplitl [H13]; · iapply (stored_owns _ _ _ hL.h); iexact H13
  isplitl [H14]; · iapply (stored_owns _ _ _ hL.db); iexact H14
  isplitl [H15]; · iapply (stored_owns _ _ _ hL.dg); iexact H15
  isplitl [H16]; · iapply (stored_owns _ _ _ hL.dk); iexact H16
  isplitl [H17]; · iapply (stored_owns _ _ _ hL.ds); iexact H17
  isplitl [H18]; · iapply (stored_owns _ _ _ hL.dw); iexact H18
  isplitl [H19]; · iexact H19
  isplitl [H20]; · iexact H20
  isplitl [H21]; · iapply (stored_any _ _ _); iexact H21
  isplitl [H22]; · iapply (stored_any _ _ _); iexact H22
  isplitl [H23]; · iapply (stored_owns _ _ _ hL.c); iexact H23
  isplitl [H24]; · iapply (stored_owns _ _ _ hL.q); iexact H24
  iapply (stored_any _ _ _); iexact H25

/-- The first step, from buffers that hold anything. -/
theorem step_first (h : t.val = 0) (W : Waits sig Unit) (K : PUnit → sProp 𝕄) :
    iprop(reads c (ms0_0 t) (ms0_1 t) (ms0_2 t) (ms0_3 t) (ms0_4 t) (ms0_5 t) (ms0_6 t) (ms0_7 t) (inAt m c t) ∗ free c (ms0_8 t) (ms0_9 t) (ms0_10 t) (ms0_11 t) (ms0_12 t) (ms0_13 t) (ms0_14 t) (ms0_15 t) scM0_0 scM0_1 scM0_2 scM0_3 scM0_4 scM0_5 scM0_6 ∗ lent c (V m c main_v1) (V m c main_v5) ∗ owes (c : Thread nD τ) 0 W
      ∗ (iprop(reads c (ms0_0 t) (ms0_1 t) (ms0_2 t) (ms0_3 t) (ms0_4 t) (ms0_5 t) (ms0_6 t) (ms0_7 t) (inAt m c t) ∗ keeps c t (outAt m c t.val t.isLt) ∗ lent c (V m c main_v1) (V m c main_v5) ∗ (∃ W', owes (c : Thread nD τ) 0 W')) -∗ K ⟨⟩))
      ⊢ wp frame (wpE (defs₀ (F := F)) Variants.none c none) Set.univ (bodyAt0 t) K := by
  rw [outAt_first m c t h]
  iintro ⟨Hr, Hf, Hl, HW, Hk⟩
  iapply ((atA m c t (first_cond _ t.isLt h)).2 W K)
  isplitl [Hr]; · iexact Hr
  isplitl [Hf]; · iexact Hf
  isplitl [Hl]; · iexact Hl
  isplitl [HW]; · iexact HW
  iintro ⟨Hr, Hf, Hl, HW⟩
  iapply Hk
  isplitl [Hr]; · iexact Hr
  isplitl [Hf]
  · iapply (keeps_of_wrote c t _ (fullA m c t _) (fullA_win m c t _) (fullA_wout m c t _)); iexact Hf
  isplitl [Hl]; · iexact Hl
  iexact HW

/-- A later step, from what the step before left. -/
theorem step_later (h : t.val ≠ 0) (W : Waits sig Unit) (K : PUnit → sProp 𝕄) :
    iprop(reads c (ms0_0 t) (ms0_1 t) (ms0_2 t) (ms0_3 t) (ms0_4 t) (ms0_5 t) (ms0_6 t) (ms0_7 t) (inAt m c t) ∗ left c (ms0_8 t) (ms0_9 t) (ms0_10 t) (ms0_11 t) (ms0_12 t) (ms0_13 t) (ms0_14 t) (ms0_15 t) scM0_0 scM0_1 scM0_2 scM0_3 scM0_4 scM0_5 scM0_6 (outAt m c (t.val - 1) (Nat.lt_of_le_of_lt (Nat.sub_le _ _) t.isLt)) ∗ lent c (V m c main_v1) (V m c main_v5) ∗ owes (c : Thread nD τ) 0 W
      ∗ (iprop(reads c (ms0_0 t) (ms0_1 t) (ms0_2 t) (ms0_3 t) (ms0_4 t) (ms0_5 t) (ms0_6 t) (ms0_7 t) (inAt m c t) ∗ keeps c t (outAt m c t.val t.isLt) ∗ lent c (V m c main_v1) (V m c main_v5) ∗ (∃ W', owes (c : Thread nD τ) 0 W')) -∗ K ⟨⟩))
      ⊢ wp frame (wpE (defs₀ (F := F)) Variants.none c none) Set.univ (bodyAt0 t) K := by
  rw [outAt_later m c t h]
  iintro ⟨Hr, Hf, Hl, HW, Hk⟩
  iapply ((atB m c t (later_cond _ t.isLt h) _).2 W K)
  isplitl [Hr]; · iexact Hr
  isplitl [Hf]; · iexact Hf
  isplitl [Hl]; · iexact Hl
  isplitl [HW]; · iexact HW
  iintro ⟨Hr, Hf, Hl, HW⟩
  iapply Hk
  isplitl [Hr]; · iexact Hr
  isplitl [Hf]
  · iapply (keeps_of_wrote' c t _ _ (fullB m c t _ _)); iexact Hf
  isplitl [Hl]; · iexact Hl
  iexact HW

end Step.Mix
-- ==== Proof.MixPay.lean ====
module

public import proofs.«01_k».proof.Proof.MixKit
public import proofs.«01_k».proof.Proof.MixStep

@[expose] public section

set_option maxRecDepth 16384

noncomputable section

namespace Step.Mix

open Idealize Idealize.ShloMosaic
open Cert.MixKIdeal Cert.MixKIdeal.Gen
open Step.Ffn (zadd cast_self bx bg)

/-- One over the number of rows a window of `2 ^ n` rows holds, at a row counted from 32. -/
def inv (n r : ℕ) : ℝ := 1 / ((min (r - 31) (2 ^ n) : ℕ) : ℝ)
/-- The same as a column. -/
def invc {m : Nat} (n a : ℕ) : Fin m → Fin 1 → ℝ := fun r _ => inv n (r.val + a)
/-- Every column scaled by one. -/
def scl {m n : Nat} (A : Fin m → Fin n → ℝ) (v : Fin m → Fin 1 → ℝ) : Fin m → Fin n → ℝ := fun r c => A r c * v r 0
/-- Every row scaled by one. -/
def scr {m n : Nat} (A : Fin m → Fin n → ℝ) (v : Fin 1 → Fin n → ℝ) : Fin m → Fin n → ℝ := fun r c => A r c * v 0 c
/-- A window's sums over their counts, less the row itself. -/
def pl {m n : Nat} (S U : Fin m → Fin n → ℝ) (v : Fin m → Fin 1 → ℝ) : Fin m → Fin n → ℝ := fun r c => S r c * v r 0 - U r c
/-- The sums of the columns of the product of two matrices, as one row. -/
def cs {m n : Nat} (A B : Fin m → Fin n → ℝ) : Fin 1 → Fin n → ℝ := fun _ c => ∑ r, A r c * B r c
/-- Three arrays weighted by the three taps. -/
def tap3 {m n : Nat} (k : ℕ → ℕ → ℝ) (A B C : Fin m → Fin n → ℝ) : Fin m → Fin n → ℝ := fun r c => k 2 c * A r c + k 1 c * B r c + k 0 c * C r c

section norm
variable (x d : Fin 512 → Fin 1024 → ℝ) (g : Fin 1 → Fin 1024 → ℝ)

theorem pay9 : k0_pay9 (F := Ideal) (M32 x) = M (fun i _ => rr x i) := by
  unfold k0_pay9; dsimp only
  rw [splat_M _ w_1024, splat_M _ w_eps, mulf_M]; erw [red_R]; rw [cast_col, divf_M _ _ (fun _ _ => by norm_num), addf_M]
  exact rsqrt_M _ (fun i _ => vv_pos x i)
theorem pay10 : k0_pay10 (F := Ideal) (M32 x) = M (xh x) := by
  unfold k0_pay10; dsimp only; rw [pay9, bto_M1, mulf_M]; rfl
theorem pay11 : k0_pay11 (F := Ideal) (M32 x) (M32 g) = M (hn x (g 0)) := by
  unfold k0_pay11; dsimp only; rw [pay10, bto_1M, mulf_M, truncf_M]; rfl
theorem pay12 : k0_pay12 (F := Ideal) (M32 d) = M d := by
  unfold k0_pay12; dsimp only; rw [truncf_M]
theorem pay99 (P : Fin 512 → Fin 2048 → ℝ) (W : Fin 2048 → Fin 1024 → ℝ) : k0_pay99 (F := Ideal) (M16 P) (M16 W) = M (mm P W) := by
  unfold k0_pay99; dsimp only
  rw [cast_self, show dot_S512x2048_S2048x1024_S512x1024_1_0_0_1_n_n = DotDims.plain 512 2048 1024 from rfl, const_M _ w_zero, prod_mm, zadd]
theorem pay100 (P : Fin 512 → Fin 2048 → ℝ) (W : Fin 2048 → Fin 1024 → ℝ) (Z : Fin 1 → Fin 1024 → ℝ) :
    k0_pay100 (F := Ideal) (M32 (xh x)) (M16 P) (M16 W) (M32 Z) = M (Z + rowv (bg x (mm P W))) := by
  unfold k0_pay100; dsimp only
  rw [pay99, cast_self, mulf_M]; erw [red_C]; rw [cast_row, addf_M]; rfl
theorem pay101 (P : Fin 512 → Fin 2048 → ℝ) (W : Fin 2048 → Fin 1024 → ℝ) :
    k0_pay101 (F := Ideal) (M32 g) (M32 fun i _ => rr x i) (M32 (xh x)) (M32 d) (M16 P) (M16 W) = M (bx d x (mm P W) (g 0)) := by
  unfold k0_pay101; dsimp only
  rw [pay99, splat_M _ w_1024, bto_1M, mulf_M, mulf_M]; erw [red_R]; rw [cast_col, divf_M _ _ (fun _ _ => by norm_num), bto_M1, bto_M1, mulf_M, subf_M, mulf_M, addf_M]; rfl
end norm

/-! ### The words that count rows -/

theorem word (i : Fin 8) (T : ℕ) (h : i.val + T = 7) : Scalar.subi (7#32) (BitVec.ofNat 32 i.val) = BitVec.ofNat 32 T := by
  obtain rfl : T = 7 - i.val := by omega
  revert i; decide
theorem first (T : ℕ) (hT : T < 8) : k0_pay17 (F := Ideal) (BitVec.ofNat 32 T) = (((if T = 0 then 0 else 1 : ℝ)) : EReal) := by
  have a : Scalar.ofBits (F := Ideal) .f32 0x3F800000#32 = ((1 : ℝ) : EReal) := w_one
  have b : Scalar.ofBits (F := Ideal) .f32 0x00000000#32 = ((0 : ℝ) : EReal) := w_zero
  unfold k0_pay17; dsimp only
  rw [a, b]
  rcases T with _ | T
  · rfl
  · have : Scalar.cmpi .sgt (BitVec.ofNat 32 (T + 1)) 0#32 = 1#1 := by
      have : ∀ t : Fin 8, t.val ≠ 0 → Scalar.cmpi .sgt (BitVec.ofNat 32 t.val) 0#32 = 1#1 := by decide
      exact this ⟨T + 1, hT⟩ (Nat.succ_ne_zero T)
    rw [this]; rfl
theorem row (T : ℕ) (j : (⟨2, ![512, 1]⟩ : Shape).Idx) : k0_pay37 (BitVec.ofNat 32 T) j = BitVec.ofNat 32 (512 * T + (j 0).val) := by
  unfold k0_pay37; dsimp only
  show BitVec.ofNat 32 T * 512#32 + iota .tc S512x1 32 [0] _ j = _
  rw [iota_apply, BitVec.ofNat_add, Nat.mul_comm, BitVec.ofNat_mul]
  refine congrArg (BitVec.ofNat 32 T * 512#32 + ·) (congrArg (BitVec.ofNat 32) ?_)
  show 0 * _ + (j 0).val = (j 0).val
  simp
theorem small (k : ℕ) (h : k < 2 ^ 31) : (BitVec.ofNat 32 k).toInt = (k : ℤ) := by
  rw [BitVec.toInt_eq_toNat_of_lt] <;> rw [BitVec.toNat_ofNat, Nat.mod_eq_of_lt (by omega)]
  omega
theorem lesser (a b : ℕ) (ha : a < 2 ^ 31) (hb : b < 2 ^ 31) : (IntOp.minsi (BitVec.ofNat 32 a) (BitVec.ofNat 32 b)).toInt = ((min a b : ℕ) : ℤ) := by
  unfold IntOp.minsi
  rw [BitVec.slt_eq_decide, small a ha, small b hb]
  by_cases h : a < b
  · rw [if_pos (by simpa using h), small a ha, min_eq_left h.le]
  · rw [if_neg (by simpa using h), small b hb, min_eq_right (not_lt.mp h)]
/-- One over the count of rows in each row's window. -/
theorem cnt (T : ℕ) (hT : T < 8) (n : ℕ) (hn : n < 5) :
    sitofp (F := Ideal) .f32 (minsi (addi (k0_pay37 (BitVec.ofNat 32 T)) (broadcast S512x1 1#32)) (broadcast S512x1 (BitVec.ofNat 32 (2 ^ n))))
      = M (φ := .f32) (fun r (_ : Fin 1) => ((min (r.val + (512 * T + 32) - 31) (2 ^ n) : ℕ) : ℝ)) := by
  funext (j : (⟨2, ![512, 1]⟩ : Shape).Idx)
  have hj : (j 0).val < 512 := (j 0).isLt
  have h2 : 2 ^ n ≤ 2 ^ 4 := Nat.pow_le_pow_right (by omega) (by omega)
  show Scalar.sitofp (F := Ideal) .f32 (IntOp.minsi (k0_pay37 (BitVec.ofNat 32 T) j + 1#32) (BitVec.ofNat 32 (2 ^ n))) = _
  rw [row, ← BitVec.ofNat_add, Ideal.scalar_sitofp_def, lesser _ _ (by omega) (by omega)]
  refine congrArg Real.toEReal ?_
  show (((min (512 * T + (j 0).val + 1) (2 ^ n) : ℕ) : ℤ) : ℝ) = ((min ((j 0).val + (512 * T + 32) - 31) (2 ^ n) : ℕ) : ℝ)
  rw [show (j 0).val + (512 * T + 32) - 31 = 512 * T + (j 0).val + 1 by omega]
  exact Int.cast_natCast _
theorem invd (T : ℕ) (hT : T < 8) (n : ℕ) (hn : n < 5) :
    divf (F := Ideal) (broadcast S512x1 (Scalar.ofBits .f32 0x3F800000#32)) (sitofp .f32 (minsi (addi (k0_pay37 (BitVec.ofNat 32 T)) (broadcast S512x1 1#32)) (broadcast S512x1 (BitVec.ofNat 32 (2 ^ n)))))
      = M (φ := .f32) (invc n (512 * T + 32)) := by
  rw [cnt T hT n hn, splat_M _ w_one, divf_M]; · rfl
  intro i _
  have h2 : 0 < 2 ^ n := Nat.pow_pos (by omega)
  exact Nat.cast_ne_zero.mpr (by omega)
theorem pay41 (T : ℕ) (hT : T < 8) : k0_pay41 (F := Ideal) (k0_pay40 (BitVec.ofNat 32 T)) = M (invc 1 (512 * T + 32)) := invd T hT 1 (by omega)
theorem pay52 (T : ℕ) (hT : T < 8) : k0_pay52 (F := Ideal) (k0_pay37 (BitVec.ofNat 32 T)) = M (invc 2 (512 * T + 32)) := invd T hT 2 (by omega)
theorem pay68 (T : ℕ) (hT : T < 8) : k0_pay68 (F := Ideal) (k0_pay37 (BitVec.ofNat 32 T)) = M (invc 3 (512 * T + 32)) := invd T hT 3 (by omega)
theorem pay85 (T : ℕ) (hT : T < 8) : k0_pay85 (F := Ideal) (k0_pay37 (BitVec.ofNat 32 T)) 1#32 = M (invc 4 (512 * T + 32)) := invd T hT 4 (by omega)

/-! ### The rows before a tile, and the convolution -/

section conv
variable {a : FVec Ideal S512x1024 .bf16} {w : Vec Ideal S1024x1024 .bf16} {Y : ℕ → ℕ → ℝ} {r : ℕ} (k : ℕ → ℕ → ℝ)
variable (A B C G : Fin 512 → Fin 512 → ℝ)

theorem pay13 : k0_pay13 (F := Ideal) (M16 A) = M A := by unfold k0_pay13; dsimp only; rw [cast_self]; rfl
theorem pay14 : k0_pay14 (F := Ideal) (M16 A) = M A := by unfold k0_pay14; dsimp only; rw [cast_self]; rfl
theorem pay15 : k0_pay15 (F := Ideal) (M16 A) = M A := by unfold k0_pay15; dsimp only; rw [cast_self]; rfl
theorem pay16 : k0_pay16 (F := Ideal) (M16 A) = M A := by unfold k0_pay16; dsimp only; rw [cast_self]; rfl
theorem pay18 (T : ℕ) (hT : T < 8) (E H : Fin 32 → Fin 512 → ℝ) : k0_pay18 (F := Ideal) (BitVec.ofNat 32 T) (M16 E) (M16 H) = M (fun i j => E i j * H i j * (if T = 0 then 0 else 1)) := by
  unfold k0_pay18; dsimp only
  rw [first T hT, cast_self, cast_self, cast_self]
  exact funext fun i => (congrArg (· * _) (EReal.coe_mul _ _).symm).trans (EReal.coe_mul _ _).symm
theorem pay19 (T : ℕ) (hT : T < 8) (E : Fin 32 → Fin 512 → ℝ) : k0_pay19 (F := Ideal) (BitVec.ofNat 32 T) (M16 E) = M (fun i j => E i j * (if T = 0 then 0 else 1)) := by
  unfold k0_pay19; dsimp only
  rw [first T hT, cast_self, cast_self]
  exact funext fun i => (EReal.coe_mul _ _).symm
theorem pay20 : k0_pay20 (F := Ideal) (M32 A) (M32 B) = M (B * A) := by unfold k0_pay20; dsimp only; rw [mulf_M]
theorem pay21 : k0_pay21 (F := Ideal) (M32 A) (M32 B) = M (B * A) := by unfold k0_pay21; dsimp only; rw [pay20, cast_self]
theorem pay22 : k0_pay22 (F := Ideal) (M16 A) = M A := by unfold k0_pay22; dsimp only; rw [pay16, cast_self]
theorem pay23 (D : Fin 512 → Fin 1024 → ℝ) (W : Fin 1024 → Fin 1024 → ℝ) : k0_pay23 (F := Ideal) (M16 D) (M16 W) = M (mt D W) := by
  unfold k0_pay23; dsimp only
  rw [show dot_S512x1024_S1024x1024_S512x1024_1_1_0_0_n_n = DotDims.transposedRhs 512 1024 1024 from rfl, const_M _ w_zero, prod_mt, zadd]

variable (hY : k0_pay23 (F := Ideal) a w = M32 (tile Y r 0))
include hY
theorem pay24 : k0_pay24 (F := Ideal) a w = M (tile Y r 0) := by unfold k0_pay24; dsimp only; rw [hY]; exact ess_tile _ _ _ _ _ _
theorem pay25 : k0_pay25 (F := Ideal) a (M32 A) (M32 B) (M32 C) (M32 (tile k 0 0)) w = M (tile Y r 0 * tap3 k A B C) := by
  unfold k0_pay25; dsimp only
  rw [pay24 hY]; simp only [ess_tile, bto_1M, mulf_M, addf_M]; rfl
theorem pay26 : k0_pay26 (F := Ideal) a (M32 G) w = M (tile Y r 0 * G) := by unfold k0_pay26; dsimp only; rw [pay24 hY, mulf_M]
theorem pay27 : k0_pay27 (F := Ideal) a (M32 G) w = M (tile Y r 0 * G) := by unfold k0_pay27; dsimp only; rw [pay26 _ hY, cast_self]
theorem pay28 : k0_pay28 (F := Ideal) a (M32 G) (M32 (tile k 0 0)) w (M32 B) (M32 C) = M (tap3 k (tile Y r 0 * G) B C) := by
  unfold k0_pay28; dsimp only
  rw [pay26 _ hY]; simp only [ess_tile, bto_1M, mulf_M, addf_M]; rfl
theorem pay29 : k0_pay29 (F := Ideal) a (M32 A) (M32 G) (M32 (tile k 0 0)) w (M32 B) (M32 C) = M (tap3 k (tile Y r 0 * G) B C * A) := by
  unfold k0_pay29; dsimp only; rw [pay28 _ _ _ _ hY, mulf_M]
theorem pay30 : k0_pay30 (F := Ideal) a (M32 G) (M32 A) (M32 (tile k 0 0)) w (M32 B) (M32 C) = M (tap3 k (tile Y r 0 * G) B C * A) := by
  unfold k0_pay30; dsimp only; rw [pay28 _ _ _ _ hY, mulf_M]
theorem pay31 (Z : Fin 1 → Fin 512 → ℝ) : k0_pay31 (F := Ideal) a (M32 G) (M32 A) w (M32 Z) = M (Z + cs (tile Y r 0 * G) A) := by
  unfold k0_pay31; dsimp only
  rw [pay26 _ hY, cast_self, mulf_M]; erw [red_C]; rw [cast_row, addf_M]; rfl
omit hY
theorem pay32 (Z : Fin 1 → Fin 512 → ℝ) : k0_pay32 (F := Ideal) (M32 A) (M32 B) (M32 Z) = M (Z + cs B A) := by
  unfold k0_pay32; dsimp only; rw [cast_self, mulf_M]; erw [red_C]; rw [cast_row, addf_M]; rfl
theorem pay33 (Z : Fin 1 → Fin 512 → ℝ) : k0_pay33 (F := Ideal) (M32 A) (M32 B) (M32 Z) = M (Z + cs B A) := by
  unfold k0_pay33; dsimp only; rw [cast_self, mulf_M]; erw [red_C]; rw [cast_row, addf_M]; rfl
theorem pay34 : k0_pay34 (F := Ideal) (M32 A) = M A := rfl
theorem pay35 : k0_pay35 (F := Ideal) (M32 A) = M A := rfl
theorem pay36 : k0_pay36 (F := Ideal) (M32 A) = M A := rfl
end conv

/-! ### The pooling groups -/

section pool
variable {Y : ℕ → ℕ → ℝ} {r c : ℕ} (A B C Q : Fin 512 → Fin 128 → ℝ) (v : Fin 512 → Fin 1 → ℝ) (W V : Fin 128 → Fin 128 → ℝ) (S Z : Fin 1 → Fin 128 → ℝ)

theorem dq_mm : dot_S512x128_S128x128_S512x128_1_0_0_1_n_n = DotDims.plain 512 128 128 := rfl
theorem dq_mt : dot_S512x128_S128x128_S512x128_1_1_0_0_n_n = DotDims.transposedRhs 512 128 128 := rfl
theorem dq_tm (p) : matmul (F := Ideal) dot_S512x128_S512x128_S128x128_0_0_1_1_n_n p (M16 A) (M16 B) (M32 V) = M (V + tm A B) := by
  funext j; obtain ⟨i, l, rfl⟩ := at2 j
  pointwise
  exact (congrArg ((V i l : EReal) + ·) (ereal_mul_sum _ _)).trans (EReal.coe_add _ _).symm

theorem pay38 (k : ℕ) : k0_pay38 (F := Ideal) (M32 (tile Y r k)) = M (tile Y r (k + 0)) := by unfold k0_pay38; dsimp only; exact ess_tile _ _ _ _ _ _
theorem pay63 (k : ℕ) : k0_pay63 (F := Ideal) (M32 (tile Y r k)) = M (tile Y r (k + 256)) := by unfold k0_pay63; dsimp only; exact ess_tile _ _ _ _ _ _
theorem pay80 (k : ℕ) : k0_pay80 (F := Ideal) (M32 (tile Y r k)) = M (tile Y r (k + 384)) := by unfold k0_pay80; dsimp only; exact ess_tile _ _ _ _ _ _
theorem pay44 (k : ℕ) : k0_pay44 (F := Ideal) (M32 (tile Y r k)) = M (tile Y r (k + 512)) := by unfold k0_pay44; dsimp only; exact ess_tile _ _ _ _ _ _
theorem pay55 (k : ℕ) : k0_pay55 (F := Ideal) (M32 (tile Y r k)) = M (tile Y r (k + 640)) := by unfold k0_pay55; dsimp only; exact ess_tile _ _ _ _ _ _
theorem pay71 (k : ℕ) : k0_pay71 (F := Ideal) (M32 (tile Y r k)) = M (tile Y r (k + 768)) := by unfold k0_pay71; dsimp only; exact ess_tile _ _ _ _ _ _
theorem pay88 (k : ℕ) : k0_pay88 (F := Ideal) (M32 (tile Y r k)) = M (tile Y r (k + 896)) := by unfold k0_pay88; dsimp only; exact ess_tile _ _ _ _ _ _
theorem pay43 : k0_pay43 (F := Ideal) (L1 W) = M W := by unfold k0_pay43; dsimp only; rw [cast_down]; rfl
theorem pay54 : k0_pay54 (F := Ideal) (L1 W) = M W := by unfold k0_pay54; dsimp only; rw [cast_down]; rfl
theorem pay70 : k0_pay70 (F := Ideal) (L1 W) = M W := by unfold k0_pay70; dsimp only; rw [cast_down]; rfl
theorem pay87 : k0_pay87 (F := Ideal) (L1 W) = M W := by unfold k0_pay87; dsimp only; rw [cast_down]; rfl

theorem pay39 : k0_pay39 (F := Ideal) (M32 A) (M32 B) = M (A + B) := by unfold k0_pay39; dsimp only; rw [addf_M]
theorem pay84 : k0_pay84 (F := Ideal) (L1 A) (L1 B) = M (A + B) := by unfold k0_pay84; dsimp only; rw [cast_down, cast_down, addf_M]
theorem pay66 : k0_pay66 (F := Ideal) (L1 A) = M A := by unfold k0_pay66; dsimp only; rw [cast_down]
theorem pay67 : k0_pay67 (F := Ideal) (L1 A) = M A := by unfold k0_pay67; dsimp only; rw [cast_down]
theorem pay42 {n : FVec Ideal S512x1 .f32} (h : k0_pay41 n = M v) : k0_pay42 (F := Ideal) (M32 C) (M32 A) n = M (pl A C v) := by
  unfold k0_pay42; dsimp only; rw [h, bto_M1, mulf_M, subf_M]; rfl
theorem pay53 {n : IVec S512x1 32} (h : k0_pay52 (F := Ideal) n = M v) : k0_pay53 (F := Ideal) (M32 (tile Y r c)) n (L1 A) (L1 B) = M (pl (A + B) (tile Y r (c + 128)) v) := by
  unfold k0_pay53; dsimp only; rw [h, ess_tile, cast_down, cast_down, addf_M, bto_M1, mulf_M, subf_M]; rfl
theorem pay69 {n : IVec S512x1 32} (h : k0_pay68 (F := Ideal) n = M v) : k0_pay69 (F := Ideal) n (M32 C) (M32 A) (M32 B) = M (pl (A + B) C v) := by
  unfold k0_pay69; dsimp only; rw [h, addf_M, bto_M1, mulf_M, subf_M]; rfl
theorem pay86 {n : IVec S512x1 32} {o : BitVec 32} (h : k0_pay85 (F := Ideal) n o = M v) : k0_pay86 (F := Ideal) n (M32 C) (M32 A) o = M (pl A C v) := by
  unfold k0_pay86; dsimp only; rw [h, bto_M1, mulf_M, subf_M]; rfl

theorem pay46 : k0_pay46 (F := Ideal) (M32 (tile Y r 0)) (M32 S) = M (scr (tile Y r 512) S) := by
  unfold k0_pay46; dsimp only; rw [pay44, bto_1M, mulf_M]; rfl
theorem pay57 : k0_pay57 (F := Ideal) (M32 Q) (M32 S) = M (scr Q S) := by unfold k0_pay57; dsimp only; rw [bto_1M, mulf_M]; rfl
theorem pay73 : k0_pay73 (F := Ideal) (M32 (tile Y r 0)) (M32 S) = M (scr (tile Y r 768) S) := by
  unfold k0_pay73; dsimp only; rw [pay71, bto_1M, mulf_M]; rfl
theorem pay90 : k0_pay90 (F := Ideal) (M32 (tile Y r 0)) (M32 S) = M (scr (tile Y r 896) S) := by
  unfold k0_pay90; dsimp only; rw [pay88, bto_1M, mulf_M]; rfl

theorem pay48 : k0_pay48 (F := Ideal) (M32 (tile Y r 0)) (L1 W) (M32 S) = M (mt (scr (tile Y r 512) S) W) := by
  unfold k0_pay48; dsimp only; rw [pay46, pay43, dq_mt, const_M _ w_zero, prod_mt, zadd]
theorem pay59 : k0_pay59 (F := Ideal) (M16 W) (M32 Q) (M32 S) = M (mt (scr Q S) W) := by
  unfold k0_pay59; dsimp only; rw [pay57, dq_mt, const_M _ w_zero, prod_mt, zadd]
theorem pay75 : k0_pay75 (F := Ideal) (M32 (tile Y r 0)) (L1 W) (M32 S) = M (mt (scr (tile Y r 768) S) W) := by
  unfold k0_pay75; dsimp only; rw [pay73, pay70, dq_mt, const_M _ w_zero, prod_mt, zadd]
theorem pay92 : k0_pay92 (F := Ideal) (M32 (tile Y r 0)) (L1 W) (M32 S) = M (mt (scr (tile Y r 896) S) W) := by
  unfold k0_pay92; dsimp only; rw [pay90, pay87, dq_mt, const_M _ w_zero, prod_mt, zadd]
theorem pay49 {n : FVec Ideal S512x1 .f32} (h : k0_pay41 n = M v) : k0_pay49 (F := Ideal) (M32 (tile Y r 0)) n (L1 W) (M32 S) = M (scl (mt (scr (tile Y r 512) S) W) v) := by
  unfold k0_pay49; dsimp only; rw [h, pay48, bto_M1, mulf_M, cast_self]; rfl
theorem pay60 : k0_pay60 (F := Ideal) (M32 v) (M16 W) (M32 Q) (M32 S) = M (scl (mt (scr Q S) W) v) := by
  unfold k0_pay60; dsimp only; rw [pay59, bto_M1, mulf_M, cast_self]; rfl
theorem pay76 : k0_pay76 (F := Ideal) (M32 v) (M32 Q) = M (scl Q v) := by unfold k0_pay76; dsimp only; rw [bto_M1, mulf_M, cast_self]; rfl
theorem pay93 {n : IVec S512x1 32} {o : BitVec 32} (h : k0_pay85 (F := Ideal) n o = M v) : k0_pay93 (F := Ideal) (M32 (tile Y r 0)) n o (L1 W) (M32 S) = M (scl (mt (scr (tile Y r 896) S) W) v) := by
  unfold k0_pay93; dsimp only; rw [h, pay92, bto_M1, mulf_M]; rfl
theorem pay94 : k0_pay94 (F := Ideal) (M32 Q) = M Q := by unfold k0_pay94; dsimp only; rw [cast_self]

/-- What the scale's gradient adds: the product of the pooled rows and the weight, times the incoming gradient. -/
theorem addS (Z : Fin 1 → Fin 128 → ℝ) (h1 h2 h3 h4 h5) : addf (F := Ideal) (shapeCast S1x128 (M32 Z) h1) (shapeCast S1x128 (multiReduction .add [0] S128 (mulf (matmul (F := Ideal) dot_S512x128_S128x128_S512x128_1_0_0_1_n_n none (M16 A) (M16 W) (constant S512x128 .f32 0x00000000#32)) (M32 Q)) 0x00000000#32 h2 h3 h4) h5) = M (Z + cs (mm A W) Q) := by
  rw [dq_mm, const_M _ w_zero, prod_mm, zadd, cast_self, mulf_M]; erw [red_C]; rw [cast_row, addf_M]; rfl
theorem pay45 {n : FVec Ideal S512x1 .f32} (h : k0_pay41 n = M v) : k0_pay45 (F := Ideal) (M32 (tile Y r 0)) (M32 C) (M32 A) n (L1 W) (M32 Z) = M (Z + cs (mm (pl A C v) W) (tile Y r 512)) := by
  unfold k0_pay45; dsimp only; rw [pay42 _ _ _ h, pay43, pay44]; exact addS _ _ _ _ _ _ _ _ _
theorem pay56 : k0_pay56 (F := Ideal) (M16 A) (M16 W) (M32 Q) (M32 Z) = M (Z + cs (mm A W) Q) := by unfold k0_pay56; dsimp only; exact addS _ _ _ _ _ _ _ _ _
theorem pay72 {n : IVec S512x1 32} (h : k0_pay68 (F := Ideal) n = M v) : k0_pay72 (F := Ideal) (M32 (tile Y r 0)) n (M32 C) (M32 A) (M32 B) (L1 W) (M32 Z) = M (Z + cs (mm (pl (A + B) C v) W) (tile Y r 768)) := by
  unfold k0_pay72; dsimp only; rw [pay69 _ _ _ _ h, pay70, pay71]; exact addS _ _ _ _ _ _ _ _ _
theorem pay89 {n : IVec S512x1 32} {o : BitVec 32} (h : k0_pay85 (F := Ideal) n o = M v) : k0_pay89 (F := Ideal) (M32 (tile Y r 0)) n (M32 C) (M32 A) o (L1 W) (M32 Z) = M (Z + cs (mm (pl A C v) W) (tile Y r 896)) := by
  unfold k0_pay89; dsimp only; rw [pay86 _ _ _ h, pay87, pay88]; exact addS _ _ _ _ _ _ _ _ _

/-- What the weight's gradient adds: the transposed pooled rows times the scaled incoming gradient. -/
theorem addW (h1 h2) : shapeCast S1x128x128 (addf (F := Ideal) (shapeCast S128x128 (L1 V) h1) (matmul (F := Ideal) dot_S512x128_S512x128_S128x128_0_0_1_1_n_n none (M16 A) (M16 B) (constant S128x128 .f32 0x00000000#32))) h2 = L1 (V + tm A B) := by
  rw [const_M _ w_zero, dq_tm, zadd, cast_down, addf_M, cast_up]
theorem pay47 {n : FVec Ideal S512x1 .f32} (h : k0_pay41 n = M v) : k0_pay47 (F := Ideal) (M32 (tile Y r 0)) (M32 C) (M32 A) n (M32 S) (L1 V) = L1 (V + tm (pl A C v) (scr (tile Y r 512) S)) := by
  unfold k0_pay47; dsimp only; rw [pay42 _ _ _ h, pay46]; exact addW _ _ _ _ _
theorem pay58 : k0_pay58 (F := Ideal) (M16 A) (M32 Q) (M32 S) (L1 V) = L1 (V + tm A (scr Q S)) := by unfold k0_pay58; dsimp only; rw [pay57]; exact addW _ _ _ _ _
theorem pay74 {n : IVec S512x1 32} (h : k0_pay68 (F := Ideal) n = M v) : k0_pay74 (F := Ideal) (M32 (tile Y r 0)) n (M32 C) (M32 A) (M32 B) (M32 S) (L1 V) = L1 (V + tm (pl (A + B) C v) (scr (tile Y r 768) S)) := by
  unfold k0_pay74; dsimp only; rw [pay69 _ _ _ _ h, pay73]; exact addW _ _ _ _ _
theorem pay91 {n : IVec S512x1 32} {o : BitVec 32} (h : k0_pay85 (F := Ideal) n o = M v) : k0_pay91 (F := Ideal) (M32 (tile Y r 0)) n (M32 C) (M32 A) o (M32 S) (L1 V) = L1 (V + tm (pl A C v) (scr (tile Y r 896) S)) := by
  unfold k0_pay91; dsimp only; rw [pay86 _ _ _ h, pay90]; exact addW _ _ _ _ _

theorem pay50 : k0_pay50 (F := Ideal) (M32 Q) (M32 A) (M32 B) = M (A + B - Q) := by unfold k0_pay50; dsimp only; rw [addf_M, subf_M, truncf_M]
theorem pay62 : k0_pay62 (F := Ideal) (M32 Q) (L1 A) (L1 B) = M (A + B - Q) := by unfold k0_pay62; dsimp only; rw [cast_down, cast_down, addf_M, subf_M, truncf_M]
theorem pay79 : k0_pay79 (F := Ideal) (M32 Q) (L1 A) (L1 B) = M (A + B - Q) := by unfold k0_pay79; dsimp only; rw [cast_down, cast_down, addf_M, subf_M, truncf_M]
theorem pay98 : k0_pay98 (F := Ideal) (M32 Q) (L1 A) (L1 B) = M (A + B - Q) := by unfold k0_pay98; dsimp only; rw [cast_down, cast_down, addf_M, subf_M, truncf_M]
end pool

section level
variable (A B : Fin 536 → Fin 128 → ℝ) (C D : Fin 528 → Fin 128 → ℝ) (G H : Fin 520 → Fin 128 → ℝ)

theorem pay51 : k0_pay51 (F := Ideal) (M32 A) (M32 B) = L1 (A + B) := by unfold k0_pay51; dsimp only; rw [addf_M, cast_up]
theorem pay61 : k0_pay61 (F := Ideal) (M32 A) (M32 B) = L1 (A + B) := by unfold k0_pay61; dsimp only; rw [addf_M, cast_up]
theorem pay64 : k0_pay64 (F := Ideal) (M32 A) (M32 B) = L1 (A + B) := by unfold k0_pay64; dsimp only; rw [addf_M, cast_up]
theorem pay77 : k0_pay77 (F := Ideal) (M32 A) (M32 B) = L1 (A + B) := by unfold k0_pay77; dsimp only; rw [addf_M, cast_up]
theorem pay81 : k0_pay81 (F := Ideal) (M32 A) (M32 B) = L1 (A + B) := by unfold k0_pay81; dsimp only; rw [addf_M, cast_up]
theorem pay95 : k0_pay95 (F := Ideal) (M32 A) (M32 B) = L1 (A + B) := by unfold k0_pay95; dsimp only; rw [addf_M, cast_up]
theorem pay65 : k0_pay65 (F := Ideal) (L1 C) (L1 D) = L1 (C + D) := by unfold k0_pay65; dsimp only; rw [cast_down, cast_down, addf_M, cast_up]
theorem pay78 : k0_pay78 (F := Ideal) (L1 C) (L1 D) = L1 (C + D) := by unfold k0_pay78; dsimp only; rw [cast_down, cast_down, addf_M, cast_up]
theorem pay82 : k0_pay82 (F := Ideal) (L1 C) (L1 D) = L1 (C + D) := by unfold k0_pay82; dsimp only; rw [cast_down, cast_down, addf_M, cast_up]
theorem pay96 : k0_pay96 (F := Ideal) (L1 C) (L1 D) = L1 (C + D) := by unfold k0_pay96; dsimp only; rw [cast_down, cast_down, addf_M, cast_up]
theorem pay83 : k0_pay83 (F := Ideal) (L1 G) (L1 H) = L1 (G + H) := by unfold k0_pay83; dsimp only; rw [cast_down, cast_down, addf_M, cast_up]
theorem pay97 : k0_pay97 (F := Ideal) (L1 G) (L1 H) = L1 (G + H) := by unfold k0_pay97; dsimp only; rw [cast_down, cast_down, addf_M, cast_up]
end level

theorem pay1 (A : Fin 8 → Fin 512 → ℝ) : k0_pay1 (F := Ideal) (M32 A) = M A := by unfold k0_pay1; dsimp only; rw [cast_self]
theorem pay2 (A : Fin 32 → Fin 512 → ℝ) : k0_pay2 (F := Ideal) (M32 A) = M A := by unfold k0_pay2; dsimp only; rw [cast_self]
theorem pay3 : k0_pay3 (F := Ideal) = M fun _ _ => 0 := by unfold k0_pay3; dsimp only; rw [splat_M _ w_zero, cast_self]
theorem pay4 : k0_pay4 (F := Ideal) = M fun _ _ => 0 := by unfold k0_pay4; dsimp only; rw [splat_M _ w_zero, cast_self]
theorem pay5 : k0_pay5 (F := Ideal) = M fun _ _ => 0 := splat_M _ w_zero
theorem pay6 : k0_pay6 (F := Ideal) = M fun _ _ => 0 := splat_M _ w_zero
theorem pay7 : k0_pay7 (F := Ideal) = M fun _ _ => 0 := splat_M _ w_zero
theorem pay8 : k0_pay8 (F := Ideal) = T3 fun _ _ _ => 0 := funext fun _ => w_zero

end Step.Mix
-- ==== Proof.MixHost.lean ====
module

public import proofs.«01_k».proof.Proof.MixPay
public import proofs.«01_k».proof.Proof.FfnIn
public import proofs.«01_k».proof.Proof.Gen.MixRIdeal.Run

@[expose] public section

set_option maxRecDepth 16384

noncomputable section

namespace Step.Mix

open Idealize Idealize.ShloMosaic Finset

variable {m n p q : Nat} {φ : FTy}

theorem M_eq {A : Fin m → Fin n → ℝ} {B : Fin p → Fin q → ℝ} {x : (⟨2, ![m, n]⟩ : Shape).Idx} {y : (⟨2, ![p, q]⟩ : Shape).Idx}
    (h : A (x 0) (x 1) = B (y 0) (y 1)) : M (φ := φ) A x = M (φ := φ) B y := congrArg Real.toEReal h

/-! ## Cutting, padding and joining arrays -/

theorem cut (A : ℕ → ℕ → ℝ) (r l a b : ℕ) (h : (⟨2, ![m, n]⟩ : Shape).Slices ![a, b] ⟨2, ![p, q]⟩) :
    extractStridedSlice ⟨2, ![p, q]⟩ ![a, b] (M (φ := φ) (tile A r l : Fin m → Fin n → ℝ)) h = M (φ := φ) (tile A (r + a) (l + b)) := funext fun j =>
  M_eq (φ := φ) (show A (a + (j 0).val + r) (b + (j 1).val + l) = A ((j 0).val + (r + a)) ((j 1).val + (l + b)) by
    rw [show a + (j 0).val + r = (j 0).val + (r + a) by omega, show b + (j 1).val + l = (j 1).val + (l + b) by omega])

/-- An array with rows and columns of zeros put around it. -/
theorem pad_M (A : Fin m → Fin n → ℝ) (B : Fin p → Fin q → ℝ) (lo hi : Fin 2 → Nat) (h : (⟨2, ![m, n]⟩ : Shape).Pads lo hi ![0, 0] ⟨2, ![p, q]⟩) (hu)
    (hin : ∀ (r : Fin p) (c : Fin q) (r' : Fin m) (c' : Fin n), r.val = lo 0 + r'.val → c.val = lo 1 + c'.val → B r c = A r' c')
    (hout : ∀ (r : Fin p) (c : Fin q), r.val < lo 0 ∨ lo 0 + m ≤ r.val ∨ c.val < lo 1 ∨ lo 1 + n ≤ c.val → B r c = 0) :
    pad ⟨2, ![p, q]⟩ lo hi ![0, 0] (M (φ := φ) A) (K (φ := φ) 0) h hu = M (φ := φ) B := by
  funext j; obtain ⟨r, c, rfl⟩ := at2 j
  by_cases hr : lo 0 ≤ r.val ∧ r.val - lo 0 < m
  · by_cases hc : lo 1 ≤ c.val ∧ c.val - lo 1 < n
    · refine (pad_apply_of_inside lo hi ![0, 0] _ _ h hu _ (ix2 ⟨r.val - lo 0, hr.2⟩ ⟨c.val - lo 1, hc.2⟩) (Fin.forall_fin_two.mpr ⟨?_, ?_⟩)).trans
        (congrArg Real.toEReal (hin r c _ _ (Nat.add_sub_of_le hr.1).symm (Nat.add_sub_of_le hc.1).symm).symm)
      · show r.val = lo 0 + (r.val - lo 0) * 1
        omega
      · show c.val = lo 1 + (c.val - lo 1) * 1
        omega
    · refine (pad_apply_of_not_inside (s := ⟨2, ![m, n]⟩) (t := ⟨2, ![p, q]⟩) lo hi ![0, 0] _ (K (φ := φ) 0) h hu (ix2 r c) 1 fun e => hc ⟨e.1, ?_⟩).trans (congrArg Real.toEReal (hout r c (by omega)).symm)
      have e' : (c.val - lo 1) / 1 < n := e.2.2
      rwa [Nat.div_one] at e'
  · refine (pad_apply_of_not_inside (s := ⟨2, ![m, n]⟩) (t := ⟨2, ![p, q]⟩) lo hi ![0, 0] _ (K (φ := φ) 0) h hu (ix2 r c) 0 fun e => hr ⟨e.1, ?_⟩).trans (congrArg Real.toEReal (hout r c (by omega)).symm)
    have e' : (r.val - lo 0) / 1 < m := e.2.2
    rwa [Nat.div_one] at e'

/-- Rows of zeros put before an array that is cut from a longer one, which is zero there. -/
theorem before (A : ℕ → ℕ → ℝ) (r l : ℕ) (h : Shape.Concatenates [⟨2, ![m, n]⟩, ⟨2, ![p, n]⟩] ⟨2, ![q, n]⟩ 0) (hz : ∀ i j, i < m → A (i + r) j = 0) :
    concatenate ⟨2, ![q, n]⟩ 0 [⟨⟨2, ![m, n]⟩, M (φ := φ) fun _ _ => 0⟩, ⟨⟨2, ![p, n]⟩, M (φ := φ) (tile A (r + m) l)⟩] h = M (φ := φ) (tile A r l) := by
  have hq : m + p = q := by have := h.2.2; simpa using this
  funext j; obtain ⟨i, c, rfl⟩ := at2 j
  by_cases hi : i.val < m
  · refine (concatenate_pair_apply_left (t := ⟨2, ![q, n]⟩) (s₁ := ⟨2, ![m, n]⟩) (s₂ := ⟨2, ![p, n]⟩) (0 : Fin 2) _ _ h _ rfl (ix2 ⟨i.val, hi⟩ c) (Fin.forall_fin_two.mpr ⟨rfl, rfl⟩)).trans ?_
    exact congrArg Real.toEReal (hz _ _ hi).symm
  · have hp : i.val - m < p := by have := i.isLt; omega
    refine (concatenate_pair_apply_right (t := ⟨2, ![q, n]⟩) (s₁ := ⟨2, ![m, n]⟩) (s₂ := ⟨2, ![p, n]⟩) (0 : Fin 2) _ _ h (ix2 i c) rfl rfl (ix2 ⟨i.val - m, hp⟩ c)
      (Fin.forall_fin_two.mpr ⟨fun e => absurd rfl e, fun _ => rfl⟩) (by show i.val - m + m = i.val; omega)).trans ?_
    refine congrArg Real.toEReal ?_
    show A (i.val - m + (r + m)) (c.val + l) = A (i.val + r) (c.val + l)
    rw [show i.val - m + (r + m) = i.val + r by omega]

/-! ## Rows in four groups of 128 -/

/-- A family of four row-indexed arrays, from row 32 on, group by group within each row. -/
def G3 (X : ℕ → ℕ → ℕ → ℝ) : FVec Ideal ⟨3, ![4096, 4, 128]⟩ .f32 := T3 fun r s c => X s.val (r.val + 32) c.val

theorem G3_congr {X Y : ℕ → ℕ → ℕ → ℝ} (h : ∀ s r c, s < 4 → r < 4096 → c < 128 → X s (r + 32) c = Y s (r + 32) c) : G3 X = G3 Y := funext fun j =>
  congrArg Real.toEReal (h _ _ _ (j 1).isLt (j 0).isLt (j 2).isLt)
theorem at3 {a b c : ℕ} (j : (⟨3, ![a, b, c]⟩ : Shape).Idx) : ∃ x y z, j = ix3 x y z := ⟨_, _, _, eq_ix3 j⟩

theorem cast_G3 {A : ℕ → ℕ → ℝ} {X : ℕ → ℕ → ℕ → ℝ} (hX : ∀ s r c, s < 4 → c < 128 → X s r c = A r (c + 128 * s)) (h) :
    shapeCast ⟨3, ![4096, 4, 128]⟩ (M32 (tile A 32 0 : Fin 4096 → Fin 512 → ℝ)) h = G3 X := by
  funext j; obtain ⟨r, s, c, rfl⟩ := at3 j
  refine (shapeCast_apply _ h _ (ix2 r ⟨c.val + 128 * s.val, by omega⟩) ?_).trans (congrArg Real.toEReal (hX s.val (r.val + 32) c.val s.isLt c.isLt).symm)
  rw [Shape.rowMajor_val_two, Shape.rowMajor_val_three]
  show r.val * 512 + (c.val + 128 * s.val) = (r.val * 4 + s.val) * 128 + c.val
  omega

theorem uncast_G3 {A : ℕ → ℕ → ℝ} {X : ℕ → ℕ → ℕ → ℝ} (hX : ∀ r c, c < 512 → A r c = X (c / 128) r (c % 128)) (h) :
    shapeCast ⟨2, ![4096, 512]⟩ (G3 X) h = M32 (tile A 32 0) := by
  funext j; obtain ⟨r, c, rfl⟩ := at2 j
  refine (shapeCast_apply _ h _ (ix3 r ⟨c.val / 128, by omega⟩ ⟨c.val % 128, by omega⟩) ?_).trans (congrArg Real.toEReal (hX (r.val + 32) c.val c.isLt).symm)
  rw [Shape.rowMajor_val_two, Shape.rowMajor_val_three]
  show (r.val * 4 + c.val / 128) * 128 + c.val % 128 = r.val * 512 + c.val
  omega

/-- One group, taken out. -/
theorem group (X : ℕ → ℕ → ℕ → ℝ) (s : ℕ) (hs : (⟨3, ![4096, 4, 128]⟩ : Shape).Slices ![0, s, 0] ⟨3, ![4096, 1, 128]⟩) (h) :
    shapeCast ⟨2, ![4096, 128]⟩ (extractStridedSlice ⟨3, ![4096, 1, 128]⟩ ![0, s, 0] (G3 X) hs) h = M32 (tile (X s) 32 0) := by
  funext j; obtain ⟨r, c, rfl⟩ := at2 j
  refine (shapeCast_apply _ h _ (ix3 r (0 : Fin 1) c) ?_).trans (congrArg Real.toEReal (?_ : X (s + 0) (0 + r.val + 32) (0 + c.val) = X s (r.val + 32) c.val))
  · rw [Shape.rowMajor_val_two, Shape.rowMajor_val_three]
    show (r.val * 1 + 0) * 128 + c.val = r.val * 128 + c.val
    omega
  · rw [Nat.zero_add, Nat.zero_add, Nat.add_zero]

/-- One group as an array of its own. -/
theorem single (A : ℕ → ℕ → ℝ) (h : (⟨2, ![4096, 128]⟩ : Shape).BroadcastsInDim ⟨3, ![4096, 1, 128]⟩ ![0, 2]) :
    broadcastInDim ⟨3, ![4096, 1, 128]⟩ ![0, 2] h (M32 (tile A 32 0)) = T3 fun (r : Fin 4096) (_ : Fin 1) (c : Fin 128) => A (r.val + 32) c.val := by
  funext j; obtain ⟨r, s, c, rfl⟩ := at3 j
  pointwise
  rfl

/-- One group put in its place among four, the others zero. -/
theorem place (A : ℕ → ℕ → ℝ) (s e : ℕ) (h : (⟨3, ![4096, 1, 128]⟩ : Shape).Pads ![0, s, 0] ![0, e, 0] ![0, 0, 0] ⟨3, ![4096, 4, 128]⟩) (hu) :
    pad ⟨3, ![4096, 4, 128]⟩ ![0, s, 0] ![0, e, 0] ![0, 0, 0] (T3 fun (r : Fin 4096) (_ : Fin 1) (c : Fin 128) => A (r.val + 32) c.val) (K (φ := .f32) 0) h hu
      = G3 fun s' r c => if s' = s then A r c else 0 := by
  funext j; obtain ⟨r, s', c, rfl⟩ := at3 j
  by_cases hs : s'.val = s
  · refine (pad_apply_of_inside _ _ _ _ _ h hu _ (ix3 r (0 : Fin 1) c) fun a => ?_).trans (congrArg Real.toEReal (if_pos hs).symm)
    match a with
    | ⟨0, _⟩ => show r.val = 0 + r.val * 1; omega
    | ⟨1, _⟩ => show s'.val = s + 0 * 1; omega
    | ⟨2, _⟩ => show c.val = 0 + c.val * 1; omega
  · refine (pad_apply_of_not_inside _ _ _ _ _ h hu _ 1 fun x => hs ?_).trans (congrArg Real.toEReal (if_neg hs).symm)
    have h0 : s ≤ s'.val := x.1
    have h1 : (s'.val - s) / 1 < 1 := x.2.2
    omega

/-- Four groups joined. -/
theorem join (X : ℕ → ℕ → ℕ → ℝ) (h) :
    concatenate (α := EReal) ⟨3, ![4096, 4, 128]⟩ 1 (List.ofFn fun s : Fin 4 => (⟨⟨3, ![4096, 1, 128]⟩, T3 fun (r : Fin 4096) (_ : Fin 1) (c : Fin 128) => X s.val (r.val + 32) c.val⟩ : (s : Shape) × (s.Idx → EReal))) h = G3 X := by
  funext j; obtain ⟨r, s, c, rfl⟩ := at3 j
  refine (concatenate_ofFn_unit_apply (t := ⟨3, ![4096, 4, 128]⟩) (s₁ := ⟨3, ![4096, 1, 128]⟩) (1 : Fin 3) _ h rfl rfl _ s rfl (ix3 r (0 : Fin 1) c) fun a ha => ?_).trans rfl
  match a with
  | ⟨0, _⟩ => rfl
  | ⟨1, _⟩ => exact absurd rfl ha
  | ⟨2, _⟩ => rfl

theorem addf_G3 (X Y : ℕ → ℕ → ℕ → ℝ) : addf (G3 X) (G3 Y) = G3 (X + Y) := funext fun _ => (EReal.coe_add _ _).symm

/-! ## Running sums along the rows -/

theorem foldl_sum {ι : Type} (l : List ι) (f : ι → EReal) (v : EReal) : l.foldl (fun r i => r + f i) v = v + (l.map f).sum := by
  induction l generalizing v with
  | nil => simp
  | cons a l ih => rw [List.foldl_cons, ih, List.map_cons, List.sum_cons, add_assoc]

/-- Sums over `N` rows that start `L` rows higher, the rows that are not there counting as zeros. -/
theorem running (N : ℕ) (hN : N = 4096) (X : ℕ → ℕ → ℕ → ℝ) (L H : ℕ) (hl : L ≠ 0 → ∀ s r c, r < 32 → X s r c = 0) (hh : ∀ s r c, 4128 ≤ r → X s r c = 0)
    (h : (⟨3, ![4096, 4, 128]⟩ : Shape).ReduceWindows ![N, 1, 1] ![1, 1, 1] ![L, 0, 0] ![H, 0, 0] ⟨3, ![4096, 4, 128]⟩) (hu) :
    Host.reduceWindowAdd ![N, 1, 1] ![1, 1, 1] ![L, 0, 0] ![H, 0, 0] (G3 X) (K (φ := .f32) 0) h hu = G3 fun s r c => ∑ k ∈ range N, X s (r + k - L) c := by
  funext j; obtain ⟨r, s, c, rfl⟩ := at3 j
  show Host.reduceWindow (s := ⟨3, ![4096, 4, 128]⟩) (α := EReal) (· + ·) ![N, 1, 1] ![1, 1, 1] ![L, 0, 0] ![H, 0, 0] (G3 X) (fun _ : (⟨0, ![]⟩ : Shape).Idx => ((0 : ℝ) : EReal)) h (by decide) (ix3 r s c) = _
  unfold Host.reduceWindow
  dsimp only
  rw [foldl_sum, EReal.coe_zero, zero_add, ← List.ofFn_eq_map, List.sum_ofFn]
  rw [← Equiv.sum_comp (⟨3, ![N, 1, 1]⟩ : Shape).rowMajor, sum_idx3]
  show _ = ((∑ k ∈ range N, X s.val (r.val + 32 + k - L) c.val : ℝ) : EReal)
  rw [← Fin.sum_univ_eq_sum_range (fun k => X s.val (r.val + 32 + k - L) c.val), ← coe_sum]
  refine Finset.sum_congr rfl fun k _ => ?_
  rw [Fin.sum_univ_one, Fin.sum_univ_one]
  simp only [Equiv.symm_apply_apply]
  have hr := r.isLt
  have hk := k.isLt
  by_cases hin : L ≤ r.val + k.val ∧ r.val + k.val - L < 4096
  · rw [dif_pos (fun a => ?_)]
    · refine congrArg Real.toEReal ?_
      show X (s.val * 1 + 0 - 0) (r.val * 1 + k.val - L + 32) (c.val * 1 + 0 - 0) = X s.val (r.val + 32 + k.val - L) c.val
      rw [Nat.mul_one, Nat.mul_one, Nat.mul_one, show r.val + k.val - L + 32 = r.val + 32 + k.val - L by omega]
      rfl
    · match a with
      | ⟨0, _⟩ => show L ≤ r.val * 1 + k.val ∧ r.val * 1 + k.val - L < 4096; omega
      | ⟨1, _⟩ => show 0 ≤ s.val * 1 + 0 ∧ s.val * 1 + 0 - 0 < 4; omega
      | ⟨2, _⟩ => show 0 ≤ c.val * 1 + 0 ∧ c.val * 1 + 0 - 0 < 128; omega
  · rw [dif_neg fun e => hin (by have h0 : L ≤ r.val * 1 + k.val ∧ r.val * 1 + k.val - L < 4096 := e 0; omega)]
    by_cases hL : L ≤ r.val + k.val
    · rw [hh _ _ _ (by omega)]; rfl
    · rw [hl (by omega) _ _ _ (by omega)]; rfl

/-- The difference of two sums that start `w` entries apart, when the entries past the end of the one are zero. -/
theorem apart (N : ℕ) (f : ℕ → ℝ) (w : ℕ) (hw : w ≤ N) (h : ∀ k, N ≤ k → f k = 0) : ∑ k ∈ range N, f k - ∑ k ∈ range N, f (w + k) = ∑ k ∈ range w, f k := by
  obtain ⟨d, rfl⟩ := Nat.exists_eq_add_of_le hw
  rw [sum_range_add, Nat.add_comm w d, sum_range_add, sum_eq_zero (s := range w) (f := fun k => f (w + (d + k))) fun k _ => h _ (by omega)]
  ring
theorem ts_sum (A : ℕ → ℕ → ℝ) (k r c : ℕ) : ts A k r c = ∑ i ∈ range (2 ^ k), A (r - i) c := by
  induction k generalizing r with
  | zero => simp [ts]
  | succ k ih =>
    rw [pow_succ, Nat.mul_two, sum_range_add]
    show ts A k r c + ts A k (r - 2 ^ k) c = _
    rw [ih, ih]
    simp only [Nat.sub_sub]
theorem fs_sum (A : ℕ → ℕ → ℝ) (k r c : ℕ) : fs A k r c = ∑ i ∈ range (2 ^ k), A (r + i) c := by
  induction k generalizing r with
  | zero => simp [fs]
  | succ k ih =>
    rw [pow_succ, Nat.mul_two, sum_range_add]
    show fs A k r c + fs A k (r + 2 ^ k) c = _
    rw [ih, ih]
    simp only [Nat.add_assoc]

/-- A sum over all the rows so far, less the same `2 ^ k` rows earlier, is the sum of the last `2 ^ k` rows. -/
theorem ts_run (A : ℕ → ℕ → ℝ) (h : ∀ r c, r < 32 → A r c = 0) (k r c : ℕ) (hk : 2 ^ k ≤ 4096) (hr : r < 4128) :
    ∑ i ∈ range 4096, A (r + i - 4095) c - ∑ i ∈ range 4096, A (r - 2 ^ k + i - 4095) c = ts A k r c := by
  have e : ∀ r, r < 4128 → ∑ i ∈ range 4096, A (r + i - 4095) c = ∑ i ∈ range 4096, A (r - i) c := fun r _ => by
    rw [← sum_range_reflect]
    refine sum_congr rfl fun i hi => ?_
    rw [show r + (4096 - 1 - i) - 4095 = r - i by have := mem_range.mp hi; omega]
  rw [e r hr, e _ ((Nat.sub_le _ _).trans_lt hr), ts_sum, ← apart 4096 (fun i => A (r - i) c) (2 ^ k) hk fun i hi => h _ _ (by omega)]
  simp only [Nat.sub_sub]
/-- A sum over all the rows to come of the differences of rows `2 ^ k` apart is the sum of the next `2 ^ k` rows. -/
theorem fs_run (A : ℕ → ℕ → ℝ) (h : ∀ r c, 4128 ≤ r → A r c = 0) (k r c : ℕ) (hk : 2 ^ k ≤ 4096) (hr : 32 ≤ r) :
    ∑ i ∈ range 4096, (A (r + i) c - A (r + i + 2 ^ k) c) = fs A k r c := by
  rw [sum_sub_distrib, fs_sum, ← apart 4096 (fun i => A (r + i) c) (2 ^ k) hk fun i hi => h _ _ (by omega)]
  refine congrArg₂ _ rfl (sum_congr rfl fun i _ => ?_)
  rw [show r + i + 2 ^ k = r + (2 ^ k + i) by omega]

/-! ## Products group by group -/

theorem tr201 {a b c : ℕ} (A : Fin a → Fin b → Fin c → ℝ) (h : (⟨3, ![a, b, c]⟩ : Shape).Transposes [2, 0, 1] ⟨3, ![c, a, b]⟩) :
    transpose ⟨3, ![c, a, b]⟩ [2, 0, 1] (T3 A) h = T3 fun z x y => A x y z := by
  funext j; obtain ⟨x, y, z, rfl⟩ := at3 j; pointwise; rfl
theorem tr120 {a b c : ℕ} (A : Fin a → Fin b → Fin c → ℝ) (h : (⟨3, ![a, b, c]⟩ : Shape).Transposes [1, 2, 0] ⟨3, ![b, c, a]⟩) :
    transpose ⟨3, ![b, c, a]⟩ [1, 2, 0] (T3 A) h = T3 fun y z x => A x y z := by
  funext j; obtain ⟨x, y, z, rfl⟩ := at3 j; pointwise; rfl
theorem tr102 {a b c : ℕ} (A : Fin a → Fin b → Fin c → ℝ) (h : (⟨3, ![a, b, c]⟩ : Shape).Transposes [1, 0, 2] ⟨3, ![b, a, c]⟩) :
    transpose ⟨3, ![b, a, c]⟩ [1, 0, 2] (T3 A) h = T3 fun y x z => A x y z := by
  funext j; obtain ⟨x, y, z, rfl⟩ := at3 j; pointwise; rfl
theorem tr021 {a b c : ℕ} (A : Fin a → Fin b → Fin c → ℝ) (h : (⟨3, ![a, b, c]⟩ : Shape).Transposes [0, 2, 1] ⟨3, ![a, c, b]⟩) :
    transpose ⟨3, ![a, c, b]⟩ [0, 2, 1] (T3 A) h = T3 fun x z y => A x y z := by
  funext j; obtain ⟨x, y, z, rfl⟩ := at3 j; pointwise; rfl

/-- A host product over one axis, entry by entry, when its factors are real there. -/
theorem dot_at {s t u : Shape} (d : DotDims s t u) (k : ℕ) (hr : d.contr.rank = 1) (hs : d.contr.size ⟨0, by omega⟩ = k) (x : FVec Ideal s .f32) (y : FVec Ideal t .f32) (j : u.Idx) (f g : Fin k → ℝ)
    (hf : ∀ c, x (d.lhsIdx j ((ValueIdx.contrEquiv1 d k hr hs).symm c)) = ((f c : ℝ) : EReal)) (hg : ∀ c, y (d.rhsIdx j ((ValueIdx.contrEquiv1 d k hr hs).symm c)) = ((g c : ℝ) : EReal)) :
    Host.dotGeneral d none x y j = ((∑ c, f c * g c : ℝ) : EReal) := by
  show FloatOps.dotGeneral _ none _ x y j = _
  rw [Ideal.dotGeneral_apply, ← Equiv.sum_comp (ValueIdx.contrEquiv1 d k hr hs).symm, ← ereal_mul_sum]
  exact Finset.sum_congr rfl fun c _ => congrArg₂ _ (hf c) (hg c)

theorem T3_at {a b c : ℕ} (A : Fin a → Fin b → Fin c → ℝ) (i : (⟨3, ![a, b, c]⟩ : Shape).Idx) (x : Fin a) (y : Fin b) (z : Fin c) (hx : (i 0).val = x.val) (hy : (i 1).val = y.val) (hz : (i 2).val = z.val) :
    T3 A i = ((A x y z : ℝ) : EReal) := by
  obtain ⟨x', y', z', rfl⟩ := at3 i
  obtain rfl : x' = x := Fin.ext hx
  obtain rfl : y' = y := Fin.ext hy
  obtain rfl : z' = z := Fin.ext hz
  rfl

open Cert.MixRIdeal Cert.MixRIdeal.Gen

theorem dot_q (A : Fin 4 → Fin 128 → Fin 128 → ℝ) (B : Fin 4096 → Fin 4 → Fin 128 → ℝ) :
    Host.dotGeneral dot_S4x128x128_S4096x4x128_S4x128x4096_1_2_2_0_0_1 none (T3 A) (T3 B) = T3 fun s c r => ∑ l, A s l c * B r s l := by
  funext j; obtain ⟨s, c, r, rfl⟩ := at3 j
  have v := ValueIdx.contrEquiv1_symm_val dot_S4x128x128_S4096x4x128_S4x128x4096_1_2_2_0_0_1 128 rfl rfl
  exact dot_at dot_S4x128x128_S4096x4x128_S4x128x4096_1_2_2_0_0_1 128 rfl rfl _ _ _ _ _ (fun l => T3_at A _ s l c rfl (v l) rfl) (fun l => T3_at B _ r s l rfl rfl (v l))
theorem dot_dpl (A : Fin 4 → Fin 128 → Fin 4096 → ℝ) (B : Fin 4 → Fin 128 → Fin 128 → ℝ) :
    Host.dotGeneral dot_S4x128x4096_S4x128x128_S4x4096x128_1_2_2_1_0_0 none (T3 A) (T3 B) = T3 fun s r c => ∑ l, A s l r * B s c l := by
  funext j; obtain ⟨s, r, c, rfl⟩ := at3 j
  have v := ValueIdx.contrEquiv1_symm_val dot_S4x128x4096_S4x128x128_S4x4096x128_1_2_2_1_0_0 128 rfl rfl
  exact dot_at dot_S4x128x4096_S4x128x128_S4x4096x128_1_2_2_1_0_0 128 rfl rfl _ _ _ _ _ (fun l => T3_at A _ s l r rfl (v l) rfl) (fun l => T3_at B _ s c l rfl rfl (v l))
theorem dot_ow (A : Fin 4 → Fin 128 → Fin 4096 → ℝ) (B : Fin 4096 → Fin 4 → Fin 128 → ℝ) :
    Host.dotGeneral dot_S4x128x4096_S4096x4x128_S4x128x128_2_0_1_2_0_1 none (T3 A) (T3 B) = T3 fun s c l => ∑ r, A s c r * B r s l := by
  funext j; obtain ⟨s, c, l, rfl⟩ := at3 j
  have v := ValueIdx.contrEquiv1_symm_val dot_S4x128x4096_S4096x4x128_S4x128x128_2_0_1_2_0_1 4096 rfl rfl
  exact dot_at dot_S4x128x4096_S4096x4x128_S4x128x128_2_0_1_2_0_1 4096 rfl rfl _ _ _ _ _ (fun r => T3_at A _ s c r rfl rfl (v r)) (fun r => T3_at B _ r s l (v r) rfl rfl)

end Step.Mix
-- ==== Proof.MixDat.lean ====
module

public import proofs.«01_k».proof.Proof.MixPay

@[expose] public section

set_option maxRecDepth 16384

noncomputable section

namespace Step.Mix

open Idealize Idealize.ShloMosaic
open Cert.MixKIdeal Cert.MixKIdeal.Gen

/-- The whole arrays the backward step of the mixer works on. Rows are counted from 32, and the arrays of rows are zero before. -/
structure Dat where
  d : ℕ → ℕ → ℝ
  x : ℕ → ℕ → ℝ
  g : ℕ → ℕ → ℝ
  p : ℕ → ℕ → ℝ
  k : ℕ → ℕ → ℝ
  w : ℕ → ℕ → ℕ → ℝ
  s : ℕ → ℕ → ℝ
  win : ℕ → ℕ → ℝ
  wout : ℕ → ℕ → ℝ

namespace Dat
variable (D : Dat)

/-- The rows that are pooled. -/
def u (r c : ℕ) : ℝ := D.p r (c + 1536)
/-- The rows that are convolved. -/
def z (r c : ℕ) : ℝ := D.p r (c + 1024) * D.p r c
/-- The gradient of both parts' outcome side by side. -/
def dy (r c : ℕ) : ℝ := ∑ q : Fin 1024, D.d r q * D.wout c q
/-- The convolution. -/
def conv (r c : ℕ) : ℝ := D.k 2 c * D.z r c + D.k 1 c * D.z (r - 1) c + D.k 0 c * D.z (r - 2) c
/-- The gradient of the convolution's gate. -/
def dgb (r c : ℕ) : ℝ := D.dy r c * D.conv r c
/-- The gradient of the convolution. -/
def dcv (r c : ℕ) : ℝ := D.dy r c * D.p r (c + 512)
/-- The gradient of the rows that are convolved. -/
def dz (r c : ℕ) : ℝ := D.k 2 c * D.dcv r c + D.k 1 c * D.dcv (r + 1) c + D.k 0 c * D.dcv (r + 2) c
/-- The gradients of their two factors. -/
def dgc (r c : ℕ) : ℝ := D.dz r c * D.p r c
def dv (r c : ℕ) : ℝ := D.dz r c * D.p r (c + 1024)
/-- The pooled rows of a group of columns. -/
def pool (s r c : ℕ) : ℝ := ts D.u (s + 1) r (c + 128 * s) * inv (s + 1) r - D.u r (c + 128 * s)
/-- The pooled rows through the group's weight. -/
def q (s r c : ℕ) : ℝ := ∑ l : Fin 128, D.pool s r l * D.w s l c
/-- The gradient of a group's outcome, unscaled and scaled. -/
def dyb (s r c : ℕ) : ℝ := D.dy r (c + (512 + 128 * s))
def dq (s r c : ℕ) : ℝ := D.dyb s r c * D.s 0 (c + 128 * s)
/-- The gradient of the pooled rows. -/
def dpl (s r c : ℕ) : ℝ := ∑ l : Fin 128, D.dq s r l * D.w s c l
/-- The same over the counts, group by group and for all the columns. -/
def eg (s r c : ℕ) : ℝ := D.dpl s r c * inv (s + 1) r
def e (r c : ℕ) : ℝ := D.eg (c / 128) r (c % 128)
/-- The gradient of the rows that are pooled. -/
def du (s r c : ℕ) : ℝ := fs D.e (s + 1) r (c + 128 * s) - D.dpl s r c
/-- The gradient of the projection. -/
def dp (r c : ℕ) : ℝ :=
  if c < 512 then D.dv r c else if c < 1024 then D.dgb r (c - 512) else if c < 1536 then D.dgc r (c - 1024) else D.du ((c - 1536) / 128) r ((c - 1536) % 128)
/-- The gradient of the normalised, scaled rows. -/
def dh (r c : ℕ) : ℝ := ∑ l : Fin 2048, D.dp r l * D.win l c

/-- What a tile adds to the gradient of the gain, of the taps, of the groups' scale and of their weights. -/
def addk (b t c : ℕ) : ℝ := ∑ r : Fin 512, D.dcv (r + (b + 32)) c * D.z (r + (b + 30 + t)) c
def gain : Fin 1024 → ℝ := fun c => D.g 0 c
def rr (r : ℕ) : ℝ := (√((∑ l : Fin 1024, D.x r l * D.x r l) / 1024 + eps))⁻¹
def addg (b c : ℕ) : ℝ := ∑ r : Fin 512, D.dh (r + (b + 32)) c * (D.x (r + (b + 32)) c * D.rr (r + (b + 32)))
def adds (b c : ℕ) : ℝ := ∑ r : Fin 512, D.q (c / 128) (r + (b + 32)) (c % 128) * D.dyb (c / 128) (r + (b + 32)) (c % 128)
def addw (b s l c : ℕ) : ℝ := ∑ r : Fin 512, D.pool s (r + (b + 32)) l * D.dq s (r + (b + 32)) c

variable {m n : Nat} (a b : ℕ)

theorem hY : k0_pay23 (F := Ideal) (M16 (tile D.d a 0)) (M16 (tile D.wout 0 0)) = M32 (tile D.dy a 0) := pay23 _ _
theorem t_conv : (tile D.dy (b + 32) 0 * tap3 D.k (tile D.z (b + 32) 0) (tile D.z (b + 31) 0) (tile D.z (b + 30) 0) : Fin m → Fin n → ℝ) = tile D.dgb (b + 32) 0 := rfl
theorem t_dcv : (tile D.dy a 0 * tile D.p a 512 : Fin m → Fin n → ℝ) = tile D.dcv a 0 := rfl
theorem t_dgc : (tap3 D.k (tile D.dcv a 0) (tile D.dcv (a + 1) 0) (tile D.dcv (a + 2) 0) * tile D.p a 0 : Fin m → Fin n → ℝ) = tile D.dgc a 0 := by
  funext r c; show (_ + D.k 1 c * D.dcv (r + (a + 1)) c + D.k 0 c * D.dcv (r + (a + 2)) c) * _ = (_ + D.k 1 c * D.dcv (r + a + 1) c + D.k 0 c * D.dcv (r + a + 2) c) * _; rfl
theorem t_dv : (tap3 D.k (tile D.dcv a 0) (tile D.dcv (a + 1) 0) (tile D.dcv (a + 2) 0) * tile D.p a 1024 : Fin m → Fin n → ℝ) = tile D.dv a 0 := by
  funext r c; show (_ + D.k 1 c * D.dcv (r + (a + 1)) c + D.k 0 c * D.dcv (r + (a + 2)) c) * _ = (_ + D.k 1 c * D.dcv (r + a + 1) c + D.k 0 c * D.dcv (r + a + 2) c) * _; rfl
theorem t_two : (tile (ts D.u 2) (b + 32) 256 + tile (ts D.u 2) (b + 28) 256 : Fin m → Fin n → ℝ) = tile (ts D.u 3) (b + 32) 256 := ts_tile D.u 2 (b + 28) 256
theorem t_e (s : ℕ) : (tile D.e a (128 * s) : Fin m → Fin 128 → ℝ) = tile (D.eg s) a 0 := tile_grp D.eg a s
theorem t_du (s : ℕ) : (tile (fs D.e s) a (128 * s) + tile (fs D.e s) (a + 2 ^ s) (128 * s) - tile (D.dpl s) a 0 : Fin m → Fin n → ℝ) = tile (D.du s) a 0 := by
  rw [fs_tile]; rfl
theorem t_dp0 : (tile D.dp a 0 : Fin m → Fin 512 → ℝ) = tile D.dv a 0 := by
  funext r c; exact if_pos c.isLt
theorem t_dp1 : (tile D.dp a 512 : Fin m → Fin 512 → ℝ) = tile D.dgb a 0 := by
  funext r c
  have := c.isLt
  show dp D _ (c.val + 512) = _
  unfold dp
  rw [if_neg (by omega), if_pos (by omega), Nat.add_sub_cancel]; rfl
theorem t_dp2 : (tile D.dp a 1024 : Fin m → Fin 512 → ℝ) = tile D.dgc a 0 := by
  funext r c
  have := c.isLt
  show dp D _ (c.val + 1024) = _
  unfold dp
  rw [if_neg (by omega), if_neg (by omega), if_pos (by omega), Nat.add_sub_cancel]; rfl
theorem t_dp3 (s : ℕ) : (tile D.dp a (1536 + 128 * s) : Fin m → Fin 128 → ℝ) = tile (D.du s) a 0 := by
  funext r c
  have := c.isLt
  show dp D _ (c.val + (1536 + 128 * s)) = _
  unfold dp
  rw [if_neg (by omega), if_neg (by omega), if_neg (by omega), show (c.val + (1536 + 128 * s) - 1536) / 128 = s by omega, show (c.val + (1536 + 128 * s) - 1536) % 128 = c.val by omega]; rfl

theorem one {A B : Fin 1 → Fin n → ℝ} (h : A 0 = B 0) : A = B := funext fun i => by rw [Fin.fin_one_eq_zero i]; exact h
theorem t_addg (S : ℕ → ℕ → ℝ) : (tile S 0 0 + rowv (Step.Ffn.bg (tile D.x (b + 32) 0 : Fin 512 → Fin 1024 → ℝ) (tile D.dh (b + 32) 0)) : Fin 1 → Fin 1024 → ℝ) = tile (fun t c => S t c + D.addg b c) 0 0 := one rfl
theorem t_addk (K : ℕ → ℕ → ℝ) (t : ℕ) : (tile K t 0 + cs (tile D.dcv (b + 32) 0 : Fin 512 → Fin n → ℝ) (tile D.z (b + 30 + t) 0) : Fin 1 → Fin n → ℝ) = tile (fun t c => K t c + D.addk b t c) t 0 := one (by
  funext c; show K (0 + t) c + addk D b t c = K (0 + t) c + addk D b (0 + t) c; rw [Nat.zero_add])
theorem t_adds (S : ℕ → ℕ → ℝ) (s : ℕ) : (tile S 0 (128 * s) + cs (tile (D.q s) (b + 32) 0 : Fin 512 → Fin 128 → ℝ) (tile D.dy (b + 32) (512 + 128 * s)) : Fin 1 → Fin 128 → ℝ) = tile (fun t c => S t c + D.adds b c) 0 (128 * s) := one (by
  funext c
  have := c.isLt
  show S 0 (c.val + 128 * s) + _ = S 0 (c.val + 128 * s) + adds D b (c.val + 128 * s)
  unfold adds
  rw [show (c.val + 128 * s) / 128 = s by omega, show (c.val + 128 * s) % 128 = c.val by omega]; rfl)
theorem t_addw (W : ℕ → ℕ → ℕ → ℝ) (s : ℕ) : (tile (W s) 0 0 + tm (tile (D.pool s) (b + 32) 0 : Fin 512 → Fin m → ℝ) (tile (D.dq s) (b + 32) 0) : Fin m → Fin n → ℝ) = tile (fun l c => W s l c + D.addw b s l c) 0 0 := rfl

/-- Where the rows before a tile are read: at the first tile some rows that then count for nothing. -/
def hb (T b : ℕ) : ℕ := if T = 0 then 32 else b

end Dat

/-- A grid step is given the tile of the whole arrays that starts at row `b`. -/
structure Fed (i : grid0.Coords) (D : Dat) (T b : ℕ) (v : In Ideal) : Prop where
  hT : T < 8
  hb : b = 512 * T
  hi : (i 0).val + T = 7
  zero : ∀ r c, r < 32 → D.p r c = 0
  zend : ∀ r c, 4128 ≤ r → D.d r c = 0
  d : v.d = M32 (tile D.d (b + 32) 0)
  x : v.x = M32 (tile D.x (b + 32) 0)
  g : v.g = M32 (tile D.g 0 0)
  p : v.p = M16 (tile D.p (b + 32) 0)
  e : v.e = M16 (tile D.p (Dat.hb T b) 0)
  k : v.k = M32 (tile D.k 0 0)
  w : v.w = T3 (fun s => tile (D.w s) 0 0)
  s : v.s = M32 (tile D.s 0 0)

section fed
variable {i : grid0.Coords} {D : Dat} {T b : ℕ} {v : In Ideal} (hv : Fed i D T b v)
include hv
theorem Fed.n1 : k0_pay41 (F := Ideal) (k0_pay40 (BitVec.ofNat 32 T)) = M (invc 1 (b + 32)) := hv.hb ▸ pay41 T hv.hT
theorem Fed.n2 : k0_pay52 (F := Ideal) (k0_pay37 (BitVec.ofNat 32 T)) = M (invc 2 (b + 32)) := hv.hb ▸ pay52 T hv.hT
theorem Fed.n3 : k0_pay68 (F := Ideal) (k0_pay37 (BitVec.ofNat 32 T)) = M (invc 3 (b + 32)) := hv.hb ▸ pay68 T hv.hT
theorem Fed.n4 : k0_pay85 (F := Ideal) (k0_pay37 (BitVec.ofNat 32 T)) 1#32 = M (invc 4 (b + 32)) := hv.hb ▸ pay85 T hv.hT
/-- The rows before the tile. -/
theorem Fed.z0 : ((fun i j => tile D.p (Dat.hb T b) 1024 i j * tile D.p (Dat.hb T b) 0 i j * (if T = 0 then 0 else 1)) : Fin 32 → Fin 512 → ℝ) = tile D.z b 0 := by
  funext r c
  show D.p _ _ * D.p _ _ * _ = D.p (r.val + b) _ * D.p (r.val + b) _
  by_cases h : T = 0
  · have hb := hv.hb; rw [if_pos h, mul_zero, hv.zero (r.val + b) _ (by omega), zero_mul]
  · rw [if_neg h, mul_one, Dat.hb, if_neg h]
theorem Fed.u0 : ((fun i j => tile D.p (Dat.hb T b) 1536 i j * (if T = 0 then 0 else 1)) : Fin 32 → Fin 512 → ℝ) = tile D.u b 0 := by
  funext r c
  show D.p _ _ * _ = D.p (r.val + b) _
  by_cases h : T = 0
  · have hb := hv.hb; rw [if_pos h, mul_zero, hv.zero (r.val + b) _ (by omega)]
  · rw [if_neg h, mul_one, Dat.hb, if_neg h]
/-- The rows after the last tile. -/
theorem Fed.dy0 (r c : ℕ) (h : 4128 ≤ r) : D.dy r c = 0 := Finset.sum_eq_zero fun q _ => by rw [hv.zend r _ h, zero_mul]
theorem Fed.c7 (h : T = 7) : ((fun _ _ => 0) : Fin 8 → Fin 512 → ℝ) = tile D.dcv (b + 32 + 512) 0 := by
  funext r c
  have hb := hv.hb
  show 0 = D.dy _ _ * _
  rw [hv.dy0 _ _ (by omega), zero_mul]
theorem Fed.e7 (h : T = 7) : ((fun _ _ => 0) : Fin 32 → Fin 512 → ℝ) = tile D.e (b + 32 + 512) 0 := by
  funext r c
  have hb := hv.hb
  show 0 = (∑ l : Fin 128, D.dy _ _ * _ * _) * _
  rw [Finset.sum_eq_zero fun l _ => by rw [hv.dy0 _ _ (by omega), zero_mul, zero_mul], zero_mul]

section load
variable {κ : Kind} {sp : Space} {m n r c : ℕ}
theorem Fed.l_d {a : Memref sig κ sp S512x1024 .f32} (h : a.IsWhole) {inb} : View.readAt (Elt Ideal) a.view (Rect.unit (s := S512x1024) ![r, c] ![m, n] inb).toLoadRect (h.unread v.d) = M32 (tile D.d (b + 32 + r) (0 + c)) := ld_N a h hv.d
theorem Fed.l_x {a : Memref sig κ sp S512x1024 .f32} (h : a.IsWhole) {inb} : View.readAt (Elt Ideal) a.view (Rect.unit (s := S512x1024) ![r, c] ![m, n] inb).toLoadRect (h.unread v.x) = M32 (tile D.x (b + 32 + r) (0 + c)) := ld_N a h hv.x
theorem Fed.l_g {a : Memref sig κ sp S1x1024 .f32} (h : a.IsWhole) {inb} : View.readAt (Elt Ideal) a.view (Rect.unit (s := S1x1024) ![r, c] ![m, n] inb).toLoadRect (h.unread v.g) = M32 (tile D.g (0 + r) (0 + c)) := ld_N a h hv.g
theorem Fed.l_p {a : Memref sig κ sp S512x2048 .bf16} (h : a.IsWhole) {inb} : View.readAt (Elt Ideal) a.view (Rect.unit (s := S512x2048) ![r, c] ![m, n] inb).toLoadRect (h.unread v.p) = M16 (tile D.p (b + 32 + r) (0 + c)) := ld_N a h hv.p
theorem Fed.l_e {a : Memref sig κ sp S32x2048 .bf16} (h : a.IsWhole) {inb} : View.readAt (Elt Ideal) a.view (Rect.unit (s := S32x2048) ![r, c] ![m, n] inb).toLoadRect (h.unread v.e) = M16 (tile D.p (Dat.hb T b + r) (0 + c)) := ld_N a h hv.e
theorem Fed.l_k {a : Memref sig κ sp S3x512 .f32} (h : a.IsWhole) {inb} : View.readAt (Elt Ideal) a.view (Rect.unit (s := S3x512) ![r, c] ![m, n] inb).toLoadRect (h.unread v.k) = M32 (tile D.k (0 + r) (0 + c)) := ld_N a h hv.k
theorem Fed.l_s {a : Memref sig κ sp S1x512 .f32} (h : a.IsWhole) {inb} : View.readAt (Elt Ideal) a.view (Rect.unit (s := S1x512) ![r, c] ![m, n] inb).toLoadRect (h.unread v.s) = M32 (tile D.s (0 + r) (0 + c)) := ld_N a h hv.s
theorem Fed.l_w {a : Memref sig κ sp S4x128x128 .f32} (h : a.IsWhole) {inb} : View.readAt (Elt Ideal) a.view (Rect.unit (s := S4x128x128) ![r, 0, 0] ![1, 128, 128] inb).toLoadRect (h.unread v.w) = L1 (tile (D.w r) 0 0) := ld_T3 a h hv.w
end load
end fed

/-- The four sums so far. -/
structure Sums where
  g : ℕ → ℕ → ℝ
  k : ℕ → ℕ → ℝ
  s : ℕ → ℕ → ℝ
  w : ℕ → ℕ → ℕ → ℝ

/-- What the grid steps before have left, for the tile that starts at row `b`. -/
structure Held (D : Dat) (b : ℕ) (S : Sums) (o : Out Ideal) : Prop where
  win : o.win = M16 (tile D.win 0 0)
  wout : o.wout = M16 (tile D.wout 0 0)
  c : ∀ y : (⟨2, ![520, 512]⟩ : Shape).Idx, 512 ≤ (y 0).val → o.c y = N .f32 (tile D.dcv (b + 32) 0) y
  q : ∀ y : (⟨2, ![544, 512]⟩ : Shape).Idx, 512 ≤ (y 0).val → o.q y = N .f32 (tile D.e (b + 32) 0) y
  dg : o.dg = M32 (tile S.g 0 0)
  dk : o.dk = M32 (tile S.k 0 0)
  ds : o.ds = M32 (tile S.s 0 0)
  dw : o.dw = T3 (fun s => tile (S.w s) 0 0)

section held
variable {D : Dat} {S : Sums} {b : ℕ} {o : Out Ideal} (ho : Held D b S o) {κ : Kind} {sp : Space} {m n r c : ℕ}
include ho
theorem Held.l_win {a : Memref sig κ sp S2048x1024 .bf16} (h : a.IsWhole) {inb} : View.readAt (Elt Ideal) a.view (Rect.unit (s := S2048x1024) ![r, c] ![m, n] inb).toLoadRect (h.unread o.win) = M16 (tile D.win (0 + r) (0 + c)) := ld_N a h ho.win
theorem Held.l_wout {a : Memref sig κ sp S1024x1024 .bf16} (h : a.IsWhole) {inb} : View.readAt (Elt Ideal) a.view (Rect.unit (s := S1024x1024) ![r, c] ![m, n] inb).toLoadRect (h.unread o.wout) = M16 (tile D.wout (0 + r) (0 + c)) := ld_N a h ho.wout
theorem Held.l_dg {a : Memref sig κ sp S1x1024 .f32} (h : a.IsWhole) {inb} : View.readAt (Elt Ideal) a.view (Rect.unit (s := S1x1024) ![r, c] ![m, n] inb).toLoadRect (h.unread o.dg) = M32 (tile S.g (0 + r) (0 + c)) := ld_N a h ho.dg
theorem Held.l_dk {a : Memref sig κ sp S3x512 .f32} (h : a.IsWhole) {inb} : View.readAt (Elt Ideal) a.view (Rect.unit (s := S3x512) ![r, c] ![m, n] inb).toLoadRect (h.unread o.dk) = M32 (tile S.k (0 + r) (0 + c)) := ld_N a h ho.dk
theorem Held.l_ds {a : Memref sig κ sp S1x512 .f32} (h : a.IsWhole) {inb} : View.readAt (Elt Ideal) a.view (Rect.unit (s := S1x512) ![r, c] ![m, n] inb).toLoadRect (h.unread o.ds) = M32 (tile S.s (0 + r) (0 + c)) := ld_N a h ho.ds
theorem Held.l_dw {a : Memref sig κ sp S4x128x128 .f32} (h : a.IsWhole) {inb} : View.readAt (Elt Ideal) a.view (Rect.unit (s := S4x128x128) ![r, 0, 0] ![1, 128, 128] inb).toLoadRect (h.unread o.dw) = L1 (tile (S.w r) 0 0) := ld_T3 a h ho.dw
theorem Held.l_c {a : Memref sig κ sp S520x512 .f32} (h : a.IsWhole) {inb} {P : ℕ → ℕ → Prop} {L} (hA : Ag D.dcv (b + 32) 0 L) (hC : Cv P L) (hP : ∀ i j, i < m → j < n → P (r + i) (c + j) ∨ 512 ≤ r + i) :
    View.readAt (Elt Ideal) a.view (Rect.unit (s := S520x512) ![r, c] ![m, n] inb).toLoadRect (a.view.writes (Elt Ideal) (h.unread o.c) L) = M32 (tile D.dcv (b + 32 + r) (0 + c)) := ld_ag a h hA hC (B := fun i _ => 512 ≤ i) (fun y => ho.c y) hP
theorem Held.l_q {a : Memref sig κ sp S544x512 .f32} (h : a.IsWhole) {inb} {P : ℕ → ℕ → Prop} {L} (hA : Ag D.e (b + 32) 0 L) (hC : Cv P L) (hP : ∀ i j, i < m → j < n → P (r + i) (c + j) ∨ 512 ≤ r + i) :
    View.readAt (Elt Ideal) a.view (Rect.unit (s := S544x512) ![r, c] ![m, n] inb).toLoadRect (a.view.writes (Elt Ideal) (h.unread o.q) L) = M32 (tile D.e (b + 32 + r) (0 + c)) := ld_ag a h hA hC (B := fun i _ => 512 ≤ i) (fun y => ho.q y) hP
end held

/-- No sums yet. -/
def Sums.none : Sums := ⟨fun _ _ => 0, fun _ _ => 0, fun _ _ => 0, fun _ _ _ => 0⟩
/-- The sums with what a tile adds. -/
def Sums.add (D : Dat) (b : ℕ) (S : Sums) : Sums := ⟨fun t c => S.g t c + D.addg b c, fun t c => S.k t c + D.addk b t c, fun t c => S.s t c + D.adds b c, fun s l c => S.w s l c + D.addw b s l c⟩

/-- What the grid step of the tile that starts at row `b` leaves. -/
structure Did (D : Dat) (b : ℕ) (S : Sums) (o : Out Ideal) : Prop where
  dx : o.dx = M32 (Step.Ffn.bx (tile D.d (b + 32) 0) (tile D.x (b + 32) 0) (tile D.dh (b + 32) 0) D.gain)
  dp : o.dp = M16 (tile D.dp (b + 32) 0)
  h : o.h = M16 (hn (tile D.x (b + 32) 0) D.gain)
  db : o.db = M16 (tile D.d (b + 32) 0)
  dg : o.dg = M32 (tile S.g 0 0)
  dk : o.dk = M32 (tile S.k 0 0)
  ds : o.ds = M32 (tile S.s 0 0)
  dw : o.dw = T3 (fun s => tile (S.w s) 0 0)
  win : o.win = M16 (tile D.win 0 0)
  wout : o.wout = M16 (tile D.wout 0 0)
  c : ∀ y : (⟨2, ![520, 512]⟩ : Shape).Idx, 512 ≤ (y 0).val → o.c y = N .f32 (tile (fun i j => D.dcv (i - 512 + (b + 32)) j) 0 0) y
  q : ∀ y : (⟨2, ![544, 512]⟩ : Shape).Idx, 512 ≤ (y 0).val → o.q y = N .f32 (tile (fun i j => D.e (i - 512 + (b + 32)) j) 0 0) y

section of
variable {D : Dat} {b : ℕ} {S : Sums} {L : Stores Ideal}
  (hdx : View.canon L.dx = M32 (Step.Ffn.bx (tile D.d (b + 32) 0) (tile D.x (b + 32) 0) (tile D.dh (b + 32) 0) D.gain))
  (hdp : View.canon L.dp = M16 (tile D.dp (b + 32) 0)) (hh : View.canon L.h = M16 (hn (tile D.x (b + 32) 0) D.gain)) (hdb : View.canon L.db = M16 (tile D.d (b + 32) 0))
  (hdg : View.canon L.dg = M32 (tile S.g 0 0)) (hdk : View.canon L.dk = M32 (tile S.k 0 0)) (hds : View.canon L.ds = M32 (tile S.s 0 0)) (hdw : View.canon L.dw = T3 (fun s => tile (S.w s) 0 0))
  (hcc : Rd (fun i j => D.dcv (i - 512 + (b + 32)) j) 0 0 (fun i _ => 512 ≤ i) L.c) (hq : Rd (fun i j => D.e (i - 512 + (b + 32)) j) 0 0 (fun i _ => 512 ≤ i) L.q)
include hdx hdp hh hdb hdg hdk hds hdw hcc hq
/-- The stores of the first grid step leave it. -/
theorem Did.ofA (hi : View.canon L.win = M16 (tile D.win 0 0)) (ho : View.canon L.wout = M16 (tile D.wout 0 0)) : Did D b S L.out := ⟨hdx, hdp, hh, hdb, hdg, hdk, hds, hdw, hi, ho, hcc, hq⟩
/-- The stores of a later grid step leave it. -/
theorem Did.ofB {o : Out Ideal} (hi : o.win = M16 (tile D.win 0 0)) (ho : o.wout = M16 (tile D.wout 0 0)) : Did D b S { L.out with win := o.win, wout := o.wout } := ⟨hdx, hdp, hh, hdb, hdg, hdk, hds, hdw, hi, ho, hcc, hq⟩
end of

/-- It is what the next grid step, of the tile before, is given. -/
theorem Did.held {D : Dat} {b : ℕ} {S : Sums} {o : Out Ideal} (h : Did D (b + 512) S o) : Held D b S o where
  win := h.win
  wout := h.wout
  c y hy := (h.c y hy).trans (congrArg (fun r => ((D.dcv r ((y 1).val + 0) : ℝ) : EReal)) (by omega))
  q y hy := (h.q y hy).trans (congrArg (fun r => ((D.e r ((y 1).val + 0) : ℝ) : EReal)) (by omega))
  dg := h.dg
  dk := h.dk
  ds := h.ds
  dw := h.dw

end Step.Mix
-- ==== Proof.MixSeq.lean ====
module

public import proofs.«01_k».proof.Proof.MixHost
public import proofs.«01_k».proof.Proof.MixDat

@[expose] public section

set_option maxRecDepth 16384

noncomputable section

namespace Step.Mix

open Idealize Idealize.ShloMosaic Finset

variable {m n p q : Nat} {φ : FTy}

/-! ## Shifts, by zeros put before or after -/

/-- Rows moved down by `w`, zeros before them. -/
theorem shift {w : ℕ} {z : FVec Ideal ⟨2, ![w, n]⟩ φ} {y : FVec Ideal ⟨2, ![p, n]⟩ φ} (A : ℕ → ℕ → ℝ) (r l : ℕ) (hz : z = M fun _ _ => 0) (hy : y = M (tile A r l)) (hw : w ≤ r) (h0 : ∀ i j, i < r → A i j = 0)
    (h : Shape.Concatenates [⟨2, ![w, n]⟩, ⟨2, ![p, n]⟩] ⟨2, ![q, n]⟩ 0) :
    concatenate ⟨2, ![q, n]⟩ 0 [⟨⟨2, ![w, n]⟩, z⟩, ⟨⟨2, ![p, n]⟩, y⟩] h = M (tile A (r - w) l) := by
  subst hz hy
  obtain ⟨r, rfl⟩ := Nat.exists_eq_add_of_le' hw
  rw [Nat.add_sub_cancel]
  exact before A r l h fun i j hi => h0 _ _ (by omega)

/-- Rows of zeros around the rows of an array that is zero there. -/
theorem pad_rows (A : ℕ → ℕ → ℝ) (r l a e : ℕ) (ha : a ≤ r) (h : (⟨2, ![m, n]⟩ : Shape).Pads ![a, 0] ![e, 0] ![0, 0] ⟨2, ![p, n]⟩) (hu)
    (h0 : ∀ i j, i < r → A i j = 0) (h1 : ∀ i j, r + m ≤ i → A i j = 0) :
    pad ⟨2, ![p, n]⟩ ![a, 0] ![e, 0] ![0, 0] (M (φ := φ) (tile A r l : Fin m → Fin n → ℝ)) (K (φ := φ) 0) h hu = M (φ := φ) (tile A (r - a) l) :=
  pad_M _ _ _ _ h hu
    (fun i c i' c' hi hc => by
      change i.val = a + i'.val at hi
      change c.val = 0 + c'.val at hc
      show A (i.val + (r - a)) (c.val + l) = A (i'.val + r) (c'.val + l)
      rw [show i.val + (r - a) = i'.val + r by omega, show c.val = c'.val by omega])
    fun i c hc => by
      change i.val < a ∨ a + m ≤ i.val ∨ c.val < 0 ∨ 0 + n ≤ c.val at hc
      have := c.isLt
      rcases hc with hc | hc | hc | hc
      · exact h0 _ _ (by omega)
      · exact h1 _ _ (by omega)
      · omega
      · omega

/-- Columns of zeros around the columns of an array. -/
theorem pad_cols (A : ℕ → ℕ → ℝ) (r b e : ℕ) (h : (⟨2, ![m, n]⟩ : Shape).Pads ![0, b] ![0, e] ![0, 0] ⟨2, ![m, q]⟩) (hu) :
    pad ⟨2, ![m, q]⟩ ![0, b] ![0, e] ![0, 0] (M (φ := φ) (tile A r 0 : Fin m → Fin n → ℝ)) (K (φ := φ) 0) h hu = M (φ := φ) (tile (fun i c => if b ≤ c ∧ c < b + n then A i (c - b) else 0) r 0) :=
  pad_M _ _ _ _ h hu
    (fun i c i' c' hi hc => by
      change i.val = 0 + i'.val at hi
      change c.val = b + c'.val at hc
      have := c'.isLt
      show (if b ≤ c.val ∧ c.val < b + n then A (i.val + r) (c.val - b) else 0) = A (i'.val + r) c'.val
      rw [if_pos (by omega), show i.val = i'.val by omega, show c.val - b = c'.val by omega])
    fun i c hc => by
      change i.val < 0 ∨ 0 + m ≤ i.val ∨ c.val < b ∨ b + n ≤ c.val at hc
      have := i.isLt
      exact if_neg (by omega)

/-- A row put in its place among three, the others zero. -/
theorem pad_row (a : Fin n → ℝ) (t e : ℕ) (h : (⟨2, ![1, n]⟩ : Shape).Pads ![t, 0] ![e, 0] ![0, 0] ⟨2, ![p, n]⟩) (hu) :
    pad ⟨2, ![p, n]⟩ ![t, 0] ![e, 0] ![0, 0] (M (φ := φ) (rowv a : Fin 1 → Fin n → ℝ)) (K (φ := φ) 0) h hu = M (φ := φ) fun i c => if i.val = t then a c else 0 :=
  pad_M _ _ _ _ h hu
    (fun i c i' c' hi hc => by
      change i.val = t + i'.val at hi
      change c.val = 0 + c'.val at hc
      exact (if_pos (by omega)).trans (congrArg a (Fin.ext (by omega))))
    fun i c hc => by
      change i.val < t ∨ t + 1 ≤ i.val ∨ c.val < 0 ∨ 0 + n ≤ c.val at hc
      have := c.isLt
      exact if_neg (by omega)

/-! ## Four groups put together -/

theorem join_of {x0 x1 x2 x3 : FVec Ideal ⟨3, ![4096, 1, 128]⟩ .f32} (X : ℕ → ℕ → ℕ → ℝ)
    (h0 : x0 = T3 fun r _ c => X 0 (r.val + 32) c.val) (h1 : x1 = T3 fun r _ c => X 1 (r.val + 32) c.val) (h2 : x2 = T3 fun r _ c => X 2 (r.val + 32) c.val) (h3 : x3 = T3 fun r _ c => X 3 (r.val + 32) c.val) (h) :
    concatenate (α := EReal) ⟨3, ![4096, 4, 128]⟩ 1 [⟨⟨3, ![4096, 1, 128]⟩, x0⟩, ⟨⟨3, ![4096, 1, 128]⟩, x1⟩, ⟨⟨3, ![4096, 1, 128]⟩, x2⟩, ⟨⟨3, ![4096, 1, 128]⟩, x3⟩] h = G3 X := by
  subst h0 h1 h2 h3
  exact join X h

/-- One group's array, put in its place. -/
def Placed (s : ℕ) (A : ℕ → ℕ → ℝ) (y : FVec Ideal ⟨3, ![4096, 4, 128]⟩ .f32) : Prop := y = G3 fun s' r c => if s' = s then A r c else 0

theorem placed {y : FVec Ideal ⟨2, ![4096, 128]⟩ .f32} {A : ℕ → ℕ → ℝ} (hy : y = M32 (tile A 32 0)) (s e : ℕ) (hb : (⟨2, ![4096, 128]⟩ : Shape).BroadcastsInDim ⟨3, ![4096, 1, 128]⟩ ![0, 2])
    (h : (⟨3, ![4096, 1, 128]⟩ : Shape).Pads ![0, s, 0] ![0, e, 0] ![0, 0, 0] ⟨3, ![4096, 4, 128]⟩) (hu) {z : FVec Ideal ⟨0, ![]⟩ .f32} (hz : z = K 0) :
    Placed s A (pad ⟨3, ![4096, 4, 128]⟩ ![0, s, 0] ![0, e, 0] ![0, 0, 0] (broadcastInDim ⟨3, ![4096, 1, 128]⟩ ![0, 2] hb y) z h hu) := by
  subst hy hz
  unfold Placed
  rw [single]
  exact place A s e h hu

theorem four {y0 y1 y2 y3 : FVec Ideal ⟨3, ![4096, 4, 128]⟩ .f32} {X : ℕ → ℕ → ℕ → ℝ} (h0 : Placed 0 (X 0) y0) (h1 : Placed 1 (X 1) y1) (h2 : Placed 2 (X 2) y2) (h3 : Placed 3 (X 3) y3) :
    addf (addf (addf y3 y2) y1) y0 = G3 X := by
  unfold Placed at h0 h1 h2 h3
  rw [h0, h1, h2, h3, addf_G3, addf_G3, addf_G3]
  refine G3_congr fun s r c hs _ _ => ?_
  show ((if s = 3 then X 3 (r + 32) c else 0) + (if s = 2 then X 2 (r + 32) c else 0)) + (if s = 1 then X 1 (r + 32) c else 0) + (if s = 0 then X 0 (r + 32) c else 0) = X s (r + 32) c
  interval_cases s <;> simp

/-! ## The numbers of rows in the windows -/

theorem kk_four : constant (F := Ideal) ⟨0, ![]⟩ .f32 0x40800000#32 = K 4 := const_K _ w_four
theorem kk_eight : constant (F := Ideal) ⟨0, ![]⟩ .f32 0x41000000#32 = K 8 := const_K _ w_eight
theorem kk_sixteen : constant (F := Ideal) ⟨0, ![]⟩ .f32 0x41800000#32 = K 16 := const_K _ w_sixteen

theorem numbers : sitofp (F := Ideal) .f32 (iotaInDim ⟨1, ![4096]⟩ 32 0) = R fun r => (r.val : ℝ) := by
  funext j; obtain ⟨r, rfl⟩ := at1 j
  show Scalar.sitofp (F := Ideal) .f32 (BitVec.ofNat 32 r.val) = _
  rw [Ideal.scalar_sitofp_def, small r.val (by omega)]
  exact congrArg Real.toEReal (Int.cast_natCast _)
theorem min_R (a b : Fin n → ℝ) : minimumf (R (φ := φ) a) (R b) = R fun i => min (a i) (b i) := funext fun _ => (EReal.coe_strictMono.monotone.map_min).symm

/-- How many rows a window of `w` rows ending at a row has, as a real number. -/
def upto (w : ℕ) : Fin 4096 → ℝ := fun r => ((min (r.val + 1) w : ℕ) : ℝ)
theorem upto_eq (w : ℕ) {x : ℝ} (hx : x = (w : ℝ)) : minimumf (addf (R (φ := .f32) fun _ : Fin 4096 => 1) (R fun r => (r.val : ℝ))) (R fun _ => x) = R (upto w) := by
  rw [addf_R, min_R, hx]
  refine congrArg R (funext fun r => ?_)
  show min (1 + (r.val : ℝ)) (w : ℝ) = ((min (r.val + 1) w : ℕ) : ℝ)
  rw [Nat.cast_min, Nat.cast_add, Nat.cast_one, add_comm]

theorem counts (w : ℕ) (x : ℝ) (hx : x = (w : ℝ)) (hb : (⟨1, ![4096]⟩ : Shape).BroadcastsInDim ⟨2, ![4096, 1]⟩ ![0]) :
    broadcastInDim ⟨2, ![4096, 1]⟩ ![0] hb (minimumf (addf (R (φ := .f32) fun _ : Fin 4096 => 1) (R fun r => (r.val : ℝ))) (R fun _ => x)) = M32 (colv (upto w)) := by
  rw [upto_eq w hx, bid_col]
/-- A one-row array, as a vector and a row again. -/
theorem asrow (A : Fin 1 → Fin n → ℝ) (h) (hb : (⟨1, ![n]⟩ : Shape).BroadcastsInDim ⟨2, ![1, n]⟩ ![1]) :
    broadcastInDim ⟨2, ![1, n]⟩ ![1] hb (shapeCast ⟨1, ![n]⟩ (M (φ := φ) A) h) = M (rowv (A 0)) := by
  rw [cast_unrow, bid_row]

/-- Rows over those numbers. -/
theorem over (k : ℕ) {y : FVec Ideal ⟨2, ![4096, 128]⟩ .f32} {A : ℕ → ℕ → ℝ} (hy : y = M32 (tile A 32 0)) {a : FVec Ideal ⟨2, ![4096, 1]⟩ .f32} (ha : a = M32 (colv (upto (2 ^ k))))
    (hb : (⟨2, ![4096, 1]⟩ : Shape).BroadcastsInDim ⟨2, ![4096, 128]⟩ ![0, 1]) :
    Host.divf y (broadcastInDim ⟨2, ![4096, 128]⟩ ![0, 1] hb a) = M32 (tile (fun r c => A r c * inv k r) 32 0) := by
  subst hy ha
  rw [bid_M1]
  refine (hdivf_M _ _ fun i j => ?_).trans (congrArg M32 (funext fun i => funext fun j => ?_))
  · show ((min (i.val + 1) (2 ^ k) : ℕ) : ℝ) ≠ 0
    have := Nat.two_pow_pos k
    exact Nat.cast_ne_zero.mpr (by omega)
  · show A (i.val + 32) j.val / ((min (i.val + 1) (2 ^ k) : ℕ) : ℝ) = A (i.val + 32) j.val * (1 / ((min (i.val + 32 - 31) (2 ^ k) : ℕ) : ℝ))
    rw [show i.val + 32 - 31 = i.val + 1 by omega, mul_one_div]

/-- Rows less the rows `w` further on. -/
theorem ahead (w : ℕ) {y : FVec Ideal ⟨2, ![4096, 128]⟩ .f32} {A : ℕ → ℕ → ℝ} (hy : y = M32 (tile A 32 0)) {z : FVec Ideal ⟨0, ![]⟩ .f32} (hz : z = K 0) (h1 : ∀ i j, 4128 ≤ i → A i j = 0)
    (hs : (⟨2, ![4096, 128]⟩ : Shape).Slices ![w, 0] ⟨2, ![p, 128]⟩) (h : (⟨2, ![p, 128]⟩ : Shape).Pads ![0, 0] ![w, 0] ![0, 0] ⟨2, ![4096, 128]⟩) (hu) (hp : p + w = 4096) :
    addf y (pad ⟨2, ![4096, 128]⟩ ![0, 0] ![w, 0] ![0, 0] (extractStridedSlice ⟨2, ![p, 128]⟩ ![w, 0] (Host.negf y) hs) z h hu) = M32 (tile (fun r c => A r c - A (r + w) c) 32 0) := by
  subst hy hz
  rw [hneg_M, show -(tile A 32 0 : Fin 4096 → Fin 128 → ℝ) = tile (fun r c => -A r c) 32 0 from rfl, cut,
    show (tile (fun r c => -A r c) (32 + w) (0 + 0) : Fin p → Fin 128 → ℝ) = tile (fun r c => if r < 32 then 0 else -A (r + w) c) 32 0 from funext fun i => funext fun j => by
      show -A (i.val + (32 + w)) (j.val + (0 + 0)) = if i.val + 32 < 32 then 0 else -A (i.val + 32 + w) (j.val + 0)
      rw [if_neg (by omega), Nat.add_assoc],
    pad_rows _ 32 0 0 w (by omega) h hu (fun i j hi => if_pos hi) (fun i j hi => (if_neg (by omega)).trans (by rw [h1 _ _ (by omega), neg_zero])), addf_M]
  refine congrArg M (funext fun i => funext fun j => ?_)
  show A (i.val + 32) (j.val + 0) + (if i.val + (32 - 0) < 32 then 0 else -A (i.val + (32 - 0) + w) (j.val + 0)) = A (i.val + 32) (j.val + 0) - A (i.val + 32 + w) (j.val + 0)
  rw [if_neg (by omega)]
  exact (sub_eq_add_neg _ _).symm

/-- The pooled rows of one group of columns, from the sums over all the rows so far. -/
theorem pooled (D : Dat) (hu0 : ∀ r c, r < 32 → D.u r c = 0) (s w : ℕ) (hs : s < 4) (hw : w = 2 ^ (s + 1)) {x y : FVec Ideal ⟨2, ![4096, 128]⟩ .f32} {z : FVec Ideal ⟨2, ![w, 128]⟩ .f32} {a : FVec Ideal ⟨2, ![4096, 1]⟩ .f32}
    (hx : x = M32 (tile (fun r c => D.u r (c + 128 * s)) 32 0)) (hy : y = M32 (tile (fun r c => ∑ i ∈ range 4096, D.u (r + i - 4095) (c + 128 * s)) 32 0)) (hz : z = M fun _ _ => 0)
    (ha : a = M32 (colv (upto w))) (hc) (h : Shape.Concatenates [⟨2, ![w, 128]⟩, ⟨2, ![p, 128]⟩] ⟨2, ![4096, 128]⟩ 0) (hd hb) :
    broadcastInDim ⟨3, ![4096, 1, 128]⟩ ![0, 2] hb (subf (Host.divf (subf y (concatenate ⟨2, ![4096, 128]⟩ 0 [⟨⟨2, ![w, 128]⟩, z⟩, ⟨⟨2, ![p, 128]⟩, extractStridedSlice ⟨2, ![p, 128]⟩ ![0, 0] y hc⟩] h))
      (broadcastInDim ⟨2, ![4096, 128]⟩ ![0, 1] hd a)) x) = T3 fun (r : Fin 4096) (_ : Fin 1) (c : Fin 128) => D.pool s (r.val + 32) c.val := by
  have hw32 : w ≤ 32 := by subst hw; interval_cases s <;> decide
  have e : subf y (concatenate ⟨2, ![4096, 128]⟩ 0 [⟨⟨2, ![w, 128]⟩, z⟩, ⟨⟨2, ![p, 128]⟩, extractStridedSlice ⟨2, ![p, 128]⟩ ![0, 0] y hc⟩] h) = M32 (tile (fun r c => ts D.u (s + 1) r (c + 128 * s)) 32 0) := by
    subst hy
    rw [shift (φ := .f32) (fun r c => ∑ i ∈ range 4096, D.u (r + i - 4095) (c + 128 * s)) 32 0 hz (cut _ 32 0 0 0 hc) hw32 (fun i j hi => sum_eq_zero fun k hk => hu0 _ _ (by have := mem_range.mp hk; omega)) h]
    rw [subf_M]
    refine congrArg M (funext fun i => funext fun j => ?_)
    refine Eq.trans ?_ (ts_run D.u hu0 (s + 1) (i.val + 32) (j.val + 128 * s) (by rw [← hw]; omega) (by omega))
    show _ - ∑ k ∈ range 4096, D.u (i.val + (32 - w) + k - 4095) (j.val + 0 + 128 * s) = _ - ∑ k ∈ range 4096, D.u (i.val + 32 - 2 ^ (s + 1) + k - 4095) (j.val + 128 * s)
    rw [← hw, show i.val + (32 - w) = i.val + 32 - w by omega]
    rfl
  rw [hw] at ha
  rw [over (s + 1) e ha hd, hx, subf_M]
  exact single (D.pool s) hb

end Step.Mix
-- ==== Proof.MixA.lean ====
module

public import proofs.«01_k».proof.Proof.MixDat

@[expose] public section

set_option maxRecDepth 16384

noncomputable section

namespace Step.Mix.A

open Idealize Idealize.ShloMosaic
open Cert.MixKIdeal Cert.MixKIdeal.Gen

/-- What the first grid step copies in: the two weights, the second in four parts. -/
structure Start (c : Dev nD) (D : Dat) (T : ℕ) (f0 : HbBuf0 (F := Ideal) c hbM0_0) (f1 : HbBuf0 (F := Ideal) c hbM0_1) : Prop where
  last : T = 7
  win : runA.sl.dma0 (F := Ideal) c f0 = M16 (tile D.win 0 0)
  w0 : runA.sl.dma0_1 (F := Ideal) c f1 = M16 (tile D.wout 0 0)
  w1 : runA.sl.dma0_2 (F := Ideal) c f1 = M16 (tile D.wout 256 0)
  w2 : runA.sl.dma0_3 (F := Ideal) c f1 = M16 (tile D.wout 512 0)
  w3 : runA.sl.dma0_4 (F := Ideal) c f1 = M16 (tile D.wout 768 0)

/-- Four copies of a quarter each are the whole. -/
theorem four {X : ℕ → ℕ → ℝ} {x0 x1 x2 x3 : Vec Ideal S256x1024 .bf16} (h0 : x0 = M16 (tile X 0 0)) (h1 : x1 = M16 (tile X 256 0)) (h2 : x2 = M16 (tile X 512 0)) (h3 : x3 = M16 (tile X 768 0)) {i0 i1 i2 i3} :
    Rd (m := 1024) (n := 1024) (e := .bf16) X 0 0 (fun _ _ => True) [⟨Rect.unit (s := S1024x1024) ![768, 0] S256x1024.size i3, x3⟩, ⟨Rect.unit (s := S1024x1024) ![512, 0] S256x1024.size i2, x2⟩, ⟨Rect.unit (s := S1024x1024) ![256, 0] S256x1024.size i1, x1⟩, ⟨Rect.unit (s := S1024x1024) ![0, 0] S256x1024.size i0, x0⟩] :=
  Rd.cons (m' := 256) (n' := 1024) (w := x3) h3 (Rd.cons (m' := 256) (n' := 1024) (w := x2) h2 (Rd.cons (m' := 256) (n' := 1024) (w := x1) h1 (Rd.cons (m' := 256) (n' := 1024) (w := x0) h0 (Rd.nil (P := fun _ _ => False) fun _ _ _ _ h => h) (P := fun i _ => i < 256) fun i j _ _ h => Or.inl (by omega)) (P := fun i _ => i < 512) fun i j _ _ h => by omega)
    (P := fun i _ => i < 768) fun i j _ _ h => by omega) fun i j _ _ _ => by omega

/-! The sums begin with zeros. -/

theorem z_H15 {P : ℕ → ℕ → Prop} : Rd Sums.none.g 0 0 P (runA.sl.H15_1 (F := Ideal)) := Rd.cons pay5 (Rd.nil (P := fun _ _ => False) fun _ _ _ _ h => h) fun i j _ _ _ => by omega
theorem z_H16 {P : ℕ → ℕ → Prop} : Rd Sums.none.k 0 0 P (runA.sl.H16_1 (F := Ideal)) := Rd.cons pay6 (Rd.nil (P := fun _ _ => False) fun _ _ _ _ h => h) fun i j _ _ _ => by omega
theorem z_H17 {P : ℕ → ℕ → Prop} : Rd Sums.none.s 0 0 P (runA.sl.H17_1 (F := Ideal)) := Rd.cons pay7 (Rd.nil (P := fun _ _ => False) fun _ _ _ _ h => h) fun i j _ _ _ => by omega
theorem z_H18 {P : ℕ → Prop} : R3 Sums.none.w P (runA.sl.H18_1 (F := Ideal)) := R3.base pay8

variable {c : Dev nD} {i : grid0.Coords}
  {a1 : Memref sig .tc .vmem S512x1024 .f32} {h1 : a1.IsWhole}
  {a2 : Memref sig .tc .vmem S512x1024 .f32} {h2 : a2.IsWhole}
  {a3 : Memref sig .tc .vmem S1x1024 .f32} {h3 : a3.IsWhole}
  {a4 : Memref sig .tc .vmem S512x2048 .bf16} {h4 : a4.IsWhole}
  {a5 : Memref sig .tc .vmem S32x2048 .bf16} {h5 : a5.IsWhole}
  {a8 : Memref sig .tc .vmem S3x512 .f32} {h8 : a8.IsWhole}
  {a9 : Memref sig .tc .vmem S4x128x128 .f32} {h9 : a9.IsWhole}
  {a10 : Memref sig .tc .vmem S1x512 .f32} {h10 : a10.IsWhole}
  {a11 : Memref sig .tc .vmem S512x1024 .f32} {h11 : a11.IsWhole}
  {a12 : Memref sig .tc .vmem S512x2048 .bf16} {h12 : a12.IsWhole}
  {a13 : Memref sig .tc .vmem S512x1024 .bf16} {h13 : a13.IsWhole}
  {a14 : Memref sig .tc .vmem S512x1024 .bf16} {h14 : a14.IsWhole}
  {a15 : Memref sig .tc .vmem S1x1024 .f32} {h15 : a15.IsWhole}
  {a16 : Memref sig .tc .vmem S3x512 .f32} {h16 : a16.IsWhole}
  {a17 : Memref sig .tc .vmem S1x512 .f32} {h17 : a17.IsWhole}
  {a18 : Memref sig .tc .vmem S4x128x128 .f32} {h18 : a18.IsWhole}
  {a19 : Memref sig .tc .vmem S2048x1024 .bf16} {h19 : a19.IsWhole}
  {a20 : Memref sig .tc .vmem S1024x1024 .bf16} {h20 : a20.IsWhole}
  {a21 : Memref sig .tc .vmem S544x512 .f32} {h21 : a21.IsWhole}
  {a22 : Memref sig .tc .vmem S544x512 .f32} {h22 : a22.IsWhole}
  {a23 : Memref sig .tc .vmem S520x512 .f32} {h23 : a23.IsWhole}
  {a24 : Memref sig .tc .vmem S544x512 .f32} {h24 : a24.IsWhole}
  {a25 : Memref sig .tc .vmem S3x544x128 .f32} {h25 : a25.IsWhole}
variable {D : Dat} {S : Sums} {T b : ℕ} {v : In Ideal} {f0 : HbBuf0 (F := Ideal) c hbM0_0} {f1 : HbBuf0 (F := Ideal) c hbM0_1}

section
variable (hv : Fed i D T b v)
include hv

theorem r : runA.sl.r a3 h3 v = M32 (tile D.g 0 0) := hv.l_g _
theorem r_1 : runA.sl.r_1 a2 h2 v = M32 fun i _ => rr (tile D.x (b + 32) 0) i := by unfold runA.sl.r_1; rw [hv.l_x, pay9] <;> exact rfl
theorem r_2 : runA.sl.r_2 a2 h2 v = M32 (xh (tile D.x (b + 32) 0)) := by unfold runA.sl.r_2; rw [hv.l_x, pay10] <;> exact rfl
theorem r_3 : runA.sl.r_3 a1 h1 v = M32 (tile D.d (b + 32) 0) := hv.l_d _
theorem r_4 : runA.sl.r_4 a1 h1 v = M16 (tile D.d (b + 32) 0) := by unfold runA.sl.r_4; rw [hv.l_d, pay12] <;> exact rfl
theorem r_6 : runA.sl.r_6 a4 h4 v = M32 (tile D.p (b + 32) 512) := by unfold runA.sl.r_6; rw [hv.l_p, pay14] <;> exact rfl
theorem r_7 : runA.sl.r_7 a4 h4 v = M32 (tile D.p (b + 32) 1024) := by unfold runA.sl.r_7; rw [hv.l_p, pay15] <;> exact rfl
theorem v78 (ho : Start c D T f0 f1) : runA.sl.v78 c a20 f1 = M16 (tile D.wout 0 0) := (four ho.w0 ho.w1 ho.w2 ho.w3).rc _ fun _ _ _ _ => trivial
theorem ag_H23_2 (ho : Start c D T f0 f1) : Ag D.dcv (b + 32) 0 (runA.sl.H23_2 c a1 h1 a4 h4 a20 v f1) := Ag.cons (by rw [r_4 hv, r_6 hv, v78 hv ho, pay27 (hY := D.hY (b + 32))] <;> exact congrArg M (D.t_dcv (b + 32))) (Ag.cons (by rw [pay3] <;> exact congrArg M (hv.c7 ho.last)) (Ag.nil))
omit hv in
theorem cv_H23_2 : Cv (fun _ _ => True) (runA.sl.H23_2 c a1 h1 a4 h4 a20 v f1) := Cv.cons ((show Cv (fun i j => (512 ≤ i ∧ i < 520 ∧ 0 ≤ j ∧ j < 512)) _ from Cv.cons (Cv.nil (P := fun _ _ => False) (fun _ _ _ _ h => h)) (fun i j _ _ h => by omega))) (fun i j _ _ h => by omega)
theorem v90 (ho : Start c D T f0 f1) : runA.sl.v90 c a1 h1 a4 h4 a20 a23 v f1 = M32 (tile D.dcv (b + 33) 0) := rc_ag _ (ag_H23_2 hv ho) cv_H23_2 fun _ _ _ _ => trivial
theorem v95 (ho : Start c D T f0 f1) : runA.sl.v95 c a1 h1 a4 h4 a20 a23 v f1 = M32 (tile D.dcv (b + 34) 0) := rc_ag _ (ag_H23_2 hv ho) cv_H23_2 fun _ _ _ _ => trivial
theorem r_14 (ho : Start c D T f0 f1) : runA.sl.r_14 c a1 h1 a4 h4 a8 h8 a20 a23 v f1 = M32 (tile D.dv (b + 32) 0) := by unfold runA.sl.r_14; rw [hv.l_k, r_4 hv, r_6 hv, r_7 hv, v78 hv ho, v90 hv ho, v95 hv ho, pay30 (hY := D.hY (b + 32))] <;> exact congrArg M (D.t_dv (b + 32))
theorem r_5 : runA.sl.r_5 a4 h4 v = M32 (tile D.p (b + 32) 0) := by unfold runA.sl.r_5; rw [hv.l_p, pay13] <;> exact rfl
theorem r_9 : runA.sl.r_9 a4 h4 v = M32 (tile D.z (b + 32) 0) := by unfold runA.sl.r_9; rw [r_5 hv, r_7 hv, pay20] <;> exact rfl
theorem v0 : runA.sl.v0 i = BitVec.ofNat 32 T := word _ _ hv.hi
theorem ag_H21_2 : Ag D.z (b) 0 (runA.sl.H21_2 i a4 h4 a5 h5 v) := Ag.cons (by rw [r_5 hv, r_7 hv, pay21] <;> exact rfl) (Ag.cons (by rw [hv.l_e, hv.l_e, v0 hv, pay18 (hT := hv.hT)] <;> exact congrArg M hv.z0) (Ag.nil))
omit hv in
theorem cv_H21_2 : Cv (fun _ _ => True) (runA.sl.H21_2 i a4 h4 a5 h5 v) := Cv.cons ((show Cv (fun i j => (0 ≤ i ∧ i < 32 ∧ 0 ≤ j ∧ j < 512)) _ from Cv.cons (Cv.nil (P := fun _ _ => False) (fun _ _ _ _ h => h)) (fun i j _ _ h => by omega))) (fun i j _ _ h => by omega)
theorem v64 : runA.sl.v64 i a4 h4 a5 h5 a21 v = M32 (tile D.z (b + 31) 0) := rc_ag _ (ag_H21_2 hv) cv_H21_2 (fun _ _ _ _ => trivial)
theorem v65 : runA.sl.v65 i a4 h4 a5 h5 a21 v = M32 (tile D.z (b + 30) 0) := rc_ag _ (ag_H21_2 hv) cv_H21_2 (fun _ _ _ _ => trivial)
theorem r_11 (ho : Start c D T f0 f1) : runA.sl.r_11 c i a1 h1 a4 h4 a5 h5 a8 h8 a20 a21 v f1 = M32 (tile D.dgb (b + 32) 0) := by unfold runA.sl.r_11; rw [hv.l_k, r_4 hv, r_9 hv, v64 hv, v65 hv, v78 hv ho, pay25 (hY := D.hY (b + 32))] <;> exact congrArg M (D.t_conv b)
theorem r_13 (ho : Start c D T f0 f1) : runA.sl.r_13 c a1 h1 a4 h4 a8 h8 a20 a23 v f1 = M32 (tile D.dgc (b + 32) 0) := by unfold runA.sl.r_13; rw [hv.l_k, r_4 hv, r_5 hv, r_6 hv, v78 hv ho, v90 hv ho, v95 hv ho, pay29 (hY := D.hY (b + 32))] <;> exact congrArg M (D.t_dgc (b + 32))
theorem r_10 (ho : Start c D T f0 f1) : runA.sl.r_10 c a1 h1 a20 v f1 = M32 (tile D.dy (b + 32) 0) := by unfold runA.sl.r_10; rw [r_4 hv, v78 hv ho, D.hY (b + 32)] <;> exact rfl
theorem r_19 (ho : Start c D T f0 f1) : runA.sl.r_19 c a1 h1 a9 h9 a10 h10 a20 v f1 = M32 (tile (D.dpl 0) (b + 32) 0) := by unfold runA.sl.r_19; rw [hv.l_w, hv.l_s, r_10 hv ho, pay48] <;> exact rfl
theorem r_18 : runA.sl.r_18 i = k0_pay40 (F := Ideal) (BitVec.ofNat 32 T) := by unfold runA.sl.r_18; rw [v0 hv] <;> exact rfl
theorem ag_H24_2 (ho : Start c D T f0 f1) : Ag D.e (b + 32) 0 (runA.sl.H24_2 c i a1 h1 a9 h9 a10 h10 a20 v f1) := Ag.cons (by rw [hv.l_w, hv.l_s, r_10 hv ho, r_18 hv, pay49 (h := hv.n1)] <;> exact congrArg M (D.t_e (b + 32) 0).symm) (Ag.cons (by rw [pay4] <;> exact congrArg M (hv.e7 ho.last)) (Ag.nil))
omit hv in
theorem cv_H24_2 : Cv (fun i j => 512 ≤ i ∨ j < 128) (runA.sl.H24_2 c i a1 h1 a9 h9 a10 h10 a20 v f1) := Cv.cons ((show Cv (fun i j => (512 ≤ i ∧ i < 544 ∧ 0 ≤ j ∧ j < 512)) _ from Cv.cons (Cv.nil (P := fun _ _ => False) (fun _ _ _ _ h => h)) (fun i j _ _ h => by omega))) (fun i j _ _ h => by omega)
theorem v176 (ho : Start c D T f0 f1) : runA.sl.v176 c i a1 h1 a9 h9 a10 h10 a20 a24 v f1 = M32 (tile D.e (b + 32) 0) := rc_ag _ (ag_H24_2 hv ho) cv_H24_2 (fun i j _ _ => by omega)
theorem v177 (ho : Start c D T f0 f1) : runA.sl.v177 c i a1 h1 a9 h9 a10 h10 a20 a24 v f1 = M32 (tile D.e (b + 33) 0) := rc_ag _ (ag_H24_2 hv ho) cv_H24_2 (fun i j _ _ => by omega)
theorem r_22 : runA.sl.r_22 a9 h9 v = M16 (tile (D.w 1) 0 0) := by unfold runA.sl.r_22; rw [hv.l_w, pay54] <;> exact rfl
theorem r_23 (ho : Start c D T f0 f1) : runA.sl.r_23 c a1 h1 a20 v f1 = M32 (tile D.dy (b + 32) 640) := by unfold runA.sl.r_23; rw [r_10 hv ho, pay55] <;> exact rfl
theorem r_24 (ho : Start c D T f0 f1) : runA.sl.r_24 c a1 h1 a9 h9 a10 h10 a20 v f1 = M32 (tile (D.dpl 1) (b + 32) 0) := by unfold runA.sl.r_24; rw [hv.l_s, r_22 hv, r_23 hv ho, pay59] <;> exact rfl
theorem r_15 : runA.sl.r_15 i = k0_pay37 (BitVec.ofNat 32 T) := by unfold runA.sl.r_15; rw [v0 hv] <;> exact rfl
theorem r_20 : runA.sl.r_20 i = M32 (invc 2 (b + 32)) := by unfold runA.sl.r_20; rw [r_15 hv, hv.n2]
theorem ag_H24_3 (ho : Start c D T f0 f1) : Ag D.e (b + 32) 0 (runA.sl.H24_3 c i a1 h1 a9 h9 a10 h10 a20 v f1) := Ag.cons (by rw [hv.l_s, r_20 hv, r_22 hv, r_23 hv ho, pay60] <;> exact congrArg M (D.t_e (b + 32) 1).symm) (ag_H24_2 hv ho)
omit hv in
theorem cv_H24_3 : Cv (fun i j => 512 ≤ i ∨ j < 256) (runA.sl.H24_3 c i a1 h1 a9 h9 a10 h10 a20 v f1) := Cv.cons (cv_H24_2) (fun i j _ _ h => by omega)
theorem v234 (ho : Start c D T f0 f1) : runA.sl.v234 c i a1 h1 a9 h9 a10 h10 a20 a24 v f1 = M32 (tile D.e (b + 32) 128) := rc_ag _ (ag_H24_3 hv ho) cv_H24_3 (fun i j _ _ => by omega)
theorem v235 (ho : Start c D T f0 f1) : runA.sl.v235 c i a1 h1 a9 h9 a10 h10 a20 a24 v f1 = M32 (tile D.e (b + 33) 128) := rc_ag _ (ag_H24_3 hv ho) cv_H24_3 (fun i j _ _ => by omega)
theorem tp_H25_2 (ho : Start c D T f0 f1) : Tp (fs D.e 1) (b + 32) 128 0 0 536 (runA.sl.H25_2 c i a1 h1 a4 h4 a5 h5 a9 h9 a10 h10 a20 a22 a24 v f1) := ⟨_, _, _, rfl, by rw [v234 hv ho, v235 hv ho, pay61] <;> exact congrArg L1 (fs_tile D.e 0 (b + 32) 128)⟩
theorem v240 (ho : Start c D T f0 f1) : runA.sl.v240 c i a1 h1 a4 h4 a5 h5 a9 h9 a10 h10 a20 a22 a24 a25 v f1 = L1 (tile (fs D.e 1) (b + 32) 128) := (tp_H25_2 hv ho).rc 0 _ (by decide)
theorem v242 (ho : Start c D T f0 f1) : runA.sl.v242 c i a1 h1 a4 h4 a5 h5 a9 h9 a10 h10 a20 a22 a24 a25 v f1 = L1 (tile (fs D.e 1) (b + 34) 128) := (tp_H25_2 hv ho).rc 2 _ (by decide)
theorem r_29 (ho : Start c D T f0 f1) : runA.sl.r_29 c a1 h1 a9 h9 a10 h10 a20 v f1 = M32 (tile (D.dpl 2) (b + 32) 0) := by unfold runA.sl.r_29; rw [hv.l_w, hv.l_s, r_10 hv ho, pay75] <;> exact rfl
theorem r_28 : runA.sl.r_28 i = M32 (invc 3 (b + 32)) := by unfold runA.sl.r_28; rw [r_15 hv, hv.n3]
theorem ag_H24_4 (ho : Start c D T f0 f1) : Ag D.e (b + 32) 0 (runA.sl.H24_4 c i a1 h1 a9 h9 a10 h10 a20 v f1) := Ag.cons (by rw [r_28 hv, r_29 hv ho, pay76] <;> exact congrArg M (D.t_e (b + 32) 2).symm) (ag_H24_3 hv ho)
omit hv in
theorem cv_H24_4 : Cv (fun i j => 512 ≤ i ∨ j < 384) (runA.sl.H24_4 c i a1 h1 a9 h9 a10 h10 a20 v f1) := Cv.cons (cv_H24_3) (fun i j _ _ h => by omega)
theorem v308 (ho : Start c D T f0 f1) : runA.sl.v308 c i a1 h1 a9 h9 a10 h10 a20 a24 v f1 = M32 (tile D.e (b + 32) 256) := rc_ag _ (ag_H24_4 hv ho) cv_H24_4 (fun i j _ _ => by omega)
theorem v309 (ho : Start c D T f0 f1) : runA.sl.v309 c i a1 h1 a9 h9 a10 h10 a20 a24 v f1 = M32 (tile D.e (b + 33) 256) := rc_ag _ (ag_H24_4 hv ho) cv_H24_4 (fun i j _ _ => by omega)
theorem tp_H25_5 (ho : Start c D T f0 f1) : Tp (fs D.e 1) (b + 32) 256 0 0 536 (runA.sl.H25_5 c i a1 h1 a4 h4 a5 h5 a9 h9 a10 h10 a20 a22 a24 a25 v f1) := ⟨_, _, _, rfl, by rw [v308 hv ho, v309 hv ho, pay77] <;> exact congrArg L1 (fs_tile D.e 0 (b + 32) 256)⟩
theorem v314 (ho : Start c D T f0 f1) : runA.sl.v314 c i a1 h1 a4 h4 a5 h5 a9 h9 a10 h10 a20 a22 a24 a25 v f1 = L1 (tile (fs D.e 1) (b + 32) 256) := (tp_H25_5 hv ho).rc 0 _ (by decide)
theorem v316 (ho : Start c D T f0 f1) : runA.sl.v316 c i a1 h1 a4 h4 a5 h5 a9 h9 a10 h10 a20 a22 a24 a25 v f1 = L1 (tile (fs D.e 1) (b + 34) 256) := (tp_H25_5 hv ho).rc 2 _ (by decide)
theorem tp_H25_6 (ho : Start c D T f0 f1) : Tp (fs D.e 2) (b + 32) 256 1 0 528 (runA.sl.H25_6 c i a1 h1 a4 h4 a5 h5 a9 h9 a10 h10 a20 a22 a24 a25 v f1) := ⟨_, _, _, rfl, by rw [v314 hv ho, v316 hv ho, pay78] <;> exact congrArg L1 (fs_tile D.e 1 (b + 32) 256)⟩
theorem v322 (ho : Start c D T f0 f1) : runA.sl.v322 c i a1 h1 a4 h4 a5 h5 a9 h9 a10 h10 a20 a22 a24 a25 v f1 = L1 (tile (fs D.e 2) (b + 32) 256) := (tp_H25_6 hv ho).rc 0 _ (by decide)
theorem v324 (ho : Start c D T f0 f1) : runA.sl.v324 c i a1 h1 a4 h4 a5 h5 a9 h9 a10 h10 a20 a22 a24 a25 v f1 = L1 (tile (fs D.e 2) (b + 36) 256) := (tp_H25_6 hv ho).rc 4 _ (by decide)
theorem r_32 (ho : Start c D T f0 f1) : runA.sl.r_32 c a1 h1 a9 h9 a10 h10 a20 v f1 = M32 (tile (D.dpl 3) (b + 32) 0) := by unfold runA.sl.r_32; rw [hv.l_w, hv.l_s, r_10 hv ho, pay92] <;> exact rfl
theorem r_33 (ho : Start c D T f0 f1) : runA.sl.r_33 c i a1 h1 a9 h9 a10 h10 a20 v f1 = M32 (tile (D.eg 3) (b + 32) 0) := by unfold runA.sl.r_33; rw [hv.l_w, hv.l_s, r_10 hv ho, r_15 hv, pay93 (h := hv.n4)] <;> exact rfl
theorem ag_H24_5 (ho : Start c D T f0 f1) : Ag D.e (b + 32) 0 (runA.sl.H24_5 c i a1 h1 a9 h9 a10 h10 a20 v f1) := Ag.cons (by rw [r_33 hv ho, pay94] <;> exact congrArg M (D.t_e (b + 32) 3).symm) (ag_H24_4 hv ho)
omit hv in
theorem cv_H24_5 : Cv (fun i j => 512 ≤ i ∨ j < 512) (runA.sl.H24_5 c i a1 h1 a9 h9 a10 h10 a20 v f1) := Cv.cons (cv_H24_4) (fun i j _ _ h => by omega)
theorem v398 (ho : Start c D T f0 f1) : runA.sl.v398 c i a1 h1 a9 h9 a10 h10 a20 a24 v f1 = M32 (tile D.e (b + 32) 384) := rc_ag _ (ag_H24_5 hv ho) cv_H24_5 (fun i j _ _ => by omega)
theorem v399 (ho : Start c D T f0 f1) : runA.sl.v399 c i a1 h1 a9 h9 a10 h10 a20 a24 v f1 = M32 (tile D.e (b + 33) 384) := rc_ag _ (ag_H24_5 hv ho) cv_H24_5 (fun i j _ _ => by omega)
theorem tp_H25_10 (ho : Start c D T f0 f1) : Tp (fs D.e 1) (b + 32) 384 0 0 536 (runA.sl.H25_10 c i a1 h1 a4 h4 a5 h5 a9 h9 a10 h10 a20 a22 a24 a25 v f1) := ⟨_, _, _, rfl, by rw [v398 hv ho, v399 hv ho, pay95] <;> exact congrArg L1 (fs_tile D.e 0 (b + 32) 384)⟩
theorem v404 (ho : Start c D T f0 f1) : runA.sl.v404 c i a1 h1 a4 h4 a5 h5 a9 h9 a10 h10 a20 a22 a24 a25 v f1 = L1 (tile (fs D.e 1) (b + 32) 384) := (tp_H25_10 hv ho).rc 0 _ (by decide)
theorem v406 (ho : Start c D T f0 f1) : runA.sl.v406 c i a1 h1 a4 h4 a5 h5 a9 h9 a10 h10 a20 a22 a24 a25 v f1 = L1 (tile (fs D.e 1) (b + 34) 384) := (tp_H25_10 hv ho).rc 2 _ (by decide)
theorem tp_H25_11 (ho : Start c D T f0 f1) : Tp (fs D.e 2) (b + 32) 384 1 0 528 (runA.sl.H25_11 c i a1 h1 a4 h4 a5 h5 a9 h9 a10 h10 a20 a22 a24 a25 v f1) := ⟨_, _, _, rfl, by rw [v404 hv ho, v406 hv ho, pay96] <;> exact congrArg L1 (fs_tile D.e 1 (b + 32) 384)⟩
theorem v412 (ho : Start c D T f0 f1) : runA.sl.v412 c i a1 h1 a4 h4 a5 h5 a9 h9 a10 h10 a20 a22 a24 a25 v f1 = L1 (tile (fs D.e 2) (b + 32) 384) := (tp_H25_11 hv ho).rc 0 _ (by decide)
theorem v414 (ho : Start c D T f0 f1) : runA.sl.v414 c i a1 h1 a4 h4 a5 h5 a9 h9 a10 h10 a20 a22 a24 a25 v f1 = L1 (tile (fs D.e 2) (b + 36) 384) := (tp_H25_11 hv ho).rc 4 _ (by decide)
theorem tp_H25_12 (ho : Start c D T f0 f1) : Tp (fs D.e 3) (b + 32) 384 2 0 520 (runA.sl.H25_12 c i a1 h1 a4 h4 a5 h5 a9 h9 a10 h10 a20 a22 a24 a25 v f1) := ⟨_, _, _, rfl, by rw [v412 hv ho, v414 hv ho, pay97] <;> exact congrArg L1 (fs_tile D.e 2 (b + 32) 384)⟩
theorem v435 (ho : Start c D T f0 f1) : runA.sl.v c i a1 h1 a4 h4 a5 h5 a9 h9 a10 h10 a20 a22 a24 a25 v f1 = L1 (tile (fs D.e 3) (b + 32) 384) := (tp_H25_12 hv ho).rc 0 _ (by decide)
theorem v422 (ho : Start c D T f0 f1) : runA.sl.v422 c i a1 h1 a4 h4 a5 h5 a9 h9 a10 h10 a20 a22 a24 a25 v f1 = L1 (tile (fs D.e 3) (b + 40) 384) := (tp_H25_12 hv ho).rc 8 _ (by decide)
theorem ag_H12_7 (ho : Start c D T f0 f1) : Ag D.dp (b + 32) 0 (runA.sl.H12_7 c i a1 h1 a4 h4 a5 h5 a8 h8 a9 h9 a10 h10 a20 a21 a22 a23 a24 a25 v f1) := Ag.cons (by rw [r_32 hv ho, v435 hv ho, v422 hv ho, pay98] <;> exact congrArg M ((D.t_du (b + 32) 3).trans (D.t_dp3 (b + 32) 3).symm)) (Ag.cons (by rw [r_29 hv ho, v322 hv ho, v324 hv ho, pay79] <;> exact congrArg M ((D.t_du (b + 32) 2).trans (D.t_dp3 (b + 32) 2).symm)) (Ag.cons (by rw [r_24 hv ho, v240 hv ho, v242 hv ho, pay62] <;> exact congrArg M ((D.t_du (b + 32) 1).trans (D.t_dp3 (b + 32) 1).symm)) (Ag.cons (by rw [r_19 hv ho, v176 hv ho, v177 hv ho, pay50] <;> exact congrArg M ((D.t_du (b + 32) 0).trans (D.t_dp3 (b + 32) 0).symm)) (Ag.cons (by rw [r_13 hv ho, pay36] <;> exact congrArg M (D.t_dp2 (b + 32)).symm) (Ag.cons (by rw [r_11 hv ho, pay35] <;> exact congrArg M (D.t_dp1 (b + 32)).symm) (Ag.cons (by rw [r_14 hv ho, pay34] <;> exact congrArg M (D.t_dp0 (b + 32)).symm) (Ag.nil)))))))
omit hv in
theorem cv_H12_7 : Cv (fun _ _ => True) (runA.sl.H12_7 c i a1 h1 a4 h4 a5 h5 a8 h8 a9 h9 a10 h10 a20 a21 a22 a23 a24 a25 v f1) := Cv.cons ((show Cv (fun i j => (0 ≤ i ∧ i < 512 ∧ 1792 ≤ j ∧ j < 1920) ∨ (0 ≤ i ∧ i < 512 ∧ 1664 ≤ j ∧ j < 1792) ∨ (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1664 ≤ j ∧ j < 1792) ∨ (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 0 ≤ j ∧ j < 512)) _ from Cv.cons (Cv.nil (P := fun _ _ => False) (fun _ _ _ _ h => h)) (fun i j _ _ h => by omega))) (fun i j _ _ h => by omega))) (fun i j _ _ h => by omega))) (fun i j _ _ h => by omega))) (fun i j _ _ h => by omega))) (fun i j _ _ h => by omega))) (fun i j _ _ h => by omega)
theorem v428 (ho : Start c D T f0 f1) : runA.sl.v428 c i a1 h1 a4 h4 a5 h5 a8 h8 a9 h9 a10 h10 a12 a20 a21 a22 a23 a24 a25 v f1 = M16 (tile D.dp (b + 32) 0) := rc_ag _ (ag_H12_7 hv ho) cv_H12_7 (fun _ _ _ _ => trivial)
theorem v453 (ho : Start c D T f0 f1) : runA.sl.v453 c a1 h1 a4 h4 a20 a23 v f1 = M32 (tile D.dcv (b + 32) 0) := rc_ag _ (ag_H23_2 hv ho) cv_H23_2 fun _ _ _ _ => trivial
theorem v457 (ho : Start c D T f0 f1) : runA.sl.v457 c i a1 h1 a9 h9 a10 h10 a20 a24 v f1 = M32 (tile D.e (b + 32) 0) := rc_ag _ (ag_H24_5 hv ho) cv_H24_5 (fun i j _ _ => by omega)
theorem v210 (ho : Start c D T f0 f1) : runA.sl.v210 c i a1 h1 a4 h4 a5 h5 a9 h9 a17 a20 a22 v f1 = M32 (tile Sums.none.s 0 128) := (show Rd Sums.none.s 0 0 (fun _ j => 128 ≤ j) (runA.sl.H17_2 c i a1 h1 a4 h4 a5 h5 a9 h9 a17 a20 a22 v f1) from (Rd.skip z_H17 fun i j _ _ h => by omega)).rc _ (fun i j _ _ => by omega)
theorem v284 (ho : Start c D T f0 f1) : runA.sl.v284 c i a1 h1 a4 h4 a5 h5 a9 h9 a17 a20 a22 a25 v f1 = M32 (tile Sums.none.s 0 256) := (show Rd Sums.none.s 0 0 (fun _ j => 256 ≤ j) (runA.sl.H17_3 c i a1 h1 a4 h4 a5 h5 a9 h9 a17 a20 a22 a25 v f1) from (Rd.skip (Rd.skip z_H17 fun i j _ _ h => by omega) fun i j _ _ h => by omega)).rc _ (fun i j _ _ => by omega)
theorem v374 (ho : Start c D T f0 f1) : runA.sl.v374 c i a1 h1 a4 h4 a5 h5 a9 h9 a10 h10 a17 a20 a22 a24 a25 v f1 = M32 (tile Sums.none.s 0 384) := (show Rd Sums.none.s 0 0 (fun _ j => 384 ≤ j) (runA.sl.H17_4 c i a1 h1 a4 h4 a5 h5 a9 h9 a10 h10 a17 a20 a22 a24 a25 v f1) from (Rd.skip (Rd.skip (Rd.skip z_H17 fun i j _ _ h => by omega) fun i j _ _ h => by omega) fun i j _ _ h => by omega)).rc _ (fun i j _ _ => by omega)
theorem v221 (ho : Start c D T f0 f1) : runA.sl.v221 c i a1 h1 a4 h4 a5 h5 a10 h10 a18 a20 a22 v f1 = L1 (tile (Sums.none.w 1) 0 0) := (show R3 Sums.none.w (fun i => i = 1) (runA.sl.H18_2 c i a1 h1 a4 h4 a5 h5 a10 h10 a18 a20 a22 v f1) from (R3.skip z_H18 (by decide))).rc _ (rfl)
theorem v295 (ho : Start c D T f0 f1) : runA.sl.v295 c i a1 h1 a4 h4 a5 h5 a10 h10 a18 a20 a22 a25 v f1 = L1 (tile (Sums.none.w 2) 0 0) := (show R3 Sums.none.w (fun i => i = 2) (runA.sl.H18_3 c i a1 h1 a4 h4 a5 h5 a10 h10 a18 a20 a22 a25 v f1) from (R3.skip (R3.skip z_H18 (by decide)) (by decide))).rc _ (rfl)
theorem v385 (ho : Start c D T f0 f1) : runA.sl.v385 c i a1 h1 a4 h4 a5 h5 a9 h9 a10 h10 a18 a20 a22 a24 a25 v f1 = L1 (tile (Sums.none.w 3) 0 0) := (show R3 Sums.none.w (fun i => i = 3) (runA.sl.H18_4 c i a1 h1 a4 h4 a5 h5 a9 h9 a10 h10 a18 a20 a22 a24 a25 v f1) from (R3.skip (R3.skip (R3.skip z_H18 (by decide)) (by decide)) (by decide))).rc _ (rfl)
theorem v108 (ho : Start c D T f0 f1) : runA.sl.v108 c i a1 h1 a4 h4 a5 h5 a16 a20 a21 v f1 = M32 (tile Sums.none.k 1 0) := (show Rd Sums.none.k 0 0 (fun i _ => 1 ≤ i) (runA.sl.H16_2 c i a1 h1 a4 h4 a5 h5 a16 a20 a21 v f1) from (Rd.skip z_H16 fun i j _ _ h => by omega)).rc _ (fun i j _ _ => by omega)
theorem v115 (ho : Start c D T f0 f1) : runA.sl.v115 c i a1 h1 a4 h4 a5 h5 a16 a20 a21 v f1 = M32 (tile Sums.none.k 2 0) := (show Rd Sums.none.k 0 0 (fun i _ => 2 ≤ i) (runA.sl.H16_3 c i a1 h1 a4 h4 a5 h5 a16 a20 a21 v f1) from (Rd.skip (Rd.skip z_H16 fun i j _ _ h => by omega) fun i j _ _ h => by omega)).rc _ (fun i j _ _ => by omega)
theorem r_8 : runA.sl.r_8 a4 h4 v = M32 (tile D.u (b + 32) 0) := by unfold runA.sl.r_8; rw [hv.l_p, pay16] <;> exact rfl
theorem ag_H22_2 : Ag D.u (b) 0 (runA.sl.H22_2 i a4 h4 a5 h5 v) := Ag.cons (by rw [hv.l_p, pay22] <;> exact rfl) (Ag.cons (by rw [hv.l_e, v0 hv, pay19 (hT := hv.hT)] <;> exact congrArg M hv.u0) (Ag.nil))
omit hv in
theorem cv_H22_2 : Cv (fun _ _ => True) (runA.sl.H22_2 i a4 h4 a5 h5 v) := Cv.cons ((show Cv (fun i j => (0 ≤ i ∧ i < 32 ∧ 0 ≤ j ∧ j < 512)) _ from Cv.cons (Cv.nil (P := fun _ _ => False) (fun _ _ _ _ h => h)) (fun i j _ _ h => by omega))) (fun i j _ _ h => by omega)
theorem v183 : runA.sl.v183 i a4 h4 a5 h5 a22 v = M32 (tile D.u (b + 8) 128) := rc_ag _ (ag_H22_2 hv) cv_H22_2 (fun _ _ _ _ => trivial)
theorem v184 : runA.sl.v184 i a4 h4 a5 h5 a22 v = M32 (tile D.u (b + 7) 128) := rc_ag _ (ag_H22_2 hv) cv_H22_2 (fun _ _ _ _ => trivial)
theorem tp_H25_1 : Tp (ts D.u 1) (b + 8) 128 0 8 536 (runA.sl.H25_1 i a4 h4 a5 h5 a22 v) := ⟨_, _, _, rfl, by rw [v183 hv, v184 hv, pay51] <;> exact congrArg L1 (ts_tile D.u 0 (b + 7) 128)⟩
theorem v189 : runA.sl.v189 i a4 h4 a5 h5 a22 a25 v = L1 (tile (ts D.u 1) (b + 32) 128) := (tp_H25_1 hv).rc 24 _ (by decide)
theorem v191 : runA.sl.v191 i a4 h4 a5 h5 a22 a25 v = L1 (tile (ts D.u 1) (b + 30) 128) := (tp_H25_1 hv).rc 22 _ (by decide)
theorem r_21 : runA.sl.r_21 i a4 h4 a5 h5 a22 a25 v = M16 (tile (D.pool 1) (b + 32) 0) := by unfold runA.sl.r_21; rw [r_8 hv, r_15 hv, v189 hv, v191 hv, pay53 (h := hv.n2)] <;> exact congrArg (fun X => M (pl X (tile D.u (b + 32) 128) (invc 2 (b + 32)))) (ts_tile D.u 1 (b + 30) 128)
theorem v331 : runA.sl.v331 i a4 h4 a5 h5 a22 v = M32 (tile D.u (b + 8) 384) := rc_ag _ (ag_H22_2 hv) cv_H22_2 (fun _ _ _ _ => trivial)
theorem v332 : runA.sl.v332 i a4 h4 a5 h5 a22 v = M32 (tile D.u (b + 7) 384) := rc_ag _ (ag_H22_2 hv) cv_H22_2 (fun _ _ _ _ => trivial)
theorem tp_H25_7 (ho : Start c D T f0 f1) : Tp (ts D.u 1) (b + 8) 384 0 8 536 (runA.sl.H25_7 c i a1 h1 a4 h4 a5 h5 a9 h9 a10 h10 a20 a22 a24 a25 v f1) := ⟨_, _, _, rfl, by rw [v331 hv, v332 hv, pay81] <;> exact congrArg L1 (ts_tile D.u 0 (b + 7) 384)⟩
theorem v337 (ho : Start c D T f0 f1) : runA.sl.v337 c i a1 h1 a4 h4 a5 h5 a9 h9 a10 h10 a20 a22 a24 a25 v f1 = L1 (tile (ts D.u 1) (b + 16) 384) := (tp_H25_7 hv ho).rc 8 _ (by decide)
theorem v339 (ho : Start c D T f0 f1) : runA.sl.v339 c i a1 h1 a4 h4 a5 h5 a9 h9 a10 h10 a20 a22 a24 a25 v f1 = L1 (tile (ts D.u 1) (b + 14) 384) := (tp_H25_7 hv ho).rc 6 _ (by decide)
theorem tp_H25_8 (ho : Start c D T f0 f1) : Tp (ts D.u 2) (b + 16) 384 1 16 528 (runA.sl.H25_8 c i a1 h1 a4 h4 a5 h5 a9 h9 a10 h10 a20 a22 a24 a25 v f1) := ⟨_, _, _, rfl, by rw [v337 hv ho, v339 hv ho, pay82] <;> exact congrArg L1 (ts_tile D.u 1 (b + 14) 384)⟩
theorem v345 (ho : Start c D T f0 f1) : runA.sl.v345 c i a1 h1 a4 h4 a5 h5 a9 h9 a10 h10 a20 a22 a24 a25 v f1 = L1 (tile (ts D.u 2) (b + 24) 384) := (tp_H25_8 hv ho).rc 8 _ (by decide)
theorem v347 (ho : Start c D T f0 f1) : runA.sl.v347 c i a1 h1 a4 h4 a5 h5 a9 h9 a10 h10 a20 a22 a24 a25 v f1 = L1 (tile (ts D.u 2) (b + 20) 384) := (tp_H25_8 hv ho).rc 4 _ (by decide)
theorem tp_H25_9 (ho : Start c D T f0 f1) : Tp (ts D.u 3) (b + 24) 384 2 24 520 (runA.sl.H25_9 c i a1 h1 a4 h4 a5 h5 a9 h9 a10 h10 a20 a22 a24 a25 v f1) := ⟨_, _, _, rfl, by rw [v345 hv ho, v347 hv ho, pay83] <;> exact congrArg L1 (ts_tile D.u 2 (b + 20) 384)⟩
theorem v353 (ho : Start c D T f0 f1) : runA.sl.v353 c i a1 h1 a4 h4 a5 h5 a9 h9 a10 h10 a20 a22 a24 a25 v f1 = L1 (tile (ts D.u 3) (b + 32) 384) := (tp_H25_9 hv ho).rc 8 _ (by decide)
theorem v355 (ho : Start c D T f0 f1) : runA.sl.v355 c i a1 h1 a4 h4 a5 h5 a9 h9 a10 h10 a20 a22 a24 a25 v f1 = L1 (tile (ts D.u 3) (b + 24) 384) := (tp_H25_9 hv ho).rc 0 _ (by decide)
theorem r_31 (ho : Start c D T f0 f1) : runA.sl.r_31 c i a1 h1 a4 h4 a5 h5 a9 h9 a10 h10 a20 a22 a24 a25 v f1 = M32 (tile (ts D.u 4) (b + 32) 384) := by unfold runA.sl.r_31; rw [v353 hv ho, v355 hv ho, pay84] <;> exact congrArg M (ts_tile D.u 3 (b + 24) 384)
theorem r_16 : runA.sl.r_16 a4 h4 v = M32 (tile D.u (b + 32) 0) := by unfold runA.sl.r_16; rw [r_8 hv, pay38] <;> exact rfl
theorem v133 : runA.sl.v133 i a4 h4 a5 h5 a22 v = M32 (tile D.u (b + 32) 0) := rc_ag _ (ag_H22_2 hv) cv_H22_2 (fun _ _ _ _ => trivial)
theorem v134 : runA.sl.v134 i a4 h4 a5 h5 a22 v = M32 (tile D.u (b + 31) 0) := rc_ag _ (ag_H22_2 hv) cv_H22_2 (fun _ _ _ _ => trivial)
theorem r_17 : runA.sl.r_17 i a4 h4 a5 h5 a22 v = M32 (tile (ts D.u 1) (b + 32) 0) := by unfold runA.sl.r_17; rw [v133 hv, v134 hv, pay39] <;> exact congrArg M (ts_tile D.u 0 (b + 31) 0)
theorem r_12 (ho : Start c D T f0 f1) : runA.sl.r_12 c a1 h1 a4 h4 a20 v f1 = M32 (tile D.dcv (b + 32) 0) := by unfold runA.sl.r_12; rw [r_4 hv, r_6 hv, v78 hv ho, pay26 (hY := D.hY (b + 32))] <;> exact congrArg M (D.t_dcv (b + 32))
theorem r_25 : runA.sl.r_25 a4 h4 v = M32 (tile D.u (b + 32) 256) := by unfold runA.sl.r_25; rw [r_8 hv, pay63] <;> exact rfl
theorem v249 : runA.sl.v249 i a4 h4 a5 h5 a22 v = M32 (tile D.u (b + 8) 256) := rc_ag _ (ag_H22_2 hv) cv_H22_2 (fun _ _ _ _ => trivial)
theorem v250 : runA.sl.v250 i a4 h4 a5 h5 a22 v = M32 (tile D.u (b + 7) 256) := rc_ag _ (ag_H22_2 hv) cv_H22_2 (fun _ _ _ _ => trivial)
theorem tp_H25_3 (ho : Start c D T f0 f1) : Tp (ts D.u 1) (b + 8) 256 0 8 536 (runA.sl.H25_3 c i a1 h1 a4 h4 a5 h5 a9 h9 a10 h10 a20 a22 a24 v f1) := ⟨_, _, _, rfl, by rw [v249 hv, v250 hv, pay64] <;> exact congrArg L1 (ts_tile D.u 0 (b + 7) 256)⟩
theorem v255 (ho : Start c D T f0 f1) : runA.sl.v255 c i a1 h1 a4 h4 a5 h5 a9 h9 a10 h10 a20 a22 a24 a25 v f1 = L1 (tile (ts D.u 1) (b + 16) 256) := (tp_H25_3 hv ho).rc 8 _ (by decide)
theorem v257 (ho : Start c D T f0 f1) : runA.sl.v257 c i a1 h1 a4 h4 a5 h5 a9 h9 a10 h10 a20 a22 a24 a25 v f1 = L1 (tile (ts D.u 1) (b + 14) 256) := (tp_H25_3 hv ho).rc 6 _ (by decide)
theorem tp_H25_4 (ho : Start c D T f0 f1) : Tp (ts D.u 2) (b + 16) 256 1 16 528 (runA.sl.H25_4 c i a1 h1 a4 h4 a5 h5 a9 h9 a10 h10 a20 a22 a24 a25 v f1) := ⟨_, _, _, rfl, by rw [v255 hv ho, v257 hv ho, pay65] <;> exact congrArg L1 (ts_tile D.u 1 (b + 14) 256)⟩
theorem v263 (ho : Start c D T f0 f1) : runA.sl.v263 c i a1 h1 a4 h4 a5 h5 a9 h9 a10 h10 a20 a22 a24 a25 v f1 = L1 (tile (ts D.u 2) (b + 32) 256) := (tp_H25_4 hv ho).rc 16 _ (by decide)
theorem r_26 (ho : Start c D T f0 f1) : runA.sl.r_26 c i a1 h1 a4 h4 a5 h5 a9 h9 a10 h10 a20 a22 a24 a25 v f1 = M32 (tile (ts D.u 2) (b + 32) 256) := by unfold runA.sl.r_26; rw [v263 hv ho, pay66] <;> exact rfl
theorem v265 (ho : Start c D T f0 f1) : runA.sl.v265 c i a1 h1 a4 h4 a5 h5 a9 h9 a10 h10 a20 a22 a24 a25 v f1 = L1 (tile (ts D.u 2) (b + 28) 256) := (tp_H25_4 hv ho).rc 12 _ (by decide)
theorem r_27 (ho : Start c D T f0 f1) : runA.sl.r_27 c i a1 h1 a4 h4 a5 h5 a9 h9 a10 h10 a20 a22 a24 a25 v f1 = M32 (tile (ts D.u 2) (b + 28) 256) := by unfold runA.sl.r_27; rw [v265 hv ho, pay67] <;> exact rfl
theorem r_30 : runA.sl.r_30 a4 h4 v = M32 (tile D.u (b + 32) 384) := by unfold runA.sl.r_30; rw [r_8 hv, pay80] <;> exact rfl
theorem v430 (ho : Start c D T f0 f1) : runA.sl.v430 c a19 f0 = M16 (tile D.win 0 0) := (readCov_whole _ hz _ _ _).trans ho.win
theorem v432 : runA.sl.v432 (F := Ideal) a15 = M32 (tile Sums.none.g 0 0) := (show Rd Sums.none.g 0 0 (fun _ _ => True) (runA.sl.H15_1) from z_H15).rc _ (fun _ _ _ _ => trivial)
theorem v101 : runA.sl.v101 (F := Ideal) a16 = M32 (tile Sums.none.k 0 0) := (show Rd Sums.none.k 0 0 (fun i _ => 0 ≤ i) (runA.sl.H16_1) from z_H16).rc _ (fun i j _ _ => by omega)
theorem v152 : runA.sl.v152 (F := Ideal) a17 = M32 (tile Sums.none.s 0 0) := (show Rd Sums.none.s 0 0 (fun _ j => 0 ≤ j) (runA.sl.H17_1) from z_H17).rc _ (fun i j _ _ => by omega)
theorem v163 : runA.sl.v163 (F := Ideal) a18 = L1 (tile (Sums.none.w 0) 0 0) := (show R3 Sums.none.w (fun i => i = 0) (runA.sl.H18_1) from z_H18).rc _ (rfl)

/-! ### The first grid step -/

end

variable (hc : cond0_0 i) (hv : Fed i D T b v) (ho : Start c D T f0 f1)
local notation "stores" => Subtype.val (runA (F := Ideal) c i a1 h1 a2 h2 a3 h3 a4 h4 a5 h5 a8 h8 a9 h9 a10 h10 a11 h11 a12 h12 a13 h13 a14 h14 a15 h15 a16 h16 a17 h17 a18 h18 a19 h19 a20 h20 a21 h21 a22 h22 a23 h23 a24 h24 a25 h25 hc v f0 f1)
include hv ho

theorem o_dx : View.canon (stores).dx = M32 (Step.Ffn.bx (tile D.d (b + 32) 0) (tile D.x (b + 32) 0) (tile D.dh (b + 32) 0) D.gain) :=
  (View.canon_unit_zero hz _ _).trans (by rw [r hv, r_1 hv, r_2 hv, r_3 hv, v428 hv ho, v430 hv ho, pay101] <;> exact rfl)
theorem o_dp : View.canon (stores).dp = M16 (tile D.dp (b + 32) 0) := canon_ag (ag_H12_7 hv ho) cv_H12_7 fun _ _ _ _ => trivial
theorem o_h : View.canon (stores).h = M16 (hn (tile D.x (b + 32) 0) D.gain) := (View.canon_unit_zero hz _ _).trans (by rw [hv.l_x, hv.l_g, pay11] <;> exact rfl)
theorem o_db : View.canon (stores).db = M16 (tile D.d (b + 32) 0) := (View.canon_unit_zero hz _ _).trans (by rw [hv.l_d, pay12] <;> exact rfl)
theorem o_dg : View.canon (stores).dg = M32 (tile (Sums.none.add D b).g 0 0) := (View.canon_cons_unit_zero hz _ _ _).trans (by rw [r_2 hv, v428 hv ho, v430 hv ho, v432 hv, pay100] <;> exact congrArg M (D.t_addg b Sums.none.g))
theorem o_dk : View.canon (stores).dk = M32 (tile (Sums.none.add D b).k 0 0) := Rd.canon (P := fun i _ => i < 3)
    (Rd.cons (by rw [r_9 hv, r_12 hv ho, v115 hv ho, pay33] <;> exact congrArg M (D.t_addk b Sums.none.k 2))
    (Rd.cons (by rw [v64 hv, r_12 hv ho, v108 hv ho, pay32] <;> exact congrArg M (D.t_addk b Sums.none.k 1))
    (Rd.cons (by rw [r_4 hv, r_6 hv, v65 hv, v78 hv ho, v101 hv, pay31 (hY := D.hY (b + 32))] <;> exact congrArg M (D.t_addk b Sums.none.k 0))
    (fun _ h => h.elim) (Q := fun _ _ => False) fun i j _ _ h => Or.inl (by omega)) (Q := fun i _ => i < 1) fun i j _ _ h => by omega) (Q := fun i _ => i < 2) fun i j _ _ h => by omega) fun i j h _ => h
theorem o_ds : View.canon (stores).ds = M32 (tile (Sums.none.add D b).s 0 0) := Rd.canon (P := fun _ j => j < 512)
    (Rd.cons (by rw [r_10 hv ho, r_15 hv, r_30 hv, r_31 hv ho, hv.l_w, v374 hv ho, pay89 (h := hv.n4)] <;> exact congrArg M (D.t_adds b Sums.none.s 3))
    (Rd.cons (by rw [r_10 hv ho, r_15 hv, r_25 hv, r_26 hv ho, r_27 hv ho, hv.l_w, v284 hv ho, pay72 (h := hv.n3), D.t_two] <;> exact congrArg M (D.t_adds b Sums.none.s 2))
    (Rd.cons (by rw [r_21 hv, r_22 hv, r_23 hv ho, v210 hv ho, pay56] <;> exact congrArg M (D.t_adds b Sums.none.s 1))
    (Rd.cons (by rw [r_10 hv ho, r_16 hv, r_17 hv, r_18 hv, hv.l_w, v152 hv, pay45 (h := hv.n1)] <;> exact congrArg M (D.t_adds b Sums.none.s 0))
    (fun _ h => h.elim) (Q := fun _ _ => False) fun i j _ _ h => Or.inl (by omega)) (Q := fun _ j => j < 128) fun i j _ _ h => by omega) (Q := fun _ j => j < 256) fun i j _ _ h => by omega)
    (Q := fun _ j => j < 384) fun i j _ _ h => by omega) fun i j _ h => h
theorem o_dw : View.canon (stores).dw = T3 (fun s => tile ((Sums.none.add D b).w s) 0 0) := R3.canon (P := fun i => i < 4)
    (R3.cons (by rw [r_10 hv ho, r_15 hv, r_30 hv, r_31 hv ho, hv.l_s, v385 hv ho, pay91 (h := hv.n4)] <;> exact congrArg L1 (D.t_addw b Sums.none.w 3))
    (R3.cons (by rw [r_10 hv ho, r_15 hv, r_25 hv, r_26 hv ho, r_27 hv ho, hv.l_s, v295 hv ho, pay74 (h := hv.n3), D.t_two] <;> exact congrArg L1 (D.t_addw b Sums.none.w 2))
    (R3.cons (by rw [r_21 hv, r_23 hv ho, hv.l_s, v221 hv ho, pay58] <;> exact congrArg L1 (D.t_addw b Sums.none.w 1))
    (R3.cons (by rw [r_10 hv ho, r_16 hv, r_17 hv, r_18 hv, hv.l_s, v163 hv, pay47 (h := hv.n1)] <;> exact congrArg L1 (D.t_addw b Sums.none.w 0))
    (fun _ h => h.elim) (Q := fun _ => False) fun i _ h => by omega) (Q := fun i => i < 1) fun i _ h => by omega) (Q := fun i => i < 2) fun i _ h => by omega) (Q := fun i => i < 3) fun i _ h => by omega) fun i h => h
theorem o_c : Rd (fun i j => D.dcv (i - 512 + (b + 32)) j) 0 0 (fun i _ => 512 ≤ i) (stores).c :=
  Rd.cons (Q := fun _ _ => False) (by rw [v453 hv ho, pay1] <;> exact rfl) (fun _ h => h.elim) fun i j _ _ h => by omega
theorem o_q : Rd (fun i j => D.e (i - 512 + (b + 32)) j) 0 0 (fun i _ => 512 ≤ i) (stores).q :=
  Rd.cons (Q := fun _ _ => False) (by rw [v457 hv ho, pay2] <;> exact rfl) (fun _ h => h.elim) fun i j _ _ h => by omega

theorem did : Did D b (Sums.none.add D b) (stores).out :=
  Did.ofA (L := stores) (o_dx (hc := hc) (f0 := f0) (f1 := f1) hv ho) (o_dp (hc := hc) (f0 := f0) (f1 := f1) hv ho) (o_h (hc := hc) (f0 := f0) (f1 := f1) hv ho) (o_db (hc := hc) (f0 := f0) (f1 := f1) hv ho) (o_dg (hc := hc) (f0 := f0) (f1 := f1) hv ho) (o_dk (hc := hc) (f0 := f0) (f1 := f1) hv ho) (o_ds (hc := hc) (f0 := f0) (f1 := f1) hv ho) (o_dw (hc := hc) (f0 := f0) (f1 := f1) hv ho) (o_c (hc := hc) (f0 := f0) (f1 := f1) hv ho) (o_q (hc := hc) (f0 := f0) (f1 := f1) hv ho)
    ((canon_whole _ _).trans ho.win) ((four ho.w0 ho.w1 ho.w2 ho.w3).canon fun _ _ _ _ => trivial)

end Step.Mix.A
-- ==== Proof.MixB.lean ====
module

public import proofs.«01_k».proof.Proof.MixDat

@[expose] public section

set_option maxRecDepth 16384

noncomputable section

namespace Step.Mix.B

open Idealize Idealize.ShloMosaic
open Cert.MixKIdeal Cert.MixKIdeal.Gen

variable {c : Dev nD} {i : grid0.Coords}
  {a1 : Memref sig .tc .vmem S512x1024 .f32} {h1 : a1.IsWhole}
  {a2 : Memref sig .tc .vmem S512x1024 .f32} {h2 : a2.IsWhole}
  {a3 : Memref sig .tc .vmem S1x1024 .f32} {h3 : a3.IsWhole}
  {a4 : Memref sig .tc .vmem S512x2048 .bf16} {h4 : a4.IsWhole}
  {a5 : Memref sig .tc .vmem S32x2048 .bf16} {h5 : a5.IsWhole}
  {a8 : Memref sig .tc .vmem S3x512 .f32} {h8 : a8.IsWhole}
  {a9 : Memref sig .tc .vmem S4x128x128 .f32} {h9 : a9.IsWhole}
  {a10 : Memref sig .tc .vmem S1x512 .f32} {h10 : a10.IsWhole}
  {a11 : Memref sig .tc .vmem S512x1024 .f32} {h11 : a11.IsWhole}
  {a12 : Memref sig .tc .vmem S512x2048 .bf16} {h12 : a12.IsWhole}
  {a13 : Memref sig .tc .vmem S512x1024 .bf16} {h13 : a13.IsWhole}
  {a14 : Memref sig .tc .vmem S512x1024 .bf16} {h14 : a14.IsWhole}
  {a15 : Memref sig .tc .vmem S1x1024 .f32} {h15 : a15.IsWhole}
  {a16 : Memref sig .tc .vmem S3x512 .f32} {h16 : a16.IsWhole}
  {a17 : Memref sig .tc .vmem S1x512 .f32} {h17 : a17.IsWhole}
  {a18 : Memref sig .tc .vmem S4x128x128 .f32} {h18 : a18.IsWhole}
  {a19 : Memref sig .tc .vmem S2048x1024 .bf16} {h19 : a19.IsWhole}
  {a20 : Memref sig .tc .vmem S1024x1024 .bf16} {h20 : a20.IsWhole}
  {a21 : Memref sig .tc .vmem S544x512 .f32} {h21 : a21.IsWhole}
  {a22 : Memref sig .tc .vmem S544x512 .f32} {h22 : a22.IsWhole}
  {a23 : Memref sig .tc .vmem S520x512 .f32} {h23 : a23.IsWhole}
  {a24 : Memref sig .tc .vmem S544x512 .f32} {h24 : a24.IsWhole}
  {a25 : Memref sig .tc .vmem S3x544x128 .f32} {h25 : a25.IsWhole}
variable {D : Dat} {S : Sums} {T b : ℕ} {v : In Ideal} {o : Out Ideal}

section
variable (hv : Fed i D T b v)
include hv

theorem r : runB.sl.r a3 h3 v = M32 (tile D.g 0 0) := hv.l_g _
theorem r_1 : runB.sl.r_1 a2 h2 v = M32 fun i _ => rr (tile D.x (b + 32) 0) i := by unfold runB.sl.r_1; rw [hv.l_x, pay9] <;> exact rfl
theorem r_2 : runB.sl.r_2 a2 h2 v = M32 (xh (tile D.x (b + 32) 0)) := by unfold runB.sl.r_2; rw [hv.l_x, pay10] <;> exact rfl
theorem r_3 : runB.sl.r_3 a1 h1 v = M32 (tile D.d (b + 32) 0) := hv.l_d _
theorem r_4 : runB.sl.r_4 a1 h1 v = M16 (tile D.d (b + 32) 0) := by unfold runB.sl.r_4; rw [hv.l_d, pay12] <;> exact rfl
theorem r_6 : runB.sl.r_6 a4 h4 v = M32 (tile D.p (b + 32) 512) := by unfold runB.sl.r_6; rw [hv.l_p, pay14] <;> exact rfl
theorem ag_H23_1 (ho : Held D b S o) : Ag D.dcv (b + 32) 0 (runB.sl.H23_1 a1 h1 a4 h4 a20 h20 v o) := Ag.cons (by rw [ho.l_wout, r_4 hv, r_6 hv, pay27 (hY := D.hY (b + 32))] <;> exact congrArg M (D.t_dcv (b + 32))) (Ag.nil)
omit hv in
theorem cv_H23_1 : Cv (fun i _ => i < 512) (runB.sl.H23_1 a1 h1 a4 h4 a20 h20 v o) := Cv.cons (Cv.nil (P := fun _ _ => False) (fun _ _ _ _ h => h)) (fun i j _ _ h => by omega)
theorem r_7 : runB.sl.r_7 a4 h4 v = M32 (tile D.p (b + 32) 1024) := by unfold runB.sl.r_7; rw [hv.l_p, pay15] <;> exact rfl
theorem r_14 (ho : Held D b S o) : runB.sl.r_14 a1 h1 a4 h4 a8 h8 a20 h20 a23 h23 v o = M32 (tile D.dv (b + 32) 0) := by unfold runB.sl.r_14; rw [hv.l_k, ho.l_wout, ho.l_c h23 (ag_H23_1 hv ho) cv_H23_1, ho.l_c h23 (ag_H23_1 hv ho) cv_H23_1, r_4 hv, r_6 hv, r_7 hv, pay30 (hY := D.hY (b + 32))] <;> first | exact congrArg M (D.t_dv (b + 32)) | exact fun i j _ _ => by omega
theorem r_5 : runB.sl.r_5 a4 h4 v = M32 (tile D.p (b + 32) 0) := by unfold runB.sl.r_5; rw [hv.l_p, pay13] <;> exact rfl
theorem r_9 : runB.sl.r_9 a4 h4 v = M32 (tile D.z (b + 32) 0) := by unfold runB.sl.r_9; rw [r_5 hv, r_7 hv, pay20] <;> exact rfl
theorem v0 : runB.sl.v0 i = BitVec.ofNat 32 T := word _ _ hv.hi
theorem ag_H21_2 : Ag D.z (b) 0 (runB.sl.H21_2 i a4 h4 a5 h5 v) := Ag.cons (by rw [r_5 hv, r_7 hv, pay21] <;> exact rfl) (Ag.cons (by rw [hv.l_e, hv.l_e, v0 hv, pay18 (hT := hv.hT)] <;> exact congrArg M hv.z0) (Ag.nil))
omit hv in
theorem cv_H21_2 : Cv (fun _ _ => True) (runB.sl.H21_2 i a4 h4 a5 h5 v) := Cv.cons ((show Cv (fun i j => (0 ≤ i ∧ i < 32 ∧ 0 ≤ j ∧ j < 512)) _ from Cv.cons (Cv.nil (P := fun _ _ => False) (fun _ _ _ _ h => h)) (fun i j _ _ h => by omega))) (fun i j _ _ h => by omega)
theorem v64 : runB.sl.v64 i a4 h4 a5 h5 a21 v = M32 (tile D.z (b + 31) 0) := rc_ag _ (ag_H21_2 hv) cv_H21_2 (fun _ _ _ _ => trivial)
theorem v65 : runB.sl.v65 i a4 h4 a5 h5 a21 v = M32 (tile D.z (b + 30) 0) := rc_ag _ (ag_H21_2 hv) cv_H21_2 (fun _ _ _ _ => trivial)
theorem r_11 (ho : Held D b S o) : runB.sl.r_11 i a1 h1 a4 h4 a5 h5 a8 h8 a20 h20 a21 v o = M32 (tile D.dgb (b + 32) 0) := by unfold runB.sl.r_11; rw [hv.l_k, ho.l_wout, r_4 hv, r_9 hv, v64 hv, v65 hv, pay25 (hY := D.hY (b + 32))] <;> exact congrArg M (D.t_conv b)
theorem r_13 (ho : Held D b S o) : runB.sl.r_13 a1 h1 a4 h4 a8 h8 a20 h20 a23 h23 v o = M32 (tile D.dgc (b + 32) 0) := by unfold runB.sl.r_13; rw [hv.l_k, ho.l_wout, ho.l_c h23 (ag_H23_1 hv ho) cv_H23_1, ho.l_c h23 (ag_H23_1 hv ho) cv_H23_1, r_4 hv, r_5 hv, r_6 hv, pay29 (hY := D.hY (b + 32))] <;> first | exact congrArg M (D.t_dgc (b + 32)) | exact fun i j _ _ => by omega
theorem r_10 (ho : Held D b S o) : runB.sl.r_10 a1 h1 a20 h20 v o = M32 (tile D.dy (b + 32) 0) := by unfold runB.sl.r_10; rw [ho.l_wout, r_4 hv, D.hY (b + 32)] <;> exact rfl
theorem r_18 : runB.sl.r_18 i = k0_pay40 (F := Ideal) (BitVec.ofNat 32 T) := by unfold runB.sl.r_18; rw [v0 hv] <;> exact rfl
theorem ag_H24_1 (ho : Held D b S o) : Ag D.e (b + 32) 0 (runB.sl.H24_1 i a1 h1 a9 h9 a10 h10 a20 h20 v o) := Ag.cons (by rw [hv.l_w, hv.l_s, r_10 hv ho, r_18 hv, pay49 (h := hv.n1)] <;> exact congrArg M (D.t_e (b + 32) 0).symm) (Ag.nil)
omit hv in
theorem cv_H24_1 : Cv (fun i j => i < 512 ∧ j < 128) (runB.sl.H24_1 i a1 h1 a9 h9 a10 h10 a20 h20 v o) := Cv.cons (Cv.nil (P := fun _ _ => False) (fun _ _ _ _ h => h)) (fun i j _ _ h => by omega)
theorem r_19 (ho : Held D b S o) : runB.sl.r_19 a1 h1 a9 h9 a10 h10 a20 h20 v o = M32 (tile (D.dpl 0) (b + 32) 0) := by unfold runB.sl.r_19; rw [hv.l_w, hv.l_s, r_10 hv ho, pay48] <;> exact rfl
theorem v176 (ho : Held D b S o) : runB.sl.v176 i a1 h1 a9 h9 a10 h10 a20 h20 a24 v o = M32 (tile D.e (b + 32) 0) := rc_ag _ (ag_H24_1 hv ho) cv_H24_1 (fun i j _ _ => by omega)
theorem r_22 : runB.sl.r_22 a9 h9 v = M16 (tile (D.w 1) 0 0) := by unfold runB.sl.r_22; rw [hv.l_w, pay54] <;> exact rfl
theorem r_23 (ho : Held D b S o) : runB.sl.r_23 a1 h1 a20 h20 v o = M32 (tile D.dy (b + 32) 640) := by unfold runB.sl.r_23; rw [r_10 hv ho, pay55] <;> exact rfl
theorem r_24 (ho : Held D b S o) : runB.sl.r_24 a1 h1 a9 h9 a10 h10 a20 h20 v o = M32 (tile (D.dpl 1) (b + 32) 0) := by unfold runB.sl.r_24; rw [hv.l_s, r_22 hv, r_23 hv ho, pay59] <;> exact rfl
theorem r_15 : runB.sl.r_15 i = k0_pay37 (BitVec.ofNat 32 T) := by unfold runB.sl.r_15; rw [v0 hv] <;> exact rfl
theorem r_20 : runB.sl.r_20 i = M32 (invc 2 (b + 32)) := by unfold runB.sl.r_20; rw [r_15 hv, hv.n2]
theorem ag_H24_2 (ho : Held D b S o) : Ag D.e (b + 32) 0 (runB.sl.H24_2 i a1 h1 a9 h9 a10 h10 a20 h20 v o) := Ag.cons (by rw [hv.l_s, r_20 hv, r_22 hv, r_23 hv ho, pay60] <;> exact congrArg M (D.t_e (b + 32) 1).symm) (ag_H24_1 hv ho)
omit hv in
theorem cv_H24_2 : Cv (fun i j => i < 512 ∧ j < 256) (runB.sl.H24_2 i a1 h1 a9 h9 a10 h10 a20 h20 v o) := Cv.cons (cv_H24_1) (fun i j _ _ h => by omega)
theorem tp_H25_2 (ho : Held D b S o) : Tp (fs D.e 1) (b + 32) 128 0 0 536 (runB.sl.H25_2 i a1 h1 a4 h4 a5 h5 a9 h9 a10 h10 a20 h20 a22 a24 h24 v o) := ⟨_, _, _, rfl, by rw [ho.l_q h24 (ag_H24_2 hv ho) cv_H24_2, ho.l_q h24 (ag_H24_2 hv ho) cv_H24_2, pay61] <;> first | exact congrArg L1 (fs_tile D.e 0 (b + 32) 128) | exact fun i j _ _ => by omega⟩
theorem v240 (ho : Held D b S o) : runB.sl.v240 i a1 h1 a4 h4 a5 h5 a9 h9 a10 h10 a20 h20 a22 a24 h24 a25 v o = L1 (tile (fs D.e 1) (b + 32) 128) := (tp_H25_2 hv ho).rc 0 _ (by decide)
theorem v242 (ho : Held D b S o) : runB.sl.v242 i a1 h1 a4 h4 a5 h5 a9 h9 a10 h10 a20 h20 a22 a24 h24 a25 v o = L1 (tile (fs D.e 1) (b + 34) 128) := (tp_H25_2 hv ho).rc 2 _ (by decide)
theorem r_29 (ho : Held D b S o) : runB.sl.r_29 a1 h1 a9 h9 a10 h10 a20 h20 v o = M32 (tile (D.dpl 2) (b + 32) 0) := by unfold runB.sl.r_29; rw [hv.l_w, hv.l_s, r_10 hv ho, pay75] <;> exact rfl
theorem r_28 : runB.sl.r_28 i = M32 (invc 3 (b + 32)) := by unfold runB.sl.r_28; rw [r_15 hv, hv.n3]
theorem ag_H24_3 (ho : Held D b S o) : Ag D.e (b + 32) 0 (runB.sl.H24_3 i a1 h1 a9 h9 a10 h10 a20 h20 v o) := Ag.cons (by rw [r_28 hv, r_29 hv ho, pay76] <;> exact congrArg M (D.t_e (b + 32) 2).symm) (ag_H24_2 hv ho)
omit hv in
theorem cv_H24_3 : Cv (fun i j => i < 512 ∧ j < 384) (runB.sl.H24_3 i a1 h1 a9 h9 a10 h10 a20 h20 v o) := Cv.cons (cv_H24_2) (fun i j _ _ h => by omega)
theorem tp_H25_5 (ho : Held D b S o) : Tp (fs D.e 1) (b + 32) 256 0 0 536 (runB.sl.H25_5 i a1 h1 a4 h4 a5 h5 a9 h9 a10 h10 a20 h20 a22 a24 h24 a25 v o) := ⟨_, _, _, rfl, by rw [ho.l_q h24 (ag_H24_3 hv ho) cv_H24_3, ho.l_q h24 (ag_H24_3 hv ho) cv_H24_3, pay77] <;> first | exact congrArg L1 (fs_tile D.e 0 (b + 32) 256) | exact fun i j _ _ => by omega⟩
theorem v314 (ho : Held D b S o) : runB.sl.v314 i a1 h1 a4 h4 a5 h5 a9 h9 a10 h10 a20 h20 a22 a24 h24 a25 v o = L1 (tile (fs D.e 1) (b + 32) 256) := (tp_H25_5 hv ho).rc 0 _ (by decide)
theorem v316 (ho : Held D b S o) : runB.sl.v316 i a1 h1 a4 h4 a5 h5 a9 h9 a10 h10 a20 h20 a22 a24 h24 a25 v o = L1 (tile (fs D.e 1) (b + 34) 256) := (tp_H25_5 hv ho).rc 2 _ (by decide)
theorem tp_H25_6 (ho : Held D b S o) : Tp (fs D.e 2) (b + 32) 256 1 0 528 (runB.sl.H25_6 i a1 h1 a4 h4 a5 h5 a9 h9 a10 h10 a20 h20 a22 a24 h24 a25 v o) := ⟨_, _, _, rfl, by rw [v314 hv ho, v316 hv ho, pay78] <;> exact congrArg L1 (fs_tile D.e 1 (b + 32) 256)⟩
theorem v322 (ho : Held D b S o) : runB.sl.v322 i a1 h1 a4 h4 a5 h5 a9 h9 a10 h10 a20 h20 a22 a24 h24 a25 v o = L1 (tile (fs D.e 2) (b + 32) 256) := (tp_H25_6 hv ho).rc 0 _ (by decide)
theorem v324 (ho : Held D b S o) : runB.sl.v324 i a1 h1 a4 h4 a5 h5 a9 h9 a10 h10 a20 h20 a22 a24 h24 a25 v o = L1 (tile (fs D.e 2) (b + 36) 256) := (tp_H25_6 hv ho).rc 4 _ (by decide)
theorem r_32 (ho : Held D b S o) : runB.sl.r_32 a1 h1 a9 h9 a10 h10 a20 h20 v o = M32 (tile (D.dpl 3) (b + 32) 0) := by unfold runB.sl.r_32; rw [hv.l_w, hv.l_s, r_10 hv ho, pay92] <;> exact rfl
theorem r_33 (ho : Held D b S o) : runB.sl.r_33 i a1 h1 a9 h9 a10 h10 a20 h20 v o = M32 (tile (D.eg 3) (b + 32) 0) := by unfold runB.sl.r_33; rw [hv.l_w, hv.l_s, r_10 hv ho, r_15 hv, pay93 (h := hv.n4)] <;> exact rfl
theorem ag_H24_4 (ho : Held D b S o) : Ag D.e (b + 32) 0 (runB.sl.H24_4 i a1 h1 a9 h9 a10 h10 a20 h20 v o) := Ag.cons (by rw [r_33 hv ho, pay94] <;> exact congrArg M (D.t_e (b + 32) 3).symm) (ag_H24_3 hv ho)
omit hv in
theorem cv_H24_4 : Cv (fun i j => i < 512 ∧ j < 512) (runB.sl.H24_4 i a1 h1 a9 h9 a10 h10 a20 h20 v o) := Cv.cons (cv_H24_3) (fun i j _ _ h => by omega)
theorem tp_H25_10 (ho : Held D b S o) : Tp (fs D.e 1) (b + 32) 384 0 0 536 (runB.sl.H25_10 i a1 h1 a4 h4 a5 h5 a9 h9 a10 h10 a20 h20 a22 a24 h24 a25 v o) := ⟨_, _, _, rfl, by rw [ho.l_q h24 (ag_H24_4 hv ho) cv_H24_4, ho.l_q h24 (ag_H24_4 hv ho) cv_H24_4, pay95] <;> first | exact congrArg L1 (fs_tile D.e 0 (b + 32) 384) | exact fun i j _ _ => by omega⟩
theorem v404 (ho : Held D b S o) : runB.sl.v404 i a1 h1 a4 h4 a5 h5 a9 h9 a10 h10 a20 h20 a22 a24 h24 a25 v o = L1 (tile (fs D.e 1) (b + 32) 384) := (tp_H25_10 hv ho).rc 0 _ (by decide)
theorem v406 (ho : Held D b S o) : runB.sl.v406 i a1 h1 a4 h4 a5 h5 a9 h9 a10 h10 a20 h20 a22 a24 h24 a25 v o = L1 (tile (fs D.e 1) (b + 34) 384) := (tp_H25_10 hv ho).rc 2 _ (by decide)
theorem tp_H25_11 (ho : Held D b S o) : Tp (fs D.e 2) (b + 32) 384 1 0 528 (runB.sl.H25_11 i a1 h1 a4 h4 a5 h5 a9 h9 a10 h10 a20 h20 a22 a24 h24 a25 v o) := ⟨_, _, _, rfl, by rw [v404 hv ho, v406 hv ho, pay96] <;> exact congrArg L1 (fs_tile D.e 1 (b + 32) 384)⟩
theorem v412 (ho : Held D b S o) : runB.sl.v412 i a1 h1 a4 h4 a5 h5 a9 h9 a10 h10 a20 h20 a22 a24 h24 a25 v o = L1 (tile (fs D.e 2) (b + 32) 384) := (tp_H25_11 hv ho).rc 0 _ (by decide)
theorem v414 (ho : Held D b S o) : runB.sl.v414 i a1 h1 a4 h4 a5 h5 a9 h9 a10 h10 a20 h20 a22 a24 h24 a25 v o = L1 (tile (fs D.e 2) (b + 36) 384) := (tp_H25_11 hv ho).rc 4 _ (by decide)
theorem tp_H25_12 (ho : Held D b S o) : Tp (fs D.e 3) (b + 32) 384 2 0 520 (runB.sl.H25_12 i a1 h1 a4 h4 a5 h5 a9 h9 a10 h10 a20 h20 a22 a24 h24 a25 v o) := ⟨_, _, _, rfl, by rw [v412 hv ho, v414 hv ho, pay97] <;> exact congrArg L1 (fs_tile D.e 2 (b + 32) 384)⟩
theorem v435 (ho : Held D b S o) : runB.sl.v i a1 h1 a4 h4 a5 h5 a9 h9 a10 h10 a20 h20 a22 a24 h24 a25 v o = L1 (tile (fs D.e 3) (b + 32) 384) := (tp_H25_12 hv ho).rc 0 _ (by decide)
theorem v422 (ho : Held D b S o) : runB.sl.v422 i a1 h1 a4 h4 a5 h5 a9 h9 a10 h10 a20 h20 a22 a24 h24 a25 v o = L1 (tile (fs D.e 3) (b + 40) 384) := (tp_H25_12 hv ho).rc 8 _ (by decide)
theorem ag_H12_7 (ho : Held D b S o) : Ag D.dp (b + 32) 0 (runB.sl.H12_7 i a1 h1 a4 h4 a5 h5 a8 h8 a9 h9 a10 h10 a20 h20 a21 a22 a23 h23 a24 h24 a25 v o) := Ag.cons (by rw [r_32 hv ho, v435 hv ho, v422 hv ho, pay98] <;> exact congrArg M ((D.t_du (b + 32) 3).trans (D.t_dp3 (b + 32) 3).symm)) (Ag.cons (by rw [r_29 hv ho, v322 hv ho, v324 hv ho, pay79] <;> exact congrArg M ((D.t_du (b + 32) 2).trans (D.t_dp3 (b + 32) 2).symm)) (Ag.cons (by rw [r_24 hv ho, v240 hv ho, v242 hv ho, pay62] <;> exact congrArg M ((D.t_du (b + 32) 1).trans (D.t_dp3 (b + 32) 1).symm)) (Ag.cons (by rw [ho.l_q h24 (ag_H24_1 hv ho) cv_H24_1, r_19 hv ho, v176 hv ho, pay50] <;> first | exact congrArg M ((D.t_du (b + 32) 0).trans (D.t_dp3 (b + 32) 0).symm) | exact fun i j _ _ => by omega) (Ag.cons (by rw [r_13 hv ho, pay36] <;> exact congrArg M (D.t_dp2 (b + 32)).symm) (Ag.cons (by rw [r_11 hv ho, pay35] <;> exact congrArg M (D.t_dp1 (b + 32)).symm) (Ag.cons (by rw [r_14 hv ho, pay34] <;> exact congrArg M (D.t_dp0 (b + 32)).symm) (Ag.nil)))))))
omit hv in
theorem cv_H12_7 : Cv (fun _ _ => True) (runB.sl.H12_7 i a1 h1 a4 h4 a5 h5 a8 h8 a9 h9 a10 h10 a20 h20 a21 a22 a23 h23 a24 h24 a25 v o) := Cv.cons ((show Cv (fun i j => (0 ≤ i ∧ i < 512 ∧ 1792 ≤ j ∧ j < 1920) ∨ (0 ≤ i ∧ i < 512 ∧ 1664 ≤ j ∧ j < 1792) ∨ (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1664 ≤ j ∧ j < 1792) ∨ (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1536 ≤ j ∧ j < 1664) ∨ (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 1024 ≤ j ∧ j < 1536) ∨ (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 512 ≤ j ∧ j < 1024) ∨ (0 ≤ i ∧ i < 512 ∧ 0 ≤ j ∧ j < 512)) _ from Cv.cons ((show Cv (fun i j => (0 ≤ i ∧ i < 512 ∧ 0 ≤ j ∧ j < 512)) _ from Cv.cons (Cv.nil (P := fun _ _ => False) (fun _ _ _ _ h => h)) (fun i j _ _ h => by omega))) (fun i j _ _ h => by omega))) (fun i j _ _ h => by omega))) (fun i j _ _ h => by omega))) (fun i j _ _ h => by omega))) (fun i j _ _ h => by omega))) (fun i j _ _ h => by omega)
theorem v428 (ho : Held D b S o) : runB.sl.v428 i a1 h1 a4 h4 a5 h5 a8 h8 a9 h9 a10 h10 a12 a20 h20 a21 a22 a23 h23 a24 h24 a25 v o = M16 (tile D.dp (b + 32) 0) := rc_ag _ (ag_H12_7 hv ho) cv_H12_7 (fun _ _ _ _ => trivial)
theorem v453 (ho : Held D b S o) : runB.sl.v453 a1 h1 a4 h4 a20 h20 a23 v o = M32 (tile D.dcv (b + 32) 0) := rc_ag _ (ag_H23_1 hv ho) cv_H23_1 (fun i j _ _ => by omega)
theorem v457 (ho : Held D b S o) : runB.sl.v457 i a1 h1 a9 h9 a10 h10 a20 h20 a24 v o = M32 (tile D.e (b + 32) 0) := rc_ag _ (ag_H24_4 hv ho) cv_H24_4 (fun i j _ _ => by omega)
theorem v210 (ho : Held D b S o) : runB.sl.v210 a17 h17 o = M32 (tile S.s 0 128) := ho.l_ds _
theorem v284 (ho : Held D b S o) : runB.sl.v284 a17 h17 o = M32 (tile S.s 0 256) := ho.l_ds _
theorem v374 (ho : Held D b S o) : runB.sl.v374 a17 h17 o = M32 (tile S.s 0 384) := ho.l_ds _
theorem v221 (ho : Held D b S o) : runB.sl.v221 a18 h18 o = L1 (tile (S.w 1) 0 0) := ho.l_dw _
theorem v295 (ho : Held D b S o) : runB.sl.v295 a18 h18 o = L1 (tile (S.w 2) 0 0) := ho.l_dw _
theorem v385 (ho : Held D b S o) : runB.sl.v385 a18 h18 o = L1 (tile (S.w 3) 0 0) := ho.l_dw _
theorem v108 (ho : Held D b S o) : runB.sl.v108 a16 h16 o = M32 (tile S.k 1 0) := ho.l_dk _
theorem v115 (ho : Held D b S o) : runB.sl.v115 a16 h16 o = M32 (tile S.k 2 0) := ho.l_dk _
theorem r_8 : runB.sl.r_8 a4 h4 v = M32 (tile D.u (b + 32) 0) := by unfold runB.sl.r_8; rw [hv.l_p, pay16] <;> exact rfl
theorem ag_H22_2 : Ag D.u (b) 0 (runB.sl.H22_2 i a4 h4 a5 h5 v) := Ag.cons (by rw [hv.l_p, pay22] <;> exact rfl) (Ag.cons (by rw [hv.l_e, v0 hv, pay19 (hT := hv.hT)] <;> exact congrArg M hv.u0) (Ag.nil))
omit hv in
theorem cv_H22_2 : Cv (fun _ _ => True) (runB.sl.H22_2 i a4 h4 a5 h5 v) := Cv.cons ((show Cv (fun i j => (0 ≤ i ∧ i < 32 ∧ 0 ≤ j ∧ j < 512)) _ from Cv.cons (Cv.nil (P := fun _ _ => False) (fun _ _ _ _ h => h)) (fun i j _ _ h => by omega))) (fun i j _ _ h => by omega)
theorem v183 : runB.sl.v183 i a4 h4 a5 h5 a22 v = M32 (tile D.u (b + 8) 128) := rc_ag _ (ag_H22_2 hv) cv_H22_2 (fun _ _ _ _ => trivial)
theorem v184 : runB.sl.v184 i a4 h4 a5 h5 a22 v = M32 (tile D.u (b + 7) 128) := rc_ag _ (ag_H22_2 hv) cv_H22_2 (fun _ _ _ _ => trivial)
theorem tp_H25_1 : Tp (ts D.u 1) (b + 8) 128 0 8 536 (runB.sl.H25_1 i a4 h4 a5 h5 a22 v) := ⟨_, _, _, rfl, by rw [v183 hv, v184 hv, pay51] <;> exact congrArg L1 (ts_tile D.u 0 (b + 7) 128)⟩
theorem v189 : runB.sl.v189 i a4 h4 a5 h5 a22 a25 v = L1 (tile (ts D.u 1) (b + 32) 128) := (tp_H25_1 hv).rc 24 _ (by decide)
theorem v191 : runB.sl.v191 i a4 h4 a5 h5 a22 a25 v = L1 (tile (ts D.u 1) (b + 30) 128) := (tp_H25_1 hv).rc 22 _ (by decide)
theorem r_21 : runB.sl.r_21 i a4 h4 a5 h5 a22 a25 v = M16 (tile (D.pool 1) (b + 32) 0) := by unfold runB.sl.r_21; rw [r_8 hv, r_15 hv, v189 hv, v191 hv, pay53 (h := hv.n2)] <;> exact congrArg (fun X => M (pl X (tile D.u (b + 32) 128) (invc 2 (b + 32)))) (ts_tile D.u 1 (b + 30) 128)
theorem v331 : runB.sl.v331 i a4 h4 a5 h5 a22 v = M32 (tile D.u (b + 8) 384) := rc_ag _ (ag_H22_2 hv) cv_H22_2 (fun _ _ _ _ => trivial)
theorem v332 : runB.sl.v332 i a4 h4 a5 h5 a22 v = M32 (tile D.u (b + 7) 384) := rc_ag _ (ag_H22_2 hv) cv_H22_2 (fun _ _ _ _ => trivial)
theorem tp_H25_7 (ho : Held D b S o) : Tp (ts D.u 1) (b + 8) 384 0 8 536 (runB.sl.H25_7 i a1 h1 a4 h4 a5 h5 a9 h9 a10 h10 a20 h20 a22 a24 h24 a25 v o) := ⟨_, _, _, rfl, by rw [v331 hv, v332 hv, pay81] <;> exact congrArg L1 (ts_tile D.u 0 (b + 7) 384)⟩
theorem v337 (ho : Held D b S o) : runB.sl.v337 i a1 h1 a4 h4 a5 h5 a9 h9 a10 h10 a20 h20 a22 a24 h24 a25 v o = L1 (tile (ts D.u 1) (b + 16) 384) := (tp_H25_7 hv ho).rc 8 _ (by decide)
theorem v339 (ho : Held D b S o) : runB.sl.v339 i a1 h1 a4 h4 a5 h5 a9 h9 a10 h10 a20 h20 a22 a24 h24 a25 v o = L1 (tile (ts D.u 1) (b + 14) 384) := (tp_H25_7 hv ho).rc 6 _ (by decide)
theorem tp_H25_8 (ho : Held D b S o) : Tp (ts D.u 2) (b + 16) 384 1 16 528 (runB.sl.H25_8 i a1 h1 a4 h4 a5 h5 a9 h9 a10 h10 a20 h20 a22 a24 h24 a25 v o) := ⟨_, _, _, rfl, by rw [v337 hv ho, v339 hv ho, pay82] <;> exact congrArg L1 (ts_tile D.u 1 (b + 14) 384)⟩
theorem v345 (ho : Held D b S o) : runB.sl.v345 i a1 h1 a4 h4 a5 h5 a9 h9 a10 h10 a20 h20 a22 a24 h24 a25 v o = L1 (tile (ts D.u 2) (b + 24) 384) := (tp_H25_8 hv ho).rc 8 _ (by decide)
theorem v347 (ho : Held D b S o) : runB.sl.v347 i a1 h1 a4 h4 a5 h5 a9 h9 a10 h10 a20 h20 a22 a24 h24 a25 v o = L1 (tile (ts D.u 2) (b + 20) 384) := (tp_H25_8 hv ho).rc 4 _ (by decide)
theorem tp_H25_9 (ho : Held D b S o) : Tp (ts D.u 3) (b + 24) 384 2 24 520 (runB.sl.H25_9 i a1 h1 a4 h4 a5 h5 a9 h9 a10 h10 a20 h20 a22 a24 h24 a25 v o) := ⟨_, _, _, rfl, by rw [v345 hv ho, v347 hv ho, pay83] <;> exact congrArg L1 (ts_tile D.u 2 (b + 20) 384)⟩
theorem v353 (ho : Held D b S o) : runB.sl.v353 i a1 h1 a4 h4 a5 h5 a9 h9 a10 h10 a20 h20 a22 a24 h24 a25 v o = L1 (tile (ts D.u 3) (b + 32) 384) := (tp_H25_9 hv ho).rc 8 _ (by decide)
theorem v355 (ho : Held D b S o) : runB.sl.v355 i a1 h1 a4 h4 a5 h5 a9 h9 a10 h10 a20 h20 a22 a24 h24 a25 v o = L1 (tile (ts D.u 3) (b + 24) 384) := (tp_H25_9 hv ho).rc 0 _ (by decide)
theorem r_31 (ho : Held D b S o) : runB.sl.r_31 i a1 h1 a4 h4 a5 h5 a9 h9 a10 h10 a20 h20 a22 a24 h24 a25 v o = M32 (tile (ts D.u 4) (b + 32) 384) := by unfold runB.sl.r_31; rw [v353 hv ho, v355 hv ho, pay84] <;> exact congrArg M (ts_tile D.u 3 (b + 24) 384)
theorem r_16 : runB.sl.r_16 a4 h4 v = M32 (tile D.u (b + 32) 0) := by unfold runB.sl.r_16; rw [r_8 hv, pay38] <;> exact rfl
theorem v133 : runB.sl.v133 i a4 h4 a5 h5 a22 v = M32 (tile D.u (b + 32) 0) := rc_ag _ (ag_H22_2 hv) cv_H22_2 (fun _ _ _ _ => trivial)
theorem v134 : runB.sl.v134 i a4 h4 a5 h5 a22 v = M32 (tile D.u (b + 31) 0) := rc_ag _ (ag_H22_2 hv) cv_H22_2 (fun _ _ _ _ => trivial)
theorem r_17 : runB.sl.r_17 i a4 h4 a5 h5 a22 v = M32 (tile (ts D.u 1) (b + 32) 0) := by unfold runB.sl.r_17; rw [v133 hv, v134 hv, pay39] <;> exact congrArg M (ts_tile D.u 0 (b + 31) 0)
theorem r_12 (ho : Held D b S o) : runB.sl.r_12 a1 h1 a4 h4 a20 h20 v o = M32 (tile D.dcv (b + 32) 0) := by unfold runB.sl.r_12; rw [ho.l_wout, r_4 hv, r_6 hv, pay26 (hY := D.hY (b + 32))] <;> exact congrArg M (D.t_dcv (b + 32))
theorem r_25 : runB.sl.r_25 a4 h4 v = M32 (tile D.u (b + 32) 256) := by unfold runB.sl.r_25; rw [r_8 hv, pay63] <;> exact rfl
theorem v249 : runB.sl.v249 i a4 h4 a5 h5 a22 v = M32 (tile D.u (b + 8) 256) := rc_ag _ (ag_H22_2 hv) cv_H22_2 (fun _ _ _ _ => trivial)
theorem v250 : runB.sl.v250 i a4 h4 a5 h5 a22 v = M32 (tile D.u (b + 7) 256) := rc_ag _ (ag_H22_2 hv) cv_H22_2 (fun _ _ _ _ => trivial)
theorem tp_H25_3 (ho : Held D b S o) : Tp (ts D.u 1) (b + 8) 256 0 8 536 (runB.sl.H25_3 i a1 h1 a4 h4 a5 h5 a9 h9 a10 h10 a20 h20 a22 a24 h24 v o) := ⟨_, _, _, rfl, by rw [v249 hv, v250 hv, pay64] <;> exact congrArg L1 (ts_tile D.u 0 (b + 7) 256)⟩
theorem v255 (ho : Held D b S o) : runB.sl.v255 i a1 h1 a4 h4 a5 h5 a9 h9 a10 h10 a20 h20 a22 a24 h24 a25 v o = L1 (tile (ts D.u 1) (b + 16) 256) := (tp_H25_3 hv ho).rc 8 _ (by decide)
theorem v257 (ho : Held D b S o) : runB.sl.v257 i a1 h1 a4 h4 a5 h5 a9 h9 a10 h10 a20 h20 a22 a24 h24 a25 v o = L1 (tile (ts D.u 1) (b + 14) 256) := (tp_H25_3 hv ho).rc 6 _ (by decide)
theorem tp_H25_4 (ho : Held D b S o) : Tp (ts D.u 2) (b + 16) 256 1 16 528 (runB.sl.H25_4 i a1 h1 a4 h4 a5 h5 a9 h9 a10 h10 a20 h20 a22 a24 h24 a25 v o) := ⟨_, _, _, rfl, by rw [v255 hv ho, v257 hv ho, pay65] <;> exact congrArg L1 (ts_tile D.u 1 (b + 14) 256)⟩
theorem v263 (ho : Held D b S o) : runB.sl.v263 i a1 h1 a4 h4 a5 h5 a9 h9 a10 h10 a20 h20 a22 a24 h24 a25 v o = L1 (tile (ts D.u 2) (b + 32) 256) := (tp_H25_4 hv ho).rc 16 _ (by decide)
theorem r_26 (ho : Held D b S o) : runB.sl.r_26 i a1 h1 a4 h4 a5 h5 a9 h9 a10 h10 a20 h20 a22 a24 h24 a25 v o = M32 (tile (ts D.u 2) (b + 32) 256) := by unfold runB.sl.r_26; rw [v263 hv ho, pay66] <;> exact rfl
theorem v265 (ho : Held D b S o) : runB.sl.v265 i a1 h1 a4 h4 a5 h5 a9 h9 a10 h10 a20 h20 a22 a24 h24 a25 v o = L1 (tile (ts D.u 2) (b + 28) 256) := (tp_H25_4 hv ho).rc 12 _ (by decide)
theorem r_27 (ho : Held D b S o) : runB.sl.r_27 i a1 h1 a4 h4 a5 h5 a9 h9 a10 h10 a20 h20 a22 a24 h24 a25 v o = M32 (tile (ts D.u 2) (b + 28) 256) := by unfold runB.sl.r_27; rw [v265 hv ho, pay67] <;> exact rfl
theorem r_30 : runB.sl.r_30 a4 h4 v = M32 (tile D.u (b + 32) 384) := by unfold runB.sl.r_30; rw [r_8 hv, pay80] <;> exact rfl

/-! ### A later grid step -/

end

variable (hc : ¬ cond0_0 i) (f0 : HbBuf0 (F := Ideal) c hbM0_0) (f1 : HbBuf0 (F := Ideal) c hbM0_1) (hv : Fed i D T b v) (ho : Held D b S o)
local notation "stores" => Subtype.val (runB (F := Ideal) c i a1 h1 a2 h2 a3 h3 a4 h4 a5 h5 a8 h8 a9 h9 a10 h10 a11 h11 a12 h12 a13 h13 a14 h14 a15 h15 a16 h16 a17 h17 a18 h18 a19 h19 a20 h20 a21 h21 a22 h22 a23 h23 a24 h24 a25 h25 hc v o f0 f1)
include hv ho

theorem o_dx : View.canon (stores).dx = M32 (Step.Ffn.bx (tile D.d (b + 32) 0) (tile D.x (b + 32) 0) (tile D.dh (b + 32) 0) D.gain) :=
  (View.canon_unit_zero hz _ _).trans (by rw [r hv, r_1 hv, r_2 hv, r_3 hv, v428 hv ho, ho.l_win, pay101] <;> exact rfl)
theorem o_dp : View.canon (stores).dp = M16 (tile D.dp (b + 32) 0) := canon_ag (ag_H12_7 hv ho) cv_H12_7 fun _ _ _ _ => trivial
theorem o_h : View.canon (stores).h = M16 (hn (tile D.x (b + 32) 0) D.gain) := (View.canon_unit_zero hz _ _).trans (by rw [hv.l_x, hv.l_g, pay11] <;> exact rfl)
theorem o_db : View.canon (stores).db = M16 (tile D.d (b + 32) 0) := (View.canon_unit_zero hz _ _).trans (by rw [hv.l_d, pay12] <;> exact rfl)
theorem o_dg : View.canon (stores).dg = M32 (tile (S.add D b).g 0 0) := (View.canon_unit_zero hz _ _).trans (by rw [r_2 hv, v428 hv ho, ho.l_win, ho.l_dg, pay100] <;> exact congrArg M (D.t_addg b S.g))
theorem o_dk : View.canon (stores).dk = M32 (tile (S.add D b).k 0 0) := Rd.canon (P := fun i _ => i < 3)
    (Rd.cons (by rw [r_9 hv, r_12 hv ho, v115 hv ho, pay33] <;> exact congrArg M (D.t_addk b S.k 2))
    (Rd.cons (by rw [v64 hv, r_12 hv ho, v108 hv ho, pay32] <;> exact congrArg M (D.t_addk b S.k 1))
    (Rd.cons (by rw [r_4 hv, r_6 hv, v65 hv, ho.l_wout, ho.l_dk, pay31 (hY := D.hY (b + 32))] <;> exact congrArg M (D.t_addk b S.k 0))
    (Rd.nil fun _ _ _ _ h => h) (Q := fun _ _ => False) fun i j _ _ h => Or.inl (by omega)) (Q := fun i _ => i < 1) fun i j _ _ h => by omega) (Q := fun i _ => i < 2) fun i j _ _ h => by omega) fun i j h _ => h
theorem o_ds : View.canon (stores).ds = M32 (tile (S.add D b).s 0 0) := Rd.canon (P := fun _ j => j < 512)
    (Rd.cons (by rw [r_10 hv ho, r_15 hv, r_30 hv, r_31 hv ho, hv.l_w, v374 hv ho, pay89 (h := hv.n4)] <;> exact congrArg M (D.t_adds b S.s 3))
    (Rd.cons (by rw [r_10 hv ho, r_15 hv, r_25 hv, r_26 hv ho, r_27 hv ho, hv.l_w, v284 hv ho, pay72 (h := hv.n3), D.t_two] <;> exact congrArg M (D.t_adds b S.s 2))
    (Rd.cons (by rw [r_21 hv, r_22 hv, r_23 hv ho, v210 hv ho, pay56] <;> exact congrArg M (D.t_adds b S.s 1))
    (Rd.cons (by rw [r_10 hv ho, r_16 hv, r_17 hv, r_18 hv, hv.l_w, ho.l_ds, pay45 (h := hv.n1)] <;> exact congrArg M (D.t_adds b S.s 0))
    (Rd.nil fun _ _ _ _ h => h) (Q := fun _ _ => False) fun i j _ _ h => Or.inl (by omega)) (Q := fun _ j => j < 128) fun i j _ _ h => by omega) (Q := fun _ j => j < 256) fun i j _ _ h => by omega)
    (Q := fun _ j => j < 384) fun i j _ _ h => by omega) fun i j _ h => h
theorem o_dw : View.canon (stores).dw = T3 (fun s => tile ((S.add D b).w s) 0 0) := R3.canon (P := fun i => i < 4)
    (R3.cons (by rw [r_10 hv ho, r_15 hv, r_30 hv, r_31 hv ho, hv.l_s, v385 hv ho, pay91 (h := hv.n4)] <;> exact congrArg L1 (D.t_addw b S.w 3))
    (R3.cons (by rw [r_10 hv ho, r_15 hv, r_25 hv, r_26 hv ho, r_27 hv ho, hv.l_s, v295 hv ho, pay74 (h := hv.n3), D.t_two] <;> exact congrArg L1 (D.t_addw b S.w 2))
    (R3.cons (by rw [r_21 hv, r_23 hv ho, hv.l_s, v221 hv ho, pay58] <;> exact congrArg L1 (D.t_addw b S.w 1))
    (R3.cons (by rw [r_10 hv ho, r_16 hv, r_17 hv, r_18 hv, hv.l_s, ho.l_dw, pay47 (h := hv.n1)] <;> exact congrArg L1 (D.t_addw b S.w 0))
    R3.nil fun i _ h => by omega) (Q := fun i => i < 1) fun i _ h => by omega) (Q := fun i => i < 2) fun i _ h => by omega) (Q := fun i => i < 3) fun i _ h => by omega) fun i h => h
theorem o_c : Rd (fun i j => D.dcv (i - 512 + (b + 32)) j) 0 0 (fun i _ => 512 ≤ i) (stores).c :=
  Rd.cons (Q := fun _ _ => False) (by rw [v453 hv ho, pay1] <;> exact rfl) (fun _ h => h.elim) fun i j _ _ h => by omega
theorem o_q : Rd (fun i j => D.e (i - 512 + (b + 32)) j) 0 0 (fun i _ => 512 ≤ i) (stores).q :=
  Rd.cons (Q := fun _ _ => False) (by rw [v457 hv ho, pay2] <;> exact rfl) (fun _ h => h.elim) fun i j _ _ h => by omega

theorem did : Did D b (S.add D b) { (stores).out with win := o.win, wout := o.wout } :=
  Did.ofB (L := stores) (o_dx (hc := hc) (f0 := f0) (f1 := f1) hv ho) (o_dp (hc := hc) (f0 := f0) (f1 := f1) hv ho) (o_h (hc := hc) (f0 := f0) (f1 := f1) hv ho) (o_db (hc := hc) (f0 := f0) (f1 := f1) hv ho) (o_dg (hc := hc) (f0 := f0) (f1 := f1) hv ho) (o_dk (hc := hc) (f0 := f0) (f1 := f1) hv ho) (o_ds (hc := hc) (f0 := f0) (f1 := f1) hv ho) (o_dw (hc := hc) (f0 := f0) (f1 := f1) hv ho) (o_c (hc := hc) (f0 := f0) (f1 := f1) hv ho) (o_q (hc := hc) (f0 := f0) (f1 := f1) hv ho) ho.win ho.wout

end Step.Mix.B
-- ==== Proof.MixFrame.lean ====
module

public import Idealize.ShloMosaic.Lib.Claim
public import proofs.«01_k».proof.Proof.MixStep

@[expose] public section

set_option maxRecDepth 16384

noncomputable section

namespace Step.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixKIdeal Cert.MixKIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-- The scratch between two steps: the weights and the rows handed to the tile before, the rest anything. -/
def scratch (o : Out F) : sProp 𝕄 :=
  iprop(owns (c : Thread nD τ) scM0_0 fullShare o.win ∗ owns (c : Thread nD τ) scM0_1 fullShare o.wout ∗ any c scM0_2 ∗ any c scM0_3 ∗ owns (c : Thread nD τ) scM0_4 fullShare o.c ∗ owns (c : Thread nD τ) scM0_5 fullShare o.q ∗ any c scM0_6)

/-- The scratch before the first step. -/
def blank : sProp 𝕄 :=
  iprop(any (F := F) c scM0_0 ∗ any (F := F) c scM0_1 ∗ any (F := F) c scM0_2 ∗ any (F := F) c scM0_3 ∗ any (F := F) c scM0_4 ∗ any (F := F) c scM0_5 ∗ any (F := F) c scM0_6)

theorem scratch_blank (o : Out F) : scratch c o ⊢ blank (F := F) c := by
  unfold scratch blank any
  iintro ⟨H19, H20, H21, H22, H23, H24, H25⟩
  isplitl [H19]; · iexists _; iexact H19
  isplitl [H20]; · iexists _; iexact H20
  isplitl [H21]; · iexact H21
  isplitl [H22]; · iexact H22
  isplitl [H23]; · iexists _; iexact H23
  isplitl [H24]; · iexists _; iexact H24
  iexact H25

/-- The launch's invariant, in the words of the steps. -/
theorem launch_eq : (Pipeline.ΦD osem0 spec0 H0 (V m) c : sProp 𝕄)
    = iprop(blank c ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
      ∗ iprop(hbPt0 c hbM0_0 (V m c main_v1) ∗ hbPt0 c hbM0_1 (V m c main_v5))) := by
  rw [PhiD0_eq]; rfl

/-- Between the steps: before the first one the launch's invariant, then the scratch as the step before left it. -/
def between : (n : ℕ) → n ≤ cfg0.N → sProp 𝕄
  | 0, _ => Pipeline.ΦD osem0 spec0 H0 (V m) c
  | n + 1, h => iprop(scratch c (outAt m c n h) ∗ (∃ r, prngReg c r) ∗ lent c (V m c main_v1) (V m c main_v5))

theorem between_later (n : ℕ) (h : n ≤ cfg0.N) (hz : n ≠ 0) : between m c n h
    = iprop(scratch c (outAt m c (n - 1) (by omega)) ∗ (∃ r, prngReg c r) ∗ lent c (V m c main_v1) (V m c main_v5)) := by
  cases n with
  | zero => exact absurd rfl hz
  | succ n => rfl

/-- What every buffer of the pipeline holds after each step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outAt m c t.val t.isLt).dx
    | ⟨9, _⟩ => (outAt m c t.val t.isLt).dp
    | ⟨10, _⟩ => (outAt m c t.val t.isLt).h
    | ⟨11, _⟩ => (outAt m c t.val t.isLt).db
    | ⟨12, _⟩ => (outAt m c t.val t.isLt).dg
    | ⟨13, _⟩ => (outAt m c t.val t.isLt).dk
    | ⟨14, _⟩ => (outAt m c t.val t.isLt).ds
    | ⟨15, _⟩ => (outAt m c t.val t.isLt).dw
    | ⟨_ + 16, h⟩ => absurd h (Nat.not_lt.2 (Nat.le_add_left _ _))
  Φ t := between m c t.val (Nat.le_of_lt_succ t.isLt)
  q w := Pipeline.shareOf spec0 w
  owed _ := 0

theorem A_eq (w : Fin cfg0.W) : (dats m 0 c).A w = V m c (Pipeline.arrRef spec0 w) := by dsimp only [dats]

theorem after_dx : (dats m 0 c).after 8 t = (outAt m c t.val t.isLt).dx := by dsimp only [dats]
theorem after_dp : (dats m 0 c).after 9 t = (outAt m c t.val t.isLt).dp := by dsimp only [dats]
theorem after_h : (dats m 0 c).after 10 t = (outAt m c t.val t.isLt).h := by dsimp only [dats]
theorem after_db : (dats m 0 c).after 11 t = (outAt m c t.val t.isLt).db := by dsimp only [dats]
theorem after_dg : (dats m 0 c).after 12 t = (outAt m c t.val t.isLt).dg := by dsimp only [dats]
theorem after_dk : (dats m 0 c).after 13 t = (outAt m c t.val t.isLt).dk := by dsimp only [dats]
theorem after_ds : (dats m 0 c).after 14 t = (outAt m c t.val t.isLt).ds := by dsimp only [dats]
theorem after_dw : (dats m 0 c).after 15 t = (outAt m c t.val t.isLt).dw := by dsimp only [dats]

theorem before_dg (h : t.val ≠ 0) (d) : (dats m 0 c).before 12 t d = (outAt m c (t.val - 1) (Nat.lt_of_le_of_lt (Nat.sub_le _ _) t.isLt)).dg := by
  rw [Dat.before_out_kept _ 12 rfl t h (Bool.eq_false_iff.mpr fun hh => by
    have := (flush0_12 _).mp hh; have hN : t.val < 8 := lt_of_lt_of_eq t.isLt N_0; dsimp only at this; omega) (fun _ => rfl) (fun _ _ => rfl)]
  dsimp only [dats]
theorem before_dk (h : t.val ≠ 0) (d) : (dats m 0 c).before 13 t d = (outAt m c (t.val - 1) (Nat.lt_of_le_of_lt (Nat.sub_le _ _) t.isLt)).dk := by
  rw [Dat.before_out_kept _ 13 rfl t h (Bool.eq_false_iff.mpr fun hh => by
    have := (flush0_13 _).mp hh; have hN : t.val < 8 := lt_of_lt_of_eq t.isLt N_0; dsimp only at this; omega) (fun _ => rfl) (fun _ _ => rfl)]
  dsimp only [dats]
theorem before_ds (h : t.val ≠ 0) (d) : (dats m 0 c).before 14 t d = (outAt m c (t.val - 1) (Nat.lt_of_le_of_lt (Nat.sub_le _ _) t.isLt)).ds := by
  rw [Dat.before_out_kept _ 14 rfl t h (Bool.eq_false_iff.mpr fun hh => by
    have := (flush0_14 _).mp hh; have hN : t.val < 8 := lt_of_lt_of_eq t.isLt N_0; dsimp only at this; omega) (fun _ => rfl) (fun _ _ => rfl)]
  dsimp only [dats]
theorem before_dw (h : t.val ≠ 0) (d) : (dats m 0 c).before 15 t d = (outAt m c (t.val - 1) (Nat.lt_of_le_of_lt (Nat.sub_le _ _) t.isLt)).dw := by
  rw [Dat.before_out_kept _ 15 rfl t h (Bool.eq_false_iff.mpr fun hh => by
    have := (flush0_15 _).mp hh; have hN : t.val < 8 := lt_of_lt_of_eq t.isLt N_0; dsimp only at this; omega) (fun _ => rfl) (fun _ _ => rfl)]
  dsimp only [dats]

/-- The buffers that a step finds at its point. -/
def found : sProp 𝕄 :=
  iprop((∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))

/-- The buffers that it leaves there. -/
def handed : sProp 𝕄 :=
  iprop(owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t))

theorem handed_of : iprop(reads c (ms0_0 t) (ms0_1 t) (ms0_2 t) (ms0_3 t) (ms0_4 t) (ms0_5 t) (ms0_6 t) (ms0_7 t) (inAt m c t) ∗ keeps c t (outAt m c t.val t.isLt)) ⊢ iprop(handed m c t ∗ scratch c (outAt m c t.val t.isLt)) := by
  unfold reads keeps handed scratch inAt
  iintro ⟨⟨H1, H2, H3, H4, H5, H8, H9, H10⟩, H11, H12, H13, H14, H15, H16, H17, H18, H19, H20, H21, H22, H23, H24, H25⟩
  isplitl [H1 H2 H3 H4 H5 H8 H9 H10 H11 H12 H13 H14 H15 H16 H17 H18]
  · isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  isplitl [H20]; · iexact H20
  isplitl [H21]; · iexact H21
  isplitl [H22]; · iexact H22
  isplitl [H23]; · iexact H23
  isplitl [H24]; · iexact H24
  iexact H25

theorem found_first : iprop(found m c t ∗ blank c) ⊢ iprop(reads c (ms0_0 t) (ms0_1 t) (ms0_2 t) (ms0_3 t) (ms0_4 t) (ms0_5 t) (ms0_6 t) (ms0_7 t) (inAt m c t) ∗ free c (ms0_8 t) (ms0_9 t) (ms0_10 t) (ms0_11 t) (ms0_12 t) (ms0_13 t) (ms0_14 t) (ms0_15 t) scM0_0 scM0_1 scM0_2 scM0_3 scM0_4 scM0_5 scM0_6) := by
  unfold found reads free blank inAt
  simp only [before0_0_of m (dats m 0 c) (A_eq m c 0) (fun t => by dsimp only [dats]), before0_1_of m (dats m 0 c) (A_eq m c 1) (fun t => by dsimp only [dats]), before0_2_of m (dats m 0 c) (A_eq m c 2) (fun t => by dsimp only [dats]), before0_3_of m (dats m 0 c) (A_eq m c 3) (fun t => by dsimp only [dats]), before0_4_of m (dats m 0 c) (A_eq m c 4) (fun t => by dsimp only [dats]), before0_5_of m (dats m 0 c) (A_eq m c 5) (fun t => by dsimp only [dats]), before0_6_of m (dats m 0 c) (A_eq m c 6) (fun t => by dsimp only [dats]), before0_7_of m (dats m 0 c) (A_eq m c 7) (fun t => by dsimp only [dats])]
  unfold any
  iintro ⟨⟨⟨%d1, H1⟩, ⟨%d2, H2⟩, ⟨%d3, H3⟩, ⟨%d4, H4⟩, ⟨%d5, H5⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩, H19, H20, H21, H22, H23, H24, H25⟩
  isplitl [H1 H2 H3 H4 H5 H8 H9 H10]
  · isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  iexact H25

theorem found_later (h : t.val ≠ 0) : iprop(found m c t ∗ scratch c (outAt m c (t.val - 1) (Nat.lt_of_le_of_lt (Nat.sub_le _ _) t.isLt))) ⊢ iprop(reads c (ms0_0 t) (ms0_1 t) (ms0_2 t) (ms0_3 t) (ms0_4 t) (ms0_5 t) (ms0_6 t) (ms0_7 t) (inAt m c t) ∗ left c (ms0_8 t) (ms0_9 t) (ms0_10 t) (ms0_11 t) (ms0_12 t) (ms0_13 t) (ms0_14 t) (ms0_15 t) scM0_0 scM0_1 scM0_2 scM0_3 scM0_4 scM0_5 scM0_6 (outAt m c (t.val - 1) (Nat.lt_of_le_of_lt (Nat.sub_le _ _) t.isLt))) := by
  unfold found reads left scratch inAt
  simp only [before0_0_of m (dats m 0 c) (A_eq m c 0) (fun t => by dsimp only [dats]), before0_1_of m (dats m 0 c) (A_eq m c 1) (fun t => by dsimp only [dats]), before0_2_of m (dats m 0 c) (A_eq m c 2) (fun t => by dsimp only [dats]), before0_3_of m (dats m 0 c) (A_eq m c 3) (fun t => by dsimp only [dats]), before0_4_of m (dats m 0 c) (A_eq m c 4) (fun t => by dsimp only [dats]), before0_5_of m (dats m 0 c) (A_eq m c 5) (fun t => by dsimp only [dats]), before0_6_of m (dats m 0 c) (A_eq m c 6) (fun t => by dsimp only [dats]), before0_7_of m (dats m 0 c) (A_eq m c 7) (fun t => by dsimp only [dats])]
  simp only [before_dg m c t h, before_dk m c t h, before_ds m c t h, before_dw m c t h]
  unfold any
  iintro ⟨⟨⟨%d1, H1⟩, ⟨%d2, H2⟩, ⟨%d3, H3⟩, ⟨%d4, H4⟩, ⟨%d5, H5⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩, H19, H20, H21, H22, H23, H24, H25⟩
  isplitl [H1 H2 H3 H4 H5 H8 H9 H10]
  · isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- A step at any point, from what the pipeline hands it to what it takes back. -/
theorem step : iprop((dats m 0 c).Φ t.castSucc ∗ (dats m 0 c).owesAt () t.castSucc ∗ found m c t)
    ⊢ wp frame (wpE (defs₀ (F := F)) Variants.none c none) Set.univ (bodyAt0 t)
      (fun _ => iprop((dats m 0 c).Φ t.succ ∗ (dats m 0 c).owesAt () t.succ ∗ handed m c t)) := by
  unfold Dat.owesAt Pipeline.owesWithin
  rw [show (dats m 0 c).owed t.castSucc = 0 from rfl, show (dats m 0 c).owed t.succ = 0 from rfl,
    show (dats m 0 c).Φ t.castSucc = between m c t.val (Nat.le_of_lt t.isLt) from by dsimp only [dats]; exact Dat.Φ_castSucc (between m c) t,
    show (dats m 0 c).Φ t.succ = iprop(scratch c (outAt m c t.val t.isLt) ∗ (∃ r, prngReg c r) ∗ lent c (V m c main_v1) (V m c main_v5)) from rfl]
  by_cases h : t.val = 0
  · rw [show between m c t.val (Nat.le_of_lt t.isLt) = Pipeline.ΦD osem0 spec0 H0 (V m) c from by
      obtain ⟨n, hn⟩ := t; obtain rfl : n = 0 := h; rfl, launch_eq]
    iintro ⟨⟨Hs, Hg, ⟨Hq0, Hq1, Hq2, Hq3, Hq4⟩, Hh0, Hh1⟩, ⟨%W, -, HW⟩, Hf⟩
    iapply (step_first m c t h W _)
    ihave Hx := (found_first m c t) $$ [Hf Hs]
    · isplitl [Hf]; · iexact Hf
      iexact Hs
    icases Hx with ⟨Hr, Hf⟩
    isplitl [Hr]; · iexact Hr
    isplitl [Hf]; · iexact Hf
    isplitl [Hq0 Hq1 Hq2 Hq3 Hq4 Hh0 Hh1]
    · unfold lent
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    isplitl [HW]; · iexact HW
    iintro ⟨Hr, Hf, Hl, ⟨%W', HW⟩⟩
    ihave Hx := (handed_of m c t) $$ [Hr Hf]
    · isplitl [Hr]; · iexact Hr
      iexact Hf
    icases Hx with ⟨Hr, Hs⟩
    isplitl [Hs Hg Hl]
    · isplitl [Hs]; · iexact Hs
      isplitl [Hg]; · iexact Hg
      iexact Hl
    isplitl [HW]
    · iexists W'; isplitr; · ipureintro; exact fun _ _ => Or.inl trivial
      iexact HW
    iexact Hr
  · rw [between_later m c _ _ h]
    iintro ⟨⟨Hs, Hg, Hl⟩, ⟨%W, -, HW⟩, Hf⟩
    iapply (step_later m c t h W _)
    ihave Hx := (found_later m c t h) $$ [Hf Hs]
    · isplitl [Hf]; · iexact Hf
      iexact Hs
    icases Hx with ⟨Hr, Hf⟩
    isplitl [Hr]; · iexact Hr
    isplitl [Hf]; · iexact Hf
    isplitl [Hl]; · iexact Hl
    isplitl [HW]; · iexact HW
    iintro ⟨Hr, Hf, Hl, ⟨%W', HW⟩⟩
    ihave Hx := (handed_of m c t) $$ [Hr Hf]
    · isplitl [Hr]; · iexact Hr
      iexact Hf
    icases Hx with ⟨Hr, Hs⟩
    isplitl [Hs Hg Hl]
    · isplitl [Hs]; · iexact Hs
      isplitl [Hg]; · iexact Hg
      iexact Hl
    isplitl [HW]
    · iexists W'; isplitr; · ipureintro; exact fun _ _ => Or.inl trivial
      iexact HW
    iexact Hr

/-- What the pipeline asks of the body. -/
theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (step m c t) rfl .rfl fun _ => .rfl

theorem enter : Pipeline.ΦD osem0 spec0 H0 (V m) c ⊢ (dats m 0 c).Φ 0 := .rfl

theorem leave : (dats m 0 c).Φ (Fin.last cfg0.N) ⊢ Pipeline.ΦD osem0 spec0 H0 (V m) c := by
  rw [show (dats m 0 c).Φ (Fin.last cfg0.N) = between m c (Fin.last cfg0.N).val (Nat.le_of_lt_succ (Fin.last cfg0.N).isLt) from rfl,
    between_later m c _ _ (by rw [Fin.val_last, show cfg0.N = 8 from N_0]; decide), launch_eq]
  unfold lent
  iintro ⟨Hs, Hg, Hq0, Hq1, Hq2, Hq3, Hq4, Hh0, Hh1⟩
  isplitl [Hs]; · iapply (scratch_blank c _); iexact Hs
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
/-- Every run of the program ends with each result's array as the steps left it, everything else as it was, and every counter at zero. -/
theorem run : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (obligation m c).loose) (hq := fun _ _ _ => rfl) (howed := fun _ _ => rfl) (V := V m) (hmain := hmain m Variants.none)
    (hA := fun c w => A_eq m c w) (hin := fun c => enter m c) (hout := fun c => leave m c)

/-- Every run ends, with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (fun c w => A_eq m c w) ((θ_run defs _ _).mono (fun _ h => h.1) (run m ρ)))
    ((θ_run defs _ _).mono (fun _ h => h.2) (run m ρ))

end Step.Mix
-- ==== Proof.MixArr.lean ====
module

public import proofs.«01_k».proof.Proof.MixA
public import proofs.«01_k».proof.Proof.MixB
public import proofs.«01_k».proof.Proof.MixFrame
public import proofs.«01_k».proof.Proof.Rows

@[expose] public section

set_option maxRecDepth 16384

noncomputable section

namespace Step.Mix

open Idealize Idealize.ShloMosaic Idealize.ShloMosaic.TcCoe Idealize.SL.Sem
open Cert.MixKIdeal Cert.MixKIdeal.Gen

namespace Dat
variable (D : Dat)
/-- The gradient of the rows. -/
def ox (r c : ℕ) : ℝ := D.d r c + D.rr r * (D.dh r c * D.g 0 c - D.x r c * D.rr r * ((∑ l : Fin 1024, D.dh r l * D.g 0 l * (D.x r l * D.rr r)) / 1024))
/-- The normalised, scaled rows. -/
def oh (r c : ℕ) : ℝ := D.x r c * D.rr r * D.g 0 c
theorem t_ox {n : ℕ} (a : ℕ) : (Step.Ffn.bx (tile D.d a 0) (tile D.x a 0) (tile D.dh a 0) D.gain : Fin n → Fin 1024 → ℝ) = tile D.ox a 0 := rfl
theorem t_oh {n : ℕ} (a : ℕ) : (hn (tile D.x a 0) D.gain : Fin n → Fin 1024 → ℝ) = tile D.oh a 0 := rfl

/-- The sums after some grid steps, which take the tiles from the last one on. -/
def sums : ℕ → Sums
  | 0 => Sums.none.add D (512 * 7)
  | n + 1 => (sums n).add D (512 * (7 - (n + 1)))

theorem sums_g (t c : ℕ) : ∀ n, (D.sums n).g t c = ∑ j ∈ Finset.range (n + 1), D.addg (512 * (7 - j)) c
  | 0 => by rw [Finset.sum_range_one]; exact zero_add _
  | n + 1 => by rw [Finset.sum_range_succ, ← sums_g t c n]; rfl
theorem sums_k (t c : ℕ) : ∀ n, (D.sums n).k t c = ∑ j ∈ Finset.range (n + 1), D.addk (512 * (7 - j)) t c
  | 0 => by rw [Finset.sum_range_one]; exact zero_add _
  | n + 1 => by rw [Finset.sum_range_succ, ← sums_k t c n]; rfl
theorem sums_s (t c : ℕ) : ∀ n, (D.sums n).s t c = ∑ j ∈ Finset.range (n + 1), D.adds (512 * (7 - j)) c
  | 0 => by rw [Finset.sum_range_one]; exact zero_add _
  | n + 1 => by rw [Finset.sum_range_succ, ← sums_s t c n]; rfl
theorem sums_w (s l c : ℕ) : ∀ n, (D.sums n).w s l c = ∑ j ∈ Finset.range (n + 1), D.addw (512 * (7 - j)) s l c
  | 0 => by rw [Finset.sum_range_one]; exact zero_add _
  | n + 1 => by rw [Finset.sum_range_succ, ← sums_w s l c n]; rfl

/-- The tiles from the last one on are all the rows. -/
theorem whole (f : ℕ → ℝ) : ∑ j ∈ Finset.range (7 + 1), ∑ r : Fin 512, f (r + (512 * (7 - j) + 32)) = ∑ r : Fin 4096, f (r + 32) := by
  rw [← sum_rows 8 512 fun r : Fin (8 * 512) => f (r.val + 32), ← Finset.sum_range_reflect]
  refine Finset.sum_congr rfl fun j hj => Finset.sum_congr rfl fun r _ => congrArg f ?_
  have := Finset.mem_range.mp hj
  have := r.isLt
  show r.val + (512 * (7 - (7 + 1 - 1 - j)) + 32) = (512 * j + r.val) % (8 * 512) + 32
  omega

/-- The four sums over all the rows. -/
def og (_ c : ℕ) : ℝ := ∑ r : Fin 4096, D.dh (r + 32) c * (D.x (r + 32) c * D.rr (r + 32))
def ok (t c : ℕ) : ℝ := ∑ r : Fin 4096, D.dcv (r + 32) c * D.z (r + 32 - 2 + t) c
def os (_ c : ℕ) : ℝ := ∑ r : Fin 4096, D.q (c / 128) (r + 32) (c % 128) * D.dyb (c / 128) (r + 32) (c % 128)
def ow (s l c : ℕ) : ℝ := ∑ r : Fin 4096, D.pool s (r + 32) l * D.dq s (r + 32) c

theorem all_g (t c : ℕ) : (D.sums 7).g t c = D.og t c := (D.sums_g t c 7).trans (whole fun r => D.dh r c * (D.x r c * D.rr r))
theorem all_k (t c : ℕ) : (D.sums 7).k t c = D.ok t c := (D.sums_k t c 7).trans ((Finset.sum_congr rfl fun j _ => Finset.sum_congr rfl fun r _ => by
  rw [show r.val + (512 * (7 - j) + 30 + t) = r.val + (512 * (7 - j) + 32) - 2 + t by omega]).trans (whole fun r => D.dcv r c * D.z (r - 2 + t) c))
theorem all_s (t c : ℕ) : (D.sums 7).s t c = D.os t c := (D.sums_s t c 7).trans (whole fun r => D.q (c / 128) r (c % 128) * D.dyb (c / 128) r (c % 128))
theorem all_w (s l c : ℕ) : (D.sums 7).w s l c = D.ow s l c := (D.sums_w s l c 7).trans (whole fun r => D.pool s r l * D.dq s r c)
end Dat

variable (m : (ℓ : Loc nD τ sig) → Buf (Elt Ideal) ℓ) (c : Dev nD) (D : Dat)

/-- The weight's quarters, each followed by 32 rows of zeros. -/
def quarters (A : ℕ → ℕ → ℝ) (r c : ℕ) : ℝ := if r % 288 < 256 then A (256 * (r / 288) + r % 288) c else 0

/-- What the kernel is launched on. -/
structure Launched : Prop where
  zero : ∀ r c, r < 32 → D.p r c = 0
  zend : ∀ r c, 4128 ≤ r → D.d r c = 0
  d : V m c main_arg7 = M32 (tile D.d 32 0)
  x : V m c main_arg0 = M32 (tile D.x 32 0)
  g : V m c main_arg1 = M32 (tile D.g 0 0)
  p : V m c main_v21 = M16 (tile D.p 32 0)
  k : V m c main_arg3 = M32 (tile D.k 0 0)
  w : V m c main_arg4 = T3 (fun s => tile (D.w s) 0 0)
  s : V m c main_arg5 = M32 (tile D.s 0 0)
  win : V m c main_v1 = M16 (tile D.win 0 0)
  wout : V m c main_v5 = M16 (tile (quarters D.wout) 0 0)

section arr
variable {m c D} (H : Launched m c D)

theorem M_tile {φ : FTy} {a b a' b' : ℕ} {A : ℕ → ℕ → ℝ} {r r' l l' : ℕ} {x : (⟨2, ![a, b]⟩ : Shape).Idx} {y : (⟨2, ![a', b']⟩ : Shape).Idx}
    (h : (x 0).val + r = (y 0).val + r') (h' : (x 1).val + l = (y 1).val + l') : M (φ := φ) (tile A r l : Fin a → Fin b → ℝ) x = M (φ := φ) (tile A r' l') y := by
  show ((A ((x 0).val + r) ((x 1).val + l) : ℝ) : EReal) = ((A ((y 0).val + r') ((y 1).val + l') : ℝ) : EReal)
  rw [h, h']

theorem idx (t : Fin cfg0.N) : win0_0.index t 0 = 7 - t.val ∧ win0_0.index t 1 = 0 ∧ win0_1.index t 0 = 7 - t.val ∧ win0_1.index t 1 = 0 ∧ win0_3.index t 0 = 7 - t.val ∧ win0_3.index t 1 = 0 ∧ win0_4.index t 0 = (7 - t.val) * 16 - 1 ∧ win0_4.index t 1 = 0 :=
  (by decide +kernel : ∀ t : Fin grid0.N, win0_0.index t 0 = 7 - t.val ∧ win0_0.index t 1 = 0 ∧ win0_1.index t 0 = 7 - t.val ∧ win0_1.index t 1 = 0 ∧ win0_3.index t 0 = 7 - t.val ∧ win0_3.index t 1 = 0 ∧ win0_4.index t 0 = (7 - t.val) * 16 - 1 ∧ win0_4.index t 1 = 0) t

theorem idxw (t : Fin cfg0.N) : win0_2.index t = 0 ∧ win0_5.index t = 0 ∧ win0_6.index t = 0 ∧ win0_7.index t = 0 ∧ win0_12.index t = 0 ∧ win0_13.index t = 0 ∧ win0_14.index t = 0 ∧ win0_15.index t = 0 :=
  (by decide +kernel : ∀ t : Fin grid0.N, win0_2.index t = 0 ∧ win0_5.index t = 0 ∧ win0_6.index t = 0 ∧ win0_7.index t = 0 ∧ win0_12.index t = 0 ∧ win0_13.index t = 0 ∧ win0_14.index t = 0 ∧ win0_15.index t = 0) t

theorem idx' (t : Fin cfg0.N) : win0_8.index t 0 = 7 - t.val ∧ win0_8.index t 1 = 0 ∧ win0_9.index t 0 = 7 - t.val ∧ win0_9.index t 1 = 0 ∧ win0_10.index t 0 = 7 - t.val ∧ win0_10.index t 1 = 0 ∧ win0_11.index t 0 = 7 - t.val ∧ win0_11.index t 1 = 0 :=
  (by decide +kernel : ∀ t : Fin grid0.N, win0_8.index t 0 = 7 - t.val ∧ win0_8.index t 1 = 0 ∧ win0_9.index t 0 = 7 - t.val ∧ win0_9.index t 1 = 0 ∧ win0_10.index t 0 = 7 - t.val ∧ win0_10.index t 1 = 0 ∧ win0_11.index t 0 = 7 - t.val ∧ win0_11.index t 1 = 0) t

theorem coord (t : Fin cfg0.N) : (grid0.coords t 0).val = t.val :=
  (by decide +kernel : ∀ t : Fin grid0.N, (grid0.coords t 0).val = t.val) t

theorem lt8 (t : Fin cfg0.N) : t.val < 8 := by have h : cfg0.N = 8 := N_0; have := t.isLt; omega

include H in
theorem blk_d (t : Fin cfg0.N) : (iblk m c 0 t : Vec Ideal S512x1024 .f32) = M32 (tile D.d (512 * (7 - t.val) + 32) 0) := by
  funext j; unfold iblk; rw [View.read_apply]
  show V m c main_arg7 _ = _
  rw [H.d]
  refine M_tile ?_ ?_
  · show win0_0.index t 0 * 512 + 1 * (j 0).val + 32 = _; rw [(idx t).1]; omega
  · show win0_0.index t 1 * 1024 + 1 * (j 1).val + 0 = _; rw [(idx t).2.1]; omega
include H in
theorem blk_x (t : Fin cfg0.N) : (iblk m c 1 t : Vec Ideal S512x1024 .f32) = M32 (tile D.x (512 * (7 - t.val) + 32) 0) := by
  funext j; unfold iblk; rw [View.read_apply]
  show V m c main_arg0 _ = _
  rw [H.x]
  refine M_tile ?_ ?_
  · show win0_1.index t 0 * 512 + 1 * (j 0).val + 32 = _; rw [(idx t).2.2.1]; omega
  · show win0_1.index t 1 * 1024 + 1 * (j 1).val + 0 = _; rw [(idx t).2.2.2.1]; omega
include H in
theorem blk_g (t : Fin cfg0.N) : (iblk m c 2 t : Vec Ideal S1x1024 .f32) = M32 (tile D.g 0 0) := by
  funext j; unfold iblk; rw [View.read_apply]
  show V m c main_arg1 _ = _
  rw [H.g]
  refine M_tile ?_ ?_
  · show win0_2.index t 0 * 1 + 1 * (j 0).val + 0 = _; rw [(idxw t).1]; show 0 * 1 + _ + 0 = _; omega
  · show win0_2.index t 1 * 1024 + 1 * (j 1).val + 0 = _; rw [(idxw t).1]; show 0 * 1024 + _ + 0 = _; omega
include H in
theorem blk_p (t : Fin cfg0.N) : (iblk m c 3 t : Vec Ideal S512x2048 .bf16) = M16 (tile D.p (512 * (7 - t.val) + 32) 0) := by
  funext j; unfold iblk; rw [View.read_apply]
  show V m c main_v21 _ = _
  rw [H.p]
  refine M_tile ?_ ?_
  · show win0_3.index t 0 * 512 + 1 * (j 0).val + 32 = _; rw [(idx t).2.2.2.2.1]; omega
  · show win0_3.index t 1 * 2048 + 1 * (j 1).val + 0 = _; rw [(idx t).2.2.2.2.2.1]; omega
include H in
theorem blk_e (t : Fin cfg0.N) : (iblk m c 4 t : Vec Ideal S32x2048 .bf16) = M16 (tile D.p (Dat.hb (7 - t.val) (512 * (7 - t.val))) 0) := by
  funext j; unfold iblk; rw [View.read_apply]
  show V m c main_v21 _ = _
  rw [H.p]
  refine M_tile ?_ ?_
  · show win0_4.index t 0 * 32 + 1 * (j 0).val + 32 = _
    rw [(idx t).2.2.2.2.2.2.1]; unfold Dat.hb; split <;> omega
  · show win0_4.index t 1 * 2048 + 1 * (j 1).val + 0 = _; rw [(idx t).2.2.2.2.2.2.2]; omega
include H in
theorem blk_k (t : Fin cfg0.N) : (iblk m c 5 t : Vec Ideal S3x512 .f32) = M32 (tile D.k 0 0) := by
  funext j; unfold iblk; rw [View.read_apply]
  show V m c main_arg3 _ = _
  rw [H.k]
  refine M_tile ?_ ?_
  · show win0_5.index t 0 * 3 + 1 * (j 0).val + 0 = _; rw [(idxw t).2.1]; show 0 * 3 + _ + 0 = _; omega
  · show win0_5.index t 1 * 512 + 1 * (j 1).val + 0 = _; rw [(idxw t).2.1]; show 0 * 512 + _ + 0 = _; omega
include H in
theorem blk_w (t : Fin cfg0.N) : (iblk m c 6 t : Vec Ideal S4x128x128 .f32) = T3 (fun s => tile (D.w s) 0 0) := by
  funext j; unfold iblk; rw [View.read_apply]
  show V m c main_arg4 _ = _
  rw [H.w]
  refine congrArg _ (funext fun a => Fin.ext ?_)
  show win0_6.index t a * win0_6.block.size a + 1 * (j a).val = (j a).val
  rw [(idxw t).2.2.1]; show 0 * _ + _ = _; omega
include H in
theorem blk_s (t : Fin cfg0.N) : (iblk m c 7 t : Vec Ideal S1x512 .f32) = M32 (tile D.s 0 0) := by
  funext j; unfold iblk; rw [View.read_apply]
  show V m c main_arg5 _ = _
  rw [H.s]
  refine M_tile ?_ ?_
  · show win0_7.index t 0 * 1 + 1 * (j 0).val + 0 = _; rw [(idxw t).2.2.2.1]; show 0 * 1 + _ + 0 = _; omega
  · show win0_7.index t 1 * 512 + 1 * (j 1).val + 0 = _; rw [(idxw t).2.2.2.1]; show 0 * 512 + _ + 0 = _; omega

include H in
/-- Each grid step is given its tile. -/
theorem fed (t : Fin cfg0.N) : Fed (grid0.coords t) D (7 - t.val) (512 * (7 - t.val)) (inAt m c t) :=
  ⟨by omega, rfl, by have := lt8 t; rw [coord]; omega, H.zero, H.zend, blk_d H t, blk_x H t, blk_g H t, blk_p H t, blk_e H t, blk_k H t, blk_w H t, blk_s H t⟩

include H in
/-- The first grid step copies the weights in. -/
theorem start : A.Start c D 7 (V m c main_v1) (V m c main_v5) where
  last := rfl
  win := H.win
  w0 := by
    funext j; have hj : (j 0 : ℕ) < 256 := (j 0).isLt
    show V m c main_v5 _ = _
    rw [H.wout]
    show ((quarters D.wout (0 + 1 * (j 0).val + 0) (0 + 1 * (j 1).val + 0) : ℝ) : EReal) = ((D.wout ((j 0).val + 0) ((j 1).val + 0) : ℝ) : EReal)
    unfold quarters; rw [if_pos (by omega)]; congr 2 <;> omega
  w1 := by
    funext j; have hj : (j 0 : ℕ) < 256 := (j 0).isLt
    show V m c main_v5 _ = _
    rw [H.wout]
    show ((quarters D.wout (288 + 1 * (j 0).val + 0) (0 + 1 * (j 1).val + 0) : ℝ) : EReal) = ((D.wout ((j 0).val + 256) ((j 1).val + 0) : ℝ) : EReal)
    unfold quarters; rw [if_pos (by omega)]; congr 2 <;> omega
  w2 := by
    funext j; have hj : (j 0 : ℕ) < 256 := (j 0).isLt
    show V m c main_v5 _ = _
    rw [H.wout]
    show ((quarters D.wout (576 + 1 * (j 0).val + 0) (0 + 1 * (j 1).val + 0) : ℝ) : EReal) = ((D.wout ((j 0).val + 512) ((j 1).val + 0) : ℝ) : EReal)
    unfold quarters; rw [if_pos (by omega)]; congr 2 <;> omega
  w3 := by
    funext j; have hj : (j 0 : ℕ) < 256 := (j 0).isLt
    show V m c main_v5 _ = _
    rw [H.wout]
    show ((quarters D.wout (864 + 1 * (j 0).val + 0) (0 + 1 * (j 1).val + 0) : ℝ) : EReal) = ((D.wout ((j 0).val + 768) ((j 1).val + 0) : ℝ) : EReal)
    unfold quarters; rw [if_pos (by omega)]; congr 2 <;> omega

include H in
/-- What every grid step leaves. -/
theorem outs : ∀ (n : ℕ) (h : n < cfg0.N), Did D (512 * (7 - n)) (D.sums n) (outAt m c n h)
  | 0, h => A.did (hc := first_cond 0 h rfl) (fed H ⟨0, h⟩) (start H)
  | n + 1, h => by
    have h8 := lt8 ⟨n + 1, h⟩
    have ih := outs n (Nat.lt_of_succ_lt h)
    rw [show 512 * (7 - n) = 512 * (7 - (n + 1)) + 512 by dsimp only at h8; omega] at ih
    exact B.did (hc := later_cond (n + 1) h (Nat.succ_ne_zero n)) (f0 := V m c main_v1) (f1 := V m c main_v5) (fed H ⟨n + 1, h⟩) ih.held

/-- The grid step that takes the tile of a row. -/
def tileOf (i : ℕ) (h : i < 4096) : Fin cfg0.N := ⟨7 - i / 512, by have h : cfg0.N = 8 := N_0; omega⟩
theorem in_tile {i x : ℕ} {h : i < 4096} (e : x = 7 - (tileOf i h).val) : x * 512 ≤ i ∧ i < x * 512 + 512 := by subst e; show (7 - (7 - i / 512)) * 512 ≤ i ∧ i < (7 - (7 - i / 512)) * 512 + 512; omega
theorem in_all {i x n : ℕ} (e : x = 0) (h : i < n) : x * n ≤ i ∧ i < x * n + n := by subst e; omega
/-- The last grid step. -/
def last : Fin cfg0.N := ⟨7, by have h : cfg0.N = 8 := N_0; omega⟩
theorem eq_last {t : Fin cfg0.N} (h : t.val % 8 = 7) : t = last := Fin.ext (by have := lt8 t; show t.val = 7; omega)

include H in
/-- The gradient of every row. -/
theorem final8 : (dats m 0 c).arrAt 8 cfg0.N = M32 (tile D.ox 32 0) :=
  (dats m 0 c).arrAt_eq_of_cover 8 (M32 (tile D.ox 32 0)) (fun t _ => by
    show (cfg0.win 8).cut (grid0.coords t) ((dats m 0 c).after 8 t) = _
    rw [after_dx, (outs H t.val t.isLt).dx, D.t_ox]
    funext j
    refine M_tile ?_ ?_
    · show _ = win0_8.index t 0 * 512 + 1 * (j 0).val + 32
      rw [(idx' _).1]; show (j 0).val + _ = _; omega
    · show _ = win0_8.index t 1 * 1024 + 1 * (j 1).val + 0
      rw [(idx' _).2.1]; show (j 1).val + _ = _; omega) fun i => by
    have h0 : (i 0 : Nat) < 4096 := (i 0).isLt
    refine ⟨tileOf (i 0).val h0, flush0_8 _, ?_⟩
    show i ∈ ((View.whole main_v22_0).slice (win0_8.rect (tileOf (i 0).val h0))).set
    rw [View.set_slice_whole, Rect.mem_set_unit]
    intro a
    match a with
    | ⟨0, _⟩ => exact in_tile ((idx' _).1 : win0_8.index (tileOf (i 0).val h0) 0 = _)
    | ⟨1, _⟩ => exact in_all ((idx' _).2.1 : win0_8.index (tileOf (i 0).val h0) 1 = _) (i 1).isLt

include H in
/-- The gradient of the projection. -/
theorem final9 : (dats m 0 c).arrAt 9 cfg0.N = M16 (tile D.dp 32 0) :=
  (dats m 0 c).arrAt_eq_of_cover 9 (M16 (tile D.dp 32 0)) (fun t _ => by
    show (cfg0.win 9).cut (grid0.coords t) ((dats m 0 c).after 9 t) = _
    rw [after_dp, (outs H t.val t.isLt).dp]
    funext j
    refine M_tile ?_ ?_
    · show _ = win0_9.index t 0 * 512 + 1 * (j 0).val + 32
      rw [(idx' _).2.2.1]; show (j 0).val + _ = _; omega
    · show _ = win0_9.index t 1 * 2048 + 1 * (j 1).val + 0
      rw [(idx' _).2.2.2.1]; show (j 1).val + _ = _; omega) fun i => by
    have h0 : (i 0 : Nat) < 4096 := (i 0).isLt
    refine ⟨tileOf (i 0).val h0, flush0_9 _, ?_⟩
    show i ∈ ((View.whole main_v22_1).slice (win0_9.rect (tileOf (i 0).val h0))).set
    rw [View.set_slice_whole, Rect.mem_set_unit]
    intro a
    match a with
    | ⟨0, _⟩ => exact in_tile ((idx' _).2.2.1 : win0_9.index (tileOf (i 0).val h0) 0 = _)
    | ⟨1, _⟩ => exact in_all ((idx' _).2.2.2.1 : win0_9.index (tileOf (i 0).val h0) 1 = _) (i 1).isLt

include H in
/-- The normalised, scaled rows. -/
theorem final10 : (dats m 0 c).arrAt 10 cfg0.N = M16 (tile D.oh 32 0) :=
  (dats m 0 c).arrAt_eq_of_cover 10 (M16 (tile D.oh 32 0)) (fun t _ => by
    show (cfg0.win 10).cut (grid0.coords t) ((dats m 0 c).after 10 t) = _
    rw [after_h, (outs H t.val t.isLt).h, D.t_oh]
    funext j
    refine M_tile ?_ ?_
    · show _ = win0_10.index t 0 * 512 + 1 * (j 0).val + 32
      rw [(idx' _).2.2.2.2.1]; show (j 0).val + _ = _; omega
    · show _ = win0_10.index t 1 * 1024 + 1 * (j 1).val + 0
      rw [(idx' _).2.2.2.2.2.1]; show (j 1).val + _ = _; omega) fun i => by
    have h0 : (i 0 : Nat) < 4096 := (i 0).isLt
    refine ⟨tileOf (i 0).val h0, flush0_10 _, ?_⟩
    show i ∈ ((View.whole main_v22_2).slice (win0_10.rect (tileOf (i 0).val h0))).set
    rw [View.set_slice_whole, Rect.mem_set_unit]
    intro a
    match a with
    | ⟨0, _⟩ => exact in_tile ((idx' _).2.2.2.2.1 : win0_10.index (tileOf (i 0).val h0) 0 = _)
    | ⟨1, _⟩ => exact in_all ((idx' _).2.2.2.2.2.1 : win0_10.index (tileOf (i 0).val h0) 1 = _) (i 1).isLt

include H in
/-- The incoming gradient. -/
theorem final11 : (dats m 0 c).arrAt 11 cfg0.N = M16 (tile D.d 32 0) :=
  (dats m 0 c).arrAt_eq_of_cover 11 (M16 (tile D.d 32 0)) (fun t _ => by
    show (cfg0.win 11).cut (grid0.coords t) ((dats m 0 c).after 11 t) = _
    rw [after_db, (outs H t.val t.isLt).db]
    funext j
    refine M_tile ?_ ?_
    · show _ = win0_11.index t 0 * 512 + 1 * (j 0).val + 32
      rw [(idx' _).2.2.2.2.2.2.1]; show (j 0).val + _ = _; omega
    · show _ = win0_11.index t 1 * 1024 + 1 * (j 1).val + 0
      rw [(idx' _).2.2.2.2.2.2.2]; show (j 1).val + _ = _; omega) fun i => by
    have h0 : (i 0 : Nat) < 4096 := (i 0).isLt
    refine ⟨tileOf (i 0).val h0, flush0_11 _, ?_⟩
    show i ∈ ((View.whole main_v22_3).slice (win0_11.rect (tileOf (i 0).val h0))).set
    rw [View.set_slice_whole, Rect.mem_set_unit]
    intro a
    match a with
    | ⟨0, _⟩ => exact in_tile ((idx' _).2.2.2.2.2.2.1 : win0_11.index (tileOf (i 0).val h0) 0 = _)
    | ⟨1, _⟩ => exact in_all ((idx' _).2.2.2.2.2.2.2 : win0_11.index (tileOf (i 0).val h0) 1 = _) (i 1).isLt

include H in
/-- The gain's gradient. -/
theorem final12 : (dats m 0 c).arrAt 12 cfg0.N = M32 (tile D.og 0 0) :=
  (dats m 0 c).arrAt_eq_of_cover 12 (M32 (tile D.og 0 0)) (fun t hf => by
    obtain rfl := eq_last ((flush0_12 t).mp hf)
    show (cfg0.win 12).cut (grid0.coords last) ((dats m 0 c).after 12 last) = _
    rw [after_dg, (outs H last.val last.isLt).dg]
    funext j
    refine (congrArg (fun f : ℕ → ℕ → ℝ => M32 (tile f 0 0) _) (funext fun t => funext fun c => D.all_g t c)).trans (M_tile ?_ ?_)
    · show _ = win0_12.index last 0 * 1 + 1 * (j 0).val + 0
      rw [(idxw _).2.2.2.2.1]; show (j 0).val + 0 = 0 * 1 + _ + 0; omega
    · show _ = win0_12.index last 1 * 1024 + 1 * (j 1).val + 0
      rw [(idxw _).2.2.2.2.1]; show (j 1).val + 0 = 0 * 1024 + _ + 0; omega) fun i => by
    refine ⟨last, (flush0_12 _).mpr rfl, ?_⟩
    show i ∈ ((View.whole main_v22_4).slice (win0_12.rect last)).set
    rw [View.set_slice_whole, Rect.mem_set_unit]
    exact fun a => in_all (congrFun ((idxw _).2.2.2.2.1 : win0_12.index last = 0) a) (i a).isLt

include H in
/-- The taps' gradient. -/
theorem final13 : (dats m 0 c).arrAt 13 cfg0.N = M32 (tile D.ok 0 0) :=
  (dats m 0 c).arrAt_eq_of_cover 13 (M32 (tile D.ok 0 0)) (fun t hf => by
    obtain rfl := eq_last ((flush0_13 t).mp hf)
    show (cfg0.win 13).cut (grid0.coords last) ((dats m 0 c).after 13 last) = _
    rw [after_dk, (outs H last.val last.isLt).dk]
    funext j
    refine (congrArg (fun f : ℕ → ℕ → ℝ => M32 (tile f 0 0) _) (funext fun t => funext fun c => D.all_k t c)).trans (M_tile ?_ ?_)
    · show _ = win0_13.index last 0 * 3 + 1 * (j 0).val + 0
      rw [(idxw _).2.2.2.2.2.1]; show (j 0).val + 0 = 0 * 3 + _ + 0; omega
    · show _ = win0_13.index last 1 * 512 + 1 * (j 1).val + 0
      rw [(idxw _).2.2.2.2.2.1]; show (j 1).val + 0 = 0 * 512 + _ + 0; omega) fun i => by
    refine ⟨last, (flush0_13 _).mpr rfl, ?_⟩
    show i ∈ ((View.whole main_v22_5).slice (win0_13.rect last)).set
    rw [View.set_slice_whole, Rect.mem_set_unit]
    exact fun a => in_all (congrFun ((idxw _).2.2.2.2.2.1 : win0_13.index last = 0) a) (i a).isLt

include H in
/-- The scale's gradient. -/
theorem final14 : (dats m 0 c).arrAt 14 cfg0.N = M32 (tile D.os 0 0) :=
  (dats m 0 c).arrAt_eq_of_cover 14 (M32 (tile D.os 0 0)) (fun t hf => by
    obtain rfl := eq_last ((flush0_14 t).mp hf)
    show (cfg0.win 14).cut (grid0.coords last) ((dats m 0 c).after 14 last) = _
    rw [after_ds, (outs H last.val last.isLt).ds]
    funext j
    refine (congrArg (fun f : ℕ → ℕ → ℝ => M32 (tile f 0 0) _) (funext fun t => funext fun c => D.all_s t c)).trans (M_tile ?_ ?_)
    · show _ = win0_14.index last 0 * 1 + 1 * (j 0).val + 0
      rw [(idxw _).2.2.2.2.2.2.1]; show (j 0).val + 0 = 0 * 1 + _ + 0; omega
    · show _ = win0_14.index last 1 * 512 + 1 * (j 1).val + 0
      rw [(idxw _).2.2.2.2.2.2.1]; show (j 1).val + 0 = 0 * 512 + _ + 0; omega) fun i => by
    refine ⟨last, (flush0_14 _).mpr rfl, ?_⟩
    show i ∈ ((View.whole main_v22_6).slice (win0_14.rect last)).set
    rw [View.set_slice_whole, Rect.mem_set_unit]
    exact fun a => in_all (congrFun ((idxw _).2.2.2.2.2.2.1 : win0_14.index last = 0) a) (i a).isLt

include H in
/-- The gradient of the groups' weights. -/
theorem final15 : (dats m 0 c).arrAt 15 cfg0.N = T3 (fun s => tile (D.ow s) 0 0) :=
  (dats m 0 c).arrAt_eq_of_cover 15 (T3 (fun s => tile (D.ow s) 0 0)) (fun t hf => by
    obtain rfl := eq_last ((flush0_15 t).mp hf)
    show (cfg0.win 15).cut (grid0.coords last) ((dats m 0 c).after 15 last) = _
    rw [after_dw, (outs H last.val last.isLt).dw]
    funext j
    refine (congrArg (fun f : ℕ → ℕ → ℕ → ℝ => T3 (fun s => tile (f s) 0 0) _) (funext fun s => funext fun l => funext fun c => D.all_w s l c)).trans (congrArg _ (funext fun a => Fin.ext ?_))
    show (j a).val = win0_15.index last a * win0_15.block.size a + 1 * (j a).val
    rw [(idxw _).2.2.2.2.2.2.2]; show _ = 0 * _ + _; omega) fun i => by
    refine ⟨last, (flush0_15 _).mpr rfl, ?_⟩
    show i ∈ ((View.whole main_v22_7).slice (win0_15.rect last)).set
    rw [View.set_slice_whole, Rect.mem_set_unit]
    exact fun a => in_all (congrFun ((idxw _).2.2.2.2.2.2.2 : win0_15.index last = 0) a) (i a).isLt

end arr

end Step.Mix
-- ==== Proof.MixRef.lean ====
module

public import proofs.«01_k».proof.Proof.MixSeq
public import proofs.«01_k».proof.Proof.FfnRef
public import proofs.«01_k».proof.Proof.MixArr

@[expose] public section

set_option maxRecDepth 16384

noncomputable section

namespace Step.Mix

open Idealize Idealize.ShloMosaic Idealize.ShloMosaic.TcCoe Idealize.SL.Sem Finset
open Cert.MixRIdeal Cert.MixRIdeal.Gen Cert.MixRIdeal.Value

/-- What the reference is run on. -/
structure Given (v : Valuation τ sig (Elt Ideal)) (D : Dat) : Prop where
  p0 : ∀ r c, r < 32 → D.p r c = 0
  p1 : ∀ r c, 4128 ≤ r → D.p r c = 0
  d0 : ∀ r c, r < 32 → D.d r c = 0
  d1 : ∀ r c, 4128 ≤ r → D.d r c = 0
  d : v (Proc.devRef .tc main_arg7) = M32 (tile D.d 32 0)
  x : v (Proc.devRef .tc main_arg0) = M32 (tile D.x 32 0)
  g : v (Proc.devRef .tc main_arg1) = M32 (tile D.g 0 0)
  win : v (Proc.devRef .tc main_arg2) = M32 fun i j => tile D.win 0 0 j i
  k : v (Proc.devRef .tc main_arg3) = M32 (tile D.k 0 0)
  w : v (Proc.devRef .tc main_arg4) = T3 fun s => tile (D.w s.val) 0 0
  s : v (Proc.devRef .tc main_arg5) = M32 (tile D.s 0 0)
  wout : v (Proc.devRef .tc main_arg6) = M32 (tile D.wout 0 0)
  p : (mm (tile D.oh 32 0) (fun (i : Fin 1024) j => tile D.win 0 0 j i) : Fin 4096 → Fin 2048 → ℝ) = tile D.p 32 0

theorem rdotP : dot_S4096x1024_S1024x2048_S4096x2048_1_0_0_1_n_n = DotDims.plain 4096 1024 2048 := rfl
theorem rdotY : dot_S4096x1024_S1024x1024_S4096x1024_1_1_0_0_n_n = DotDims.transposedRhs 4096 1024 1024 := rfl
theorem rdotH : dot_S4096x2048_S1024x2048_S4096x1024_1_1_0_0_n_n = DotDims.transposedRhs 4096 2048 1024 := rfl

variable {v : Valuation τ sig (Elt Ideal)} {D : Dat} (H : Given v D)
include H

/-! ## Zeros outside the rows -/

theorem z0 (r c : ℕ) (h : r < 32) : D.z r c = 0 := by unfold Dat.z; rw [H.p0 _ _ h, zero_mul]
theorem u0 (r c : ℕ) (h : r < 32) : D.u r c = 0 := H.p0 _ _ h
theorem u1 (r c : ℕ) (h : 4128 ≤ r) : D.u r c = 0 := H.p1 _ _ h
theorem dcv0 (r c : ℕ) (h : r < 32) : D.dcv r c = 0 := by unfold Dat.dcv; rw [H.p0 _ _ h, mul_zero]
theorem dcv1 (r c : ℕ) (h : 4128 ≤ r) : D.dcv r c = 0 := by unfold Dat.dcv; rw [H.p1 _ _ h, mul_zero]
theorem dy1 (r c : ℕ) (h : 4128 ≤ r) : D.dy r c = 0 := sum_eq_zero fun q _ => by rw [H.d1 _ _ h, zero_mul]
theorem eg1 (s r c : ℕ) (h : 4128 ≤ r) : D.eg s r c = 0 := by
  have e : D.dpl s r c = 0 := sum_eq_zero fun l _ => by unfold Dat.dq Dat.dyb; rw [dy1 H _ _ h, zero_mul, zero_mul]
  unfold Dat.eg
  rw [e, zero_mul]

/-! ## The projection, the convolution and the pooled rows -/

theorem v9 : res_main_v9 v = M32 (colv fun r : Fin 4096 => D.rr (r.val + 32)) := by
  unfold res_main_v9 res_main_v8
  rw [H.x]
  simp only [kk_zero, kk_1024, kk_eps, bid_KM, bid_col, mulf_M, hred_R, host_mean, addf_M, host_rr]
  rfl
theorem v14 : res_main_v14 v = M32 (tile (fun r c => D.x r c * D.rr r) 32 0) := by
  unfold res_main_v14
  rw [v9 H, H.x, bid_M1, mulf_M]
  rfl
theorem v15 : res_main_v15 v = M32 (rowv D.gain) := by
  unfold res_main_v15
  rw [H.g]
  exact asrow (tile D.g 0 0) _ _
theorem v17 : res_main_v17 v = M32 (tile D.oh 32 0) := by
  unfold res_main_v17
  rw [v14 H, v15 H, bid_1M, mulf_M]
  rfl
theorem v19 : res_main_v19 v = M32 (tile D.p 32 0) := by
  unfold res_main_v19
  rw [v17 H, H.win, rdotP, dot_mm, kk_zero, bid_KM, addf_M, Step.Ffn.addz, H.p]
theorem v20 : res_main_v20 v = M32 (tile D.p 32 0) := by unfold res_main_v20; rw [v19 H]; exact cut _ _ _ _ _ _
theorem v21 : res_main_v21 v = M32 (tile D.p 32 512) := by unfold res_main_v21; rw [v19 H]; exact cut _ _ _ _ _ _
theorem v22 : res_main_v22 v = M32 (tile D.p 32 1024) := by unfold res_main_v22; rw [v19 H]; exact cut _ _ _ _ _ _
theorem v26 : res_main_v26 v = M32 (tile D.z 30 0) := by
  unfold res_main_v26
  rw [kk_zero]
  exact shift D.z 32 0 (bid_KM _ _ _) (by rw [v20 H, v22 H, mulf_M]; rfl) (by omega) (z0 H) _
theorem v30 : res_main_v30 v = M32 (tile D.z 30 0) := by unfold res_main_v30; rw [v26 H]; exact cut _ _ _ _ _ _
theorem v38 : res_main_v38 v = M32 (tile D.z 31 0) := by unfold res_main_v38; rw [v26 H]; exact cut _ _ _ _ _ _
theorem v45 : res_main_v45 v = M32 (tile D.z 32 0) := by unfold res_main_v45; rw [v26 H]; exact cut _ _ _ _ _ _

omit H in
/-- One row of the taps. -/
theorem tap (A : ℕ → ℕ → ℝ) (t : ℕ) (hs : (⟨2, ![3, 512]⟩ : Shape).Slices ![t, 0] ⟨2, ![1, 512]⟩) (h hb) :
    broadcastInDim ⟨2, ![1, 512]⟩ ![1] hb (shapeCast ⟨1, ![512]⟩ (extractStridedSlice ⟨2, ![1, 512]⟩ ![t, 0] (M32 (tile A 0 0 : Fin 3 → Fin 512 → ℝ)) hs) h) = M32 (rowv fun c : Fin 512 => A t c.val) := by
  rw [cut, cast_unrow, bid_row]
  refine congrArg M (funext fun i => funext fun j => ?_)
  show A (0 + (0 + t)) (j.val + (0 + 0)) = A t j.val
  rw [Nat.zero_add, Nat.zero_add]
  rfl
theorem v31 : res_main_v31 v = M32 (rowv fun c => D.k 0 c.val) := by unfold res_main_v31; rw [H.k]; exact tap D.k 0 _ _ _
theorem v39 : res_main_v39 v = M32 (rowv fun c => D.k 1 c.val) := by unfold res_main_v39; rw [H.k]; exact tap D.k 1 _ _ _
theorem v46 : res_main_v46 v = M32 (rowv fun c => D.k 2 c.val) := by unfold res_main_v46; rw [H.k]; exact tap D.k 2 _ _ _
theorem v49 : res_main_v49 v = M32 (tile D.conv 32 0) := by
  unfold res_main_v49
  simp only [v31 H, v39 H, v46 H, v30 H, v38 H, v45 H, kk_zero, bid_KM, bid_1M, mulf_M, addf_M]
  refine congrArg M (funext fun i => funext fun j => ?_)
  show 0 + D.k 0 j * D.z (i + 30) j + D.k 1 j * D.z (i + 31) j + D.k 2 j * D.z (i + 32) j = D.k 2 j * D.z (i + 32) j + D.k 1 j * D.z (i + 31) j + D.k 0 j * D.z (i + 30) j
  ring

theorem v51 : res_main_v51 v = G3 fun s r c => D.u r (c + 128 * s) := by
  unfold res_main_v51
  rw [v19 H]
  exact (congrArg (fun a => shapeCast S4096x4x128 a _) (cut D.p 32 0 0 1536 _)).trans (cast_G3 (A := D.u) (fun _ _ _ _ _ => rfl) _)
theorem v52 : res_main_v52 v = G3 fun s r c => ∑ i ∈ range 4096, D.u (r + i - 4095) (c + 128 * s) := by
  unfold res_main_v52
  rw [v51 H, kk_zero, bid_KK]
  exact running 4096 rfl _ 4095 0 (fun _ s r c h => u0 H _ _ h) (fun s r c h => u1 H _ _ h) _ _
theorem v55 : res_main_v55 v = addf (R (φ := .f32) fun _ => 1) (R fun r => (r.val : ℝ)) := by
  unfold res_main_v55
  rw [kk_one, bid_KR]
  exact congrArg (addf _) numbers
theorem v64 : res_main_v64 v = M32 (colv (upto 2)) := by
  unfold res_main_v64; rw [v55 H, kk_two, bid_KR]; exact counts 2 _ (by norm_num) _
theorem v79 : res_main_v79 v = M32 (colv (upto 4)) := by
  unfold res_main_v79; rw [v55 H, kk_four, bid_KR]; exact counts 4 _ (by norm_num) _
theorem v94 : res_main_v94 v = M32 (colv (upto 8)) := by
  unfold res_main_v94; rw [v55 H, kk_eight, bid_KR]; exact counts 8 _ (by norm_num) _
theorem v109 : res_main_v109 v = M32 (colv (upto 16)) := by
  unfold res_main_v109; rw [v55 H, kk_sixteen, bid_KR]; exact counts 16 _ (by norm_num) _
theorem v57 : res_main_v57 v = M32 (tile (fun r c => ∑ i ∈ range 4096, D.u (r + i - 4095) (c + 128 * 0)) 32 0) := by unfold res_main_v57; rw [v52 H]; exact group _ 0 _ _
theorem v72 : res_main_v72 v = M32 (tile (fun r c => ∑ i ∈ range 4096, D.u (r + i - 4095) (c + 128 * 1)) 32 0) := by unfold res_main_v72; rw [v52 H]; exact group _ 1 _ _
theorem v87 : res_main_v87 v = M32 (tile (fun r c => ∑ i ∈ range 4096, D.u (r + i - 4095) (c + 128 * 2)) 32 0) := by unfold res_main_v87; rw [v52 H]; exact group _ 2 _ _
theorem v102 : res_main_v102 v = M32 (tile (fun r c => ∑ i ∈ range 4096, D.u (r + i - 4095) (c + 128 * 3)) 32 0) := by unfold res_main_v102; rw [v52 H]; exact group _ 3 _ _
theorem v120 : res_main_v120 v = G3 D.pool := by
  unfold res_main_v120
  rw [v51 H, kk_zero]
  exact join_of D.pool
    (pooled D (u0 H) 0 2 (by omega) rfl (group _ 0 _ _) (v57 H) (bid_KM _ _ _) (v64 H) _ _ _ _) (pooled D (u0 H) 1 4 (by omega) rfl (group _ 1 _ _) (v72 H) (bid_KM _ _ _) (v79 H) _ _ _ _)
    (pooled D (u0 H) 2 8 (by omega) rfl (group _ 2 _ _) (v87 H) (bid_KM _ _ _) (v94 H) _ _ _ _) (pooled D (u0 H) 3 16 (by omega) rfl (group _ 3 _ _) (v102 H) (bid_KM _ _ _) (v109 H) _ _ _ _) _

/-! ## The gradients of the two parts -/

theorem v123 : res_main_v123 v = M32 (tile (fun r c => D.q (c / 128) r (c % 128)) 32 0) := by
  unfold res_main_v123
  rw [v120 H, H.w, G3, dot_q, tr201]
  refine (congrArg (fun a => shapeCast S4096x512 a _) (?_ : _ = G3 D.q)).trans (uncast_G3 (fun _ _ _ => rfl) _)
  refine congrArg T3 (funext fun r => funext fun s => funext fun c => sum_congr rfl fun l _ => ?_)
  exact mul_comm _ _
theorem v125 : res_main_v125 v = M32 (rowv fun c => D.s 0 c.val) := by
  unfold res_main_v125
  rw [H.s]
  exact asrow (tile D.s 0 0) _ _
theorem v132 : res_main_v132 v = M32 (tile D.dy 32 0) := by
  unfold res_main_v132
  rw [H.d, H.wout, rdotY]
  exact (congrArg (fun a => Host.dotGeneral _ none a _) (Step.Ffn.cast_self _ _)).trans (dot_mt _ _ _)
theorem v133 : res_main_v133 v = M32 (tile D.dy 32 0) := by unfold res_main_v133; rw [v132 H]; exact cut _ _ _ _ _ _
theorem v134 : res_main_v134 v = M32 (tile D.dy 32 512) := by unfold res_main_v134; rw [v132 H]; exact cut _ _ _ _ _ _
theorem v143 : res_main_v143 v = T3 fun s c r => D.dq s.val (r.val + 32) c.val := by
  unfold res_main_v143
  rw [v134 H, v125 H, bid_1M, mulf_M]
  refine (congrArg (fun a => transpose S4x128x4096 [1, 2, 0] a _) ((cast_G3 (A := fun r c => D.dy r (c + 512) * D.s 0 c) (X := D.dq) (fun s r c _ _ => ?_) _))).trans (tr120 _ _)
  show D.dy r (c + (512 + 128 * s)) * _ = D.dy r (c + 128 * s + 512) * _
  rw [show c + (512 + 128 * s) = c + 128 * s + 512 by omega]
theorem v145 : res_main_v145 v = G3 D.dpl := by
  unfold res_main_v145
  rw [v143 H, H.w, dot_dpl, tr102]
  rfl
theorem v149 : res_main_v149 v = M32 (tile (D.dpl 0) 32 0) := by unfold res_main_v149; rw [v145 H]; exact group _ 0 _ _
theorem v151 : res_main_v151 v = M32 (tile (D.dpl 1) 32 0) := by unfold res_main_v151; rw [v145 H]; exact group _ 1 _ _
theorem v153 : res_main_v153 v = M32 (tile (D.dpl 2) 32 0) := by unfold res_main_v153; rw [v145 H]; exact group _ 2 _ _
theorem v155 : res_main_v155 v = M32 (tile (D.dpl 3) 32 0) := by unfold res_main_v155; rw [v145 H]; exact group _ 3 _ _
theorem v201 : res_main_v201 v = M32 (tile (D.eg 0) 32 0) := by unfold res_main_v201; exact over 1 (v149 H) (v64 H) _
theorem v187 : res_main_v187 v = M32 (tile (D.eg 1) 32 0) := by unfold res_main_v187; exact over 2 (v151 H) (v79 H) _
theorem v173 : res_main_v173 v = M32 (tile (D.eg 2) 32 0) := by unfold res_main_v173; exact over 3 (v153 H) (v94 H) _
theorem v160 : res_main_v160 v = M32 (tile (D.eg 3) 32 0) := by unfold res_main_v160; exact over 4 (v155 H) (v109 H) _
theorem v213 : res_main_v213 v = M32 (tile D.dcv 32 0) := by
  unfold res_main_v213
  rw [v21 H, v133 H, mulf_M]
  exact congrArg M (funext fun i => funext fun j => mul_comm _ _)

end Step.Mix
-- ==== Proof.MixIn.lean ====
module

public import proofs.«01_k».proof.Proof.MixRef

@[expose] public section

set_option maxRecDepth 16384

noncomputable section

namespace Step.Mix

open Idealize Idealize.ShloMosaic Idealize.ShloMosaic.TcCoe Idealize.SL.Sem Finset

variable {m n : ℕ}

/-- A matrix from some row on, with zeros around it. -/
def ext (k : ℕ) (A : Fin m → Fin n → ℝ) (r c : ℕ) : ℝ := if h : (k ≤ r ∧ r - k < m) ∧ c < n then A ⟨r - k, h.1.2⟩ ⟨c, h.2⟩ else 0

theorem ext_before (k : ℕ) (A : Fin m → Fin n → ℝ) (r c : ℕ) (h : r < k) : ext k A r c = 0 := dif_neg fun e => absurd e.1.1 (by omega)
theorem ext_after (k : ℕ) (A : Fin m → Fin n → ℝ) (r c : ℕ) (h : k + m ≤ r) : ext k A r c = 0 := dif_neg fun e => absurd e.1.2 (by omega)
theorem ext_at (k : ℕ) (A : Fin m → Fin n → ℝ) (i : Fin m) (j : Fin n) {r c : ℕ} (hr : r = i.val + k) (hc : c = j.val) : ext k A r c = A i j := by
  subst hr hc
  exact (dif_pos ⟨⟨Nat.le_add_left _ _, by rw [Nat.add_sub_cancel]; exact i.isLt⟩, j.isLt⟩).trans (congrArg (A · j) (Fin.ext (Nat.add_sub_cancel _ _)))
theorem tile_ext (k : ℕ) (A : Fin m → Fin n → ℝ) : tile (ext k A) k 0 = A := funext fun i => funext fun j => ext_at k A i j rfl rfl

/-- The weight cut in quarters with 32 rows of zeros after each. -/
theorem parts (A : Fin 1024 → Fin 1024 → ℝ) {z : FVec Ideal ⟨0, ![]⟩ .bf16} (hz : z = K 0) (h1 : (⟨2, ![1024, 1024]⟩ : Shape).ShapeCasts ⟨3, ![4, 256, 1024]⟩)
    (hp : (⟨3, ![4, 256, 1024]⟩ : Shape).Pads ![0, 0, 0] ![0, 32, 0] ![0, 0, 0] ⟨3, ![4, 288, 1024]⟩) (hu) (h2 : (⟨3, ![4, 288, 1024]⟩ : Shape).ShapeCasts ⟨2, ![1152, 1024]⟩) :
    shapeCast ⟨2, ![1152, 1024]⟩ (pad ⟨3, ![4, 288, 1024]⟩ ![0, 0, 0] ![0, 32, 0] ![0, 0, 0] (shapeCast ⟨3, ![4, 256, 1024]⟩ (M16 A) h1) z hp hu) h2 = M16 (tile (quarters (ext 0 A)) 0 0) := by
  subst hz
  funext j; obtain ⟨r, c, rfl⟩ := at2 j
  refine (shapeCast_apply _ h2 _ (ix3 (⟨r.val / 288, by omega⟩ : Fin 4) (⟨r.val % 288, by omega⟩ : Fin 288) c) ?_).trans ?_
  · rw [Shape.rowMajor_val_two, Shape.rowMajor_val_three]
    show (r.val / 288 * 288 + r.val % 288) * 1024 + c.val = r.val * 1024 + c.val
    omega
  by_cases h : r.val % 288 < 256
  · refine (pad_apply_of_inside _ _ _ _ _ hp hu _ (ix3 (⟨r.val / 288, by omega⟩ : Fin 4) (⟨r.val % 288, h⟩ : Fin 256) c) fun a => ?_).trans ?_
    · match a with
      | ⟨0, _⟩ => show r.val / 288 = 0 + r.val / 288 * 1; omega
      | ⟨1, _⟩ => show r.val % 288 = 0 + r.val % 288 * 1; omega
      | ⟨2, _⟩ => show c.val = 0 + c.val * 1; omega
    refine (shapeCast_apply _ h1 _ (ix2 (⟨256 * (r.val / 288) + r.val % 288, by omega⟩ : Fin 1024) c) ?_).trans (congrArg Real.toEReal ?_)
    · rw [Shape.rowMajor_val_two, Shape.rowMajor_val_three]
      show (256 * (r.val / 288) + r.val % 288) * 1024 + c.val = (r.val / 288 * 256 + r.val % 288) * 1024 + c.val
      omega
    · exact ((if_pos h).trans (ext_at 0 A _ _ rfl rfl)).symm
  · refine (pad_apply_of_not_inside _ _ _ _ _ hp hu _ 1 fun x => h ?_).trans (congrArg Real.toEReal (if_neg h).symm)
    have h1 : (r.val % 288 - 0) / 1 < 256 := x.2.2
    omega

/-- The integer zero as a number of the ideal arithmetic. -/
theorem int_zero : sitofp (F := Ideal) .bf16 (constantI ⟨0, ![]⟩ 32 0#32) = K 0 := funext fun _ => (sitofp_zero (φ := .bf16)).trans EReal.coe_zero.symm

section
variable (X : Fin 4096 → Fin 1024 → ℝ) (N : Fin 1 → Fin 1024 → ℝ) (P : Fin 1024 → Fin 2048 → ℝ) (T : Fin 3 → Fin 512 → ℝ) (W : Fin 4 → Fin 128 → Fin 128 → ℝ)
  (S : Fin 1 → Fin 512 → ℝ) (O : Fin 1024 → Fin 1024 → ℝ) (d : Fin 4096 → Fin 1024 → ℝ)

/-- What both programs compute on, from their arguments. -/
def dat : Dat where
  d := ext 32 d
  x := ext 32 X
  g := ext 0 N
  p := ext 32 (mm (hn X (N 0)) P)
  k := ext 0 T
  w s := if h : s < 4 then ext 0 (W ⟨s, h⟩) else fun _ _ => 0
  s := ext 0 S
  win := ext 0 fun j i => P i j
  wout := ext 0 O

theorem dat_w : (fun s : Fin 4 => tile ((dat X N P T W S O d).w s.val) 0 0) = W := funext fun s => (congrArg (tile · 0 0) (dif_pos s.isLt)).trans (tile_ext 0 (W s))
theorem dat_gain : (dat X N P T W S O d).gain = N 0 := congrFun (tile_ext 0 N) 0
theorem dat_oh : tile (dat X N P T W S O d).oh 32 0 = hn X (N 0) := by
  rw [← Dat.t_oh, dat_gain]
  exact congrArg (hn · (N 0)) (tile_ext 32 X)
theorem dat_p : (mm (tile (dat X N P T W S O d).oh 32 0) (fun (i : Fin 1024) j => tile (dat X N P T W S O d).win 0 0 j i) : Fin 4096 → Fin 2048 → ℝ) = tile (dat X N P T W S O d).p 32 0 := by
  rw [dat_oh]
  exact (congrArg (fun A : Fin 2048 → Fin 1024 → ℝ => mm (hn X (N 0)) fun i j => A j i) (tile_ext 0 fun j i => P i j)).trans (tile_ext 32 _).symm

section given
open Cert.MixRIdeal

/-- The reference's arguments. -/
theorem given {v : Valuation τ sig (Elt Ideal)} (h0 : v (Proc.devRef .tc main_arg0) = M32 X) (h1 : v (Proc.devRef .tc main_arg1) = M32 N) (h2 : v (Proc.devRef .tc main_arg2) = M32 P)
    (h3 : v (Proc.devRef .tc main_arg3) = M32 T) (h4 : v (Proc.devRef .tc main_arg4) = T3 W) (h5 : v (Proc.devRef .tc main_arg5) = M32 S) (h6 : v (Proc.devRef .tc main_arg6) = M32 O)
    (h7 : v (Proc.devRef .tc main_arg7) = M32 d) : Given v (dat X N P T W S O d) where
  p0 := ext_before 32 _
  p1 := ext_after 32 (mm (hn X (N 0)) P)
  d0 := ext_before 32 _
  d1 := ext_after 32 d
  d := h7.trans (congrArg M32 (tile_ext 32 d).symm)
  x := h0.trans (congrArg M32 (tile_ext 32 X).symm)
  g := h1.trans (congrArg M32 (tile_ext 0 N).symm)
  win := h2.trans (congrArg (fun A : Fin 2048 → Fin 1024 → ℝ => M32 fun i j => A j i) (tile_ext 0 fun j i => P i j).symm)
  k := h3.trans (congrArg M32 (tile_ext 0 T).symm)
  w := h4.trans (congrArg T3 (dat_w X N P T W S O d).symm)
  s := h5.trans (congrArg M32 (tile_ext 0 S).symm)
  wout := h6.trans (congrArg M32 (tile_ext 0 O).symm)
  p := dat_p X N P T W S O d
end given

section launched
open Cert.MixKIdeal Cert.MixKIdeal.Gen
variable {X N P T W S O d} (m : (ℓ : Loc nD τ sig) → Buf (Elt Ideal) ℓ) (c : Dev nD)

theorem kdot : dot_S4096x1024_S1024x2048_S4096x2048_1_0_0_1_n_n = DotDims.plain 4096 1024 2048 := rfl

theorem in1 (h : m (c, Proc.tc.devRef main_arg2) = M32 P) : V m c main_v1 = M16 (fun j i => P i j) := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp
  rw [h, tr_M]; rfl
theorem in5 (h : m (c, Proc.tc.devRef main_arg6) = M32 O) : V m c main_v5 = M16 (tile (quarters (ext 0 O)) 0 0) := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp
  rw [h, truncf_M]
  exact parts O int_zero _ _ _ _
theorem in21 (h0 : m (c, Proc.tc.devRef main_arg0) = M32 X) (h1 : m (c, Proc.tc.devRef main_arg1) = M32 N) (h2 : m (c, Proc.tc.devRef main_arg2) = M32 P) :
    V m c main_v21 = M16 (mm (hn X (N 0)) P) := by
  simp only [V, hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp
  have e : (fun i => shapeCast main_v6.ty.shape (m (c, Proc.tc.devRef main_arg1)) shapeCasts_S1x1024_S1024 i) = R (φ := .f32) (N 0) := by
    rw [h1]; exact cast_unrow _ _
  rw [e, h0, h2, kdot]
  simp only [kk_zero, kk_1024, kk_eps, bid_KM, bid_row, bid_col, bid_1M, bid_M1, mulf_M, hred_R, host_mean, addf_M, host_rr, dot_mm, truncf_M]
  rfl

/-- What the kernel is launched on. -/
theorem launched (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 T) (h4 : m ((c.tc : Thread nD τ).loc main_arg4) = T3 W) (h5 : m ((c.tc : Thread nD τ).loc main_arg5) = M32 S) (h6 : m ((c.tc : Thread nD τ).loc main_arg6) = M32 O)
    (h7 : m ((c.tc : Thread nD τ).loc main_arg7) = M32 d) : Launched m c (dat X N P T W S O d) where
  zero := ext_before 32 _
  zend := ext_after 32 d
  d := ((V_main_arg7 m c).trans h7).trans (congrArg M32 (tile_ext 32 d).symm)
  x := ((V_main_arg0 m c).trans h0).trans (congrArg M32 (tile_ext 32 X).symm)
  g := ((V_main_arg1 m c).trans h1).trans (congrArg M32 (tile_ext 0 N).symm)
  p := (in21 m c h0 h1 h2).trans (congrArg M16 (tile_ext 32 _).symm)
  k := ((V_main_arg3 m c).trans h3).trans (congrArg M32 (tile_ext 0 T).symm)
  w := ((V_main_arg4 m c).trans h4).trans (congrArg T3 (dat_w X N P T W S O d).symm)
  s := ((V_main_arg5 m c).trans h5).trans (congrArg M32 (tile_ext 0 S).symm)
  win := (in1 m c h2).trans (congrArg M16 (tile_ext 0 _).symm)
  wout := in5 m c h6
end launched
end

end Step.Mix
-- ==== Proof.MixBack.lean ====
module

public import proofs.«01_k».proof.Proof.MixRef

@[expose] public section

set_option maxRecDepth 16384

noncomputable section

namespace Step.Mix

open Idealize Idealize.ShloMosaic Idealize.ShloMosaic.TcCoe Idealize.SL.Sem Finset
open Cert.MixRIdeal Cert.MixRIdeal.Gen Cert.MixRIdeal.Value

variable {v : Valuation τ sig (Elt Ideal)} {D : Dat} (H : Given v D)

/-- Both gradients of the pooling, group by group: the rows' own share and their share in the windows they are in. -/
theorem fs_e (s r c : ℕ) (hc : c < 128) : fs D.e (s + 1) r (c + 128 * s) = fs (D.eg s) (s + 1) r c := by
  rw [fs_sum, fs_sum]
  refine sum_congr rfl fun i _ => ?_
  unfold Dat.e
  rw [show (c + 128 * s) / 128 = s by omega, show (c + 128 * s) % 128 = c by omega]

include H

theorem v242 : res_main_v242 v = M32 (tile D.dz 30 0) := by
  unfold res_main_v242
  simp only [v31 H, v39 H, v46 H, v213 H, kk_zero, bid_1M, mulf_M]
  have h0 : ∀ t i j, i < 32 → D.k t j * D.dcv i j = 0 := fun t i j hi => by rw [dcv0 H _ _ hi, mul_zero]
  have h1 : ∀ t i j, 32 + 4096 ≤ i → D.k t j * D.dcv i j = 0 := fun t i j hi => by rw [dcv1 H _ _ hi, mul_zero]
  refine (congrArg₂ addf (congrArg₂ addf (pad_rows (p := 4098) (fun r c => D.k 2 c * D.dcv r c) 32 0 2 0 (by omega) _ _ (h0 2) (h1 2)) (pad_rows (p := 4098) (fun r c => D.k 1 c * D.dcv r c) 32 0 1 1 (by omega) _ _ (h0 1) (h1 1)))
    (pad_rows (p := 4098) (fun r c => D.k 0 c * D.dcv r c) 32 0 0 2 (by omega) _ _ (h0 0) (h1 0))).trans ?_
  rw [addf_M, addf_M]
  rfl
theorem v247 : res_main_v247 v = M32 (tile D.dz 32 0) := by unfold res_main_v247; rw [v242 H]; exact cut _ _ _ _ _ _

/-- The gradient of the projection. -/
theorem v256 : res_main_v256 v = M32 (tile D.dp 32 0) := by
  unfold res_main_v256 res_main_v161 res_main_v174 res_main_v188 res_main_v202
  simp only [kk_zero, bid_KK]
  refine (congrArg₂ addf (congrArg₂ addf (congrArg₂ addf ((congrArg (fun a => pad S4096x2048 ![0, 1536] ![0, 0] ![0, 0] a _ _ _) (?_ : _ = M32 (tile (fun r c => D.du (c / 128) r (c % 128)) 32 0))).trans (pad_cols _ 32 1536 0 _ _))
      ((congrArg (fun a => pad S4096x2048 ![0, 1024] ![0, 512] ![0, 0] a _ _ _) (?_ : _ = M32 (tile D.dgc 32 0))).trans (pad_cols _ 32 1024 512 _ _)))
      ((congrArg (fun a => pad S4096x2048 ![0, 512] ![0, 1024] ![0, 0] a _ _ _) (?_ : _ = M32 (tile D.dgb 32 0))).trans (pad_cols _ 32 512 1024 _ _)))
      ((congrArg (fun a => pad S4096x2048 ![0, 0] ![0, 1536] ![0, 0] a _ _ _) (?_ : _ = M32 (tile D.dv 32 0))).trans (pad_cols _ 32 0 1536 _ _))).trans ?_
  · refine (congrArg (fun a => shapeCast S4096x512 a _) (?_ : _ = G3 D.du)).trans (uncast_G3 (fun _ _ _ => rfl) _)
    refine (congrArg₂ addf (four (X := fun s r c => -D.dpl s r c) (placed ?_ 0 3 _ _ _ rfl) (placed ?_ 1 2 _ _ _ rfl) (placed ?_ 2 1 _ _ _ rfl) (placed ?_ 3 0 _ _ _ rfl))
      ((congrArg (fun a => Host.reduceWindowAdd ![4096, 1, 1] ![1, 1, 1] ![0, 0, 0] ![4095, 0, 0] a _ _ _)
        (four (X := fun s r c => D.eg s r c - D.eg s (r + 2 ^ (s + 1)) c) (placed (ahead 2 (v201 H) rfl (eg1 H 0) _ _ _ rfl) 0 3 _ _ _ rfl) (placed (ahead 4 (v187 H) rfl (eg1 H 1) _ _ _ rfl) 1 2 _ _ _ rfl)
          (placed (ahead 8 (v173 H) rfl (eg1 H 2) _ _ _ rfl) 2 1 _ _ _ rfl) (placed (ahead 16 (v160 H) rfl (eg1 H 3) _ _ _ rfl) 3 0 _ _ _ rfl))).trans
        (running 4096 rfl (fun s r c => D.eg s r c - D.eg s (r + 2 ^ (s + 1)) c) 0 4095 (fun h => absurd rfl h) (fun s r c h => by rw [eg1 H s r c h, eg1 H s _ c (h.trans (Nat.le_add_right _ _)), sub_zero]) _ _))).trans ?_
    · rw [v149 H, hneg_M]; rfl
    · rw [v151 H, hneg_M]; rfl
    · rw [v153 H, hneg_M]; rfl
    · rw [v155 H, hneg_M]; rfl
    rw [addf_G3]
    refine G3_congr fun s r c hs _ hc => ?_
    show -D.dpl s (r + 32) c + ∑ i ∈ range 4096, (D.eg s (r + 32 + i) c - D.eg s (r + 32 + i + 2 ^ (s + 1)) c) = fs D.e (s + 1) (r + 32) (c + 128 * s) - D.dpl s (r + 32) c
    rw [fs_run (D.eg s) (eg1 H s) (s + 1) (r + 32) c (by interval_cases s <;> decide) (by omega), fs_e s _ c hc]
    exact (sub_eq_neg_add _ _).symm
  · rw [v247 H, v20 H, mulf_M]; rfl
  · rw [v133 H, v49 H, mulf_M]; rfl
  · rw [v22 H, v247 H, mulf_M]; exact congrArg M (funext fun i => funext fun j => mul_comm _ _)
  · rw [addf_M, addf_M, addf_M]
    refine congrArg M (funext fun i => funext fun j => ?_)
    show (if 1536 ≤ j.val ∧ j.val < 1536 + 512 then D.du ((j.val - 1536) / 128) (i.val + 32) ((j.val - 1536) % 128) else 0) + (if 1024 ≤ j.val ∧ j.val < 1024 + 512 then D.dgc (i.val + 32) (j.val - 1024) else 0)
      + (if 512 ≤ j.val ∧ j.val < 512 + 512 then D.dgb (i.val + 32) (j.val - 512) else 0) + (if 0 ≤ j.val ∧ j.val < 0 + 512 then D.dv (i.val + 32) j.val else 0) = D.dp (i.val + 32) j.val
    have := j.isLt
    unfold Dat.dp
    rcases Nat.lt_or_ge j.val 512 with a | a
    · rw [if_neg (by omega), if_neg (by omega), if_neg (by omega), if_pos (by omega), if_pos a, zero_add, zero_add, zero_add]
    rcases Nat.lt_or_ge j.val 1024 with b | b
    · rw [if_neg (by omega), if_neg (by omega), if_pos (by omega), if_neg (by omega), if_neg (by omega), if_pos b, zero_add, zero_add, add_zero]
    rcases Nat.lt_or_ge j.val 1536 with d | d
    · rw [if_neg (by omega), if_pos (by omega), if_neg (by omega), if_neg (by omega), if_neg (by omega), if_neg (by omega), if_pos d, zero_add, add_zero, add_zero]
    · rw [if_pos (by omega), if_neg (by omega), if_neg (by omega), if_neg (by omega), if_neg (by omega), if_neg (by omega), if_neg (by omega), add_zero, add_zero, add_zero]

theorem v257 : res_main_v257 v = M32 (tile D.dh 32 0) := by
  unfold res_main_v257
  rw [v256 H, H.win, rdotH, dot_mt]
  rfl
theorem v262 : res_main_v262 v = M32 (tile (fun r c => D.dh r c * D.g 0 c) 32 0) := by
  unfold res_main_v262
  rw [v257 H, v15 H, bid_1M, mulf_M]
  rfl
theorem v274 : res_main_v274 v = M32 (hq (tile D.x 32 0) (tile (fun r c => D.dh r c * D.g 0 c) 32 0)) := by
  unfold res_main_v274 res_main_v9 res_main_v8
  rw [v262 H, H.x]
  simp only [kk_zero, kk_1024, kk_eps, kk_mhalf, bid_KM, bid_col, mulf_M, hred_R, host_mean, addf_M, host_rr, host_vq, cast_col]
  exact bid_col _ _

/-! ## The results -/

theorem back0 : addf (addf (addf (v (Proc.devRef .tc main_arg7)) (mulf (res_main_v262 v) (broadcastInDim S4096x1024 ![0, 1] bcast_S4096x1_S4096x1024_0_1 (res_main_v9 v)))) (mulf (v (Proc.devRef .tc main_arg0)) (res_main_v274 v))) (mulf (res_main_v274 v) (v (Proc.devRef .tc main_arg0)))
    = M32 (tile D.ox 32 0) := by
  rw [v262 H, v274 H, v9 H, H.d, H.x, bid_M1, mulf_M, mulf_M, mulf_M, addf_M, addf_M, addf_M, add_assoc (tile D.d 32 0), add_assoc (tile D.d 32 0)]
  exact congrArg M32 ((congrArg (tile D.d 32 0 + ·) (host_nb (tile D.x 32 0) _)).trans (D.t_ox 32))
theorem back1 : truncf .bf16 (res_main_v256 v) bitsLt_bf16_f32 = M16 (tile D.dp 32 0) := by rw [v256 H, truncf_M]
theorem back2 : truncf .bf16 (res_main_v17 v) bitsLt_bf16_f32 = M16 (tile D.oh 32 0) := by rw [v17 H, truncf_M]
theorem back3 : truncf .bf16 (v (Proc.devRef .tc main_arg7)) bitsLt_bf16_f32 = M16 (tile D.d 32 0) := by rw [H.d, truncf_M]

omit H in
/-- The sum over the rows, summed once more over its one row. -/
theorem twice {n : ℕ} (A : Fin 4096 → Fin n → ℝ) (h1 : (⟨2, ![4096, n]⟩ : Shape).ReducesTo [0] ⟨1, ![n]⟩) (h2 : (⟨2, ![1, n]⟩ : Shape).ReducesTo [0] ⟨1, ![n]⟩) (hu hc) (hb : (⟨1, ![n]⟩ : Shape).BroadcastsInDim ⟨2, ![1, n]⟩ ![1]) :
    broadcastInDim (s := ⟨1, ![n]⟩) ⟨2, ![1, n]⟩ ![1] hb (Host.reduceAdd (shapeCast ⟨2, ![1, n]⟩ (Host.reduceAdd (M32 A) (K (φ := .f32) 0) h1 hu : FVec Ideal ⟨1, ![n]⟩ .f32) hc) (K (φ := .f32) 0) h2 hu) = M32 (rowv fun j => ∑ i, A i j) := by
  rw [hred_C, cast_row, hred_C, bid_row]
  refine congrArg M (funext fun _ => funext fun j => ?_)
  simp only [rowv, sumC, zero_add, Finset.univ_unique, Finset.sum_singleton]

theorem back4 : broadcastInDim S1x1024 ![1] bcast_S1024_S1x1024_1 (Host.reduceAdd (shapeCast _ (Host.reduceAdd (mulf (res_main_v14 v) (res_main_v257 v)) (constant S_ .f32 0x00000000#32) reducesTo_S4096x1024_S1024_d0 h_S_) shapeCasts_S1024_S1x1024) (constant S_ .f32 0x00000000#32) reducesTo_S1x1024_S1024_d0 h_S_)
    = M32 (tile D.og 0 0) := by
  rw [v14 H, v257 H, mulf_M, kk_zero]
  refine (twice _ _ _ _ _ _).trans (congrArg M (funext fun _ => funext fun j => sum_congr rfl fun r _ => mul_comm _ _))

omit H in
/-- The gradient of one tap, in its row. -/
theorem tapped {y x : FVec Ideal ⟨2, ![4096, 512]⟩ .f32} (A : ℕ → ℕ → ℝ) (a t e : ℕ) (hy : y = M32 (tile D.dcv 32 0)) (hx : x = M32 (tile A a 0)) {z : FVec Ideal ⟨0, ![]⟩ .f32} (hz : z = K 0) (h1 : (⟨2, ![4096, 512]⟩ : Shape).ReducesTo [0] ⟨1, ![512]⟩) (h2 : (⟨2, ![1, 512]⟩ : Shape).ReducesTo [0] ⟨1, ![512]⟩) (hu hc) (hb : (⟨1, ![512]⟩ : Shape).BroadcastsInDim ⟨2, ![1, 512]⟩ ![1]) (h) :
    pad ⟨2, ![3, 512]⟩ ![t, 0] ![e, 0] ![0, 0] (broadcastInDim (s := ⟨1, ![512]⟩) ⟨2, ![1, 512]⟩ ![1] hb (Host.reduceAdd (shapeCast ⟨2, ![1, 512]⟩ (Host.reduceAdd (mulf y x) z h1 hu : FVec Ideal ⟨1, ![512]⟩ .f32) hc) z h2 hu)) z h hu
      = M32 fun i c => if i.val = t then ∑ r : Fin 4096, D.dcv (r.val + 32) c.val * A (r.val + a) c.val else 0 := by
  subst hy hx hz
  rw [mulf_M, twice]
  exact pad_row _ t e h hu

theorem back5 : addf (addf (pad S3x512 ![2, 0] ![0, 0] ![0, 0] (broadcastInDim S1x512 ![1] bcast_S512_S1x512_1 (Host.reduceAdd (shapeCast _ (Host.reduceAdd (mulf (res_main_v213 v) (res_main_v45 v)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (res_main_v213 v) (res_main_v38 v)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (res_main_v213 v) (res_main_v30 v)) (constant S_ .f32 0x00000000#32) reducesTo_S4096x512_S512_d0 h_S_) shapeCasts_S512_S1x512) (constant S_ .f32 0x00000000#32) reducesTo_S1x512_S512_d0 h_S_)) (constant S_ .f32 0x00000000#32) pads_S1x512_S3x512_020_000 h_S_)
    = M32 (tile D.ok 0 0) := by
  refine (congrArg₂ addf (congrArg₂ addf (tapped D.z 32 2 0 (v213 H) (v45 H) kk_zero _ _ _ _ _ _) (tapped D.z 31 1 1 (v213 H) (v38 H) kk_zero _ _ _ _ _ _)) (tapped D.z 30 0 2 (v213 H) (v30 H) kk_zero _ _ _ _ _ _)).trans ?_
  rw [addf_M, addf_M]
  refine congrArg M (funext fun i => funext fun c => ?_)
  have q : ∀ t, t < 3 → ∑ r : Fin 4096, D.dcv (r.val + 32) c.val * D.z (r.val + (30 + t)) c.val = D.ok t c.val := fun t _ => sum_congr rfl fun r _ => by rw [show r.val + (30 + t) = r.val + 32 - 2 + t by omega]
  show (if i.val = 2 then _ else 0) + (if i.val = 1 then _ else 0) + (if i.val = 0 then _ else 0) = D.ok i.val c.val
  rw [q 0 (by omega), q 1 (by omega), q 2 (by omega)]
  match i with
  | ⟨0, _⟩ => simp
  | ⟨1, _⟩ => simp
  | ⟨2, _⟩ => simp

theorem back6 : broadcastInDim S1x512 ![1] bcast_S512_S1x512_1 (Host.reduceAdd (shapeCast _ (Host.reduceAdd (mulf (res_main_v123 v) (res_main_v134 v)) (constant S_ .f32 0x00000000#32) reducesTo_S4096x512_S512_d0 h_S_) shapeCasts_S512_S1x512) (constant S_ .f32 0x00000000#32) reducesTo_S1x512_S512_d0 h_S_)
    = M32 (tile D.os 0 0) := by
  rw [v123 H, v134 H, mulf_M, kk_zero]
  refine (twice _ _ _ _ _ _).trans (congrArg M (funext fun _ => funext fun j => ?_))
  show ∑ r : Fin 4096, D.q (j.val / 128) (r.val + 32) (j.val % 128) * D.dy (r.val + 32) (j.val + 512) = ∑ r : Fin 4096, D.q (j.val / 128) (r.val + 32) (j.val % 128) * D.dy (r.val + 32) (j.val % 128 + (512 + 128 * (j.val / 128)))
  rw [show j.val % 128 + (512 + 128 * (j.val / 128)) = j.val + 512 by omega]

theorem back7 : transpose S4x128x128 [0, 2, 1] (Host.dotGeneral (φ₁ := .f32) (φ₂ := .f32) dot_S4x128x4096_S4096x4x128_S4x128x128_2_0_1_2_0_1 none (res_main_v143 v) (res_main_v120 v)) transposes_S4x128x128_S4x128x128_0_2_1
    = T3 fun s => tile (D.ow s.val) 0 0 := by
  rw [v143 H, v120 H, G3, dot_ow, tr021]
  exact congrArg T3 (funext fun s => funext fun l => funext fun c => sum_congr rfl fun r _ => mul_comm _ _)

end Step.Mix
-- ==== Proof.MixQuiet.lean ====
module

public import proofs.«01_k».proof.Defs
public import proofs.«01_k».proof.Proof.Gen.MixK
public import proofs.«01_k».proof.Proof.Gen.MixRIdeal.Run
public import proofs.«01_k».proof.Proof.MixFrame

@[expose] public section

set_option maxRecDepth 16384

noncomputable section

namespace Step.Mix

open Idealize.ShloMosaic Idealize.ShloMosaic.TcCoe Idealize.ShloMosaic.Tactic Idealize.SL.Sem

/-- The ideal kernel's frame. -/
theorem quiet_ideal : Cert.quiescent_MixKIdeal (hMixKIdeal := Cert.MixKIdeal.Gen.facts) := fun m ρ _ => quiet m ρ

/-- The kernel's own frame: its program is the ideal one, read at bit patterns. -/
theorem quiet_kernel : Cert.quiescent_MixK (hMixK := Cert.MixK.Gen.facts) := fun m ρ _ => by
  refine Eq.mpr ?_ (quiet (F := Bits) m ρ)
  sl_kernel_rfl

/-- The reference ends with its arguments unchanged; it has no semaphores. -/
theorem reference : Cert.quiescent_MixRIdeal := fun m ρ _ =>
  (θ_run _ _ _).mono (fun r h => ⟨fun c => (h c).2.2.2.2.2.2.2.2, sem_eq_zero_of_no_sems (by decide) r.2⟩) (Cert.MixRIdeal.Value.run m ρ)

end Step.Mix

end
-- ==== Proof.MixClaim.lean ====
module

public import proofs.«01_k».proof.Proof.Finite
public import proofs.«01_k».proof.Proof.MixIn
public import proofs.«01_k».proof.Proof.MixBack
public import proofs.«01_k».proof.Proof.MixQuiet
public import proofs.«01_k».proof.Proof.Gen.Pre_finite_mixer
public import proofs.«01_k».proof.Defs

@[expose] public section

set_option maxRecDepth 16384

noncomputable section

namespace Step.Mix

open Idealize Idealize.ShloMosaic Idealize.ShloMosaic.TcCoe Idealize.SL.Sem

/-- An array of three axes whose entries all stay below the infinite word in absolute value is the array of a family of real matrices. -/
theorem finite_T {p m n : Nat} (A : FVec Ideal ⟨3, ![p, m, n]⟩ .f32) (hb) (hr : (⟨3, ![p, m, n]⟩ : Shape).ReducesTo [0, 1, 2] ⟨0, ![]⟩) (hu) (j)
    (h : Host.reduce IntOp.andi (cmpf .olt (Host.absf A) (broadcastInDim ⟨3, ![p, m, n]⟩ ![] hb (constant (F := Ideal) ⟨0, ![]⟩ .f32 0x7F800000#32))) (constantI ⟨0, ![]⟩ 1 1#1) hr hu j = 1#1) :
    ∃ X : Fin p → Fin m → Fin n → ℝ, A = T3 X := by
  have e : ∀ i, ∃ r : ℝ, A i = (r : EReal) := fun i => real_of_lt (A i) (Host.reduce_andi_all _ _ _ _ j h i)
  choose f hf using e
  exact ⟨fun a b c => f (ix3 a b c), funext fun i => (hf i).trans (by rw [eq_ix3 i]; rfl)⟩

/-- The precondition gives real arrays for the eight arguments. -/
theorem reals (a0 : FVec Ideal ⟨2, ![4096, 1024]⟩ .f32) (a1 : FVec Ideal ⟨2, ![1, 1024]⟩ .f32) (a2 : FVec Ideal ⟨2, ![1024, 2048]⟩ .f32) (a3 : FVec Ideal ⟨2, ![3, 512]⟩ .f32)
    (a4 : FVec Ideal ⟨3, ![4, 128, 128]⟩ .f32) (a5 : FVec Ideal ⟨2, ![1, 512]⟩ .f32) (a6 : FVec Ideal ⟨2, ![1024, 1024]⟩ .f32) (a7 : FVec Ideal ⟨2, ![4096, 1024]⟩ .f32)
    (h : Cert.Pre_finite_mixer.fn (F := Ideal) a0 a1 a2 a3 a4 a5 a6 a7 = fun _ => 1#1) :
    ∃ X N P T W S O d, a0 = M32 X ∧ a1 = M32 N ∧ a2 = M32 P ∧ a3 = M32 T ∧ a4 = T3 W ∧ a5 = M32 S ∧ a6 = M32 O ∧ a7 = M32 d := by
  have e := congrFun h ix0
  unfold Cert.Pre_finite_mixer.fn Cert.Pre_finite_mixer.fn_part1 Cert.Pre_finite_mixer.fn_part2 at e
  dsimp only [andi] at e
  simp only [IntOp.andi_eq_one] at e
  obtain ⟨⟨⟨⟨⟨⟨⟨h0, h1⟩, h2⟩, h3⟩, h4⟩, h5⟩, h6⟩, h7⟩ := e
  obtain ⟨X, hX⟩ := finite_M a0 _ _ _ _ h0
  obtain ⟨N, hN⟩ := finite_M a1 _ _ _ _ h1
  obtain ⟨P, hP⟩ := finite_M a2 _ _ _ _ h2
  obtain ⟨T, hT⟩ := finite_M a3 _ _ _ _ h3
  obtain ⟨W, hW⟩ := finite_T a4 _ _ _ _ h4
  obtain ⟨S, hS⟩ := finite_M a5 _ _ _ _ h5
  obtain ⟨O, hO⟩ := finite_M a6 _ _ _ _ h6
  obtain ⟨d, hd⟩ := finite_M a7 _ _ _ _ h7
  exact ⟨X, N, P, T, W, S, O, d, hX, hN, hP, hT, hW, hS, hO, hd⟩

section
open Cert.MixKIdeal Cert.MixKIdeal.Gen

/-- Every run of the kernel ends with each result's array as the steps left it. -/
theorem ended (m : (ℓ : Loc nD τ sig) → Buf (Elt Ideal) ℓ) (ρ : Dev nD → PrngReg) :
    θ_run defs (onTc (τ := τ) (main (F := Ideal))) ⟨m, fun _ => 0, ρ⟩ fun r => ∀ (c : Dev nD) (w : Fin cfg0.W),
      r.2.mem ((c.tc : Thread nD τ).loc (Pipeline.arrRef spec0 w)) = (dats m 0 c).arrAt w cfg0.N :=
  (θ_run defs _ _).mono (fun _ h c w => (h.1 c).1 w) (run m ρ)
end

/-- On finite arguments the kernel of the mixer's backward pass and the reference's backward pass end with the same gradient
of the rows, the same gradient of the projection, the same normalised rows and outer gradient, and the same gradients of the
gain, of the convolution's taps, of the pooling's scale and of the pooling's weights. -/
theorem value : Cert.algebraic_MixKIdeal_MixRIdeal_pre_finite_mixer := by
  intro m ρ m' ρ' hp ha
  choose X N P T W S O d h0 h1 h2 h3 h4 h5 h6 h7 using fun c => reals _ _ _ _ _ _ _ _ (hp c)
  let D := fun c => dat (X c) (N c) (P c) (T c) (W c) (S c) (O c) (d c)
  refine ⟨fun c => M32 (tile (D c).ox 32 0), fun c => M16 (tile (D c).dp 32 0), fun c => M16 (tile (D c).oh 32 0), fun c => M16 (tile (D c).d 32 0),
    fun c => M32 (tile (D c).og 0 0), fun c => M32 (tile (D c).ok 0 0), fun c => M32 (tile (D c).os 0 0), fun c => T3 fun s => tile ((D c).ow s.val) 0 0, ?_, ?_⟩
  · refine (θ_run _ _ _).mono (fun r h c => ?_) (θ_run_and (ended m ρ) (quiet m ρ))
    have H := launched m c (h0 c) (h1 c) (h2 c) (h3 c) (h4 c) (h5 c) (h6 c) (h7 c)
    obtain ⟨w, k, -⟩ := h
    exact ⟨(w c 8).trans (final8 H), (w c 9).trans (final9 H), (w c 10).trans (final10 H), (w c 11).trans (final11 H), (w c 12).trans (final12 H), (w c 13).trans (final13 H), (w c 14).trans (final14 H), (w c 15).trans (final15 H), k c⟩
  · refine (θ_run _ _ _).mono (fun r h c => ?_) (Cert.MixRIdeal.Value.run m' ρ')
    obtain ⟨r0, r1, r2, r3, r4, r5, r6, r7, k⟩ := h c
    obtain ⟨a0, a1, a2, a3, a4, a5, a6, a7⟩ := ha c
    have H : Given (StableHlo.launchContents m' c) (D c) :=
      given _ _ _ _ _ _ _ _ (a0.trans (h0 c)) (a1.trans (h1 c)) (a2.trans (h2 c)) (a3.trans (h3 c)) (a4.trans (h4 c)) (a5.trans (h5 c)) (a6.trans (h6 c)) (a7.trans (h7 c))
    exact ⟨r0.trans (back0 H), r1.trans (back1 H), r2.trans (back2 H), r3.trans (back3 H), r4.trans (back4 H), r5.trans (back5 H), r6.trans (back6 H), r7.trans (back7 H), k⟩

end Step.Mix
-- ==== Proof.UpRead.lean ====
module

public import proofs.«01_k».proof.Proof.Back
public import proofs.«01_k».proof.Proof.Gen.UpKIdeal.Value

@[expose] public section

set_option maxRecDepth 16384

noncomputable section

namespace Step.Up

open Idealize Idealize.ShloMosaic Idealize.ShloMosaic.TcCoe
open Cert.UpKIdeal Cert.UpKIdeal.Gen

/-- The first 1536 features of a weight. -/
abbrev top (W : Vec Ideal S2816x1024 .bf16) : Vec Ideal S1536x1024 .bf16 := View.ld W (Rect.unit ![0, 0] ![1536, 1024] inb_S2816x1024_S1536x1024_0_0)
/-- The other 1280 features of a weight. -/
abbrev low (W : Vec Ideal S2816x1024 .bf16) : Vec Ideal S1280x1024 .bf16 := View.ld W (Rect.unit ![1536, 0] ![1280, 1024] inb_S2816x1024_S1280x1024_1536_0)

/-- Two groups of columns put together: a step stores first the left one, then the right one. -/
abbrev both (l : Vec Ideal S512x1536 .bf16) (r : Vec Ideal S512x1280 .bf16) : Vec Ideal S512x2816 .bf16 :=
  View.canon [⟨Rect.unit ![0, 1536] ![512, 1280] inb_S512x2816_S512x1280_0_1536, r⟩, ⟨Rect.unit ![0, 0] ![512, 1536] inb_S512x2816_S512x1536_0_0, l⟩]

variable (x : Vec Ideal S512x1024 .f32) (g : Vec Ideal S1x1024 .f32) (G U : Vec Ideal S2816x1024 .bf16)

/-- The gate's activations, of one block of rows. -/
def oA : Vec Ideal S512x2816 .bf16 := both (k0_pay10 x g (top G)) (k0_pay4 (k0_pay7 x g) (low G))
/-- The other factor's activations, of one block of rows. -/
def oB : Vec Ideal S512x2816 .bf16 := both (k0_pay11 x g (top U)) (k0_pay5 (k0_pay7 x g) (low U))
/-- The gated activations, of one block of rows. -/
def oS : Vec Ideal S512x2816 .bf16 := both (k0_pay1 (k0_pay9 x g (top U)) (k0_pay12 x g (top G))) (k0_pay6 (k0_pay7 x g) (low G) (low U))

/-- What one grid step leaves: the three arrays of activations and the two weights in scratch. -/
abbrev left : Vec Ideal S512x2816 .bf16 × Vec Ideal S512x2816 .bf16 × Vec Ideal S512x2816 .bf16 × Vec Ideal S2816x1024 .bf16 × Vec Ideal S2816x1024 .bf16 :=
  (oA x g G, oB x g U, oS x g G U, G, U)

variable (m : (ℓ : Loc nD τ sig) → Buf (Elt Ideal) ℓ) (c : Dev nD)

theorem at_A (t : Fin cfg0.N) (h0 : t.val % 8 = 0) : outsAt0 m c t.val t.isLt = left (iblk m c 0 t) (iblk m c 1 t) (V m c main_v1) (V m c main_v3) := by
  refine (outsAt0_A m c t h0).trans (Prod.ext ?_ (Prod.ext ?_ (Prod.ext ?_ (Prod.ext ?_ ?_)))) <;> dsimp only
  · unfold out0_A_2
    rw [View.read_writes_eq_canon _ _ _ (cover0_A_2 _ _ _ _ _ _ _ _ _ _ _ _ _ _ _ _ _ _ _ _ _)]
    unfold kernelRun0_A; dsimp only; sl_unfold_words
    unfold oA
    simp only [View.readAt_eq_ld, (hs0_0 t).read_unread, (hs0_1 t).read_unread, readCov_part (S := S2816x1024), View.ld_unit_zero (S := S512x1024) hz, View.ld_unit_zero (S := S1x1024) hz]
    rfl
  · unfold out0_A_3
    rw [View.read_writes_eq_canon _ _ _ (cover0_A_3 _ _ _ _ _ _ _ _ _ _ _ _ _ _ _ _ _ _ _ _ _)]
    unfold kernelRun0_A; dsimp only; sl_unfold_words
    unfold oB
    simp only [View.readAt_eq_ld, (hs0_0 t).read_unread, (hs0_1 t).read_unread, readCov_part (S := S2816x1024), View.ld_unit_zero (S := S512x1024) hz, View.ld_unit_zero (S := S1x1024) hz]
    rfl
  · unfold out0_A_4
    rw [View.read_writes_eq_canon _ _ _ (cover0_A_4 _ _ _ _ _ _ _ _ _ _ _ _ _ _ _ _ _ _ _ _ _)]
    unfold kernelRun0_A; dsimp only; sl_unfold_words
    unfold oS
    simp only [View.readAt_eq_ld, (hs0_0 t).read_unread, (hs0_1 t).read_unread, readCov_part (S := S2816x1024), View.ld_unit_zero (S := S512x1024) hz, View.ld_unit_zero (S := S1x1024) hz]
    rfl
  · unfold sout0_A_0 kernelRun0_A; dsimp only; sl_unfold_words
    rw [View.read_writes_junk_eq_canon, canon_whole]
    rfl
  · unfold sout0_A_1 kernelRun0_A; dsimp only; sl_unfold_words
    rw [View.read_writes_junk_eq_canon, canon_whole]
    rfl

theorem at_B (t : Fin cfg0.N) (h0 : ¬t.val % 8 = 0)
    (hp : (outsAt0 m c (t.val - 1) (Nat.lt_of_le_of_lt (Nat.sub_le _ _) t.isLt)).2.2.2 = (G, U)) : outsAt0 m c t.val t.isLt = left (iblk m c 0 t) (iblk m c 1 t) G U := by
  refine (outsAt0_B m c t h0).trans ?_
  have w0 : scM0_0.IsWhole := Memref.isWhole_whole _
  have w1 : scM0_1.IsWhole := Memref.isWhole_whole _
  rw [hp]
  refine Prod.ext ?_ (Prod.ext ?_ (Prod.ext ?_ rfl)) <;> dsimp only
  · unfold out0_B_2
    rw [View.read_writes_eq_canon _ _ _ (cover0_B_2 _ _ _ _ _ _ _ _ _ _ _ _ _ _ _ _ _ _ _ _ _ _ _)]
    unfold kernelRun0_B; dsimp only; sl_unfold_words
    unfold oA
    simp only [View.readAt_eq_ld, (hs0_0 t).read_unread, (hs0_1 t).read_unread, w0.read_unread, w1.read_unread, View.ld_unit_zero (S := S512x1024) hz, View.ld_unit_zero (S := S1x1024) hz]
  · unfold out0_B_3
    rw [View.read_writes_eq_canon _ _ _ (cover0_B_3 _ _ _ _ _ _ _ _ _ _ _ _ _ _ _ _ _ _ _ _ _ _ _)]
    unfold kernelRun0_B; dsimp only; sl_unfold_words
    unfold oB
    simp only [View.readAt_eq_ld, (hs0_0 t).read_unread, (hs0_1 t).read_unread, w0.read_unread, w1.read_unread, View.ld_unit_zero (S := S512x1024) hz, View.ld_unit_zero (S := S1x1024) hz]
  · unfold out0_B_4
    rw [View.read_writes_eq_canon _ _ _ (cover0_B_4 _ _ _ _ _ _ _ _ _ _ _ _ _ _ _ _ _ _ _ _ _ _ _)]
    unfold kernelRun0_B; dsimp only; sl_unfold_words
    unfold oS
    simp only [View.readAt_eq_ld, (hs0_0 t).read_unread, (hs0_1 t).read_unread, w0.read_unread, w1.read_unread, View.ld_unit_zero (S := S512x1024) hz, View.ld_unit_zero (S := S1x1024) hz]

end Step.Up
-- ==== Proof.UpPay.lean ====
module

public import proofs.«01_k».proof.Proof.FfnPay
public import proofs.«01_k».proof.Proof.UpRead

@[expose] public section

set_option maxRecDepth 16384

noncomputable section

namespace Step.Up

open Idealize Idealize.ShloMosaic
open Cert.UpKIdeal Cert.UpKIdeal.Gen
open Step.Ffn (zadd t1 t2 c1 c2 top_M low_M)

variable (x : Fin 512 → Fin 1024 → ℝ) (g : Fin 1 → Fin 1024 → ℝ) (h : Fin 512 → Fin 1024 → ℝ) (G U : Fin 2816 → Fin 1024 → ℝ)

theorem dotA : dot_S512x1024_S1536x1024_S512x1536_1_1_0_0_n_n = DotDims.transposedRhs 512 1024 1536 := rfl
theorem dotB : dot_S512x1024_S1280x1024_S512x1280_1_1_0_0_n_n = DotDims.transposedRhs 512 1024 1280 := rfl

/-- The logistic function, as the kernel writes it. -/
theorem core_sg {m n : Nat} (a : Fin m → Fin n → ℝ) : divf (M (φ := .f32) fun _ _ => 1) (M ((fun _ _ => 1) + fun i j => Real.exp (((fun _ _ => 0) - a : Fin m → Fin n → ℝ) i j))) = M (sg a) := by
  refine (divf_M _ _ fun i j => ?_).trans (congrArg M ?_)
  · have := Real.exp_pos (((fun _ _ => 0) - a : Fin m → Fin n → ℝ) i j)
    show (1 : ℝ) + _ ≠ 0
    positivity
  · funext i j; show (1 : ℝ) / (1 + Real.exp (0 - a i j)) = _; rw [zero_sub]; rfl

/-- The root mean squares' reciprocals, as the kernel writes them. -/
theorem rms {n : Nat} (x : Fin n → Fin 1024 → ℝ) : rsqrt (M (φ := .f32) ((colv (n := 1) (sumR (x * x)) / fun _ _ => 1024) + fun _ _ => eps)) = M (fun i _ => rr x i) :=
  rsqrt_M _ fun i _ => vv_pos x i

theorem pay7 : k0_pay7 (F := Ideal) (M32 x) (M32 g) = M (hn x (g 0)) := by
  unfold k0_pay7; dsimp only
  rw [splat_M _ w_1024, splat_M _ w_eps, mulf_M]; erw [red_R]
  rw [cast_col, divf_M _ _ (fun _ _ => by norm_num), addf_M, rms, bto_M1, mulf_M, bto_1M, mulf_M, truncf_M]; rfl

section first
variable (A B : Fin 1536 → Fin 1024 → ℝ)
theorem pay8 : k0_pay8 (F := Ideal) (M32 x) (M32 g) (M16 A) = M (mt (hn x (g 0)) A) := by
  unfold k0_pay8; dsimp only
  rw [pay7, dotA, const_M _ w_zero, prod_mt, zadd]
theorem pay9 : k0_pay9 (F := Ideal) (M32 x) (M32 g) (M16 A) = M (mt (hn x (g 0)) A) := by
  unfold k0_pay9; dsimp only
  rw [pay7, dotA, const_M _ w_zero, prod_mt, zadd]
theorem pay12 : k0_pay12 (F := Ideal) (M32 x) (M32 g) (M16 A) = M (mt (hn x (g 0)) A * sg (mt (hn x (g 0)) A)) := by
  unfold k0_pay12; dsimp only
  rw [pay8, splat_M _ w_zero, splat_M _ w_one, subf_M, exp_M, addf_M, core_sg, mulf_M]
theorem pay1 : k0_pay1 (F := Ideal) (k0_pay9 (M32 x) (M32 g) (M16 B)) (k0_pay12 (M32 x) (M32 g) (M16 A)) = M16 (sw (mt (hn x (g 0)) A) (mt (hn x (g 0)) B)) := by
  unfold k0_pay1; dsimp only
  rw [pay9, pay12, mulf_M, truncf_M]; rfl
theorem pay10 : k0_pay10 (F := Ideal) (M32 x) (M32 g) (M16 A) = M16 (mt (hn x (g 0)) A) := by
  unfold k0_pay10; dsimp only
  rw [pay8, truncf_M]
theorem pay11 : k0_pay11 (F := Ideal) (M32 x) (M32 g) (M16 A) = M16 (mt (hn x (g 0)) A) := by
  unfold k0_pay11; dsimp only
  rw [pay9, truncf_M]
end first

section second
variable (A B : Fin 1280 → Fin 1024 → ℝ)
theorem pay2 : k0_pay2 (F := Ideal) (M16 h) (M16 A) = M (mt h A) := by
  unfold k0_pay2; dsimp only
  rw [dotB, const_M _ w_zero, prod_mt, zadd]
theorem pay3 : k0_pay3 (F := Ideal) (M16 h) (M16 A) = M (mt h A) := by
  unfold k0_pay3; dsimp only
  rw [dotB, const_M _ w_zero, prod_mt, zadd]
theorem pay4 : k0_pay4 (F := Ideal) (M16 h) (M16 A) = M16 (mt h A) := by
  unfold k0_pay4; dsimp only
  rw [pay2, truncf_M]
theorem pay5 : k0_pay5 (F := Ideal) (M16 h) (M16 A) = M16 (mt h A) := by
  unfold k0_pay5; dsimp only
  rw [pay3, truncf_M]
theorem pay6 : k0_pay6 (F := Ideal) (M16 h) (M16 A) (M16 B) = M16 (sw (mt h A) (mt h B)) := by
  unfold k0_pay6; dsimp only
  rw [pay2, pay3, splat_M _ w_zero, splat_M _ w_one, subf_M, exp_M, addf_M, core_sg, mulf_M, mulf_M, truncf_M]; rfl
end second

/-- The two groups of columns of a matrix, put together, are the matrix. -/
theorem both_M (A : Fin 512 → Fin 2816 → ℝ) : both (M16 (c1 A)) (M16 (c2 A)) = M16 A := by
  funext y
  have h0 : (y 0 : Nat) < 512 := (y 0).isLt
  have h1 : (y 1 : Nat) < 2816 := (y 1).isLt
  refine View.canon_eq_of_allAt _ _ _ ?_ ?_
  · simp only [List.mem_cons, List.not_mem_nil, or_false, exists_eq_or_imp, exists_eq_left, Rect.mem_set_unit, Fin.forall_fin_two]
    simp only [Matrix.cons_val_zero, Matrix.cons_val_one]
    omega
  · refine View.allAt_cons_unit _ _ _ _ _ (fun z hz => ?_) (View.allAt_cons_unit _ _ _ _ _ (fun z hz => ?_) (View.allAt_nil _ _))
    · exact (M_val A y (z 0) (Fin.natAdd 1536 (z 1)) (by have := hz 0; simpa using this) (hz 1)).symm
    · exact (M_val A y (z 0) (Fin.castAdd 1280 (z 1)) (by have := hz 0; simpa using this) (show (y 1 : Nat) = (z 1 : Nat) by have := hz 1; simpa using this)).symm

/-- One grid step, over the reals. -/
theorem left_M : left (M32 x) (M32 g) (M16 G) (M16 U) =
    (M16 (mt (hn x (g 0)) G), M16 (mt (hn x (g 0)) U), M16 (sw (mt (hn x (g 0)) G) (mt (hn x (g 0)) U)), M16 G, M16 U) := by
  have e (W : Fin 2816 → Fin 1024 → ℝ) : top (M16 W) = M16 (t1 W) := top_M W
  have e' (W : Fin 2816 → Fin 1024 → ℝ) : low (M16 W) = M16 (t2 W) := low_M W
  unfold left oA oB oS
  rw [e, e, e', e', pay7, pay1, pay4, pay5, pay6, pay10, pay11]
  exact congrArg₂ Prod.mk (both_M (mt (hn x (g 0)) G)) (congrArg₂ Prod.mk (both_M (mt (hn x (g 0)) U)) (congrArg₂ Prod.mk (both_M (sw (mt (hn x (g 0)) G) (mt (hn x (g 0)) U))) rfl))

end Step.Up
-- ==== Proof.UpArr.lean ====
module

public import proofs.«01_k».proof.Proof.Rows
public import proofs.«01_k».proof.Proof.UpPay

@[expose] public section

set_option maxRecDepth 16384

noncomputable section

namespace Step.Up

open Idealize Idealize.ShloMosaic Idealize.ShloMosaic.TcCoe Idealize.SL.Sem
open Cert.UpKIdeal Cert.UpKIdeal.Gen Cert.UpKIdeal.Value

variable (m : (ℓ : Loc nD τ sig) → Buf (Elt Ideal) ℓ) (c : Dev nD)
variable (x : Fin 4096 → Fin 1024 → ℝ) (g : Fin 1 → Fin 1024 → ℝ) (G U : Fin 2816 → Fin 1024 → ℝ)

/-- A window whose blocks are the blocks of rows, one after the other. -/
abbrev Down (w : Fin grid0.N → Fin 2 → Nat) : Prop := ∀ t, w t 0 = t.val ∧ w t 1 = 0

theorem down0 : Down win0_0.index := by decide +kernel
theorem down2 : Down win0_2.index := by decide +kernel
theorem down3 : Down win0_3.index := by decide +kernel
theorem down4 : Down win0_4.index := by decide +kernel
theorem still1 : ∀ t : Fin grid0.N, win0_1.index t 0 = 0 ∧ win0_1.index t 1 = 0 := by decide +kernel
theorem lt8 (t : Fin cfg0.N) : t.val < 8 := by have h : cfg0.N = 8 := N_0; have := t.isLt; omega

/-- The entry of a block of rows that stands at an index of the whole matrix. -/
theorem row_at {k : Nat} {φ : FTy} (A : Fin 4096 → Fin k → ℝ) {w : Fin grid0.N → Fin 2 → Nat} (hw : Down w) (t : Fin cfg0.N) (i : (⟨2, ![4096, k]⟩ : Shape).Idx)
    (j : (⟨2, ![512, k]⟩ : Shape).Idx) (h0 : (i 0).val = w t 0 * 512 + 1 * (j 0).val) (h1 : (i 1).val = w t 1 * k + 1 * (j 1).val) :
    M (φ := φ) A i = M (rows 512 t.val A) j := by
  rw [(hw t).1] at h0; rw [(hw t).2] at h1
  have h8 := lt8 t
  have hj : (j 0 : Nat) < 512 := (j 0).isLt
  exact M_val A i (Fin.ofNat 4096 (512 * t.val + (j 0).val)) (j 1) (by show _ = (512 * t.val + (j 0).val) % 4096; omega) (by omega)

/-- The block that covers an index of the whole matrix. -/
theorem row_in {w : Fin grid0.N → Fin 2 → Nat} (hw : Down w) (i : (⟨2, ![4096, 2816]⟩ : Shape).Idx) : ∃ t : Fin cfg0.N,
    (w t 0 * 512 ≤ (i 0 : Nat) ∧ (i 0 : Nat) < w t 0 * 512 + 512) ∧ w t 1 * 2816 ≤ (i 1 : Nat) ∧ (i 1 : Nat) < w t 1 * 2816 + 2816 := by
  have h0 : (i 0 : Nat) < 4096 := (i 0).isLt
  have h1 : (i 1 : Nat) < 2816 := (i 1).isLt
  have hN : cfg0.N = 8 := N_0
  refine ⟨⟨(i 0).val / 512, by omega⟩, ?_⟩
  rw [(hw _).1, (hw _).2]; dsimp only; omega

theorem blk0 (t : Fin cfg0.N) (h : V m c main_arg0 = M32 x) : (iblk m c 0 t : Vec Ideal S512x1024 .f32) = M32 (rows 512 t.val x) := by
  funext j; unfold iblk; rw [View.read_apply]
  show V m c main_arg0 _ = _
  rw [h]
  exact row_at x down0 t _ j rfl rfl

theorem blk1 (t : Fin cfg0.N) (h : V m c main_arg1 = M32 g) : (iblk m c 1 t : Vec Ideal S1x1024 .f32) = M32 g := by
  funext j; unfold iblk; rw [View.read_apply]
  show V m c main_arg1 _ = _
  rw [h]
  refine M_val _ _ _ _ ?_ ?_
  · show win0_1.index t 0 * 1 + 1 * (j 0).val = (j 0).val
    rw [(still1 t).1]; omega
  · show win0_1.index t 1 * 1024 + 1 * (j 1).val = (j 1).val
    rw [(still1 t).2]; omega

variable (hx : V m c main_arg0 = M32 x) (hg : V m c main_arg1 = M32 g) (hG : V m c main_v1 = M16 G) (hU : V m c main_v3 = M16 U)

include hx hg hG hU in
/-- What the kernel holds after each point: the block's activations and the weights. -/
theorem outs_eq : ∀ (n : Nat) (h : n < cfg0.N), outsAt0 m c n h = left (M32 (rows 512 n x)) (M32 g) (M16 G) (M16 U)
  | 0, h => by
    refine (at_A m c ⟨0, h⟩ rfl).trans ?_
    rw [blk0 m c x _ hx, blk1 m c g _ hg, hG, hU]
  | n + 1, h => by
    have hB : ¬(⟨n + 1, h⟩ : Fin cfg0.N).val % 8 = 0 := by have := lt8 ⟨n + 1, h⟩; dsimp only at this ⊢; omega
    refine (at_B (M16 G) (M16 U) m c ⟨n + 1, h⟩ hB (congrArg (·.2.2.2) (outs_eq n (Nat.lt_of_succ_lt h)))).trans ?_
    rw [blk0 m c x _ hx, blk1 m c g _ hg]

include hx hg hG hU in
/-- The gate's activations of every row. -/
theorem final2 : (dats m 0 c).arrAt 2 cfg0.N = M16 (mt (hn x (g 0)) G) :=
  (dats m 0 c).arrAt_eq_of_cover 2 (M16 (mt (hn x (g 0)) G)) (fun t _ => by
    rw [flushed2, outs_eq m c x g G U hx hg hG hU, left_M]
    funext j; exact (row_at (φ := .bf16) (mt (hn x (g 0)) G) down2 t _ j rfl rfl).symm) fun i => by
    obtain ⟨t, h⟩ := row_in down2 i
    refine ⟨t, flush0_2 _, ?_⟩
    show i ∈ ((View.whole main_v4_0).slice (win0_2.rect t)).set
    rw [View.set_slice_whole, Rect.mem_set_unit]
    exact Fin.forall_fin_two.mpr h

include hx hg hG hU in
/-- The other factor's activations of every row. -/
theorem final3 : (dats m 0 c).arrAt 3 cfg0.N = M16 (mt (hn x (g 0)) U) :=
  (dats m 0 c).arrAt_eq_of_cover 3 (M16 (mt (hn x (g 0)) U)) (fun t _ => by
    rw [flushed3, outs_eq m c x g G U hx hg hG hU, left_M]
    funext j; exact (row_at (φ := .bf16) (mt (hn x (g 0)) U) down3 t _ j rfl rfl).symm) fun i => by
    obtain ⟨t, h⟩ := row_in down3 i
    refine ⟨t, flush0_3 _, ?_⟩
    show i ∈ ((View.whole main_v4_1).slice (win0_3.rect t)).set
    rw [View.set_slice_whole, Rect.mem_set_unit]
    exact Fin.forall_fin_two.mpr h

include hx hg hG hU in
/-- The gated activations of every row. -/
theorem final4 : (dats m 0 c).arrAt 4 cfg0.N = M16 (sw (mt (hn x (g 0)) G) (mt (hn x (g 0)) U)) :=
  (dats m 0 c).arrAt_eq_of_cover 4 (M16 (sw (mt (hn x (g 0)) G) (mt (hn x (g 0)) U))) (fun t _ => by
    rw [flushed4, outs_eq m c x g G U hx hg hG hU, left_M]
    funext j; exact (row_at (φ := .bf16) (sw (mt (hn x (g 0)) G) (mt (hn x (g 0)) U)) down4 t _ j rfl rfl).symm) fun i => by
    obtain ⟨t, h⟩ := row_in down4 i
    refine ⟨t, flush0_4 _, ?_⟩
    show i ∈ ((View.whole main_v4_2).slice (win0_4.rect t)).set
    rw [View.set_slice_whole, Rect.mem_set_unit]
    exact Fin.forall_fin_two.mpr h

end Step.Up
-- ==== Proof.UpClaim.lean ====
module

public import proofs.«01_k».proof.Proof.Finite
public import proofs.«01_k».proof.Proof.FfnIn
public import proofs.«01_k».proof.Proof.UpArr
public import proofs.«01_k».proof.Proof.Gen.UpRIdeal.Run
public import proofs.«01_k».proof.Proof.Gen.Pre_finite_up
public import proofs.«01_k».proof.Defs

@[expose] public section

set_option maxRecDepth 16384

noncomputable section

namespace Step.Up

open Idealize Idealize.ShloMosaic Idealize.ShloMosaic.TcCoe Idealize.SL.Sem

/-- The precondition gives real matrices for the four arguments. -/
theorem reals (a0 : FVec Ideal ⟨2, ![4096, 1024]⟩ .f32) (a1 : FVec Ideal ⟨2, ![1, 1024]⟩ .f32) (a2 a3 : FVec Ideal ⟨2, ![1024, 2816]⟩ .f32)
    (h : Cert.Pre_finite_up.fn (F := Ideal) a0 a1 a2 a3 = fun _ => 1#1) : ∃ X N P Q, a0 = M32 X ∧ a1 = M32 N ∧ a2 = M32 P ∧ a3 = M32 Q := by
  have e := congrFun h ix0
  unfold Cert.Pre_finite_up.fn Cert.Pre_finite_up.fn_part1 at e
  dsimp only [andi] at e
  simp only [IntOp.andi_eq_one] at e
  obtain ⟨⟨⟨h0, h1⟩, h2⟩, h3⟩ := e
  obtain ⟨X, hX⟩ := finite_M a0 _ _ _ _ h0
  obtain ⟨N, hN⟩ := finite_M a1 _ _ _ _ h1
  obtain ⟨P, hP⟩ := finite_M a2 _ _ _ _ h2
  obtain ⟨Q, hQ⟩ := finite_M a3 _ _ _ _ h3
  exact ⟨X, N, P, Q, hX, hN, hP, hQ⟩

/-- The reference ends with its arguments unchanged; it has no semaphores. -/
theorem reference : Cert.quiescent_UpRIdeal := fun m ρ _ =>
  (θ_run _ _ _).mono (fun r h => ⟨fun c => (h c).2.2.2, sem_eq_zero_of_no_sems (by decide) r.2⟩) (Cert.UpRIdeal.Value.run m ρ)

section kernel
open Cert.UpKIdeal Cert.UpKIdeal.Gen
variable (m : (ℓ : Loc nD τ sig) → Buf (Elt Ideal) ℓ) (c : Dev nD) (P : Fin 1024 → Fin 2816 → ℝ)

theorem in1 (h : m (c, Proc.tc.devRef main_arg2) = M32 P) : V m c main_v1 = M16 (fun j i => P i j) := by
  simp only [V, hostOps0, StableHlo.TRef.binary, StableHlo.TRef.nullary, StableHlo.TRef.unary, StableHlo.TRef.toBuf, StableHlo.TRef.ofBuf, cast_eq]
  after_results_simp
  rw [h, tr_M]; rfl
theorem in3 (h : m (c, Proc.tc.devRef main_arg3) = M32 P) : V m c main_v3 = M16 (fun j i => P i j) := by
  simp only [V, hostOps0, StableHlo.TRef.binary, StableHlo.TRef.nullary, StableHlo.TRef.unary, StableHlo.TRef.toBuf, StableHlo.TRef.ofBuf, cast_eq]
  after_results_simp
  rw [h, tr_M]; rfl
end kernel

theorem rdot : Cert.UpRIdeal.dot_S4096x1024_S1024x2816_S4096x2816_1_0_0_1_n_n = DotDims.plain 4096 1024 2816 := rfl

/-- On finite arguments the kernel of a half step's forward pass and the reference end with the same activations of the gate and
of the other factor and the same gated activations. -/
theorem value : Cert.algebraic_UpKIdeal_UpRIdeal_pre_finite_up := by
  intro m ρ m' ρ' hp ha
  choose X N P Q h0 h1 h2 h3 using fun c => reals _ _ _ _ (hp c)
  refine ⟨fun c => M16 (mm (hn (X c) (N c 0)) (P c)), fun c => M16 (mm (hn (X c) (N c 0)) (Q c)),
    fun c => M16 (sw (mm (hn (X c) (N c 0)) (P c)) (mm (hn (X c) (N c 0)) (Q c))), ?_, ?_⟩
  · refine (θ_run _ _ _).mono (fun r h c => ?_) (Cert.UpKIdeal.Value.run_blocks m ρ)
    obtain ⟨r0, r1, r2, k⟩ := h c
    have q := fun (T : Prop) (f : _ → _ → _ → _ → T) => f ((Cert.UpKIdeal.Gen.V_main_arg0 m c).trans (h0 c)) ((Cert.UpKIdeal.Gen.V_main_arg1 m c).trans (h1 c))
      (in1 m c _ (h2 c)) (in3 m c _ (h3 c))
    exact ⟨r0.trans (q _ (final2 m c _ _ _ _)), r1.trans (q _ (final3 m c _ _ _ _)), r2.trans (q _ (final4 m c _ _ _ _)), k⟩
  · refine (θ_run _ _ _).mono (fun r h c => ?_) (Cert.UpRIdeal.Value.run m' ρ')
    obtain ⟨r0, r1, r2, k⟩ := h c
    obtain ⟨a0, a1, a2, a3⟩ := ha c
    rw [a0.trans (h0 c), a1.trans (h1 c), rdot] at r0 r1 r2
    rw [a2.trans (h2 c)] at r0 r2
    rw [a3.trans (h3 c)] at r1 r2
    refine ⟨r0.trans ?_, r1.trans ?_, r2.trans ?_, k⟩ <;>
    · simp only [cast_unrow, kk_zero, kk_one, kk_1024, kk_eps, bid_KM, bid_row, bid_col, bid_1M, bid_M1, mulf_M, hred_R, host_mean, addf_M, host_rr, dot_mm, hneg_M, hexp_M, host_sg, truncf_M]
      rfl

end Step.Up
-- ==== Proof.FwdRun.lean ====
module

public import proofs.«01_k».proof.Proof.Gen.FwdKIdeal.Frame.Runs

@[expose] public section

set_option maxRecDepth 16384

noncomputable section

namespace Step.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FwdKIdeal Cert.FwdKIdeal.Gen

variable {F : FTy → Type} [FloatOps F]

local notation "𝕄" => MT nD τ sig Unit (Elt F) ℕ (Pipeline.UD sig nD τ) ℕ

/-- What one grid step is given: the rows, the gain, the convolution's taps, the pooling groups' weights and their scale. -/
structure In (F : FTy → Type) where
  x : Vec F S512x1024 .f32
  g : Vec F S1x1024 .f32
  k : Vec F S3x512 .f32
  w : Vec F S4x128x128 .f32
  s : Vec F S1x512 .f32

/-- What one grid step leaves for the next one or for the results: the rows with what the mixer adds, the projection, both parts
side by side, the two weights in scratch, and the last rows of the convolution's and of the pooling's input. -/
structure Out (F : FTy → Type) where
  xo : Vec F S512x1024 .f32
  p : Vec F S512x2048 .bf16
  y : Vec F S512x1024 .bf16
  win : Vec F S2048x1024 .bf16
  wout : Vec F S1024x1024 .bf16
  c : Vec F S520x512 .f32
  q : Vec F S544x512 .f32

/-- The stores of one grid step, buffer by buffer, the last first. -/
structure Stores (F : FTy → Type) where
  xo : List (View.Piece (Elt F) S512x1024 .f32)
  p : List (View.Piece (Elt F) S512x2048 .bf16)
  y : List (View.Piece (Elt F) S512x1024 .bf16)
  win : List (View.Piece (Elt F) S2048x1024 .bf16)
  wout : List (View.Piece (Elt F) S1024x1024 .bf16)
  c : List (View.Piece (Elt F) S520x512 .f32)
  q : List (View.Piece (Elt F) S544x512 .f32)
  l : List (View.Piece (Elt F) S3x544x128 .f32)

/-- The buffers after the stores, where the stores cover them. -/
def Stores.out [FloatOps F] (L : Stores F) : Out F := ⟨View.canon L.xo, View.canon L.p, View.canon L.y, View.canon L.win, View.canon L.wout, View.canon L.c, View.canon L.q⟩

section
variable (c : Dev nD)

/-- A buffer held with anything in it. -/
def any {sp : Space} {S : Shape} {e : EltTy} (M : Memref sig .tc sp S e) : sProp 𝕄 := iprop(∃ d, owns (c : Thread nD τ) M fullShare d)

/-- A buffer after a list of stores over something. -/
def stored {sp : Space} {S : Shape} {e : EltTy} (M : Memref sig .tc sp S e) (L : List (View.Piece (Elt F) S e)) : sProp 𝕄 :=
  iprop(∃ f, M.view.loc (c : Thread nD τ) ↦[M.view.set]{fullShare} M.view.writes (Elt F) f L)

/-- Stores that cover a buffer say what it holds. -/
theorem stored_owns {sp : Space} {S : Shape} {e : EltTy} (M : Memref sig .tc sp S e) (L : List (View.Piece (Elt F) S e))
    (h : ∀ y, ∃ p ∈ L, y ∈ p.1.set) : stored (F := F) c M L ⊢ owns (c : Thread nD τ) M fullShare (View.canon L) := by
  unfold stored owns
  iintro ⟨%f, H⟩
  iexists _; isplitr
  swap; · iexact H
  ipureintro; exact View.read_writes_eq_canon _ _ _ h

/-- Stores leave something. -/
theorem stored_any {sp : Space} {S : Shape} {e : EltTy} (M : Memref sig .tc sp S e) (L : List (View.Piece (Elt F) S e)) :
    stored (F := F) c M L ⊢ any (F := F) c M := by
  unfold stored any owns
  iintro ⟨%f, H⟩
  iexists _; iexists _; isplitr
  swap; · iexact H
  ipureintro; rfl

/-- The copies' five counters at zero and the two arrays they read. -/
def lent (f0 : HbBuf0 (F := F) c hbM0_0) (f1 : HbBuf0 (F := F) c hbM0_1) : sProp 𝕄 :=
  iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 f0 ∗ hbPt0 c hbM0_1 f1)

end

section
variable (c : Dev nD) (i : grid0.Coords)
  (a1 : Memref sig .tc .vmem S512x1024 .f32) (h1 : a1.IsWhole)
  (a2 : Memref sig .tc .vmem S1x1024 .f32) (h2 : a2.IsWhole)
  (a5 : Memref sig .tc .vmem S3x512 .f32) (h5 : a5.IsWhole)
  (a6 : Memref sig .tc .vmem S4x128x128 .f32) (h6 : a6.IsWhole)
  (a7 : Memref sig .tc .vmem S1x512 .f32) (h7 : a7.IsWhole)
  (a8 : Memref sig .tc .vmem S512x1024 .f32) (h8 : a8.IsWhole)
  (a9 : Memref sig .tc .vmem S512x2048 .bf16) (h9 : a9.IsWhole)
  (a10 : Memref sig .tc .vmem S512x1024 .bf16) (h10 : a10.IsWhole)
  (a11 : Memref sig .tc .vmem S2048x1024 .bf16) (h11 : a11.IsWhole)
  (a12 : Memref sig .tc .vmem S1024x1024 .bf16) (h12 : a12.IsWhole)
  (a13 : Memref sig .tc .vmem S520x512 .f32) (h13 : a13.IsWhole)
  (a14 : Memref sig .tc .vmem S544x512 .f32) (h14 : a14.IsWhole)
  (a15 : Memref sig .tc .vmem S3x544x128 .f32) (h15 : a15.IsWhole)

/-- The operands that a step only reads. -/
def reads (v : In F) : sProp 𝕄 :=
  iprop(owns (c : Thread nD τ) a1 fullShare v.x ∗ owns (c : Thread nD τ) a2 fullShare v.g ∗ owns (c : Thread nD τ) a5 fullShare v.k ∗ owns (c : Thread nD τ) a6 fullShare v.w ∗ owns (c : Thread nD τ) a7 fullShare v.s)

/-- Every other buffer, after the stores of the step. -/
def wrote (L : Stores F) : sProp 𝕄 :=
  iprop(stored c a8 L.xo ∗ stored c a9 L.p ∗ stored c a10 L.y ∗ stored c a11 L.win ∗ stored c a12 L.wout ∗ stored c a13 L.c ∗ stored c a14 L.q ∗ stored c a15 L.l)

/-- The same where the two weights are in scratch already and stay there. -/
def wrote' (o : Out F) (L : Stores F) : sProp 𝕄 :=
  iprop(stored c a8 L.xo ∗ stored c a9 L.p ∗ stored c a10 L.y ∗ owns (c : Thread nD τ) a11 fullShare o.win ∗ owns (c : Thread nD τ) a12 fullShare o.wout ∗ stored c a13 L.c ∗ stored c a14 L.q ∗ stored c a15 L.l)

/-- Every other buffer, with anything in it. -/
def free : sProp 𝕄 :=
  iprop(any c a8 ∗ any c a9 ∗ any c a10 ∗ any c a11 ∗ any c a12 ∗ any c a13 ∗ any c a14 ∗ any c a15)

/-- Every other buffer, where the step before left its weights and its rows. -/
def left (o : Out F) : sProp 𝕄 :=
  iprop(any c a8 ∗ any c a9 ∗ any c a10 ∗ owns (c : Thread nD τ) a11 fullShare o.win ∗ owns (c : Thread nD τ) a12 fullShare o.wout ∗ owns (c : Thread nD τ) a13 fullShare o.c ∗ owns (c : Thread nD τ) a14 fullShare o.q ∗ any c a15)

set_option sl_exec.dmaWindow true in
set_option sl_exec.dmaWindowSet true in
set_option maxHeartbeats 1600000 in
/-- The first step of the grid: its stores, and the run that ends with them. It copies the weights into scratch and puts zeros before the rows. -/
def runA (hc : cond0_0 i) (v : In F) (f0 : HbBuf0 (F := F) c hbM0_0) (f1 : HbBuf0 (F := F) c hbM0_1) :
    { L : Stores F // ∀ (W : Waits sig Unit) (K : PUnit → sProp 𝕄),
      iprop(reads c a1 a2 a5 a6 a7 v ∗ free c a8 a9 a10 a11 a12 a13 a14 a15 ∗ lent c f0 f1 ∗ owes (c : Thread nD τ) 0 W
        ∗ (iprop(reads c a1 a2 a5 a6 a7 v ∗ wrote c a8 a9 a10 a11 a12 a13 a14 a15 L ∗ lent c f0 f1 ∗ (∃ W', owes (c : Thread nD τ) 0 W')) -∗ K ⟨⟩))
        ⊢ wp frame (wpE (defs₀ (F := F)) Variants.none c none) Set.univ (cc0_mixer_forward i a1 h1 a2 h2 (Memref.whole main_v1) (Memref.isWhole_whole _) (Memref.whole main_v5) (Memref.isWhole_whole _) a5 h5 a6 h6 a7 h7 a8 h8 a9 h9 a10 h10 a11 h11 a12 h12 a13 h13 a14 h14 a15 h15 cc0_scratch5) K } := by
  refine ⟨⟨?_, ?_, ?_, ?_, ?_, ?_, ?_, ?_⟩, fun W K => ?run⟩
  case run =>
    simp only [cc0_mixer_forward_eq_skeleton]; unfold cc0_mixer_forward_skel
    simp only [k0_part1_eq_skeleton, k0_part2_eq_skeleton, k0_part3_eq_skeleton, k0_part4_eq_skeleton, k0_part5_eq_skeleton, k0_part6_eq_skeleton, k0_part7_eq_skeleton]
    unfold reads free wrote lent any stored owns; dsimp only
    iintro ⟨⟨⟨%f1, %e1, H1⟩, ⟨%f2, %e2, H2⟩, ⟨%f5, %e5, H5⟩, ⟨%f6, %e6, H6⟩, ⟨%f7, %e7, H7⟩⟩, ⟨⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, ⟨Hq0, Hq1, Hq2, Hq3, Hq4, Hh0, Hh1⟩, HW, Hk⟩
    obtain rfl := h1.eq_unread e1; obtain rfl := h2.eq_unread e2; obtain rfl := h5.eq_unread e5; obtain rfl := h6.eq_unread e6; obtain rfl := h7.eq_unread e7
    sl_exec (disch := first | sl_exact hc)
    sl_step
    iapply Hk
    isplitl [H1 H2 H5 H6 H7]
    · isplitl [H1]
      · iexists _; isplitr; · ipureintro; exact h1.read_unread _
        iexact H1
      isplitl [H2]
      · iexists _; isplitr; · ipureintro; exact h2.read_unread _
        iexact H2
      isplitl [H5]
      · iexists _; isplitr; · ipureintro; exact h5.read_unread _
        iexact H5
      isplitl [H6]
      · iexists _; isplitr; · ipureintro; exact h6.read_unread _
        iexact H6
      iexists _; isplitr; · ipureintro; exact h7.read_unread _
      iexact H7
    isplitl [H8 H9 H10 H11 H12 H13 H14 H15]
    · isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15
    isplitl [Hq0 Hq1 Hq2 Hq3 Hq4 Hh0 Hh1]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    iexists _; iexact HW

set_option maxHeartbeats 1600000 in
/-- The later steps of the grid: its stores, and the run that ends with them. It reads the rows that the step before left. -/
def runB (hc : ¬ cond0_0 i) (v : In F) (o : Out F) (f0 : HbBuf0 (F := F) c hbM0_0) (f1 : HbBuf0 (F := F) c hbM0_1) :
    { L : Stores F // ∀ (W : Waits sig Unit) (K : PUnit → sProp 𝕄),
      iprop(reads c a1 a2 a5 a6 a7 v ∗ left c a8 a9 a10 a11 a12 a13 a14 a15 o ∗ lent c f0 f1 ∗ owes (c : Thread nD τ) 0 W
        ∗ (iprop(reads c a1 a2 a5 a6 a7 v ∗ wrote' c a8 a9 a10 a11 a12 a13 a14 a15 o L ∗ lent c f0 f1 ∗ (∃ W', owes (c : Thread nD τ) 0 W')) -∗ K ⟨⟩))
        ⊢ wp frame (wpE (defs₀ (F := F)) Variants.none c none) Set.univ (cc0_mixer_forward i a1 h1 a2 h2 (Memref.whole main_v1) (Memref.isWhole_whole _) (Memref.whole main_v5) (Memref.isWhole_whole _) a5 h5 a6 h6 a7 h7 a8 h8 a9 h9 a10 h10 a11 h11 a12 h12 a13 h13 a14 h14 a15 h15 cc0_scratch5) K } := by
  refine ⟨⟨?_, ?_, ?_, [], [], ?_, ?_, ?_⟩, fun W K => ?run⟩
  case run =>
    simp only [cc0_mixer_forward_eq_skeleton]; unfold cc0_mixer_forward_skel
    simp only [k0_part1_eq_skeleton, k0_part2_eq_skeleton, k0_part3_eq_skeleton, k0_part4_eq_skeleton, k0_part5_eq_skeleton, k0_part6_eq_skeleton, k0_part7_eq_skeleton]
    unfold reads left wrote' lent any stored owns; dsimp only
    iintro ⟨⟨⟨%f1, %e1, H1⟩, ⟨%f2, %e2, H2⟩, ⟨%f5, %e5, H5⟩, ⟨%f6, %e6, H6⟩, ⟨%f7, %e7, H7⟩⟩, ⟨⟨%d8, %f8, -, H8⟩, ⟨%d9, %f9, -, H9⟩, ⟨%d10, %f10, -, H10⟩, ⟨%f11, %e11, H11⟩, ⟨%f12, %e12, H12⟩, ⟨%f13, %e13, H13⟩, ⟨%f14, %e14, H14⟩, ⟨%d15, %f15, -, H15⟩⟩, ⟨Hq0, Hq1, Hq2, Hq3, Hq4, Hh0, Hh1⟩, HW, Hk⟩
    obtain rfl := h1.eq_unread e1; obtain rfl := h2.eq_unread e2; obtain rfl := h5.eq_unread e5; obtain rfl := h6.eq_unread e6; obtain rfl := h7.eq_unread e7; obtain rfl := h11.eq_unread e11; obtain rfl := h12.eq_unread e12; obtain rfl := h13.eq_unread e13; obtain rfl := h14.eq_unread e14
    sl_exec (disch := first | sl_exact hc)
    sl_step
    iapply Hk
    isplitl [H1 H2 H5 H6 H7]
    · isplitl [H1]
      · iexists _; isplitr; · ipureintro; exact h1.read_unread _
        iexact H1
      isplitl [H2]
      · iexists _; isplitr; · ipureintro; exact h2.read_unread _
        iexact H2
      isplitl [H5]
      · iexists _; isplitr; · ipureintro; exact h5.read_unread _
        iexact H5
      isplitl [H6]
      · iexists _; isplitr; · ipureintro; exact h6.read_unread _
        iexact H6
      iexists _; isplitr; · ipureintro; exact h7.read_unread _
      iexact H7
    isplitl [H8 H9 H10 H11 H12 H13 H14 H15]
    · isplitl [H8]; · iexists _; iexact H8
      isplitl [H9]; · iexists _; iexact H9
      isplitl [H10]; · iexists _; iexact H10
      isplitl [H11]
      · iexists _; isplitr; · ipureintro; exact h11.read_unread _
        iexact H11
      isplitl [H12]
      · iexists _; isplitr; · ipureintro; exact h12.read_unread _
        iexact H12
      isplitl [H13]; · iexists _; iexact H13
      isplitl [H14]; · iexists _; iexact H14
      iexists _; iexact H15
    isplitl [Hq0 Hq1 Hq2 Hq3 Hq4 Hh0 Hh1]
    · isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    iexists _; iexact HW

end

end Step.Fwd
-- ==== Proof.FwdStep.lean ====
module

public import proofs.«01_k».proof.Proof.FwdRun

@[expose] public section

set_option maxRecDepth 16384

noncomputable section

namespace Step.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FwdKIdeal Cert.FwdKIdeal.Gen

variable {F : FTy → Type} [FloatOps F]

local notation "𝕄" => MT nD τ sig Unit (Elt F) ℕ (Pipeline.UD sig nD τ) ℕ

/-- A list of stores fills the buffer. -/
abbrev Fills {S : Shape} {e : EltTy} (L : List (View.Piece (Elt F) S e)) : Prop := ∀ y, ∃ p ∈ L, y ∈ p.1.set

/-- The stores of a step fill every buffer that is looked at afterwards, the two weights' apart. -/
structure Stores.Full (L : Stores F) : Prop where
  xo : Fills L.xo
  p : Fills L.p
  y : Fills L.y
  c : Fills L.c
  q : Fills L.q

variable (m : (ℓ : Loc nD τ sig) → Buf (Elt F) ℓ) (ρ : Dev nD → PrngReg) (c : Dev nD) (t : Fin cfg0.N)

/-- The operands of the step at a grid point. -/
def inAt : In F := ⟨iblk m c 0 t, iblk m c 1 t, iblk m c 2 t, iblk m c 3 t, iblk m c 4 t⟩

/-- The run of the grid's first step, on the buffers of its point. -/
def atA (hc : cond0_0 (grid0.coords t)) := runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc (inAt m c t) (V m c main_v1) (V m c main_v5)

/-- The run of a later step. -/
def atB (hc : ¬ cond0_0 (grid0.coords t)) (o : Out F) := runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) hc (inAt m c t) o (V m c main_v1) (V m c main_v5)

theorem fullA (hc : cond0_0 (grid0.coords t)) : (atA m c t hc).1.Full where
  xo := View.cover_of_tiledL _ ![512, 1024] (by sl_kernel_rfl)
  p := View.cover_of_tiledBy _ ![512, 512] (by sl_kernel_rfl)
  y := View.cover_of_tiledBy _ ![512, 128] (by sl_kernel_rfl)
  c := View.cover_of_tiledBy _ ![8, 512] (by sl_kernel_rfl)
  q := View.cover_of_tiledBy _ ![32, 512] (by sl_kernel_rfl)

theorem fullA_win (hc : cond0_0 (grid0.coords t)) : Fills (atA m c t hc).1.win := View.cover_of_tiledL _ ![2048, 1024] (by sl_kernel_rfl)

theorem fullA_wout (hc : cond0_0 (grid0.coords t)) : Fills (atA m c t hc).1.wout := View.cover_of_tiledL _ ![256, 1024] (by sl_kernel_rfl)

theorem fullB (hc : ¬ cond0_0 (grid0.coords t)) (o : Out F) : (atB m c t hc o).1.Full where
  xo := View.cover_of_tiledL _ ![512, 1024] (by sl_kernel_rfl)
  p := View.cover_of_tiledBy _ ![512, 512] (by sl_kernel_rfl)
  y := View.cover_of_tiledBy _ ![512, 128] (by sl_kernel_rfl)
  c := View.cover_of_tiledBy _ ![8, 512] (by sl_kernel_rfl)
  q := View.cover_of_tiledBy _ ![32, 512] (by sl_kernel_rfl)

/-- What a later step leaves: its stores, and the weights as they were. -/
def next (hc : ¬ cond0_0 (grid0.coords t)) (o : Out F) : Out F := { (atB m c t hc o).1.out with win := o.win, wout := o.wout }

theorem first_cond (n : ℕ) (h : n < cfg0.N) (hz : n = 0) : cond0_0 (grid0.coords ⟨n, h⟩) := (hcond0_0 _).mpr (by simp [hz])

theorem later_cond (n : ℕ) (h : n < cfg0.N) (hz : n ≠ 0) : ¬ cond0_0 (grid0.coords ⟨n, h⟩) := fun hh => by
  have := (hcond0_0 _).mp hh
  have hN : n < 8 := lt_of_lt_of_eq h N_0
  simp only at this; omega

/-- What the step at point `n` leaves. -/
def outAt : (n : ℕ) → n < cfg0.N → Out F
  | 0, h => (atA m c ⟨0, h⟩ (first_cond 0 h rfl)).1.out
  | n + 1, h => next m c ⟨n + 1, h⟩ (later_cond _ h (Nat.succ_ne_zero n)) (outAt n (Nat.lt_of_succ_lt h))

theorem outAt_first (h : t.val = 0) : outAt m c t.val t.isLt = (atA m c t (first_cond _ t.isLt h)).1.out := by
  obtain ⟨n, hn⟩ := t
  obtain rfl : n = 0 := h
  rfl

theorem outAt_later (h : t.val ≠ 0) :
    outAt m c t.val t.isLt = next m c t (later_cond _ t.isLt h) (outAt m c (t.val - 1) (Nat.lt_of_le_of_lt (Nat.sub_le _ _) t.isLt)) := by
  obtain ⟨n, hn⟩ := t
  cases n with
  | zero => exact absurd rfl h
  | succ n => rfl

/-- The results' buffers and the scratch after a step. -/
def keeps (o : Out F) : sProp 𝕄 :=
  iprop(owns (c : Thread nD τ) (ms0_5 t) fullShare o.xo ∗ owns (c : Thread nD τ) (ms0_6 t) fullShare o.p ∗ owns (c : Thread nD τ) (ms0_7 t) fullShare o.y ∗ owns (c : Thread nD τ) scM0_0 fullShare o.win ∗ owns (c : Thread nD τ) scM0_1 fullShare o.wout ∗ owns (c : Thread nD τ) scM0_2 fullShare o.c ∗ owns (c : Thread nD τ) scM0_3 fullShare o.q ∗ any c scM0_4)

theorem keeps_of_wrote (L : Stores F) (hL : L.Full) (hi : Fills L.win) (ho : Fills L.wout) :
    wrote c (ms0_5 t) (ms0_6 t) (ms0_7 t) scM0_0 scM0_1 scM0_2 scM0_3 scM0_4 L ⊢ keeps c t L.out := by
  unfold wrote keeps Stores.out; dsimp only
  iintro ⟨H8, H9, H10, H11, H12, H13, H14, H15⟩
  isplitl [H8]; · iapply (stored_owns _ _ _ hL.xo); iexact H8
  isplitl [H9]; · iapply (stored_owns _ _ _ hL.p); iexact H9
  isplitl [H10]; · iapply (stored_owns _ _ _ hL.y); iexact H10
  isplitl [H11]; · iapply (stored_owns _ _ _ hi); iexact H11
  isplitl [H12]; · iapply (stored_owns _ _ _ ho); iexact H12
  isplitl [H13]; · iapply (stored_owns _ _ _ hL.c); iexact H13
  isplitl [H14]; · iapply (stored_owns _ _ _ hL.q); iexact H14
  iapply (stored_any _ _ _); iexact H15

theorem keeps_of_wrote' (o : Out F) (L : Stores F) (hL : L.Full) :
    wrote' c (ms0_5 t) (ms0_6 t) (ms0_7 t) scM0_0 scM0_1 scM0_2 scM0_3 scM0_4 o L ⊢ keeps c t { L.out with win := o.win, wout := o.wout } := by
  unfold wrote' keeps Stores.out; dsimp only
  iintro ⟨H8, H9, H10, H11, H12, H13, H14, H15⟩
  isplitl [H8]; · iapply (stored_owns _ _ _ hL.xo); iexact H8
  isplitl [H9]; · iapply (stored_owns _ _ _ hL.p); iexact H9
  isplitl [H10]; · iapply (stored_owns _ _ _ hL.y); iexact H10
  isplitl [H11]; · iexact H11
  isplitl [H12]; · iexact H12
  isplitl [H13]; · iapply (stored_owns _ _ _ hL.c); iexact H13
  isplitl [H14]; · iapply (stored_owns _ _ _ hL.q); iexact H14
  iapply (stored_any _ _ _); iexact H15

/-- The first step, from buffers that hold anything. -/
theorem step_first (h : t.val = 0) (W : Waits sig Unit) (K : PUnit → sProp 𝕄) :
    iprop(reads c (ms0_0 t) (ms0_1 t) (ms0_2 t) (ms0_3 t) (ms0_4 t) (inAt m c t) ∗ free c (ms0_5 t) (ms0_6 t) (ms0_7 t) scM0_0 scM0_1 scM0_2 scM0_3 scM0_4 ∗ lent c (V m c main_v1) (V m c main_v5) ∗ owes (c : Thread nD τ) 0 W
      ∗ (iprop(reads c (ms0_0 t) (ms0_1 t) (ms0_2 t) (ms0_3 t) (ms0_4 t) (inAt m c t) ∗ keeps c t (outAt m c t.val t.isLt) ∗ lent c (V m c main_v1) (V m c main_v5) ∗ (∃ W', owes (c : Thread nD τ) 0 W')) -∗ K ⟨⟩))
      ⊢ wp frame (wpE (defs₀ (F := F)) Variants.none c none) Set.univ (bodyAt0 t) K := by
  rw [outAt_first m c t h]
  iintro ⟨Hr, Hf, Hl, HW, Hk⟩
  iapply ((atA m c t (first_cond _ t.isLt h)).2 W K)
  isplitl [Hr]; · iexact Hr
  isplitl [Hf]; · iexact Hf
  isplitl [Hl]; · iexact Hl
  isplitl [HW]; · iexact HW
  iintro ⟨Hr, Hf, Hl, HW⟩
  iapply Hk
  isplitl [Hr]; · iexact Hr
  isplitl [Hf]
  · iapply (keeps_of_wrote c t _ (fullA m c t _) (fullA_win m c t _) (fullA_wout m c t _)); iexact Hf
  isplitl [Hl]; · iexact Hl
  iexact HW

/-- A later step, from what the step before left. -/
theorem step_later (h : t.val ≠ 0) (W : Waits sig Unit) (K : PUnit → sProp 𝕄) :
    iprop(reads c (ms0_0 t) (ms0_1 t) (ms0_2 t) (ms0_3 t) (ms0_4 t) (inAt m c t) ∗ left c (ms0_5 t) (ms0_6 t) (ms0_7 t) scM0_0 scM0_1 scM0_2 scM0_3 scM0_4 (outAt m c (t.val - 1) (Nat.lt_of_le_of_lt (Nat.sub_le _ _) t.isLt)) ∗ lent c (V m c main_v1) (V m c main_v5) ∗ owes (c : Thread nD τ) 0 W
      ∗ (iprop(reads c (ms0_0 t) (ms0_1 t) (ms0_2 t) (ms0_3 t) (ms0_4 t) (inAt m c t) ∗ keeps c t (outAt m c t.val t.isLt) ∗ lent c (V m c main_v1) (V m c main_v5) ∗ (∃ W', owes (c : Thread nD τ) 0 W')) -∗ K ⟨⟩))
      ⊢ wp frame (wpE (defs₀ (F := F)) Variants.none c none) Set.univ (bodyAt0 t) K := by
  rw [outAt_later m c t h]
  iintro ⟨Hr, Hf, Hl, HW, Hk⟩
  iapply ((atB m c t (later_cond _ t.isLt h) _).2 W K)
  isplitl [Hr]; · iexact Hr
  isplitl [Hf]; · iexact Hf
  isplitl [Hl]; · iexact Hl
  isplitl [HW]; · iexact HW
  iintro ⟨Hr, Hf, Hl, HW⟩
  iapply Hk
  isplitl [Hr]; · iexact Hr
  isplitl [Hf]
  · iapply (keeps_of_wrote' c t _ _ (fullB m c t _ _)); iexact Hf
  isplitl [Hl]; · iexact Hl
  iexact HW

end Step.Fwd
-- ==== Proof.FwdPay.lean ====
module

public import proofs.«01_k».proof.Proof.MixPay
public import proofs.«01_k».proof.Proof.FwdStep

@[expose] public section

set_option maxRecDepth 16384

noncomputable section

namespace Step.Fwd

open Idealize Idealize.ShloMosaic
open Cert.FwdKIdeal Cert.FwdKIdeal.Gen
open Step.Ffn (zadd cast_self)
open Step.Mix (tile L1 ess_tile cast_up cast_down invc scr pl tap3)

/-! ### The projection -/

section norm
variable (x : Fin 512 → Fin 1024 → ℝ) (g : Fin 1 → Fin 1024 → ℝ) (A : Fin 512 → Fin 512 → ℝ)

theorem pay7 : k0_pay7 (F := Ideal) (M32 x) (M32 g) = M (hn x (g 0)) := Step.Mix.pay11 x g

/-- The product of the rows and a part of the weight, transposed. -/
theorem part (h : Fin 512 → Fin 1024 → ℝ) (W : Fin 512 → Fin 1024 → ℝ) : matmul (F := Ideal) dot_S512x1024_S512x1024_S512x512_1_1_0_0_n_n none (M16 h) (M16 W) (constant S512x512 .f32 0x00000000#32) = M (mt h W) := by
  rw [show dot_S512x1024_S512x1024_S512x512_1_1_0_0_n_n = DotDims.transposedRhs 512 1024 512 from rfl, const_M _ w_zero, prod_mt, zadd]

variable (W : Fin 512 → Fin 1024 → ℝ)
theorem pay8 : k0_pay8 (F := Ideal) (M32 x) (M32 g) (M16 W) = M (mt (hn x (g 0)) W) := by unfold k0_pay8; dsimp only; rw [pay7]; exact part _ _
theorem pay9 : k0_pay9 (F := Ideal) (M32 x) (M32 g) (M16 W) = M (mt (hn x (g 0)) W) := pay8 x g W
theorem pay10 : k0_pay10 (F := Ideal) (M32 x) (M32 g) (M16 W) = M (mt (hn x (g 0)) W) := pay8 x g W
theorem pay11 : k0_pay11 (F := Ideal) (M32 x) (M32 g) (M16 W) = M (mt (hn x (g 0)) W) := pay8 x g W
theorem pay12 : k0_pay12 (F := Ideal) (M32 x) (M32 g) (M16 W) = M (mt (hn x (g 0)) W) := by unfold k0_pay12; dsimp only; rw [pay8, truncf_M]
theorem pay13 : k0_pay13 (F := Ideal) (M32 x) (M32 g) (M16 W) = M (mt (hn x (g 0)) W) := pay12 x g W
theorem pay14 : k0_pay14 (F := Ideal) (M32 x) (M32 g) (M16 W) = M (mt (hn x (g 0)) W) := pay12 x g W
theorem pay15 : k0_pay15 (F := Ideal) (M32 A) = M A := by unfold k0_pay15; dsimp only; rw [truncf_M]
end norm

/-! ### The convolution -/

section conv
variable (k : ℕ → ℕ → ℝ) (A B C E G : Fin 512 → Fin 512 → ℝ)

theorem pay16 : k0_pay16 (F := Ideal) (M32 A) (M32 B) = M (B * A) := by unfold k0_pay16; dsimp only; rw [mulf_M]
theorem pay17 : k0_pay17 (F := Ideal) (M32 A) (M32 B) = M (B * A) := by unfold k0_pay17; dsimp only; rw [pay16, cast_self]
theorem pay18 : k0_pay18 (F := Ideal) (M32 A) (M32 G) (M32 B) (M32 (tile k 0 0)) (M32 C) (M32 E) = M (G * tap3 k (B * A) C E) := by
  unfold k0_pay18; dsimp only
  rw [pay16]; simp only [ess_tile, bto_1M, mulf_M, addf_M, truncf_M]; rfl
theorem pay19 : k0_pay19 (F := Ideal) (M32 A) = M A := by unfold k0_pay19; dsimp only; rw [cast_self]
end conv

/-! ### The pooling groups -/

/-- The row numbers of the tile `T`, one more, at most `2 ^ n`, and one over them. -/
theorem invd (T : ℕ) (hT : T < 8) (n : ℕ) (hn : n < 5) :
    divf (F := Ideal) (broadcast S512x1 (Scalar.ofBits .f32 0x3F800000#32)) (sitofp .f32 (minsi (addi (k0_pay20 (BitVec.ofNat 32 T)) (broadcast S512x1 1#32)) (broadcast S512x1 (BitVec.ofNat 32 (2 ^ n)))))
      = M (φ := .f32) (invc n (512 * T + 32)) := Step.Mix.invd T hT n hn

section pool
variable {Y : ℕ → ℕ → ℝ} {r c : ℕ} (U S A B : Fin 512 → Fin 128 → ℝ) (v : Fin 512 → Fin 1 → ℝ) (W : Fin 128 → Fin 128 → ℝ) (s : Fin 1 → Fin 128 → ℝ)
variable (T : ℕ) (hT : T < 8)

/-- The pooled rows of a group through its weight, scaled: the same for every group, from the sums of its windows. -/
theorem group {n : FVec Ideal S512x1 .f32} (hn : n = M v) (h1 h2 h3 h4 h5 h6) :
    truncf (F := Ideal) .bf16 (mulf (matmul (F := Ideal) dot_S512x128_S128x128_S512x128_1_0_0_1_n_n none (truncf .bf16 (subf (mulf (M32 S) (broadcastTo S512x128 n h1)) (M32 U)) h2) (truncf .bf16 (shapeCast S128x128 (L1 W) h3) h4) (constant S512x128 .f32 0x00000000#32)) (broadcastTo S512x128 (M32 s) h5)) h6
      = M (scr (mm (pl S U v) W) s) := by
  rw [hn, bto_M1, mulf_M, subf_M, truncf_M, cast_down, truncf_M, show dot_S512x128_S128x128_S512x128_1_0_0_1_n_n = DotDims.plain 512 128 128 from rfl, const_M _ w_zero, prod_mm, zadd, bto_1M, mulf_M, truncf_M]; rfl

include hT
theorem pay22 : k0_pay22 (F := Ideal) (k0_pay20 (BitVec.ofNat 32 T)) (M32 U) (M32 A) (M32 B) (L1 W) (M32 s) = M (scr (mm (pl (A + B) U (invc 1 (512 * T + 32))) W) s) := by
  unfold k0_pay22; dsimp only; rw [addf_M]; exact group _ _ _ _ _ (invd T hT 1 (by omega)) _ _ _ _ _ _
theorem pay26 : k0_pay26 (F := Ideal) (k0_pay20 (BitVec.ofNat 32 T)) (M32 U) (M32 S) 1#32 (L1 W) (M32 s) = M (scr (mm (pl S U (invc 2 (512 * T + 32))) W) s) := by
  unfold k0_pay26; dsimp only; exact group _ _ _ _ _ (invd T hT 2 (by omega)) _ _ _ _ _ _
theorem pay31 : k0_pay31 (F := Ideal) (k0_pay20 (BitVec.ofNat 32 T)) (M32 U) (L1 A) (L1 B) (L1 W) (M32 s) = M (scr (mm (pl (A + B) U (invc 3 (512 * T + 32))) W) s) := by
  unfold k0_pay31; dsimp only; rw [cast_down, cast_down, addf_M]; exact group _ _ _ _ _ (invd T hT 3 (by omega)) _ _ _ _ _ _
theorem pay1 : k0_pay1 (F := Ideal) (M32 U) (M32 S) (k0_pay38 (k0_pay20 (BitVec.ofNat 32 T))) (L1 W) (M32 s) = M (scr (mm (pl S U (invc 4 (512 * T + 32))) W) s) := by
  unfold k0_pay1 k0_pay38; dsimp only; exact group _ _ _ _ _ (invd T hT 4 (by omega)) _ _ _ _ _ _
omit hT

theorem pay21 : k0_pay21 (F := Ideal) (M32 (tile Y r c)) = M (tile Y r (c + 0)) := by unfold k0_pay21; dsimp only; exact ess_tile _ _ _ _ _ _
theorem pay23 : k0_pay23 (F := Ideal) (M32 (tile Y r c)) = M (tile Y r (c + 128)) := by unfold k0_pay23; dsimp only; exact ess_tile _ _ _ _ _ _
theorem pay27 : k0_pay27 (F := Ideal) (M32 (tile Y r c)) = M (tile Y r (c + 256)) := by unfold k0_pay27; dsimp only; exact ess_tile _ _ _ _ _ _
theorem pay32 : k0_pay32 (F := Ideal) (M32 (tile Y r c)) = M (tile Y r (c + 384)) := by unfold k0_pay32; dsimp only; exact ess_tile _ _ _ _ _ _
theorem pay25 : k0_pay25 (F := Ideal) (L1 A) (L1 B) = M (A + B) := by unfold k0_pay25; dsimp only; rw [cast_down, cast_down, addf_M]
theorem pay37 : k0_pay37 (F := Ideal) (L1 A) (L1 B) = M (A + B) := pay25 A B
end pool

section level
variable (A B : Fin 536 → Fin 128 → ℝ) (C D : Fin 528 → Fin 128 → ℝ) (G H : Fin 520 → Fin 128 → ℝ)
theorem pay24 : k0_pay24 (F := Ideal) (M32 A) (M32 B) = L1 (A + B) := by unfold k0_pay24; dsimp only; rw [addf_M, cast_up]
theorem pay28 : k0_pay28 (F := Ideal) (M32 A) (M32 B) = L1 (A + B) := pay24 A B
theorem pay33 : k0_pay33 (F := Ideal) (M32 A) (M32 B) = M (A + B) := by unfold k0_pay33; dsimp only; rw [addf_M]
theorem pay34 : k0_pay34 (F := Ideal) (M32 A) = L1 A := by unfold k0_pay34; dsimp only; rw [cast_up]
theorem pay29 : k0_pay29 (F := Ideal) (L1 C) (L1 D) = M (C + D) := by unfold k0_pay29; dsimp only; rw [cast_down, cast_down, addf_M]
theorem pay30 : k0_pay30 (F := Ideal) (M32 C) = L1 C := by unfold k0_pay30; dsimp only; rw [cast_up]
theorem pay35 : k0_pay35 (F := Ideal) (L1 C) (L1 D) = L1 (C + D) := by unfold k0_pay35; dsimp only; rw [cast_down, cast_down, addf_M, cast_up]
theorem pay36 : k0_pay36 (F := Ideal) (L1 G) (L1 H) = L1 (G + H) := by unfold k0_pay36; dsimp only; rw [cast_down, cast_down, addf_M, cast_up]
end level

/-! ### The rows with what the mixer adds, and the rows kept for the next tile -/

theorem pay2 (x : Fin 512 → Fin 1024 → ℝ) (y : Fin 512 → Fin 1024 → ℝ) (W : Fin 1024 → Fin 1024 → ℝ) : k0_pay2 (F := Ideal) (M32 x) (M16 y) (M16 W) = M (x + mm y W) := by
  unfold k0_pay2; dsimp only
  rw [cast_self, show dot_S512x1024_S1024x1024_S512x1024_1_0_0_1_n_n = DotDims.plain 512 1024 1024 from rfl, const_M _ w_zero, prod_mm, zadd, addf_M]
theorem pay3 (A : Fin 8 → Fin 512 → ℝ) : k0_pay3 (F := Ideal) (M32 A) = M A := by unfold k0_pay3; dsimp only; rw [cast_self]
theorem pay4 (A : Fin 32 → Fin 512 → ℝ) : k0_pay4 (F := Ideal) (M32 A) = M A := by unfold k0_pay4; dsimp only; rw [cast_self]
theorem pay5 : k0_pay5 (F := Ideal) = M fun _ _ => 0 := by unfold k0_pay5; dsimp only; rw [splat_M _ w_zero, cast_self]
theorem pay6 : k0_pay6 (F := Ideal) = M fun _ _ => 0 := by unfold k0_pay6; dsimp only; rw [splat_M _ w_zero, cast_self]

end Step.Fwd
-- ==== Proof.FwdDat.lean ====
module

public import proofs.«01_k».proof.Proof.MixArr
public import proofs.«01_k».proof.Proof.FwdPay

@[expose] public section

set_option maxRecDepth 16384

noncomputable section

namespace Step.Mix.Dat

variable (D : Dat) {m n : Nat} (a b : ℕ)

/-- Both parts' outcome side by side. -/
def y (r c : ℕ) : ℝ := if c < 512 then D.p r (c + 512) * D.conv r c else D.q ((c - 512) / 128) r ((c - 512) % 128) * D.s 0 (c - 512)
/-- The rows with what the mixer adds. -/
def xo (r c : ℕ) : ℝ := D.x r c + ∑ l : Fin 1024, D.y r l * D.wout l c

theorem t_y0 : (tile D.p a 512 * tile D.conv a 0 : Fin m → Fin 512 → ℝ) = tile D.y a 0 := by
  funext r c; exact (if_pos c.isLt).symm
theorem t_y1 (s : ℕ) : (scr (tile (D.q s) a 0) (tile D.s 0 (128 * s)) : Fin m → Fin 128 → ℝ) = tile D.y a (512 + 128 * s) := by
  funext r c
  have := c.isLt
  show _ = y D _ (c.val + (512 + 128 * s))
  unfold y
  rw [if_neg (by omega), show (c.val + (512 + 128 * s) - 512) / 128 = s by omega, show (c.val + (512 + 128 * s) - 512) % 128 = c.val by omega, show c.val + (512 + 128 * s) - 512 = c.val + 128 * s by omega]; rfl
theorem t_xo : (tile D.x a 0 + mm (tile D.y a 0 : Fin m → Fin 1024 → ℝ) (tile D.wout 0 0) : Fin m → Fin n → ℝ) = tile D.xo a 0 := rfl

end Step.Mix.Dat

namespace Step.Fwd

open Idealize Idealize.ShloMosaic Step.Mix
open Cert.FwdKIdeal Cert.FwdKIdeal.Gen
open Step.Fwd

/-- A buffer that was copied in whole. -/
theorem whole {X : ℕ → ℕ → ℝ} {m n : ℕ} {e : EltTy} {w : Vec Ideal ⟨2, ![m, n]⟩ e} (hw : w = N e (tile X 0 0)) : Rd (m := m) (n := n) X 0 0 (fun _ _ => True) [⟨Rect.whole _, w⟩] :=
  fun y _ => congrFun ((Step.canon_whole _ _).trans hw) y

/-- A grid step is given the tile of the whole arrays that starts at row `b`; the projection is that of the normalised rows. -/
structure Fed (i : grid0.Coords) (D : Dat) (T b : ℕ) (v : In Ideal) : Prop where
  hT : T < 8
  hb : b = 512 * T
  hi : (i 0).val = T
  zero : ∀ r c, r < 32 → D.p r c = 0
  prj : (mt (hn (tile D.x (b + 32) 0) D.gain : Fin 512 → Fin 1024 → ℝ) (tile D.win 0 0) : Fin 512 → Fin 2048 → ℝ) = tile D.p (b + 32) 0
  x : v.x = M32 (tile D.x (b + 32) 0)
  g : v.g = M32 (tile D.g 0 0)
  k : v.k = M32 (tile D.k 0 0)
  w : v.w = T3 (fun s => tile (D.w s) 0 0)
  s : v.s = M32 (tile D.s 0 0)

section fed
variable {i : grid0.Coords} {D : Dat} {T b : ℕ} {v : In Ideal} (hv : Fed i D T b v)
include hv
/-- A part of the projection, from that part of the weight. -/
theorem Fed.part (a : ℕ) (ha : a + 512 ≤ 2048) : (mt (hn (tile D.x (b + 32) 0) D.gain : Fin 512 → Fin 1024 → ℝ) (tile D.win a 0) : Fin 512 → Fin 512 → ℝ) = tile D.p (b + 32) a := by
  funext r c
  exact congrFun (congrFun hv.prj r) ⟨c.val + a, by have := c.isLt; omega⟩
/-- The first tile has no rows before it. -/
theorem Fed.z0 (h : T = 0) : ((fun _ _ => 0) : Fin 8 → Fin 512 → ℝ) = tile D.z (b + 24) 0 := by
  funext r c
  have hb := hv.hb
  have := r.isLt
  show 0 = D.p (r.val + (b + 24)) _ * _
  rw [hv.zero _ _ (by omega), zero_mul]
theorem Fed.u0 (h : T = 0) : ((fun _ _ => 0) : Fin 32 → Fin 512 → ℝ) = tile D.u b 0 := by
  funext r c
  have hb := hv.hb
  exact (hv.zero (r.val + b) _ (by have := r.isLt; omega)).symm

/-! What the payloads make of the tile: the convolved columns, the four pooled groups, and the rows with what the mixer adds. -/

theorem Fed.cv : k0_pay18 (F := Ideal) (M32 (tile D.p (b + 32) 0)) (M32 (tile D.p (b + 32) 512)) (M32 (tile D.p (b + 32) 1024)) (M32 (tile D.k 0 0)) (M32 (tile D.z (b + 31) 0)) (M32 (tile D.z (b + 30) 0)) = M16 (tile D.y (b + 32) 0) := by
  rw [pay18]; exact congrArg M (D.t_y0 (b + 32))
theorem Fed.g0 : k0_pay22 (F := Ideal) (k0_pay20 (BitVec.ofNat 32 T)) (M32 (tile D.u (b + 32) 0)) (M32 (tile D.u (b + 32) 0)) (M32 (tile D.u (b + 31) 0)) (L1 (tile (D.w 0) 0 0)) (M32 (tile D.s 0 0)) = M16 (tile D.y (b + 32) 512) := by
  rw [pay22 (hT := hv.hT), ← hv.hb]; exact congrArg M ((congrArg (fun S => scr (mm (pl S _ _) _) _) (ts_tile D.u 0 (b + 31) 0)).trans (D.t_y1 (b + 32) 0))
theorem Fed.g1 : k0_pay26 (F := Ideal) (k0_pay20 (BitVec.ofNat 32 T)) (M32 (tile D.u (b + 32) 128)) (M32 (tile (ts D.u 2) (b + 32) 128)) 1#32 (L1 (tile (D.w 1) 0 0)) (M32 (tile D.s 0 128)) = M16 (tile D.y (b + 32) 640) := by
  rw [pay26 (hT := hv.hT), ← hv.hb]; exact congrArg M (D.t_y1 (b + 32) 1)
theorem Fed.g2 : k0_pay31 (F := Ideal) (k0_pay20 (BitVec.ofNat 32 T)) (M32 (tile D.u (b + 32) 256)) (L1 (tile (ts D.u 2) (b + 32) 256)) (L1 (tile (ts D.u 2) (b + 28) 256)) (L1 (tile (D.w 2) 0 0)) (M32 (tile D.s 0 256)) = M16 (tile D.y (b + 32) 768) := by
  rw [pay31 (hT := hv.hT), ← hv.hb, D.t_two]; exact congrArg M (D.t_y1 (b + 32) 2)
theorem Fed.g3 : k0_pay1 (F := Ideal) (M32 (tile D.u (b + 32) 384)) (M32 (tile (ts D.u 4) (b + 32) 384)) (k0_pay38 (k0_pay20 (BitVec.ofNat 32 T))) (L1 (tile (D.w 3) 0 0)) (M32 (tile D.s 0 384)) = M16 (tile D.y (b + 32) 896) := by
  rw [pay1 (hT := hv.hT), ← hv.hb]; exact congrArg M (D.t_y1 (b + 32) 3)
theorem Fed.all : k0_pay2 (F := Ideal) (M32 (tile D.x (b + 32) 0)) (M16 (tile D.y (b + 32) 0)) (M16 (tile D.wout 0 0)) = M32 (tile D.xo (b + 32) 0) := by
  rw [pay2]; exact congrArg M (D.t_xo (b + 32))

section load
variable {κ : Kind} {sp : Space} {m n r c : ℕ}
theorem Fed.l_x {a : Memref sig κ sp S512x1024 .f32} (h : a.IsWhole) {inb} : View.readAt (Elt Ideal) a.view (Rect.unit (s := S512x1024) ![r, c] ![m, n] inb).toLoadRect (h.unread v.x) = M32 (tile D.x (b + 32 + r) (0 + c)) := ld_N a h hv.x
theorem Fed.l_g {a : Memref sig κ sp S1x1024 .f32} (h : a.IsWhole) {inb} : View.readAt (Elt Ideal) a.view (Rect.unit (s := S1x1024) ![r, c] ![m, n] inb).toLoadRect (h.unread v.g) = M32 (tile D.g (0 + r) (0 + c)) := ld_N a h hv.g
theorem Fed.l_k {a : Memref sig κ sp S3x512 .f32} (h : a.IsWhole) {inb} : View.readAt (Elt Ideal) a.view (Rect.unit (s := S3x512) ![r, c] ![m, n] inb).toLoadRect (h.unread v.k) = M32 (tile D.k (0 + r) (0 + c)) := ld_N a h hv.k
theorem Fed.l_s {a : Memref sig κ sp S1x512 .f32} (h : a.IsWhole) {inb} : View.readAt (Elt Ideal) a.view (Rect.unit (s := S1x512) ![r, c] ![m, n] inb).toLoadRect (h.unread v.s) = M32 (tile D.s (0 + r) (0 + c)) := ld_N a h hv.s
theorem Fed.l_w {a : Memref sig κ sp S4x128x128 .f32} (h : a.IsWhole) {inb} : View.readAt (Elt Ideal) a.view (Rect.unit (s := S4x128x128) ![r, 0, 0] ![1, 128, 128] inb).toLoadRect (h.unread v.w) = L1 (tile (D.w r) 0 0) := ld_T3 a h hv.w
end load
end fed

/-- What the grid steps before have left, for the tile that starts at row `b`. -/
structure Held (D : Dat) (b : ℕ) (o : Out Ideal) : Prop where
  win : o.win = M16 (tile D.win 0 0)
  wout : o.wout = M16 (tile D.wout 0 0)
  c : ∀ y : (⟨2, ![520, 512]⟩ : Shape).Idx, (y 0).val < 8 → o.c y = N .f32 (tile D.z (b + 24) 0) y
  q : ∀ y : (⟨2, ![544, 512]⟩ : Shape).Idx, (y 0).val < 32 → o.q y = N .f32 (tile D.u b 0) y

section held
variable {D : Dat} {b : ℕ} {o : Out Ideal} (ho : Held D b o) {κ : Kind} {sp : Space} {m n r c : ℕ}
include ho
theorem Held.l_win {a : Memref sig κ sp S2048x1024 .bf16} (h : a.IsWhole) {inb} : View.readAt (Elt Ideal) a.view (Rect.unit (s := S2048x1024) ![r, c] ![m, n] inb).toLoadRect (h.unread o.win) = M16 (tile D.win (0 + r) (0 + c)) := ld_N a h ho.win
theorem Held.l_wout {a : Memref sig κ sp S1024x1024 .bf16} (h : a.IsWhole) {inb} : View.readAt (Elt Ideal) a.view (Rect.unit (s := S1024x1024) ![r, c] ![m, n] inb).toLoadRect (h.unread o.wout) = M16 (tile D.wout (0 + r) (0 + c)) := ld_N a h ho.wout
theorem Held.l_c {a : Memref sig κ sp S520x512 .f32} (h : a.IsWhole) {inb} {P : ℕ → ℕ → Prop} {L} (hA : Ag D.z (b + 24) 0 L) (hC : Cv P L) (hP : ∀ i j, i < m → j < n → P (r + i) (c + j) ∨ r + i < 8) :
    View.readAt (Elt Ideal) a.view (Rect.unit (s := S520x512) ![r, c] ![m, n] inb).toLoadRect (a.view.writes (Elt Ideal) (h.unread o.c) L) = M32 (tile D.z (b + 24 + r) (0 + c)) := ld_ag a h hA hC (B := fun i _ => i < 8) (fun y => ho.c y) hP
theorem Held.l_q {a : Memref sig κ sp S544x512 .f32} (h : a.IsWhole) {inb} {P : ℕ → ℕ → Prop} {L} (hA : Ag D.u b 0 L) (hC : Cv P L) (hP : ∀ i j, i < m → j < n → P (r + i) (c + j) ∨ r + i < 32) :
    View.readAt (Elt Ideal) a.view (Rect.unit (s := S544x512) ![r, c] ![m, n] inb).toLoadRect (a.view.writes (Elt Ideal) (h.unread o.q) L) = M32 (tile D.u (b + r) (0 + c)) := ld_ag a h hA hC (B := fun i _ => i < 32) (fun y => ho.q y) hP
end held

/-- What the grid step of the tile that starts at row `b` leaves: its rows of the three results, and what the next step finds. -/
structure Did (D : Dat) (b : ℕ) (o : Out Ideal) : Prop where
  xo : o.xo = M32 (tile D.xo (b + 32) 0)
  p : o.p = M16 (tile D.p (b + 32) 0)
  y : o.y = M16 (tile D.y (b + 32) 0)
  held : Held D (b + 512) o

section pieces
variable {D : Dat} {b : ℕ}
/-- The stores of the projection's four parts. -/
theorem Did.proj {h0 h1 h2 h3} {w0 w1 w2 w3 : Vec Ideal S512x512 .bf16} (e3 : w3 = M16 (tile D.p (b + 32) 1536)) (e2 : w2 = M16 (tile D.p (b + 32) 1024)) (e1 : w1 = M16 (tile D.p (b + 32) 512)) (e0 : w0 = M16 (tile D.p (b + 32) 0)) :
    View.canon [⟨Rect.unit (s := S512x2048) ![0, 1536] S512x512.size h3, w3⟩, ⟨Rect.unit (s := S512x2048) ![0, 1024] S512x512.size h2, w2⟩, ⟨Rect.unit (s := S512x2048) ![0, 512] S512x512.size h1, w1⟩, ⟨Rect.unit (s := S512x2048) ![0, 0] S512x512.size h0, w0⟩] = M16 (tile D.p (b + 32) 0) :=
  Rd.canon (m := 512) (n := 2048) (P := fun _ j => j < 2048)
    (Rd.cons (m' := 512) (n' := 512) (w := w3) e3 (Rd.cons (m' := 512) (n' := 512) (w := w2) e2 (Rd.cons (m' := 512) (n' := 512) (w := w1) e1 (Rd.cons (m' := 512) (n' := 512) (w := w0) e0
      (fun _ h => h.elim) (Q := fun _ _ => False) fun i j _ _ h => Or.inl (by omega)) (Q := fun _ j => j < 512) fun i j _ _ h => by omega) (Q := fun _ j => j < 1024) fun i j _ _ h => by omega) (Q := fun _ j => j < 1536) fun i j _ _ h => by omega) fun i j _ h => h
/-- The stores of both parts' outcome: the convolved columns and the four groups of pooled ones. -/
theorem Did.cols {h0 h1 h2 h3 h4} {w0 : Vec Ideal S512x512 .bf16} {w1 w2 w3 w4 : Vec Ideal S512x128 .bf16} (e4 : w4 = M16 (tile D.y (b + 32) 896)) (e3 : w3 = M16 (tile D.y (b + 32) 768)) (e2 : w2 = M16 (tile D.y (b + 32) 640)) (e1 : w1 = M16 (tile D.y (b + 32) 512)) (e0 : w0 = M16 (tile D.y (b + 32) 0)) :
    Rd (m := 512) (n := 1024) (e := .bf16) D.y (b + 32) 0 (fun _ _ => True) [⟨Rect.unit (s := S512x1024) ![0, 896] S512x128.size h4, w4⟩, ⟨Rect.unit (s := S512x1024) ![0, 768] S512x128.size h3, w3⟩, ⟨Rect.unit (s := S512x1024) ![0, 640] S512x128.size h2, w2⟩, ⟨Rect.unit (s := S512x1024) ![0, 512] S512x128.size h1, w1⟩, ⟨Rect.unit (s := S512x1024) ![0, 0] S512x512.size h0, w0⟩] :=
  Rd.cons (m' := 512) (n' := 128) (w := w4) e4 (Rd.cons (m' := 512) (n' := 128) (w := w3) e3 (Rd.cons (m' := 512) (n' := 128) (w := w2) e2 (Rd.cons (m' := 512) (n' := 128) (w := w1) e1 (Rd.cons (m' := 512) (n' := 512) (w := w0) e0
    (fun _ h => h.elim) (Q := fun _ _ => False) fun i j _ _ h => Or.inl (by omega)) (Q := fun _ j => j < 512) fun i j _ _ h => by omega) (Q := fun _ j => j < 640) fun i j _ _ h => by omega) (Q := fun _ j => j < 768) fun i j _ _ h => by omega) (Q := fun _ j => j < 896) fun i j _ _ h => by omega

variable {L : Stores Ideal} (hxo : View.canon L.xo = M32 (tile D.xo (b + 32) 0)) (hp : View.canon L.p = M16 (tile D.p (b + 32) 0)) (hy : View.canon L.y = M16 (tile D.y (b + 32) 0))
  (hc : Rd D.z (b + 536) 0 (fun i _ => i < 8) L.c) (hq : Rd D.u (b + 512) 0 (fun i _ => i < 32) L.q)
include hxo hp hy hc hq
/-- The stores of the first grid step leave it. -/
theorem Did.ofA (hi : View.canon L.win = M16 (tile D.win 0 0)) (ho : View.canon L.wout = M16 (tile D.wout 0 0)) : Did D b L.out := ⟨hxo, hp, hy, ⟨hi, ho, hc, hq⟩⟩
/-- The stores of a later grid step leave it. -/
theorem Did.ofB {o : Out Ideal} (hi : o.win = M16 (tile D.win 0 0)) (ho : o.wout = M16 (tile D.wout 0 0)) : Did D b { L.out with win := o.win, wout := o.wout } := ⟨hxo, hp, hy, ⟨hi, ho, hc, hq⟩⟩
end pieces

end Step.Fwd
-- ==== Proof.FwdA.lean ====
module

public import proofs.«01_k».proof.Proof.FwdDat

@[expose] public section

set_option maxRecDepth 16384

noncomputable section

namespace Step.Fwd.A

open Idealize Idealize.ShloMosaic Step.Mix
open Cert.FwdKIdeal Cert.FwdKIdeal.Gen
open Step.Fwd (Fed Held Did In Out)
open Step.Fwd

/-- What the first grid step copies in: the two weights, the second in four parts. -/
structure Start (c : Dev nD) (D : Dat) (T : ℕ) (f0 : HbBuf0 (F := Ideal) c hbM0_0) (f1 : HbBuf0 (F := Ideal) c hbM0_1) : Prop where
  first : T = 0
  win : runA.sl.dma0 (F := Ideal) c f0 = M16 (tile D.win 0 0)
  w0 : runA.sl.dma0_1 (F := Ideal) c f1 = M16 (tile D.wout 0 0)
  w1 : runA.sl.dma0_2 (F := Ideal) c f1 = M16 (tile D.wout 256 0)
  w2 : runA.sl.dma0_3 (F := Ideal) c f1 = M16 (tile D.wout 512 0)
  w3 : runA.sl.dma0_4 (F := Ideal) c f1 = M16 (tile D.wout 768 0)

variable {c : Dev nD} {i : grid0.Coords}
  {a1 : Memref sig .tc .vmem S512x1024 .f32} {h1 : a1.IsWhole}
  {a2 : Memref sig .tc .vmem S1x1024 .f32} {h2 : a2.IsWhole}
  {a5 : Memref sig .tc .vmem S3x512 .f32} {h5 : a5.IsWhole}
  {a6 : Memref sig .tc .vmem S4x128x128 .f32} {h6 : a6.IsWhole}
  {a7 : Memref sig .tc .vmem S1x512 .f32} {h7 : a7.IsWhole}
  {a8 : Memref sig .tc .vmem S512x1024 .f32} {h8 : a8.IsWhole}
  {a9 : Memref sig .tc .vmem S512x2048 .bf16} {h9 : a9.IsWhole}
  {a10 : Memref sig .tc .vmem S512x1024 .bf16} {h10 : a10.IsWhole}
  {a11 : Memref sig .tc .vmem S2048x1024 .bf16} {h11 : a11.IsWhole}
  {a12 : Memref sig .tc .vmem S1024x1024 .bf16} {h12 : a12.IsWhole}
  {a13 : Memref sig .tc .vmem S520x512 .f32} {h13 : a13.IsWhole}
  {a14 : Memref sig .tc .vmem S544x512 .f32} {h14 : a14.IsWhole}
  {a15 : Memref sig .tc .vmem S3x544x128 .f32} {h15 : a15.IsWhole}
variable {D : Dat} {T b : ℕ} {v : In Ideal} {f0 : HbBuf0 (F := Ideal) c hbM0_0} {f1 : HbBuf0 (F := Ideal) c hbM0_1}

theorem v18 (ho : Start c D T f0 f1) : runA.sl.v18 c a11 f0 = M16 (tile D.win 0 0) := (whole ho.win).rc _ fun _ _ _ _ => trivial
theorem v20 (ho : Start c D T f0 f1) : runA.sl.v20 c a11 f0 = M16 (tile D.win 512 0) := (whole ho.win).rc _ fun _ _ _ _ => trivial
theorem v22 (ho : Start c D T f0 f1) : runA.sl.v22 c a11 f0 = M16 (tile D.win 1024 0) := (whole ho.win).rc _ fun _ _ _ _ => trivial
theorem v24 (ho : Start c D T f0 f1) : runA.sl.v24 c a11 f0 = M16 (tile D.win 1536 0) := (whole ho.win).rc _ fun _ _ _ _ => trivial
section
variable (hv : Fed i D T b v)
include hv

theorem r_1 (ho : Start c D T f0 f1) : runA.sl.r_1 c a1 h1 a2 h2 a11 v f0 = M32 (tile D.p (b + 32) 0) := by unfold runA.sl.r_1; rw [hv.l_x, hv.l_g, v18 ho, pay8] <;> exact congrArg M (hv.part 0 (by decide))
theorem r_2 (ho : Start c D T f0 f1) : runA.sl.r_2 c a1 h1 a2 h2 a11 v f0 = M32 (tile D.p (b + 32) 512) := by unfold runA.sl.r_2; rw [hv.l_x, hv.l_g, v20 ho, pay9] <;> exact congrArg M (hv.part 512 (by decide))
theorem r_3 (ho : Start c D T f0 f1) : runA.sl.r_3 c a1 h1 a2 h2 a11 v f0 = M32 (tile D.p (b + 32) 1024) := by unfold runA.sl.r_3; rw [hv.l_x, hv.l_g, v22 ho, pay10] <;> exact congrArg M (hv.part 1024 (by decide))
theorem r_4 (ho : Start c D T f0 f1) : runA.sl.r_4 c a1 h1 a2 h2 a11 v f0 = M32 (tile D.u (b + 32) 0) := by unfold runA.sl.r_4; rw [hv.l_x, hv.l_g, v24 ho, pay11] <;> exact congrArg M (hv.part 1536 (by decide))
theorem r_5 (ho : Start c D T f0 f1) : runA.sl.r_5 c a1 h1 a2 h2 a11 v f0 = M16 (tile D.p (b + 32) 1024) := by unfold runA.sl.r_5; rw [hv.l_x, hv.l_g, v22 ho, pay14] <;> exact congrArg M (hv.part 1024 (by decide))
theorem ag_H13_2 (ho : Start c D T f0 f1) : Ag D.z (b + 24) 0 (runA.sl.H13_2 c a1 h1 a2 h2 a11 v f0) := Ag.cons (by rw [r_1 hv ho, r_3 hv ho, pay17] <;> exact rfl) (Ag.cons (by rw [pay5] <;> exact congrArg M (hv.z0 ho.first)) Ag.nil)
omit hv in
theorem cv_H13_2 : Cv (fun _ _ => True) (runA.sl.H13_2 c a1 h1 a2 h2 a11 v f0) := Cv.cons (Cv.cons (Q := fun _ _ => False) (P := fun i _ => i < 8) (Cv.nil fun _ _ _ _ h => h) fun i j _ _ h => by omega) fun i j _ _ h => by omega
theorem ag_H14_2 (ho : Start c D T f0 f1) : Ag D.u b 0 (runA.sl.H14_2 c a1 h1 a2 h2 a11 v f0) := Ag.cons (by rw [r_4 hv ho, pay19] <;> exact rfl) (Ag.cons (by rw [pay6] <;> exact congrArg M (hv.u0 ho.first)) Ag.nil)
omit hv in
theorem cv_H14_2 : Cv (fun _ _ => True) (runA.sl.H14_2 c a1 h1 a2 h2 a11 v f0) := Cv.cons (Cv.cons (Q := fun _ _ => False) (P := fun i _ => i < 32) (Cv.nil fun _ _ _ _ h => h) fun i j _ _ h => by omega) fun i j _ _ h => by omega
theorem v43 (ho : Start c D T f0 f1) : runA.sl.v43 c a1 h1 a2 h2 a11 a13 v f0 = M32 (tile D.z (b + 31) 0) := rc_ag _ (ag_H13_2 hv ho) cv_H13_2 fun _ _ _ _ => trivial
theorem v48 (ho : Start c D T f0 f1) : runA.sl.v48 c a1 h1 a2 h2 a11 a13 v f0 = M32 (tile D.z (b + 30) 0) := rc_ag _ (ag_H13_2 hv ho) cv_H13_2 fun _ _ _ _ => trivial
theorem v212 (ho : Start c D T f0 f1) : runA.sl.v212 c a1 h1 a2 h2 a11 a13 v f0 = M32 (tile D.z (b + 536) 0) := rc_ag _ (ag_H13_2 hv ho) cv_H13_2 fun _ _ _ _ => trivial
theorem v63 (ho : Start c D T f0 f1) : runA.sl.v63 c a1 h1 a2 h2 a11 a14 v f0 = M32 (tile D.u (b + 32) 0) := rc_ag _ (ag_H14_2 hv ho) cv_H14_2 fun _ _ _ _ => trivial
theorem v64 (ho : Start c D T f0 f1) : runA.sl.v64 c a1 h1 a2 h2 a11 a14 v f0 = M32 (tile D.u (b + 31) 0) := rc_ag _ (ag_H14_2 hv ho) cv_H14_2 fun _ _ _ _ => trivial
theorem v87 (ho : Start c D T f0 f1) : runA.sl.v87 c a1 h1 a2 h2 a11 a14 v f0 = M32 (tile D.u (b + 8) 128) := rc_ag _ (ag_H14_2 hv ho) cv_H14_2 fun _ _ _ _ => trivial
theorem v88 (ho : Start c D T f0 f1) : runA.sl.v88 c a1 h1 a2 h2 a11 a14 v f0 = M32 (tile D.u (b + 7) 128) := rc_ag _ (ag_H14_2 hv ho) cv_H14_2 fun _ _ _ _ => trivial
theorem v119 (ho : Start c D T f0 f1) : runA.sl.v119 c a1 h1 a2 h2 a11 a14 v f0 = M32 (tile D.u (b + 8) 256) := rc_ag _ (ag_H14_2 hv ho) cv_H14_2 fun _ _ _ _ => trivial
theorem v120 (ho : Start c D T f0 f1) : runA.sl.v120 c a1 h1 a2 h2 a11 a14 v f0 = M32 (tile D.u (b + 7) 256) := rc_ag _ (ag_H14_2 hv ho) cv_H14_2 fun _ _ _ _ => trivial
theorem v159 (ho : Start c D T f0 f1) : runA.sl.v159 c a1 h1 a2 h2 a11 a14 v f0 = M32 (tile D.u (b + 8) 384) := rc_ag _ (ag_H14_2 hv ho) cv_H14_2 fun _ _ _ _ => trivial
theorem v160 (ho : Start c D T f0 f1) : runA.sl.v160 c a1 h1 a2 h2 a11 a14 v f0 = M32 (tile D.u (b + 7) 384) := rc_ag _ (ag_H14_2 hv ho) cv_H14_2 fun _ _ _ _ => trivial
theorem v216 (ho : Start c D T f0 f1) : runA.sl.v216 c a1 h1 a2 h2 a11 a14 v f0 = M32 (tile D.u (b + 512) 0) := rc_ag _ (ag_H14_2 hv ho) cv_H14_2 fun _ _ _ _ => trivial
theorem r_6 : runA.sl.r_6 i = k0_pay20 (BitVec.ofNat 32 T) := by unfold runA.sl.r_6; rw [hv.hi]
theorem r_7 (ho : Start c D T f0 f1) : runA.sl.r_7 c a1 h1 a2 h2 a11 v f0 = M32 (tile D.u (b + 32) 0) := by unfold runA.sl.r_7; rw [r_4 hv ho, pay21] <;> exact rfl
theorem r_8 (ho : Start c D T f0 f1) : runA.sl.r_8 c a1 h1 a2 h2 a11 v f0 = M32 (tile D.u (b + 32) 128) := by unfold runA.sl.r_8; rw [r_4 hv ho, pay23] <;> exact rfl
theorem r_10 (ho : Start c D T f0 f1) : runA.sl.r_10 c a1 h1 a2 h2 a11 v f0 = M32 (tile D.u (b + 32) 256) := by unfold runA.sl.r_10; rw [r_4 hv ho, pay27] <;> exact rfl
theorem r_12 (ho : Start c D T f0 f1) : runA.sl.r_12 c a1 h1 a2 h2 a11 v f0 = M32 (tile D.u (b + 32) 384) := by unfold runA.sl.r_12; rw [r_4 hv ho, pay32] <;> exact rfl
theorem tp_H15_1 (ho : Start c D T f0 f1) : Tp (ts D.u 1) (b + 8) 128 0 8 536 (runA.sl.H15_1 c a1 h1 a2 h2 a11 a14 v f0) := ⟨_, _, _, rfl, by rw [v87 hv ho, v88 hv ho, pay24] <;> exact congrArg L1 (ts_tile D.u 0 (b + 7) 128)⟩
theorem v93 (ho : Start c D T f0 f1) : runA.sl.v93 c a1 h1 a2 h2 a11 a14 a15 v f0 = L1 (tile (ts D.u 1) (b + 32) 128) := (tp_H15_1 hv ho).rc 24 _ (by decide)
theorem v95 (ho : Start c D T f0 f1) : runA.sl.v95 c a1 h1 a2 h2 a11 a14 a15 v f0 = L1 (tile (ts D.u 1) (b + 30) 128) := (tp_H15_1 hv ho).rc 22 _ (by decide)
theorem r_9 (ho : Start c D T f0 f1) : runA.sl.r_9 c a1 h1 a2 h2 a11 a14 a15 v f0 = M32 (tile (ts D.u 2) (b + 32) 128) := by unfold runA.sl.r_9; rw [v93 hv ho, v95 hv ho, pay25] <;> exact congrArg M (ts_tile D.u 1 (b + 30) 128)
theorem tp_H15_2 (ho : Start c D T f0 f1) : Tp (ts D.u 1) (b + 8) 256 0 8 536 (runA.sl.H15_2 c a1 h1 a2 h2 a11 a14 v f0) := ⟨_, _, _, rfl, by rw [v119 hv ho, v120 hv ho, pay28] <;> exact congrArg L1 (ts_tile D.u 0 (b + 7) 256)⟩
theorem v125 (ho : Start c D T f0 f1) : runA.sl.v125 c a1 h1 a2 h2 a11 a14 a15 v f0 = L1 (tile (ts D.u 1) (b + 16) 256) := (tp_H15_2 hv ho).rc 8 _ (by decide)
theorem v127 (ho : Start c D T f0 f1) : runA.sl.v127 c a1 h1 a2 h2 a11 a14 a15 v f0 = L1 (tile (ts D.u 1) (b + 14) 256) := (tp_H15_2 hv ho).rc 6 _ (by decide)
theorem r_11 (ho : Start c D T f0 f1) : runA.sl.r_11 c a1 h1 a2 h2 a11 a14 a15 v f0 = M32 (tile (ts D.u 2) (b + 16) 256) := by unfold runA.sl.r_11; rw [v125 hv ho, v127 hv ho, pay29] <;> exact congrArg M (ts_tile D.u 1 (b + 14) 256)
theorem tp_H15_3 (ho : Start c D T f0 f1) : Tp (ts D.u 2) (b + 16) 256 1 16 528 (runA.sl.H15_3 c a1 h1 a2 h2 a11 a14 a15 v f0) := ⟨_, _, _, rfl, by rw [r_11 hv ho, pay30] <;> exact rfl⟩
theorem v133 (ho : Start c D T f0 f1) : runA.sl.v133 c a1 h1 a2 h2 a11 a14 a15 v f0 = L1 (tile (ts D.u 2) (b + 32) 256) := (tp_H15_3 hv ho).rc 16 _ (by decide)
theorem v135 (ho : Start c D T f0 f1) : runA.sl.v135 c a1 h1 a2 h2 a11 a14 a15 v f0 = L1 (tile (ts D.u 2) (b + 28) 256) := (tp_H15_3 hv ho).rc 12 _ (by decide)
theorem r_13 (ho : Start c D T f0 f1) : runA.sl.r_13 c a1 h1 a2 h2 a11 a14 v f0 = M32 (tile (ts D.u 1) (b + 8) 384) := by unfold runA.sl.r_13; rw [v159 hv ho, v160 hv ho, pay33] <;> exact congrArg M (ts_tile D.u 0 (b + 7) 384)
theorem tp_H15_4 (ho : Start c D T f0 f1) : Tp (ts D.u 1) (b + 8) 384 0 8 536 (runA.sl.H15_4 c a1 h1 a2 h2 a11 a14 a15 v f0) := ⟨_, _, _, rfl, by rw [r_13 hv ho, pay34] <;> exact rfl⟩
theorem v165 (ho : Start c D T f0 f1) : runA.sl.v165 c a1 h1 a2 h2 a11 a14 a15 v f0 = L1 (tile (ts D.u 1) (b + 16) 384) := (tp_H15_4 hv ho).rc 8 _ (by decide)
theorem v167 (ho : Start c D T f0 f1) : runA.sl.v167 c a1 h1 a2 h2 a11 a14 a15 v f0 = L1 (tile (ts D.u 1) (b + 14) 384) := (tp_H15_4 hv ho).rc 6 _ (by decide)
theorem tp_H15_5 (ho : Start c D T f0 f1) : Tp (ts D.u 2) (b + 16) 384 1 16 528 (runA.sl.H15_5 c a1 h1 a2 h2 a11 a14 a15 v f0) := ⟨_, _, _, rfl, by rw [v165 hv ho, v167 hv ho, pay35] <;> exact congrArg L1 (ts_tile D.u 1 (b + 14) 384)⟩
theorem v173 (ho : Start c D T f0 f1) : runA.sl.v173 c a1 h1 a2 h2 a11 a14 a15 v f0 = L1 (tile (ts D.u 2) (b + 24) 384) := (tp_H15_5 hv ho).rc 8 _ (by decide)
theorem v175 (ho : Start c D T f0 f1) : runA.sl.v175 c a1 h1 a2 h2 a11 a14 a15 v f0 = L1 (tile (ts D.u 2) (b + 20) 384) := (tp_H15_5 hv ho).rc 4 _ (by decide)
theorem tp_H15_6 (ho : Start c D T f0 f1) : Tp (ts D.u 3) (b + 24) 384 2 24 520 (runA.sl.H15_6 c a1 h1 a2 h2 a11 a14 a15 v f0) := ⟨_, _, _, rfl, by rw [v173 hv ho, v175 hv ho, pay36] <;> exact congrArg L1 (ts_tile D.u 2 (b + 20) 384)⟩
theorem v181 (ho : Start c D T f0 f1) : runA.sl.v181 c a1 h1 a2 h2 a11 a14 a15 v f0 = L1 (tile (ts D.u 3) (b + 32) 384) := (tp_H15_6 hv ho).rc 8 _ (by decide)
theorem v183 (ho : Start c D T f0 f1) : runA.sl.v183 c a1 h1 a2 h2 a11 a14 a15 v f0 = L1 (tile (ts D.u 3) (b + 24) 384) := (tp_H15_6 hv ho).rc 0 _ (by decide)
theorem r_14 (ho : Start c D T f0 f1) : runA.sl.r_14 c a1 h1 a2 h2 a11 a14 a15 v f0 = M32 (tile (ts D.u 4) (b + 32) 384) := by unfold runA.sl.r_14; rw [v181 hv ho, v183 hv ho, pay37] <;> exact congrArg M (ts_tile D.u 3 (b + 24) 384)
theorem r_15 : runA.sl.r_15 i = k0_pay38 (F := Ideal) (k0_pay20 (BitVec.ofNat 32 T)) := by unfold runA.sl.r_15; rw [r_6 hv]
/-- Both parts' outcome: the convolved columns and the four groups'. -/
theorem rd_H10_5 (ho : Start c D T f0 f1) : Rd D.y (b + 32) 0 (fun _ _ => True) (runA.sl.H10_5 c i a1 h1 a2 h2 a5 h5 a6 h6 a7 h7 a11 a13 a14 a15 v f0) :=
  Did.cols (by rw [r_12 hv ho, r_14 hv ho, r_15 hv, hv.l_w, hv.l_s] <;> exact hv.g3) (by rw [r_6 hv, r_10 hv ho, v133 hv ho, v135 hv ho, hv.l_w, hv.l_s] <;> exact hv.g2)
    (by rw [r_6 hv, r_8 hv ho, r_9 hv ho, hv.l_w, hv.l_s] <;> exact hv.g1) (by rw [r_6 hv, r_7 hv ho, v63 hv ho, v64 hv ho, hv.l_w, hv.l_s] <;> exact hv.g0)
    (by rw [r_1 hv ho, r_2 hv ho, r_3 hv ho, hv.l_k, v43 hv ho, v48 hv ho] <;> exact hv.cv)
theorem v206 (ho : Start c D T f0 f1) : runA.sl.v206 c i a1 h1 a2 h2 a5 h5 a6 h6 a7 h7 a10 a11 a13 a14 a15 v f0 = M16 (tile D.y (b + 32) 0) := (rd_H10_5 hv ho).rc _ fun _ _ _ _ => trivial
omit hv in
theorem v208 (ho : Start c D T f0 f1) : runA.sl.v208 c a12 f1 = M16 (tile D.wout 0 0) := (A.four ho.w0 ho.w1 ho.w2 ho.w3).rc _ fun _ _ _ _ => trivial

end

variable {hc : cond0_0 i}

/-- The stores of a first grid step. -/
local notation "stores" => Subtype.val (runA (F := Ideal) c i a1 h1 a2 h2 a5 h5 a6 h6 a7 h7 a8 h8 a9 h9 a10 h10 a11 h11 a12 h12 a13 h13 a14 h14 a15 h15 hc v f0 f1)

variable (hv : Fed i D T b v) (ho : Start c D T f0 f1)
include hv ho
theorem o_xo : View.canon (stores).xo = M32 (tile D.xo (b + 32) 0) := (View.canon_unit_zero hz _ _).trans (by rw [show runA.sl.r a1 h1 v = _ from hv.l_x _, v206 hv ho, v208 ho] <;> exact hv.all)
theorem o_p : View.canon (stores).p = M16 (tile D.p (b + 32) 0) :=
  Did.proj (by rw [r_4 hv ho, pay15] <;> exact rfl) (r_5 hv ho) (by rw [hv.l_x, hv.l_g, v20 ho, pay13] <;> exact congrArg M (hv.part 512 (by decide))) (by rw [hv.l_x, hv.l_g, v18 ho, pay12] <;> exact congrArg M (hv.part 0 (by decide)))
theorem o_y : View.canon (stores).y = M16 (tile D.y (b + 32) 0) := (rd_H10_5 hv ho).canon fun _ _ _ _ => trivial
theorem o_c : Rd D.z (b + 536) 0 (fun i _ => i < 8) (stores).c := Rd.cons (Q := fun _ _ => False) (by rw [v212 hv ho, pay3] <;> exact rfl) (fun _ h => h.elim) fun i j _ _ h => by omega
theorem o_q : Rd D.u (b + 512) 0 (fun i _ => i < 32) (stores).q := Rd.cons (Q := fun _ _ => False) (by rw [v216 hv ho, pay4] <;> exact rfl) (fun _ h => h.elim) fun i j _ _ h => by omega

theorem did : Did D b (stores).out :=
  Did.ofA (L := stores) (o_xo (hc := hc) (f0 := f0) (f1 := f1) hv ho) (o_p (hc := hc) (f0 := f0) (f1 := f1) hv ho) (o_y (hc := hc) (f0 := f0) (f1 := f1) hv ho) (o_c (hc := hc) (f0 := f0) (f1 := f1) hv ho) (o_q (hc := hc) (f0 := f0) (f1 := f1) hv ho)
    ((canon_whole _ _).trans ho.win) ((A.four ho.w0 ho.w1 ho.w2 ho.w3).canon fun _ _ _ _ => trivial)

end Step.Fwd.A
-- ==== Proof.FwdB.lean ====
module

public import proofs.«01_k».proof.Proof.FwdDat

@[expose] public section

set_option maxRecDepth 16384

noncomputable section

namespace Step.Fwd.B

open Idealize Idealize.ShloMosaic Step.Mix
open Cert.FwdKIdeal Cert.FwdKIdeal.Gen
open Step.Fwd (Fed Held Did In Out)
open Step.Fwd

variable {c : Dev nD} {i : grid0.Coords}
  {a1 : Memref sig .tc .vmem S512x1024 .f32} {h1 : a1.IsWhole}
  {a2 : Memref sig .tc .vmem S1x1024 .f32} {h2 : a2.IsWhole}
  {a5 : Memref sig .tc .vmem S3x512 .f32} {h5 : a5.IsWhole}
  {a6 : Memref sig .tc .vmem S4x128x128 .f32} {h6 : a6.IsWhole}
  {a7 : Memref sig .tc .vmem S1x512 .f32} {h7 : a7.IsWhole}
  {a8 : Memref sig .tc .vmem S512x1024 .f32} {h8 : a8.IsWhole}
  {a9 : Memref sig .tc .vmem S512x2048 .bf16} {h9 : a9.IsWhole}
  {a10 : Memref sig .tc .vmem S512x1024 .bf16} {h10 : a10.IsWhole}
  {a11 : Memref sig .tc .vmem S2048x1024 .bf16} {h11 : a11.IsWhole}
  {a12 : Memref sig .tc .vmem S1024x1024 .bf16} {h12 : a12.IsWhole}
  {a13 : Memref sig .tc .vmem S520x512 .f32} {h13 : a13.IsWhole}
  {a14 : Memref sig .tc .vmem S544x512 .f32} {h14 : a14.IsWhole}
  {a15 : Memref sig .tc .vmem S3x544x128 .f32} {h15 : a15.IsWhole}
variable {D : Dat} {T b : ℕ} {v : In Ideal} {o : Out Ideal}

section
variable (hv : Fed i D T b v)
include hv

theorem r_1 (ho : Held D b o) : runB.sl.r_1 a1 h1 a2 h2 a11 h11 v o = M32 (tile D.p (b + 32) 0) := by unfold runB.sl.r_1; rw [hv.l_x, hv.l_g, ho.l_win, pay8] <;> exact congrArg M (hv.part 0 (by decide))
theorem r_2 (ho : Held D b o) : runB.sl.r_2 a1 h1 a2 h2 a11 h11 v o = M32 (tile D.p (b + 32) 512) := by unfold runB.sl.r_2; rw [hv.l_x, hv.l_g, ho.l_win, pay9] <;> exact congrArg M (hv.part 512 (by decide))
theorem r_3 (ho : Held D b o) : runB.sl.r_3 a1 h1 a2 h2 a11 h11 v o = M32 (tile D.p (b + 32) 1024) := by unfold runB.sl.r_3; rw [hv.l_x, hv.l_g, ho.l_win, pay10] <;> exact congrArg M (hv.part 1024 (by decide))
theorem r_4 (ho : Held D b o) : runB.sl.r_4 a1 h1 a2 h2 a11 h11 v o = M32 (tile D.u (b + 32) 0) := by unfold runB.sl.r_4; rw [hv.l_x, hv.l_g, ho.l_win, pay11] <;> exact congrArg M (hv.part 1536 (by decide))
theorem r_5 (ho : Held D b o) : runB.sl.r_5 a1 h1 a2 h2 a11 h11 v o = M16 (tile D.p (b + 32) 1024) := by unfold runB.sl.r_5; rw [hv.l_x, hv.l_g, ho.l_win, pay14] <;> exact congrArg M (hv.part 1024 (by decide))
theorem ag_H13_1 (ho : Held D b o) : Ag D.z (b + 24) 0 (runB.sl.H13_1 a1 h1 a2 h2 a11 h11 v o) := Ag.cons (by rw [r_1 hv ho, r_3 hv ho, pay17] <;> exact rfl) Ag.nil
omit hv in
theorem cv_H13_1 : Cv (fun i _ => 8 ≤ i) (runB.sl.H13_1 a1 h1 a2 h2 a11 h11 v o) := Cv.cons (Q := fun _ _ => False) (Cv.nil fun _ _ _ _ h => h) fun i j _ _ h => by omega
theorem ag_H14_1 (ho : Held D b o) : Ag D.u b 0 (runB.sl.H14_1 a1 h1 a2 h2 a11 h11 v o) := Ag.cons (by rw [r_4 hv ho, pay19] <;> exact rfl) Ag.nil
omit hv in
theorem cv_H14_1 : Cv (fun i _ => 32 ≤ i) (runB.sl.H14_1 a1 h1 a2 h2 a11 h11 v o) := Cv.cons (Q := fun _ _ => False) (Cv.nil fun _ _ _ _ h => h) fun i j _ _ h => by omega
theorem v212 (ho : Held D b o) : runB.sl.v212 a1 h1 a2 h2 a11 h11 a13 v o = M32 (tile D.z (b + 536) 0) := rc_ag _ (ag_H13_1 hv ho) cv_H13_1 fun i j _ _ => by omega
theorem v63 (ho : Held D b o) : runB.sl.v63 a1 h1 a2 h2 a11 h11 a14 v o = M32 (tile D.u (b + 32) 0) := rc_ag _ (ag_H14_1 hv ho) cv_H14_1 fun i j _ _ => by omega
theorem r_8 (ho : Held D b o) : runB.sl.r_8 a1 h1 a2 h2 a11 h11 a14 h14 v o = M32 (tile D.u (b + 31) 0) := ho.l_q h14 (ag_H14_1 hv ho) cv_H14_1 fun i j _ _ => by omega
theorem v216 (ho : Held D b o) : runB.sl.v216 a1 h1 a2 h2 a11 h11 a14 v o = M32 (tile D.u (b + 512) 0) := rc_ag _ (ag_H14_1 hv ho) cv_H14_1 fun i j _ _ => by omega
theorem r_6 : runB.sl.r_6 i = k0_pay20 (BitVec.ofNat 32 T) := by unfold runB.sl.r_6; rw [hv.hi]
theorem r_7 (ho : Held D b o) : runB.sl.r_7 a1 h1 a2 h2 a11 h11 v o = M32 (tile D.u (b + 32) 0) := by unfold runB.sl.r_7; rw [r_4 hv ho, pay21] <;> exact rfl
theorem r_9 (ho : Held D b o) : runB.sl.r_9 a1 h1 a2 h2 a11 h11 v o = M32 (tile D.u (b + 32) 128) := by unfold runB.sl.r_9; rw [r_4 hv ho, pay23] <;> exact rfl
theorem r_11 (ho : Held D b o) : runB.sl.r_11 a1 h1 a2 h2 a11 h11 v o = M32 (tile D.u (b + 32) 256) := by unfold runB.sl.r_11; rw [r_4 hv ho, pay27] <;> exact rfl
theorem r_13 (ho : Held D b o) : runB.sl.r_13 a1 h1 a2 h2 a11 h11 v o = M32 (tile D.u (b + 32) 384) := by unfold runB.sl.r_13; rw [r_4 hv ho, pay32] <;> exact rfl
theorem tp_H15_1 (ho : Held D b o) : Tp (ts D.u 1) (b + 8) 128 0 8 536 (runB.sl.H15_1 a1 h1 a2 h2 a11 h11 a14 h14 v o) := ⟨_, _, _, rfl, by rw [ho.l_q h14 (ag_H14_1 hv ho) cv_H14_1, ho.l_q h14 (ag_H14_1 hv ho) cv_H14_1, pay24] <;> first | exact congrArg L1 (ts_tile D.u 0 (b + 7) 128) | exact fun i j _ _ => by omega⟩
theorem v93 (ho : Held D b o) : runB.sl.v93 a1 h1 a2 h2 a11 h11 a14 h14 a15 v o = L1 (tile (ts D.u 1) (b + 32) 128) := (tp_H15_1 hv ho).rc 24 _ (by decide)
theorem v95 (ho : Held D b o) : runB.sl.v95 a1 h1 a2 h2 a11 h11 a14 h14 a15 v o = L1 (tile (ts D.u 1) (b + 30) 128) := (tp_H15_1 hv ho).rc 22 _ (by decide)
theorem r_10 (ho : Held D b o) : runB.sl.r_10 a1 h1 a2 h2 a11 h11 a14 h14 a15 v o = M32 (tile (ts D.u 2) (b + 32) 128) := by unfold runB.sl.r_10; rw [v93 hv ho, v95 hv ho, pay25] <;> exact congrArg M (ts_tile D.u 1 (b + 30) 128)
theorem tp_H15_2 (ho : Held D b o) : Tp (ts D.u 1) (b + 8) 256 0 8 536 (runB.sl.H15_2 a1 h1 a2 h2 a11 h11 a14 h14 v o) := ⟨_, _, _, rfl, by rw [ho.l_q h14 (ag_H14_1 hv ho) cv_H14_1, ho.l_q h14 (ag_H14_1 hv ho) cv_H14_1, pay28] <;> first | exact congrArg L1 (ts_tile D.u 0 (b + 7) 256) | exact fun i j _ _ => by omega⟩
theorem v125 (ho : Held D b o) : runB.sl.v125 a1 h1 a2 h2 a11 h11 a14 h14 a15 v o = L1 (tile (ts D.u 1) (b + 16) 256) := (tp_H15_2 hv ho).rc 8 _ (by decide)
theorem v127 (ho : Held D b o) : runB.sl.v127 a1 h1 a2 h2 a11 h11 a14 h14 a15 v o = L1 (tile (ts D.u 1) (b + 14) 256) := (tp_H15_2 hv ho).rc 6 _ (by decide)
theorem r_12 (ho : Held D b o) : runB.sl.r_12 a1 h1 a2 h2 a11 h11 a14 h14 a15 v o = M32 (tile (ts D.u 2) (b + 16) 256) := by unfold runB.sl.r_12; rw [v125 hv ho, v127 hv ho, pay29] <;> exact congrArg M (ts_tile D.u 1 (b + 14) 256)
theorem tp_H15_3 (ho : Held D b o) : Tp (ts D.u 2) (b + 16) 256 1 16 528 (runB.sl.H15_3 a1 h1 a2 h2 a11 h11 a14 h14 a15 v o) := ⟨_, _, _, rfl, by rw [r_12 hv ho, pay30] <;> exact rfl⟩
theorem v133 (ho : Held D b o) : runB.sl.v133 a1 h1 a2 h2 a11 h11 a14 h14 a15 v o = L1 (tile (ts D.u 2) (b + 32) 256) := (tp_H15_3 hv ho).rc 16 _ (by decide)
theorem v135 (ho : Held D b o) : runB.sl.v135 a1 h1 a2 h2 a11 h11 a14 h14 a15 v o = L1 (tile (ts D.u 2) (b + 28) 256) := (tp_H15_3 hv ho).rc 12 _ (by decide)
theorem r_14 (ho : Held D b o) : runB.sl.r_14 a1 h1 a2 h2 a11 h11 a14 h14 v o = M32 (tile (ts D.u 1) (b + 8) 384) := by unfold runB.sl.r_14; rw [ho.l_q h14 (ag_H14_1 hv ho) cv_H14_1, ho.l_q h14 (ag_H14_1 hv ho) cv_H14_1, pay33] <;> first | exact congrArg M (ts_tile D.u 0 (b + 7) 384) | exact fun i j _ _ => by omega
theorem tp_H15_4 (ho : Held D b o) : Tp (ts D.u 1) (b + 8) 384 0 8 536 (runB.sl.H15_4 a1 h1 a2 h2 a11 h11 a14 h14 a15 v o) := ⟨_, _, _, rfl, by rw [r_14 hv ho, pay34] <;> exact rfl⟩
theorem v165 (ho : Held D b o) : runB.sl.v165 a1 h1 a2 h2 a11 h11 a14 h14 a15 v o = L1 (tile (ts D.u 1) (b + 16) 384) := (tp_H15_4 hv ho).rc 8 _ (by decide)
theorem v167 (ho : Held D b o) : runB.sl.v167 a1 h1 a2 h2 a11 h11 a14 h14 a15 v o = L1 (tile (ts D.u 1) (b + 14) 384) := (tp_H15_4 hv ho).rc 6 _ (by decide)
theorem tp_H15_5 (ho : Held D b o) : Tp (ts D.u 2) (b + 16) 384 1 16 528 (runB.sl.H15_5 a1 h1 a2 h2 a11 h11 a14 h14 a15 v o) := ⟨_, _, _, rfl, by rw [v165 hv ho, v167 hv ho, pay35] <;> exact congrArg L1 (ts_tile D.u 1 (b + 14) 384)⟩
theorem v173 (ho : Held D b o) : runB.sl.v173 a1 h1 a2 h2 a11 h11 a14 h14 a15 v o = L1 (tile (ts D.u 2) (b + 24) 384) := (tp_H15_5 hv ho).rc 8 _ (by decide)
theorem v175 (ho : Held D b o) : runB.sl.v175 a1 h1 a2 h2 a11 h11 a14 h14 a15 v o = L1 (tile (ts D.u 2) (b + 20) 384) := (tp_H15_5 hv ho).rc 4 _ (by decide)
theorem tp_H15_6 (ho : Held D b o) : Tp (ts D.u 3) (b + 24) 384 2 24 520 (runB.sl.H15_6 a1 h1 a2 h2 a11 h11 a14 h14 a15 v o) := ⟨_, _, _, rfl, by rw [v173 hv ho, v175 hv ho, pay36] <;> exact congrArg L1 (ts_tile D.u 2 (b + 20) 384)⟩
theorem v181 (ho : Held D b o) : runB.sl.v181 a1 h1 a2 h2 a11 h11 a14 h14 a15 v o = L1 (tile (ts D.u 3) (b + 32) 384) := (tp_H15_6 hv ho).rc 8 _ (by decide)
theorem v183 (ho : Held D b o) : runB.sl.v183 a1 h1 a2 h2 a11 h11 a14 h14 a15 v o = L1 (tile (ts D.u 3) (b + 24) 384) := (tp_H15_6 hv ho).rc 0 _ (by decide)
theorem r_15 (ho : Held D b o) : runB.sl.r_15 a1 h1 a2 h2 a11 h11 a14 h14 a15 v o = M32 (tile (ts D.u 4) (b + 32) 384) := by unfold runB.sl.r_15; rw [v181 hv ho, v183 hv ho, pay37] <;> exact congrArg M (ts_tile D.u 3 (b + 24) 384)
theorem r_16 : runB.sl.r_16 i = k0_pay38 (F := Ideal) (k0_pay20 (BitVec.ofNat 32 T)) := by unfold runB.sl.r_16; rw [r_6 hv]
/-- Both parts' outcome: the convolved columns and the four groups'. -/
theorem rd_H10_5 (ho : Held D b o) : Rd D.y (b + 32) 0 (fun _ _ => True) (runB.sl.H10_5 i a1 h1 a2 h2 a5 h5 a6 h6 a7 h7 a11 h11 a13 h13 a14 h14 a15 v o) :=
  Did.cols (by rw [r_13 hv ho, r_15 hv ho, r_16 hv, hv.l_w, hv.l_s] <;> exact hv.g3) (by rw [r_6 hv, r_11 hv ho, v133 hv ho, v135 hv ho, hv.l_w, hv.l_s] <;> exact hv.g2)
    (by rw [r_6 hv, r_9 hv ho, r_10 hv ho, hv.l_w, hv.l_s] <;> exact hv.g1) (by rw [r_6 hv, r_7 hv ho, v63 hv ho, r_8 hv ho, hv.l_w, hv.l_s] <;> exact hv.g0)
    (by rw [r_1 hv ho, r_2 hv ho, r_3 hv ho, hv.l_k, ho.l_c h13 (ag_H13_1 hv ho) cv_H13_1, ho.l_c h13 (ag_H13_1 hv ho) cv_H13_1] <;> first | exact hv.cv | exact fun i j _ _ => by omega)
theorem v206 (ho : Held D b o) : runB.sl.v206 i a1 h1 a2 h2 a5 h5 a6 h6 a7 h7 a10 a11 h11 a13 h13 a14 h14 a15 v o = M16 (tile D.y (b + 32) 0) := (rd_H10_5 hv ho).rc _ fun _ _ _ _ => trivial

end

variable {hc : ¬ cond0_0 i} {f0 : HbBuf0 (F := Ideal) c hbM0_0} {f1 : HbBuf0 (F := Ideal) c hbM0_1}

/-- The stores of a later grid step. -/
local notation "stores" => Subtype.val (runB (F := Ideal) c i a1 h1 a2 h2 a5 h5 a6 h6 a7 h7 a8 h8 a9 h9 a10 h10 a11 h11 a12 h12 a13 h13 a14 h14 a15 h15 hc v o f0 f1)

variable (hv : Fed i D T b v) (ho : Held D b o)
include hv ho
theorem o_xo : View.canon (stores).xo = M32 (tile D.xo (b + 32) 0) := (View.canon_unit_zero hz _ _).trans (by rw [show runB.sl.r a1 h1 v = _ from hv.l_x _, v206 hv ho, ho.l_wout] <;> exact hv.all)
theorem o_p : View.canon (stores).p = M16 (tile D.p (b + 32) 0) :=
  Did.proj (by rw [r_4 hv ho, pay15] <;> exact rfl) (r_5 hv ho) (by rw [hv.l_x, hv.l_g, ho.l_win, pay13] <;> exact congrArg M (hv.part 512 (by decide))) (by rw [hv.l_x, hv.l_g, ho.l_win, pay12] <;> exact congrArg M (hv.part 0 (by decide)))
theorem o_y : View.canon (stores).y = M16 (tile D.y (b + 32) 0) := (rd_H10_5 hv ho).canon fun _ _ _ _ => trivial
theorem o_c : Rd D.z (b + 536) 0 (fun i _ => i < 8) (stores).c := Rd.cons (Q := fun _ _ => False) (by rw [v212 hv ho, pay3] <;> exact rfl) (fun _ h => h.elim) fun i j _ _ h => by omega
theorem o_q : Rd D.u (b + 512) 0 (fun i _ => i < 32) (stores).q := Rd.cons (Q := fun _ _ => False) (by rw [v216 hv ho, pay4] <;> exact rfl) (fun _ h => h.elim) fun i j _ _ h => by omega

theorem did : Did D b { (stores).out with win := o.win, wout := o.wout } :=
  Did.ofB (L := stores) (o_xo (hc := hc) (f0 := f0) (f1 := f1) hv ho) (o_p (hc := hc) (f0 := f0) (f1 := f1) hv ho) (o_y (hc := hc) (f0 := f0) (f1 := f1) hv ho) (o_c (hc := hc) (f0 := f0) (f1 := f1) hv ho) (o_q (hc := hc) (f0 := f0) (f1 := f1) hv ho)
    ho.win ho.wout

end Step.Fwd.B
-- ==== Proof.FwdFrame.lean ====
module

public import Idealize.ShloMosaic.Lib.Claim
public import proofs.«01_k».proof.Proof.FwdStep

@[expose] public section

set_option maxRecDepth 16384

noncomputable section

namespace Step.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdKIdeal Cert.FwdKIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-- The scratch between two steps: the weights and the rows handed to the next tile, the rest anything. -/
def scratch (o : Out F) : sProp 𝕄 :=
  iprop(owns (c : Thread nD τ) scM0_0 fullShare o.win ∗ owns (c : Thread nD τ) scM0_1 fullShare o.wout ∗ owns (c : Thread nD τ) scM0_2 fullShare o.c ∗ owns (c : Thread nD τ) scM0_3 fullShare o.q ∗ any c scM0_4)

/-- The scratch before the first step. -/
def blank : sProp 𝕄 :=
  iprop(any (F := F) c scM0_0 ∗ any (F := F) c scM0_1 ∗ any (F := F) c scM0_2 ∗ any (F := F) c scM0_3 ∗ any (F := F) c scM0_4)

theorem scratch_blank (o : Out F) : scratch c o ⊢ blank (F := F) c := by
  unfold scratch blank any
  iintro ⟨H11, H12, H13, H14, H15⟩
  isplitl [H11]; · iexists _; iexact H11
  isplitl [H12]; · iexists _; iexact H12
  isplitl [H13]; · iexists _; iexact H13
  isplitl [H14]; · iexists _; iexact H14
  iexact H15

/-- The launch's invariant, in the words of the steps. -/
theorem launch_eq : (Pipeline.ΦD osem0 spec0 H0 (V m) c : sProp 𝕄)
    = iprop(blank c ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
      ∗ iprop(hbPt0 c hbM0_0 (V m c main_v1) ∗ hbPt0 c hbM0_1 (V m c main_v5))) := by
  rw [PhiD0_eq]; rfl

/-- Between the steps: before the first one the launch's invariant, then the scratch as the step before left it. -/
def between : (n : ℕ) → n ≤ cfg0.N → sProp 𝕄
  | 0, _ => Pipeline.ΦD osem0 spec0 H0 (V m) c
  | n + 1, h => iprop(scratch c (outAt m c n h) ∗ (∃ r, prngReg c r) ∗ lent c (V m c main_v1) (V m c main_v5))

theorem between_later (n : ℕ) (h : n ≤ cfg0.N) (hz : n ≠ 0) : between m c n h
    = iprop(scratch c (outAt m c (n - 1) (by omega)) ∗ (∃ r, prngReg c r) ∗ lent c (V m c main_v1) (V m c main_v5)) := by
  cases n with
  | zero => exact absurd rfl hz
  | succ n => rfl

/-- What every buffer of the pipeline holds after each step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t.val t.isLt).xo
    | ⟨6, _⟩ => (outAt m c t.val t.isLt).p
    | ⟨7, _⟩ => (outAt m c t.val t.isLt).y
    | ⟨_ + 8, h⟩ => absurd h (Nat.not_lt.2 (Nat.le_add_left _ _))
  Φ t := between m c t.val (Nat.le_of_lt_succ t.isLt)
  q _ := fullShare
  owed _ := 0

theorem A_eq (w : Fin cfg0.W) : (dats m 0 c).A w = V m c (Pipeline.arrRef spec0 w) := by dsimp only [dats]

theorem after_xo : (dats m 0 c).after 5 t = (outAt m c t.val t.isLt).xo := by dsimp only [dats]
theorem after_p : (dats m 0 c).after 6 t = (outAt m c t.val t.isLt).p := by dsimp only [dats]
theorem after_y : (dats m 0 c).after 7 t = (outAt m c t.val t.isLt).y := by dsimp only [dats]

/-- The buffers that a step finds at its point. -/
def found : sProp 𝕄 :=
  iprop((∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))

/-- The buffers that it leaves there. -/
def handed : sProp 𝕄 :=
  iprop(owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))

theorem handed_of : iprop(reads c (ms0_0 t) (ms0_1 t) (ms0_2 t) (ms0_3 t) (ms0_4 t) (inAt m c t) ∗ keeps c t (outAt m c t.val t.isLt)) ⊢ iprop(handed m c t ∗ scratch c (outAt m c t.val t.isLt)) := by
  unfold reads keeps handed scratch inAt
  iintro ⟨⟨H1, H2, H5, H6, H7⟩, H8, H9, H10, H11, H12, H13, H14, H15⟩
  isplitl [H1 H2 H5 H6 H7 H8 H9 H10]
  · isplitl [H1]; · iexact H1
    isplitl [H2]; · iexact H2
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [H14]; · iexact H14
  iexact H15

theorem found_first : iprop(found m c t ∗ blank c) ⊢ iprop(reads c (ms0_0 t) (ms0_1 t) (ms0_2 t) (ms0_3 t) (ms0_4 t) (inAt m c t) ∗ free c (ms0_5 t) (ms0_6 t) (ms0_7 t) scM0_0 scM0_1 scM0_2 scM0_3 scM0_4) := by
  unfold found reads free blank inAt
  simp only [before0_0_of m (dats m 0 c) (A_eq m c 0) (fun t => by dsimp only [dats]), before0_1_of m (dats m 0 c) (A_eq m c 1) (fun t => by dsimp only [dats]), before0_2_of m (dats m 0 c) (A_eq m c 2) (fun t => by dsimp only [dats]), before0_3_of m (dats m 0 c) (A_eq m c 3) (fun t => by dsimp only [dats]), before0_4_of m (dats m 0 c) (A_eq m c 4) (fun t => by dsimp only [dats])]
  unfold any
  iintro ⟨⟨⟨%d1, H1⟩, ⟨%d2, H2⟩, ⟨%d5, H5⟩, ⟨%d6, H6⟩, ⟨%d7, H7⟩, ⟨%d8, H8⟩, ⟨%d9, H9⟩, ⟨%d10, H10⟩⟩, H11, H12, H13, H14, H15⟩
  isplitl [H1 H2 H5 H6 H7]
  · isplitl [H1]; · iexact H1
    isplitl [H2]; · iexact H2
    isplitl [H5]; · iexact H5
    isplitl [H6]; · iexact H6
    iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [H14]; · iexact H14
  iexact H15

theorem found_later : iprop(found m c t ∗ scratch c (outAt m c (t.val - 1) (Nat.lt_of_le_of_lt (Nat.sub_le _ _) t.isLt))) ⊢ iprop(reads c (ms0_0 t) (ms0_1 t) (ms0_2 t) (ms0_3 t) (ms0_4 t) (inAt m c t) ∗ left c (ms0_5 t) (ms0_6 t) (ms0_7 t) scM0_0 scM0_1 scM0_2 scM0_3 scM0_4 (outAt m c (t.val - 1) (Nat.lt_of_le_of_lt (Nat.sub_le _ _) t.isLt))) := by
  unfold found reads left scratch inAt
  simp only [before0_0_of m (dats m 0 c) (A_eq m c 0) (fun t => by dsimp only [dats]), before0_1_of m (dats m 0 c) (A_eq m c 1) (fun t => by dsimp only [dats]), before0_2_of m (dats m 0 c) (A_eq m c 2) (fun t => by dsimp only [dats]), before0_3_of m (dats m 0 c) (A_eq m c 3) (fun t => by dsimp only [dats]), before0_4_of m (dats m 0 c) (A_eq m c 4) (fun t => by dsimp only [dats])]
  unfold any
  iintro ⟨⟨⟨%d1, H1⟩, ⟨%d2, H2⟩, ⟨%d5, H5⟩, ⟨%d6, H6⟩, ⟨%d7, H7⟩, ⟨%d8, H8⟩, ⟨%d9, H9⟩, ⟨%d10, H10⟩⟩, H11, H12, H13, H14, H15⟩
  isplitl [H1 H2 H5 H6 H7]
  · isplitl [H1]; · iexact H1
    isplitl [H2]; · iexact H2
    isplitl [H5]; · iexact H5
    isplitl [H6]; · iexact H6
    iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [H14]; · iexact H14
  iexact H15

/-- A step at any point, from what the pipeline hands it to what it takes back. -/
theorem step : iprop((dats m 0 c).Φ t.castSucc ∗ (dats m 0 c).owesAt () t.castSucc ∗ found m c t)
    ⊢ wp frame (wpE (defs₀ (F := F)) Variants.none c none) Set.univ (bodyAt0 t)
      (fun _ => iprop((dats m 0 c).Φ t.succ ∗ (dats m 0 c).owesAt () t.succ ∗ handed m c t)) := by
  unfold Dat.owesAt Pipeline.owesWithin
  rw [show (dats m 0 c).owed t.castSucc = 0 from rfl, show (dats m 0 c).owed t.succ = 0 from rfl,
    show (dats m 0 c).Φ t.castSucc = between m c t.val (Nat.le_of_lt t.isLt) from by dsimp only [dats]; exact Dat.Φ_castSucc (between m c) t,
    show (dats m 0 c).Φ t.succ = iprop(scratch c (outAt m c t.val t.isLt) ∗ (∃ r, prngReg c r) ∗ lent c (V m c main_v1) (V m c main_v5)) from rfl]
  by_cases h : t.val = 0
  · rw [show between m c t.val (Nat.le_of_lt t.isLt) = Pipeline.ΦD osem0 spec0 H0 (V m) c from by
      obtain ⟨n, hn⟩ := t; obtain rfl : n = 0 := h; rfl, launch_eq]
    iintro ⟨⟨Hs, Hg, ⟨Hq0, Hq1, Hq2, Hq3, Hq4⟩, Hh0, Hh1⟩, ⟨%W, -, HW⟩, Hf⟩
    iapply (step_first m c t h W _)
    ihave Hx := (found_first m c t) $$ [Hf Hs]
    · isplitl [Hf]; · iexact Hf
      iexact Hs
    icases Hx with ⟨Hr, Hf⟩
    isplitl [Hr]; · iexact Hr
    isplitl [Hf]; · iexact Hf
    isplitl [Hq0 Hq1 Hq2 Hq3 Hq4 Hh0 Hh1]
    · unfold lent
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexact Hh1
    isplitl [HW]; · iexact HW
    iintro ⟨Hr, Hf, Hl, ⟨%W', HW⟩⟩
    ihave Hx := (handed_of m c t) $$ [Hr Hf]
    · isplitl [Hr]; · iexact Hr
      iexact Hf
    icases Hx with ⟨Hr, Hs⟩
    isplitl [Hs Hg Hl]
    · isplitl [Hs]; · iexact Hs
      isplitl [Hg]; · iexact Hg
      iexact Hl
    isplitl [HW]
    · iexists W'; isplitr; · ipureintro; exact fun _ _ => Or.inl trivial
      iexact HW
    iexact Hr
  · rw [between_later m c _ _ h]
    iintro ⟨⟨Hs, Hg, Hl⟩, ⟨%W, -, HW⟩, Hf⟩
    iapply (step_later m c t h W _)
    ihave Hx := (found_later m c t) $$ [Hf Hs]
    · isplitl [Hf]; · iexact Hf
      iexact Hs
    icases Hx with ⟨Hr, Hf⟩
    isplitl [Hr]; · iexact Hr
    isplitl [Hf]; · iexact Hf
    isplitl [Hl]; · iexact Hl
    isplitl [HW]; · iexact HW
    iintro ⟨Hr, Hf, Hl, ⟨%W', HW⟩⟩
    ihave Hx := (handed_of m c t) $$ [Hr Hf]
    · isplitl [Hr]; · iexact Hr
      iexact Hf
    icases Hx with ⟨Hr, Hs⟩
    isplitl [Hs Hg Hl]
    · isplitl [Hs]; · iexact Hs
      isplitl [Hg]; · iexact Hg
      iexact Hl
    isplitl [HW]
    · iexists W'; isplitr; · ipureintro; exact fun _ _ => Or.inl trivial
      iexact HW
    iexact Hr

/-- What the pipeline asks of the body. -/
theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (step m c t) rfl .rfl fun _ => .rfl

theorem enter : Pipeline.ΦD osem0 spec0 H0 (V m) c ⊢ (dats m 0 c).Φ 0 := .rfl

theorem leave : (dats m 0 c).Φ (Fin.last cfg0.N) ⊢ Pipeline.ΦD osem0 spec0 H0 (V m) c := by
  rw [show (dats m 0 c).Φ (Fin.last cfg0.N) = between m c (Fin.last cfg0.N).val (Nat.le_of_lt_succ (Fin.last cfg0.N).isLt) from rfl,
    between_later m c _ _ (by rw [Fin.val_last, show cfg0.N = 8 from N_0]; decide), launch_eq]
  unfold lent
  iintro ⟨Hs, Hg, Hq0, Hq1, Hq2, Hq3, Hq4, Hh0, Hh1⟩
  isplitl [Hs]; · iapply (scratch_blank c _); iexact Hs
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
/-- Every run of the program ends with each result's array as the steps left it, everything else as it was, and every counter at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c w => (dats m 0 c).share_full (fun _ => rfl) w) (howed := fun _ _ => rfl) (V := V m) (hmain := hmain m Variants.none)
    (hA := fun c w => A_eq m c w) (hin := fun c => enter m c) (hout := fun c => leave m c)

/-- Every run ends, with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (fun c w => A_eq m c w) ((θ_run defs _ _).mono (fun _ h => h.1) (run m ρ)))
    ((θ_run defs _ _).mono (fun _ h => h.2) (run m ρ))

end Step.Fwd
-- ==== Proof.FwdArr.lean ====
module

public import proofs.«01_k».proof.Proof.FwdA
public import proofs.«01_k».proof.Proof.FwdB
public import proofs.«01_k».proof.Proof.FwdFrame

@[expose] public section

set_option maxRecDepth 16384

noncomputable section

namespace Step.Fwd

open Idealize Idealize.ShloMosaic Idealize.ShloMosaic.TcCoe Idealize.SL.Sem Step.Mix
open Cert.FwdKIdeal Cert.FwdKIdeal.Gen

variable (m : (ℓ : Loc nD τ sig) → Buf (Elt Ideal) ℓ) (c : Dev nD) (D : Dat)

/-- What the kernel is launched on. -/
structure Launched : Prop where
  zero : ∀ r c, r < 32 → D.p r c = 0
  prj : ∀ b, b < 4096 → ∀ c : Fin 2048, ∑ l : Fin 1024, D.oh (b + 32) l * D.win c l = D.p (b + 32) c
  x : V m c main_arg0 = M32 (tile D.x 32 0)
  g : V m c main_arg1 = M32 (tile D.g 0 0)
  k : V m c main_arg3 = M32 (tile D.k 0 0)
  w : V m c main_arg4 = T3 (fun s => tile (D.w s) 0 0)
  s : V m c main_arg5 = M32 (tile D.s 0 0)
  win : V m c main_v1 = M16 (tile D.win 0 0)
  wout : V m c main_v5 = M16 (tile (quarters D.wout) 0 0)

section arr
variable {m c D} (H : Launched m c D)

theorem idx (t : Fin cfg0.N) : win0_0.index t 0 = t.val ∧ win0_0.index t 1 = 0 ∧ win0_5.index t 0 = t.val ∧ win0_5.index t 1 = 0 ∧ win0_6.index t 0 = t.val ∧ win0_6.index t 1 = 0 ∧ win0_7.index t 0 = t.val ∧ win0_7.index t 1 = 0 :=
  (by decide +kernel : ∀ t : Fin grid0.N, win0_0.index t 0 = t.val ∧ win0_0.index t 1 = 0 ∧ win0_5.index t 0 = t.val ∧ win0_5.index t 1 = 0 ∧ win0_6.index t 0 = t.val ∧ win0_6.index t 1 = 0 ∧ win0_7.index t 0 = t.val ∧ win0_7.index t 1 = 0) t

theorem idxw (t : Fin cfg0.N) : win0_1.index t = 0 ∧ win0_2.index t = 0 ∧ win0_3.index t = 0 ∧ win0_4.index t = 0 :=
  (by decide +kernel : ∀ t : Fin grid0.N, win0_1.index t = 0 ∧ win0_2.index t = 0 ∧ win0_3.index t = 0 ∧ win0_4.index t = 0) t

theorem coord (t : Fin cfg0.N) : (grid0.coords t 0).val = t.val :=
  (by decide +kernel : ∀ t : Fin grid0.N, (grid0.coords t 0).val = t.val) t

theorem lt8 (t : Fin cfg0.N) : t.val < 8 := by have h : cfg0.N = 8 := N_0; have := t.isLt; omega

include H in
theorem blk_x (t : Fin cfg0.N) : (iblk m c 0 t : Vec Ideal S512x1024 .f32) = M32 (tile D.x (512 * t.val + 32) 0) := by
  funext j; unfold iblk; rw [View.read_apply]
  show V m c main_arg0 _ = _
  rw [H.x]
  refine M_tile ?_ ?_
  · show win0_0.index t 0 * 512 + 1 * (j 0).val + 32 = _; rw [(idx t).1]; omega
  · show win0_0.index t 1 * 1024 + 1 * (j 1).val + 0 = _; rw [(idx t).2.1]; omega
include H in
theorem blk_g (t : Fin cfg0.N) : (iblk m c 1 t : Vec Ideal S1x1024 .f32) = M32 (tile D.g (0) 0) := by
  funext j; unfold iblk; rw [View.read_apply]
  show V m c main_arg1 _ = _
  rw [H.g]
  refine M_tile ?_ ?_
  · show win0_1.index t 0 * 1 + 1 * (j 0).val + 0 = _; rw [(idxw t).1]; show 0 * 1 + _ + 0 = _; omega
  · show win0_1.index t 1 * 1024 + 1 * (j 1).val + 0 = _; rw [(idxw t).1]; show 0 * 1024 + _ + 0 = _; omega
include H in
theorem blk_k (t : Fin cfg0.N) : (iblk m c 2 t : Vec Ideal S3x512 .f32) = M32 (tile D.k (0) 0) := by
  funext j; unfold iblk; rw [View.read_apply]
  show V m c main_arg3 _ = _
  rw [H.k]
  refine M_tile ?_ ?_
  · show win0_2.index t 0 * 3 + 1 * (j 0).val + 0 = _; rw [(idxw t).2.1]; show 0 * 3 + _ + 0 = _; omega
  · show win0_2.index t 1 * 512 + 1 * (j 1).val + 0 = _; rw [(idxw t).2.1]; show 0 * 512 + _ + 0 = _; omega
include H in
theorem blk_w (t : Fin cfg0.N) : (iblk m c 3 t : Vec Ideal S4x128x128 .f32) = T3 (fun s => tile (D.w s) 0 0) := by
  funext j; unfold iblk; rw [View.read_apply]
  show V m c main_arg4 _ = _
  rw [H.w]
  refine congrArg _ (funext fun a => Fin.ext ?_)
  show win0_3.index t a * win0_3.block.size a + 1 * (j a).val = (j a).val
  rw [(idxw t).2.2.1]; show 0 * _ + _ = _; omega
include H in
theorem blk_s (t : Fin cfg0.N) : (iblk m c 4 t : Vec Ideal S1x512 .f32) = M32 (tile D.s (0) 0) := by
  funext j; unfold iblk; rw [View.read_apply]
  show V m c main_arg5 _ = _
  rw [H.s]
  refine M_tile ?_ ?_
  · show win0_4.index t 0 * 1 + 1 * (j 0).val + 0 = _; rw [(idxw t).2.2.2]; show 0 * 1 + _ + 0 = _; omega
  · show win0_4.index t 1 * 512 + 1 * (j 1).val + 0 = _; rw [(idxw t).2.2.2]; show 0 * 512 + _ + 0 = _; omega

include H in
/-- Each grid step is given its tile. -/
theorem fed (t : Fin cfg0.N) : Fed (grid0.coords t) D t.val (512 * t.val) (inAt m c t) where
  hT := lt8 t
  hb := rfl
  hi := coord t
  zero := H.zero
  prj := by
    funext r l
    have := lt8 t
    have := r.isLt
    exact (H.prj (r.val + 512 * t.val) (by omega) l)
  x := blk_x H t
  g := blk_g H t
  k := blk_k H t
  w := blk_w H t
  s := blk_s H t

/-- A copy of one quarter of the padded weight. -/
theorem quarter {A : ℕ → ℕ → ℝ} (k : ℕ) (X : Vec Ideal S1152x1024 .bf16) (hX : X = M16 (tile (quarters A) 0 0)) (e : S256x1024.Idx → S1152x1024.Idx)
    (h0 : ∀ j, (e j 0).val = 288 * k + 1 * (j 0).val) (h1 : ∀ j, (e j 1).val = 0 + 1 * (j 1).val) : (fun j => X (e j)) = (M16 (tile A (256 * k) 0) : Vec Ideal S256x1024 .bf16) := by
  subst hX
  funext j
  have hj : (j 0 : ℕ) < 256 := (j 0).isLt
  show ((quarters A ((e j 0).val + 0) ((e j 1).val + 0) : ℝ) : EReal) = ((A ((j 0).val + 256 * k) ((j 1).val + 0) : ℝ) : EReal)
  rw [h0, h1]; unfold quarters; rw [if_pos (by omega)]; congr 2 <;> omega

include H in
/-- The first grid step copies the weights in. -/
theorem start : A.Start c D 0 (V m c main_v1) (V m c main_v5) where
  first := rfl
  win := H.win
  w0 := quarter 0 _ H.wout _ (fun _ => rfl) fun _ => rfl
  w1 := quarter 1 _ H.wout _ (fun _ => rfl) fun _ => rfl
  w2 := quarter 2 _ H.wout _ (fun _ => rfl) fun _ => rfl
  w3 := quarter 3 _ H.wout _ (fun _ => rfl) fun _ => rfl

include H in
/-- What every grid step leaves. -/
theorem outs : ∀ (n : ℕ) (h : n < cfg0.N), Did D (512 * n) (outAt m c n h)
  | 0, h => A.did (hc := first_cond 0 h rfl) (fed H ⟨0, h⟩) (start H)
  | n + 1, h => B.did (hc := later_cond (n + 1) h (Nat.succ_ne_zero n)) (f0 := V m c main_v1) (f1 := V m c main_v5) (fed H ⟨n + 1, h⟩) (outs n (Nat.lt_of_succ_lt h)).held

/-- The grid step that takes the tile of a row. -/
def tileOf (i : ℕ) (h : i < 4096) : Fin cfg0.N := ⟨i / 512, by have h : cfg0.N = 8 := N_0; omega⟩
theorem in_tile {i x : ℕ} {h : i < 4096} (e : x = (tileOf i h).val) : x * 512 ≤ i ∧ i < x * 512 + 512 := by subst e; show i / 512 * 512 ≤ i ∧ i < i / 512 * 512 + 512; omega

include H in
/-- The rows with what the mixer adds. -/
theorem final5 : (dats m 0 c).arrAt 5 cfg0.N = M32 (tile D.xo 32 0) :=
  (dats m 0 c).arrAt_eq_of_cover 5 (M32 (tile D.xo 32 0)) (fun t _ => by
    show (cfg0.win 5).cut (grid0.coords t) ((dats m 0 c).after 5 t) = _
    rw [after_xo, (outs H t.val t.isLt).xo]
    funext j
    refine M_tile ?_ ?_
    · show _ = win0_5.index t 0 * 512 + 1 * (j 0).val + 32
      rw [(idx _).2.2.1]; show (j 0).val + _ = _; omega
    · show _ = win0_5.index t 1 * 1024 + 1 * (j 1).val + 0
      rw [(idx _).2.2.2.1]; show (j 1).val + _ = _; omega) fun i => by
    have h0 : (i 0 : Nat) < 4096 := (i 0).isLt
    refine ⟨tileOf (i 0).val h0, flush0_5 _, ?_⟩
    show i ∈ ((View.whole main_v6_0).slice (win0_5.rect (tileOf (i 0).val h0))).set
    rw [View.set_slice_whole, Rect.mem_set_unit]
    intro a
    match a with
    | ⟨0, _⟩ => exact in_tile ((idx _).2.2.1 : win0_5.index (tileOf (i 0).val h0) 0 = _)
    | ⟨1, _⟩ => exact in_all ((idx _).2.2.2.1 : win0_5.index (tileOf (i 0).val h0) 1 = _) (i 1).isLt

include H in
/-- The projection. -/
theorem final6 : (dats m 0 c).arrAt 6 cfg0.N = M16 (tile D.p 32 0) :=
  (dats m 0 c).arrAt_eq_of_cover 6 (M16 (tile D.p 32 0)) (fun t _ => by
    show (cfg0.win 6).cut (grid0.coords t) ((dats m 0 c).after 6 t) = _
    rw [after_p, (outs H t.val t.isLt).p]
    funext j
    refine M_tile ?_ ?_
    · show _ = win0_6.index t 0 * 512 + 1 * (j 0).val + 32
      rw [(idx _).2.2.2.2.1]; show (j 0).val + _ = _; omega
    · show _ = win0_6.index t 1 * 2048 + 1 * (j 1).val + 0
      rw [(idx _).2.2.2.2.2.1]; show (j 1).val + _ = _; omega) fun i => by
    have h0 : (i 0 : Nat) < 4096 := (i 0).isLt
    refine ⟨tileOf (i 0).val h0, flush0_6 _, ?_⟩
    show i ∈ ((View.whole main_v6_1).slice (win0_6.rect (tileOf (i 0).val h0))).set
    rw [View.set_slice_whole, Rect.mem_set_unit]
    intro a
    match a with
    | ⟨0, _⟩ => exact in_tile ((idx _).2.2.2.2.1 : win0_6.index (tileOf (i 0).val h0) 0 = _)
    | ⟨1, _⟩ => exact in_all ((idx _).2.2.2.2.2.1 : win0_6.index (tileOf (i 0).val h0) 1 = _) (i 1).isLt

include H in
/-- Both parts side by side. -/
theorem final7 : (dats m 0 c).arrAt 7 cfg0.N = M16 (tile D.y 32 0) :=
  (dats m 0 c).arrAt_eq_of_cover 7 (M16 (tile D.y 32 0)) (fun t _ => by
    show (cfg0.win 7).cut (grid0.coords t) ((dats m 0 c).after 7 t) = _
    rw [after_y, (outs H t.val t.isLt).y]
    funext j
    refine M_tile ?_ ?_
    · show _ = win0_7.index t 0 * 512 + 1 * (j 0).val + 32
      rw [(idx _).2.2.2.2.2.2.1]; show (j 0).val + _ = _; omega
    · show _ = win0_7.index t 1 * 1024 + 1 * (j 1).val + 0
      rw [(idx _).2.2.2.2.2.2.2]; show (j 1).val + _ = _; omega) fun i => by
    have h0 : (i 0 : Nat) < 4096 := (i 0).isLt
    refine ⟨tileOf (i 0).val h0, flush0_7 _, ?_⟩
    show i ∈ ((View.whole main_v6_2).slice (win0_7.rect (tileOf (i 0).val h0))).set
    rw [View.set_slice_whole, Rect.mem_set_unit]
    intro a
    match a with
    | ⟨0, _⟩ => exact in_tile ((idx _).2.2.2.2.2.2.1 : win0_7.index (tileOf (i 0).val h0) 0 = _)
    | ⟨1, _⟩ => exact in_all ((idx _).2.2.2.2.2.2.2 : win0_7.index (tileOf (i 0).val h0) 1 = _) (i 1).isLt

end arr

end Step.Fwd
-- ==== Proof.FwdIn.lean ====
module

public import proofs.«01_k».proof.Proof.MixIn
public import proofs.«01_k».proof.Proof.FwdArr

@[expose] public section

set_option maxRecDepth 16384

noncomputable section

namespace Step.Fwd

open Idealize Idealize.ShloMosaic Idealize.ShloMosaic.TcCoe Idealize.SL.Sem Step.Mix
open Cert.FwdKIdeal Cert.FwdKIdeal.Gen

variable {X : Fin 4096 → Fin 1024 → ℝ} {N : Fin 1 → Fin 1024 → ℝ} {P : Fin 1024 → Fin 2048 → ℝ} {T : Fin 3 → Fin 512 → ℝ} {W : Fin 4 → Fin 128 → Fin 128 → ℝ}
  {S : Fin 1 → Fin 512 → ℝ} {O : Fin 1024 → Fin 1024 → ℝ}

/-- What both programs compute on, from their arguments; no gradient comes in. -/
abbrev dat0 (X : Fin 4096 → Fin 1024 → ℝ) (N : Fin 1 → Fin 1024 → ℝ) (P : Fin 1024 → Fin 2048 → ℝ) (T : Fin 3 → Fin 512 → ℝ) (W : Fin 4 → Fin 128 → Fin 128 → ℝ)
  (S : Fin 1 → Fin 512 → ℝ) (O : Fin 1024 → Fin 1024 → ℝ) : Dat := dat X N P T W S O fun _ _ => 0

variable (m : (ℓ : Loc nD τ sig) → Buf (Elt Ideal) ℓ) (c : Dev nD)

theorem in1 (h : m (c, Proc.tc.devRef main_arg2) = M32 P) : V m c main_v1 = M16 (fun j i => P i j) := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp
  rw [h, tr_M]; rfl
theorem in5 (h : m (c, Proc.tc.devRef main_arg6) = M32 O) : V m c main_v5 = M16 (tile (quarters (ext 0 O)) 0 0) := by
  simp only [V, hostOps0, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp
  rw [h, truncf_M]
  exact parts O int_zero _ _ _ _

/-- What the kernel is launched on. -/
theorem launched (h0 : m ((c.tc : Thread nD τ).loc main_arg0) = M32 X) (h1 : m ((c.tc : Thread nD τ).loc main_arg1) = M32 N) (h2 : m ((c.tc : Thread nD τ).loc main_arg2) = M32 P)
    (h3 : m ((c.tc : Thread nD τ).loc main_arg3) = M32 T) (h4 : m ((c.tc : Thread nD τ).loc main_arg4) = T3 W) (h5 : m ((c.tc : Thread nD τ).loc main_arg5) = M32 S) (h6 : m ((c.tc : Thread nD τ).loc main_arg6) = M32 O) :
    Launched m c (dat0 X N P T W S O) where
  zero := ext_before 32 _
  prj b hb l := congrFun (congrFun (dat_p X N P T W S O fun _ _ => 0) ⟨b, hb⟩) l
  x := ((V_main_arg0 m c).trans h0).trans (congrArg M32 (tile_ext 32 X).symm)
  g := ((V_main_arg1 m c).trans h1).trans (congrArg M32 (tile_ext 0 N).symm)
  k := ((V_main_arg3 m c).trans h3).trans (congrArg M32 (tile_ext 0 T).symm)
  w := ((V_main_arg4 m c).trans h4).trans (congrArg T3 (dat_w X N P T W S O _).symm)
  s := ((V_main_arg5 m c).trans h5).trans (congrArg M32 (tile_ext 0 S).symm)
  win := (in1 m c h2).trans (congrArg M16 (tile_ext 0 _).symm)
  wout := in5 m c h6

end Step.Fwd
-- ==== Proof.FwdRef.lean ====
module

public import proofs.«01_k».proof.Proof.FwdIn
public import proofs.«01_k».proof.Proof.Gen.FwdRIdeal.Run

@[expose] public section

set_option maxRecDepth 16384

noncomputable section

namespace Step.Fwd

open Idealize Idealize.ShloMosaic Idealize.ShloMosaic.TcCoe Idealize.SL.Sem Step.Mix
open Cert.FwdRIdeal Cert.FwdRIdeal.Gen Cert.FwdRIdeal.Value

/-- The contents of the backward pass's reference. -/
abbrev Back := Valuation Cert.MixRIdeal.τ Cert.MixRIdeal.sig (Elt Ideal)
/-- A buffer of the backward pass's reference. -/
abbrev bk (r : Ref Cert.MixRIdeal.sig .tc) : DevRef Cert.MixRIdeal.τ Cert.MixRIdeal.sig := Proc.devRef .tc r

/-- Memory in which the backward pass's reference has the forward pass's arguments and no gradient coming in. -/
theorem filled (a0 : FVec Ideal S4096x1024 .f32) (a1 : FVec Ideal S1x1024 .f32) (a2 : FVec Ideal S1024x2048 .f32) (a3 : FVec Ideal S3x512 .f32) (a4 : FVec Ideal S4x128x128 .f32)
    (a5 : FVec Ideal S1x512 .f32) (a6 : FVec Ideal S1024x1024 .f32) (a7 : FVec Ideal S4096x1024 .f32) :
    ∃ v : Back, v (bk Cert.MixRIdeal.main_arg0) = a0 ∧ v (bk Cert.MixRIdeal.main_arg1) = a1 ∧ v (bk Cert.MixRIdeal.main_arg2) = a2 ∧ v (bk Cert.MixRIdeal.main_arg3) = a3
      ∧ v (bk Cert.MixRIdeal.main_arg4) = a4 ∧ v (bk Cert.MixRIdeal.main_arg5) = a5 ∧ v (bk Cert.MixRIdeal.main_arg6) = a6 ∧ v (bk Cert.MixRIdeal.main_arg7) = a7 := by
  classical
  refine ⟨Function.update (Function.update (Function.update (Function.update (Function.update (Function.update (Function.update (Function.update (fun _ _ => default)
    (bk Cert.MixRIdeal.main_arg7) a7) (bk Cert.MixRIdeal.main_arg6) a6) (bk Cert.MixRIdeal.main_arg5) a5) (bk Cert.MixRIdeal.main_arg4) a4)
    (bk Cert.MixRIdeal.main_arg3) a3) (bk Cert.MixRIdeal.main_arg2) a2) (bk Cert.MixRIdeal.main_arg1) a1) (bk Cert.MixRIdeal.main_arg0) a0, ?_⟩
  refine ⟨?_, ?_, ?_, ?_, ?_, ?_, ?_, ?_⟩ <;> (repeat rw [Function.update_of_ne (by decide)]) <;> rw [Function.update_self]

variable (m : (ℓ : Loc nD τ sig) → Buf (Elt Ideal) ℓ) (c : Dev nD)

/-- The projection, as the reference writes it. -/
def proj : FVec Ideal S4096x2048 .f32 :=
  Host.dotGeneral (φ₁ := .f32) (φ₂ := .f32) dot_S4096x1024_S1024x2048_S4096x2048_1_0_0_1_n_n none (mulf (mulf (m ((c.tc : Thread nD τ).loc main_arg0)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (m ((c.tc : Thread nD τ).loc main_arg1)) shapeCasts_S1x1024_S1024)))) (m ((c.tc : Thread nD τ).loc main_arg2))

variable {m c} {v : Back} {D : Dat} (H : Given v D)

/-- The forward pass has the backward pass's arguments. -/
structure Same (m : (ℓ : Loc nD τ sig) → Buf (Elt Ideal) ℓ) (c : Dev nD) (v : Back) : Prop where
  x : m ((c.tc : Thread nD τ).loc main_arg0) = v (bk Cert.MixRIdeal.main_arg0)
  g : m ((c.tc : Thread nD τ).loc main_arg1) = v (bk Cert.MixRIdeal.main_arg1)
  win : m ((c.tc : Thread nD τ).loc main_arg2) = v (bk Cert.MixRIdeal.main_arg2)
  k : m ((c.tc : Thread nD τ).loc main_arg3) = v (bk Cert.MixRIdeal.main_arg3)
  w : m ((c.tc : Thread nD τ).loc main_arg4) = v (bk Cert.MixRIdeal.main_arg4)
  s : m ((c.tc : Thread nD τ).loc main_arg5) = v (bk Cert.MixRIdeal.main_arg5)
  wout : m ((c.tc : Thread nD τ).loc main_arg6) = v (bk Cert.MixRIdeal.main_arg6)

variable (E : Same m c v)
include E

/-- Both passes project the same normalised rows. -/
theorem proj_dot : proj m c = Host.dotGeneral (φ₁ := .f32) (φ₂ := .f32) dot_S4096x1024_S1024x2048_S4096x2048_1_0_0_1_n_n none (Cert.MixRIdeal.Value.res_main_v17 v) (v (bk Cert.MixRIdeal.main_arg2)) := by
  unfold proj
  rw [E.x, E.g, E.win]
  rfl

/-- Both parts, from the projection. -/
theorem both (h : proj m c = Cert.MixRIdeal.Value.res_main_v19 v) :
    res_main_v122 m c = truncf .bf16 (concatenate S4096x1024 1
      [⟨S4096x512, mulf (Cert.MixRIdeal.Value.res_main_v21 v) (Cert.MixRIdeal.Value.res_main_v49 v)⟩,
       ⟨S4096x512, mulf (Cert.MixRIdeal.Value.res_main_v123 v) (broadcastInDim S4096x512 ![0, 1] bcast_S1x512_S4096x512_0_1 (Cert.MixRIdeal.Value.res_main_v125 v))⟩]
      concatenates_S4096x512_S4096x512_S4096x1024_d1) bitsLt_bf16_f32 := by
  unfold proj at h
  unfold res_main_v122
  rw [h, E.k, E.w, E.s]
  rfl

omit E in
/-- The two parts side by side, as whole arrays. -/
theorem beside (D : Dat) : (cat (tile D.p 32 512 * tile D.conv 32 0) (tile (fun r c => D.q (c / 128) r (c % 128)) 32 0 * fun _ (j : Fin 512) => D.s 0 j.val) : Fin 4096 → Fin 1024 → ℝ) = tile D.y 32 0 := by
  funext r l
  show Fin.append (m := 512) (n := 512) _ _ l = D.y (r.val + 32) l.val
  induction l using Fin.addCases (m := 512) (n := 512) with
  | left l => rw [Fin.append_left]; exact (if_pos l.isLt).symm
  | right l =>
    have e : (Fin.natAdd 512 l).val - 512 = l.val := Nat.add_sub_cancel_left 512 l.val
    rw [Fin.append_right]
    unfold Dat.y
    rw [if_neg (by rw [Fin.val_natAdd]; omega), e]
    rfl

include H

theorem fwd_p : proj m c = M32 (tile D.p 32 0) := by
  have k : dot_S4096x1024_S1024x2048_S4096x2048_1_0_0_1_n_n = DotDims.plain 4096 1024 2048 := rfl
  rw [proj_dot E, v17 H, H.win, k, dot_mm, H.p]
theorem fwd_b : truncf .bf16 (proj m c) bitsLt_bf16_f32 = M16 (tile D.p 32 0) := by rw [fwd_p H E, truncf_M]
theorem fwd_y : res_main_v122 m c = M16 (tile D.y 32 0) := by
  rw [both E ((fwd_p H E).trans (v19 H).symm), v21 H, v49 H, v123 H, v125 H, bid_1M, mulf_M, mulf_M]
  refine (congrArg (fun a : FVec Ideal S4096x1024 .f32 => truncf .bf16 a _) (cat_M (n := 4096) (p := 512) (q := 512) _ _ _)).trans ?_
  exact congrArg M (beside D)
theorem fwd_xo : res_main_v120 m c = M32 (tile D.xo 32 0) := by
  have e : res_main_v120 m c = addf (m ((c.tc : Thread nD τ).loc main_arg0)) (Host.dotGeneral (φ₁ := .f32) (φ₂ := .f32) dot_S4096x1024_S1024x1024_S4096x1024_1_0_0_1_n_n none
    (show FVec Ideal S4096x1024 .f32 from res_main_v122 m c) (m ((c.tc : Thread nD τ).loc main_arg6))) := rfl
  have k : dot_S4096x1024_S1024x1024_S4096x1024_1_0_0_1_n_n = DotDims.plain 4096 1024 1024 := rfl
  rw [e, fwd_y H E, E.x, E.wout, H.x, H.wout, k]
  exact (congrArg (addf _) (dot_mm (φ₁ := .f32) none _ _)).trans (addf_M _ _)

end Step.Fwd
-- ==== Proof.FwdQuiet.lean ====
module

public import proofs.«01_k».proof.Defs
public import proofs.«01_k».proof.Proof.Gen.FwdK
public import proofs.«01_k».proof.Proof.Gen.FwdRIdeal.Run
public import proofs.«01_k».proof.Proof.FwdFrame

@[expose] public section

set_option maxRecDepth 16384

noncomputable section

namespace Step.Fwd

open Idealize.ShloMosaic Idealize.ShloMosaic.TcCoe Idealize.ShloMosaic.Tactic Idealize.SL.Sem

/-- The ideal kernel's frame. -/
theorem quiet_ideal : Cert.quiescent_FwdKIdeal (hFwdKIdeal := Cert.FwdKIdeal.Gen.facts) := fun m ρ _ => quiet m ρ

/-- The kernel's own frame: its program is the ideal one, read at bit patterns. -/
theorem quiet_kernel : Cert.quiescent_FwdK (hFwdK := Cert.FwdK.Gen.facts) := fun m ρ _ => by
  refine Eq.mpr ?_ (quiet (F := Bits) m ρ)
  sl_kernel_rfl

/-- The reference ends with its arguments unchanged; it has no semaphores. -/
theorem reference : Cert.quiescent_FwdRIdeal := fun m ρ _ =>
  (θ_run _ _ _).mono (fun r h => ⟨fun c => (h c).2.2.2, sem_eq_zero_of_no_sems (by decide) r.2⟩) (Cert.FwdRIdeal.Value.run m ρ)

end Step.Fwd

end
-- ==== Proof.FwdClaim.lean ====
module

public import proofs.«01_k».proof.Proof.MixClaim
public import proofs.«01_k».proof.Proof.FwdRef
public import proofs.«01_k».proof.Proof.FwdQuiet
public import proofs.«01_k».proof.Proof.Gen.Pre_finite_mixed

@[expose] public section

set_option maxRecDepth 16384

noncomputable section

namespace Step.Fwd

open Idealize Idealize.ShloMosaic Idealize.ShloMosaic.TcCoe Idealize.SL.Sem Step.Mix

/-- The precondition gives real arrays for the seven arguments. -/
theorem reals (a0 : FVec Ideal ⟨2, ![4096, 1024]⟩ .f32) (a1 : FVec Ideal ⟨2, ![1, 1024]⟩ .f32) (a2 : FVec Ideal ⟨2, ![1024, 2048]⟩ .f32) (a3 : FVec Ideal ⟨2, ![3, 512]⟩ .f32)
    (a4 : FVec Ideal ⟨3, ![4, 128, 128]⟩ .f32) (a5 : FVec Ideal ⟨2, ![1, 512]⟩ .f32) (a6 : FVec Ideal ⟨2, ![1024, 1024]⟩ .f32)
    (h : Cert.Pre_finite_mixed.fn (F := Ideal) a0 a1 a2 a3 a4 a5 a6 = fun _ => 1#1) :
    ∃ X N P T W S O, a0 = M32 X ∧ a1 = M32 N ∧ a2 = M32 P ∧ a3 = M32 T ∧ a4 = T3 W ∧ a5 = M32 S ∧ a6 = M32 O := by
  have e := congrFun h ix0
  unfold Cert.Pre_finite_mixed.fn Cert.Pre_finite_mixed.fn_part1 at e
  dsimp only [andi] at e
  simp only [IntOp.andi_eq_one] at e
  obtain ⟨⟨⟨⟨⟨⟨h0, h1⟩, h2⟩, h3⟩, h4⟩, h5⟩, h6⟩ := e
  obtain ⟨X, hX⟩ := finite_M a0 _ _ _ _ h0
  obtain ⟨N, hN⟩ := finite_M a1 _ _ _ _ h1
  obtain ⟨P, hP⟩ := finite_M a2 _ _ _ _ h2
  obtain ⟨T, hT⟩ := finite_M a3 _ _ _ _ h3
  obtain ⟨W, hW⟩ := finite_T a4 _ _ _ _ h4
  obtain ⟨S, hS⟩ := finite_M a5 _ _ _ _ h5
  obtain ⟨O, hO⟩ := finite_M a6 _ _ _ _ h6
  exact ⟨X, N, P, T, W, S, O, hX, hN, hP, hT, hW, hS, hO⟩

section
open Cert.FwdKIdeal Cert.FwdKIdeal.Gen

/-- Every run of the kernel ends with each result's array as the steps left it. -/
theorem ended (m : (ℓ : Loc nD τ sig) → Buf (Elt Ideal) ℓ) (ρ : Dev nD → PrngReg) :
    θ_run defs (onTc (τ := τ) (main (F := Ideal))) ⟨m, fun _ => 0, ρ⟩ fun r => ∀ (c : Dev nD) (w : Fin cfg0.W),
      r.2.mem ((c.tc : Thread nD τ).loc (Pipeline.arrRef spec0 w)) = (dats m 0 c).arrAt w cfg0.N :=
  (θ_run defs _ _).mono (fun _ h c w => (h.1 c).1 w) (run m ρ)
end

/-- On finite arguments the kernel of the mixer's forward pass and the reference end with the same rows, the same projection
and the same two parts side by side. -/
theorem value : Cert.algebraic_FwdKIdeal_FwdRIdeal_pre_finite_mixed := by
  intro m ρ m' ρ' hp ha
  choose X N P T W S O h0 h1 h2 h3 h4 h5 h6 using fun c => reals _ _ _ _ _ _ _ (hp c)
  let D := fun c => dat0 (X c) (N c) (P c) (T c) (W c) (S c) (O c)
  refine ⟨fun c => M32 (tile (D c).xo 32 0), fun c => M16 (tile (D c).p 32 0), fun c => M16 (tile (D c).y 32 0), ?_, ?_⟩
  · refine (θ_run _ _ _).mono (fun r h c => ?_) (θ_run_and (ended m ρ) (quiet m ρ))
    have H := launched m c (h0 c) (h1 c) (h2 c) (h3 c) (h4 c) (h5 c) (h6 c)
    obtain ⟨w, k, -⟩ := h
    exact ⟨(w c 5).trans (final5 H), (w c 6).trans (final6 H), (w c 7).trans (final7 H), k c⟩
  · refine (θ_run _ _ _).mono (fun r h c => ?_) (Cert.FwdRIdeal.Value.run m' ρ')
    obtain ⟨r0, r1, r2, k⟩ := h c
    obtain ⟨a0, a1, a2, a3, a4, a5, a6⟩ := ha c
    obtain ⟨v, e0, e1, e2, e3, e4, e5, e6, e7⟩ := filled (M32 (X c)) (M32 (N c)) (M32 (P c)) (M32 (T c)) (T3 (W c)) (M32 (S c)) (M32 (O c)) (M32 fun _ _ => 0)
    have H : Given v (D c) := given _ _ _ _ _ _ _ _ e0 e1 e2 e3 e4 e5 e6 e7
    have E : Same m' c v := ⟨(a0.trans (h0 c)).trans e0.symm, (a1.trans (h1 c)).trans e1.symm, (a2.trans (h2 c)).trans e2.symm, (a3.trans (h3 c)).trans e3.symm,
      (a4.trans (h4 c)).trans e4.symm, (a5.trans (h5 c)).trans e5.symm, (a6.trans (h6 c)).trans e6.symm⟩
    exact ⟨r0.trans (fwd_xo H E), r1.trans (fwd_b H E), r2.trans (fwd_y H E), k⟩

end Step.Fwd
-- ==== Proof.SwapLaunch.lean ====
/-
  The launch of the exchange.

  Every device copies straight into another device's result, and no device tells another that it is ready. So what a
  device needs for its first copy is another device's memory, and it has to be dealt out before any device runs: the
  step that runs once for the whole machine is given every device's semaphores and every device's buffers.
-/
module

public import proofs.«01_k».proof.Proof.Gen.SwapK
public import proofs.«01_k».proof.Proof.Gen.SwapK.Skeleton
public import proofs.«01_k».proof.Proof.Gen.SwapK.Launch
public import Idealize.ShloMosaic.Lib.Pipeline.Launch
public import Idealize.ShloMosaic.Lib.Pipeline.Kit
public import Idealize.ShloMosaic.Lib.Pipeline.RegionArrays
public import Idealize.ShloMosaic.Lib.Tactic

@[expose] public section

set_option maxRecDepth 16384
set_option Elab.async false

noncomputable section

namespace Cert.SwapProof

open Cert.SwapK Cert.SwapK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- A device's six semaphores: three count what it has sent, three what it has received. -/
abbrev osem : Fin 3 ⊕ Fin 3 → SemLoc sig := fun k => .dma (finSumFinEquiv k : Fin (3 + 3))

theorem osem_facts : Pipeline.OwnSemFacts cfg0.spec osem := by decide

/-- The contents of a device's buffers at the start. -/
abbrev start (m : (ℓ : Loc nD τ sig) → Buf (Elt F) ℓ) (c : Dev nD) (b : Ref sig .tc) : Buf (Elt F) ((c : Thread nD τ).loc b) :=
  m ((c : Thread nD τ).loc b)

/-- What every device holds three of is three things held by every device. -/
theorem deal_three (A B C : Dev nD → sProp 𝕄) : (bigSep Finset.univ fun c => iprop(A c ∗ B c ∗ C c))
    ⊢ iprop((bigSep Finset.univ A) ∗ (bigSep Finset.univ B) ∗ bigSep Finset.univ C) := by
  rw [bigSep_sep', bigSep_sep']

section Step

variable {P : Type} {Λ₀ : Labels} [Fintype P] [DecidableEq P] (cs : P → Pipeline.Cfg sig Λ₀)
  (dats : (p : P) → (c : Dev nD) → Dat τ (Elt F) Unit ℕ UU ℕ (cs p) c) (E' : Emb (UR sig nD τ) (MT nD τ sig Unit (Elt F) ℕ UU ℕ)) (κ : GSem nD τ sig → ℕ)
  (hinj : Function.Injective (cellOf (nD := nD) (τ := τ) cs)) (p : P) (d₀ : Defs nD τ sig (Elt F) Λ₀)

include hinj in
/-- The call of a kernel that prefetches nothing, with the semaphores it does not use set aside. -/
theorem region_step (c : Dev nD) (hbody : Pipeline.BodyObligationLoose (dats p c) d₀ Variants.none () Set.univ)
    (hne : ∀ w, 0 < ((cs p).win w).block.numel) {X Y R I : sProp 𝕄} (hin : X ⊢ (dats p c).Φ 0)
    (hbufs : (scopedBufs (c : Thread nD τ) : sProp 𝕄) ⊢ iprop(Dat.staging (cs p) c ∗ R))
    (hout : iprop((dats p c).Φ (Fin.last _) ∗ Pipeline.cellsSems0 cs p c ∗ Dat.staging (cs p) c ∗ I)
      ⊢ iprop(Y ∗ scopedSems0 (c : Thread nD τ) ∗ scopedBufs (c : Thread nD τ)))
    (Q : PUnit → sProp 𝕄) :
    iprop(Pipeline.EntryPre cs dats () E' κ p c ∗ X ∗ I ∗ scopedBufs (c : Thread nD τ))
      ⊢ iprop(((Pipeline.EntryPost cs dats () p c ∗ Y ∗ scopedSems0 (c : Thread nD τ) ∗ scopedBufs (c : Thread nD τ))
            -∗ wp frame (wpE (Pipeline.defs (fun q => (cs q).toPCfg (Val := Elt F)) d₀) (Variants.lift Variants.none) (c : Thread nD τ) none)
              Set.univ (.ret ⟨⟩) Q)
        -∗ wp frame (wpE (Pipeline.defs (fun q => (cs q).toPCfg (Val := Elt F)) d₀) (Variants.lift Variants.none) (c : Thread nD τ) none)
              Set.univ (.op (.customCall (Pipeline.entry p) ()) fun _ => .ret ⟨⟩) Q) := by
  have h := (Pipeline.wp_customCall_entry_frame (fun q => (cs q).toPCfg (Val := Elt F)) (fun q => (cs q).toPCfg_adm) dats () E' κ hinj p
    d₀ Variants.none (fun _ => fullShare) c Set.univ (fun _ _ => Set.mem_univ _) hbody hne none (fun u h => nomatch h)
    (X := X) (Y := Y) (R := R) (I := I) hbufs (by iintro ⟨HX, -, -⟩; iapply hin; iexact HX) hout
    (k := fun _ => .ret ⟨⟩) (Q := Q))
  iintro ⟨HE, HX, HI, HB⟩
  iapply h
  isplitl [HE]; · iexact HE
  isplitr
  · rw [Pipeline.prefHeld_of_none _ rfl]; iempintro
  isplitl [HX]; · iexact HX
  isplitl [HI] <;> iassumption

end Step

theorem launch (m : (ℓ : Loc nD τ sig) → Buf (Elt F) ℓ) (ρ : Dev nD → PrngReg)
    (dats : (p : Fin 1) → (c : Dev nD) → Dat τ (Elt F) Unit ℕ UU ℕ (cfgs p) c)
    (hbody : ∀ c, BodyObligation (dats 0 c) defs₀ Variants.none () Set.univ)
    (O₀ : Dev nD → CellTallies nD τ sig Unit) (howed₀ : ∀ c, (dats 0 c).owed 0 = O₀ c)
    (howedN : ∀ c, (dats 0 c).owed (Fin.last _) = 0)
    (u₀ : UU) (G : sProp 𝕄) (G' Y : Dev nD → sProp 𝕄)
    (hu₀ : (ownU u₀ : sProp 𝕄)
      ⊢ |={Set.univ}=> iprop(BI.own (EP (initOf (Pipeline.cells cfgs cellOf_inj) (Pipeline.launchToks cfgs cellOf_inj))) ∗ G))
    (hglob : iprop((bigSep Finset.univ fun c => Pipeline.ownSems0 osem c)
        ∗ (bigSep Finset.univ fun c => unscopedBufs c (start m c)) ∗ G) ⊢ |={Set.univ}=> bigSep Finset.univ G')
    (hin : ∀ c, iprop(Pipeline.launchCred O₀ c ∗ G' c) ⊢ (dats 0 c).Φ 0)
    (hout : ∀ c, (dats 0 c).Φ (Fin.last _) ⊢ iprop(Y c ∗ Pipeline.ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s)
      → (∀ g' : GSem nD τ sig, (g'.1.2 ≠ .tc ∨ g'.2.isScoped .tc = true) → s.sem g' = 0) → Q (⟨⟩, s)) :
    θ_run (defs (F := F)) (onTc (main (F := F))) ⟨m, fun _ => 0, ρ⟩ Q := by
  classical
  have hss (c : Dev nD) : (scopedSems0 (c : Thread nD τ) : sProp 𝕄)
      = iprop((Pipeline.cellsSems0 cfgs 0 c ∗ Pipeline.ownSems0 osem c) ∗ Pipeline.idleSems0 cfgs cellOf_inj 0 osem_facts c) :=
    Pipeline.scopedSems0_split cfgs cellOf_inj 0 winFacts0.to₀ osem_facts c
  have hsb (c : Dev nD) : (scopedBufs (c : Thread nD τ) : sProp 𝕄)
      = iprop(Dat.staging (cfgs 0) c ∗ Pipeline.scopedRest (cfgs 0).spec c) :=
    Pipeline.scopedBufs_split cfgs 0 winFacts0.stage_scoped winFacts0.stage_inj stage_whole0 c
  let kept : Dev nD → sProp 𝕄 := fun c => iprop(scopedBufs (c : Thread nD τ) ∗ Pipeline.cellsSems0 cfgs 0 c
    ∗ Pipeline.idleSems0 cfgs cellOf_inj 0 osem_facts c ∗ owes (c : Thread nD τ) (O₀ c) ∅ ∗ Pipeline.launchCred O₀ c)
  let pre : Dev nD → sProp 𝕄 := fun c => iprop(kept c
    ∗ Pipeline.cellsGhost cfgs EP 0 c ∗ Pipeline.toksInit cfgs EP 0 c ∗ G' c)
  let fin : Dev nD → sProp 𝕄 := fun c => iprop(Y c ∗ scopedSems0 (c : Thread nD τ))
  refine (θ_run (defs (F := F)) _ _).mono
    (Q := fun r => (∀ c : Dev nD, QY c r.2 ∧ ∀ sm : SemLoc sig, sm.isScoped .tc = true → r.2.sem ((c : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (defs (F := F)) _ _ _
      (reflect_intro_fupd_tc_sems (X := Unit) (Variants.lift Variants.none) (Pipeline.owing O₀) 0 (noBookings fun _ => le_rfl)
        (Pipeline.owing_of_ne O₀) u₀ (fun _ => pre) (fun _ => fin) (fun _ => iprop(emp)) Set.univ ?_ (fun _ c => ?_) fun _ => ?_))
  · have hcore (c : Dev nD) :
        coreInit (Ix := Unit) (Name := ℕ) (U := UU) (Lvl := ℕ) (Pipeline.owing O₀) 0 (⟨m, fun _ => 0, ρ⟩ : MemSt nD τ sig (Elt F)) (c : Thread nD τ)
          ⊢ iprop(kept c ∗ Pipeline.ownSems0 osem c ∗ unscopedBufs c (start m c)) := by
      refine (Pipeline.coreInit_boundary_owing O₀ m ρ c).trans ?_
      unfold boundary
      rw [hss c]
      iintro ⟨⟨Hsc, ⟨⟨Hcells, Hos⟩, Hidle⟩, -⟩, Hub, -, HO, -, -, Hcr⟩
      isplitr [Hos Hub]
      · simp only [kept]
        isplitl [Hsc]; · iexact Hsc
        isplitl [Hcells]; · iexact Hcells
        isplitl [Hidle]; · iexact Hidle
        isplitl [HO] <;> iassumption
      · isplitl [Hos] <;> iassumption
    have hpick (Ψ : Fin 1 → Dev nD → sProp 𝕄) :
        (bigSep Finset.univ fun c : Dev nD => bigSep Finset.univ fun p => Ψ p c) ⊢ bigSep Finset.univ fun c : Dev nD => Ψ 0 c :=
      bigSep_mono fun c _ => BI.bigSep_elim (Finset.mem_univ 0)
    have hcores : (bigSep Finset.univ (fun c : Dev nD =>
          coreInit (Ix := Unit) (Name := ℕ) (U := UU) (Lvl := ℕ) (Pipeline.owing O₀) 0 (⟨m, fun _ => 0, ρ⟩ : MemSt nD τ sig (Elt F)) (c : Thread nD τ)) : sProp 𝕄)
        ⊢ iprop((bigSep Finset.univ kept) ∗ (bigSep Finset.univ fun c => Pipeline.ownSems0 osem c)
            ∗ bigSep Finset.univ fun c => unscopedBufs c (start m c)) :=
      (bigSep_mono fun c _ => hcore c).trans (deal_three kept _ _)
    iintro ⟨Hcores, Hu⟩
    ihave Hc' := hcores $$ Hcores
    icases Hc' with ⟨Hk, Hos, Hub⟩
    imod hu₀ $$ Hu with ⟨HP, HG⟩
    imod (Pipeline.fund_ghost cfgs EP cellOf_inj) $$ HP with ⟨Hg, Ht⟩
    imod hglob $$ [Hos Hub HG] with HG'
    · isplitl [Hos]; · iexact Hos
      isplitl [Hub] <;> iassumption
    imodintro
    iexists ()
    isplitr []
    · simp only [pre, bigSep_sep']
      isplitl [Hk]; · iexact Hk
      isplitl [Hg]; · iapply (hpick fun p' c => Pipeline.cellsGhost cfgs EP p' c); iexact Hg
      isplitl [Ht]; · iapply (hpick fun p' c => Pipeline.toksInit cfgs EP p' c); iexact Ht
      iexact HG'
    · iempintro
  · have hout' : iprop((dats 0 c).Φ (Fin.last _) ∗ Pipeline.cellsSems0 cfgs 0 c ∗ Dat.staging (cfgs 0) c
          ∗ Pipeline.idleSems0 cfgs cellOf_inj 0 osem_facts c)
        ⊢ iprop(Y c ∗ scopedSems0 (c : Thread nD τ) ∗ scopedBufs (c : Thread nD τ)) := by
      rw [hss c, hsb c, show Pipeline.scopedRest (cfgs 0).spec c = (BI.emp : sProp 𝕄) from scopedRest0_eq c]
      iintro ⟨HΦ, Hcells, Hst, Hidle⟩
      ihave H := (hout c) $$ HΦ
      icases H with ⟨HY, Hos⟩
      isplitl [HY]; · iexact HY
      isplitl [Hcells Hos Hidle]
      · isplitl [Hcells Hos]; · isplitl [Hcells] <;> iassumption
        iexact Hidle
      isplitl [Hst]; · iexact Hst
      iempintro
    have hpost : Pipeline.EntryPost cfgs dats () 0 c ⊢ (iprop(∃ W, owes (c : Thread nD τ) (0 : CellTallies nD τ sig Unit) W) : sProp 𝕄) := by
      unfold Pipeline.EntryPost Pipeline.PerCore.EntryPost Dat.owesAt Pipeline.owesWithin
      rw [howedN c]
      iintro ⟨-, ⟨%W, -, HW⟩⟩
      iexists W; iexact HW
    have hrun (κ : GSem nD τ sig → ℕ) : iprop(Pipeline.EntryPre cfgs dats () EP κ 0 c
          ∗ iprop(Pipeline.launchCred O₀ c ∗ G' c) ∗ Pipeline.idleSems0 cfgs cellOf_inj 0 osem_facts c ∗ scopedBufs (c : Thread nD τ))
        ⊢ iprop(((Pipeline.EntryPost cfgs dats () 0 c ∗ Y c ∗ scopedSems0 (c : Thread nD τ) ∗ scopedBufs (c : Thread nD τ))
              -∗ wp frame (wpE (defs (F := F)) (Variants.lift Variants.none) (c : Thread nD τ) none) Set.univ (Prog.ret PUnit.unit)
                fun _ => post (liftTc fin BI.emp) (c : Thread nD τ))
          -∗ wp frame (wpE (defs (F := F)) (Variants.lift Variants.none) (c : Thread nD τ) none) Set.univ (main (F := F) c)
                fun _ => post (liftTc fin BI.emp) (c : Thread nD τ)) :=
      region_step cfgs dats EP κ cellOf_inj 0 defs₀ c (hbody c).loose block_pos0 (hin c) (Entails.of_eq (hsb c)) hout' _
    simp only [pre, kept]
    iintro ⟨⟨Hsc, Hcells, Hidle, HO, Hcr⟩, Hg, Ht, HG⟩
    iapply (fupd_wp frame (wpE (defs (F := F)) (Variants.lift Variants.none) (c : Thread nD τ) none) Set.univ _ _)
    imod (Pipeline.cellsInit_alloc cfgs dats EP cellOf_inj 0 c) $$ [Hcells Hg] with ⟨%κ, -, Hinit⟩
    · isplitl [Hcells] <;> iassumption
    imodintro
    iapply (hrun κ) $$ [HO Hinit Ht HG Hcr Hidle Hsc]
    · isplitl [HO Hinit Ht]
      · unfold Pipeline.EntryPre Pipeline.PerCore.EntryPre Dat.owesAt Pipeline.owesWithin
        isplitr
        · unfold Dat.arrays; rw [show (Finset.univ : Finset (Fin (cfgs 0).W)) = ∅ from rfl, bigSep_empty]; iempintro
        isplitl [HO]
        · iexists ∅; isplitr; · ipureintro; rw [Finset.coe_empty]; exact Set.empty_subset _
          rw [← howed₀ c]; iexact HO
        isplitr
        · iapply (Pipeline.cellsWaits_intro cfgs dats () 0 c (R := iprop(emp)) fun w => w.elim0); iempintro
        isplitl [Hinit] <;> iassumption
      isplitl [Hcr HG]; · isplitl [Hcr] <;> iassumption
      isplitl [Hidle] <;> iassumption
    iintro ⟨Hpost, HY, Hss, -⟩
    rw [wp_ret]; imodintro
    unfold post; simp only [liftTc_tc, fin]
    ihave HW := hpost $$ Hpost
    isplitr [HW]
    · isplitl [HY] <;> iassumption
    · iexact HW
  · have hcore (c : Dev nD) (s' : Phys nD τ sig (Elt F)) : iprop(fin c ∗ SI s') ⊢ |={Set.univ}=>
        iprop(⌜QY c s'.mem ∧ ∀ sm : SemLoc sig, sm.isScoped .tc = true → s'.mem.sem ((c : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.SwapProof
-- ==== Proof.SwapPlan.lean ====
/-
  What is copied where in the exchange, and which semaphore counts which copy.
-/
module

public import proofs.«01_k».proof.Proof.SwapLaunch
public import Idealize.ShloMosaic.Lib.ViewIndex

@[expose] public section

set_option maxRecDepth 16384

noncomputable section

namespace Cert.SwapProof

open Cert.SwapK Cert.SwapK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

/-! ## Who exchanges with whom -/

/-- The other devices, in the order they are written to: the one across the first axis, the one across the second
    axis, the one across both. -/
def other (j : Fin 3) (c : Dev nD) : Dev nD :=
  match j with
  | 0 => ![2, 3, 0, 1] c
  | 1 => ![1, 0, 3, 2] c
  | 2 => ![3, 2, 1, 0] c

theorem other_other : ∀ (j : Fin 3) (c : Dev nD), other j (other j c) = c := by decide
theorem other_inj : ∀ (i j : Fin 3) (c : Dev nD), other i c = other j c → i = j := by decide

/-- The exchange as a permutation of the devices. -/
def swap (j : Fin 3) : Dev nD ≃ Dev nD := ⟨other j, other j, other_other j, other_other j⟩

/-! ## The pieces of the two buffers -/

theorem inb_arg (r : Dev nD) : ∀ a, (![r.val, 0, 0] : Fin 3 → Nat) a + S1x128x1024.size a ≤ S4x128x1024.size a := by
  revert r; decide
theorem inb_res (j : Fin 3) : ∀ a, (![j.val, 0, 0] : Fin 3 → Nat) a + S1x128x1024.size a ≤ S3x128x1024.size a := by
  revert j; decide

/-- Slice `r` of the argument, and of the result. -/
abbrev argRect (r : Dev nD) : Rect S4x128x1024 := Rect.unit (s := S4x128x1024) ![r.val, 0, 0] S1x128x1024.size (inb_arg r)
abbrev resRect (j : Fin 3) : Rect S3x128x1024 := Rect.unit (s := S3x128x1024) ![j.val, 0, 0] S1x128x1024.size (inb_res j)

abbrev argM (r : Dev nD) : Memref sig .tc .hbm S128x1024 .bf16 :=
  ((Memref.whole main_arg0 : Memref sig .tc .hbm S4x128x1024 .bf16).slice (argRect r) (fun _ => rfl)).squeeze S128x1024 squeezes_S1x128x1024_S128x1024
abbrev resM (j : Fin 3) : Memref sig .tc .hbm S128x1024 .bf16 :=
  ((Memref.whole main_v1 : Memref sig .tc .hbm S3x128x1024 .bf16).slice (resRect j) (fun _ => rfl)).squeeze S128x1024 squeezes_S1x128x1024_S128x1024

theorem arg_set (r : Dev nD) : (argM r).view.set = (argRect r).set := by
  show (View.reshape _ _ _).set = _
  rw [View.set_reshape]; exact View.set_slice_whole _ _
theorem res_set (j : Fin 3) : (resM j).view.set = (resRect j).set := by
  show (View.reshape _ _ _).set = _
  rw [View.set_reshape]; exact View.set_slice_whole _ _

theorem mem_arg (r : Dev nD) (i : S4x128x1024.Idx) : i ∈ (argRect r).set ↔ (i 0).val = r.val := by
  rw [Rect.mem_set_unit]
  constructor
  · intro h; have h0 := h 0; simp at h0; omega
  · intro h a
    have ha := (i a).isLt
    fin_cases a <;> simp_all <;> omega
theorem mem_res (j : Fin 3) (i : S3x128x1024.Idx) : i ∈ (resRect j).set ↔ (i 0).val = j.val := by
  rw [Rect.mem_set_unit]
  constructor
  · intro h; have h0 := h 0; simp at h0; omega
  · intro h a
    have ha := (i a).isLt
    fin_cases a <;> simp_all <;> omega

/-! ## What the exchange leaves in the result -/

variable (m : (ℓ : Loc nD τ sig) → Buf (Elt F) ℓ)

/-- Where element `i` of a device's result comes from: slice `c` of the argument of the device it exchanges slice
    `i 0` with. -/
def origin (c : Dev nD) (i : S3x128x1024.Idx) : S4x128x1024.Idx :=
  fun a => match a with
    | ⟨0, _⟩ => (⟨c.val, c.isLt⟩ : Fin 4)
    | ⟨1, _⟩ => (i 1 : Fin 128)
    | ⟨2, _⟩ => (i 2 : Fin 1024)

/-- The result of device `c`. -/
def final (c : Dev nD) : Buf (Elt F) ((c : Thread nD τ).loc main_v1) :=
  fun i => start m (other (show Fin 3 from i 0) c) main_arg0 (origin c i)

/-- A copied slice is the slice of the result it lands on. -/
theorem copied (j : Fin 3) (c d : Dev nD) (hd : d = other j c) (f : Buf (Elt F) ((c : Thread nD τ).loc main_v1)) :
    ∀ i ∈ (resM j).view.set, (resM j).view.write (Elt F) f ((argM c).view.read (Elt F) (start m d main_arg0)) Finset.univ i = final m c i := by
  subst hd
  intro i hi
  obtain ⟨x, -, rfl⟩ := Finset.mem_map.mp hi
  rw [View.write_emb_of_mem _ _ (Finset.mem_univ x), View.read_apply]
  have hj : (show Fin 3 from ((resM j).view.emb x) 0) = j := Fin.ext ((mem_res j _).mp (by rw [← res_set]; exact hi))
  refine (cast_eq _ _).trans ((cast_eq _ _).trans ?_)
  unfold final
  rw [hj]
  refine congrArg (start m (other j c) main_arg0) (Shape.idx3_ext ?_ rfl rfl)
  exact (mem_arg c _).mp (by rw [← arg_set]; exact Finset.mem_map_of_mem _ (Finset.mem_univ x))

/-! ## The pieces held -/

def argPts (c r : Dev nD) : sProp 𝕄 :=
  (argM r).view.loc (c : Thread nD τ) ↦[(argM r).view.set]{fullShare} start m c main_arg0
def resPts (c : Dev nD) (j : Fin 3) (f : Buf (Elt F) ((c : Thread nD τ).loc main_v1)) : sProp 𝕄 :=
  (resM j).view.loc (c : Thread nD τ) ↦[(resM j).view.set]{fullShare} f

instance argPts_storable (c r : Dev nD) : BI.Storable (upEmb : UEmb _ 𝕄) (argPts (F := F) m c r) := by unfold argPts; infer_instance
instance resPts_storable (c : Dev nD) (j : Fin 3) (f) : BI.Storable (upEmb : UEmb _ 𝕄) (resPts (F := F) c j f) := by unfold resPts; infer_instance

/-- A buffer is three disjoint pieces of it and what is left. -/
theorem split_three {ℓ : Loc nD τ sig} (f : Buf (Elt F) ℓ) (I J K : Finset (Idx ℓ)) (hIJ : Disjoint I J) (hIK : Disjoint I K) (hJK : Disjoint J K) :
    (ℓ ↦{fullShare} f : sProp 𝕄) ⊣⊢ iprop((ℓ ↦[I]{fullShare} f) ∗ (ℓ ↦[J]{fullShare} f) ∗ (ℓ ↦[K]{fullShare} f) ∗ (ℓ ↦[((Finset.univ \ I) \ J) \ K]{fullShare} f)) := by
  refine (pointsTo_split_subset (Finset.subset_univ I)).trans (sep_congr_right ?_)
  refine (pointsTo_split_subset (I := J) fun x hx => ?_).trans (sep_congr_right ?_)
  · exact Finset.mem_sdiff.mpr ⟨Finset.mem_univ _, Finset.disjoint_right.mp hIJ hx⟩
  · refine pointsTo_split_subset (I := K) fun x hx => ?_
    exact Finset.mem_sdiff.mpr ⟨Finset.mem_sdiff.mpr ⟨Finset.mem_univ _, Finset.disjoint_right.mp hIK hx⟩, Finset.disjoint_right.mp hJK hx⟩

theorem arg_disj (r r' : Dev nD) (h : r ≠ r') : Disjoint (argM r).view.set (argM r').view.set := by
  rw [arg_set, arg_set]
  exact Finset.disjoint_left.mpr fun x hx hy => h (Fin.ext (((mem_arg _ x).mp hx).symm.trans ((mem_arg _ x).mp hy)))
theorem res_disj (j j' : Fin 3) (h : j ≠ j') : Disjoint (resM j).view.set (resM j').view.set := by
  rw [res_set, res_set]
  exact Finset.disjoint_left.mpr fun x hx hy => h (Fin.ext (((mem_res _ x).mp hx).symm.trans ((mem_res _ x).mp hy)))

/-- The argument's slice that no other device is sent. -/
def keptPts (c : Dev nD) : sProp 𝕄 :=
  (c : Thread nD τ).loc main_arg0 ↦[((Finset.univ \ (argM (other 0 c)).view.set) \ (argM (other 1 c)).view.set) \ (argM (other 2 c)).view.set]{fullShare}
    start m c main_arg0

theorem arg_split (c : Dev nD) : (((c : Thread nD τ).loc main_arg0) ↦{fullShare} start m c main_arg0 : sProp 𝕄)
    ⊣⊢ iprop(argPts m c (other 0 c) ∗ argPts m c (other 1 c) ∗ argPts m c (other 2 c) ∗ keptPts m c) := by
  have hne (i j : Fin 3) (h : i ≠ j) := arg_disj (other i c) (other j c) fun e => h (other_inj i j c e)
  exact split_three (ℓ := (c : Thread nD τ).loc main_arg0) _ _ _ _ (hne 0 1 (by decide)) (hne 0 2 (by decide)) (hne 1 2 (by decide))

theorem res_cover : ((Finset.univ \ (resM 0).view.set) \ (resM 1).view.set) \ (resM 2).view.set = ∅ := by
  rw [res_set, res_set, res_set]
  refine Finset.eq_empty_iff_forall_notMem.mpr fun x => ?_
  have hx : (x 0).val < 3 := (x 0).isLt
  rw [Finset.mem_sdiff, Finset.mem_sdiff, Finset.mem_sdiff, mem_res, mem_res, mem_res]
  rintro ⟨⟨⟨-, h0⟩, h1⟩, h2⟩
  have h0' : ¬ (x 0).val = 0 := h0
  have h1' : ¬ (x 0).val = 1 := h1
  have h2' : ¬ (x 0).val = 2 := h2
  omega

theorem res_split (c : Dev nD) (f : Buf (Elt F) ((c : Thread nD τ).loc main_v1)) : (((c : Thread nD τ).loc main_v1) ↦{fullShare} f : sProp 𝕄)
    ⊣⊢ iprop(resPts c 0 f ∗ resPts c 1 f ∗ resPts c 2 f) := by
  have h := split_three (ℓ := (c : Thread nD τ).loc main_v1) f _ _ _ (res_disj 0 1 (by decide)) (res_disj 0 2 (by decide)) (res_disj 1 2 (by decide))
  refine h.trans (sep_congr_right (sep_congr_right ?_))
  rw [res_cover, pointsTo_empty]
  exact sep_emp

/-! ## The cells -/

/-- The bytes one copy counts. -/
abbrev N : ℕ := (resM 0).view.dmaCredit
theorem N_pos : 0 < N := View.dmaCredit_pos _ (by decide)

abbrev cell (c : Dev nD) (k : Fin 3 ⊕ Fin 3) : GSem nD τ sig := ((c : Thread nD τ), osem k)

/-- What a cell's owner is handed: its own slice back when it has been sent, the slice of the result when it has
    arrived. -/
def pay (c : Dev nD) : Fin 3 ⊕ Fin 3 → sProp 𝕄
  | .inl j => argPts m c (other j c)
  | .inr j => resPts c j (final m c)

instance pay_storable (c : Dev nD) (k : Fin 3 ⊕ Fin 3) : BI.Storable (upEmb : UEmb _ 𝕄) (pay (F := F) m c k) := by
  rcases k with j | j <;> (unfold pay; infer_instance)

/-- Every cell has one duty, in its first round. -/
def Rd : Rounds.Schedule (GSem nD τ sig) Unit 𝕄 where
  duties g r := if r = 0 ∧ g.1.2 = .tc then {()} else ∅
  unitless _ := False
  amount _ _ _ := N
  payload g _ _ := match g.2 with
    | .dma k => pay m g.1.1 (finSumFinEquiv.symm (show Fin (3 + 3) from k))
    | _ => iprop(emp)
  amount_pos _ _ _ _ := N_pos

instance Rd_storable (g : GSem nD τ sig) (r : ℕ) (d : Unit) : BI.Storable (upEmb : UEmb _ 𝕄) ((Rd (F := F) m).payload g r d) := by
  rcases g with ⟨t, s | k⟩
  · show BI.Storable upEmb iprop(emp); infer_instance
  · show BI.Storable upEmb (pay m t.1 _); infer_instance

theorem duties_first (c : Dev nD) (k : Fin 3 ⊕ Fin 3) : (Rd (F := F) m).duties (cell c k) 0 = {()} := by
  show (if (0 : ℕ) = 0 ∧ (cell c k).1.2 = .tc then ({()} : Finset Unit) else ∅) = {()}
  exact if_pos ⟨rfl, rfl⟩
theorem duties_later (g : GSem nD τ sig) : ∀ r, 1 ≤ r → (Rd (F := F) m).duties g r = ∅ :=
  fun r hr => if_neg (c := r = 0 ∧ g.1.2 = .tc) fun h => by omega
theorem expect_first (c : Dev nD) (k : Fin 3 ⊕ Fin 3) : (Rd (F := F) m).expect (cell c k) 0 = N := by
  unfold Schedule.expect Schedule.amountOf; rw [duties_first, Finset.sum_singleton]; rfl
theorem payload_first (c : Dev nD) (k : Fin 3 ⊕ Fin 3) (u : Unit) : (Rd (F := F) m).payload (cell c k) 0 u = pay m c k := by
  show pay m c (finSumFinEquiv.symm (finSumFinEquiv k)) = pay m c k
  rw [Equiv.symm_apply_apply]
theorem rest_first (c : Dev nD) (k : Fin 3 ⊕ Fin 3) :
    bigSep ((Rd (F := F) m).duties (cell c k) 0 \ ∅) (fun u => (Rd (F := F) m).payload (cell c k) 0 u) = pay m c k := by
  rw [Finset.sdiff_empty, duties_first, bigSep_singleton, payload_first]

/-! ## What every device owes at the start -/

/-- Device `c` owes one copy to each of the three others. -/
def due (j : Fin 3) (c : Dev nD) : CellTallies nD τ sig Unit := tallyAt (cell (other j c) (.inr j)) () N
def O₀ (c : Dev nD) : CellTallies nD τ sig Unit := due 2 c + due 1 c + due 0 c

theorem cell_inj (c d : Dev nD) (k l : Fin 3 ⊕ Fin 3) : cell c k = cell d l ↔ c = d ∧ k = l := by
  constructor
  · intro h
    exact ⟨Fin.ext (congrArg (fun g : GSem nD τ sig => g.1.1.val) h), osem_facts.inj (congrArg Prod.snd h)⟩
  · rintro ⟨rfl, rfl⟩; rfl

theorem due_cred (j : Fin 3) (c : Dev nD) : (Pipeline.launchCred (due j) c : sProp 𝕄) ⊢ cred (tallyAt (cell c (.inr j)) () N) := by
  refine (Pipeline.launchCred_elim (due j) c (osem (.inr j))).trans (Entails.of_eq (congrArg cred ?_))
  unfold tallyAt; refine congrArg _ (Finsupp.ext fun u => ?_); cases u
  have hd (d : Dev nD) : due j d (cell c (.inr j)) () = if d = other j c then N else 0 := by
    unfold due; rw [tallyAt_apply]
    by_cases h : d = other j c
    · subst h; rw [other_other, if_pos ⟨rfl, rfl⟩, if_pos rfl]
    · rw [if_neg (fun ⟨h1, _⟩ => h (by rw [((cell_inj _ _ _ _).mp h1).1, other_other])), if_neg h]
  rw [Pipeline.launchCredit_owing, Finsupp.single_eq_same, Finset.sum_congr rfl fun d _ => hd d,
    Finset.sum_ite_eq' Finset.univ (other j c) fun _ => N, if_pos (Finset.mem_univ _)]

theorem creds (c : Dev nD) : (Pipeline.launchCred O₀ c : sProp 𝕄)
    ⊢ iprop(cred (tallyAt (cell c (.inr 0)) () N) ∗ cred (tallyAt (cell c (.inr 1)) () N) ∗ cred (tallyAt (cell c (.inr 2)) () N)) := by
  rw [show (O₀ : Dev nD → CellTallies nD τ sig Unit) = fun d => (fun e => due 2 e + due 1 e) d + due 0 d from rfl, Pipeline.launchCred_add,
    Pipeline.launchCred_add]
  iintro ⟨⟨H2, H1⟩, H0⟩
  isplitl [H0]; · iapply (due_cred 0 c); iexact H0
  isplitl [H1]; · iapply (due_cred 1 c); iexact H1
  iapply (due_cred 2 c); iexact H2

end Cert.SwapProof
-- ==== Proof.SwapBody.lean ====
/-
  The exchange itself: three copies sent, then each of the six semaphores waited for.
-/
module

public import proofs.«01_k».proof.Proof.SwapPlan
public import Idealize.ShloMosaic.Lib.Ring

@[expose] public section

set_option maxRecDepth 16384

noncomputable section

namespace Cert.SwapProof

open Cert.SwapK Cert.SwapK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ)

/-! ## What every device knows of every cell -/

/-- A name for each cell. -/
abbrev Names : Type := Dev nD × (Fin 3 ⊕ Fin 3) → ℕ

def record (K : Names) (ck : Dev nD × (Fin 3 ⊕ Fin 3)) : sProp 𝕄 :=
  iprop(cellInv ER (Rd m) (K ck) (cell ck.1 ck.2) ∗ reached ER (cell ck.1 ck.2) 0)
instance record_persistent (K : Names) (ck : Dev nD × (Fin 3 ⊕ Fin 3)) : Persistent (record (F := F) m K ck) := by unfold record; infer_instance

def records (K : Names) : sProp 𝕄 := bigSep Finset.univ (record m K)
instance records_persistent (K : Names) : Persistent (records (F := F) m K) := by unfold records; infer_instance

theorem record_at (K : Names) (c : Dev nD) (k : Fin 3 ⊕ Fin 3) :
    (records m K : sProp 𝕄) ⊢ iprop(cellInv ER (Rd m) (K (c, k)) (cell c k) ∗ reached ER (cell c k) 0) := by
  unfold records
  exact bigSep_elim (i := (c, k)) (Finset.mem_univ _) (Φ := record m K)

/-! ## One copy, one wait -/

/-- Sending slice `other j c` of the argument into slot `j` of that device's result. -/
theorem send (K : Names) (c n : Dev nD) (j : Fin 3) (hn : n = other j c) (o : Fin 3 → ℕ) (ho : o = ![(other j c).val, 0, 0])
    {inb : ∀ a, o a + S1x128x1024.size a ≤ S4x128x1024.size a} {sS sR : DmaSem sig}
    (hS : sS = (finSumFinEquiv (.inl j : Fin 3 ⊕ Fin 3) : Fin (3 + 3))) (hR : sR = (finSumFinEquiv (.inr j : Fin 3 ⊕ Fin 3) : Fin (3 + 3)))
    {hsc : (resM j : Memref sig (Dev.tc n : Thread nD τ).2.kind .hbm S128x1024 .bf16).view.ref.isScScratch = false}
    {hsrc : (((Memref.whole main_arg0 : Memref sig .tc .hbm S4x128x1024 .bf16).slice (Rect.unit (s := S4x128x1024) o S1x128x1024.size inb) (fun _ => rfl)).squeeze
      S128x1024 squeezes_S1x128x1024_S128x1024).view.WordExact}
    {hdst : (resM j).view.WordExact}
    {hsem : DmaTarget.Typed .hbm (.dma sR) (.remote (Dev.tc n : Thread nD τ) (resM j) (.dma sS) hsc)}
    {α : Type} {Q : α → sProp 𝕄} {k : PUnit → Prog (TpuEff nD τ sig (Elt F) Λ₀ .tc) α}
    (f : Buf (Elt F) ((other j c : Thread nD τ).loc main_v1)) (O : CellTallies nD τ sig Unit) (W : Waits sig Unit) :
    iprop(records m K ∗ argPts m c (other j c) ∗ resPts (other j c) j f ∗ owes (c : Thread nD τ) (O + due j c) W
        ∗ dutyTok ER (cell c (.inl j)) 0 () ∗ dutyTok ER (cell (other j c) (.inr j)) 0 ())
      ⊢ iprop(((cred (tallyAt (cell c (.inl j)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (((Memref.whole main_arg0 : Memref sig .tc .hbm S4x128x1024 .bf16).slice (Rect.unit (s := S4x128x1024) o S1x128x1024.size inb) (fun _ => rfl)).squeeze
                  S128x1024 squeezes_S1x128x1024_S128x1024)
                (.remote (Dev.tc n : Thread nD τ) (resM j) (.dma sS) hsc) (.dma sR) hsrc hdst hsem) k) Q) := by
  subst hn ho hS hR
  have hd₁ : () ∈ (Rd (F := F) m).duties (cell c (.inl j)) 0 := by rw [duties_first]; exact Finset.mem_singleton_self _
  have hd₂ : () ∈ (Rd (F := F) m).duties (cell (other j c) (.inr j)) 0 := by rw [duties_first]; exact Finset.mem_singleton_self _
  have hsent : (argPts m c (other j c) : sProp 𝕄) ⊢ (Rd m).payload (cell c (.inl j)) 0 () := by
    rw [payload_first m c (.inl j)]; exact Entails.refl _
  have hcame : ((resM j).view.loc (other j c : Thread nD τ) ↦[(resM j).view.set]{fullShare}
        ((resM j).view.write (Elt F) f ((argM (other j c)).view.read (Elt F) (start m c main_arg0)) Finset.univ) : sProp 𝕄)
      ⊢ (Rd m).payload (cell (other j c) (.inr j)) 0 () := by
    rw [payload_first m (other j c) (.inr j)]
    unfold pay resPts
    exact Entails.of_eq (pointsTo_congr (copied m j (other j c) c (other_other j c).symm f))
  refine BIBase.Entails.trans ?_ (Idealize.ShloMosaic.Rounds.wp_send_pointsTo (c' := (other j c : Thread nD τ)) (src := argM (other j c)) (dst := resM j) Variants.none ER (Rd m) (c : Thread nD τ) none (κ₁ := K (c, .inl j)) (κ₂ := K (other j c, .inr j))
    (q := fullShare) (fs := start m c main_arg0) (fd := f) (r₁ := 0) (r₂ := 0) (d₁ := ()) (d₂ := ())
    hd₁ hd₂ () () N (rfl : (resM j).view.amount (osem (.inr j)) = N) (rfl : (Rd (F := F) m).amount (cell c (.inl j)) 0 () = N)
    (rfl : (Rd (F := F) m).amount (cell (other j c) (.inr j)) 0 () = N) O (rfl : O + due j c = O + tallyAt (cell (other j c) (.inr j)) () N) (W := W) hsent hcame)
  unfold argPts resPts
  iintro ⟨#HK, Ha, Hr, HO, Ht, Ht'⟩
  ihave #Hs := (record_at m K c (.inl j)) $$ HK
  ihave #Hd := (record_at m K (other j c) (.inr j)) $$ HK
  icases Hs with ⟨#His, #Hrs⟩
  icases Hd with ⟨#Hid, #Hrd⟩
  isplitr; · iexact His
  isplitr; · iexact Hid
  isplitl [Ha]; · iexact Ha
  isplitl [Hr]; · iexact Hr
  isplitl [HO]; · iexact HO
  isplitl [Ht]; · iexact Ht
  isplitr; · iexact Hrs
  isplitl [Ht']; · iexact Ht'
  iexact Hrd

/-- Waiting on cell `k`: what it was paid comes back, and its semaphore is at zero. -/
theorem await (K : Names) (c : Dev nD) (k : Fin 3 ⊕ Fin 3) {s : DmaSem sig} (hs : SemLoc.dma s = osem k)
    {src dst : Memref sig .tc .hbm S128x1024 .bf16} {hsrc : src.view.WordExact} {hdst : dst.view.WordExact}
    {α : Type} {Q : α → sProp 𝕄} {r : PUnit → Prog (TpuEff nD τ sig (Elt F) Λ₀ .tc) α} (W : Waits sig Unit) :
    iprop(records m K ∗ cred (tallyAt (cell c k) () N) ∗ owes (c : Thread nD τ) 0 W ∗ atPos ER (cell c k) 0 ∅ 0)
      ⊢ iprop(((owes (c : Thread nD τ) 0 (insert (osem k, ()) W) ∗ semVal (cell c k) 0 ∗ pay m c k)
            -∗ wp frame (wpE (defs₀ (F := F)) Variants.none (c : Thread nD τ) none) Set.univ (r ⟨⟩) Q)
          -∗ wp frame (wpE (defs₀ (F := F)) Variants.none (c : Thread nD τ) none) Set.univ (.op (.waitDma2 s src dst hsrc hdst) r) Q) := by
  have hw (K' : PUnit → sProp 𝕄) : wpE (defs₀ (F := F)) Variants.none (c : Thread nD τ) none Set.univ (.waitDma2 s src dst hsrc hdst) K'
      = waitSpec (c : Thread nD τ) Set.univ (osem k) N K' := by
    rw [wpE_waitDma2_eq, hs]
  iintro ⟨#HK, Hc, HO, Hat⟩ Hk
  ihave #Hs := (record_at m K c k) $$ HK
  icases Hs with ⟨#Hi, -⟩
  iapply (Rounds.wp_wait_rest_token Variants.none ER (Rd m) (c : Thread nD τ) none (κ := K (c, k)) hw (Set.mem_univ _) () (O := 0) (W := W)
      (R := 0) (m := 0) (T := ∅) (by rw [Nat.zero_add, expect_first])) $$ [Hc HO Hat]
  · isplitr; · iexact Hi
    isplitl [Hc]; · iexact Hc
    isplitl [HO]; · iexact HO
    isplitr; · rw [MayWait_zero]; iempintro
    iexact Hat
  iintro ⟨HO, Hat, -, Hp⟩
  ihave Hp := (Entails.of_eq (rest_first m c k)) $$ Hp
  imod (Rounds.cell_close ER (Rd m) (Set.mem_univ (K (c, k))) (fun h => h) (R := 0 + 1) (duties_later m (cell c k))) $$ [Hat] with Hz
  · isplitr; · iexact Hi
    iexact Hat
  iapply Hk
  isplitl [HO]; · iexact HO
  isplitl [Hz]; · iexact Hz
  iexact Hp

/-! ## The body -/

/-- What a device starts with: its semaphores and the right to use them, its own argument, and one slot of each other
    device's result. -/
def held (c : Dev nD) : sProp 𝕄 :=
  iprop(∃ K : Names, records m K ∗ (bigSep Finset.univ fun k => atPos ER (cell c k) 0 ∅ 0)
    ∗ (bigSep Finset.univ fun j => dutyTok ER (cell c (.inl j)) 0 ())
    ∗ (bigSep Finset.univ fun j => dutyTok ER (cell (other j c) (.inr j)) 0 ())
    ∗ (((c : Thread nD τ).loc main_arg0) ↦{fullShare} start m c main_arg0)
    ∗ bigSep Finset.univ fun j => resPts (other j c) j (start m (other j c) main_v1))

/-- What it ends with: its argument as it was, and its whole result. -/
def left (c : Dev nD) : sProp 𝕄 :=
  iprop((((c : Thread nD τ).loc main_arg0) ↦{fullShare} start m c main_arg0) ∗ (((c : Thread nD τ).loc main_v1) ↦{fullShare} final m c))

def dats (_ : Fin 1) (c : Dev nD) : Dat τ (Elt F) Unit ℕ UU ℕ cfg0 c where
  A w := w.elim0
  after w := w.elim0
  Φ t := match t with
    | ⟨0, _⟩ => iprop(Pipeline.launchCred O₀ c ∗ held m c)
    | ⟨_ + 1, _⟩ => iprop(left m c ∗ Pipeline.ownSems0 osem c)
  q _ := fullShare
  owed t := match t with
    | ⟨0, _⟩ => O₀ c
    | ⟨_ + 1, _⟩ => 0

theorem dev1 : ∀ c : Dev nD, (⟨k0_dev1 c, k0_dev1_lt c⟩ : Dev nD) = other 0 c := by
  intro c; refine Fin.ext ((k0_dev1_eq c).trans ?_); revert c; decide
theorem dev2 : ∀ c : Dev nD, (⟨k0_dev2 c, k0_dev2_lt c⟩ : Dev nD) = other 1 c := by
  intro c; refine Fin.ext ((k0_dev2_eq c).trans ?_); revert c; decide
theorem dev3 : ∀ c : Dev nD, (⟨k0_dev3 c, k0_dev3_lt c⟩ : Dev nD) = other 2 c := by
  intro c; refine Fin.ext ((k0_dev3_eq c).trans ?_); revert c; decide
theorem off1 (c : Dev nD) : k0_off1 c = ![(other 0 c).val, 0, 0] := by
  rw [← dev1, k0_off1_eq, ← k0_dev1_eq]
theorem off2 (c : Dev nD) : k0_off2 c = ![(other 1 c).val, 0, 0] := by
  rw [← dev2, k0_off2_eq, ← k0_dev2_eq]
theorem off3 (c : Dev nD) : k0_off3 c = ![(other 2 c).val, 0, 0] := by
  rw [← dev3, k0_off3_eq, ← k0_dev3_eq]

theorem six (Φ : Fin 3 ⊕ Fin 3 → sProp 𝕄) : bigSep Finset.univ Φ
    = iprop((Φ (.inl 0) ∗ Φ (.inl 1) ∗ Φ (.inl 2)) ∗ Φ (.inr 0) ∗ Φ (.inr 1) ∗ Φ (.inr 2)) := by
  rw [bigSep_univ_sum, Ring.bigSep_fin3, Ring.bigSep_fin3]; rfl

set_option maxHeartbeats 1600000 in
theorem body_obligation (c : Dev nD) : BodyObligation (dats (F := F) m 0 c) (defs₀ (F := F)) Variants.none () Set.univ := fun t => by
  rw [fin_N0 t]
  show iprop(iprop(Pipeline.launchCred O₀ c ∗ held m c) ∗ (dats (F := F) m 0 c).owesAt () t0_0.castSucc ∗ bigSep (Finset.univ : Finset (Fin 0)) _)
    ⊢ wp frame (wpE (defs₀ (F := F)) Variants.none (c : Thread nD τ) none) Set.univ
      (cc0_grad_exchange_last (Memref.whole main_arg0) (Memref.isWhole_whole _) (Memref.whole main_v1) (Memref.isWhole_whole _) cc0_scratch0 cc0_scratch1)
      (fun _ => iprop(iprop(left m c ∗ Pipeline.ownSems0 osem c) ∗ (dats (F := F) m 0 c).owesAt () t0_0.succ ∗ bigSep (Finset.univ : Finset (Fin 0)) _))
  simp only [cc0_grad_exchange_last_eq_skeleton]; unfold cc0_grad_exchange_last_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold held
  rw [six, Ring.bigSep_fin3, Ring.bigSep_fin3, Ring.bigSep_fin3]
  iintro ⟨⟨Hcr, ⟨%K, #HK, ⟨⟨A0, A1, A2⟩, B0, B1, B2⟩, ⟨S0, S1, S2⟩, ⟨T0, T1, T2⟩, Ha, R0, R1, R2⟩⟩, Ho, -⟩
  ihave Hcr := (creds c) $$ Hcr
  icases Hcr with ⟨C0, C1, C2⟩
  ihave Ha := (arg_split m c).1 $$ Ha
  icases Ha with ⟨P0, P1, P2, Hkept⟩
  unfold Dat.owesAt Pipeline.owesWithin
  icases Ho with ⟨%W, %hW, HO⟩
  rw [show (dats m 0 c).owed t0_0.castSucc = due 2 c + due 1 c + due 0 c from rfl]
  iapply (send m K c _ 0 (dev1 c) _ (off1 c) rfl rfl _ (due 2 c + due 1 c) W) $$ [P0 R0 HO S0 T0]
  · isplitr; · iexact HK
    isplitl [P0]; · iexact P0
    isplitl [R0]; · iexact R0
    isplitl [HO]; · iexact HO
    isplitl [S0] <;> iassumption
  iintro ⟨D0, HO⟩
  iapply (send m K c _ 1 (dev2 c) _ (off2 c) rfl rfl _ (due 2 c) W) $$ [P1 R1 HO S1 T1]
  · isplitr; · iexact HK
    isplitl [P1]; · iexact P1
    isplitl [R1]; · iexact R1
    isplitl [HO]; · iexact HO
    isplitl [S1] <;> iassumption
  iintro ⟨D1, HO⟩
  rw [show due 2 c = 0 + due 2 c from (zero_add _).symm]
  iapply (send m K c _ 2 (dev3 c) _ (off3 c) rfl rfl _ 0 W) $$ [P2 R2 HO S2 T2]
  · isplitr; · iexact HK
    isplitl [P2]; · iexact P2
    isplitl [R2]; · iexact R2
    isplitl [HO]; · iexact HO
    isplitl [S2] <;> iassumption
  iintro ⟨D2, HO⟩
  iapply (await m K c (.inl 0) rfl _) $$ [D0 HO A0]
  · isplitr; · iexact HK
    isplitl [D0]; · iexact D0
    isplitl [HO] <;> iassumption
  iintro ⟨HO, A0, P0⟩
  iapply (await m K c (.inr 0) rfl _) $$ [C0 HO B0]
  · isplitr; · iexact HK
    isplitl [C0]; · iexact C0
    isplitl [HO] <;> iassumption
  iintro ⟨HO, B0, R0⟩
  iapply (await m K c (.inl 1) rfl _) $$ [D1 HO A1]
  · isplitr; · iexact HK
    isplitl [D1]; · iexact D1
    isplitl [HO] <;> iassumption
  iintro ⟨HO, A1, P1⟩
  iapply (await m K c (.inr 1) rfl _) $$ [C1 HO B1]
  · isplitr; · iexact HK
    isplitl [C1]; · iexact C1
    isplitl [HO] <;> iassumption
  iintro ⟨HO, B1, R1⟩
  iapply (await m K c (.inl 2) rfl _) $$ [D2 HO A2]
  · isplitr; · iexact HK
    isplitl [D2]; · iexact D2
    isplitl [HO] <;> iassumption
  iintro ⟨HO, A2, P2⟩
  iapply (await m K c (.inr 2) rfl _) $$ [C2 HO B2]
  · isplitr; · iexact HK
    isplitl [C2]; · iexact C2
    isplitl [HO] <;> iassumption
  iintro ⟨HO, B2, R2⟩
  rw [wp_ret]; imodintro
  isplitr [HO]
  · unfold left Pipeline.ownSems0
    rw [six]
    isplitr [A0 A1 A2 B0 B1 B2]
    · isplitr [R0 R1 R2]
      · iapply (arg_split m c).2
        unfold pay
        isplitl [P0]; · iexact P0
        isplitl [P1]; · iexact P1
        isplitl [P2]; · iexact P2
        iexact Hkept
      · iapply (res_split c (final m c)).2
        unfold pay
        isplitl [R0]; · iexact R0
        isplitl [R1]; · iexact R1
        iexact R2
    · isplitl [A0 A1 A2]
      · isplitl [A0]; · iexact A0
        isplitl [A1]; · iexact A1
        iexact A2
      · isplitl [B0]; · iexact B0
        isplitl [B1]; · iexact B1
        iexact B2
  isplitl [HO]
  · iexists (insert (osem (.inr 2), ()) (insert (osem (.inl 2), ()) (insert (osem (.inr 1), ()) (insert (osem (.inl 1), ())
      (insert (osem (.inr 0), ()) (insert (osem (.inl 0), ()) W))))))
    isplitr; · ipureintro; exact fun _ _ => Or.inl trivial
    iexact HO
  rw [Finset.univ_eq_empty, bigSep_empty]; iempintro

end Cert.SwapProof
-- ==== Proof.SwapRun.lean ====
/-
  The run of the exchange: the rights and the memory are dealt out, every device runs, and the results are read off.
-/
module

public import proofs.«01_k».proof.Proof.SwapBody

@[expose] public section

set_option maxRecDepth 16384

noncomputable section

namespace Cert.SwapProof

open Cert.SwapK Cert.SwapK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ)

/-! ## Dealing out -/

/-- What each device has three of, one for each exchange, may as well be held by the device it is exchanged with. -/
theorem around (Φ : Dev nD → Fin 3 → sProp 𝕄) : (bigSep Finset.univ fun c => bigSep Finset.univ fun j => Φ c j)
    = bigSep Finset.univ fun c => bigSep Finset.univ fun j => Φ (other j c) j := by
  rw [bigSep_univ_comm, bigSep_univ_comm (fun c j => Φ (other j c) j)]
  exact bigSep_congr fun j _ => bigSep_univ_equiv (swap j) (fun c => Φ c j)

/-- Each cell's one duty. -/
def duties (_ : Dev nD) : Finset ((Fin 3 ⊕ Fin 3) × ℕ × Unit) := Finset.univ.map ⟨fun k => (k, 0, ()), fun _ _ h => congrArg Prod.fst h⟩

def u₀ : UU := (initOf (Pipeline.cells cfgs cellOf_inj) (Pipeline.launchToks cfgs cellOf_inj),
  initOf (Pipeline.ownCells cfgs 0 osem_facts) (Pipeline.ownToksOf cfgs 0 osem_facts duties))

def toks (c : Dev nD) : sProp 𝕄 := bigSep Finset.univ fun k => dutyTok ER (cell c k) 0 ()

def funds : sProp 𝕄 :=
  iprop((bigSep Finset.univ fun c : Dev nD => bigSep Finset.univ fun k => roundState ER (Rd m) (cell c k) 0)
    ∗ (bigSep Finset.univ fun c : Dev nD => bigSep Finset.univ fun k => atPos ER (cell c k) 0 ∅ 0)
    ∗ (bigSep Finset.univ fun c : Dev nD => bigSep Finset.univ fun k => reached ER (cell c k) 0)
    ∗ bigSep Finset.univ fun c : Dev nD => toks c)

theorem ghost_split (c : Dev nD) : (Pipeline.ownGhost cfgs 0 osem_facts ER (Rd m) c : sProp 𝕄)
    = iprop((bigSep Finset.univ fun k => roundState ER (Rd m) (cell c k) 0)
      ∗ (bigSep Finset.univ fun k => atPos ER (cell c k) 0 ∅ 0) ∗ bigSep Finset.univ fun k => reached ER (cell c k) 0) := by
  rw [Pipeline.ownGhost_eq, bigSep_sep']; rfl

theorem toks_split : bigSep (Pipeline.ownToksOf cfgs 0 osem_facts duties) (fun x => (dutyTok ER x.1 x.2.1 x.2.2 : sProp 𝕄))
    = bigSep Finset.univ fun c : Dev nD => toks c := by
  rw [Pipeline.bigSep_ownToksOf]
  refine bigSep_congr fun c _ => ?_
  unfold duties toks
  rw [bigSep_map]; rfl

theorem fund : (ownU u₀ : sProp 𝕄)
    ⊢ |={Set.univ}=> iprop(BI.own (EP (initOf (Pipeline.cells cfgs cellOf_inj) (Pipeline.launchToks cfgs cellOf_inj))) ∗ funds m) := by
  unfold u₀ funds
  iintro Hu
  ihave H := (ownU_pair _ _) $$ Hu
  icases H with ⟨HP, HX⟩
  imod (Pipeline.fund_own cfgs 0 osem_facts ER (Rd m) (Pipeline.ownToksOf cfgs 0 osem_facts duties)) $$ HX with ⟨Hg, Ht⟩
  imodintro
  isplitl [HP]; · iexact HP
  have hg := (bigSep_congr (s := Finset.univ) fun c _ => ghost_split m c).trans ((bigSep_sep' _ _ _).trans (congrArg (fun R => iprop(_ ∗ R)) (bigSep_sep' _ _ _)))
  ihave Hg := (Entails.of_eq hg) $$ Hg
  icases Hg with ⟨Hr, Hat, Hre⟩
  isplitl [Hr]; · iexact Hr
  isplitl [Hat]; · iexact Hat
  isplitl [Hre]; · iexact Hre
  iapply (Entails.of_eq toks_split)
  iexact Ht

/-- The semaphores' counters and round states make the cells, each under some name. -/
theorem names : iprop((bigSep Finset.univ fun c : Dev nD => Pipeline.ownSems0 osem c)
      ∗ (bigSep Finset.univ fun c : Dev nD => bigSep Finset.univ fun k => roundState ER (Rd m) (cell c k) 0)
      ∗ (bigSep Finset.univ fun c : Dev nD => bigSep Finset.univ fun k => reached ER (cell c k) 0))
    ⊢ (|={Set.univ}=> iprop(∃ K : Names, records m K) : sProp 𝕄) := by
  have hc : iprop((bigSep Finset.univ fun c : Dev nD => Pipeline.ownSems0 osem c)
      ∗ (bigSep Finset.univ fun c : Dev nD => bigSep Finset.univ fun k => roundState ER (Rd m) (cell c k) 0))
      ⊢ (|={Set.univ}=> bigSep Finset.univ fun ck : Dev nD × (Fin 3 ⊕ Fin 3) => iprop(∃ κ : ℕ, cellInv ER (Rd m) κ (cell ck.1 ck.2)) : sProp 𝕄) := by
    rw [← bigSep_sep', bigSep_univ_prod]
    exact (bigSep_mono fun c _ => Pipeline.ownCells_alloc cfgs 0 osem_facts ER (Rd m) c).trans (bigSep_fupd _ _)
  iintro ⟨Hs, Hr, Hre⟩
  imod hc $$ [Hs Hr] with H
  · isplitl [Hs] <;> iassumption
  imodintro
  ihave H := (BI.bigSep_exists_pi Finset.univ (fun (ck : Dev nD × (Fin 3 ⊕ Fin 3)) (κ : ℕ) => (cellInv ER (Rd m) κ (cell ck.1 ck.2) : sProp 𝕄))) $$ H
  icases H with ⟨%K, HI⟩
  iexists K
  unfold records record
  rw [bigSep_sep', bigSep_univ_prod (fun ck : Dev nD × (Fin 3 ⊕ Fin 3) => (reached ER (cell ck.1 ck.2) 0 : sProp 𝕄))]
  isplitl [HI] <;> iassumption

/-- The two buffers of a device at the start. -/
theorem bufs (c : Dev nD) : (unscopedBufs c (start m c) : sProp 𝕄)
    ⊢ iprop((((c : Thread nD τ).loc main_arg0) ↦{fullShare} start m c main_arg0) ∗ bigSep Finset.univ fun j => resPts c j (start m c main_v1)) := by
  rw [Pipeline.unscopedBufs_split₀ cfgs 0 (fun w => w.elim0) c (start m c), Ring.bigSep_fin3]
  iintro ⟨-, H⟩
  ihave H := (Entails.of_eq (unscopedRest0_eq c (start m c))) $$ H
  icases H with ⟨Ha, Hr⟩
  isplitl [Ha]; · iexact Ha
  iapply (res_split c (start m c main_v1)).1
  iexact Hr

theorem dealt : iprop((bigSep Finset.univ fun c => Pipeline.ownSems0 osem c) ∗ (bigSep Finset.univ fun c => unscopedBufs c (start m c)) ∗ funds m)
    ⊢ (|={Set.univ}=> bigSep Finset.univ fun c => held m c : sProp 𝕄) := by
  have hb : (bigSep Finset.univ fun c => unscopedBufs c (start m c))
      ⊢ (iprop((bigSep Finset.univ fun c : Dev nD => ((c : Thread nD τ).loc main_arg0) ↦{fullShare} start m c main_arg0)
        ∗ bigSep Finset.univ fun c : Dev nD => bigSep Finset.univ fun j => resPts (other j c) j (start m (other j c) main_v1)) : sProp 𝕄) :=
    (bigSep_mono (s := Finset.univ) fun (c : Dev nD) _ => bufs m c).trans (Entails.of_eq ((bigSep_sep' _ _ _).trans
    (congrArg (fun R => iprop(_ ∗ R)) (around fun c j => (resPts c j (start m c main_v1) : sProp 𝕄)))))
  have ht : (bigSep Finset.univ fun c : Dev nD => (toks c : sProp 𝕄))
      = iprop((bigSep Finset.univ fun c : Dev nD => bigSep Finset.univ fun j => dutyTok ER (cell c (.inl j)) 0 ())
        ∗ bigSep Finset.univ fun c : Dev nD => bigSep Finset.univ fun j => dutyTok ER (cell (other j c) (.inr j)) 0 ()) := by
    rw [← around fun c j => (dutyTok ER (cell c (.inr j)) 0 () : sProp 𝕄), ← bigSep_sep']
    refine bigSep_congr fun c _ => ?_
    unfold toks
    rw [bigSep_univ_sum]; rfl
  have hk (K : Names) : iprop(records m K ∗ (bigSep Finset.univ fun c : Dev nD => bigSep Finset.univ fun k => atPos ER (cell c k) 0 ∅ 0)
        ∗ (bigSep Finset.univ fun c : Dev nD => bigSep Finset.univ fun j => dutyTok ER (cell c (.inl j)) 0 ())
        ∗ (bigSep Finset.univ fun c : Dev nD => bigSep Finset.univ fun j => dutyTok ER (cell (other j c) (.inr j)) 0 ())
        ∗ (bigSep Finset.univ fun c : Dev nD => ((c : Thread nD τ).loc main_arg0) ↦{fullShare} start m c main_arg0)
        ∗ bigSep Finset.univ fun c : Dev nD => bigSep Finset.univ fun j => resPts (other j c) j (start m (other j c) main_v1))
      ⊢ (bigSep Finset.univ fun c => held m c : sProp 𝕄) := by
    refine (sep_mono_left (BI.bigSep_of_persistent (Finset.univ : Finset (Dev nD)) (records m K))).trans ?_
    simp only [← bigSep_sep']
    have h (c : Dev nD) : iprop(records m K ∗ (bigSep Finset.univ fun k => atPos ER (cell c k) 0 ∅ 0)
        ∗ (bigSep Finset.univ fun j => dutyTok ER (cell c (.inl j)) 0 ())
        ∗ (bigSep Finset.univ fun j => dutyTok ER (cell (other j c) (.inr j)) 0 ())
        ∗ (((c : Thread nD τ).loc main_arg0) ↦{fullShare} start m c main_arg0)
        ∗ bigSep Finset.univ fun j => resPts (other j c) j (start m (other j c) main_v1)) ⊢ (held m c : sProp 𝕄) := by
      unfold held
      iintro H
      iexists K
      iexact H
    exact bigSep_mono fun c _ => h c
  unfold funds
  rw [ht]
  iintro ⟨Hs, Hb, Hr, Hat, Hre, Hsnd, Hrcv⟩
  imod (names m) $$ [Hs Hr Hre] with ⟨%K, HK⟩
  · isplitl [Hs]; · iexact Hs
    isplitl [Hr] <;> iassumption
  imodintro
  ihave Hb := hb $$ Hb
  icases Hb with ⟨Ha, Hres⟩
  iapply (hk K)
  isplitl [HK]; · iexact HK
  isplitl [Hat]; · iexact Hat
  isplitl [Hsnd]; · iexact Hsnd
  isplitl [Hrcv]; · iexact Hrcv
  isplitl [Ha] <;> iassumption

/-! ## The run -/

theorem read (c : Dev nD) (s' : Phys nD τ sig (Elt F)) : iprop(left m c ∗ SI s')
    ⊢ (|={Set.univ}=> iprop(⌜s'.mem.mem ((c : Thread nD τ).loc main_arg0) = start m c main_arg0
      ∧ s'.mem.mem ((c : Thread nD τ).loc main_v1) = final m c⌝ ∗ SI s') : sProp 𝕄) := by
  have h (b : Ref sig .tc) (f : Buf (Elt F) ((c : Thread nD τ).loc b)) : iprop((((c : Thread nD τ).loc b) ↦{fullShare} f) ∗ SI s')
      ⊢ (iprop(⌜s'.mem.mem ((c : Thread nD τ).loc b) = f⌝ ∗ SI s') : sProp 𝕄) := by
    have e := pointsTo_read_all (Ix := Unit) (Name := ℕ) (U := UU) (Lvl := ℕ) ({()} : Finset Unit) (fun _ => (c : Thread nD τ).loc b) (fun _ => f) s'
    rw [bigSep_singleton] at e
    refine e.trans ?_
    iintro ⟨%hm, H⟩
    isplitr; · ipureintro; exact hm () (Finset.mem_singleton_self _)
    iexact H
  unfold left
  iintro ⟨⟨Ha, Hr⟩, HS⟩
  ihave H := (h main_arg0 _) $$ [Ha HS]
  · isplitl [Ha] <;> iassumption
  icases H with ⟨%h1, HS⟩
  ihave H := (h main_v1 _) $$ [Hr HS]
  · isplitl [Hr] <;> iassumption
  icases H with ⟨%h2, HS⟩
  imodintro
  isplitr; · ipureintro; exact ⟨h1, h2⟩
  iexact HS

/-- From any memory with every semaphore at zero the exchange ends: every device's result is made of the slices of the
    others' arguments, every argument is as it was and every semaphore is at zero again. -/
theorem run (ρ : Dev nD → PrngReg) : θ_run (defs (F := F)) (onTc (main (F := F))) ⟨m, fun _ => 0, ρ⟩ fun r =>
    (∀ c : Dev nD, r.2.mem ((c : Thread nD τ).loc main_arg0) = start m c main_arg0 ∧ r.2.mem ((c : Thread nD τ).loc main_v1) = final m c)
      ∧ r.2.sem = fun _ => 0 :=
  launch m ρ (dats m) (body_obligation m) O₀ (fun _ => rfl) (fun _ => rfl) u₀ (funds m) (held m) (left m) (fund m) (dealt m)
    (fun c => Entails.refl _) (fun c => Entails.refl _)
    (fun c M => M.mem ((c : Thread nD τ).loc main_arg0) = start m c main_arg0 ∧ M.mem ((c : Thread nD τ).loc main_v1) = final m c) (read m)
    fun s hs hz => ⟨hs, funext fun g => hz g (by
      by_cases h : g.1.2 = .tc
      · exact Or.inr ((by decide : ∀ sm : SemLoc sig, sm.isScoped .tc = true) g.2)
      · exact Or.inl h)⟩

end Cert.SwapProof
-- ==== Proof.SwapClaim.lean ====
/-
  The claims about the exchange, against slices of the whole array put one after another.
-/
module

public import proofs.«01_k».proof.Proof.SwapRun
public import proofs.«01_k».proof.Proof.Gen.SwapR.Run
public import proofs.«01_k».proof.Defs
public import Idealize.ShloMosaic.Lib.Pipeline.Value

@[expose] public section

set_option maxRecDepth 16384

noncomputable section

namespace Cert.SwapProof

open Idealize.ShloMosaic Idealize.ShloMosaic.TcCoe Idealize.SL.Sem

/-- The exchange ends with its argument unchanged and its semaphores at zero. -/
theorem quiet : Cert.quiescent_SwapK := fun m ρ _ =>
  (θ_run _ _ _).mono (fun _ h => ⟨fun c => (h.1 c).1, h.2⟩) (run (F := Bits) m ρ)

/-- The reference ends with its argument unchanged; it has no semaphores. -/
theorem reference : Cert.quiescent_SwapR := fun m ρ _ =>
  (θ_run _ _ _).mono (fun r h => ⟨fun c => (h c).2, sem_eq_zero_of_no_sems (by decide) r.2⟩) (Cert.SwapR.Value.run m ρ)

/-! ## The two results -/

/-- The slices of the whole argument, in the order in which the whole result has them. -/
def order : Fin 12 → Fin 16 := ![8, 4, 12, 13, 1, 9, 2, 14, 6, 7, 11, 3]

theorem order_eq : ∀ (c : Fin 4) (j : Fin 3) (n : Fin 12), c.val * 3 + j.val = n.val → (order n).val = (other j c).val * 4 + c.val := by decide

theorem slices : ∀ n : Fin 12, Cert.SwapR.S16x128x1024.Slices ![(order n).val, 0, 0] Cert.SwapR.S1x128x1024 := by decide

variable {α : Type} (A : Cert.SwapR.S16x128x1024.Idx → α)

def slice (n : Fin 12) : Cert.SwapR.S1x128x1024.Idx → α := extractStridedSlice Cert.SwapR.S1x128x1024 ![(order n).val, 0, 0] A (slices n)

/-- An element of slices put one after another. -/
theorem slices_at (h : Shape.Concatenates ((List.ofFn fun n : Fin 12 => (⟨Cert.SwapR.S1x128x1024, slice A n⟩ : (s : Shape) × (s.Idx → α))).map (·.1)) Cert.SwapR.S12x128x1024 0)
    (i : Cert.SwapR.S12x128x1024.Idx) (k : Cert.SwapR.S16x128x1024.Idx) (n : Fin 12) (hn : (i 0).val = n.val) (h0 : (k 0).val = (order n).val)
    (h1 : (k 1).val = (i 1).val) (h2 : (k 2).val = (i 2).val) :
    concatenate Cert.SwapR.S12x128x1024 0 (List.ofFn fun n : Fin 12 => (⟨Cert.SwapR.S1x128x1024, slice A n⟩ : (s : Shape) × (s.Idx → α))) h i = A k := by
  let y : Cert.SwapR.S1x128x1024.Idx := fun a => match a with
    | ⟨0, _⟩ => (0 : Fin 1)
    | ⟨1, _⟩ => (i 1 : Fin 128)
    | ⟨2, _⟩ => (i 2 : Fin 1024)
  refine (concatenate_ofFn_unit_apply 0 (slice A) h rfl rfl i n hn y fun b hb => ?_).trans
    (extractStridedSlice_apply _ A (slices n) y k fun a => ?_)
  · match b with
    | ⟨0, _⟩ => exact absurd rfl hb
    | ⟨1, _⟩ => rfl
    | ⟨2, _⟩ => rfl
  · match a with
    | ⟨0, _⟩ => exact h0
    | ⟨1, _⟩ => exact h1.trans (Nat.zero_add _).symm
    | ⟨2, _⟩ => exact h2.trans (Nat.zero_add _).symm

/-- On the parts of one array, the exchange ends with every device's part of the whole array's slices in the reference's
order. -/
theorem value : Cert.bitexact_SwapK_SwapR := by
  intro m ρ m' ρ' _ ha
  refine ⟨_, (θ_run _ _ _).mono (fun r h c => ⟨(h.1 c).2.trans ?_, (h.1 c).1⟩) (run (F := Bits) m ρ), (θ_run _ _ _).mono (fun r h => h 0) (Cert.SwapR.Value.run m' ρ')⟩
  funext i
  unfold final
  refine (congrFun (ha (other (show Fin 3 from i 0) c)) (origin c i)).trans ?_
  rw [Layout.block_apply, Layout.block_apply]
  refine (slices_at (m' (((0 : Dev Cert.SwapR.nD).tc : Thread Cert.SwapR.nD Cert.SwapR.τ).loc Cert.SwapR.main_arg0)) _ _ _
    ⟨c.val * 3 + (i 0).val, by have : c.val < 4 := c.isLt; have : (i 0).val < 3 := (i 0).isLt; omega⟩ rfl ?_ rfl rfl).symm
  exact (order_eq c (show Fin 3 from i 0) _ rfl).symm

end Cert.SwapProof
-- ==== Proof.PackLaunch.lean ====
/-
  The launch of the gather.

  Every device copies straight into another device's result, and no device tells another that it is ready. So what a
  device needs for its first copy is another device's memory, and it has to be dealt out before any device runs: the
  step that runs once for the whole machine is given every device's semaphores and every device's buffers.
-/
module

public import proofs.«01_k».proof.Proof.Gen.PackK
public import proofs.«01_k».proof.Proof.Gen.PackK.Skeleton
public import proofs.«01_k».proof.Proof.Gen.PackK.Launch
public import Idealize.ShloMosaic.Lib.Pipeline.Launch
public import Idealize.ShloMosaic.Lib.Pipeline.Kit
public import Idealize.ShloMosaic.Lib.Pipeline.RegionArrays
public import Idealize.ShloMosaic.Lib.Tactic

@[expose] public section

set_option maxRecDepth 16384
set_option Elab.async false

noncomputable section

namespace Cert.PackProof

open Cert.PackK Cert.PackK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The fifteen semaphores that a device uses: seven count what it has sent to the others and one what it has copied into
    its own result, seven what it has received. -/
abbrev osem : Fin 8 ⊕ Fin 7 → SemLoc sig := fun k => .dma ((finSumFinEquiv k : Fin (8 + 7)).castSucc : Fin 16)

theorem osem_facts : Pipeline.OwnSemFacts cfg0.spec osem := by decide

/-- The contents of a device's buffers at the start. -/
abbrev start (m : (ℓ : Loc nD τ sig) → Buf (Elt F) ℓ) (c : Dev nD) (b : Ref sig .tc) : Buf (Elt F) ((c : Thread nD τ).loc b) :=
  m ((c : Thread nD τ).loc b)

/-- What every device holds three of is three things held by every device. -/
theorem deal_three (A B C : Dev nD → sProp 𝕄) : (bigSep Finset.univ fun c => iprop(A c ∗ B c ∗ C c))
    ⊢ iprop((bigSep Finset.univ A) ∗ (bigSep Finset.univ B) ∗ bigSep Finset.univ C) := by
  rw [bigSep_sep', bigSep_sep']

section Step

variable {P : Type} {Λ₀ : Labels} [Fintype P] [DecidableEq P] (cs : P → Pipeline.Cfg sig Λ₀)
  (dats : (p : P) → (c : Dev nD) → Dat τ (Elt F) Unit ℕ UU ℕ (cs p) c) (E' : Emb (UR sig nD τ) (MT nD τ sig Unit (Elt F) ℕ UU ℕ)) (κ : GSem nD τ sig → ℕ)
  (hinj : Function.Injective (cellOf (nD := nD) (τ := τ) cs)) (p : P) (d₀ : Defs nD τ sig (Elt F) Λ₀)

include hinj in
/-- The call of a kernel that prefetches nothing, with the semaphores it does not use set aside. -/
theorem region_step (c : Dev nD) (hbody : Pipeline.BodyObligationLoose (dats p c) d₀ Variants.none () Set.univ)
    (hne : ∀ w, 0 < ((cs p).win w).block.numel) {X Y R I : sProp 𝕄} (hin : X ⊢ (dats p c).Φ 0)
    (hbufs : (scopedBufs (c : Thread nD τ) : sProp 𝕄) ⊢ iprop(Dat.staging (cs p) c ∗ R))
    (hout : iprop((dats p c).Φ (Fin.last _) ∗ Pipeline.cellsSems0 cs p c ∗ Dat.staging (cs p) c ∗ I)
      ⊢ iprop(Y ∗ scopedSems0 (c : Thread nD τ) ∗ scopedBufs (c : Thread nD τ)))
    (Q : PUnit → sProp 𝕄) :
    iprop(Pipeline.EntryPre cs dats () E' κ p c ∗ X ∗ I ∗ scopedBufs (c : Thread nD τ))
      ⊢ iprop(((Pipeline.EntryPost cs dats () p c ∗ Y ∗ scopedSems0 (c : Thread nD τ) ∗ scopedBufs (c : Thread nD τ))
            -∗ wp frame (wpE (Pipeline.defs (fun q => (cs q).toPCfg (Val := Elt F)) d₀) (Variants.lift Variants.none) (c : Thread nD τ) none)
              Set.univ (.ret ⟨⟩) Q)
        -∗ wp frame (wpE (Pipeline.defs (fun q => (cs q).toPCfg (Val := Elt F)) d₀) (Variants.lift Variants.none) (c : Thread nD τ) none)
              Set.univ (.op (.customCall (Pipeline.entry p) ()) fun _ => .ret ⟨⟩) Q) := by
  have h := (Pipeline.wp_customCall_entry_frame (fun q => (cs q).toPCfg (Val := Elt F)) (fun q => (cs q).toPCfg_adm) dats () E' κ hinj p
    d₀ Variants.none (fun _ => fullShare) c Set.univ (fun _ _ => Set.mem_univ _) hbody hne none (fun u h => nomatch h)
    (X := X) (Y := Y) (R := R) (I := I) hbufs (by iintro ⟨HX, -, -⟩; iapply hin; iexact HX) hout
    (k := fun _ => .ret ⟨⟩) (Q := Q))
  iintro ⟨HE, HX, HI, HB⟩
  iapply h
  isplitl [HE]; · iexact HE
  isplitr
  · rw [Pipeline.prefHeld_of_none _ rfl]; iempintro
  isplitl [HX]; · iexact HX
  isplitl [HI] <;> iassumption

end Step

theorem launch (m : (ℓ : Loc nD τ sig) → Buf (Elt F) ℓ) (ρ : Dev nD → PrngReg)
    (dats : (p : Fin 1) → (c : Dev nD) → Dat τ (Elt F) Unit ℕ UU ℕ (cfgs p) c)
    (hbody : ∀ c, BodyObligation (dats 0 c) defs₀ Variants.none () Set.univ)
    (O₀ : Dev nD → CellTallies nD τ sig Unit) (howed₀ : ∀ c, (dats 0 c).owed 0 = O₀ c)
    (howedN : ∀ c, (dats 0 c).owed (Fin.last _) = 0)
    (u₀ : UU) (G : sProp 𝕄) (G' Y : Dev nD → sProp 𝕄)
    (hu₀ : (ownU u₀ : sProp 𝕄)
      ⊢ |={Set.univ}=> iprop(BI.own (EP (initOf (Pipeline.cells cfgs cellOf_inj) (Pipeline.launchToks cfgs cellOf_inj))) ∗ G))
    (hglob : iprop((bigSep Finset.univ fun c => Pipeline.ownSems0 osem c)
        ∗ (bigSep Finset.univ fun c => unscopedBufs c (start m c)) ∗ G) ⊢ |={Set.univ}=> bigSep Finset.univ G')
    (hin : ∀ c, iprop(Pipeline.launchCred O₀ c ∗ G' c) ⊢ (dats 0 c).Φ 0)
    (hout : ∀ c, (dats 0 c).Φ (Fin.last _) ⊢ iprop(Y c ∗ Pipeline.ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s)
      → (∀ g' : GSem nD τ sig, (g'.1.2 ≠ .tc ∨ g'.2.isScoped .tc = true) → s.sem g' = 0) → Q (⟨⟩, s)) :
    θ_run (defs (F := F)) (onTc (main (F := F))) ⟨m, fun _ => 0, ρ⟩ Q := by
  classical
  have hss (c : Dev nD) : (scopedSems0 (c : Thread nD τ) : sProp 𝕄)
      = iprop((Pipeline.cellsSems0 cfgs 0 c ∗ Pipeline.ownSems0 osem c) ∗ Pipeline.idleSems0 cfgs cellOf_inj 0 osem_facts c) :=
    Pipeline.scopedSems0_split cfgs cellOf_inj 0 winFacts0.to₀ osem_facts c
  have hsb (c : Dev nD) : (scopedBufs (c : Thread nD τ) : sProp 𝕄)
      = iprop(Dat.staging (cfgs 0) c ∗ Pipeline.scopedRest (cfgs 0).spec c) :=
    Pipeline.scopedBufs_split cfgs 0 winFacts0.stage_scoped winFacts0.stage_inj stage_whole0 c
  let kept : Dev nD → sProp 𝕄 := fun c => iprop(scopedBufs (c : Thread nD τ) ∗ Pipeline.cellsSems0 cfgs 0 c
    ∗ Pipeline.idleSems0 cfgs cellOf_inj 0 osem_facts c ∗ owes (c : Thread nD τ) (O₀ c) ∅ ∗ Pipeline.launchCred O₀ c)
  let pre : Dev nD → sProp 𝕄 := fun c => iprop(kept c
    ∗ Pipeline.cellsGhost cfgs EP 0 c ∗ Pipeline.toksInit cfgs EP 0 c ∗ G' c)
  let fin : Dev nD → sProp 𝕄 := fun c => iprop(Y c ∗ scopedSems0 (c : Thread nD τ))
  refine (θ_run (defs (F := F)) _ _).mono
    (Q := fun r => (∀ c : Dev nD, QY c r.2 ∧ ∀ sm : SemLoc sig, sm.isScoped .tc = true → r.2.sem ((c : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (defs (F := F)) _ _ _
      (reflect_intro_fupd_tc_sems (X := Unit) (Variants.lift Variants.none) (Pipeline.owing O₀) 0 (noBookings fun _ => le_rfl)
        (Pipeline.owing_of_ne O₀) u₀ (fun _ => pre) (fun _ => fin) (fun _ => iprop(emp)) Set.univ ?_ (fun _ c => ?_) fun _ => ?_))
  · have hcore (c : Dev nD) :
        coreInit (Ix := Unit) (Name := ℕ) (U := UU) (Lvl := ℕ) (Pipeline.owing O₀) 0 (⟨m, fun _ => 0, ρ⟩ : MemSt nD τ sig (Elt F)) (c : Thread nD τ)
          ⊢ iprop(kept c ∗ Pipeline.ownSems0 osem c ∗ unscopedBufs c (start m c)) := by
      refine (Pipeline.coreInit_boundary_owing O₀ m ρ c).trans ?_
      unfold boundary
      rw [hss c]
      iintro ⟨⟨Hsc, ⟨⟨Hcells, Hos⟩, Hidle⟩, -⟩, Hub, -, HO, -, -, Hcr⟩
      isplitr [Hos Hub]
      · simp only [kept]
        isplitl [Hsc]; · iexact Hsc
        isplitl [Hcells]; · iexact Hcells
        isplitl [Hidle]; · iexact Hidle
        isplitl [HO] <;> iassumption
      · isplitl [Hos] <;> iassumption
    have hpick (Ψ : Fin 1 → Dev nD → sProp 𝕄) :
        (bigSep Finset.univ fun c : Dev nD => bigSep Finset.univ fun p => Ψ p c) ⊢ bigSep Finset.univ fun c : Dev nD => Ψ 0 c :=
      bigSep_mono fun c _ => BI.bigSep_elim (Finset.mem_univ 0)
    have hcores : (bigSep Finset.univ (fun c : Dev nD =>
          coreInit (Ix := Unit) (Name := ℕ) (U := UU) (Lvl := ℕ) (Pipeline.owing O₀) 0 (⟨m, fun _ => 0, ρ⟩ : MemSt nD τ sig (Elt F)) (c : Thread nD τ)) : sProp 𝕄)
        ⊢ iprop((bigSep Finset.univ kept) ∗ (bigSep Finset.univ fun c => Pipeline.ownSems0 osem c)
            ∗ bigSep Finset.univ fun c => unscopedBufs c (start m c)) :=
      (bigSep_mono fun c _ => hcore c).trans (deal_three kept _ _)
    iintro ⟨Hcores, Hu⟩
    ihave Hc' := hcores $$ Hcores
    icases Hc' with ⟨Hk, Hos, Hub⟩
    imod hu₀ $$ Hu with ⟨HP, HG⟩
    imod (Pipeline.fund_ghost cfgs EP cellOf_inj) $$ HP with ⟨Hg, Ht⟩
    imod hglob $$ [Hos Hub HG] with HG'
    · isplitl [Hos]; · iexact Hos
      isplitl [Hub] <;> iassumption
    imodintro
    iexists ()
    isplitr []
    · simp only [pre, bigSep_sep']
      isplitl [Hk]; · iexact Hk
      isplitl [Hg]; · iapply (hpick fun p' c => Pipeline.cellsGhost cfgs EP p' c); iexact Hg
      isplitl [Ht]; · iapply (hpick fun p' c => Pipeline.toksInit cfgs EP p' c); iexact Ht
      iexact HG'
    · iempintro
  · have hout' : iprop((dats 0 c).Φ (Fin.last _) ∗ Pipeline.cellsSems0 cfgs 0 c ∗ Dat.staging (cfgs 0) c
          ∗ Pipeline.idleSems0 cfgs cellOf_inj 0 osem_facts c)
        ⊢ iprop(Y c ∗ scopedSems0 (c : Thread nD τ) ∗ scopedBufs (c : Thread nD τ)) := by
      rw [hss c, hsb c, show Pipeline.scopedRest (cfgs 0).spec c = (BI.emp : sProp 𝕄) from scopedRest0_eq c]
      iintro ⟨HΦ, Hcells, Hst, Hidle⟩
      ihave H := (hout c) $$ HΦ
      icases H with ⟨HY, Hos⟩
      isplitl [HY]; · iexact HY
      isplitl [Hcells Hos Hidle]
      · isplitl [Hcells Hos]; · isplitl [Hcells] <;> iassumption
        iexact Hidle
      isplitl [Hst]; · iexact Hst
      iempintro
    have hpost : Pipeline.EntryPost cfgs dats () 0 c ⊢ (iprop(∃ W, owes (c : Thread nD τ) (0 : CellTallies nD τ sig Unit) W) : sProp 𝕄) := by
      unfold Pipeline.EntryPost Pipeline.PerCore.EntryPost Dat.owesAt Pipeline.owesWithin
      rw [howedN c]
      iintro ⟨-, ⟨%W, -, HW⟩⟩
      iexists W; iexact HW
    have hrun (κ : GSem nD τ sig → ℕ) : iprop(Pipeline.EntryPre cfgs dats () EP κ 0 c
          ∗ iprop(Pipeline.launchCred O₀ c ∗ G' c) ∗ Pipeline.idleSems0 cfgs cellOf_inj 0 osem_facts c ∗ scopedBufs (c : Thread nD τ))
        ⊢ iprop(((Pipeline.EntryPost cfgs dats () 0 c ∗ Y c ∗ scopedSems0 (c : Thread nD τ) ∗ scopedBufs (c : Thread nD τ))
              -∗ wp frame (wpE (defs (F := F)) (Variants.lift Variants.none) (c : Thread nD τ) none) Set.univ (Prog.ret PUnit.unit)
                fun _ => post (liftTc fin BI.emp) (c : Thread nD τ))
          -∗ wp frame (wpE (defs (F := F)) (Variants.lift Variants.none) (c : Thread nD τ) none) Set.univ (main (F := F) c)
                fun _ => post (liftTc fin BI.emp) (c : Thread nD τ)) :=
      region_step cfgs dats EP κ cellOf_inj 0 defs₀ c (hbody c).loose block_pos0 (hin c) (Entails.of_eq (hsb c)) hout' _
    simp only [pre, kept]
    iintro ⟨⟨Hsc, Hcells, Hidle, HO, Hcr⟩, Hg, Ht, HG⟩
    iapply (fupd_wp frame (wpE (defs (F := F)) (Variants.lift Variants.none) (c : Thread nD τ) none) Set.univ _ _)
    imod (Pipeline.cellsInit_alloc cfgs dats EP cellOf_inj 0 c) $$ [Hcells Hg] with ⟨%κ, -, Hinit⟩
    · isplitl [Hcells] <;> iassumption
    imodintro
    iapply (hrun κ) $$ [HO Hinit Ht HG Hcr Hidle Hsc]
    · isplitl [HO Hinit Ht]
      · unfold Pipeline.EntryPre Pipeline.PerCore.EntryPre Dat.owesAt Pipeline.owesWithin
        isplitr
        · unfold Dat.arrays; rw [show (Finset.univ : Finset (Fin (cfgs 0).W)) = ∅ from rfl, bigSep_empty]; iempintro
        isplitl [HO]
        · iexists ∅; isplitr; · ipureintro; rw [Finset.coe_empty]; exact Set.empty_subset _
          rw [← howed₀ c]; iexact HO
        isplitr
        · iapply (Pipeline.cellsWaits_intro cfgs dats () 0 c (R := iprop(emp)) fun w => w.elim0); iempintro
        isplitl [Hinit] <;> iassumption
      isplitl [Hcr HG]; · isplitl [Hcr] <;> iassumption
      isplitl [Hidle] <;> iassumption
    iintro ⟨Hpost, HY, Hss, -⟩
    rw [wp_ret]; imodintro
    unfold post; simp only [liftTc_tc, fin]
    ihave HW := hpost $$ Hpost
    isplitr [HW]
    · isplitl [HY] <;> iassumption
    · iexact HW
  · have hcore (c : Dev nD) (s' : Phys nD τ sig (Elt F)) : iprop(fin c ∗ SI s') ⊢ |={Set.univ}=>
        iprop(⌜QY c s'.mem ∧ ∀ sm : SemLoc sig, sm.isScoped .tc = true → s'.mem.sem ((c : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.PackProof
-- ==== Proof.PackPlan.lean ====
/-
  What is copied where in the gather, and which semaphore counts which copy.
-/
module

public import proofs.«01_k».proof.Proof.PackLaunch
public import Idealize.ShloMosaic.Lib.Ring
public import Idealize.ShloMosaic.Lib.Transfers
public import Idealize.ShloMosaic.Lib.ViewIndex
public import Idealize.ShloMosaic.Lib.ValueLayout

@[expose] public section

set_option maxRecDepth 16384

noncomputable section

namespace Cert.PackProof

open Cert.PackK Cert.PackK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix3 eq_ix2 reshapeEquiv_ix2_1ab)

variable {F : FTy → Type} [FloatOps F]

local notation "𝕄" => MT nD τ sig Unit (Elt F) ℕ UU ℕ

/-! ## Who sends to whom -/

/-- The devices in the order in which device `c` writes to them: the seven others, and last `c` itself. -/
def peer (k : Fin 8) (c : Dev nD) : Dev nD := ⟨(c.val ^^^ ((k.val + 1) % 8)) % 8, Nat.mod_lt _ (by decide)⟩

theorem peer_peer : ∀ (k : Fin 8) (c : Dev nD), peer k (peer k c) = c := by decide +kernel
theorem peer_inj : ∀ (i j : Fin 8) (c : Dev nD), peer i c = peer j c → i = j := by decide +kernel
theorem peer_onto : ∀ c d : Dev nD, ∃ k : Fin 8, peer k c = d := by decide +kernel
theorem peer_last : ∀ c : Dev nD, peer 7 c = c := by decide +kernel

def turn (k : Fin 8) : Dev nD ≃ Dev nD := ⟨peer k, peer k, peer_peer k, peer_peer k⟩

/-! ## The pieces of the two buffers -/

theorem inb_res (s : Dev nD) : ∀ a, (![s.val, 0, 0] : Fin 3 → Nat) a + S1x80x1024.size a ≤ S8x80x1024.size a := by
  revert s; decide

/-- Slot `s` of the result. -/
abbrev resRect (s : Dev nD) : Rect S8x80x1024 := Rect.unit (s := S8x80x1024) ![s.val, 0, 0] S1x80x1024.size (inb_res s)

abbrev argM : Memref sig .tc .hbm S80x1024 .f32 := Memref.whole main_arg0
abbrev resM (s : Dev nD) : Memref sig .tc .hbm S80x1024 .f32 :=
  ((Memref.whole main_v1 : Memref sig .tc .hbm S8x80x1024 .f32).slice (resRect s) (fun _ => rfl)).squeeze S80x1024 squeezes_S1x80x1024_S80x1024

theorem arg_set : argM.view.set = Finset.univ := View.set_whole _
theorem res_set (s : Dev nD) : (resM s).view.set = (resRect s).set := by
  show (View.reshape _ _ _).set = _
  rw [View.set_reshape]; exact View.set_slice_whole _ _

theorem mem_res (s : Dev nD) (i : S8x80x1024.Idx) : i ∈ (resRect s).set ↔ (i 0).val = s.val := by
  rw [Rect.mem_set_unit]
  constructor
  · intro h; have h0 := h 0; simp at h0; omega
  · intro h a
    have ha := (i a).isLt
    fin_cases a <;> simp_all <;> omega

/-! ## What the gather leaves in the result -/

variable (m : (ℓ : Loc nD τ sig) → Buf (Elt F) ℓ)

/-- Where in a device's argument element `i` of every result comes from. -/
def origin (i : S8x80x1024.Idx) : S80x1024.Idx :=
  fun a => match a with
    | ⟨0, _⟩ => (i 1 : Fin 80)
    | ⟨1, _⟩ => (i 2 : Fin 1024)

/-- The result of device `c`: slot `s` is the argument of device `s`. -/
def final (c : Dev nD) : Buf (Elt F) ((c : Thread nD τ).loc main_v1) :=
  fun i => start m (show Dev nD from i 0) main_arg0 (origin i)

/-- An argument that is copied into the slot of its device is what the result has there. -/
theorem copied (c s : Dev nD) (f : Buf (Elt F) ((c : Thread nD τ).loc main_v1)) :
    ∀ i ∈ (resM s).view.set, (resM s).view.write (Elt F) f (argM.view.read (Elt F) (start m s main_arg0)) Finset.univ i = final m c i := by
  intro i hi
  obtain ⟨x, -, rfl⟩ := Finset.mem_map.mp hi
  rw [View.write_emb_of_mem _ _ (Finset.mem_univ x), View.read_apply]
  have hs : (show Dev nD from ((resM s).view.emb x) 0) = s := Fin.ext ((mem_res s _).mp (by rw [← res_set]; exact hi))
  have hx : (resM s).view.emb x = (resRect s).emb (ix3 (0 : Fin 1) (x 0 : Fin 80) (x 1 : Fin 1024)) := by
    refine congrArg (resRect s).emb ((congrArg (Shape.reshapeEquiv _) (eq_ix2 x)).trans ?_)
    exact reshapeEquiv_ix2_1ab (a := 80) (b := 1024) _ _ _
  refine (cast_eq _ _).trans ((cast_eq _ _).trans ?_)
  unfold final
  rw [hs, hx]
  refine congrArg (start m s main_arg0) (funext fun a => ?_)
  match a with
  | ⟨0, _⟩ => exact Fin.ext (show (x 0).val = 0 + 1 * (x 0).val by omega)
  | ⟨1, _⟩ => exact Fin.ext (show (x 1).val = 0 + 1 * (x 1).val by omega)

/-! ## The pieces held -/

/-- One of the eight shares of the argument that are lent to the copies, and what is kept of it. -/
def argPts (c : Dev nD) (k : Fin 8) : sProp 𝕄 :=
  (c : Thread nD τ).loc main_arg0 ↦[argM.view.set]{shareTok fullShare 8 k} start m c main_arg0
def keptPts (c : Dev nD) : sProp 𝕄 :=
  (c : Thread nD τ).loc main_arg0 ↦[argM.view.set]{shareDrop fullShare 8} start m c main_arg0
/-- The slot of device `peer k c` in the result of device `c`. -/
def resPts (c : Dev nD) (k : Fin 8) (f : Buf (Elt F) ((c : Thread nD τ).loc main_v1)) : sProp 𝕄 :=
  (c : Thread nD τ).loc main_v1 ↦[(resM (peer k c)).view.set]{fullShare} f

instance argPts_storable (c : Dev nD) (k : Fin 8) : BI.Storable (upEmb : UEmb _ 𝕄) (argPts (F := F) m c k) := by unfold argPts; infer_instance
instance resPts_storable (c : Dev nD) (k : Fin 8) (f) : BI.Storable (upEmb : UEmb _ 𝕄) (resPts (F := F) c k f) := by unfold resPts; infer_instance

theorem arg_split (c : Dev nD) : (((c : Thread nD τ).loc main_arg0) ↦{fullShare} start m c main_arg0 : sProp 𝕄)
    ⊣⊢ iprop(keptPts m c ∗ bigSep Finset.univ (argPts m c)) := by
  unfold keptPts argPts
  rw [arg_set]
  exact Transfers.pointsTo_toks fullShare 8

theorem res_split (c : Dev nD) (f : Buf (Elt F) ((c : Thread nD τ).loc main_v1)) : (((c : Thread nD τ).loc main_v1) ↦{fullShare} f : sProp 𝕄)
    = bigSep Finset.univ fun k => resPts c k f := by
  unfold resPts
  refine Ring.pointsTo_blocks (ℓ := (c : Thread nD τ).loc main_v1) (fun k : Fin 8 => (resM (peer k c)).view.set) (fun j k h => ?_) ?_ f
  · rw [res_set, res_set]
    exact Finset.disjoint_left.mpr fun x hx hy => h (peer_inj j k c (Fin.ext (((mem_res _ x).mp hx).symm.trans ((mem_res _ x).mp hy))))
  · refine Finset.eq_univ_iff_forall.mpr fun x => Finset.mem_biUnion.mpr ?_
    obtain ⟨k, hk⟩ := peer_onto c (show Dev nD from x 0)
    refine ⟨k, Finset.mem_univ _, ?_⟩
    rw [res_set]
    exact (mem_res _ x).mpr (congrArg Fin.val hk).symm

/-! ## The cells -/

/-- The bytes one copy counts. -/
abbrev N : ℕ := (resM 0).view.dmaCredit
theorem N_pos : 0 < N := View.dmaCredit_pos _ (by decide)

abbrev Cell : Type := Fin 8 ⊕ Fin 7
abbrev cell (c : Dev nD) (k : Cell) : GSem nD τ sig := ((c : Thread nD τ), osem k)

/-- What a cell's owner is handed: its share of the argument back when it has been sent, the slot of its result when
    that has arrived, and both together when its own argument has been copied. -/
def pay (c : Dev nD) : Cell → sProp 𝕄
  | .inl k => if k = 7 then iprop(resPts c 7 (final m c) ∗ argPts m c 7) else argPts m c k
  | .inr j => resPts c j.castSucc (final m c)

instance pay_storable (c : Dev nD) (k : Cell) : BI.Storable (upEmb : UEmb _ 𝕄) (pay (F := F) m c k) := by
  rcases k with k | j
  · unfold pay; dsimp only; split <;> infer_instance
  · unfold pay; infer_instance

theorem pay_own (c : Dev nD) : pay m c (.inl 7) = iprop(resPts c 7 (final m c) ∗ argPts m c 7) := by
  unfold pay; exact if_pos rfl
theorem pay_sent (c : Dev nD) (j : Fin 7) : pay m c (.inl j.castSucc) = argPts m c j.castSucc := by
  unfold pay; exact if_neg fun h => absurd (congrArg Fin.val h) (Nat.ne_of_lt j.isLt)

theorem pay_came (c : Dev nD) (j : Fin 7) : pay m c (.inr j) = resPts c j.castSucc (final m c) := rfl

/-- Every cell has one duty, in its first round. -/
def Rd : Rounds.Schedule (GSem nD τ sig) Unit 𝕄 where
  duties g r := if r = 0 ∧ g.1.2 = .tc then {()} else ∅
  unitless _ := False
  amount _ _ _ := N
  payload g _ _ := match g.2 with
    | .dma k => if h : (show Fin 16 from k).val < 8 + 7 then pay m g.1.1 (finSumFinEquiv.symm ⟨_, h⟩) else iprop(emp)
    | _ => iprop(emp)
  amount_pos _ _ _ _ := N_pos

instance Rd_storable (g : GSem nD τ sig) (r : ℕ) (d : Unit) : BI.Storable (upEmb : UEmb _ 𝕄) ((Rd (F := F) m).payload g r d) := by
  rcases g with ⟨t, s | k⟩
  · show BI.Storable upEmb iprop(emp); infer_instance
  · show BI.Storable upEmb (dite _ _ _); split <;> infer_instance

theorem duties_first (c : Dev nD) (k : Cell) : (Rd (F := F) m).duties (cell c k) 0 = {()} := by
  show (if (0 : ℕ) = 0 ∧ (cell c k).1.2 = .tc then ({()} : Finset Unit) else ∅) = {()}
  exact if_pos ⟨rfl, rfl⟩
theorem duties_later (g : GSem nD τ sig) : ∀ r, 1 ≤ r → (Rd (F := F) m).duties g r = ∅ :=
  fun r hr => if_neg (c := r = 0 ∧ g.1.2 = .tc) fun h => by omega
theorem expect_first (c : Dev nD) (k : Cell) : (Rd (F := F) m).expect (cell c k) 0 = N := by
  unfold Schedule.expect Schedule.amountOf; rw [duties_first, Finset.sum_singleton]; rfl
theorem payload_first (c : Dev nD) (k : Cell) (u : Unit) : (Rd (F := F) m).payload (cell c k) 0 u = pay m c k := by
  refine (dif_pos (finSumFinEquiv k : Fin (8 + 7)).isLt).trans ?_
  show pay m c (finSumFinEquiv.symm (finSumFinEquiv k)) = pay m c k
  rw [Equiv.symm_apply_apply]
theorem rest_first (c : Dev nD) (k : Cell) :
    bigSep ((Rd (F := F) m).duties (cell c k) 0 \ ∅) (fun u => (Rd (F := F) m).payload (cell c k) 0 u) = pay m c k := by
  rw [Finset.sdiff_empty, duties_first, bigSep_singleton, payload_first]

/-! ## What every device owes at the start -/

/-- Device `c` owes one copy to each of the seven others. -/
def due (j : Fin 7) (c : Dev nD) : CellTallies nD τ sig Unit := tallyAt (cell (peer j.castSucc c) (.inr j)) () N
def O₀ (c : Dev nD) : CellTallies nD τ sig Unit := due 6 c + due 5 c + due 4 c + due 3 c + due 2 c + due 1 c + due 0 c

theorem cell_inj (c d : Dev nD) (k l : Cell) : cell c k = cell d l ↔ c = d ∧ k = l := by
  constructor
  · intro h
    exact ⟨Fin.ext (congrArg (fun g : GSem nD τ sig => g.1.1.val) h), osem_facts.inj (congrArg Prod.snd h)⟩
  · rintro ⟨rfl, rfl⟩; rfl

theorem due_cred (j : Fin 7) (c : Dev nD) : (Pipeline.launchCred (due j) c : sProp 𝕄) ⊢ cred (tallyAt (cell c (.inr j)) () N) := by
  refine (Pipeline.launchCred_elim (due j) c (osem (.inr j))).trans (Entails.of_eq (congrArg cred ?_))
  unfold tallyAt; refine congrArg _ (Finsupp.ext fun u => ?_); cases u
  have hd (d : Dev nD) : due j d (cell c (.inr j)) () = if d = peer j.castSucc c then N else 0 := by
    unfold due; rw [tallyAt_apply]
    by_cases h : d = peer j.castSucc c
    · subst h; rw [peer_peer, if_pos ⟨rfl, rfl⟩, if_pos rfl]
    · rw [if_neg (fun ⟨h1, _⟩ => h (by rw [((cell_inj _ _ _ _).mp h1).1, peer_peer])), if_neg h]
  rw [Pipeline.launchCredit_owing, Finsupp.single_eq_same, Finset.sum_congr rfl fun d _ => hd d,
    Finset.sum_ite_eq' Finset.univ (peer j.castSucc c) fun _ => N, if_pos (Finset.mem_univ _)]

theorem bigSep_succ {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl

theorem seven (Φ : Fin 7 → sProp 𝕄) : bigSep Finset.univ Φ = iprop(Φ 0 ∗ Φ 1 ∗ Φ 2 ∗ Φ 3 ∗ Φ 4 ∗ Φ 5 ∗ Φ 6) := by
  rw [bigSep_succ, bigSep_succ, bigSep_succ, bigSep_succ, Ring.bigSep_fin3]; rfl
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_succ, seven]; rfl

theorem creds (c : Dev nD) : (Pipeline.launchCred O₀ c : sProp 𝕄) ⊢ bigSep Finset.univ fun j : Fin 7 => cred (tallyAt (cell c (.inr j)) () N) := by
  have add (A B : Dev nD → CellTallies nD τ sig Unit) : (Pipeline.launchCred (A + B) c : sProp 𝕄) = iprop(Pipeline.launchCred A c ∗ Pipeline.launchCred B c) :=
    Pipeline.launchCred_add A B c
  rw [show (O₀ : Dev nD → CellTallies nD τ sig Unit) = due 6 + due 5 + due 4 + due 3 + due 2 + due 1 + due 0 from rfl, add, add, add, add, add, add, seven]
  iintro ⟨⟨⟨⟨⟨⟨H6, H5⟩, H4⟩, H3⟩, H2⟩, H1⟩, H0⟩
  isplitl [H0]; · iapply (due_cred 0 c); iexact H0
  isplitl [H1]; · iapply (due_cred 1 c); iexact H1
  isplitl [H2]; · iapply (due_cred 2 c); iexact H2
  isplitl [H3]; · iapply (due_cred 3 c); iexact H3
  isplitl [H4]; · iapply (due_cred 4 c); iexact H4
  isplitl [H5]; · iapply (due_cred 5 c); iexact H5
  iapply (due_cred 6 c); iexact H6

end Cert.PackProof
-- ==== Proof.PackBody.lean ====
/-
  The gather itself: one copy made and seven sent, then each of the fifteen semaphores waited for.
-/
module

public import proofs.«01_k».proof.Proof.PackPlan
public import Idealize.ShloMosaic.Lib.Ring

@[expose] public section

set_option maxRecDepth 16384

noncomputable section

namespace Cert.PackProof

open Cert.PackK Cert.PackK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

open Idealize.ShloMosaic.Transfers (shareTok)

variable (m : (ℓ : Loc nD τ sig) → Buf (Elt F) ℓ)

/-! ## What every device knows of every cell -/

/-- A name for each cell. -/
abbrev Names : Type := Dev nD × Cell → ℕ

def record (K : Names) (ck : Dev nD × Cell) : sProp 𝕄 :=
  iprop(cellInv ER (Rd m) (K ck) (cell ck.1 ck.2) ∗ reached ER (cell ck.1 ck.2) 0)
instance record_persistent (K : Names) (ck : Dev nD × Cell) : Persistent (record (F := F) m K ck) := by unfold record; infer_instance

def records (K : Names) : sProp 𝕄 := bigSep Finset.univ (record m K)
instance records_persistent (K : Names) : Persistent (records (F := F) m K) := by unfold records; infer_instance

theorem record_at (K : Names) (c : Dev nD) (k : Cell) :
    (records m K : sProp 𝕄) ⊢ iprop(cellInv ER (Rd m) (K (c, k)) (cell c k) ∗ reached ER (cell c k) 0) := by
  unfold records
  exact bigSep_elim (i := (c, k)) (Finset.mem_univ _) (Φ := record m K)

/-! ## One copy, one wait -/

abbrev slotM (o : Fin 3 → ℕ) (inb : ∀ a, o a + S1x80x1024.size a ≤ S8x80x1024.size a) : Memref sig .tc .hbm S80x1024 .f32 :=
  ((Memref.whole main_v1 : Memref sig .tc .hbm S8x80x1024 .f32).slice (Rect.unit (s := S8x80x1024) o S1x80x1024.size inb) (fun _ => rfl)).squeeze
    S80x1024 squeezes_S1x80x1024_S80x1024

/-- Sending the argument into this device's slot of another device's result. -/
theorem send (K : Names) (c n n' : Dev nD) (j : Fin 7) (hn : n = n') (hn' : n' = peer j.castSucc c) (o : Fin 3 → ℕ) (ho : o = ![c.val, 0, 0])
    {inb : ∀ a, o a + S1x80x1024.size a ≤ S8x80x1024.size a} {sS sR : DmaSem sig}
    (hS : SemLoc.dma sS = osem (.inl j.castSucc)) (hR : SemLoc.dma sR = osem (.inr j))
    {hsc : (slotM o inb : Memref sig (Dev.tc n : Thread nD τ).2.kind .hbm S80x1024 .f32).view.ref.isScScratch = false}
    {hsrc : argM.view.WordExact} {hdst : (slotM o inb).view.WordExact}
    {hsem : DmaTarget.Typed .hbm (.dma sR) (.remote (Dev.tc n : Thread nD τ) (slotM o inb) (.dma sS) hsc)}
    {α : Type} {Q : α → sProp 𝕄} {k : PUnit → Prog (TpuEff nD τ sig (Elt F) Λ₀ .tc) α}
    (f : Buf (Elt F) ((n' : Thread nD τ).loc main_v1)) (O : CellTallies nD τ sig Unit) (W : Waits sig Unit) :
    iprop(records m K ∗ argPts m c j.castSucc ∗ resPts n' j.castSucc f ∗ owes (c : Thread nD τ) (O + due j c) W
        ∗ dutyTok ER (cell c (.inl j.castSucc)) 0 () ∗ dutyTok ER (cell n' (.inr j)) 0 ())
      ⊢ iprop(((cred (tallyAt (cell c (.inl j.castSucc)) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma argM (.remote (Dev.tc n : Thread nD τ) (slotM o inb) (.dma sS) hsc) (.dma sR) hsrc hdst hsem) k) Q) := by
  subst hn ho
  obtain rfl := SemLoc.dma.inj hS
  obtain rfl := SemLoc.dma.inj hR
  have hc : peer j.castSucc n = c := by rw [hn', peer_peer]
  have hd₁ : () ∈ (Rd (F := F) m).duties (cell c (.inl j.castSucc)) 0 := by rw [duties_first]; exact Finset.mem_singleton_self _
  have hd₂ : () ∈ (Rd (F := F) m).duties (cell n (.inr j)) 0 := by rw [duties_first]; exact Finset.mem_singleton_self _
  have hsent : (argPts m c j.castSucc : sProp 𝕄) ⊢ (Rd m).payload (cell c (.inl j.castSucc)) 0 () := by
    rw [payload_first m c (.inl j.castSucc), pay_sent]
  have hcame : ((resM c).view.loc (n : Thread nD τ) ↦[(resM c).view.set]{fullShare}
        ((resM c).view.write (Elt F) f (argM.view.read (Elt F) (start m c main_arg0)) Finset.univ) : sProp 𝕄)
      ⊢ (Rd m).payload (cell n (.inr j)) 0 () := by
    rw [payload_first m n (.inr j)]
    unfold pay resPts
    dsimp only
    rw [hc]
    exact Entails.of_eq (pointsTo_congr (copied m n c f))
  have hO : O + due j c = O + tallyAt (cell n (.inr j)) () N := by unfold due; rw [hn']
  refine BIBase.Entails.trans ?_ (Idealize.ShloMosaic.Rounds.wp_send_pointsTo (c' := (n : Thread nD τ)) (src := argM) (dst := resM c) Variants.none ER (Rd m) (c : Thread nD τ) none (κ₁ := K (c, .inl j.castSucc)) (κ₂ := K (n, .inr j))
    (q := shareTok fullShare 8 j.castSucc) (fs := start m c main_arg0) (fd := f) (r₁ := 0) (r₂ := 0) (d₁ := ()) (d₂ := ())
    hd₁ hd₂ () () N (rfl : (resM c).view.amount (osem (.inr j)) = N) (rfl : (Rd (F := F) m).amount (cell c (.inl j.castSucc)) 0 () = N)
    (rfl : (Rd (F := F) m).amount (cell n (.inr j)) 0 () = N) O hO (W := W) hsent hcame)
  unfold argPts resPts
  rw [hc]
  iintro ⟨#HK, Ha, Hr, HO, Ht, Ht'⟩
  ihave #Hs := (record_at m K c (.inl j.castSucc)) $$ HK
  ihave #Hd := (record_at m K n (.inr j)) $$ HK
  icases Hs with ⟨#His, #Hrs⟩
  icases Hd with ⟨#Hid, #Hrd⟩
  isplitr; · iexact His
  isplitr; · iexact Hid
  isplitl [Ha]; · iexact Ha
  isplitl [Hr]; · iexact Hr
  isplitl [HO]; · iexact HO
  isplitl [Ht]; · iexact Ht
  isplitr; · iexact Hrs
  isplitl [Ht']; · iexact Ht'
  iexact Hrd

/-- Copying the argument into this device's slot of its own result. -/
theorem copy (K : Names) (c n : Dev nD) (hn : n = c) (o : Fin 3 → ℕ) (ho : o = ![c.val, 0, 0])
    {inb : ∀ a, o a + S1x80x1024.size a ≤ S8x80x1024.size a} {s : DmaSem sig} (hs : SemLoc.dma s = osem (.inl 7))
    {hsrc : argM.view.WordExact} {hdst : (slotM o inb).view.WordExact} {hsem : DmaTarget.Typed .hbm (.dma s) (.here (slotM o inb) : DmaTarget nD τ sig .tc .hbm S80x1024 .f32)}
    {α : Type} {Q : α → sProp 𝕄} {k : PUnit → Prog (TpuEff nD τ sig (Elt F) Λ₀ .tc) α} (f : Buf (Elt F) ((n : Thread nD τ).loc main_v1)) :
    iprop(records m K ∗ argPts m c 7 ∗ resPts n 7 f ∗ dutyTok ER (cell c (.inl 7)) 0 ())
      ⊢ iprop((cred (tallyAt (cell c (.inl 7)) () N) -∗ wp frame (wpE (defs₀ (F := F)) Variants.none (c : Thread nD τ) none) Set.univ (k ⟨⟩) Q)
          -∗ wp frame (wpE (defs₀ (F := F)) Variants.none (c : Thread nD τ) none) Set.univ
              (.op (.enqueueDma argM (.here (slotM o inb)) (.dma s) hsrc hdst hsem) k) Q) := by
  subst hn ho
  obtain rfl := SemLoc.dma.inj hs
  have hc : peer 7 n = n := peer_last n
  have hd : () ∈ (Rd (F := F) m).duties (cell n (.inl 7)) 0 := by rw [duties_first]; exact Finset.mem_singleton_self _
  have hp : iprop(((resM n).view.loc (n : Thread nD τ) ↦[(resM n).view.set]{fullShare}
        ((resM n).view.write (Elt F) f (argM.view.read (Elt F) (start m n main_arg0)) Finset.univ)) ∗ argPts m n 7)
      ⊢ ((Rd m).payload (cell n (.inl 7)) 0 () : sProp 𝕄) := by
    rw [payload_first m n (.inl 7), pay_own]
    unfold resPts
    rw [hc]
    exact sep_mono_left (Entails.of_eq (pointsTo_congr (copied m n n f)))
  refine BIBase.Entails.trans ?_ (Idealize.ShloMosaic.Rounds.wp_copy_pointsTo (src := argM) (dst := resM n) Variants.none ER (Rd m) (n : Thread nD τ) none (κ := K (n, .inl 7))
    (q := shareTok fullShare 8 7) (fs := start m n main_arg0) (fd := f) (r := 0) (d := ()) hd () N (rfl : (resM n).view.amount (osem (.inl 7)) = N)
    (rfl : (Rd (F := F) m).amount (cell n (.inl 7)) 0 () = N) hp)
  unfold argPts resPts
  rw [hc]
  iintro ⟨#HK, Ha, Hr, Ht⟩
  ihave #Hs := (record_at m K n (.inl 7)) $$ HK
  icases Hs with ⟨#Hi, #Hre⟩
  isplitr; · iexact Hi
  isplitl [Ha]; · iexact Ha
  isplitl [Hr]; · iexact Hr
  isplitl [Ht]; · iexact Ht
  iexact Hre

/-- Waiting on cell `k`: what it was paid comes back, and its semaphore is at zero. -/
theorem await (K : Names) (c : Dev nD) (k : Cell) {s : DmaSem sig} (hs : SemLoc.dma s = osem k)
    {src dst : Memref sig .tc .hbm S80x1024 .f32} {hsrc : src.view.WordExact} {hdst : dst.view.WordExact}
    {α : Type} {Q : α → sProp 𝕄} {r : PUnit → Prog (TpuEff nD τ sig (Elt F) Λ₀ .tc) α} (W : Waits sig Unit) :
    iprop(records m K ∗ cred (tallyAt (cell c k) () N) ∗ owes (c : Thread nD τ) 0 W ∗ atPos ER (cell c k) 0 ∅ 0)
      ⊢ iprop(((owes (c : Thread nD τ) 0 (insert (osem k, ()) W) ∗ semVal (cell c k) 0 ∗ pay m c k)
            -∗ wp frame (wpE (defs₀ (F := F)) Variants.none (c : Thread nD τ) none) Set.univ (r ⟨⟩) Q)
          -∗ wp frame (wpE (defs₀ (F := F)) Variants.none (c : Thread nD τ) none) Set.univ (.op (.waitDma2 s src dst hsrc hdst) r) Q) := by
  have hw (K' : PUnit → sProp 𝕄) : wpE (defs₀ (F := F)) Variants.none (c : Thread nD τ) none Set.univ (.waitDma2 s src dst hsrc hdst) K'
      = waitSpec (c : Thread nD τ) Set.univ (osem k) N K' := by
    rw [wpE_waitDma2_eq, hs]
  iintro ⟨#HK, Hc, HO, Hat⟩ Hk
  ihave #Hs := (record_at m K c k) $$ HK
  icases Hs with ⟨#Hi, -⟩
  iapply (Rounds.wp_wait_rest_token Variants.none ER (Rd m) (c : Thread nD τ) none (κ := K (c, k)) hw (Set.mem_univ _) () (O := 0) (W := W)
      (R := 0) (m := 0) (T := ∅) (by rw [Nat.zero_add, expect_first])) $$ [Hc HO Hat]
  · isplitr; · iexact Hi
    isplitl [Hc]; · iexact Hc
    isplitl [HO]; · iexact HO
    isplitr; · rw [MayWait_zero]; iempintro
    iexact Hat
  iintro ⟨HO, Hat, -, Hp⟩
  ihave Hp := (Entails.of_eq (rest_first m c k)) $$ Hp
  imod (Rounds.cell_close ER (Rd m) (Set.mem_univ (K (c, k))) (fun h => h) (R := 0 + 1) (duties_later m (cell c k))) $$ [Hat] with Hz
  · isplitr; · iexact Hi
    iexact Hat
  iapply Hk
  isplitl [HO]; · iexact HO
  isplitl [Hz]; · iexact Hz
  iexact Hp

/-! ## The body -/

/-- What a device starts with: its semaphores and the right to use them, its own argument, and its slot of every
    device's result. -/
def held (c : Dev nD) : sProp 𝕄 :=
  iprop(∃ K : Names, records m K ∗ (bigSep Finset.univ fun k => atPos ER (cell c k) 0 ∅ 0)
    ∗ (bigSep Finset.univ fun j => dutyTok ER (cell c (.inl j)) 0 ())
    ∗ (bigSep Finset.univ fun j => dutyTok ER (cell (peer j.castSucc c) (.inr j)) 0 ())
    ∗ (((c : Thread nD τ).loc main_arg0) ↦{fullShare} start m c main_arg0)
    ∗ bigSep Finset.univ fun k => resPts (peer k c) k (start m (peer k c) main_v1))

/-- What it ends with: its argument as it was, and its whole result. -/
def left (c : Dev nD) : sProp 𝕄 :=
  iprop((((c : Thread nD τ).loc main_arg0) ↦{fullShare} start m c main_arg0) ∗ (((c : Thread nD τ).loc main_v1) ↦{fullShare} final m c))

def dats (_ : Fin 1) (c : Dev nD) : Dat τ (Elt F) Unit ℕ UU ℕ cfg0 c where
  A w := w.elim0
  after w := w.elim0
  Φ t := match t with
    | ⟨0, _⟩ => iprop(Pipeline.launchCred O₀ c ∗ held m c)
    | ⟨_ + 1, _⟩ => iprop(left m c ∗ Pipeline.ownSems0 osem c)
  q _ := fullShare
  owed t := match t with
    | ⟨0, _⟩ => O₀ c
    | ⟨_ + 1, _⟩ => 0

theorem dev1 : ∀ c : Dev nD, (⟨k0_dev1 c, k0_dev1_lt c⟩ : Dev nD) = peer 0 c := by decide +kernel
theorem dev2 : ∀ c : Dev nD, (⟨k0_dev2 c, k0_dev2_lt c⟩ : Dev nD) = peer 1 c := by decide +kernel
theorem dev3 : ∀ c : Dev nD, (⟨k0_dev3 c, k0_dev3_lt c⟩ : Dev nD) = peer 2 c := by decide +kernel
theorem dev4 : ∀ c : Dev nD, (⟨k0_dev4 c, k0_dev4_lt c⟩ : Dev nD) = peer 3 c := by decide +kernel
theorem dev5 : ∀ c : Dev nD, (⟨k0_dev5 c, k0_dev5_lt c⟩ : Dev nD) = peer 4 c := by decide +kernel
theorem dev6 : ∀ c : Dev nD, (⟨k0_dev6 c, k0_dev6_lt c⟩ : Dev nD) = peer 5 c := by decide +kernel
theorem dev7 : ∀ c : Dev nD, (⟨k0_dev7 c, k0_dev7_lt c⟩ : Dev nD) = peer 6 c := by decide +kernel
theorem off : ∀ c : Dev nD, k0_off1 c = ![c.val, 0, 0] := by decide +kernel

theorem fifteen (Φ : Cell → sProp 𝕄) : bigSep Finset.univ Φ
    = iprop((bigSep Finset.univ fun k => Φ (.inl k)) ∗ bigSep Finset.univ fun j => Φ (.inr j)) := by
  rw [bigSep_univ_sum]; rfl

set_option maxHeartbeats 4000000 in
theorem body_obligation (c : Dev nD) : BodyObligation (dats (F := F) m 0 c) (defs₀ (F := F)) Variants.none () Set.univ := fun t => by
  rw [fin_N0 t]
  show iprop(iprop(Pipeline.launchCred O₀ c ∗ held m c) ∗ (dats (F := F) m 0 c).owesAt () t0_0.castSucc ∗ bigSep (Finset.univ : Finset (Fin 0)) _)
    ⊢ wp frame (wpE (defs₀ (F := F)) Variants.none (c : Thread nD τ) none) Set.univ
      (cc0_small_grads_gather (Memref.whole main_arg0) (Memref.isWhole_whole _) (Memref.whole main_v1) (Memref.isWhole_whole _) cc0_scratch0 cc0_scratch1)
      (fun _ => iprop(iprop(left m c ∗ Pipeline.ownSems0 osem c) ∗ (dats (F := F) m 0 c).owesAt () t0_0.succ ∗ bigSep (Finset.univ : Finset (Fin 0)) _))
  simp only [cc0_small_grads_gather_eq_skeleton]; unfold cc0_small_grads_gather_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold held
  rw [fifteen, eight, seven, eight, seven, eight]
  iintro ⟨⟨Hcr, ⟨%K, #HK, ⟨⟨A0, A1, A2, A3, A4, A5, A6, A7⟩, B0, B1, B2, B3, B4, B5, B6⟩, ⟨S0, S1, S2, S3, S4, S5, S6, S7⟩, ⟨T0, T1, T2, T3, T4, T5, T6⟩, Ha, R0, R1, R2, R3, R4, R5, R6, R7⟩⟩, Ho, -⟩
  ihave Hcr := ((creds c).trans (Entails.of_eq (seven _))) $$ Hcr
  icases Hcr with ⟨C0, C1, C2, C3, C4, C5, C6⟩
  ihave Ha := ((arg_split m c).1.trans (sep_mono_right (Entails.of_eq (eight _)))) $$ Ha
  icases Ha with ⟨Hkept, P0, P1, P2, P3, P4, P5, P6, P7⟩
  unfold Dat.owesAt Pipeline.owesWithin
  icases Ho with ⟨%W, %hW, HO⟩
  rw [show (dats m 0 c).owed t0_0.castSucc = 0 + due 6 c + due 5 c + due 4 c + due 3 c + due 2 c + due 1 c + due 0 c from by
    rw [zero_add]; rfl]
  iapply (copy m K c _ (peer_last c) _ (off c) rfl _) $$ [P7 R7 S7]
  · isplitr; · iexact HK
    isplitl [P7]; · iexact P7
    isplitl [R7] <;> iassumption
  iintro D7
  iapply (send m K c _ _ 0 (dev1 c) rfl _ (off c) rfl rfl _ (0 + due 6 c + due 5 c + due 4 c + due 3 c + due 2 c + due 1 c) W) $$ [P0 R0 HO S0 T0]
  · isplitr; · iexact HK
    isplitl [P0]; · iexact P0
    isplitl [R0]; · iexact R0
    isplitl [HO]; · iexact HO
    isplitl [S0]; · iexact S0
    iexact T0
  iintro ⟨D0, HO⟩
  iapply (send m K c _ _ 1 (dev2 c) rfl _ (off c) rfl rfl _ (0 + due 6 c + due 5 c + due 4 c + due 3 c + due 2 c) W) $$ [P1 R1 HO S1 T1]
  · isplitr; · iexact HK
    isplitl [P1]; · iexact P1
    isplitl [R1]; · iexact R1
    isplitl [HO]; · iexact HO
    isplitl [S1]; · iexact S1
    iexact T1
  iintro ⟨D1, HO⟩
  iapply (send m K c _ _ 2 (dev3 c) rfl _ (off c) rfl rfl _ (0 + due 6 c + due 5 c + due 4 c + due 3 c) W) $$ [P2 R2 HO S2 T2]
  · isplitr; · iexact HK
    isplitl [P2]; · iexact P2
    isplitl [R2]; · iexact R2
    isplitl [HO]; · iexact HO
    isplitl [S2]; · iexact S2
    iexact T2
  iintro ⟨D2, HO⟩
  iapply (send m K c _ _ 3 (dev4 c) rfl _ (off c) rfl rfl _ (0 + due 6 c + due 5 c + due 4 c) W) $$ [P3 R3 HO S3 T3]
  · isplitr; · iexact HK
    isplitl [P3]; · iexact P3
    isplitl [R3]; · iexact R3
    isplitl [HO]; · iexact HO
    isplitl [S3]; · iexact S3
    iexact T3
  iintro ⟨D3, HO⟩
  iapply (send m K c _ _ 4 (dev5 c) rfl _ (off c) rfl rfl _ (0 + due 6 c + due 5 c) W) $$ [P4 R4 HO S4 T4]
  · isplitr; · iexact HK
    isplitl [P4]; · iexact P4
    isplitl [R4]; · iexact R4
    isplitl [HO]; · iexact HO
    isplitl [S4]; · iexact S4
    iexact T4
  iintro ⟨D4, HO⟩
  iapply (send m K c _ _ 5 (dev6 c) rfl _ (off c) rfl rfl _ (0 + due 6 c) W) $$ [P5 R5 HO S5 T5]
  · isplitr; · iexact HK
    isplitl [P5]; · iexact P5
    isplitl [R5]; · iexact R5
    isplitl [HO]; · iexact HO
    isplitl [S5]; · iexact S5
    iexact T5
  iintro ⟨D5, HO⟩
  iapply (send m K c _ _ 6 (dev7 c) rfl _ (off c) rfl rfl _ 0 W) $$ [P6 R6 HO S6 T6]
  · isplitr; · iexact HK
    isplitl [P6]; · iexact P6
    isplitl [R6]; · iexact R6
    isplitl [HO]; · iexact HO
    isplitl [S6]; · iexact S6
    iexact T6
  iintro ⟨D6, HO⟩
  iapply (await m K c (.inl 0) rfl _) $$ [D0 HO A0]
  · isplitr; · iexact HK
    isplitl [D0]; · iexact D0
    isplitl [HO] <;> iassumption
  iintro ⟨HO, A0, P0⟩
  iapply (await m K c (.inr 0) rfl _) $$ [C0 HO B0]
  · isplitr; · iexact HK
    isplitl [C0]; · iexact C0
    isplitl [HO] <;> iassumption
  iintro ⟨HO, B0, R0⟩
  iapply (await m K c (.inl 1) rfl _) $$ [D1 HO A1]
  · isplitr; · iexact HK
    isplitl [D1]; · iexact D1
    isplitl [HO] <;> iassumption
  iintro ⟨HO, A1, P1⟩
  iapply (await m K c (.inr 1) rfl _) $$ [C1 HO B1]
  · isplitr; · iexact HK
    isplitl [C1]; · iexact C1
    isplitl [HO] <;> iassumption
  iintro ⟨HO, B1, R1⟩
  iapply (await m K c (.inl 2) rfl _) $$ [D2 HO A2]
  · isplitr; · iexact HK
    isplitl [D2]; · iexact D2
    isplitl [HO] <;> iassumption
  iintro ⟨HO, A2, P2⟩
  iapply (await m K c (.inr 2) rfl _) $$ [C2 HO B2]
  · isplitr; · iexact HK
    isplitl [C2]; · iexact C2
    isplitl [HO] <;> iassumption
  iintro ⟨HO, B2, R2⟩
  iapply (await m K c (.inl 3) rfl _) $$ [D3 HO A3]
  · isplitr; · iexact HK
    isplitl [D3]; · iexact D3
    isplitl [HO] <;> iassumption
  iintro ⟨HO, A3, P3⟩
  iapply (await m K c (.inr 3) rfl _) $$ [C3 HO B3]
  · isplitr; · iexact HK
    isplitl [C3]; · iexact C3
    isplitl [HO] <;> iassumption
  iintro ⟨HO, B3, R3⟩
  iapply (await m K c (.inl 4) rfl _) $$ [D4 HO A4]
  · isplitr; · iexact HK
    isplitl [D4]; · iexact D4
    isplitl [HO] <;> iassumption
  iintro ⟨HO, A4, P4⟩
  iapply (await m K c (.inr 4) rfl _) $$ [C4 HO B4]
  · isplitr; · iexact HK
    isplitl [C4]; · iexact C4
    isplitl [HO] <;> iassumption
  iintro ⟨HO, B4, R4⟩
  iapply (await m K c (.inl 5) rfl _) $$ [D5 HO A5]
  · isplitr; · iexact HK
    isplitl [D5]; · iexact D5
    isplitl [HO] <;> iassumption
  iintro ⟨HO, A5, P5⟩
  iapply (await m K c (.inr 5) rfl _) $$ [C5 HO B5]
  · isplitr; · iexact HK
    isplitl [C5]; · iexact C5
    isplitl [HO] <;> iassumption
  iintro ⟨HO, B5, R5⟩
  iapply (await m K c (.inl 6) rfl _) $$ [D6 HO A6]
  · isplitr; · iexact HK
    isplitl [D6]; · iexact D6
    isplitl [HO] <;> iassumption
  iintro ⟨HO, A6, P6⟩
  iapply (await m K c (.inr 6) rfl _) $$ [C6 HO B6]
  · isplitr; · iexact HK
    isplitl [C6]; · iexact C6
    isplitl [HO] <;> iassumption
  iintro ⟨HO, B6, R6⟩
  iapply (await m K c (.inl 7) rfl _) $$ [D7 HO A7]
  · isplitr; · iexact HK
    isplitl [D7]; · iexact D7
    isplitl [HO] <;> iassumption
  iintro ⟨HO, A7, Z7⟩
  ihave Z7 := (Entails.of_eq (pay_own m c)) $$ Z7
  icases Z7 with ⟨R7, P7⟩
  rw [wp_ret]; imodintro
  isplitr [HO]
  · unfold left Pipeline.ownSems0
    rw [fifteen, eight, seven]
    isplitr [A0 A1 A2 A3 A4 A5 A6 A7 B0 B1 B2 B3 B4 B5 B6]
    · isplitr [R0 R1 R2 R3 R4 R5 R6 R7]
      · iapply ((sep_mono_right (Entails.of_eq (eight _).symm)).trans (arg_split m c).2)
        isplitl [Hkept]; · iexact Hkept
        isplitl [P0]; · iapply (Entails.of_eq (pay_sent m c 0)); iexact P0
        isplitl [P1]; · iapply (Entails.of_eq (pay_sent m c 1)); iexact P1
        isplitl [P2]; · iapply (Entails.of_eq (pay_sent m c 2)); iexact P2
        isplitl [P3]; · iapply (Entails.of_eq (pay_sent m c 3)); iexact P3
        isplitl [P4]; · iapply (Entails.of_eq (pay_sent m c 4)); iexact P4
        isplitl [P5]; · iapply (Entails.of_eq (pay_sent m c 5)); iexact P5
        isplitl [P6]; · iapply (Entails.of_eq (pay_sent m c 6)); iexact P6
        iexact P7
      · rw [res_split, eight]
        isplitl [R0]; · iapply (Entails.of_eq (pay_came m c 0)); iexact R0
        isplitl [R1]; · iapply (Entails.of_eq (pay_came m c 1)); iexact R1
        isplitl [R2]; · iapply (Entails.of_eq (pay_came m c 2)); iexact R2
        isplitl [R3]; · iapply (Entails.of_eq (pay_came m c 3)); iexact R3
        isplitl [R4]; · iapply (Entails.of_eq (pay_came m c 4)); iexact R4
        isplitl [R5]; · iapply (Entails.of_eq (pay_came m c 5)); iexact R5
        isplitl [R6]; · iapply (Entails.of_eq (pay_came m c 6)); iexact R6
        iexact R7
    · isplitl [A0 A1 A2 A3 A4 A5 A6 A7]
      · isplitl [A0]; · iexact A0
        isplitl [A1]; · iexact A1
        isplitl [A2]; · iexact A2
        isplitl [A3]; · iexact A3
        isplitl [A4]; · iexact A4
        isplitl [A5]; · iexact A5
        isplitl [A6]; · iexact A6
        iexact A7
      · isplitl [B0]; · iexact B0
        isplitl [B1]; · iexact B1
        isplitl [B2]; · iexact B2
        isplitl [B3]; · iexact B3
        isplitl [B4]; · iexact B4
        isplitl [B5]; · iexact B5
        iexact B6
  isplitl [HO]
  · iexists (insert (osem (.inl 7), ()) (insert (osem (.inr 6), ()) (insert (osem (.inl 6), ()) (insert (osem (.inr 5), ()) (insert (osem (.inl 5), ()) (insert (osem (.inr 4), ()) (insert (osem (.inl 4), ()) (insert (osem (.inr 3), ()) (insert (osem (.inl 3), ()) (insert (osem (.inr 2), ()) (insert (osem (.inl 2), ()) (insert (osem (.inr 1), ()) (insert (osem (.inl 1), ()) (insert (osem (.inr 0), ()) (insert (osem (.inl 0), ()) W)))))))))))))))
    isplitr; · ipureintro; exact fun _ _ => Or.inl trivial
    iexact HO
  rw [Finset.univ_eq_empty, bigSep_empty]; iempintro

end Cert.PackProof
-- ==== Proof.PackRun.lean ====
/-
  The run of the gather: the rights and the memory are dealt out, every device runs, and the results are read off.
-/
module

public import proofs.«01_k».proof.Proof.PackBody

@[expose] public section

set_option maxRecDepth 16384

noncomputable section

namespace Cert.PackProof

open Cert.PackK Cert.PackK.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ)

/-! ## Dealing out -/

/-- What each device has one of for each copy that it gets may as well be held by the device that sends it. -/
theorem around {n : ℕ} (e : Fin n → Fin 8) (Φ : Dev nD → Fin n → sProp 𝕄) : (bigSep Finset.univ fun c => bigSep Finset.univ fun j => Φ c j)
    = bigSep Finset.univ fun c => bigSep Finset.univ fun j => Φ (peer (e j) c) j := by
  rw [bigSep_univ_comm, bigSep_univ_comm (fun c j => Φ (peer (e j) c) j)]
  exact bigSep_congr fun j _ => bigSep_univ_equiv (turn (e j)) (fun c => Φ c j)

/-- Each cell's one duty. -/
def duties (_ : Dev nD) : Finset (Cell × ℕ × Unit) := Finset.univ.map ⟨fun k => (k, 0, ()), fun _ _ h => congrArg Prod.fst h⟩

def u₀ : UU := (initOf (Pipeline.cells cfgs cellOf_inj) (Pipeline.launchToks cfgs cellOf_inj),
  initOf (Pipeline.ownCells cfgs 0 osem_facts) (Pipeline.ownToksOf cfgs 0 osem_facts duties))

def toks (c : Dev nD) : sProp 𝕄 := bigSep Finset.univ fun k => dutyTok ER (cell c k) 0 ()

def funds : sProp 𝕄 :=
  iprop((bigSep Finset.univ fun c : Dev nD => bigSep Finset.univ fun k => roundState ER (Rd m) (cell c k) 0)
    ∗ (bigSep Finset.univ fun c : Dev nD => bigSep Finset.univ fun k => atPos ER (cell c k) 0 ∅ 0)
    ∗ (bigSep Finset.univ fun c : Dev nD => bigSep Finset.univ fun k => reached ER (cell c k) 0)
    ∗ bigSep Finset.univ fun c : Dev nD => toks c)

theorem ghost_split (c : Dev nD) : (Pipeline.ownGhost cfgs 0 osem_facts ER (Rd m) c : sProp 𝕄)
    = iprop((bigSep Finset.univ fun k => roundState ER (Rd m) (cell c k) 0)
      ∗ (bigSep Finset.univ fun k => atPos ER (cell c k) 0 ∅ 0) ∗ bigSep Finset.univ fun k => reached ER (cell c k) 0) := by
  rw [Pipeline.ownGhost_eq, bigSep_sep']; rfl

theorem toks_split : bigSep (Pipeline.ownToksOf cfgs 0 osem_facts duties) (fun x => (dutyTok ER x.1 x.2.1 x.2.2 : sProp 𝕄))
    = bigSep Finset.univ fun c : Dev nD => toks c := by
  rw [Pipeline.bigSep_ownToksOf]
  refine bigSep_congr fun c _ => ?_
  unfold duties toks
  rw [bigSep_map]; rfl

theorem fund : (ownU u₀ : sProp 𝕄)
    ⊢ |={Set.univ}=> iprop(BI.own (EP (initOf (Pipeline.cells cfgs cellOf_inj) (Pipeline.launchToks cfgs cellOf_inj))) ∗ funds m) := by
  unfold u₀ funds
  iintro Hu
  ihave H := (ownU_pair _ _) $$ Hu
  icases H with ⟨HP, HX⟩
  imod (Pipeline.fund_own cfgs 0 osem_facts ER (Rd m) (Pipeline.ownToksOf cfgs 0 osem_facts duties)) $$ HX with ⟨Hg, Ht⟩
  imodintro
  isplitl [HP]; · iexact HP
  have hg := (bigSep_congr (s := Finset.univ) fun c _ => ghost_split m c).trans ((bigSep_sep' _ _ _).trans (congrArg (fun R => iprop(_ ∗ R)) (bigSep_sep' _ _ _)))
  ihave Hg := (Entails.of_eq hg) $$ Hg
  icases Hg with ⟨Hr, Hat, Hre⟩
  isplitl [Hr]; · iexact Hr
  isplitl [Hat]; · iexact Hat
  isplitl [Hre]; · iexact Hre
  iapply (Entails.of_eq toks_split)
  iexact Ht

/-- The semaphores' counters and round states make the cells, each under some name. -/
theorem names : iprop((bigSep Finset.univ fun c : Dev nD => Pipeline.ownSems0 osem c)
      ∗ (bigSep Finset.univ fun c : Dev nD => bigSep Finset.univ fun k => roundState ER (Rd m) (cell c k) 0)
      ∗ (bigSep Finset.univ fun c : Dev nD => bigSep Finset.univ fun k => reached ER (cell c k) 0))
    ⊢ (|={Set.univ}=> iprop(∃ K : Names, records m K) : sProp 𝕄) := by
  have hc : iprop((bigSep Finset.univ fun c : Dev nD => Pipeline.ownSems0 osem c)
      ∗ (bigSep Finset.univ fun c : Dev nD => bigSep Finset.univ fun k => roundState ER (Rd m) (cell c k) 0))
      ⊢ (|={Set.univ}=> bigSep Finset.univ fun ck : Dev nD × Cell => iprop(∃ κ : ℕ, cellInv ER (Rd m) κ (cell ck.1 ck.2)) : sProp 𝕄) := by
    rw [← bigSep_sep', bigSep_univ_prod]
    exact (bigSep_mono fun c _ => Pipeline.ownCells_alloc cfgs 0 osem_facts ER (Rd m) c).trans (bigSep_fupd _ _)
  iintro ⟨Hs, Hr, Hre⟩
  imod hc $$ [Hs Hr] with H
  · isplitl [Hs] <;> iassumption
  imodintro
  ihave H := (BI.bigSep_exists_pi Finset.univ (fun (ck : Dev nD × Cell) (κ : ℕ) => (cellInv ER (Rd m) κ (cell ck.1 ck.2) : sProp 𝕄))) $$ H
  icases H with ⟨%K, HI⟩
  iexists K
  unfold records record
  rw [bigSep_sep', bigSep_univ_prod (fun ck : Dev nD × Cell => (reached ER (cell ck.1 ck.2) 0 : sProp 𝕄))]
  isplitl [HI] <;> iassumption

/-- The two buffers of a device at the start. -/
theorem bufs (c : Dev nD) : (unscopedBufs c (start m c) : sProp 𝕄)
    ⊢ iprop((((c : Thread nD τ).loc main_arg0) ↦{fullShare} start m c main_arg0) ∗ bigSep Finset.univ fun j => resPts c j (start m c main_v1)) := by
  rw [Pipeline.unscopedBufs_split₀ cfgs 0 (fun w => w.elim0) c (start m c), ← res_split]
  iintro ⟨-, H⟩
  ihave H := (Entails.of_eq (unscopedRest0_eq c (start m c))) $$ H
  icases H with ⟨Ha, Hr⟩
  isplitl [Ha] <;> iassumption

theorem dealt : iprop((bigSep Finset.univ fun c => Pipeline.ownSems0 osem c) ∗ (bigSep Finset.univ fun c => unscopedBufs c (start m c)) ∗ funds m)
    ⊢ (|={Set.univ}=> bigSep Finset.univ fun c => held m c : sProp 𝕄) := by
  have hb : (bigSep Finset.univ fun c => unscopedBufs c (start m c))
      ⊢ (iprop((bigSep Finset.univ fun c : Dev nD => ((c : Thread nD τ).loc main_arg0) ↦{fullShare} start m c main_arg0)
        ∗ bigSep Finset.univ fun c : Dev nD => bigSep Finset.univ fun j => resPts (peer j c) j (start m (peer j c) main_v1)) : sProp 𝕄) :=
    (bigSep_mono (s := Finset.univ) fun (c : Dev nD) _ => bufs m c).trans (Entails.of_eq ((bigSep_sep' _ _ _).trans
    (congrArg (fun R => iprop(_ ∗ R)) (around id fun c j => (resPts c j (start m c main_v1) : sProp 𝕄)))))
  have ht : (bigSep Finset.univ fun c : Dev nD => (toks c : sProp 𝕄))
      = iprop((bigSep Finset.univ fun c : Dev nD => bigSep Finset.univ fun j => dutyTok ER (cell c (.inl j)) 0 ())
        ∗ bigSep Finset.univ fun c : Dev nD => bigSep Finset.univ fun j => dutyTok ER (cell (peer j.castSucc c) (.inr j)) 0 ()) := by
    rw [← around Fin.castSucc fun c j => (dutyTok ER (cell c (.inr j)) 0 () : sProp 𝕄), ← bigSep_sep']
    refine bigSep_congr fun c _ => ?_
    unfold toks
    rw [bigSep_univ_sum]; rfl
  have hk (K : Names) : iprop(records m K ∗ (bigSep Finset.univ fun c : Dev nD => bigSep Finset.univ fun k => atPos ER (cell c k) 0 ∅ 0)
        ∗ (bigSep Finset.univ fun c : Dev nD => bigSep Finset.univ fun j => dutyTok ER (cell c (.inl j)) 0 ())
        ∗ (bigSep Finset.univ fun c : Dev nD => bigSep Finset.univ fun j => dutyTok ER (cell (peer j.castSucc c) (.inr j)) 0 ())
        ∗ (bigSep Finset.univ fun c : Dev nD => ((c : Thread nD τ).loc main_arg0) ↦{fullShare} start m c main_arg0)
        ∗ bigSep Finset.univ fun c : Dev nD => bigSep Finset.univ fun j => resPts (peer j c) j (start m (peer j c) main_v1))
      ⊢ (bigSep Finset.univ fun c => held m c : sProp 𝕄) := by
    refine (sep_mono_left (BI.bigSep_of_persistent (Finset.univ : Finset (Dev nD)) (records m K))).trans ?_
    simp only [← bigSep_sep']
    have h (c : Dev nD) : iprop(records m K ∗ (bigSep Finset.univ fun k => atPos ER (cell c k) 0 ∅ 0)
        ∗ (bigSep Finset.univ fun j => dutyTok ER (cell c (.inl j)) 0 ())
        ∗ (bigSep Finset.univ fun j => dutyTok ER (cell (peer j.castSucc c) (.inr j)) 0 ())
        ∗ (((c : Thread nD τ).loc main_arg0) ↦{fullShare} start m c main_arg0)
        ∗ bigSep Finset.univ fun j => resPts (peer j c) j (start m (peer j c) main_v1)) ⊢ (held m c : sProp 𝕄) := by
      unfold held
      iintro H
      iexists K
      iexact H
    exact bigSep_mono fun c _ => h c
  unfold funds
  rw [ht]
  iintro ⟨Hs, Hb, Hr, Hat, Hre, Hsnd, Hrcv⟩
  imod (names m) $$ [Hs Hr Hre] with ⟨%K, HK⟩
  · isplitl [Hs]; · iexact Hs
    isplitl [Hr] <;> iassumption
  imodintro
  ihave Hb := hb $$ Hb
  icases Hb with ⟨Ha, Hres⟩
  iapply (hk K)
  isplitl [HK]; · iexact HK
  isplitl [Hat]; · iexact Hat
  isplitl [Hsnd]; · iexact Hsnd
  isplitl [Hrcv]; · iexact Hrcv
  isplitl [Ha] <;> iassumption

/-! ## The run -/

theorem read (c : Dev nD) (s' : Phys nD τ sig (Elt F)) : iprop(left m c ∗ SI s')
    ⊢ (|={Set.univ}=> iprop(⌜s'.mem.mem ((c : Thread nD τ).loc main_arg0) = start m c main_arg0
      ∧ s'.mem.mem ((c : Thread nD τ).loc main_v1) = final m c⌝ ∗ SI s') : sProp 𝕄) := by
  have h (b : Ref sig .tc) (f : Buf (Elt F) ((c : Thread nD τ).loc b)) : iprop((((c : Thread nD τ).loc b) ↦{fullShare} f) ∗ SI s')
      ⊢ (iprop(⌜s'.mem.mem ((c : Thread nD τ).loc b) = f⌝ ∗ SI s') : sProp 𝕄) := by
    have e := pointsTo_read_all (Ix := Unit) (Name := ℕ) (U := UU) (Lvl := ℕ) ({()} : Finset Unit) (fun _ => (c : Thread nD τ).loc b) (fun _ => f) s'
    rw [bigSep_singleton] at e
    refine e.trans ?_
    iintro ⟨%hm, H⟩
    isplitr; · ipureintro; exact hm () (Finset.mem_singleton_self _)
    iexact H
  unfold left
  iintro ⟨⟨Ha, Hr⟩, HS⟩
  ihave H := (h main_arg0 _) $$ [Ha HS]
  · isplitl [Ha] <;> iassumption
  icases H with ⟨%h1, HS⟩
  ihave H := (h main_v1 _) $$ [Hr HS]
  · isplitl [Hr] <;> iassumption
  icases H with ⟨%h2, HS⟩
  imodintro
  isplitr; · ipureintro; exact ⟨h1, h2⟩
  iexact HS

/-- From any memory with every semaphore at zero the gather ends: every device's result is made of the arguments of all
    devices, every argument is as it was and every semaphore is at zero again. -/
theorem run (ρ : Dev nD → PrngReg) : θ_run (defs (F := F)) (onTc (main (F := F))) ⟨m, fun _ => 0, ρ⟩ fun r =>
    (∀ c : Dev nD, r.2.mem ((c : Thread nD τ).loc main_arg0) = start m c main_arg0 ∧ r.2.mem ((c : Thread nD τ).loc main_v1) = final m c)
      ∧ r.2.sem = fun _ => 0 :=
  launch m ρ (dats m) (body_obligation m) O₀ (fun _ => rfl) (fun _ => rfl) u₀ (funds m) (held m) (left m) (fund m) (dealt m)
    (fun c => Entails.refl _) (fun c => Entails.refl _)
    (fun c M => M.mem ((c : Thread nD τ).loc main_arg0) = start m c main_arg0 ∧ M.mem ((c : Thread nD τ).loc main_v1) = final m c) (read m)
    fun s hs hz => ⟨hs, funext fun g => hz g (by
      by_cases h : g.1.2 = .tc
      · exact Or.inr ((by decide : ∀ sm : SemLoc sig, sm.isScoped .tc = true) g.2)
      · exact Or.inl h)⟩

end Cert.PackProof
-- ==== Proof.PackClaim.lean ====
/-
  The claims about the gather of the small gradients' packs, against the whole array seen as the devices' packs.
-/
module

public import proofs.«01_k».proof.Proof.PackRun
public import proofs.«01_k».proof.Proof.Gen.PackR.Run
public import proofs.«01_k».proof.Defs
public import Idealize.ShloMosaic.Lib.Pipeline.Value

@[expose] public section

set_option maxRecDepth 16384

noncomputable section

namespace Cert.PackProof

open Idealize.ShloMosaic Idealize.ShloMosaic.TcCoe Idealize.SL.Sem

/-- The gather ends with its argument unchanged and its semaphores at zero. -/
theorem quiet : Cert.quiescent_PackK := fun m ρ _ =>
  (θ_run _ _ _).mono (fun _ h => ⟨fun c => (h.1 c).1, h.2⟩) (run (F := Bits) m ρ)

/-- The reference ends with its argument unchanged; it has no semaphores. -/
theorem reference : Cert.quiescent_PackR := fun m ρ _ =>
  (θ_run _ _ _).mono (fun r h => ⟨fun c => (h c).2, sem_eq_zero_of_no_sems (by decide) r.2⟩) (Cert.PackR.Value.run m ρ)

/-- On the packs of one array, the gather ends with all of them on every device, in the devices' order. -/
theorem value : Cert.bitexact_PackK_PackR := by
  intro m ρ m' ρ' _ ha
  refine ⟨_, (θ_run _ _ _).mono (fun r h c => ⟨(h.1 c).2.trans ?_, (h.1 c).1⟩) (run (F := Bits) m ρ), (θ_run _ _ _).mono (fun r h => h 0) (Cert.PackR.Value.run m' ρ')⟩
  funext i
  unfold final
  refine (congrFun (ha (show Fin 8 from i 0)) (origin i)).trans ?_
  rw [Layout.block_apply]
  refine (shapeCast_apply _ _ _ _ ?_).symm
  rw [Shape.rowMajor_val_two, Shape.rowMajor_val_three]
  show ((i 0).val * 80 + (i 1).val) * 1024 + (i 2).val = ((i 0).val * 80 + (i 1).val) * 1024 + (i 2).val
  rfl

end Cert.PackProof
-- ==== Proof.DownClaim.lean ====
module

public import proofs.«01_k».proof.Proof.LossPay
public import proofs.«01_k».proof.Proof.Gen.DownKIdeal.Value
public import proofs.«01_k».proof.Proof.Gen.DownRIdeal.Run
public import proofs.«01_k».proof.Defs
public import Idealize.ShloMosaic.Lib.StackMember

@[expose] public section

set_option maxRecDepth 16384

noncomputable section

namespace Step.Down

open Idealize Idealize.ShloMosaic Idealize.ShloMosaic.TcCoe Idealize.SL.Sem
open Cert.DownKIdeal Cert.DownKIdeal.Gen Cert.DownKIdeal.Value

/-- The rows with half a product added. -/
def half {n : Nat} (A : (⟨2, ![n, 1024]⟩ : Shape).Idx → EReal) (S : (⟨2, ![n, 2816]⟩ : Shape).Idx → EReal) (W : S2816x1024.Idx → EReal)
    (i : (⟨2, ![n, 1024]⟩ : Shape).Idx) : EReal :=
  A i + Ideal.ofBits .f32 0x3F000000#32 * ∑ p, S (ix2 (i 0) p) * W (ix2 p (i 1))

theorem dots : dot_S512x2816_S2816x1024_S512x1024_1_0_0_1_n_n = DotDims.plain 512 2816 1024 := rfl
theorem rdot : Cert.DownRIdeal.dot_S4096x2816_S2816x1024_S4096x1024_1_0_0_1_n_n = DotDims.plain 4096 2816 1024 := rfl

/-- One block of rows. -/
theorem pay (x : Vec Ideal S512x1024 .f32) (s : Vec Ideal S512x2816 .bf16) (w : Vec Ideal S2816x1024 .bf16) : k0_pay1 x s w = half x s w := by
  funext i; obtain ⟨r, l, rfl⟩ := at2 i
  unfold k0_pay1
  rw [dots, Loss.cast_self]
  refine congrArg (fun z => x (ix2 r l) + Ideal.ofBits .f32 0x3F000000#32 * z) ((Ideal.matmul_plain_apply none _ _ _ r l).trans ?_)
  show Ideal.ofBits .f32 0x00000000#32 + _ = _
  rw [w_zero]; exact zero_add _

/-- The reference's last operations. -/
theorem host_half (A : FVec Ideal ⟨2, ![4096, 1024]⟩ .f32) (S : FVec Ideal ⟨2, ![4096, 2816]⟩ .f32) (W : FVec Ideal ⟨2, ![2816, 1024]⟩ .f32) (h) :
    addf (F := Ideal) A (mulf (broadcastInDim ⟨2, ![4096, 1024]⟩ ![] h (constant ⟨0, ![]⟩ .f32 0x3F000000#32)) (Host.dotGeneral (DotDims.plain 4096 2816 1024) none S W)) = half A S W := by
  funext i; obtain ⟨r, l, rfl⟩ := at2 i
  exact congrArg (fun z => A (ix2 r l) + Ideal.ofBits .f32 0x3F000000#32 * z) (StackMember.dotGeneral_plain_apply none S W r l)

variable (m : (ℓ : Loc nD τ sig) → Buf (Elt Ideal) ℓ) (c : Dev nD)

theorem at_A (t : Fin cfg0.N) (h0 : t.val % 8 = 0) : outsAt0 m c t.val t.isLt = (k0_pay1 (iblk m c 0 t) (iblk m c 1 t) (V m c main_v19), V m c main_v19) := by
  refine (outsAt0_A m c t h0).trans (Prod.ext ?_ ?_) <;> dsimp only
  · unfold out0_A_2
    rw [View.read_writes_eq_canon _ _ _ (cover0_A_2 _ _ _ _ _ _ _ _ _ _ _ _ _ _)]
    unfold kernelRun0_A; dsimp only; sl_unfold_words
    rw [View.canon_unit_zero hz]
    simp only [View.readAt_eq_ld, (hs0_0 t).read_unread, (hs0_1 t).read_unread, View.ld_unit_zero (S := S512x1024) hz, View.ld_unit_zero (S := S512x2816) hz, readCov_whole (S := S2816x1024) _ hz]
    rfl
  · unfold sout0_A_0 kernelRun0_A; dsimp only; sl_unfold_words
    rw [View.read_writes_junk_eq_canon, canon_whole]; rfl

theorem at_B (t : Fin cfg0.N) (h0 : ¬t.val % 8 = 0) (p) (hp : outsAt0 m c (t.val - 1) (Nat.lt_of_le_of_lt (Nat.sub_le _ _) t.isLt) = p) :
    outsAt0 m c t.val t.isLt = (k0_pay1 (iblk m c 0 t) (iblk m c 1 t) p.2, p.2) := by
  refine (outsAt0_B m c t h0).trans ?_
  rw [hp]
  have hw : scM0_0.IsWhole := Memref.isWhole_whole _
  refine Prod.ext ?_ rfl
  dsimp only; unfold out0_B_2
  rw [View.read_writes_eq_canon _ _ _ (cover0_B_2 _ _ _ _ _ _ _ _ _ _ _ _ _ _ _)]
  unfold kernelRun0_B; dsimp only; sl_unfold_words
  rw [View.canon_unit_zero hz]
  simp only [View.readAt_eq_ld, (hs0_0 t).read_unread, (hs0_1 t).read_unread, hw.read_unread, View.ld_unit_zero (S := S512x1024) hz, View.ld_unit_zero (S := S512x2816) hz, View.ld_unit_zero (S := S2816x1024) hz]

theorem lt8 (t : Fin cfg0.N) : t.val < 8 := by have h : cfg0.N = 8 := N_0; have := t.isLt; omega

/-- Every point leaves its block of rows and the weight. -/
theorem outs_eq : ∀ (n : Nat) (h : n < cfg0.N), outsAt0 m c n h = (half (iblk m c 0 ⟨n, h⟩) (iblk m c 1 ⟨n, h⟩) (V m c main_v19), V m c main_v19)
  | 0, h => (at_A m c ⟨0, h⟩ rfl).trans (Prod.ext (pay _ _ _) rfl)
  | n + 1, h => (at_B m c ⟨n + 1, h⟩ (by have := lt8 ⟨n + 1, h⟩; dsimp only at this ⊢; omega) _ (outs_eq n (Nat.lt_of_succ_lt h))).trans (Prod.ext (pay _ _ _) rfl)

theorem idx (t : Fin cfg0.N) : win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0]) t

/-- Where element `(r, l)` of the block of point `t` stands. -/
theorem at_eq {k : Nat} (t : Fin cfg0.N) (r : Fin 512) (l : Fin k) (f : Fin 2 → Nat) (h : f = ![t.val, 0]) (i : (⟨2, ![4096, k]⟩ : Shape).Idx)
    (h0 : (i 0).val = f 0 * 512 + 1 * r.val) (h1 : (i 1).val = f 1 * k + 1 * l.val) :
    i = ix2 (⟨t.val * 512 + r.val, by have := lt8 t; omega⟩ : Fin 4096) l := by
  subst h
  funext a; apply Fin.ext
  match a with
  | ⟨0, _⟩ => refine h0.trans ?_; show t.val * 512 + 1 * r.val = t.val * 512 + r.val; omega
  | ⟨1, _⟩ => refine h1.trans ?_; show 0 * k + 1 * l.val = l.val; omega

theorem blk0 (t : Fin cfg0.N) (r l) : (iblk m c 0 t : Vec Ideal S512x1024 .f32) (ix2 r l) = V m c main_arg0 (ix2 ⟨t.val * 512 + r.val, by have := lt8 t; omega⟩ l) := by
  unfold iblk; rw [View.read_apply]; exact congrArg (V m c main_arg0) (at_eq t r l _ (idx t).1 _ rfl rfl)
theorem blk1 (t : Fin cfg0.N) (r l) : (iblk m c 1 t : Vec Ideal S512x2816 .bf16) (ix2 r l) = V m c main_v18 (ix2 ⟨t.val * 512 + r.val, by have := lt8 t; omega⟩ l) := by
  unfold iblk; rw [View.read_apply]; exact congrArg (V m c main_v18) (at_eq t r l _ (idx t).2.1 _ rfl rfl)

/-- All rows. -/
theorem final2 : (dats m 0 c).arrAt 2 cfg0.N = half (V m c main_arg0) (V m c main_v18) (V m c main_v19) :=
  (dats m 0 c).arrAt_eq_of_cover 2 (half (V m c main_arg0) (V m c main_v18) (V m c main_v19)) (fun t _ => by
    rw [flushed2, outs_eq]
    dsimp only
    funext j; obtain ⟨r, l, rfl⟩ := at2 j
    refine Eq.trans ?_ (congrArg (half (V m c main_arg0) (V m c main_v18) (V m c main_v19)) (at_eq t r l _ (idx t).2.2 _ rfl rfl).symm)
    show half (iblk m c 0 t) (iblk m c 1 t) (V m c main_v19) (ix2 r l) = _
    unfold half
    refine congrArg₂ (fun a z => a + Ideal.ofBits .f32 0x3F000000#32 * z) (blk0 m c t r l) (Finset.sum_congr rfl fun p _ => ?_)
    exact congrArg (· * _) (blk1 m c t r p)) fun i => by
    have h0 : (i 0 : Nat) < 4096 := (i 0).isLt
    have h1 : (i 1 : Nat) < 1024 := (i 1).isLt
    have hN : cfg0.N = 8 := N_0
    have hc : (i 0).val / 512 < cfg0.N := by omega
    refine ⟨⟨(i 0).val / 512, hc⟩, flush0_2 _, ?_⟩
    show i ∈ ((View.whole main_v20).slice (win0_2.rect ⟨(i 0).val / 512, hc⟩)).set
    rw [View.set_slice_whole, Rect.mem_set_unit]
    intro a
    show win0_2.index ⟨(i 0).val / 512, hc⟩ a * _ ≤ _ ∧ _ < win0_2.index ⟨(i 0).val / 512, hc⟩ a * _ + _
    rw [(idx _).2.2]
    match a with
    | ⟨0, _⟩ => show (i 0).val / 512 * 512 ≤ (i 0 : Nat) ∧ (i 0 : Nat) < (i 0).val / 512 * 512 + 512; omega
    | ⟨1, _⟩ => show 0 * 1024 ≤ (i 1 : Nat) ∧ (i 1 : Nat) < 0 * 1024 + 1024; omega

/-- The reference ends with its arguments unchanged; it has no semaphores. -/
theorem reference : Cert.quiescent_DownRIdeal := fun m ρ _ =>
  (θ_run _ _ _).mono (fun r h => ⟨fun c => (h c).2, sem_eq_zero_of_no_sems (by decide) r.2⟩) (Cert.DownRIdeal.Value.run m ρ)

/-- The product of the hidden activations with the down projection, halved and added, block by block, is the reference's half step. -/
theorem value : Cert.algebraic_DownKIdeal_DownRIdeal := by
  intro m ρ m' ρ' _ ha
  refine ⟨_, Cert.DownKIdeal.Value.run_blocks m ρ, (θ_run _ _ _).mono (fun r h c => ?_) (Cert.DownRIdeal.Value.run m' ρ')⟩
  obtain ⟨r0, k⟩ := h c
  obtain ⟨a0, a1, a2, a3, a4⟩ := ha c
  refine ⟨r0.trans ?_, k⟩
  rw [rdot]
  refine (host_half _ _ _ _).trans ?_
  rw [final2, V_main_arg0, a0, a1, a2, a3, a4]
  simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
  after_results_simp
  rfl

end Step.Down
-- ==== Proof.AdamClaim.lean ====
module

public import proofs.«01_k».proof.Proof.Back
public import proofs.«01_k».proof.Proof.Gen.AdamKIdeal.Value
public import proofs.«01_k».proof.Proof.Gen.AdamRIdeal.Run
public import proofs.«01_k».proof.Defs

@[expose] public section

set_option maxRecDepth 16384

noncomputable section

namespace Step.Adam

open Idealize Idealize.ShloMosaic Idealize.ShloMosaic.TcCoe Idealize.SL.Sem

/-! ## One weight's update -/

abbrev w32 (b : BitVec 32) : Ideal .f32 := Scalar.ofBits .f32 b

/-- The mean of the gradients. -/
abbrev mean (g m : Ideal .f32) : Ideal .f32 := FloatOps.addf (FloatOps.mulf (w32 0x3F666666#32) m) (FloatOps.mulf (w32 0x3DCCCCCD#32) g)

/-- The mean of their squares. -/
abbrev square (g v : Ideal .f32) : Ideal .f32 := FloatOps.addf (FloatOps.mulf (w32 0x3F7FBE77#32) v) (FloatOps.mulf (w32 0x3A83126F#32) (FloatOps.mulf g g))

/-- The step of the weight. -/
abbrev delta (w g m v : Ideal .f32) : Ideal .f32 :=
  FloatOps.mulf (w32 0xBA83126F#32) (FloatOps.addf (FloatOps.divf (FloatOps.divf (mean g m) (w32 0x3F26BD02#32))
    (FloatOps.addf (FloatOps.sqrt (FloatOps.divf (square g v) (w32 0x3C231ACC#32))) (w32 0x322BCC77#32))) (FloatOps.mulf (w32 0x3C23D70A#32) w))

/-! ## The kernel's arrays -/

open Cert.AdamKIdeal Cert.AdamKIdeal.Gen Cert.AdamKIdeal.Value

variable (m : (ℓ : Loc nD τ sig) → Buf (Elt Ideal) ℓ) (c : Dev nD)

/-- Every window's block at a point is the same block of rows. -/
theorem idx : ∀ t : Fin grid0.N, win0_0.index t 0 = t.val ∧ win0_0.index t 1 = 0 ∧ win0_1.index t = win0_0.index t ∧ win0_2.index t = win0_0.index t
    ∧ win0_3.index t = win0_0.index t ∧ win0_4.index t = win0_0.index t ∧ win0_5.index t = win0_0.index t ∧ win0_6.index t = win0_0.index t
    ∧ win0_7.index t = win0_0.index t := by decide +kernel

/-- Where element `j` of the block of point `t` stands in the array. -/
def at' (t : Fin cfg0.N) (j : S352x1024.Idx) : S704x1024.Idx := fun a => match a with
  | ⟨0, _⟩ => ⟨t.val * 352 + (j 0).val, by
    have h : cfg0.N = 2 := N_0; have := t.isLt; have h : (j 0 : Nat) < 352 := (j 0).isLt; show _ < 704; omega⟩
  | ⟨1, _⟩ => ⟨(j 1).val, (j 1).isLt⟩

theorem at_eq (t : Fin cfg0.N) (j : S352x1024.Idx) (f : Fin 2 → Nat) (h : f = win0_0.index t) (k : S704x1024.Idx)
    (h0 : (k 0).val = f 0 * 352 + 1 * (j 0).val) (h1 : (k 1).val = f 1 * 1024 + 1 * (j 1).val) : k = at' t j := by
  subst h
  funext a; apply Fin.ext
  match a with
  | ⟨0, _⟩ => refine h0.trans ?_; rw [(idx t).1]; show _ = t.val * 352 + (j 0).val; omega
  | ⟨1, _⟩ => refine h1.trans ?_; rw [(idx t).2.1]; show _ = (j 1).val; omega

theorem in0 (t : Fin cfg0.N) (j) : (iblk m c 0 t : Vec Ideal S352x1024 .f32) j = V m c main_arg0 (at' t j) := by
  unfold iblk; rw [View.read_apply]; exact congrArg (V m c main_arg0) (at_eq t j _ rfl _ rfl rfl)
theorem in1 (t : Fin cfg0.N) (j) : (iblk m c 1 t : Vec Ideal S352x1024 .f32) j = V m c main_arg1 (at' t j) := by
  unfold iblk; rw [View.read_apply]; exact congrArg (V m c main_arg1) (at_eq t j _ (idx t).2.2.1 _ rfl rfl)
theorem in2 (t : Fin cfg0.N) (j) : (iblk m c 2 t : Vec Ideal S352x1024 .f32) j = V m c main_arg2 (at' t j) := by
  unfold iblk; rw [View.read_apply]; exact congrArg (V m c main_arg2) (at_eq t j _ (idx t).2.2.2.1 _ rfl rfl)
theorem in3 (t : Fin cfg0.N) (j) : (iblk m c 3 t : Vec Ideal S352x1024 .f32) j = V m c main_arg3 (at' t j) := by
  unfold iblk; rw [View.read_apply]; exact congrArg (V m c main_arg3) (at_eq t j _ (idx t).2.2.2.2.1 _ rfl rfl)

/-- Every element of an array is in the block of some point. -/
theorem mem (i : S704x1024.Idx) (f : Fin cfg0.N → Fin 2 → Nat) (h : ∀ t, f t = win0_0.index t) : ∃ t : Fin cfg0.N, ∀ a : Fin 2,
    f t a * S352x1024.size a ≤ (i a : Nat) ∧ (i a : Nat) < f t a * S352x1024.size a + S352x1024.size a := by
  have h0 : (i 0 : Nat) < 704 := (i 0).isLt
  have h1 : (i 1 : Nat) < 1024 := (i 1).isLt
  have hN : cfg0.N = 2 := N_0
  have hc : (i 0).val / 352 < cfg0.N := by omega
  refine ⟨⟨_, hc⟩, fun a => ?_⟩
  rw [h]
  match a with
  | ⟨0, _⟩ =>
    show win0_0.index ⟨(i 0).val / 352, hc⟩ 0 * 352 ≤ (i 0 : Nat) ∧ (i 0 : Nat) < win0_0.index ⟨(i 0).val / 352, hc⟩ 0 * 352 + 352
    rw [(idx _).1]; dsimp only; omega
  | ⟨1, _⟩ =>
    show win0_0.index ⟨(i 0).val / 352, hc⟩ 1 * 1024 ≤ (i 1 : Nat) ∧ (i 1 : Nat) < win0_0.index ⟨(i 0).val / 352, hc⟩ 1 * 1024 + 1024
    rw [(idx _).2.1]; omega

/-! The four results as functions of the arguments. -/

abbrev stepped (i : S704x1024.Idx) : EReal := delta (V m c main_arg0 i) (V m c main_arg1 i) (V m c main_arg2 i) (V m c main_arg3 i)
abbrev means (i : S704x1024.Idx) : EReal := mean (V m c main_arg1 i) (V m c main_arg2 i)
abbrev squares (i : S704x1024.Idx) : EReal := square (V m c main_arg1 i) (V m c main_arg3 i)

theorem final4 : (dats m 0 c).arrAt 4 cfg0.N = V m c main_arg1 :=
  (dats m 0 c).arrAt_eq_of_cover 4 (V m c main_arg1) (fun t _ => by
    rw [flushed4]; unfold out0_4
    rw [View.canon_unit_zero hz, View.ld_unit_zero (S := S352x1024) hz]
    funext j
    exact (in1 m c t j).trans (congrArg (V m c main_arg1) (at_eq t j _ (idx t).2.2.2.2.2.1 _ rfl rfl).symm)) fun i => by
    obtain ⟨t, h⟩ := mem i (win0_4.index ·) fun t => (idx t).2.2.2.2.2.1
    refine ⟨t, flush0_4 _, ?_⟩
    show i ∈ ((View.whole main_v0_0).slice (win0_4.rect t)).set
    rw [View.set_slice_whole, Rect.mem_set_unit]
    exact h

theorem final5 : (dats m 0 c).arrAt 5 cfg0.N = stepped m c :=
  (dats m 0 c).arrAt_eq_of_cover 5 _ (fun t _ => by
    rw [flushed5]; unfold out0_5
    rw [View.canon_unit_zero hz]
    simp only [View.ld_unit_zero (S := S352x1024) hz]
    funext j
    refine Eq.trans (b := stepped m c (at' t j)) ?_ (congrArg (stepped m c) (at_eq t j _ (idx t).2.2.2.2.2.2.1 _ rfl rfl).symm)
    unfold stepped
    rw [← in0 m c t j, ← in1 m c t j, ← in2 m c t j, ← in3 m c t j]
    rfl) fun i => by
    obtain ⟨t, h⟩ := mem i (win0_5.index ·) fun t => (idx t).2.2.2.2.2.2.1
    refine ⟨t, flush0_5 _, ?_⟩
    show i ∈ ((View.whole main_v0_1).slice (win0_5.rect t)).set
    rw [View.set_slice_whole, Rect.mem_set_unit]
    exact h

theorem final6 : (dats m 0 c).arrAt 6 cfg0.N = means m c :=
  (dats m 0 c).arrAt_eq_of_cover 6 _ (fun t _ => by
    rw [flushed6]; unfold out0_6
    rw [View.canon_unit_zero hz]
    simp only [View.ld_unit_zero (S := S352x1024) hz]
    funext j
    refine Eq.trans (b := means m c (at' t j)) ?_ (congrArg (means m c) (at_eq t j _ (idx t).2.2.2.2.2.2.2.1 _ rfl rfl).symm)
    unfold means
    rw [← in1 m c t j, ← in2 m c t j]
    rfl) fun i => by
    obtain ⟨t, h⟩ := mem i (win0_6.index ·) fun t => (idx t).2.2.2.2.2.2.2.1
    refine ⟨t, flush0_6 _, ?_⟩
    show i ∈ ((View.whole main_v0_2).slice (win0_6.rect t)).set
    rw [View.set_slice_whole, Rect.mem_set_unit]
    exact h

theorem final7 : (dats m 0 c).arrAt 7 cfg0.N = squares m c :=
  (dats m 0 c).arrAt_eq_of_cover 7 _ (fun t _ => by
    rw [flushed7]; unfold out0_7
    rw [View.canon_unit_zero hz]
    simp only [View.ld_unit_zero (S := S352x1024) hz]
    funext j
    refine Eq.trans (b := squares m c (at' t j)) ?_ (congrArg (squares m c) (at_eq t j _ (idx t).2.2.2.2.2.2.2.2 _ rfl rfl).symm)
    unfold squares
    rw [← in1 m c t j, ← in3 m c t j]
    rfl) fun i => by
    obtain ⟨t, h⟩ := mem i (win0_7.index ·) fun t => (idx t).2.2.2.2.2.2.2.2
    refine ⟨t, flush0_7 _, ?_⟩
    show i ∈ ((View.whole main_v0_3).slice (win0_7.rect t)).set
    rw [View.set_slice_whole, Rect.mem_set_unit]
    exact h

/-- The reference ends with its arguments unchanged; it has no semaphores. -/
theorem reference : Cert.quiescent_AdamRIdeal := fun m ρ _ =>
  (θ_run _ _ _).mono (fun r h => ⟨fun c => (h c).2.2.2.2, sem_eq_zero_of_no_sems (by decide) r.2⟩) (Cert.AdamRIdeal.Value.run m ρ)

/-- The optimiser's update of a matrix, block by block, is the update of the whole matrix. -/
theorem value : Cert.algebraic_AdamKIdeal_AdamRIdeal := by
  intro m ρ m' ρ' _ ha
  refine ⟨_, _, _, _, Cert.AdamKIdeal.Value.run_blocks m ρ, (θ_run _ _ _).mono (fun r h c => ?_) (Cert.AdamRIdeal.Value.run m' ρ')⟩
  obtain ⟨r0, r1, r2, r3, k⟩ := h c
  obtain ⟨a0, a1, a2, a3⟩ := ha c
  exact ⟨r0.trans (by rw [a1, final4]), r1.trans (by rw [a0, a1, a2, a3, final5]; rfl),
    r2.trans (by rw [a1, a2, final6]; rfl), r3.trans (by rw [a1, a3, final7]; rfl), k⟩

end Step.Adam
-- ==== Proof.TurnedClaim.lean ====
module

public import proofs.«01_k».proof.Proof.AdamClaim
public import proofs.«01_k».proof.Proof.Gen.TurnedKIdeal.Value
public import proofs.«01_k».proof.Proof.Gen.TurnedRIdeal.Run

@[expose] public section

set_option maxRecDepth 16384

noncomputable section

namespace Step.Turned

open Idealize Idealize.ShloMosaic Idealize.ShloMosaic.TcCoe Idealize.SL.Sem
open Step.Adam (mean square delta)
open Cert.TurnedKIdeal Cert.TurnedKIdeal.Gen Cert.TurnedKIdeal.Value

variable (m : (ℓ : Loc nD τ sig) → Buf (Elt Ideal) ℓ) (c : Dev nD)

/-- Every window's block at a point is the same block of rows; the gradient's is the same block of columns. -/
theorem idx : ∀ t : Fin grid0.N, win0_0.index t 0 = 0 ∧ win0_0.index t 1 = t.val ∧ win0_0.index t 2 = 0 ∧ win0_1.index t 0 = 0 ∧ win0_1.index t 1 = t.val
    ∧ win0_2.index t = win0_0.index t ∧ win0_3.index t = win0_0.index t ∧ win0_4.index t = win0_0.index t ∧ win0_5.index t = win0_0.index t
    ∧ win0_6.index t = win0_0.index t ∧ win0_7.index t = win0_0.index t := by decide +kernel

/-- Where element `j` of the block of point `t` stands in the array. -/
def at' (t : Fin cfg0.N) (j : S1x256x512.Idx) : S1x1024x512.Idx := fun a => match a with
  | ⟨0, _⟩ => ⟨0, Nat.one_pos⟩
  | ⟨1, _⟩ => ⟨t.val * 256 + (j 1).val, by
    have h : cfg0.N = 4 := N_0; have := t.isLt; have h : (j 1 : Nat) < 256 := (j 1).isLt; show _ < 1024; omega⟩
  | ⟨2, _⟩ => ⟨(j 2).val, (j 2).isLt⟩

/-- Where the turned array's element stands in the array. -/
abbrev turn (i : S1x1024x512.Idx) : S512x1024.Idx := fun a => match a with
  | ⟨0, _⟩ => ⟨(i 2).val, (i 2).isLt⟩
  | ⟨1, _⟩ => ⟨(i 1).val, (i 1).isLt⟩

theorem at_eq (t : Fin cfg0.N) (j y : S1x256x512.Idx) (f : Fin 3 → Nat) (h : f = win0_0.index t) (k : S1x1024x512.Idx)
    (h1 : (k 1).val = f 1 * 256 + 1 * (y 1).val) (h2 : (k 2).val = f 2 * 512 + 1 * (y 2).val)
    (e1 : (y 1).val = (j 1).val) (e2 : (y 2).val = (j 2).val) : k = at' t j := by
  subst h
  funext a; apply Fin.ext
  match a with
  | ⟨0, _⟩ => have h : (k 0 : Nat) < 1 := (k 0).isLt; show (k 0).val = 0; omega
  | ⟨1, _⟩ => refine h1.trans ?_; rw [(idx t).2.1]; show _ = t.val * 256 + (j 1).val; omega
  | ⟨2, _⟩ => refine h2.trans ?_; rw [(idx t).2.2.1]; show _ = (j 2).val; omega

section
variable (t : Fin cfg0.N) (j y : S1x256x512.Idx) (e1 : (y 1).val = (j 1).val) (e2 : (y 2).val = (j 2).val)
include e1 e2
theorem in0 : (iblk m c 0 t : Vec Ideal S1x256x512 .f32) y = V m c main_arg0 (at' t j) := by
  unfold iblk; rw [View.read_apply]; exact congrArg (V m c main_arg0) (at_eq t j y _ rfl _ rfl rfl e1 e2)
theorem in2 : (iblk m c 2 t : Vec Ideal S1x256x512 .f32) y = V m c main_arg2 (at' t j) := by
  unfold iblk; rw [View.read_apply]; exact congrArg (V m c main_arg2) (at_eq t j y _ (idx t).2.2.2.2.2.1 _ rfl rfl e1 e2)
theorem in3 : (iblk m c 3 t : Vec Ideal S1x256x512 .f32) y = V m c main_arg3 (at' t j) := by
  unfold iblk; rw [View.read_apply]; exact congrArg (V m c main_arg3) (at_eq t j y _ (idx t).2.2.2.2.2.2.1 _ rfl rfl e1 e2)
end

theorem in1 (t : Fin cfg0.N) (j : S1x256x512.Idx) (y : S512x256.Idx) (e0 : (y 0).val = (j 2).val) (e1 : (y 1).val = (j 1).val) :
    (iblk m c 1 t : Vec Ideal S512x256 .f32) y = V m c main_arg1 (turn (at' t j)) := by
  unfold iblk; rw [View.read_apply]
  refine congrArg (V m c main_arg1) (funext fun a => Fin.ext ?_)
  match a with
  | ⟨0, _⟩ => show win0_1.index t 0 * 512 + 1 * (y 0).val = (j 2).val; rw [(idx t).2.2.2.1]; omega
  | ⟨1, _⟩ => show win0_1.index t 1 * 256 + 1 * (y 1).val = t.val * 256 + (j 1).val; rw [(idx t).2.2.2.2.1]; omega

/-- Every element of an array is in the block of some point. -/
theorem mem (i : S1x1024x512.Idx) (f : Fin cfg0.N → Fin 3 → Nat) (h : ∀ t, f t = win0_0.index t) : ∃ t : Fin cfg0.N, ∀ a : Fin 3,
    f t a * S1x256x512.size a ≤ (i a : Nat) ∧ (i a : Nat) < f t a * S1x256x512.size a + S1x256x512.size a := by
  have h0 : (i 0 : Nat) < 1 := (i 0).isLt
  have h1 : (i 1 : Nat) < 1024 := (i 1).isLt
  have h2 : (i 2 : Nat) < 512 := (i 2).isLt
  have hN : cfg0.N = 4 := N_0
  have hc : (i 1).val / 256 < cfg0.N := by omega
  refine ⟨⟨_, hc⟩, fun a => ?_⟩
  rw [h]
  match a with
  | ⟨0, _⟩ =>
    show win0_0.index ⟨(i 1).val / 256, hc⟩ 0 * 1 ≤ (i 0 : Nat) ∧ (i 0 : Nat) < win0_0.index ⟨(i 1).val / 256, hc⟩ 0 * 1 + 1
    rw [(idx _).1]; omega
  | ⟨1, _⟩ =>
    show win0_0.index ⟨(i 1).val / 256, hc⟩ 1 * 256 ≤ (i 1 : Nat) ∧ (i 1 : Nat) < win0_0.index ⟨(i 1).val / 256, hc⟩ 1 * 256 + 256
    rw [(idx _).2.1]; dsimp only; omega
  | ⟨2, _⟩ =>
    show win0_0.index ⟨(i 1).val / 256, hc⟩ 2 * 512 ≤ (i 2 : Nat) ∧ (i 2 : Nat) < win0_0.index ⟨(i 1).val / 256, hc⟩ 2 * 512 + 512
    rw [(idx _).2.2.1]; omega

/-! The four results as functions of the arguments. -/

abbrev stepped (i : S1x1024x512.Idx) : EReal := delta (V m c main_arg0 i) (V m c main_arg1 (turn i)) (V m c main_arg2 i) (V m c main_arg3 i)
abbrev means (i : S1x1024x512.Idx) : EReal := mean (V m c main_arg1 (turn i)) (V m c main_arg2 i)
abbrev squares (i : S1x1024x512.Idx) : EReal := square (V m c main_arg1 (turn i)) (V m c main_arg3 i)
abbrev turned (i : S1x1024x512.Idx) : EReal := V m c main_arg1 (turn i)

theorem final4 : (dats m 0 c).arrAt 4 cfg0.N = turned m c :=
  (dats m 0 c).arrAt_eq_of_cover 4 _ (fun t _ => by
    rw [flushed4]; unfold out0_4
    simp only [View.ld_unit_zero (S := S1x256x512) hz3, View.ld_unit_zero (S := S512x256) hz]
    funext j
    refine (canon4_eq _ j).trans ?_
    refine Eq.trans (b := turned m c (at' t j)) ?_ (congrArg (turned m c) (at_eq t j j _ (idx t).2.2.2.2.2.2.2.1 _ rfl rfl rfl rfl).symm)
    unfold turned
    rw [← in1 m c t j (ix4_0 j) rfl rfl]) fun i => by
    obtain ⟨t, h⟩ := mem i (win0_4.index ·) fun t => (idx t).2.2.2.2.2.2.2.1
    refine ⟨t, flush0_4 _, ?_⟩
    show i ∈ ((View.whole main_v0_0).slice (win0_4.rect t)).set
    rw [View.set_slice_whole, Rect.mem_set_unit]
    exact h

theorem final5 : (dats m 0 c).arrAt 5 cfg0.N = stepped m c :=
  (dats m 0 c).arrAt_eq_of_cover 5 _ (fun t _ => by
    rw [flushed5]; unfold out0_5
    simp only [View.ld_unit_zero (S := S1x256x512) hz3, View.ld_unit_zero (S := S512x256) hz]
    funext j
    refine (canon5_eq _ _ _ _ j).trans ?_
    refine Eq.trans (b := stepped m c (at' t j)) ?_ (congrArg (stepped m c) (at_eq t j j _ (idx t).2.2.2.2.2.2.2.2.1 _ rfl rfl rfl rfl).symm)
    unfold stepped
    rw [← in0 m c t j (ix5_5 j) rfl rfl, ← in1 m c t j (ix5_1 j) rfl rfl, ← in2 m c t j (ix5_0 j) rfl rfl, ← in3 m c t j (ix5_2 j) rfl rfl]) fun i => by
    obtain ⟨t, h⟩ := mem i (win0_5.index ·) fun t => (idx t).2.2.2.2.2.2.2.2.1
    refine ⟨t, flush0_5 _, ?_⟩
    show i ∈ ((View.whole main_v0_1).slice (win0_5.rect t)).set
    rw [View.set_slice_whole, Rect.mem_set_unit]
    exact h

theorem final6 : (dats m 0 c).arrAt 6 cfg0.N = means m c :=
  (dats m 0 c).arrAt_eq_of_cover 6 _ (fun t _ => by
    rw [flushed6]; unfold out0_6
    simp only [View.ld_unit_zero (S := S1x256x512) hz3, View.ld_unit_zero (S := S512x256) hz]
    funext j
    refine (canon6_eq _ _ j).trans ?_
    refine Eq.trans (b := means m c (at' t j)) ?_ (congrArg (means m c) (at_eq t j j _ (idx t).2.2.2.2.2.2.2.2.2.1 _ rfl rfl rfl rfl).symm)
    unfold means
    rw [← in1 m c t j (ix6_1 j) rfl rfl, ← in2 m c t j (ix6_0 j) rfl rfl]) fun i => by
    obtain ⟨t, h⟩ := mem i (win0_6.index ·) fun t => (idx t).2.2.2.2.2.2.2.2.2.1
    refine ⟨t, flush0_6 _, ?_⟩
    show i ∈ ((View.whole main_v0_2).slice (win0_6.rect t)).set
    rw [View.set_slice_whole, Rect.mem_set_unit]
    exact h

theorem final7 : (dats m 0 c).arrAt 7 cfg0.N = squares m c :=
  (dats m 0 c).arrAt_eq_of_cover 7 _ (fun t _ => by
    rw [flushed7]; unfold out0_7
    simp only [View.ld_unit_zero (S := S1x256x512) hz3, View.ld_unit_zero (S := S512x256) hz]
    funext j
    refine (canon7_eq _ _ j).trans ?_
    refine Eq.trans (b := squares m c (at' t j)) ?_ (congrArg (squares m c) (at_eq t j j _ (idx t).2.2.2.2.2.2.2.2.2.2 _ rfl rfl rfl rfl).symm)
    unfold squares
    rw [← in1 m c t j (ix7_1 j) rfl rfl, ← in3 m c t j (ix7_0 j) rfl rfl]) fun i => by
    obtain ⟨t, h⟩ := mem i (win0_7.index ·) fun t => (idx t).2.2.2.2.2.2.2.2.2.2
    refine ⟨t, flush0_7 _, ?_⟩
    show i ∈ ((View.whole main_v0_3).slice (win0_7.rect t)).set
    rw [View.set_slice_whole, Rect.mem_set_unit]
    exact h

/-- The reference ends with its arguments unchanged; it has no semaphores. -/
theorem reference : Cert.quiescent_TurnedRIdeal := fun m ρ _ =>
  (θ_run _ _ _).mono (fun r h => ⟨fun c => (h c).2.2.2.2, sem_eq_zero_of_no_sems (by decide) r.2⟩) (Cert.TurnedRIdeal.Value.run m ρ)

/-- The turned gradient, as the host writes it. -/
theorem host_turn {F : FTy → Type} (A : Vec F S512x1024 .f32) (h h') :
    broadcastInDim Cert.TurnedRIdeal.S1x1024x512 ![1, 2] h (transpose Cert.TurnedRIdeal.S1024x512 [1, 0] A h') = fun i => A (turn i) := by
  funext i
  pointwise
  exact congrArg A (funext fun a => match a with | ⟨0, _⟩ => rfl | ⟨1, _⟩ => rfl)

/-- The optimiser's update of a matrix whose gradient comes turned, block by block, is the update of the whole matrix. -/
theorem value : Cert.algebraic_TurnedKIdeal_TurnedRIdeal := by
  intro m ρ m' ρ' _ ha
  refine ⟨_, _, _, _, Cert.TurnedKIdeal.Value.run_blocks m ρ, (θ_run _ _ _).mono (fun r h c => ?_) (Cert.TurnedRIdeal.Value.run m' ρ')⟩
  obtain ⟨r0, r1, r2, r3, k⟩ := h c
  obtain ⟨a0, a1, a2, a3⟩ := ha c
  have g := fun h h' => host_turn (m' ((c.tc : Thread Cert.TurnedRIdeal.nD Cert.TurnedRIdeal.τ).loc Cert.TurnedRIdeal.main_arg1)) h h'
  refine ⟨r0.trans ((g _ _).trans ?_), r1.trans ?_, r2.trans ?_, r3.trans ?_, k⟩
  · rw [a1, final4]
  · rw [g, a0, a1, a2, a3, final5]; rfl
  · rw [g, a1, a2, final6]; rfl
  · rw [g, a1, a3, final7]; rfl

end Step.Turned
-- ==== Proof.TailClaim.lean ====
module

public import proofs.«01_k».proof.Proof.Gen.CastK.Value
public import proofs.«01_k».proof.Proof.Gen.CastR.Run
public import proofs.«01_k».proof.Proof.Gen.TotalKIdeal.Value
public import proofs.«01_k».proof.Proof.Gen.TotalRIdeal.Run
public import proofs.«01_k».proof.Proof.Host
public import proofs.«01_k».proof.Defs
public import Idealize.ShloMosaic.Lib.Pipeline.Value

@[expose] public section

set_option maxRecDepth 16384

noncomputable section

namespace Step.Cast

open Idealize Idealize.ShloMosaic Idealize.ShloMosaic.TcCoe Idealize.SL.Sem

/-- The reference ends with its arguments unchanged; it has no semaphores. -/
theorem reference : Cert.quiescent_CastR := fun m ρ _ =>
  (θ_run _ _ _).mono (fun r h => ⟨fun c => (h c).2.2.2.2, sem_eq_zero_of_no_sems (by decide) r.2⟩) (Cert.CastR.Value.run m ρ)

/-- The cast of four matrices, block by block, is the cast of each matrix, bit by bit. -/
theorem value : Cert.bitexact_CastK_CastR := by
  intro m ρ m' ρ' _ ha
  refine ⟨_, _, _, _, Cert.CastK.Value.run m ρ, (θ_run _ _ _).mono (fun r h c => ?_) (Cert.CastR.Value.run m' ρ')⟩
  obtain ⟨r0, r1, r2, r3, k⟩ := h c
  obtain ⟨a0, a1, a2, a3⟩ := ha c
  exact ⟨r0.trans (by rw [a0]; rfl), r1.trans (by rw [a1]; rfl), r2.trans (by rw [a2]; rfl), r3.trans (by rw [a3]; rfl), k⟩

end Step.Cast

namespace Step.Total

open Idealize Idealize.ShloMosaic Idealize.ShloMosaic.TcCoe Idealize.SL.Sem

/-- The reference ends with its argument unchanged; it has no semaphores. -/
theorem reference : Cert.quiescent_TotalRIdeal := fun m ρ _ =>
  (θ_run _ _ _).mono (fun r h => ⟨fun c => (h c).2, sem_eq_zero_of_no_sems (by decide) r.2⟩) (Cert.TotalRIdeal.Value.run m ρ)

open Cert.TotalKIdeal Cert.TotalKIdeal.Gen

/-- Element `(i, j)` of one of the eight parts. -/
theorem part (A : Vec Ideal S8x80x1024 .f32) (k : Fin 8) (inb h) (i : Fin 80) (j : Fin 1024) :
    shapeCast S80x1024 (View.ld A (Rect.unit ![k.val, 0, 0] S1x80x1024.size inb)) h (ix2 i j) = A (ix3 k i j) := by
  refine (shapeCast_dropUnit_apply ![80, 1024] _ h (ix2 i j)).trans (congrArg A (funext fun a => Fin.ext ?_))
  match a with
  | ⟨0, _⟩ => rfl
  | ⟨1, _⟩ => show 0 + 1 * i.val = i.val; omega
  | ⟨2, _⟩ => show 0 + 1 * j.val = j.val; omega

/-- The eight parts added in order are the sum over the first axis. -/
theorem value : Cert.algebraic_TotalKIdeal_TotalRIdeal := by
  intro m ρ m' ρ' _ ha
  refine ⟨_, Cert.TotalKIdeal.Value.run m ρ, (θ_run _ _ _).mono (fun r h c => ⟨(h c).1.trans ?_, (h c).2⟩) (Cert.TotalRIdeal.Value.run m' ρ')⟩
  rw [ha c]
  funext y
  obtain ⟨i, j, rfl⟩ := at2 y
  pointwise
  have p := fun k => part (m ((c.tc : Thread Cert.TotalKIdeal.nD Cert.TotalKIdeal.τ).loc Cert.TotalKIdeal.main_arg0)) k
  refine (Fin.sum_univ_eight _).trans (Eq.symm ?_)
  exact congrArg₂ (· + ·) (congrArg₂ (· + ·) (congrArg₂ (· + ·) (congrArg₂ (· + ·) (congrArg₂ (· + ·) (congrArg₂ (· + ·) (congrArg₂ (· + ·)
    (p 0 _ _ i j) (p 1 _ _ i j)) (p 2 _ _ i j)) (p 3 _ _ i j)) (p 4 _ _ i j)) (p 5 _ _ i j)) (p 6 _ _ i j)) (p 7 _ _ i j)

end Step.Total
-- ==== Proof.ChipsClaim.lean ====
module

public import proofs.«01_k».proof.Proof.Gen.ChipsKIdeal.Value
public import proofs.«01_k».proof.Proof.Gen.ChipsRIdeal.Run
public import proofs.«01_k».proof.Proof.Gen.On_own_half
public import proofs.«01_k».proof.Proof.Host
public import proofs.«01_k».proof.Defs
public import Idealize.ShloMosaic.Lib.Pipeline.Value

@[expose] public section

set_option maxRecDepth 16384

noncomputable section

namespace Step.Chips

open Idealize Idealize.ShloMosaic Idealize.ShloMosaic.TcCoe Idealize.SL.Sem
open Cert.ChipsKIdeal Cert.ChipsKIdeal.Gen Cert.ChipsKIdeal.Value

variable (m : (ℓ : Loc nD τ sig) → Buf (Elt Ideal) ℓ) (c : Dev nD)

/-- A chip's own part of a gradient and the three received parts, added in order; the same in both halves of the result. -/
def total (A : S4x352x1024.Idx → EReal) (B : S3x352x1024.Idx → EReal) (i : S2x352x1024.Idx) : EReal :=
  A (ix3 0 (i 1) (i 2)) + B (ix3 0 (i 1) (i 2)) + B (ix3 1 (i 1) (i 2)) + B (ix3 2 (i 1) (i 2))

/-- The received parts' sum, added part by part. -/
theorem sum_three (a : EReal) (f : Fin 3 → EReal) : a + ∑ x, f x = a + f 0 + f 1 + f 2 := by
  rw [Fin.sum_univ_three, ← add_assoc, ← add_assoc]

/-- Every window's block at a point is the same block of rows, in the first member. -/
theorem idx : ∀ t : Fin grid0.N, (∀ a, win0_0.index t a = ![0, t.val, 0] a) ∧ (∀ a, win0_1.index t a = ![0, t.val, 0] a) ∧ ∀ a, win0_2.index t a = ![0, t.val, 0] a := by decide +kernel

/-- The row of the array where row `r` of the block of point `t` stands. -/
def row (t : Fin cfg0.N) (r : Fin 176) : Fin 352 := ⟨t.val * 176 + r.val, by have h : cfg0.N = 2 := N_0; have := t.isLt; omega⟩

theorem in0 (t : Fin cfg0.N) (j y : S1x176x1024.Idx) (e1 : (y 1).val = (j 1).val) (e2 : (y 2).val = (j 2).val) :
    View.ld (iblk m c 0 t) r0_0 y = V m c main_arg0 (ix3 0 (row t (j 1)) (j 2)) := by
  unfold iblk
  show View.read _ _ _ _ = _
  rw [View.read_apply]
  refine congrArg (V m c main_arg0) (funext fun a => Fin.ext ?_)
  have h0 : (y 0 : Nat) < 1 := (y 0).isLt
  match a with
  | ⟨0, _⟩ => show win0_0.index t 0 * 1 + 1 * (0 + 1 * (y 0).val) = 0; rw [(idx t).1]; show 0 * 1 + _ = 0; omega
  | ⟨1, _⟩ => show win0_0.index t 1 * 176 + 1 * (0 + 1 * (y 1).val) = t.val * 176 + (j 1).val; rw [(idx t).1]; show t.val * 176 + _ = _; omega
  | ⟨2, _⟩ => show win0_0.index t 2 * 1024 + 1 * (0 + 1 * (y 2).val) = (j 2).val; rw [(idx t).1]; show 0 * 1024 + _ = _; omega

theorem in1 (t : Fin cfg0.N) (k : Fin 3) (inb) (j y : S1x176x1024.Idx) (e1 : (y 1).val = (j 1).val) (e2 : (y 2).val = (j 2).val) :
    View.ld (iblk m c 1 t) (Rect.unit (s := S3x176x1024) ![k.val, 0, 0] S1x176x1024.size inb) y = V m c main_arg1 (ix3 k (row t (j 1)) (j 2)) := by
  unfold iblk
  show View.read _ _ _ _ = _
  rw [View.read_apply]
  refine congrArg (V m c main_arg1) (funext fun a => Fin.ext ?_)
  have h0 : (y 0 : Nat) < 1 := (y 0).isLt
  match a with
  | ⟨0, _⟩ => show win0_1.index t 0 * 3 + 1 * (k.val + 1 * (y 0).val) = k.val; rw [(idx t).2.1]; show 0 * 3 + _ = _; omega
  | ⟨1, _⟩ => show win0_1.index t 1 * 176 + 1 * (0 + 1 * (y 1).val) = t.val * 176 + (j 1).val; rw [(idx t).2.1]; show t.val * 176 + _ = _; omega
  | ⟨2, _⟩ => show win0_1.index t 2 * 1024 + 1 * (0 + 1 * (y 2).val) = (j 2).val; rw [(idx t).2.1]; show 0 * 1024 + _ = _; omega

/-- The first half of the result after the run. -/
theorem first (i : S2x352x1024.Idx) (h : (i 0 : Nat) < 1) : (dats m 0 c).arrAt 2 cfg0.N i = total (V m c main_arg0) (V m c main_arg1) i := by
  have h1 : (i 1 : Nat) < 352 := (i 1).isLt
  have h2 : (i 2 : Nat) < 1024 := (i 2).isLt
  have hN : cfg0.N = 2 := N_0
  have hc : (i 1).val / 176 < cfg0.N := by omega
  refine (dats m 0 c).arrAt_apply_of_mem 2 (total (V m c main_arg0) (V m c main_arg1)) (fun t _ => ?_) cfg0.N ⟨_, hc⟩ i hc (flush0_2 _) ?_
  · rw [flushed2]; unfold out0_2
    funext j
    refine (canon2_eq _ _ _ _ j).trans ?_
    refine Eq.trans (b := total (V m c main_arg0) (V m c main_arg1) (ix3 0 (row t (j 1)) (j 2))) ?_
      (congrArg (total (V m c main_arg0) (V m c main_arg1)) (funext fun a => Fin.ext ?_))
    · exact congrArg₂ (· + ·) (congrArg₂ (· + ·) (congrArg₂ (· + ·) (in0 m c t j (ix2_0 j) rfl rfl) (in1 m c t 0 _ j (ix2_1 j) rfl rfl))
        (in1 m c t 1 _ j (ix2_2 j) rfl rfl)) (in1 m c t 2 _ j (ix2_3 j) rfl rfl)
    · have h0 : (j 0 : Nat) < 1 := (j 0).isLt
      match a with
      | ⟨0, _⟩ => show 0 = win0_2.index t 0 * 1 + 1 * (j 0).val; rw [(idx t).2.2]; show 0 = 0 * 1 + _; omega
      | ⟨1, _⟩ => show t.val * 176 + (j 1).val = win0_2.index t 1 * 176 + 1 * (j 1).val; rw [(idx t).2.2]; show _ = t.val * 176 + _; omega
      | ⟨2, _⟩ => show (j 2).val = win0_2.index t 2 * 1024 + 1 * (j 2).val; rw [(idx t).2.2]; show _ = 0 * 1024 + _; omega
  · show i ∈ ((View.whole main_v0).slice (win0_2.rect ⟨_, hc⟩)).set
    rw [View.set_slice_whole, Rect.mem_set_unit]
    intro a
    show win0_2.index ⟨_, hc⟩ a * S1x176x1024.size a ≤ (i a : Nat) ∧ (i a : Nat) < win0_2.index ⟨_, hc⟩ a * S1x176x1024.size a + S1x176x1024.size a
    rw [(idx _).2.2]
    match a with
    | ⟨0, _⟩ => show 0 * 1 ≤ (i 0 : Nat) ∧ (i 0 : Nat) < 0 * 1 + 1; omega
    | ⟨1, _⟩ => show (i 1).val / 176 * 176 ≤ (i 1 : Nat) ∧ (i 1 : Nat) < (i 1).val / 176 * 176 + 176; omega
    | ⟨2, _⟩ => show 0 * 1024 ≤ (i 2 : Nat) ∧ (i 2 : Nat) < 0 * 1024 + 1024; omega

/-- The mask selects the first half. -/
theorem masked (a : FVec Ideal S4x352x1024 .bf16) (b : FVec Ideal S3x352x1024 .bf16) (i : S2x352x1024.Idx) (h : Cert.On_own_half.fn a b i = 1#1) : (i 0 : Nat) < 1 := by
  have k : ∀ r < 2, IntOp.cmpi .slt (BitVec.ofNat 32 r) 1#32 = 1#1 → r < 1 := by decide
  exact k _ (i 0).isLt h

/-- The reference ends with its arguments unchanged; it has no semaphores. -/
theorem reference : Cert.quiescent_ChipsRIdeal := fun m ρ _ =>
  (θ_run _ _ _).mono (fun r h => ⟨fun c => (h c).2, sem_eq_zero_of_no_sems (by decide) r.2⟩) (Cert.ChipsRIdeal.Value.run m ρ)

/-- In the half that a device writes stands its own part and the sum of the received parts. -/
theorem value : Cert.algebraic_ChipsKIdeal_ChipsRIdeal_on_own_half := by
  intro m ρ m' ρ' _ ha
  refine ⟨fun c => total (V m c main_arg0) (V m c main_arg1),
    (θ_run _ _ _).mono (fun r h c => ⟨fun i hi => (congrFun (h c).1 i).trans (first m c i (masked _ _ i hi)), (h c).2⟩) (Cert.ChipsKIdeal.Value.run_blocks m ρ),
    (θ_run _ _ _).mono (fun r h c => ⟨fun i _ => (congrFun (h c).1 i).trans ?_, (h c).2⟩) (Cert.ChipsRIdeal.Value.run m' ρ')⟩
  rw [(ha c).1, (ha c).2]
  pointwise
  rw [V_main_arg0, V_main_arg1]
  exact sum_three _ fun x => m ((c.tc : Thread nD τ).loc main_arg1) (ix3 x (i 1) (i 2))

end Step.Chips
-- ==== Proof.GradClaim.lean ====
module

public import proofs.«01_k».proof.Proof.LossPay
public import proofs.«01_k».proof.Proof.Gen.GradKIdeal.Value
public import proofs.«01_k».proof.Proof.Gen.GradK.Frame
public import proofs.«01_k».proof.Proof.Gen.GradRIdeal.Run
public import proofs.«01_k».proof.Defs
public import Idealize.ShloMosaic.Lib.Pipeline.ReadBack

@[expose] public section

set_option maxRecDepth 16384

noncomputable section

namespace Step.Grad

open Idealize Idealize.ShloMosaic Idealize.ShloMosaic.TcCoe Idealize.SL.Sem
open Cert.GradKIdeal Cert.GradKIdeal.Gen Cert.GradKIdeal.Value

/-- What one block of rows adds to the product. -/
def part (L : Vec Ideal S512x2816 .bf16) (R : Vec Ideal S512x1024 .bf16) (i : S2816x1024.Idx) : EReal := ∑ p : Fin 512, L (ix2 p (i 0)) * R (ix2 p (i 1))

theorem pay2 (A : Vec Ideal S2816x1024 .f32) (L : Vec Ideal S512x2816 .bf16) (R : Vec Ideal S512x1024 .bf16) : k0_pay2 A L R = fun i => A i + part L R i := by
  funext i; obtain ⟨r, l, rfl⟩ := at2 i
  unfold k0_pay2; rw [Loss.cast_self, Loss.cast_self]
  pointwise
  rfl

theorem pay1 : k0_pay1 (F := Ideal) = fun _ => 0 := by
  unfold k0_pay1; dsimp only; rw [Loss.cast_self]
  exact funext fun _ => w_zero

theorem pay4 (a : Vec Ideal S352x1024 .f32) (b : Vec Ideal S1x352x1024 .bf16) (x : S1x352x1024.Idx) : k0_pay4 a b x = a (ix2 (x 1) (x 2)) + b x := by
  unfold k0_pay4; pointwise
theorem pay5 (a : Vec Ideal S352x1024 .f32) (b : Vec Ideal S1x352x1024 .bf16) (x : S1x352x1024.Idx) : k0_pay5 a b x = a (ix2 (x 1) (x 2)) + b x := by
  unfold k0_pay5; pointwise
theorem pay6 (a : Vec Ideal S352x1024 .f32) (b : Vec Ideal S1x352x1024 .bf16) (x : S1x352x1024.Idx) : k0_pay6 a b x = a (ix2 (x 1) (x 2)) + b x := by
  unfold k0_pay6; pointwise
theorem pay3 (a : Vec Ideal S352x1024 .f32) (b : Vec Ideal S1x352x1024 .bf16) (x : S1x352x1024.Idx) : k0_pay3 (k0_pay11 a b) x = a (ix2 (x 1) (x 2)) + b x := by
  unfold k0_pay3 k0_pay11; pointwise
theorem pay7 (a : Vec Ideal S352x1024 .f32) (x : S1x352x1024.Idx) : k0_pay7 a x = a (ix2 (x 1) (x 2)) := by
  unfold k0_pay7; pointwise
theorem pay8 (a : Vec Ideal S352x1024 .f32) (x : S1x352x1024.Idx) : k0_pay8 a x = a (ix2 (x 1) (x 2)) := by
  unfold k0_pay8; pointwise
theorem pay9 (a : Vec Ideal S352x1024 .f32) (x : S1x352x1024.Idx) : k0_pay9 a x = a (ix2 (x 1) (x 2)) := by
  unfold k0_pay9; pointwise
theorem pay10 (a : Vec Ideal S352x1024 .f32) (x : S1x352x1024.Idx) : k0_pay10 a x = a (ix2 (x 1) (x 2)) := by
  unfold k0_pay10; pointwise

/-- A chip's half of its part, row `h * 352` on within each of the four, and the stored halves. -/
def row (q : Fin 4) (h : Fin 2) (r : Fin 352) : Fin 2816 := ⟨q.val * 704 + h.val * 352 + r.val, by omega⟩
def half (h : Fin 2) (A : S2816x1024.Idx → EReal) (y : S4x352x1024.Idx) : EReal := A (ix2 (row (y 0) h (y 1)) (y 2))
/-- The own half with the given half of the sibling. -/
def own (A : S2816x1024.Idx → EReal) (B : S4x352x1024.Idx → EReal) (y : S4x352x1024.Idx) : EReal := half 0 A y + B y

theorem ref_first (D : FVec Ideal Cert.GradRIdeal.S1024x2816 .f32) (B : FVec Ideal S4x352x1024 .bf16) (h2 h3 h4 h5 h6 h7) :
    truncf .bf16 (addf (shapeCast Cert.GradRIdeal.S4x352x1024 (extractStridedSlice Cert.GradRIdeal.S4x1x352x1024 ![0, 0, 0, 0] (shapeCast Cert.GradRIdeal.S4x2x352x1024
      (transpose Cert.GradRIdeal.S2816x1024 [1, 0] D h2) h3) h4) h5) (extf .f32 B h6)) h7 = own (fun i => D (ix2 (i 1) (i 0))) B := by
  funext y
  obtain ⟨q, r, l, rfl⟩ : ∃ q r l, y = ix3 q r l := ⟨_, _, _, eq_ix3 y⟩
  pointwise
  exact congrArg (fun z => D (ix2 l z) + B (ix3 q r l)) (Fin.ext (show q.val * 704 + r.val = q.val * 704 + 0 * 352 + r.val by omega))

theorem ref_second (D : FVec Ideal Cert.GradRIdeal.S1024x2816 .f32) (h2 h3 h4 h5 h7) :
    truncf .bf16 (shapeCast Cert.GradRIdeal.S4x352x1024 (extractStridedSlice Cert.GradRIdeal.S4x1x352x1024 ![0, 1, 0, 0] (shapeCast Cert.GradRIdeal.S4x2x352x1024
      (transpose Cert.GradRIdeal.S2816x1024 [1, 0] D h2) h3) h4) h5) h7 = half 1 (fun i => D (ix2 (i 1) (i 0))) := by
  funext y
  obtain ⟨q, r, l, rfl⟩ : ∃ q r l, y = ix3 q r l := ⟨_, _, _, eq_ix3 y⟩
  pointwise
  exact congrArg (fun z => D (ix2 l z)) (Fin.ext (show q.val * 704 + 352 + r.val = q.val * 704 + 1 * 352 + r.val by omega))

theorem ref_dot (X : FVec Ideal Cert.GradRIdeal.S4096x1024 .f32) (Y : FVec Ideal Cert.GradRIdeal.S4096x2816 .f32) (l r) :
    Host.dotGeneral Cert.GradRIdeal.dot_S4096x1024_S4096x2816_S1024x2816_0_0_1_1_n_n none X Y (ix2 l r) = ∑ k : Fin 4096, X (ix2 k l) * Y (ix2 k r) := by
  show FloatOps.dotGeneral _ none _ X Y (ix2 l r) = _
  have c2 := ValueIdx.contrEquiv1_symm_val Cert.GradRIdeal.dot_S4096x1024_S4096x2816_S1024x2816_0_0_1_1_n_n 4096 rfl rfl
  rw [Ideal.dotGeneral_apply, ← Equiv.sum_comp (ValueIdx.contrEquiv1 Cert.GradRIdeal.dot_S4096x1024_S4096x2816_S1024x2816_0_0_1_1_n_n 4096 rfl rfl).symm]
  refine Finset.sum_congr rfl fun k _ => congrArg₂ (fun a b => X a * Y b) (funext fun a => Fin.ext ?_) (funext fun a => Fin.ext ?_)
  · match a with
    | ⟨0, _⟩ => simp [DotDims.lhsIdx, Cert.GradRIdeal.dot_S4096x1024_S4096x2816_S1024x2816_0_0_1_1_n_n]; exact c2 k
    | ⟨1, _⟩ => simp [DotDims.lhsIdx, Cert.GradRIdeal.dot_S4096x1024_S4096x2816_S1024x2816_0_0_1_1_n_n]; rfl
  · match a with
    | ⟨0, _⟩ => simp [DotDims.rhsIdx, Cert.GradRIdeal.dot_S4096x1024_S4096x2816_S1024x2816_0_0_1_1_n_n]; exact c2 k
    | ⟨1, _⟩ => simp [DotDims.rhsIdx, Cert.GradRIdeal.dot_S4096x1024_S4096x2816_S1024x2816_0_0_1_1_n_n]; rfl

/-- The product of the first matrix, transposed, with the right half of the second. -/
def prod (L : S4096x2816.Idx → EReal) (R : S4096x2048.Idx → EReal) (i : S2816x1024.Idx) : EReal := ∑ k : Fin 4096, L (ix2 k (i 0)) * R (ix2 k (Fin.natAdd 1024 (i 1)))

theorem ref_prod (C : FVec Ideal Cert.GradRIdeal.S4096x1024 .f32) (A : FVec Ideal Cert.GradRIdeal.S4096x2816 .f32) (h) (L : S4096x2816.Idx → EReal) (R : S4096x2048.Idx → EReal) (hL : L = A)
    (hR : ∀ k l, R (ix2 k (Fin.natAdd 1024 l)) = Ideal.ofBits .f32 0x3F000000#32 * C (ix2 k l)) :
    (fun i : S2816x1024.Idx => Host.dotGeneral Cert.GradRIdeal.dot_S4096x1024_S4096x2816_S1024x2816_0_0_1_1_n_n none
      (mulf (broadcastInDim Cert.GradRIdeal.S4096x1024 ![] h (constant (F := Ideal) Cert.GradRIdeal.S_ .f32 0x3F000000#32)) C) A (ix2 (i 1) (i 0))) = prod L R := by
  subst hL
  refine funext fun i => (ref_dot _ _ _ _).trans (Finset.sum_congr rfl fun k _ => (mul_comm _ _).trans ?_)
  exact congrArg (L (ix2 k (i 0)) * ·) (hR k (i 1)).symm

variable (m : (ℓ : Loc nD τ sig) → Buf (Elt Ideal) ℓ) (c : Dev nD)

theorem lt8 (t : Fin cfg0.N) : t.val < 8 := by have h : cfg0.N = 8 := N_0; have := t.isLt; omega

theorem idx (t : Fin cfg0.N) : win0_0.index t = ![t.val, 0] ∧ win0_1.index t = ![t.val, 1] ∧ win0_2.index t = ![0, 0, 0] :=
  (by decide +kernel : ∀ t : Fin grid0.N, win0_0.index t = ![t.val, 0] ∧ win0_1.index t = ![t.val, 1] ∧ win0_2.index t = ![0, 0, 0]) t

theorem blk0 (t : Fin cfg0.N) (p l) : (iblk m c 0 t : Vec Ideal S512x2816 .bf16) (ix2 p l) = V m c main_v18 (ix2 ⟨t.val * 512 + p.val, by have := lt8 t; omega⟩ l) := by
  unfold iblk; rw [View.read_apply]
  refine congrArg (V m c main_v18) (funext fun a => Fin.ext ?_)
  match a with
  | ⟨0, _⟩ => show win0_0.index t 0 * 512 + 1 * p.val = t.val * 512 + p.val; rw [(idx t).1]; show t.val * 512 + 1 * p.val = _; omega
  | ⟨1, _⟩ => show win0_0.index t 1 * 2816 + 1 * l.val = l.val; rw [(idx t).1]; show 0 * 2816 + 1 * l.val = _; omega
theorem blk1 (t : Fin cfg0.N) (p) (l : Fin 1024) : (iblk m c 1 t : Vec Ideal S512x1024 .bf16) (ix2 p l) = V m c main_v22 (ix2 ⟨t.val * 512 + p.val, by have := lt8 t; omega⟩ (Fin.natAdd 1024 l)) := by
  unfold iblk; rw [View.read_apply]
  refine congrArg (V m c main_v22) (funext fun a => Fin.ext ?_)
  match a with
  | ⟨0, _⟩ => show win0_1.index t 0 * 512 + 1 * p.val = t.val * 512 + p.val; rw [(idx t).2.1]; show t.val * 512 + 1 * p.val = _; omega
  | ⟨1, _⟩ => show win0_1.index t 1 * 1024 + 1 * l.val = 1024 + l.val; rw [(idx t).2.1]; show 1 * 1024 + 1 * l.val = _; omega
theorem blk2 (t : Fin cfg0.N) : (iblk m c 2 t : Vec Ideal S4x352x1024 .bf16) = V m c main_arg5 := by
  funext y
  unfold iblk; rw [View.read_apply]
  refine congrArg (V m c main_arg5) (funext fun a => Fin.ext ?_)
  match a with
  | ⟨0, _⟩ => show win0_2.index t 0 * 4 + 1 * (y 0).val = (y 0).val; rw [(idx t).2.2]; show 0 * 4 + 1 * (y 0).val = _; omega
  | ⟨1, _⟩ => show win0_2.index t 1 * 352 + 1 * (y 1).val = (y 1).val; rw [(idx t).2.2]; show 0 * 352 + 1 * (y 1).val = _; omega
  | ⟨2, _⟩ => show win0_2.index t 2 * 1024 + 1 * (y 2).val = (y 2).val; rw [(idx t).2.2]; show 0 * 1024 + 1 * (y 2).val = _; omega

/-- One product of the contraction. -/
def term (L : S4096x2816.Idx → EReal) (R : S4096x2048.Idx → EReal) (i : S2816x1024.Idx) (k : Nat) : EReal :=
  if h : k < 4096 then L (ix2 ⟨k, h⟩ (i 0)) * R (ix2 ⟨k, h⟩ (Fin.natAdd 1024 (i 1))) else 0

theorem part_eq (t : Fin cfg0.N) (i) : part (iblk m c 0 t) (iblk m c 1 t) i = ∑ p ∈ Finset.range 512, term (V m c main_v18) (V m c main_v22) i (t.val * 512 + p) := by
  rw [Finset.sum_range]
  refine Finset.sum_congr rfl fun p _ => ?_
  rw [term, dif_pos (by have := lt8 t; omega)]
  exact congrArg₂ (· * ·) (blk0 m c t p (i 0)) (blk1 m c t p (i 1))

theorem at_A (t : Fin cfg0.N) (h0 : t.val % 8 = 0) (h1 : ¬t.val % 8 = 7) : (outsAt0 m c t.val t.isLt).2.2 = part (iblk m c 0 t) (iblk m c 1 t) := by
  rw [outsAt0_A m c t h0 h1]; dsimp only
  unfold sout0_A_0 kernelRun0_A; dsimp only; sl_unfold_words
  rw [View.read_writes_junk_eq_canon, View.canon_cons_unit_zero hz]
  simp only [View.readAt_eq_ld, (hs0_0 t).read_unread, (hs0_1 t).read_unread, View.ld_unit_zero (S := S512x2816) hz, View.ld_unit_zero (S := S512x1024) hz, readCov_full (S := S2816x1024) _ hz hz]
  rw [pay2, pay1]; exact funext fun i => zero_add _

theorem at_B (t : Fin cfg0.N) (h0 : ¬t.val % 8 = 0) (p) (hp : outsAt0 m c (t.val - 1) (Nat.lt_of_le_of_lt (Nat.sub_le _ _) t.isLt) = p) :
    (outsAt0 m c t.val t.isLt).2.2 = fun i => p.2.2 i + part (iblk m c 0 t) (iblk m c 1 t) i := by
  have hw : scM0_0.IsWhole := Memref.isWhole_whole _
  by_cases h1 : t.val % 8 = 7
  · rw [outsAt0_C m c t h0 h1, hp]; dsimp only
    unfold sout0_C_0 kernelRun0_C; dsimp only; sl_unfold_words
    rw [View.read_writes_junk_eq_canon, View.canon_cons_unit_zero hz]
    simp only [View.readAt_eq_ld, (hs0_0 t).read_unread, (hs0_1 t).read_unread, hw.read_unread, View.ld_unit_zero (S := S512x2816) hz, View.ld_unit_zero (S := S512x1024) hz, View.ld_unit_zero (S := S2816x1024) hz]
    exact pay2 _ _ _
  · rw [outsAt0_B m c t h0 h1, hp]; dsimp only
    unfold sout0_B_0 kernelRun0_B; dsimp only; sl_unfold_words
    rw [View.read_writes_junk_eq_canon, View.canon_cons_unit_zero hz]
    simp only [View.readAt_eq_ld, (hs0_0 t).read_unread, (hs0_1 t).read_unread, hw.read_unread, View.ld_unit_zero (S := S512x2816) hz, View.ld_unit_zero (S := S512x1024) hz, View.ld_unit_zero (S := S2816x1024) hz]
    exact pay2 _ _ _

/-- The accumulator after each point. -/
theorem acc_eq : ∀ (n : Nat) (h : n < cfg0.N), (outsAt0 m c n h).2.2 = fun i => ∑ k ∈ Finset.range ((n + 1) * 512), term (V m c main_v18) (V m c main_v22) i k
  | 0, h => (at_A m c ⟨0, h⟩ rfl (show ¬0 % 8 = 7 by decide)).trans (funext fun i => (part_eq m c ⟨0, h⟩ i).trans (Finset.sum_congr rfl fun k _ => congrArg (term (V m c main_v18) (V m c main_v22) i) (show 0 * 512 + k = k by omega)))
  | n + 1, h => (at_B m c ⟨n + 1, h⟩ (by have := lt8 ⟨n + 1, h⟩; dsimp only at this ⊢; omega) _ rfl).trans (funext fun i => by
      show (outsAt0 m c n (Nat.lt_of_succ_lt h)).2.2 i + _ = _
      rw [acc_eq n (Nat.lt_of_succ_lt h), part_eq, show (n + 1 + 1) * 512 = (n + 1) * 512 + 512 by omega, Finset.sum_range_add])

theorem acc_last (h : 7 < cfg0.N) : (outsAt0 m c 7 h).2.2 = prod (V m c main_v18) (V m c main_v22) := by
  rw [acc_eq]
  refine funext fun i => (Finset.sum_range _).trans (Finset.sum_congr rfl fun k _ => ?_)
  rw [term, dif_pos k.isLt]

/-- A load of a half's rows of the accumulator, at its place in the result. -/
theorem rows {sp} (v : View sig .tc sp S2816x1024 .f32) (q : Fin 4) (z : Fin 2) {o3 : Fin 3 → Nat} {o2 : Fin 2 → Nat} (i3) (i2) (h) (w : Vec Ideal S2816x1024 .f32) (x : S1x352x1024.Idx)
    (e3 : o3 = ![q.val, 0, 0]) (e2 : o2 = ![q.val * 704 + z.val * 352, 0]) :
    v.readCov [⟨Rect.unit ![0, 0] ![2816, 1024] h, w⟩] (Rect.unit (s := S2816x1024) o2 ![352, 1024] i2).toLoadRect (ix2 (x 1) (x 2)) = half z w ((Rect.unit (s := S4x352x1024) o3 ![1, 352, 1024] i3).emb x) := by
  subst e3 e2
  refine (congrFun ((View.readCov_eq_canon' v _ _).trans (congrArg (fun f : S2816x1024.Idx → Elt Ideal .f32 => View.ld f (Rect.unit (s := S2816x1024) ![q.val * 704 + z.val * 352, 0] ![352, 1024] i2)) (View.canon_cons_unit_zero hz h w []))) _).trans ?_
  have h0 : (x 0 : Nat) < 1 := (x 0).isLt
  refine congrArg w (funext fun a => Fin.ext ?_)
  match a with
  | ⟨0, _⟩ => show q.val * 704 + z.val * 352 + 1 * (x 1).val = (q.val + 1 * (x 0).val) * 704 + z.val * 352 + (0 + 1 * (x 1).val); omega
  | ⟨1, _⟩ => show 0 + 1 * (x 2).val = 0 + 1 * (x 2).val; rfl

theorem rows_own {sp} (v : View sig .tc sp S2816x1024 .f32) (q : Fin 4) {o3 : Fin 3 → Nat} {o2 : Fin 2 → Nat} (i3) (i2) (h) (w : Vec Ideal S2816x1024 .f32) (B : Vec Ideal S4x352x1024 .bf16)
    (x : S1x352x1024.Idx) (e3 : o3 = ![q.val, 0, 0]) (e2 : o2 = ![q.val * 704 + (0 : Fin 2).val * 352, 0]) :
    v.readCov [⟨Rect.unit ![0, 0] ![2816, 1024] h, w⟩] (Rect.unit (s := S2816x1024) o2 ![352, 1024] i2).toLoadRect (ix2 (x 1) (x 2)) + View.ld B (Rect.unit (s := S4x352x1024) o3 ![1, 352, 1024] i3) x
      = own w B ((Rect.unit (s := S4x352x1024) o3 ![1, 352, 1024] i3).emb x) :=
  congrArg (· + B ((Rect.unit (s := S4x352x1024) o3 ![1, 352, 1024] i3).emb x)) (rows v q 0 i3 i2 h w x e3 e2)

theorem last (t : Fin cfg0.N) (h1 : t.val % 8 = 7) : (outsAt0 m c t.val t.isLt).1 = own (outsAt0 m c t.val t.isLt).2.2 (V m c main_arg5)
    ∧ (outsAt0 m c t.val t.isLt).2.1 = half 1 (outsAt0 m c t.val t.isLt).2.2 := by
  have h0 : ¬t.val % 8 = 0 := by omega
  have hw : scM0_0.IsWhole := Memref.isWhole_whole _
  rw [at_B m c t h0 _ rfl, outsAt0_C m c t h0 h1, ← blk2 m c t]; dsimp only
  generalize (outsAt0 m c (t.val - 1) _).2.2 = p
  constructor
  · unfold out0_C_3
    rw [View.read_writes_eq_canon _ _ _ (cover0_C_3 _ _ _ _ _ _ _ _ _ _ _ _ _ _ _ _ _ _ _ _)]
    funext y
    refine View.canon_apply_of_pieces (Val := Elt Ideal) (own (fun i => p i + part (iblk m c 0 t) (iblk m c 1 t) i) (iblk m c 2 t)) _ ?_ y (cover0_C_3 _ _ _ _ _ _ _ _ _ _ _ _ _ _ _ _ _ _ _ _ y)
    unfold kernelRun0_C; dsimp only; sl_unfold_words
    simp only [View.readAt_eq_ld, (hs0_0 t).read_unread, (hs0_1 t).read_unread, (hs0_2 t).read_unread, hw.read_unread, View.ld_unit_zero (S := S512x2816) hz, View.ld_unit_zero (S := S512x1024) hz, View.ld_unit_zero (S := S2816x1024) hz, pay2]
    generalize (fun i => p i + part (iblk m c 0 t) (iblk m c 1 t) i) = w
    generalize (iblk m c 2 t : Vec Ideal S4x352x1024 .bf16) = B
    refine View.PiecesOf.mem ⟨fun x => ?_, fun x => ?_, fun x => ?_, fun x => ?_, trivial⟩
    · exact (pay6 _ _ x).trans (rows_own _ 3 _ _ _ _ _ x rfl rfl)
    · exact (pay5 _ _ x).trans (rows_own _ 2 _ _ _ _ _ x rfl rfl)
    · exact (pay4 _ _ x).trans (rows_own _ 1 _ _ _ _ _ x rfl rfl)
    · exact (pay3 _ _ x).trans (rows_own _ 0 _ _ _ _ _ x rfl rfl)
  · unfold out0_C_4
    rw [View.read_writes_eq_canon _ _ _ (cover0_C_4 _ _ _ _ _ _ _ _ _ _ _ _ _ _ _ _ _ _ _ _)]
    funext y
    refine View.canon_apply_of_pieces _ _ ?_ y (cover0_C_4 _ _ _ _ _ _ _ _ _ _ _ _ _ _ _ _ _ _ _ _ y)
    unfold kernelRun0_C; dsimp only; sl_unfold_words
    simp only [View.readAt_eq_ld, (hs0_0 t).read_unread, (hs0_1 t).read_unread, hw.read_unread, View.ld_unit_zero (S := S512x2816) hz, View.ld_unit_zero (S := S512x1024) hz, View.ld_unit_zero (S := S2816x1024) hz, pay2]
    generalize (fun i => p i + part (iblk m c 0 t) (iblk m c 1 t) i) = w
    refine View.PiecesOf.mem ⟨fun x => ?_, fun x => ?_, fun x => ?_, fun x => ?_, trivial⟩
    · exact (pay10 _ x).trans (rows _ 3 1 inb_S4x352x1024_S1x352x1024_3_0_0 _ _ _ x rfl rfl)
    · exact (pay9 _ x).trans (rows _ 2 1 inb_S4x352x1024_S1x352x1024_2_0_0 _ _ _ x rfl rfl)
    · exact (pay8 _ x).trans (rows _ 1 1 inb_S4x352x1024_S1x352x1024_1_0_0 _ _ _ x rfl rfl)
    · exact (pay7 _ x).trans (rows _ 0 1 inb_S4x352x1024_S1x352x1024_0_0_0 _ _ _ x rfl rfl)

/-- The right half of the array given to the kernel. -/
theorem right (k : Fin 4096) (l : Fin 1024) : V m c main_v22 (ix2 k (Fin.natAdd 1024 l)) = Ideal.ofBits .f32 0x3F000000#32 * m ((c.tc : Thread nD τ).loc main_arg4) (ix2 k l) := by
  simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
  after_results_simp
  refine (concatenate_pair_apply_right (t := S4096x2048) (s₁ := S4096x1024) (s₂ := S4096x1024) (1 : Fin 2) _ _ concatenates_S4096x1024_S4096x1024_S4096x2048_d1 (ix2 k (Fin.natAdd 1024 l)) rfl rfl (ix2 k l) (Fin.forall_fin_two.mpr ⟨fun _ => rfl, fun e => absurd rfl e⟩) (by show l.val + 1024 = 1024 + l.val; omega)).trans ?_
  after_results_simp
  rfl

/-- Both results, where the reference's factors are the kernel's. -/
theorem both {X Y : Vec Ideal S4x352x1024 .bf16} {C : FVec Ideal Cert.GradRIdeal.S4096x1024 .f32} {A : FVec Ideal Cert.GradRIdeal.S4096x2816 .f32} {B : FVec Ideal S4x352x1024 .bf16} {h1 h2 h3 h4 h5 h6 h7 g4 g5}
    (r0 : X = truncf .bf16 (addf (shapeCast Cert.GradRIdeal.S4x352x1024 (extractStridedSlice Cert.GradRIdeal.S4x1x352x1024 ![0, 0, 0, 0] (shapeCast Cert.GradRIdeal.S4x2x352x1024 (transpose Cert.GradRIdeal.S2816x1024 [1, 0]
      (Host.dotGeneral Cert.GradRIdeal.dot_S4096x1024_S4096x2816_S1024x2816_0_0_1_1_n_n none (mulf (broadcastInDim Cert.GradRIdeal.S4096x1024 ![] h1 (constant Cert.GradRIdeal.S_ .f32 0x3F000000#32)) C) A) h2) h3) h4) h5) (extf .f32 B h6)) h7)
    (r1 : Y = truncf .bf16 (shapeCast Cert.GradRIdeal.S4x352x1024 (extractStridedSlice Cert.GradRIdeal.S4x1x352x1024 ![0, 1, 0, 0] (shapeCast Cert.GradRIdeal.S4x2x352x1024 (transpose Cert.GradRIdeal.S2816x1024 [1, 0]
      (Host.dotGeneral Cert.GradRIdeal.dot_S4096x1024_S4096x2816_S1024x2816_0_0_1_1_n_n none (mulf (broadcastInDim Cert.GradRIdeal.S4096x1024 ![] h1 (constant Cert.GradRIdeal.S_ .f32 0x3F000000#32)) C) A) h2) h3) g4) g5) h7)
    (hA : V m c main_v18 = A) (hC : m ((c.tc : Thread nD τ).loc main_arg4) = C) (hB : m ((c.tc : Thread nD τ).loc main_arg5) = B) : X = G3 m c ∧ Y = G4 m c := by
  subst hC hB
  have h7 : 7 < cfg0.N := lt_of_lt_of_eq (by decide) N_0.symm
  have e := ref_prod (m ((c.tc : Thread nD τ).loc main_arg4)) A h1 (V m c main_v18) (V m c main_v22) hA (right m c)
  rw [ref_first, e] at r0
  rw [ref_second, e] at r1
  obtain ⟨l0, l1⟩ := last m c ⟨7, h7⟩ rfl
  rw [acc_last m c h7] at l0 l1
  refine ⟨r0.trans (Eq.symm ?_), r1.trans (Eq.symm ?_)⟩
  · rw [G3_last, ← outsAt0_sweep m c 7 h7]
    exact l0.trans (by rw [V_main_arg5])
  · rw [G4_last, ← outsAt0_sweep m c 7 h7]
    exact l1

/-- The reference ends with its arguments unchanged; it has no semaphores. -/
theorem reference : Cert.quiescent_GradRIdeal := fun m ρ _ =>
  (θ_run _ _ _).mono (fun r h => ⟨fun c => (h c).2.2, sem_eq_zero_of_no_sems (by decide) r.2⟩) (Cert.GradRIdeal.Value.run m ρ)

/-- The own half of each chip's part of a weight's gradient with the sibling's half added, and the half for the sibling, are the reference's. -/
theorem value : Cert.algebraic_GradKIdeal_GradRIdeal := by
  intro m ρ m' ρ' _ ha
  refine ⟨_, _, Cert.GradKIdeal.Value.run m ρ, (θ_run _ _ _).mono (fun r h c => ?_) (Cert.GradRIdeal.Value.run m' ρ')⟩
  obtain ⟨a0, a1, a2, a3, a4, a5⟩ := ha c
  have f := both m c (h c).1 (h c).2.1 (by
    rw [a0, a1, a2, a3]
    simp only [V, hostOps0, hostOps0_1, hostOps0_2, List.flatten_cons, List.flatten_nil, List.cons_append, List.nil_append, List.append_nil, StableHlo.TRef.binary, StableHlo.TRef.nullary, StableHlo.TRef.unary, StableHlo.TRef.toBuf, StableHlo.TRef.ofBuf, cast_eq]
    after_results_simp
    rfl) a4.symm a5.symm
  exact ⟨f.1, f.2, (h c).2.2⟩

end Step.Grad
-- ==== Proof.lean ====
module

public import proofs.«01_k».proof.Defs
public import proofs.«01_k».proof.Proof.Gen.LossK.Frame
public import proofs.«01_k».proof.Proof.Gen.FfnK.Frame
public import proofs.«01_k».proof.Proof.Gen.Pre_finite_loss
public import proofs.«01_k».proof.Proof.Gen.FfnRIdeal.Run
public import proofs.«01_k».proof.Proof.Gen.Pre_finite_ffn
public import proofs.«01_k».proof.Proof.Gen.Pre_finite_mixer
public import proofs.«01_k».proof.Proof.Gen.LossKIdeal.Value
public import proofs.«01_k».proof.Proof.Gen.FfnKIdeal.Value
public import proofs.«01_k».proof.Proof.Gen.LossRIdeal.Run
public import proofs.«01_k».proof.Proof.Gen.MixK
public import proofs.«01_k».proof.Proof.Gen.MixKIdeal
public import proofs.«01_k».proof.Proof.Gen.MixKIdeal.Frame.Runs
public import proofs.«01_k».proof.Proof.Gen.MixRIdeal.Run
public import proofs.«01_k».proof.Proof.Gen.UpK.Frame
public import proofs.«01_k».proof.Proof.Gen.UpKIdeal.Value
public import proofs.«01_k».proof.Proof.Gen.UpRIdeal.Run
public import proofs.«01_k».proof.Proof.Gen.Pre_finite_up
public import proofs.«01_k».proof.Proof.Gen.FwdK
public import proofs.«01_k».proof.Proof.Gen.FwdKIdeal
public import proofs.«01_k».proof.Proof.Gen.FwdKIdeal.Frame.Runs
public import proofs.«01_k».proof.Proof.Gen.FwdRIdeal.Run
public import proofs.«01_k».proof.Proof.Gen.Pre_finite_mixed
public import proofs.«01_k».proof.Proof.Gen.SwapK
public import proofs.«01_k».proof.Proof.Gen.PackK
public import proofs.«01_k».proof.Proof.Gen.PackR.Run
public import proofs.«01_k».proof.Proof.Gen.SwapR.Run
public import proofs.«01_k».proof.Proof.Gen.DownK.Frame
public import proofs.«01_k».proof.Proof.Gen.DownKIdeal.Value
public import proofs.«01_k».proof.Proof.Gen.AdamK.Frame
public import proofs.«01_k».proof.Proof.Gen.AdamKIdeal.Value
public import proofs.«01_k».proof.Proof.Gen.TurnedK.Frame
public import proofs.«01_k».proof.Proof.Gen.TurnedKIdeal.Value
public import proofs.«01_k».proof.Proof.Gen.TotalK.Frame
public import proofs.«01_k».proof.Proof.Gen.TotalKIdeal.Value
public import proofs.«01_k».proof.Proof.Gen.CastK.Value
public import proofs.«01_k».proof.Proof.Gen.DownRIdeal.Run
public import proofs.«01_k».proof.Proof.Gen.AdamRIdeal.Run
public import proofs.«01_k».proof.Proof.Gen.TurnedRIdeal.Run
public import proofs.«01_k».proof.Proof.Gen.TotalRIdeal.Run
public import proofs.«01_k».proof.Proof.Gen.CastR.Run
public import proofs.«01_k».proof.Proof.LossClaim
public import proofs.«01_k».proof.Proof.FfnClaim
public import proofs.«01_k».proof.Proof.MixClaim
public import proofs.«01_k».proof.Proof.UpClaim
public import proofs.«01_k».proof.Proof.FwdClaim
public import proofs.«01_k».proof.Proof.SwapClaim
public import proofs.«01_k».proof.Proof.PackClaim
public import proofs.«01_k».proof.Proof.DownClaim
public import proofs.«01_k».proof.Proof.AdamClaim
public import proofs.«01_k».proof.Proof.TurnedClaim
public import proofs.«01_k».proof.Proof.TailClaim
public import proofs.«01_k».proof.Proof.ChipsClaim
public import proofs.«01_k».proof.Proof.GradClaim
public import proofs.«01_k».proof.Proof.Gen.ChipsK.Frame
public import Idealize.ShloMosaic.Adequacy
public import Idealize.ShloMosaic.Init

@[expose] public section

noncomputable section

namespace Cert.Proof

open Idealize.ShloMosaic Idealize.SL.Sem Cert.LossK

/-- Every claim of the statement, for the loss head, for the backward passes of a SwiGLU half step and of the mixer and for the first part of a half step and
the mixer going forward: the frames of the kernel, of the ideal kernel and of the reference and the equation of their results on finite arguments. For the exchange of
a gradient's parts between the chips, for the gather of the small gradients, and for the cast of four matrices: both frames, and the equality of the results bit by bit. For the down projection of a half
step, for a weight's gradient, for both forms of the optimiser's update, for the sum over the devices and, in the half that it writes, for the sum over the chips: the frames and the equation of
their results on all arguments. -/
theorem claim : Cert.Claim := ⟨Cert.LossK.Gen.facts, Cert.LossKIdeal.Gen.facts, Cert.LossRIdeal.Gen.facts, Cert.FfnK.Gen.facts, Cert.FfnKIdeal.Gen.facts, Cert.FfnRIdeal.Gen.facts,
  Cert.MixK.Gen.facts, Cert.MixKIdeal.Gen.facts, Cert.MixRIdeal.Gen.facts,
  Cert.UpK.Gen.facts, Cert.UpKIdeal.Gen.facts, Cert.UpRIdeal.Gen.facts,
  Cert.FwdK.Gen.facts, Cert.FwdKIdeal.Gen.facts, Cert.FwdRIdeal.Gen.facts,
  Cert.SwapK.Gen.facts, Cert.SwapR.Gen.facts,
  Cert.DownK.Gen.facts, Cert.DownKIdeal.Gen.facts, Cert.DownRIdeal.Gen.facts,
  Cert.AdamK.Gen.facts, Cert.AdamKIdeal.Gen.facts, Cert.AdamRIdeal.Gen.facts,
  Cert.TurnedK.Gen.facts, Cert.TurnedKIdeal.Gen.facts, Cert.TurnedRIdeal.Gen.facts,
  Cert.TotalK.Gen.facts, Cert.TotalKIdeal.Gen.facts, Cert.TotalRIdeal.Gen.facts,
  Cert.CastK.Gen.facts, Cert.CastR.Gen.facts,
  Cert.ChipsK.Gen.facts, Cert.ChipsKIdeal.Gen.facts, Cert.ChipsRIdeal.Gen.facts,
  Cert.GradK.Gen.facts, Cert.GradKIdeal.Gen.facts, Cert.GradRIdeal.Gen.facts,
  Cert.PackK.Gen.facts, Cert.PackR.Gen.facts,
  Cert.Pre_finite_loss.Gen.facts, Cert.Pre_finite_ffn.Gen.facts, Cert.Pre_finite_mixer.Gen.facts, Cert.Pre_finite_up.Gen.facts, Cert.Pre_finite_mixed.Gen.facts,
  Cert.On_own_half.Gen.facts,
  fun m ρ _ => Cert.LossK.Gen.frame m ρ, fun m ρ _ => Cert.LossKIdeal.Gen.frame m ρ, fun m ρ _ => Cert.LossKIdeal.Gen.frame m ρ,
  Step.Loss.reference, fun m ρ _ => Step.Loss.reference m ρ trivial,
  fun m ρ _ => Cert.FfnK.Gen.frame m ρ, fun m ρ _ => Cert.FfnKIdeal.Gen.frame m ρ, fun m ρ _ => Cert.FfnKIdeal.Gen.frame m ρ,
  Step.Ffn.reference, fun m ρ _ => Step.Ffn.reference m ρ trivial,
  Step.Mix.quiet_kernel, Step.Mix.quiet_ideal, fun m ρ _ => Step.Mix.quiet_ideal m ρ trivial, Step.Mix.reference, fun m ρ _ => Step.Mix.reference m ρ trivial,
  fun m ρ _ => Cert.UpK.Gen.frame m ρ, fun m ρ _ => Cert.UpKIdeal.Gen.frame m ρ, fun m ρ _ => Cert.UpKIdeal.Gen.frame m ρ,
  Step.Up.reference, fun m ρ _ => Step.Up.reference m ρ trivial,
  Step.Fwd.quiet_kernel, Step.Fwd.quiet_ideal, fun m ρ _ => Step.Fwd.quiet_ideal m ρ trivial, Step.Fwd.reference, fun m ρ _ => Step.Fwd.reference m ρ trivial,
  Cert.SwapProof.quiet, Cert.SwapProof.reference,
  fun m ρ _ => Cert.DownK.Gen.frame m ρ, fun m ρ _ => Cert.DownKIdeal.Gen.frame m ρ, Step.Down.reference,
  fun m ρ _ => Cert.AdamK.Gen.frame m ρ, fun m ρ _ => Cert.AdamKIdeal.Gen.frame m ρ, Step.Adam.reference,
  fun m ρ _ => Cert.TurnedK.Gen.frame m ρ, fun m ρ _ => Cert.TurnedKIdeal.Gen.frame m ρ, Step.Turned.reference,
  fun m ρ _ => Cert.TotalK.Gen.frame m ρ, fun m ρ _ => Cert.TotalKIdeal.Gen.frame m ρ, Step.Total.reference,
  fun m ρ _ => Cert.CastK.Gen.frame m ρ, Step.Cast.reference,
  fun m ρ _ => Cert.ChipsK.Gen.frame m ρ, fun m ρ _ => Cert.ChipsKIdeal.Gen.frame m ρ, Step.Chips.reference,
  fun m ρ _ => Cert.GradK.Gen.frame m ρ, fun m ρ _ => Cert.GradKIdeal.Gen.frame m ρ, Step.Grad.reference,
  Cert.PackProof.quiet, Cert.PackProof.reference,
  trivial, Step.Loss.value, trivial, Step.Ffn.value, trivial, Step.Mix.value, trivial, Step.Up.value, trivial, Step.Fwd.value, Cert.SwapProof.value,
  trivial, Step.Down.value, trivial, Step.Adam.value, trivial, Step.Turned.value, trivial, Step.Total.value, Step.Cast.value,
  trivial, Step.Chips.value, trivial, Step.Grad.value, Cert.PackProof.value⟩

end Cert.Proof

end
